-- ==== Defs.lean ====
def Pre_KLoss (m : (ℓ : Loc Cert.KLoss.nD Cert.KLoss.τ Cert.KLoss.sig) → Buf (Elt Bits) ℓ) : Prop :=
  True

def Pre_KLossIdeal (m : (ℓ : Loc Cert.KLossIdeal.nD Cert.KLossIdeal.τ Cert.KLossIdeal.sig) → Buf (Elt Ideal) ℓ) : Prop :=
  True

def Pre_RLossIdeal (m : (ℓ : Loc Cert.RLossIdeal.nD Cert.RLossIdeal.τ Cert.RLossIdeal.sig) → Buf (Elt Ideal) ℓ) : Prop :=
  True

def Pre_KMla (m : (ℓ : Loc Cert.KMla.nD Cert.KMla.τ Cert.KMla.sig) → Buf (Elt Bits) ℓ) : Prop :=
  True

def Pre_KMlaIdeal (m : (ℓ : Loc Cert.KMlaIdeal.nD Cert.KMlaIdeal.τ Cert.KMlaIdeal.sig) → Buf (Elt Ideal) ℓ) : Prop :=
  True

def Pre_KMlaIdeal_finite [hPre_finite : Cert.Pre_finite.Facts] (m : (ℓ : Loc Cert.KMlaIdeal.nD Cert.KMlaIdeal.τ Cert.KMlaIdeal.sig) → Buf (Elt Ideal) ℓ) : Prop :=
  ∀ c : Dev Cert.KMlaIdeal.nD,
    (Cert.Pre_finite.fn (F := Ideal) (m ((c.tc : Thread Cert.KMlaIdeal.nD Cert.KMlaIdeal.τ).loc Cert.KMlaIdeal.main_arg0)) (m ((c.tc : Thread Cert.KMlaIdeal.nD Cert.KMlaIdeal.τ).loc Cert.KMlaIdeal.main_arg1)) (m ((c.tc : Thread Cert.KMlaIdeal.nD Cert.KMlaIdeal.τ).loc Cert.KMlaIdeal.main_arg2)) (m ((c.tc : Thread Cert.KMlaIdeal.nD Cert.KMlaIdeal.τ).loc Cert.KMlaIdeal.main_arg3))).1 = (fun _ => 1#1)
    ∧ (Cert.Pre_finite.fn (F := Ideal) (m ((c.tc : Thread Cert.KMlaIdeal.nD Cert.KMlaIdeal.τ).loc Cert.KMlaIdeal.main_arg0)) (m ((c.tc : Thread Cert.KMlaIdeal.nD Cert.KMlaIdeal.τ).loc Cert.KMlaIdeal.main_arg1)) (m ((c.tc : Thread Cert.KMlaIdeal.nD Cert.KMlaIdeal.τ).loc Cert.KMlaIdeal.main_arg2)) (m ((c.tc : Thread Cert.KMlaIdeal.nD Cert.KMlaIdeal.τ).loc Cert.KMlaIdeal.main_arg3))).2.1 = (fun _ => 1#1)
    ∧ (Cert.Pre_finite.fn (F := Ideal) (m ((c.tc : Thread Cert.KMlaIdeal.nD Cert.KMlaIdeal.τ).loc Cert.KMlaIdeal.main_arg0)) (m ((c.tc : Thread Cert.KMlaIdeal.nD Cert.KMlaIdeal.τ).loc Cert.KMlaIdeal.main_arg1)) (m ((c.tc : Thread Cert.KMlaIdeal.nD Cert.KMlaIdeal.τ).loc Cert.KMlaIdeal.main_arg2)) (m ((c.tc : Thread Cert.KMlaIdeal.nD Cert.KMlaIdeal.τ).loc Cert.KMlaIdeal.main_arg3))).2.2.1 = (fun _ => 1#1)
    ∧ (Cert.Pre_finite.fn (F := Ideal) (m ((c.tc : Thread Cert.KMlaIdeal.nD Cert.KMlaIdeal.τ).loc Cert.KMlaIdeal.main_arg0)) (m ((c.tc : Thread Cert.KMlaIdeal.nD Cert.KMlaIdeal.τ).loc Cert.KMlaIdeal.main_arg1)) (m ((c.tc : Thread Cert.KMlaIdeal.nD Cert.KMlaIdeal.τ).loc Cert.KMlaIdeal.main_arg2)) (m ((c.tc : Thread Cert.KMlaIdeal.nD Cert.KMlaIdeal.τ).loc Cert.KMlaIdeal.main_arg3))).2.2.2 = (fun _ => 1#1)

def Pre_RMlaIdeal (m : (ℓ : Loc Cert.RMlaIdeal.nD Cert.RMlaIdeal.τ Cert.RMlaIdeal.sig) → Buf (Elt Ideal) ℓ) : Prop :=
  True

def Pre_RMlaIdeal_finite [hPre_finite : Cert.Pre_finite.Facts] (m : (ℓ : Loc Cert.RMlaIdeal.nD Cert.RMlaIdeal.τ Cert.RMlaIdeal.sig) → Buf (Elt Ideal) ℓ) : Prop :=
  ∀ c : Dev Cert.RMlaIdeal.nD,
    (Cert.Pre_finite.fn (F := Ideal) (m ((c.tc : Thread Cert.RMlaIdeal.nD Cert.RMlaIdeal.τ).loc Cert.RMlaIdeal.main_arg0)) (m ((c.tc : Thread Cert.RMlaIdeal.nD Cert.RMlaIdeal.τ).loc Cert.RMlaIdeal.main_arg1)) (m ((c.tc : Thread Cert.RMlaIdeal.nD Cert.RMlaIdeal.τ).loc Cert.RMlaIdeal.main_arg2)) (m ((c.tc : Thread Cert.RMlaIdeal.nD Cert.RMlaIdeal.τ).loc Cert.RMlaIdeal.main_arg3))).1 = (fun _ => 1#1)
    ∧ (Cert.Pre_finite.fn (F := Ideal) (m ((c.tc : Thread Cert.RMlaIdeal.nD Cert.RMlaIdeal.τ).loc Cert.RMlaIdeal.main_arg0)) (m ((c.tc : Thread Cert.RMlaIdeal.nD Cert.RMlaIdeal.τ).loc Cert.RMlaIdeal.main_arg1)) (m ((c.tc : Thread Cert.RMlaIdeal.nD Cert.RMlaIdeal.τ).loc Cert.RMlaIdeal.main_arg2)) (m ((c.tc : Thread Cert.RMlaIdeal.nD Cert.RMlaIdeal.τ).loc Cert.RMlaIdeal.main_arg3))).2.1 = (fun _ => 1#1)
    ∧ (Cert.Pre_finite.fn (F := Ideal) (m ((c.tc : Thread Cert.RMlaIdeal.nD Cert.RMlaIdeal.τ).loc Cert.RMlaIdeal.main_arg0)) (m ((c.tc : Thread Cert.RMlaIdeal.nD Cert.RMlaIdeal.τ).loc Cert.RMlaIdeal.main_arg1)) (m ((c.tc : Thread Cert.RMlaIdeal.nD Cert.RMlaIdeal.τ).loc Cert.RMlaIdeal.main_arg2)) (m ((c.tc : Thread Cert.RMlaIdeal.nD Cert.RMlaIdeal.τ).loc Cert.RMlaIdeal.main_arg3))).2.2.1 = (fun _ => 1#1)
    ∧ (Cert.Pre_finite.fn (F := Ideal) (m ((c.tc : Thread Cert.RMlaIdeal.nD Cert.RMlaIdeal.τ).loc Cert.RMlaIdeal.main_arg0)) (m ((c.tc : Thread Cert.RMlaIdeal.nD Cert.RMlaIdeal.τ).loc Cert.RMlaIdeal.main_arg1)) (m ((c.tc : Thread Cert.RMlaIdeal.nD Cert.RMlaIdeal.τ).loc Cert.RMlaIdeal.main_arg2)) (m ((c.tc : Thread Cert.RMlaIdeal.nD Cert.RMlaIdeal.τ).loc Cert.RMlaIdeal.main_arg3))).2.2.2 = (fun _ => 1#1)

def Pre_KGate (m : (ℓ : Loc Cert.KGate.nD Cert.KGate.τ Cert.KGate.sig) → Buf (Elt Bits) ℓ) : Prop :=
  True

def Pre_KGateIdeal (m : (ℓ : Loc Cert.KGateIdeal.nD Cert.KGateIdeal.τ Cert.KGateIdeal.sig) → Buf (Elt Ideal) ℓ) : Prop :=
  True

def Pre_KGateIdeal_finite_factors [hPre_finite_factors : Cert.Pre_finite_factors.Facts] (m : (ℓ : Loc Cert.KGateIdeal.nD Cert.KGateIdeal.τ Cert.KGateIdeal.sig) → Buf (Elt Ideal) ℓ) : Prop :=
  ∀ c : Dev Cert.KGateIdeal.nD,
    (Cert.Pre_finite_factors.fn (F := Ideal) (m ((c.tc : Thread Cert.KGateIdeal.nD Cert.KGateIdeal.τ).loc Cert.KGateIdeal.main_arg0)) (m ((c.tc : Thread Cert.KGateIdeal.nD Cert.KGateIdeal.τ).loc Cert.KGateIdeal.main_arg1)) (m ((c.tc : Thread Cert.KGateIdeal.nD Cert.KGateIdeal.τ).loc Cert.KGateIdeal.main_arg2)) (m ((c.tc : Thread Cert.KGateIdeal.nD Cert.KGateIdeal.τ).loc Cert.KGateIdeal.main_arg3))).1 = (fun _ => 1#1)
    ∧ (Cert.Pre_finite_factors.fn (F := Ideal) (m ((c.tc : Thread Cert.KGateIdeal.nD Cert.KGateIdeal.τ).loc Cert.KGateIdeal.main_arg0)) (m ((c.tc : Thread Cert.KGateIdeal.nD Cert.KGateIdeal.τ).loc Cert.KGateIdeal.main_arg1)) (m ((c.tc : Thread Cert.KGateIdeal.nD Cert.KGateIdeal.τ).loc Cert.KGateIdeal.main_arg2)) (m ((c.tc : Thread Cert.KGateIdeal.nD Cert.KGateIdeal.τ).loc Cert.KGateIdeal.main_arg3))).2.1 = (fun _ => 1#1)
    ∧ (Cert.Pre_finite_factors.fn (F := Ideal) (m ((c.tc : Thread Cert.KGateIdeal.nD Cert.KGateIdeal.τ).loc Cert.KGateIdeal.main_arg0)) (m ((c.tc : Thread Cert.KGateIdeal.nD Cert.KGateIdeal.τ).loc Cert.KGateIdeal.main_arg1)) (m ((c.tc : Thread Cert.KGateIdeal.nD Cert.KGateIdeal.τ).loc Cert.KGateIdeal.main_arg2)) (m ((c.tc : Thread Cert.KGateIdeal.nD Cert.KGateIdeal.τ).loc Cert.KGateIdeal.main_arg3))).2.2 = (fun _ => 1#1)

def Pre_RGateIdeal (m : (ℓ : Loc Cert.RGateIdeal.nD Cert.RGateIdeal.τ Cert.RGateIdeal.sig) → Buf (Elt Ideal) ℓ) : Prop :=
  True

def Pre_RGateIdeal_finite_factors [hPre_finite_factors : Cert.Pre_finite_factors.Facts] (m : (ℓ : Loc Cert.RGateIdeal.nD Cert.RGateIdeal.τ Cert.RGateIdeal.sig) → Buf (Elt Ideal) ℓ) : Prop :=
  ∀ c : Dev Cert.RGateIdeal.nD,
    (Cert.Pre_finite_factors.fn (F := Ideal) (m ((c.tc : Thread Cert.RGateIdeal.nD Cert.RGateIdeal.τ).loc Cert.RGateIdeal.main_arg0)) (m ((c.tc : Thread Cert.RGateIdeal.nD Cert.RGateIdeal.τ).loc Cert.RGateIdeal.main_arg1)) (m ((c.tc : Thread Cert.RGateIdeal.nD Cert.RGateIdeal.τ).loc Cert.RGateIdeal.main_arg2)) (m ((c.tc : Thread Cert.RGateIdeal.nD Cert.RGateIdeal.τ).loc Cert.RGateIdeal.main_arg3))).1 = (fun _ => 1#1)
    ∧ (Cert.Pre_finite_factors.fn (F := Ideal) (m ((c.tc : Thread Cert.RGateIdeal.nD Cert.RGateIdeal.τ).loc Cert.RGateIdeal.main_arg0)) (m ((c.tc : Thread Cert.RGateIdeal.nD Cert.RGateIdeal.τ).loc Cert.RGateIdeal.main_arg1)) (m ((c.tc : Thread Cert.RGateIdeal.nD Cert.RGateIdeal.τ).loc Cert.RGateIdeal.main_arg2)) (m ((c.tc : Thread Cert.RGateIdeal.nD Cert.RGateIdeal.τ).loc Cert.RGateIdeal.main_arg3))).2.1 = (fun _ => 1#1)
    ∧ (Cert.Pre_finite_factors.fn (F := Ideal) (m ((c.tc : Thread Cert.RGateIdeal.nD Cert.RGateIdeal.τ).loc Cert.RGateIdeal.main_arg0)) (m ((c.tc : Thread Cert.RGateIdeal.nD Cert.RGateIdeal.τ).loc Cert.RGateIdeal.main_arg1)) (m ((c.tc : Thread Cert.RGateIdeal.nD Cert.RGateIdeal.τ).loc Cert.RGateIdeal.main_arg2)) (m ((c.tc : Thread Cert.RGateIdeal.nD Cert.RGateIdeal.τ).loc Cert.RGateIdeal.main_arg3))).2.2 = (fun _ => 1#1)

def Pre_KNorm (m : (ℓ : Loc Cert.KNorm.nD Cert.KNorm.τ Cert.KNorm.sig) → Buf (Elt Bits) ℓ) : Prop :=
  True

def Pre_KNormIdeal (m : (ℓ : Loc Cert.KNormIdeal.nD Cert.KNormIdeal.τ Cert.KNormIdeal.sig) → Buf (Elt Ideal) ℓ) : Prop :=
  True

def Pre_RNormIdeal (m : (ℓ : Loc Cert.RNormIdeal.nD Cert.RNormIdeal.τ Cert.RNormIdeal.sig) → Buf (Elt Ideal) ℓ) : Prop :=
  True

def Pre_KMerge (m : (ℓ : Loc Cert.KMerge.nD Cert.KMerge.τ Cert.KMerge.sig) → Buf (Elt Bits) ℓ) : Prop :=
  True

def Pre_KMergeIdeal (m : (ℓ : Loc Cert.KMergeIdeal.nD Cert.KMergeIdeal.τ Cert.KMergeIdeal.sig) → Buf (Elt Ideal) ℓ) : Prop :=
  True

def Pre_RMergeIdeal (m : (ℓ : Loc Cert.RMergeIdeal.nD Cert.RMergeIdeal.τ Cert.RMergeIdeal.sig) → Buf (Elt Ideal) ℓ) : Prop :=
  True

def Pre_KDh (m : (ℓ : Loc Cert.KDh.nD Cert.KDh.τ Cert.KDh.sig) → Buf (Elt Bits) ℓ) : Prop :=
  True

def Pre_KDhIdeal (m : (ℓ : Loc Cert.KDhIdeal.nD Cert.KDhIdeal.τ Cert.KDhIdeal.sig) → Buf (Elt Ideal) ℓ) : Prop :=
  True

def Pre_RDhIdeal (m : (ℓ : Loc Cert.RDhIdeal.nD Cert.RDhIdeal.τ Cert.RDhIdeal.sig) → Buf (Elt Ideal) ℓ) : Prop :=
  True

def Pre_KKv (m : (ℓ : Loc Cert.KKv.nD Cert.KKv.τ Cert.KKv.sig) → Buf (Elt Bits) ℓ) : Prop :=
  True

def Pre_KKvIdeal (m : (ℓ : Loc Cert.KKvIdeal.nD Cert.KKvIdeal.τ Cert.KKvIdeal.sig) → Buf (Elt Ideal) ℓ) : Prop :=
  True

def Pre_RKvIdeal (m : (ℓ : Loc Cert.RKvIdeal.nD Cert.RKvIdeal.τ Cert.RKvIdeal.sig) → Buf (Elt Ideal) ℓ) : Prop :=
  True

def Pre_KAttn (m : (ℓ : Loc Cert.KAttn.nD Cert.KAttn.τ Cert.KAttn.sig) → Buf (Elt Bits) ℓ) : Prop :=
  True

def Pre_KAttnIdeal (m : (ℓ : Loc Cert.KAttnIdeal.nD Cert.KAttnIdeal.τ Cert.KAttnIdeal.sig) → Buf (Elt Ideal) ℓ) : Prop :=
  True

def Pre_KAttnIdeal_finite_qkv [hPre_finite_qkv : Cert.Pre_finite_qkv.Facts] (m : (ℓ : Loc Cert.KAttnIdeal.nD Cert.KAttnIdeal.τ Cert.KAttnIdeal.sig) → Buf (Elt Ideal) ℓ) : Prop :=
  ∀ c : Dev Cert.KAttnIdeal.nD,
    (Cert.Pre_finite_qkv.fn (F := Ideal) (m ((c.tc : Thread Cert.KAttnIdeal.nD Cert.KAttnIdeal.τ).loc Cert.KAttnIdeal.main_arg0)) (m ((c.tc : Thread Cert.KAttnIdeal.nD Cert.KAttnIdeal.τ).loc Cert.KAttnIdeal.main_arg1)) (m ((c.tc : Thread Cert.KAttnIdeal.nD Cert.KAttnIdeal.τ).loc Cert.KAttnIdeal.main_arg2))).1 = (fun _ => 1#1)
    ∧ (Cert.Pre_finite_qkv.fn (F := Ideal) (m ((c.tc : Thread Cert.KAttnIdeal.nD Cert.KAttnIdeal.τ).loc Cert.KAttnIdeal.main_arg0)) (m ((c.tc : Thread Cert.KAttnIdeal.nD Cert.KAttnIdeal.τ).loc Cert.KAttnIdeal.main_arg1)) (m ((c.tc : Thread Cert.KAttnIdeal.nD Cert.KAttnIdeal.τ).loc Cert.KAttnIdeal.main_arg2))).2.1 = (fun _ => 1#1)
    ∧ (Cert.Pre_finite_qkv.fn (F := Ideal) (m ((c.tc : Thread Cert.KAttnIdeal.nD Cert.KAttnIdeal.τ).loc Cert.KAttnIdeal.main_arg0)) (m ((c.tc : Thread Cert.KAttnIdeal.nD Cert.KAttnIdeal.τ).loc Cert.KAttnIdeal.main_arg1)) (m ((c.tc : Thread Cert.KAttnIdeal.nD Cert.KAttnIdeal.τ).loc Cert.KAttnIdeal.main_arg2))).2.2 = (fun _ => 1#1)

def Pre_RAttnIdeal (m : (ℓ : Loc Cert.RAttnIdeal.nD Cert.RAttnIdeal.τ Cert.RAttnIdeal.sig) → Buf (Elt Ideal) ℓ) : Prop :=
  True

def Pre_RAttnIdeal_finite_qkv [hPre_finite_qkv : Cert.Pre_finite_qkv.Facts] (m : (ℓ : Loc Cert.RAttnIdeal.nD Cert.RAttnIdeal.τ Cert.RAttnIdeal.sig) → Buf (Elt Ideal) ℓ) : Prop :=
  ∀ c : Dev Cert.RAttnIdeal.nD,
    (Cert.Pre_finite_qkv.fn (F := Ideal) (m ((c.tc : Thread Cert.RAttnIdeal.nD Cert.RAttnIdeal.τ).loc Cert.RAttnIdeal.main_arg0)) (m ((c.tc : Thread Cert.RAttnIdeal.nD Cert.RAttnIdeal.τ).loc Cert.RAttnIdeal.main_arg1)) (m ((c.tc : Thread Cert.RAttnIdeal.nD Cert.RAttnIdeal.τ).loc Cert.RAttnIdeal.main_arg2))).1 = (fun _ => 1#1)
    ∧ (Cert.Pre_finite_qkv.fn (F := Ideal) (m ((c.tc : Thread Cert.RAttnIdeal.nD Cert.RAttnIdeal.τ).loc Cert.RAttnIdeal.main_arg0)) (m ((c.tc : Thread Cert.RAttnIdeal.nD Cert.RAttnIdeal.τ).loc Cert.RAttnIdeal.main_arg1)) (m ((c.tc : Thread Cert.RAttnIdeal.nD Cert.RAttnIdeal.τ).loc Cert.RAttnIdeal.main_arg2))).2.1 = (fun _ => 1#1)
    ∧ (Cert.Pre_finite_qkv.fn (F := Ideal) (m ((c.tc : Thread Cert.RAttnIdeal.nD Cert.RAttnIdeal.τ).loc Cert.RAttnIdeal.main_arg0)) (m ((c.tc : Thread Cert.RAttnIdeal.nD Cert.RAttnIdeal.τ).loc Cert.RAttnIdeal.main_arg1)) (m ((c.tc : Thread Cert.RAttnIdeal.nD Cert.RAttnIdeal.τ).loc Cert.RAttnIdeal.main_arg2))).2.2 = (fun _ => 1#1)

def Pre_KUp (m : (ℓ : Loc Cert.KUp.nD Cert.KUp.τ Cert.KUp.sig) → Buf (Elt Bits) ℓ) : Prop :=
  True

def Pre_KUpIdeal (m : (ℓ : Loc Cert.KUpIdeal.nD Cert.KUpIdeal.τ Cert.KUpIdeal.sig) → Buf (Elt Ideal) ℓ) : Prop :=
  True

def Pre_RUpIdeal (m : (ℓ : Loc Cert.RUpIdeal.nD Cert.RUpIdeal.τ Cert.RUpIdeal.sig) → Buf (Elt Ideal) ℓ) : Prop :=
  True

def Pre_KMix (m : (ℓ : Loc Cert.KMix.nD Cert.KMix.τ Cert.KMix.sig) → Buf (Elt Bits) ℓ) : Prop :=
  True

def Pre_KMixIdeal (m : (ℓ : Loc Cert.KMixIdeal.nD Cert.KMixIdeal.τ Cert.KMixIdeal.sig) → Buf (Elt Ideal) ℓ) : Prop :=
  True

def Pre_RMixIdeal (m : (ℓ : Loc Cert.RMixIdeal.nD Cert.RMixIdeal.τ Cert.RMixIdeal.sig) → Buf (Elt Ideal) ℓ) : Prop :=
  True

def Pre_KProj (m : (ℓ : Loc Cert.KProj.nD Cert.KProj.τ Cert.KProj.sig) → Buf (Elt Bits) ℓ) : Prop :=
  True

def Pre_KProjIdeal (m : (ℓ : Loc Cert.KProjIdeal.nD Cert.KProjIdeal.τ Cert.KProjIdeal.sig) → Buf (Elt Ideal) ℓ) : Prop :=
  True

def Pre_RProjIdeal (m : (ℓ : Loc Cert.RProjIdeal.nD Cert.RProjIdeal.τ Cert.RProjIdeal.sig) → Buf (Elt Ideal) ℓ) : Prop :=
  True

def Pre_KQkv (m : (ℓ : Loc Cert.KQkv.nD Cert.KQkv.τ Cert.KQkv.sig) → Buf (Elt Bits) ℓ) : Prop :=
  True

def Pre_KQkvIdeal (m : (ℓ : Loc Cert.KQkvIdeal.nD Cert.KQkvIdeal.τ Cert.KQkvIdeal.sig) → Buf (Elt Ideal) ℓ) : Prop :=
  True

def Pre_RQkvIdeal (m : (ℓ : Loc Cert.RQkvIdeal.nD Cert.RQkvIdeal.τ Cert.RQkvIdeal.sig) → Buf (Elt Ideal) ℓ) : Prop :=
  True

def Pre_KDown (m : (ℓ : Loc Cert.KDown.nD Cert.KDown.τ Cert.KDown.sig) → Buf (Elt Bits) ℓ) : Prop :=
  True

def Pre_KDownIdeal (m : (ℓ : Loc Cert.KDownIdeal.nD Cert.KDownIdeal.τ Cert.KDownIdeal.sig) → Buf (Elt Ideal) ℓ) : Prop :=
  True

def Pre_RDownIdeal (m : (ℓ : Loc Cert.RDownIdeal.nD Cert.RDownIdeal.τ Cert.RDownIdeal.sig) → Buf (Elt Ideal) ℓ) : Prop :=
  True

def Pre_KDw (m : (ℓ : Loc Cert.KDw.nD Cert.KDw.τ Cert.KDw.sig) → Buf (Elt Bits) ℓ) : Prop :=
  True

def Pre_KDwIdeal (m : (ℓ : Loc Cert.KDwIdeal.nD Cert.KDwIdeal.τ Cert.KDwIdeal.sig) → Buf (Elt Ideal) ℓ) : Prop :=
  True

def Pre_RDwIdeal (m : (ℓ : Loc Cert.RDwIdeal.nD Cert.RDwIdeal.τ Cert.RDwIdeal.sig) → Buf (Elt Ideal) ℓ) : Prop :=
  True

def Pre_KAdam (m : (ℓ : Loc Cert.KAdam.nD Cert.KAdam.τ Cert.KAdam.sig) → Buf (Elt Bits) ℓ) : Prop :=
  True

def Pre_KAdamIdeal (m : (ℓ : Loc Cert.KAdamIdeal.nD Cert.KAdamIdeal.τ Cert.KAdamIdeal.sig) → Buf (Elt Ideal) ℓ) : Prop :=
  True

def Pre_RAdamIdeal (m : (ℓ : Loc Cert.RAdamIdeal.nD Cert.RAdamIdeal.τ Cert.RAdamIdeal.sig) → Buf (Elt Ideal) ℓ) : Prop :=
  True

def quiescent_KLoss [hKLoss : Cert.KLoss.Facts] : Prop :=
  ∀ (m : (ℓ : Loc Cert.KLoss.nD Cert.KLoss.τ Cert.KLoss.sig) → Buf (Elt Bits) ℓ) (g : Dev Cert.KLoss.nD → PrngReg), Pre_KLoss m →
    θ_run (Cert.KLoss.defs (F := Bits)) (onTc (τ := Cert.KLoss.τ) (Cert.KLoss.main (F := Bits))) ⟨m, fun _ => 0, g⟩ (fun r => (∀ c : Dev Cert.KLoss.nD,
      r.2.mem ((c.tc : Thread Cert.KLoss.nD Cert.KLoss.τ).loc Cert.KLoss.main_arg0) = m ((c.tc : Thread Cert.KLoss.nD Cert.KLoss.τ).loc Cert.KLoss.main_arg0)
      ∧ r.2.mem ((c.tc : Thread Cert.KLoss.nD Cert.KLoss.τ).loc Cert.KLoss.main_arg1) = m ((c.tc : Thread Cert.KLoss.nD Cert.KLoss.τ).loc Cert.KLoss.main_arg1))
      ∧ r.2.sem = fun _ => 0)

def quiescent_KLossIdeal [hKLossIdeal : Cert.KLossIdeal.Facts] : Prop :=
  ∀ (m : (ℓ : Loc Cert.KLossIdeal.nD Cert.KLossIdeal.τ Cert.KLossIdeal.sig) → Buf (Elt Ideal) ℓ) (g : Dev Cert.KLossIdeal.nD → PrngReg), Pre_KLossIdeal m →
    θ_run (Cert.KLossIdeal.defs (F := Ideal)) (onTc (τ := Cert.KLossIdeal.τ) (Cert.KLossIdeal.main (F := Ideal))) ⟨m, fun _ => 0, g⟩ (fun r => (∀ c : Dev Cert.KLossIdeal.nD,
      r.2.mem ((c.tc : Thread Cert.KLossIdeal.nD Cert.KLossIdeal.τ).loc Cert.KLossIdeal.main_arg0) = m ((c.tc : Thread Cert.KLossIdeal.nD Cert.KLossIdeal.τ).loc Cert.KLossIdeal.main_arg0)
      ∧ r.2.mem ((c.tc : Thread Cert.KLossIdeal.nD Cert.KLossIdeal.τ).loc Cert.KLossIdeal.main_arg1) = m ((c.tc : Thread Cert.KLossIdeal.nD Cert.KLossIdeal.τ).loc Cert.KLossIdeal.main_arg1))
      ∧ r.2.sem = fun _ => 0)

def quiescent_RLossIdeal [hRLossIdeal : Cert.RLossIdeal.Facts] : Prop :=
  ∀ (m : (ℓ : Loc Cert.RLossIdeal.nD Cert.RLossIdeal.τ Cert.RLossIdeal.sig) → Buf (Elt Ideal) ℓ) (g : Dev Cert.RLossIdeal.nD → PrngReg), Pre_RLossIdeal m →
    θ_run (Cert.RLossIdeal.defs (F := Ideal)) (onTc (τ := Cert.RLossIdeal.τ) (Cert.RLossIdeal.main (F := Ideal))) ⟨m, fun _ => 0, g⟩ (fun r => (∀ c : Dev Cert.RLossIdeal.nD,
      r.2.mem ((c.tc : Thread Cert.RLossIdeal.nD Cert.RLossIdeal.τ).loc Cert.RLossIdeal.main_arg0) = m ((c.tc : Thread Cert.RLossIdeal.nD Cert.RLossIdeal.τ).loc Cert.RLossIdeal.main_arg0)
      ∧ r.2.mem ((c.tc : Thread Cert.RLossIdeal.nD Cert.RLossIdeal.τ).loc Cert.RLossIdeal.main_arg1) = m ((c.tc : Thread Cert.RLossIdeal.nD Cert.RLossIdeal.τ).loc Cert.RLossIdeal.main_arg1))
      ∧ r.2.sem = fun _ => 0)

def quiescent_KMla [hKMla : Cert.KMla.Facts] : Prop :=
  ∀ (m : (ℓ : Loc Cert.KMla.nD Cert.KMla.τ Cert.KMla.sig) → Buf (Elt Bits) ℓ) (g : Dev Cert.KMla.nD → PrngReg), Pre_KMla m →
    θ_run (Cert.KMla.defs (F := Bits)) (onTc (τ := Cert.KMla.τ) (Cert.KMla.main (F := Bits))) ⟨m, fun _ => 0, g⟩ (fun r => (∀ c : Dev Cert.KMla.nD,
      r.2.mem ((c.tc : Thread Cert.KMla.nD Cert.KMla.τ).loc Cert.KMla.main_arg0) = m ((c.tc : Thread Cert.KMla.nD Cert.KMla.τ).loc Cert.KMla.main_arg0)
      ∧ r.2.mem ((c.tc : Thread Cert.KMla.nD Cert.KMla.τ).loc Cert.KMla.main_arg1) = m ((c.tc : Thread Cert.KMla.nD Cert.KMla.τ).loc Cert.KMla.main_arg1)
      ∧ r.2.mem ((c.tc : Thread Cert.KMla.nD Cert.KMla.τ).loc Cert.KMla.main_arg2) = m ((c.tc : Thread Cert.KMla.nD Cert.KMla.τ).loc Cert.KMla.main_arg2)
      ∧ r.2.mem ((c.tc : Thread Cert.KMla.nD Cert.KMla.τ).loc Cert.KMla.main_arg3) = m ((c.tc : Thread Cert.KMla.nD Cert.KMla.τ).loc Cert.KMla.main_arg3))
      ∧ r.2.sem = fun _ => 0)

def quiescent_KMlaIdeal [hKMlaIdeal : Cert.KMlaIdeal.Facts] : Prop :=
  ∀ (m : (ℓ : Loc Cert.KMlaIdeal.nD Cert.KMlaIdeal.τ Cert.KMlaIdeal.sig) → Buf (Elt Ideal) ℓ) (g : Dev Cert.KMlaIdeal.nD → PrngReg), Pre_KMlaIdeal m →
    θ_run (Cert.KMlaIdeal.defs (F := Ideal)) (onTc (τ := Cert.KMlaIdeal.τ) (Cert.KMlaIdeal.main (F := Ideal))) ⟨m, fun _ => 0, g⟩ (fun r => (∀ c : Dev Cert.KMlaIdeal.nD,
      r.2.mem ((c.tc : Thread Cert.KMlaIdeal.nD Cert.KMlaIdeal.τ).loc Cert.KMlaIdeal.main_arg0) = m ((c.tc : Thread Cert.KMlaIdeal.nD Cert.KMlaIdeal.τ).loc Cert.KMlaIdeal.main_arg0)
      ∧ r.2.mem ((c.tc : Thread Cert.KMlaIdeal.nD Cert.KMlaIdeal.τ).loc Cert.KMlaIdeal.main_arg1) = m ((c.tc : Thread Cert.KMlaIdeal.nD Cert.KMlaIdeal.τ).loc Cert.KMlaIdeal.main_arg1)
      ∧ r.2.mem ((c.tc : Thread Cert.KMlaIdeal.nD Cert.KMlaIdeal.τ).loc Cert.KMlaIdeal.main_arg2) = m ((c.tc : Thread Cert.KMlaIdeal.nD Cert.KMlaIdeal.τ).loc Cert.KMlaIdeal.main_arg2)
      ∧ r.2.mem ((c.tc : Thread Cert.KMlaIdeal.nD Cert.KMlaIdeal.τ).loc Cert.KMlaIdeal.main_arg3) = m ((c.tc : Thread Cert.KMlaIdeal.nD Cert.KMlaIdeal.τ).loc Cert.KMlaIdeal.main_arg3))
      ∧ r.2.sem = fun _ => 0)

def quiescent_KMlaIdeal_pre_finite [hKMlaIdeal : Cert.KMlaIdeal.Facts] [hPre_finite : Cert.Pre_finite.Facts] : Prop :=
  ∀ (m : (ℓ : Loc Cert.KMlaIdeal.nD Cert.KMlaIdeal.τ Cert.KMlaIdeal.sig) → Buf (Elt Ideal) ℓ) (g : Dev Cert.KMlaIdeal.nD → PrngReg), Pre_KMlaIdeal_finite m →
    θ_run (Cert.KMlaIdeal.defs (F := Ideal)) (onTc (τ := Cert.KMlaIdeal.τ) (Cert.KMlaIdeal.main (F := Ideal))) ⟨m, fun _ => 0, g⟩ (fun r => (∀ c : Dev Cert.KMlaIdeal.nD,
      r.2.mem ((c.tc : Thread Cert.KMlaIdeal.nD Cert.KMlaIdeal.τ).loc Cert.KMlaIdeal.main_arg0) = m ((c.tc : Thread Cert.KMlaIdeal.nD Cert.KMlaIdeal.τ).loc Cert.KMlaIdeal.main_arg0)
      ∧ r.2.mem ((c.tc : Thread Cert.KMlaIdeal.nD Cert.KMlaIdeal.τ).loc Cert.KMlaIdeal.main_arg1) = m ((c.tc : Thread Cert.KMlaIdeal.nD Cert.KMlaIdeal.τ).loc Cert.KMlaIdeal.main_arg1)
      ∧ r.2.mem ((c.tc : Thread Cert.KMlaIdeal.nD Cert.KMlaIdeal.τ).loc Cert.KMlaIdeal.main_arg2) = m ((c.tc : Thread Cert.KMlaIdeal.nD Cert.KMlaIdeal.τ).loc Cert.KMlaIdeal.main_arg2)
      ∧ r.2.mem ((c.tc : Thread Cert.KMlaIdeal.nD Cert.KMlaIdeal.τ).loc Cert.KMlaIdeal.main_arg3) = m ((c.tc : Thread Cert.KMlaIdeal.nD Cert.KMlaIdeal.τ).loc Cert.KMlaIdeal.main_arg3))
      ∧ r.2.sem = fun _ => 0)

def quiescent_RMlaIdeal [hRMlaIdeal : Cert.RMlaIdeal.Facts] : Prop :=
  ∀ (m : (ℓ : Loc Cert.RMlaIdeal.nD Cert.RMlaIdeal.τ Cert.RMlaIdeal.sig) → Buf (Elt Ideal) ℓ) (g : Dev Cert.RMlaIdeal.nD → PrngReg), Pre_RMlaIdeal m →
    θ_run (Cert.RMlaIdeal.defs (F := Ideal)) (onTc (τ := Cert.RMlaIdeal.τ) (Cert.RMlaIdeal.main (F := Ideal))) ⟨m, fun _ => 0, g⟩ (fun r => (∀ c : Dev Cert.RMlaIdeal.nD,
      r.2.mem ((c.tc : Thread Cert.RMlaIdeal.nD Cert.RMlaIdeal.τ).loc Cert.RMlaIdeal.main_arg0) = m ((c.tc : Thread Cert.RMlaIdeal.nD Cert.RMlaIdeal.τ).loc Cert.RMlaIdeal.main_arg0)
      ∧ r.2.mem ((c.tc : Thread Cert.RMlaIdeal.nD Cert.RMlaIdeal.τ).loc Cert.RMlaIdeal.main_arg1) = m ((c.tc : Thread Cert.RMlaIdeal.nD Cert.RMlaIdeal.τ).loc Cert.RMlaIdeal.main_arg1)
      ∧ r.2.mem ((c.tc : Thread Cert.RMlaIdeal.nD Cert.RMlaIdeal.τ).loc Cert.RMlaIdeal.main_arg2) = m ((c.tc : Thread Cert.RMlaIdeal.nD Cert.RMlaIdeal.τ).loc Cert.RMlaIdeal.main_arg2)
      ∧ r.2.mem ((c.tc : Thread Cert.RMlaIdeal.nD Cert.RMlaIdeal.τ).loc Cert.RMlaIdeal.main_arg3) = m ((c.tc : Thread Cert.RMlaIdeal.nD Cert.RMlaIdeal.τ).loc Cert.RMlaIdeal.main_arg3))
      ∧ r.2.sem = fun _ => 0)

def quiescent_RMlaIdeal_pre_finite [hRMlaIdeal : Cert.RMlaIdeal.Facts] [hPre_finite : Cert.Pre_finite.Facts] : Prop :=
  ∀ (m : (ℓ : Loc Cert.RMlaIdeal.nD Cert.RMlaIdeal.τ Cert.RMlaIdeal.sig) → Buf (Elt Ideal) ℓ) (g : Dev Cert.RMlaIdeal.nD → PrngReg), Pre_RMlaIdeal_finite m →
    θ_run (Cert.RMlaIdeal.defs (F := Ideal)) (onTc (τ := Cert.RMlaIdeal.τ) (Cert.RMlaIdeal.main (F := Ideal))) ⟨m, fun _ => 0, g⟩ (fun r => (∀ c : Dev Cert.RMlaIdeal.nD,
      r.2.mem ((c.tc : Thread Cert.RMlaIdeal.nD Cert.RMlaIdeal.τ).loc Cert.RMlaIdeal.main_arg0) = m ((c.tc : Thread Cert.RMlaIdeal.nD Cert.RMlaIdeal.τ).loc Cert.RMlaIdeal.main_arg0)
      ∧ r.2.mem ((c.tc : Thread Cert.RMlaIdeal.nD Cert.RMlaIdeal.τ).loc Cert.RMlaIdeal.main_arg1) = m ((c.tc : Thread Cert.RMlaIdeal.nD Cert.RMlaIdeal.τ).loc Cert.RMlaIdeal.main_arg1)
      ∧ r.2.mem ((c.tc : Thread Cert.RMlaIdeal.nD Cert.RMlaIdeal.τ).loc Cert.RMlaIdeal.main_arg2) = m ((c.tc : Thread Cert.RMlaIdeal.nD Cert.RMlaIdeal.τ).loc Cert.RMlaIdeal.main_arg2)
      ∧ r.2.mem ((c.tc : Thread Cert.RMlaIdeal.nD Cert.RMlaIdeal.τ).loc Cert.RMlaIdeal.main_arg3) = m ((c.tc : Thread Cert.RMlaIdeal.nD Cert.RMlaIdeal.τ).loc Cert.RMlaIdeal.main_arg3))
      ∧ r.2.sem = fun _ => 0)

def quiescent_KGate [hKGate : Cert.KGate.Facts] : Prop :=
  ∀ (m : (ℓ : Loc Cert.KGate.nD Cert.KGate.τ Cert.KGate.sig) → Buf (Elt Bits) ℓ) (g : Dev Cert.KGate.nD → PrngReg), Pre_KGate m →
    θ_run (Cert.KGate.defs (F := Bits)) (onTc (τ := Cert.KGate.τ) (Cert.KGate.main (F := Bits))) ⟨m, fun _ => 0, g⟩ (fun r => (∀ c : Dev Cert.KGate.nD,
      r.2.mem ((c.tc : Thread Cert.KGate.nD Cert.KGate.τ).loc Cert.KGate.main_arg0) = m ((c.tc : Thread Cert.KGate.nD Cert.KGate.τ).loc Cert.KGate.main_arg0)
      ∧ r.2.mem ((c.tc : Thread Cert.KGate.nD Cert.KGate.τ).loc Cert.KGate.main_arg1) = m ((c.tc : Thread Cert.KGate.nD Cert.KGate.τ).loc Cert.KGate.main_arg1)
      ∧ r.2.mem ((c.tc : Thread Cert.KGate.nD Cert.KGate.τ).loc Cert.KGate.main_arg2) = m ((c.tc : Thread Cert.KGate.nD Cert.KGate.τ).loc Cert.KGate.main_arg2)
      ∧ r.2.mem ((c.tc : Thread Cert.KGate.nD Cert.KGate.τ).loc Cert.KGate.main_arg3) = m ((c.tc : Thread Cert.KGate.nD Cert.KGate.τ).loc Cert.KGate.main_arg3))
      ∧ r.2.sem = fun _ => 0)

def quiescent_KGateIdeal [hKGateIdeal : Cert.KGateIdeal.Facts] : Prop :=
  ∀ (m : (ℓ : Loc Cert.KGateIdeal.nD Cert.KGateIdeal.τ Cert.KGateIdeal.sig) → Buf (Elt Ideal) ℓ) (g : Dev Cert.KGateIdeal.nD → PrngReg), Pre_KGateIdeal m →
    θ_run (Cert.KGateIdeal.defs (F := Ideal)) (onTc (τ := Cert.KGateIdeal.τ) (Cert.KGateIdeal.main (F := Ideal))) ⟨m, fun _ => 0, g⟩ (fun r => (∀ c : Dev Cert.KGateIdeal.nD,
      r.2.mem ((c.tc : Thread Cert.KGateIdeal.nD Cert.KGateIdeal.τ).loc Cert.KGateIdeal.main_arg0) = m ((c.tc : Thread Cert.KGateIdeal.nD Cert.KGateIdeal.τ).loc Cert.KGateIdeal.main_arg0)
      ∧ r.2.mem ((c.tc : Thread Cert.KGateIdeal.nD Cert.KGateIdeal.τ).loc Cert.KGateIdeal.main_arg1) = m ((c.tc : Thread Cert.KGateIdeal.nD Cert.KGateIdeal.τ).loc Cert.KGateIdeal.main_arg1)
      ∧ r.2.mem ((c.tc : Thread Cert.KGateIdeal.nD Cert.KGateIdeal.τ).loc Cert.KGateIdeal.main_arg2) = m ((c.tc : Thread Cert.KGateIdeal.nD Cert.KGateIdeal.τ).loc Cert.KGateIdeal.main_arg2)
      ∧ r.2.mem ((c.tc : Thread Cert.KGateIdeal.nD Cert.KGateIdeal.τ).loc Cert.KGateIdeal.main_arg3) = m ((c.tc : Thread Cert.KGateIdeal.nD Cert.KGateIdeal.τ).loc Cert.KGateIdeal.main_arg3))
      ∧ r.2.sem = fun _ => 0)

def quiescent_KGateIdeal_pre_finite_factors [hKGateIdeal : Cert.KGateIdeal.Facts] [hPre_finite_factors : Cert.Pre_finite_factors.Facts] : Prop :=
  ∀ (m : (ℓ : Loc Cert.KGateIdeal.nD Cert.KGateIdeal.τ Cert.KGateIdeal.sig) → Buf (Elt Ideal) ℓ) (g : Dev Cert.KGateIdeal.nD → PrngReg), Pre_KGateIdeal_finite_factors m →
    θ_run (Cert.KGateIdeal.defs (F := Ideal)) (onTc (τ := Cert.KGateIdeal.τ) (Cert.KGateIdeal.main (F := Ideal))) ⟨m, fun _ => 0, g⟩ (fun r => (∀ c : Dev Cert.KGateIdeal.nD,
      r.2.mem ((c.tc : Thread Cert.KGateIdeal.nD Cert.KGateIdeal.τ).loc Cert.KGateIdeal.main_arg0) = m ((c.tc : Thread Cert.KGateIdeal.nD Cert.KGateIdeal.τ).loc Cert.KGateIdeal.main_arg0)
      ∧ r.2.mem ((c.tc : Thread Cert.KGateIdeal.nD Cert.KGateIdeal.τ).loc Cert.KGateIdeal.main_arg1) = m ((c.tc : Thread Cert.KGateIdeal.nD Cert.KGateIdeal.τ).loc Cert.KGateIdeal.main_arg1)
      ∧ r.2.mem ((c.tc : Thread Cert.KGateIdeal.nD Cert.KGateIdeal.τ).loc Cert.KGateIdeal.main_arg2) = m ((c.tc : Thread Cert.KGateIdeal.nD Cert.KGateIdeal.τ).loc Cert.KGateIdeal.main_arg2)
      ∧ r.2.mem ((c.tc : Thread Cert.KGateIdeal.nD Cert.KGateIdeal.τ).loc Cert.KGateIdeal.main_arg3) = m ((c.tc : Thread Cert.KGateIdeal.nD Cert.KGateIdeal.τ).loc Cert.KGateIdeal.main_arg3))
      ∧ r.2.sem = fun _ => 0)

def quiescent_RGateIdeal [hRGateIdeal : Cert.RGateIdeal.Facts] : Prop :=
  ∀ (m : (ℓ : Loc Cert.RGateIdeal.nD Cert.RGateIdeal.τ Cert.RGateIdeal.sig) → Buf (Elt Ideal) ℓ) (g : Dev Cert.RGateIdeal.nD → PrngReg), Pre_RGateIdeal m →
    θ_run (Cert.RGateIdeal.defs (F := Ideal)) (onTc (τ := Cert.RGateIdeal.τ) (Cert.RGateIdeal.main (F := Ideal))) ⟨m, fun _ => 0, g⟩ (fun r => (∀ c : Dev Cert.RGateIdeal.nD,
      r.2.mem ((c.tc : Thread Cert.RGateIdeal.nD Cert.RGateIdeal.τ).loc Cert.RGateIdeal.main_arg0) = m ((c.tc : Thread Cert.RGateIdeal.nD Cert.RGateIdeal.τ).loc Cert.RGateIdeal.main_arg0)
      ∧ r.2.mem ((c.tc : Thread Cert.RGateIdeal.nD Cert.RGateIdeal.τ).loc Cert.RGateIdeal.main_arg1) = m ((c.tc : Thread Cert.RGateIdeal.nD Cert.RGateIdeal.τ).loc Cert.RGateIdeal.main_arg1)
      ∧ r.2.mem ((c.tc : Thread Cert.RGateIdeal.nD Cert.RGateIdeal.τ).loc Cert.RGateIdeal.main_arg2) = m ((c.tc : Thread Cert.RGateIdeal.nD Cert.RGateIdeal.τ).loc Cert.RGateIdeal.main_arg2)
      ∧ r.2.mem ((c.tc : Thread Cert.RGateIdeal.nD Cert.RGateIdeal.τ).loc Cert.RGateIdeal.main_arg3) = m ((c.tc : Thread Cert.RGateIdeal.nD Cert.RGateIdeal.τ).loc Cert.RGateIdeal.main_arg3))
      ∧ r.2.sem = fun _ => 0)

def quiescent_RGateIdeal_pre_finite_factors [hRGateIdeal : Cert.RGateIdeal.Facts] [hPre_finite_factors : Cert.Pre_finite_factors.Facts] : Prop :=
  ∀ (m : (ℓ : Loc Cert.RGateIdeal.nD Cert.RGateIdeal.τ Cert.RGateIdeal.sig) → Buf (Elt Ideal) ℓ) (g : Dev Cert.RGateIdeal.nD → PrngReg), Pre_RGateIdeal_finite_factors m →
    θ_run (Cert.RGateIdeal.defs (F := Ideal)) (onTc (τ := Cert.RGateIdeal.τ) (Cert.RGateIdeal.main (F := Ideal))) ⟨m, fun _ => 0, g⟩ (fun r => (∀ c : Dev Cert.RGateIdeal.nD,
      r.2.mem ((c.tc : Thread Cert.RGateIdeal.nD Cert.RGateIdeal.τ).loc Cert.RGateIdeal.main_arg0) = m ((c.tc : Thread Cert.RGateIdeal.nD Cert.RGateIdeal.τ).loc Cert.RGateIdeal.main_arg0)
      ∧ r.2.mem ((c.tc : Thread Cert.RGateIdeal.nD Cert.RGateIdeal.τ).loc Cert.RGateIdeal.main_arg1) = m ((c.tc : Thread Cert.RGateIdeal.nD Cert.RGateIdeal.τ).loc Cert.RGateIdeal.main_arg1)
      ∧ r.2.mem ((c.tc : Thread Cert.RGateIdeal.nD Cert.RGateIdeal.τ).loc Cert.RGateIdeal.main_arg2) = m ((c.tc : Thread Cert.RGateIdeal.nD Cert.RGateIdeal.τ).loc Cert.RGateIdeal.main_arg2)
      ∧ r.2.mem ((c.tc : Thread Cert.RGateIdeal.nD Cert.RGateIdeal.τ).loc Cert.RGateIdeal.main_arg3) = m ((c.tc : Thread Cert.RGateIdeal.nD Cert.RGateIdeal.τ).loc Cert.RGateIdeal.main_arg3))
      ∧ r.2.sem = fun _ => 0)

def quiescent_KNorm [hKNorm : Cert.KNorm.Facts] : Prop :=
  ∀ (m : (ℓ : Loc Cert.KNorm.nD Cert.KNorm.τ Cert.KNorm.sig) → Buf (Elt Bits) ℓ) (g : Dev Cert.KNorm.nD → PrngReg), Pre_KNorm m →
    θ_run (Cert.KNorm.defs (F := Bits)) (onTc (τ := Cert.KNorm.τ) (Cert.KNorm.main (F := Bits))) ⟨m, fun _ => 0, g⟩ (fun r => (∀ c : Dev Cert.KNorm.nD,
      r.2.mem ((c.tc : Thread Cert.KNorm.nD Cert.KNorm.τ).loc Cert.KNorm.main_arg0) = m ((c.tc : Thread Cert.KNorm.nD Cert.KNorm.τ).loc Cert.KNorm.main_arg0)
      ∧ r.2.mem ((c.tc : Thread Cert.KNorm.nD Cert.KNorm.τ).loc Cert.KNorm.main_arg1) = m ((c.tc : Thread Cert.KNorm.nD Cert.KNorm.τ).loc Cert.KNorm.main_arg1)
      ∧ r.2.mem ((c.tc : Thread Cert.KNorm.nD Cert.KNorm.τ).loc Cert.KNorm.main_arg2) = m ((c.tc : Thread Cert.KNorm.nD Cert.KNorm.τ).loc Cert.KNorm.main_arg2)
      ∧ r.2.mem ((c.tc : Thread Cert.KNorm.nD Cert.KNorm.τ).loc Cert.KNorm.main_arg3) = m ((c.tc : Thread Cert.KNorm.nD Cert.KNorm.τ).loc Cert.KNorm.main_arg3)
      ∧ r.2.mem ((c.tc : Thread Cert.KNorm.nD Cert.KNorm.τ).loc Cert.KNorm.main_arg4) = m ((c.tc : Thread Cert.KNorm.nD Cert.KNorm.τ).loc Cert.KNorm.main_arg4)
      ∧ r.2.mem ((c.tc : Thread Cert.KNorm.nD Cert.KNorm.τ).loc Cert.KNorm.main_arg5) = m ((c.tc : Thread Cert.KNorm.nD Cert.KNorm.τ).loc Cert.KNorm.main_arg5)
      ∧ r.2.mem ((c.tc : Thread Cert.KNorm.nD Cert.KNorm.τ).loc Cert.KNorm.main_arg6) = m ((c.tc : Thread Cert.KNorm.nD Cert.KNorm.τ).loc Cert.KNorm.main_arg6))
      ∧ r.2.sem = fun _ => 0)

def quiescent_KNormIdeal [hKNormIdeal : Cert.KNormIdeal.Facts] : Prop :=
  ∀ (m : (ℓ : Loc Cert.KNormIdeal.nD Cert.KNormIdeal.τ Cert.KNormIdeal.sig) → Buf (Elt Ideal) ℓ) (g : Dev Cert.KNormIdeal.nD → PrngReg), Pre_KNormIdeal m →
    θ_run (Cert.KNormIdeal.defs (F := Ideal)) (onTc (τ := Cert.KNormIdeal.τ) (Cert.KNormIdeal.main (F := Ideal))) ⟨m, fun _ => 0, g⟩ (fun r => (∀ c : Dev Cert.KNormIdeal.nD,
      r.2.mem ((c.tc : Thread Cert.KNormIdeal.nD Cert.KNormIdeal.τ).loc Cert.KNormIdeal.main_arg0) = m ((c.tc : Thread Cert.KNormIdeal.nD Cert.KNormIdeal.τ).loc Cert.KNormIdeal.main_arg0)
      ∧ r.2.mem ((c.tc : Thread Cert.KNormIdeal.nD Cert.KNormIdeal.τ).loc Cert.KNormIdeal.main_arg1) = m ((c.tc : Thread Cert.KNormIdeal.nD Cert.KNormIdeal.τ).loc Cert.KNormIdeal.main_arg1)
      ∧ r.2.mem ((c.tc : Thread Cert.KNormIdeal.nD Cert.KNormIdeal.τ).loc Cert.KNormIdeal.main_arg2) = m ((c.tc : Thread Cert.KNormIdeal.nD Cert.KNormIdeal.τ).loc Cert.KNormIdeal.main_arg2)
      ∧ r.2.mem ((c.tc : Thread Cert.KNormIdeal.nD Cert.KNormIdeal.τ).loc Cert.KNormIdeal.main_arg3) = m ((c.tc : Thread Cert.KNormIdeal.nD Cert.KNormIdeal.τ).loc Cert.KNormIdeal.main_arg3)
      ∧ r.2.mem ((c.tc : Thread Cert.KNormIdeal.nD Cert.KNormIdeal.τ).loc Cert.KNormIdeal.main_arg4) = m ((c.tc : Thread Cert.KNormIdeal.nD Cert.KNormIdeal.τ).loc Cert.KNormIdeal.main_arg4)
      ∧ r.2.mem ((c.tc : Thread Cert.KNormIdeal.nD Cert.KNormIdeal.τ).loc Cert.KNormIdeal.main_arg5) = m ((c.tc : Thread Cert.KNormIdeal.nD Cert.KNormIdeal.τ).loc Cert.KNormIdeal.main_arg5)
      ∧ r.2.mem ((c.tc : Thread Cert.KNormIdeal.nD Cert.KNormIdeal.τ).loc Cert.KNormIdeal.main_arg6) = m ((c.tc : Thread Cert.KNormIdeal.nD Cert.KNormIdeal.τ).loc Cert.KNormIdeal.main_arg6))
      ∧ r.2.sem = fun _ => 0)

def quiescent_RNormIdeal [hRNormIdeal : Cert.RNormIdeal.Facts] : Prop :=
  ∀ (m : (ℓ : Loc Cert.RNormIdeal.nD Cert.RNormIdeal.τ Cert.RNormIdeal.sig) → Buf (Elt Ideal) ℓ) (g : Dev Cert.RNormIdeal.nD → PrngReg), Pre_RNormIdeal m →
    θ_run (Cert.RNormIdeal.defs (F := Ideal)) (onTc (τ := Cert.RNormIdeal.τ) (Cert.RNormIdeal.main (F := Ideal))) ⟨m, fun _ => 0, g⟩ (fun r => (∀ c : Dev Cert.RNormIdeal.nD,
      r.2.mem ((c.tc : Thread Cert.RNormIdeal.nD Cert.RNormIdeal.τ).loc Cert.RNormIdeal.main_arg0) = m ((c.tc : Thread Cert.RNormIdeal.nD Cert.RNormIdeal.τ).loc Cert.RNormIdeal.main_arg0)
      ∧ r.2.mem ((c.tc : Thread Cert.RNormIdeal.nD Cert.RNormIdeal.τ).loc Cert.RNormIdeal.main_arg1) = m ((c.tc : Thread Cert.RNormIdeal.nD Cert.RNormIdeal.τ).loc Cert.RNormIdeal.main_arg1)
      ∧ r.2.mem ((c.tc : Thread Cert.RNormIdeal.nD Cert.RNormIdeal.τ).loc Cert.RNormIdeal.main_arg2) = m ((c.tc : Thread Cert.RNormIdeal.nD Cert.RNormIdeal.τ).loc Cert.RNormIdeal.main_arg2)
      ∧ r.2.mem ((c.tc : Thread Cert.RNormIdeal.nD Cert.RNormIdeal.τ).loc Cert.RNormIdeal.main_arg3) = m ((c.tc : Thread Cert.RNormIdeal.nD Cert.RNormIdeal.τ).loc Cert.RNormIdeal.main_arg3)
      ∧ r.2.mem ((c.tc : Thread Cert.RNormIdeal.nD Cert.RNormIdeal.τ).loc Cert.RNormIdeal.main_arg4) = m ((c.tc : Thread Cert.RNormIdeal.nD Cert.RNormIdeal.τ).loc Cert.RNormIdeal.main_arg4)
      ∧ r.2.mem ((c.tc : Thread Cert.RNormIdeal.nD Cert.RNormIdeal.τ).loc Cert.RNormIdeal.main_arg5) = m ((c.tc : Thread Cert.RNormIdeal.nD Cert.RNormIdeal.τ).loc Cert.RNormIdeal.main_arg5)
      ∧ r.2.mem ((c.tc : Thread Cert.RNormIdeal.nD Cert.RNormIdeal.τ).loc Cert.RNormIdeal.main_arg6) = m ((c.tc : Thread Cert.RNormIdeal.nD Cert.RNormIdeal.τ).loc Cert.RNormIdeal.main_arg6))
      ∧ r.2.sem = fun _ => 0)

def quiescent_KMerge [hKMerge : Cert.KMerge.Facts] : Prop :=
  ∀ (m : (ℓ : Loc Cert.KMerge.nD Cert.KMerge.τ Cert.KMerge.sig) → Buf (Elt Bits) ℓ) (g : Dev Cert.KMerge.nD → PrngReg), Pre_KMerge m →
    θ_run (Cert.KMerge.defs (F := Bits)) (onTc (τ := Cert.KMerge.τ) (Cert.KMerge.main (F := Bits))) ⟨m, fun _ => 0, g⟩ (fun r => (∀ c : Dev Cert.KMerge.nD,
      r.2.mem ((c.tc : Thread Cert.KMerge.nD Cert.KMerge.τ).loc Cert.KMerge.main_arg0) = m ((c.tc : Thread Cert.KMerge.nD Cert.KMerge.τ).loc Cert.KMerge.main_arg0)
      ∧ r.2.mem ((c.tc : Thread Cert.KMerge.nD Cert.KMerge.τ).loc Cert.KMerge.main_arg1) = m ((c.tc : Thread Cert.KMerge.nD Cert.KMerge.τ).loc Cert.KMerge.main_arg1)
      ∧ r.2.mem ((c.tc : Thread Cert.KMerge.nD Cert.KMerge.τ).loc Cert.KMerge.main_arg2) = m ((c.tc : Thread Cert.KMerge.nD Cert.KMerge.τ).loc Cert.KMerge.main_arg2)
      ∧ r.2.mem ((c.tc : Thread Cert.KMerge.nD Cert.KMerge.τ).loc Cert.KMerge.main_arg3) = m ((c.tc : Thread Cert.KMerge.nD Cert.KMerge.τ).loc Cert.KMerge.main_arg3)
      ∧ r.2.mem ((c.tc : Thread Cert.KMerge.nD Cert.KMerge.τ).loc Cert.KMerge.main_arg4) = m ((c.tc : Thread Cert.KMerge.nD Cert.KMerge.τ).loc Cert.KMerge.main_arg4)
      ∧ r.2.mem ((c.tc : Thread Cert.KMerge.nD Cert.KMerge.τ).loc Cert.KMerge.main_arg5) = m ((c.tc : Thread Cert.KMerge.nD Cert.KMerge.τ).loc Cert.KMerge.main_arg5)
      ∧ r.2.mem ((c.tc : Thread Cert.KMerge.nD Cert.KMerge.τ).loc Cert.KMerge.main_arg6) = m ((c.tc : Thread Cert.KMerge.nD Cert.KMerge.τ).loc Cert.KMerge.main_arg6))
      ∧ r.2.sem = fun _ => 0)

def quiescent_KMergeIdeal [hKMergeIdeal : Cert.KMergeIdeal.Facts] : Prop :=
  ∀ (m : (ℓ : Loc Cert.KMergeIdeal.nD Cert.KMergeIdeal.τ Cert.KMergeIdeal.sig) → Buf (Elt Ideal) ℓ) (g : Dev Cert.KMergeIdeal.nD → PrngReg), Pre_KMergeIdeal m →
    θ_run (Cert.KMergeIdeal.defs (F := Ideal)) (onTc (τ := Cert.KMergeIdeal.τ) (Cert.KMergeIdeal.main (F := Ideal))) ⟨m, fun _ => 0, g⟩ (fun r => (∀ c : Dev Cert.KMergeIdeal.nD,
      r.2.mem ((c.tc : Thread Cert.KMergeIdeal.nD Cert.KMergeIdeal.τ).loc Cert.KMergeIdeal.main_arg0) = m ((c.tc : Thread Cert.KMergeIdeal.nD Cert.KMergeIdeal.τ).loc Cert.KMergeIdeal.main_arg0)
      ∧ r.2.mem ((c.tc : Thread Cert.KMergeIdeal.nD Cert.KMergeIdeal.τ).loc Cert.KMergeIdeal.main_arg1) = m ((c.tc : Thread Cert.KMergeIdeal.nD Cert.KMergeIdeal.τ).loc Cert.KMergeIdeal.main_arg1)
      ∧ r.2.mem ((c.tc : Thread Cert.KMergeIdeal.nD Cert.KMergeIdeal.τ).loc Cert.KMergeIdeal.main_arg2) = m ((c.tc : Thread Cert.KMergeIdeal.nD Cert.KMergeIdeal.τ).loc Cert.KMergeIdeal.main_arg2)
      ∧ r.2.mem ((c.tc : Thread Cert.KMergeIdeal.nD Cert.KMergeIdeal.τ).loc Cert.KMergeIdeal.main_arg3) = m ((c.tc : Thread Cert.KMergeIdeal.nD Cert.KMergeIdeal.τ).loc Cert.KMergeIdeal.main_arg3)
      ∧ r.2.mem ((c.tc : Thread Cert.KMergeIdeal.nD Cert.KMergeIdeal.τ).loc Cert.KMergeIdeal.main_arg4) = m ((c.tc : Thread Cert.KMergeIdeal.nD Cert.KMergeIdeal.τ).loc Cert.KMergeIdeal.main_arg4)
      ∧ r.2.mem ((c.tc : Thread Cert.KMergeIdeal.nD Cert.KMergeIdeal.τ).loc Cert.KMergeIdeal.main_arg5) = m ((c.tc : Thread Cert.KMergeIdeal.nD Cert.KMergeIdeal.τ).loc Cert.KMergeIdeal.main_arg5)
      ∧ r.2.mem ((c.tc : Thread Cert.KMergeIdeal.nD Cert.KMergeIdeal.τ).loc Cert.KMergeIdeal.main_arg6) = m ((c.tc : Thread Cert.KMergeIdeal.nD Cert.KMergeIdeal.τ).loc Cert.KMergeIdeal.main_arg6))
      ∧ r.2.sem = fun _ => 0)

def quiescent_RMergeIdeal [hRMergeIdeal : Cert.RMergeIdeal.Facts] : Prop :=
  ∀ (m : (ℓ : Loc Cert.RMergeIdeal.nD Cert.RMergeIdeal.τ Cert.RMergeIdeal.sig) → Buf (Elt Ideal) ℓ) (g : Dev Cert.RMergeIdeal.nD → PrngReg), Pre_RMergeIdeal m →
    θ_run (Cert.RMergeIdeal.defs (F := Ideal)) (onTc (τ := Cert.RMergeIdeal.τ) (Cert.RMergeIdeal.main (F := Ideal))) ⟨m, fun _ => 0, g⟩ (fun r => (∀ c : Dev Cert.RMergeIdeal.nD,
      r.2.mem ((c.tc : Thread Cert.RMergeIdeal.nD Cert.RMergeIdeal.τ).loc Cert.RMergeIdeal.main_arg0) = m ((c.tc : Thread Cert.RMergeIdeal.nD Cert.RMergeIdeal.τ).loc Cert.RMergeIdeal.main_arg0)
      ∧ r.2.mem ((c.tc : Thread Cert.RMergeIdeal.nD Cert.RMergeIdeal.τ).loc Cert.RMergeIdeal.main_arg1) = m ((c.tc : Thread Cert.RMergeIdeal.nD Cert.RMergeIdeal.τ).loc Cert.RMergeIdeal.main_arg1)
      ∧ r.2.mem ((c.tc : Thread Cert.RMergeIdeal.nD Cert.RMergeIdeal.τ).loc Cert.RMergeIdeal.main_arg2) = m ((c.tc : Thread Cert.RMergeIdeal.nD Cert.RMergeIdeal.τ).loc Cert.RMergeIdeal.main_arg2)
      ∧ r.2.mem ((c.tc : Thread Cert.RMergeIdeal.nD Cert.RMergeIdeal.τ).loc Cert.RMergeIdeal.main_arg3) = m ((c.tc : Thread Cert.RMergeIdeal.nD Cert.RMergeIdeal.τ).loc Cert.RMergeIdeal.main_arg3)
      ∧ r.2.mem ((c.tc : Thread Cert.RMergeIdeal.nD Cert.RMergeIdeal.τ).loc Cert.RMergeIdeal.main_arg4) = m ((c.tc : Thread Cert.RMergeIdeal.nD Cert.RMergeIdeal.τ).loc Cert.RMergeIdeal.main_arg4)
      ∧ r.2.mem ((c.tc : Thread Cert.RMergeIdeal.nD Cert.RMergeIdeal.τ).loc Cert.RMergeIdeal.main_arg5) = m ((c.tc : Thread Cert.RMergeIdeal.nD Cert.RMergeIdeal.τ).loc Cert.RMergeIdeal.main_arg5)
      ∧ r.2.mem ((c.tc : Thread Cert.RMergeIdeal.nD Cert.RMergeIdeal.τ).loc Cert.RMergeIdeal.main_arg6) = m ((c.tc : Thread Cert.RMergeIdeal.nD Cert.RMergeIdeal.τ).loc Cert.RMergeIdeal.main_arg6))
      ∧ r.2.sem = fun _ => 0)

def quiescent_KDh [hKDh : Cert.KDh.Facts] : Prop :=
  ∀ (m : (ℓ : Loc Cert.KDh.nD Cert.KDh.τ Cert.KDh.sig) → Buf (Elt Bits) ℓ) (g : Dev Cert.KDh.nD → PrngReg), Pre_KDh m →
    θ_run (Cert.KDh.defs (F := Bits)) (onTc (τ := Cert.KDh.τ) (Cert.KDh.main (F := Bits))) ⟨m, fun _ => 0, g⟩ (fun r => (∀ c : Dev Cert.KDh.nD,
      r.2.mem ((c.tc : Thread Cert.KDh.nD Cert.KDh.τ).loc Cert.KDh.main_arg0) = m ((c.tc : Thread Cert.KDh.nD Cert.KDh.τ).loc Cert.KDh.main_arg0)
      ∧ r.2.mem ((c.tc : Thread Cert.KDh.nD Cert.KDh.τ).loc Cert.KDh.main_arg1) = m ((c.tc : Thread Cert.KDh.nD Cert.KDh.τ).loc Cert.KDh.main_arg1)
      ∧ r.2.mem ((c.tc : Thread Cert.KDh.nD Cert.KDh.τ).loc Cert.KDh.main_arg2) = m ((c.tc : Thread Cert.KDh.nD Cert.KDh.τ).loc Cert.KDh.main_arg2)
      ∧ r.2.mem ((c.tc : Thread Cert.KDh.nD Cert.KDh.τ).loc Cert.KDh.main_arg3) = m ((c.tc : Thread Cert.KDh.nD Cert.KDh.τ).loc Cert.KDh.main_arg3)
      ∧ r.2.mem ((c.tc : Thread Cert.KDh.nD Cert.KDh.τ).loc Cert.KDh.main_arg4) = m ((c.tc : Thread Cert.KDh.nD Cert.KDh.τ).loc Cert.KDh.main_arg4))
      ∧ r.2.sem = fun _ => 0)

def quiescent_KDhIdeal [hKDhIdeal : Cert.KDhIdeal.Facts] : Prop :=
  ∀ (m : (ℓ : Loc Cert.KDhIdeal.nD Cert.KDhIdeal.τ Cert.KDhIdeal.sig) → Buf (Elt Ideal) ℓ) (g : Dev Cert.KDhIdeal.nD → PrngReg), Pre_KDhIdeal m →
    θ_run (Cert.KDhIdeal.defs (F := Ideal)) (onTc (τ := Cert.KDhIdeal.τ) (Cert.KDhIdeal.main (F := Ideal))) ⟨m, fun _ => 0, g⟩ (fun r => (∀ c : Dev Cert.KDhIdeal.nD,
      r.2.mem ((c.tc : Thread Cert.KDhIdeal.nD Cert.KDhIdeal.τ).loc Cert.KDhIdeal.main_arg0) = m ((c.tc : Thread Cert.KDhIdeal.nD Cert.KDhIdeal.τ).loc Cert.KDhIdeal.main_arg0)
      ∧ r.2.mem ((c.tc : Thread Cert.KDhIdeal.nD Cert.KDhIdeal.τ).loc Cert.KDhIdeal.main_arg1) = m ((c.tc : Thread Cert.KDhIdeal.nD Cert.KDhIdeal.τ).loc Cert.KDhIdeal.main_arg1)
      ∧ r.2.mem ((c.tc : Thread Cert.KDhIdeal.nD Cert.KDhIdeal.τ).loc Cert.KDhIdeal.main_arg2) = m ((c.tc : Thread Cert.KDhIdeal.nD Cert.KDhIdeal.τ).loc Cert.KDhIdeal.main_arg2)
      ∧ r.2.mem ((c.tc : Thread Cert.KDhIdeal.nD Cert.KDhIdeal.τ).loc Cert.KDhIdeal.main_arg3) = m ((c.tc : Thread Cert.KDhIdeal.nD Cert.KDhIdeal.τ).loc Cert.KDhIdeal.main_arg3)
      ∧ r.2.mem ((c.tc : Thread Cert.KDhIdeal.nD Cert.KDhIdeal.τ).loc Cert.KDhIdeal.main_arg4) = m ((c.tc : Thread Cert.KDhIdeal.nD Cert.KDhIdeal.τ).loc Cert.KDhIdeal.main_arg4))
      ∧ r.2.sem = fun _ => 0)

def quiescent_RDhIdeal [hRDhIdeal : Cert.RDhIdeal.Facts] : Prop :=
  ∀ (m : (ℓ : Loc Cert.RDhIdeal.nD Cert.RDhIdeal.τ Cert.RDhIdeal.sig) → Buf (Elt Ideal) ℓ) (g : Dev Cert.RDhIdeal.nD → PrngReg), Pre_RDhIdeal m →
    θ_run (Cert.RDhIdeal.defs (F := Ideal)) (onTc (τ := Cert.RDhIdeal.τ) (Cert.RDhIdeal.main (F := Ideal))) ⟨m, fun _ => 0, g⟩ (fun r => (∀ c : Dev Cert.RDhIdeal.nD,
      r.2.mem ((c.tc : Thread Cert.RDhIdeal.nD Cert.RDhIdeal.τ).loc Cert.RDhIdeal.main_arg0) = m ((c.tc : Thread Cert.RDhIdeal.nD Cert.RDhIdeal.τ).loc Cert.RDhIdeal.main_arg0)
      ∧ r.2.mem ((c.tc : Thread Cert.RDhIdeal.nD Cert.RDhIdeal.τ).loc Cert.RDhIdeal.main_arg1) = m ((c.tc : Thread Cert.RDhIdeal.nD Cert.RDhIdeal.τ).loc Cert.RDhIdeal.main_arg1)
      ∧ r.2.mem ((c.tc : Thread Cert.RDhIdeal.nD Cert.RDhIdeal.τ).loc Cert.RDhIdeal.main_arg2) = m ((c.tc : Thread Cert.RDhIdeal.nD Cert.RDhIdeal.τ).loc Cert.RDhIdeal.main_arg2)
      ∧ r.2.mem ((c.tc : Thread Cert.RDhIdeal.nD Cert.RDhIdeal.τ).loc Cert.RDhIdeal.main_arg3) = m ((c.tc : Thread Cert.RDhIdeal.nD Cert.RDhIdeal.τ).loc Cert.RDhIdeal.main_arg3)
      ∧ r.2.mem ((c.tc : Thread Cert.RDhIdeal.nD Cert.RDhIdeal.τ).loc Cert.RDhIdeal.main_arg4) = m ((c.tc : Thread Cert.RDhIdeal.nD Cert.RDhIdeal.τ).loc Cert.RDhIdeal.main_arg4))
      ∧ r.2.sem = fun _ => 0)

def quiescent_KKv [hKKv : Cert.KKv.Facts] : Prop :=
  ∀ (m : (ℓ : Loc Cert.KKv.nD Cert.KKv.τ Cert.KKv.sig) → Buf (Elt Bits) ℓ) (g : Dev Cert.KKv.nD → PrngReg), Pre_KKv m →
    θ_run (Cert.KKv.defs (F := Bits)) (onTc (τ := Cert.KKv.τ) (Cert.KKv.main (F := Bits))) ⟨m, fun _ => 0, g⟩ (fun r => (∀ c : Dev Cert.KKv.nD,
      r.2.mem ((c.tc : Thread Cert.KKv.nD Cert.KKv.τ).loc Cert.KKv.main_arg0) = m ((c.tc : Thread Cert.KKv.nD Cert.KKv.τ).loc Cert.KKv.main_arg0)
      ∧ r.2.mem ((c.tc : Thread Cert.KKv.nD Cert.KKv.τ).loc Cert.KKv.main_arg1) = m ((c.tc : Thread Cert.KKv.nD Cert.KKv.τ).loc Cert.KKv.main_arg1)
      ∧ r.2.mem ((c.tc : Thread Cert.KKv.nD Cert.KKv.τ).loc Cert.KKv.main_arg2) = m ((c.tc : Thread Cert.KKv.nD Cert.KKv.τ).loc Cert.KKv.main_arg2)
      ∧ r.2.mem ((c.tc : Thread Cert.KKv.nD Cert.KKv.τ).loc Cert.KKv.main_arg3) = m ((c.tc : Thread Cert.KKv.nD Cert.KKv.τ).loc Cert.KKv.main_arg3))
      ∧ r.2.sem = fun _ => 0)

def quiescent_KKvIdeal [hKKvIdeal : Cert.KKvIdeal.Facts] : Prop :=
  ∀ (m : (ℓ : Loc Cert.KKvIdeal.nD Cert.KKvIdeal.τ Cert.KKvIdeal.sig) → Buf (Elt Ideal) ℓ) (g : Dev Cert.KKvIdeal.nD → PrngReg), Pre_KKvIdeal m →
    θ_run (Cert.KKvIdeal.defs (F := Ideal)) (onTc (τ := Cert.KKvIdeal.τ) (Cert.KKvIdeal.main (F := Ideal))) ⟨m, fun _ => 0, g⟩ (fun r => (∀ c : Dev Cert.KKvIdeal.nD,
      r.2.mem ((c.tc : Thread Cert.KKvIdeal.nD Cert.KKvIdeal.τ).loc Cert.KKvIdeal.main_arg0) = m ((c.tc : Thread Cert.KKvIdeal.nD Cert.KKvIdeal.τ).loc Cert.KKvIdeal.main_arg0)
      ∧ r.2.mem ((c.tc : Thread Cert.KKvIdeal.nD Cert.KKvIdeal.τ).loc Cert.KKvIdeal.main_arg1) = m ((c.tc : Thread Cert.KKvIdeal.nD Cert.KKvIdeal.τ).loc Cert.KKvIdeal.main_arg1)
      ∧ r.2.mem ((c.tc : Thread Cert.KKvIdeal.nD Cert.KKvIdeal.τ).loc Cert.KKvIdeal.main_arg2) = m ((c.tc : Thread Cert.KKvIdeal.nD Cert.KKvIdeal.τ).loc Cert.KKvIdeal.main_arg2)
      ∧ r.2.mem ((c.tc : Thread Cert.KKvIdeal.nD Cert.KKvIdeal.τ).loc Cert.KKvIdeal.main_arg3) = m ((c.tc : Thread Cert.KKvIdeal.nD Cert.KKvIdeal.τ).loc Cert.KKvIdeal.main_arg3))
      ∧ r.2.sem = fun _ => 0)

def quiescent_RKvIdeal [hRKvIdeal : Cert.RKvIdeal.Facts] : Prop :=
  ∀ (m : (ℓ : Loc Cert.RKvIdeal.nD Cert.RKvIdeal.τ Cert.RKvIdeal.sig) → Buf (Elt Ideal) ℓ) (g : Dev Cert.RKvIdeal.nD → PrngReg), Pre_RKvIdeal m →
    θ_run (Cert.RKvIdeal.defs (F := Ideal)) (onTc (τ := Cert.RKvIdeal.τ) (Cert.RKvIdeal.main (F := Ideal))) ⟨m, fun _ => 0, g⟩ (fun r => (∀ c : Dev Cert.RKvIdeal.nD,
      r.2.mem ((c.tc : Thread Cert.RKvIdeal.nD Cert.RKvIdeal.τ).loc Cert.RKvIdeal.main_arg0) = m ((c.tc : Thread Cert.RKvIdeal.nD Cert.RKvIdeal.τ).loc Cert.RKvIdeal.main_arg0)
      ∧ r.2.mem ((c.tc : Thread Cert.RKvIdeal.nD Cert.RKvIdeal.τ).loc Cert.RKvIdeal.main_arg1) = m ((c.tc : Thread Cert.RKvIdeal.nD Cert.RKvIdeal.τ).loc Cert.RKvIdeal.main_arg1)
      ∧ r.2.mem ((c.tc : Thread Cert.RKvIdeal.nD Cert.RKvIdeal.τ).loc Cert.RKvIdeal.main_arg2) = m ((c.tc : Thread Cert.RKvIdeal.nD Cert.RKvIdeal.τ).loc Cert.RKvIdeal.main_arg2)
      ∧ r.2.mem ((c.tc : Thread Cert.RKvIdeal.nD Cert.RKvIdeal.τ).loc Cert.RKvIdeal.main_arg3) = m ((c.tc : Thread Cert.RKvIdeal.nD Cert.RKvIdeal.τ).loc Cert.RKvIdeal.main_arg3))
      ∧ r.2.sem = fun _ => 0)

def quiescent_KAttn [hKAttn : Cert.KAttn.Facts] : Prop :=
  ∀ (m : (ℓ : Loc Cert.KAttn.nD Cert.KAttn.τ Cert.KAttn.sig) → Buf (Elt Bits) ℓ) (g : Dev Cert.KAttn.nD → PrngReg), Pre_KAttn m →
    θ_run (Cert.KAttn.defs (F := Bits)) (onTc (τ := Cert.KAttn.τ) (Cert.KAttn.main (F := Bits))) ⟨m, fun _ => 0, g⟩ (fun r => (∀ c : Dev Cert.KAttn.nD,
      r.2.mem ((c.tc : Thread Cert.KAttn.nD Cert.KAttn.τ).loc Cert.KAttn.main_arg0) = m ((c.tc : Thread Cert.KAttn.nD Cert.KAttn.τ).loc Cert.KAttn.main_arg0)
      ∧ r.2.mem ((c.tc : Thread Cert.KAttn.nD Cert.KAttn.τ).loc Cert.KAttn.main_arg1) = m ((c.tc : Thread Cert.KAttn.nD Cert.KAttn.τ).loc Cert.KAttn.main_arg1)
      ∧ r.2.mem ((c.tc : Thread Cert.KAttn.nD Cert.KAttn.τ).loc Cert.KAttn.main_arg2) = m ((c.tc : Thread Cert.KAttn.nD Cert.KAttn.τ).loc Cert.KAttn.main_arg2))
      ∧ r.2.sem = fun _ => 0)

def quiescent_KAttnIdeal [hKAttnIdeal : Cert.KAttnIdeal.Facts] : Prop :=
  ∀ (m : (ℓ : Loc Cert.KAttnIdeal.nD Cert.KAttnIdeal.τ Cert.KAttnIdeal.sig) → Buf (Elt Ideal) ℓ) (g : Dev Cert.KAttnIdeal.nD → PrngReg), Pre_KAttnIdeal m →
    θ_run (Cert.KAttnIdeal.defs (F := Ideal)) (onTc (τ := Cert.KAttnIdeal.τ) (Cert.KAttnIdeal.main (F := Ideal))) ⟨m, fun _ => 0, g⟩ (fun r => (∀ c : Dev Cert.KAttnIdeal.nD,
      r.2.mem ((c.tc : Thread Cert.KAttnIdeal.nD Cert.KAttnIdeal.τ).loc Cert.KAttnIdeal.main_arg0) = m ((c.tc : Thread Cert.KAttnIdeal.nD Cert.KAttnIdeal.τ).loc Cert.KAttnIdeal.main_arg0)
      ∧ r.2.mem ((c.tc : Thread Cert.KAttnIdeal.nD Cert.KAttnIdeal.τ).loc Cert.KAttnIdeal.main_arg1) = m ((c.tc : Thread Cert.KAttnIdeal.nD Cert.KAttnIdeal.τ).loc Cert.KAttnIdeal.main_arg1)
      ∧ r.2.mem ((c.tc : Thread Cert.KAttnIdeal.nD Cert.KAttnIdeal.τ).loc Cert.KAttnIdeal.main_arg2) = m ((c.tc : Thread Cert.KAttnIdeal.nD Cert.KAttnIdeal.τ).loc Cert.KAttnIdeal.main_arg2))
      ∧ r.2.sem = fun _ => 0)

def quiescent_KAttnIdeal_pre_finite_qkv [hKAttnIdeal : Cert.KAttnIdeal.Facts] [hPre_finite_qkv : Cert.Pre_finite_qkv.Facts] : Prop :=
  ∀ (m : (ℓ : Loc Cert.KAttnIdeal.nD Cert.KAttnIdeal.τ Cert.KAttnIdeal.sig) → Buf (Elt Ideal) ℓ) (g : Dev Cert.KAttnIdeal.nD → PrngReg), Pre_KAttnIdeal_finite_qkv m →
    θ_run (Cert.KAttnIdeal.defs (F := Ideal)) (onTc (τ := Cert.KAttnIdeal.τ) (Cert.KAttnIdeal.main (F := Ideal))) ⟨m, fun _ => 0, g⟩ (fun r => (∀ c : Dev Cert.KAttnIdeal.nD,
      r.2.mem ((c.tc : Thread Cert.KAttnIdeal.nD Cert.KAttnIdeal.τ).loc Cert.KAttnIdeal.main_arg0) = m ((c.tc : Thread Cert.KAttnIdeal.nD Cert.KAttnIdeal.τ).loc Cert.KAttnIdeal.main_arg0)
      ∧ r.2.mem ((c.tc : Thread Cert.KAttnIdeal.nD Cert.KAttnIdeal.τ).loc Cert.KAttnIdeal.main_arg1) = m ((c.tc : Thread Cert.KAttnIdeal.nD Cert.KAttnIdeal.τ).loc Cert.KAttnIdeal.main_arg1)
      ∧ r.2.mem ((c.tc : Thread Cert.KAttnIdeal.nD Cert.KAttnIdeal.τ).loc Cert.KAttnIdeal.main_arg2) = m ((c.tc : Thread Cert.KAttnIdeal.nD Cert.KAttnIdeal.τ).loc Cert.KAttnIdeal.main_arg2))
      ∧ r.2.sem = fun _ => 0)

def quiescent_RAttnIdeal [hRAttnIdeal : Cert.RAttnIdeal.Facts] : Prop :=
  ∀ (m : (ℓ : Loc Cert.RAttnIdeal.nD Cert.RAttnIdeal.τ Cert.RAttnIdeal.sig) → Buf (Elt Ideal) ℓ) (g : Dev Cert.RAttnIdeal.nD → PrngReg), Pre_RAttnIdeal m →
    θ_run (Cert.RAttnIdeal.defs (F := Ideal)) (onTc (τ := Cert.RAttnIdeal.τ) (Cert.RAttnIdeal.main (F := Ideal))) ⟨m, fun _ => 0, g⟩ (fun r => (∀ c : Dev Cert.RAttnIdeal.nD,
      r.2.mem ((c.tc : Thread Cert.RAttnIdeal.nD Cert.RAttnIdeal.τ).loc Cert.RAttnIdeal.main_arg0) = m ((c.tc : Thread Cert.RAttnIdeal.nD Cert.RAttnIdeal.τ).loc Cert.RAttnIdeal.main_arg0)
      ∧ r.2.mem ((c.tc : Thread Cert.RAttnIdeal.nD Cert.RAttnIdeal.τ).loc Cert.RAttnIdeal.main_arg1) = m ((c.tc : Thread Cert.RAttnIdeal.nD Cert.RAttnIdeal.τ).loc Cert.RAttnIdeal.main_arg1)
      ∧ r.2.mem ((c.tc : Thread Cert.RAttnIdeal.nD Cert.RAttnIdeal.τ).loc Cert.RAttnIdeal.main_arg2) = m ((c.tc : Thread Cert.RAttnIdeal.nD Cert.RAttnIdeal.τ).loc Cert.RAttnIdeal.main_arg2))
      ∧ r.2.sem = fun _ => 0)

def quiescent_RAttnIdeal_pre_finite_qkv [hRAttnIdeal : Cert.RAttnIdeal.Facts] [hPre_finite_qkv : Cert.Pre_finite_qkv.Facts] : Prop :=
  ∀ (m : (ℓ : Loc Cert.RAttnIdeal.nD Cert.RAttnIdeal.τ Cert.RAttnIdeal.sig) → Buf (Elt Ideal) ℓ) (g : Dev Cert.RAttnIdeal.nD → PrngReg), Pre_RAttnIdeal_finite_qkv m →
    θ_run (Cert.RAttnIdeal.defs (F := Ideal)) (onTc (τ := Cert.RAttnIdeal.τ) (Cert.RAttnIdeal.main (F := Ideal))) ⟨m, fun _ => 0, g⟩ (fun r => (∀ c : Dev Cert.RAttnIdeal.nD,
      r.2.mem ((c.tc : Thread Cert.RAttnIdeal.nD Cert.RAttnIdeal.τ).loc Cert.RAttnIdeal.main_arg0) = m ((c.tc : Thread Cert.RAttnIdeal.nD Cert.RAttnIdeal.τ).loc Cert.RAttnIdeal.main_arg0)
      ∧ r.2.mem ((c.tc : Thread Cert.RAttnIdeal.nD Cert.RAttnIdeal.τ).loc Cert.RAttnIdeal.main_arg1) = m ((c.tc : Thread Cert.RAttnIdeal.nD Cert.RAttnIdeal.τ).loc Cert.RAttnIdeal.main_arg1)
      ∧ r.2.mem ((c.tc : Thread Cert.RAttnIdeal.nD Cert.RAttnIdeal.τ).loc Cert.RAttnIdeal.main_arg2) = m ((c.tc : Thread Cert.RAttnIdeal.nD Cert.RAttnIdeal.τ).loc Cert.RAttnIdeal.main_arg2))
      ∧ r.2.sem = fun _ => 0)

def quiescent_KUp [hKUp : Cert.KUp.Facts] : Prop :=
  ∀ (m : (ℓ : Loc Cert.KUp.nD Cert.KUp.τ Cert.KUp.sig) → Buf (Elt Bits) ℓ) (g : Dev Cert.KUp.nD → PrngReg), Pre_KUp m →
    θ_run (Cert.KUp.defs (F := Bits)) (onTc (τ := Cert.KUp.τ) (Cert.KUp.main (F := Bits))) ⟨m, fun _ => 0, g⟩ (fun r => (∀ c : Dev Cert.KUp.nD,
      r.2.mem ((c.tc : Thread Cert.KUp.nD Cert.KUp.τ).loc Cert.KUp.main_arg0) = m ((c.tc : Thread Cert.KUp.nD Cert.KUp.τ).loc Cert.KUp.main_arg0)
      ∧ r.2.mem ((c.tc : Thread Cert.KUp.nD Cert.KUp.τ).loc Cert.KUp.main_arg1) = m ((c.tc : Thread Cert.KUp.nD Cert.KUp.τ).loc Cert.KUp.main_arg1)
      ∧ r.2.mem ((c.tc : Thread Cert.KUp.nD Cert.KUp.τ).loc Cert.KUp.main_arg2) = m ((c.tc : Thread Cert.KUp.nD Cert.KUp.τ).loc Cert.KUp.main_arg2)
      ∧ r.2.mem ((c.tc : Thread Cert.KUp.nD Cert.KUp.τ).loc Cert.KUp.main_arg3) = m ((c.tc : Thread Cert.KUp.nD Cert.KUp.τ).loc Cert.KUp.main_arg3))
      ∧ r.2.sem = fun _ => 0)

def quiescent_KUpIdeal [hKUpIdeal : Cert.KUpIdeal.Facts] : Prop :=
  ∀ (m : (ℓ : Loc Cert.KUpIdeal.nD Cert.KUpIdeal.τ Cert.KUpIdeal.sig) → Buf (Elt Ideal) ℓ) (g : Dev Cert.KUpIdeal.nD → PrngReg), Pre_KUpIdeal m →
    θ_run (Cert.KUpIdeal.defs (F := Ideal)) (onTc (τ := Cert.KUpIdeal.τ) (Cert.KUpIdeal.main (F := Ideal))) ⟨m, fun _ => 0, g⟩ (fun r => (∀ c : Dev Cert.KUpIdeal.nD,
      r.2.mem ((c.tc : Thread Cert.KUpIdeal.nD Cert.KUpIdeal.τ).loc Cert.KUpIdeal.main_arg0) = m ((c.tc : Thread Cert.KUpIdeal.nD Cert.KUpIdeal.τ).loc Cert.KUpIdeal.main_arg0)
      ∧ r.2.mem ((c.tc : Thread Cert.KUpIdeal.nD Cert.KUpIdeal.τ).loc Cert.KUpIdeal.main_arg1) = m ((c.tc : Thread Cert.KUpIdeal.nD Cert.KUpIdeal.τ).loc Cert.KUpIdeal.main_arg1)
      ∧ r.2.mem ((c.tc : Thread Cert.KUpIdeal.nD Cert.KUpIdeal.τ).loc Cert.KUpIdeal.main_arg2) = m ((c.tc : Thread Cert.KUpIdeal.nD Cert.KUpIdeal.τ).loc Cert.KUpIdeal.main_arg2)
      ∧ r.2.mem ((c.tc : Thread Cert.KUpIdeal.nD Cert.KUpIdeal.τ).loc Cert.KUpIdeal.main_arg3) = m ((c.tc : Thread Cert.KUpIdeal.nD Cert.KUpIdeal.τ).loc Cert.KUpIdeal.main_arg3))
      ∧ r.2.sem = fun _ => 0)

def quiescent_RUpIdeal [hRUpIdeal : Cert.RUpIdeal.Facts] : Prop :=
  ∀ (m : (ℓ : Loc Cert.RUpIdeal.nD Cert.RUpIdeal.τ Cert.RUpIdeal.sig) → Buf (Elt Ideal) ℓ) (g : Dev Cert.RUpIdeal.nD → PrngReg), Pre_RUpIdeal m →
    θ_run (Cert.RUpIdeal.defs (F := Ideal)) (onTc (τ := Cert.RUpIdeal.τ) (Cert.RUpIdeal.main (F := Ideal))) ⟨m, fun _ => 0, g⟩ (fun r => (∀ c : Dev Cert.RUpIdeal.nD,
      r.2.mem ((c.tc : Thread Cert.RUpIdeal.nD Cert.RUpIdeal.τ).loc Cert.RUpIdeal.main_arg0) = m ((c.tc : Thread Cert.RUpIdeal.nD Cert.RUpIdeal.τ).loc Cert.RUpIdeal.main_arg0)
      ∧ r.2.mem ((c.tc : Thread Cert.RUpIdeal.nD Cert.RUpIdeal.τ).loc Cert.RUpIdeal.main_arg1) = m ((c.tc : Thread Cert.RUpIdeal.nD Cert.RUpIdeal.τ).loc Cert.RUpIdeal.main_arg1)
      ∧ r.2.mem ((c.tc : Thread Cert.RUpIdeal.nD Cert.RUpIdeal.τ).loc Cert.RUpIdeal.main_arg2) = m ((c.tc : Thread Cert.RUpIdeal.nD Cert.RUpIdeal.τ).loc Cert.RUpIdeal.main_arg2)
      ∧ r.2.mem ((c.tc : Thread Cert.RUpIdeal.nD Cert.RUpIdeal.τ).loc Cert.RUpIdeal.main_arg3) = m ((c.tc : Thread Cert.RUpIdeal.nD Cert.RUpIdeal.τ).loc Cert.RUpIdeal.main_arg3))
      ∧ r.2.sem = fun _ => 0)

def quiescent_KMix [hKMix : Cert.KMix.Facts] : Prop :=
  ∀ (m : (ℓ : Loc Cert.KMix.nD Cert.KMix.τ Cert.KMix.sig) → Buf (Elt Bits) ℓ) (g : Dev Cert.KMix.nD → PrngReg), Pre_KMix m →
    θ_run (Cert.KMix.defs (F := Bits)) (onTc (τ := Cert.KMix.τ) (Cert.KMix.main (F := Bits))) ⟨m, fun _ => 0, g⟩ (fun r => (∀ c : Dev Cert.KMix.nD,
      r.2.mem ((c.tc : Thread Cert.KMix.nD Cert.KMix.τ).loc Cert.KMix.main_arg0) = m ((c.tc : Thread Cert.KMix.nD Cert.KMix.τ).loc Cert.KMix.main_arg0)
      ∧ r.2.mem ((c.tc : Thread Cert.KMix.nD Cert.KMix.τ).loc Cert.KMix.main_arg1) = m ((c.tc : Thread Cert.KMix.nD Cert.KMix.τ).loc Cert.KMix.main_arg1)
      ∧ r.2.mem ((c.tc : Thread Cert.KMix.nD Cert.KMix.τ).loc Cert.KMix.main_arg2) = m ((c.tc : Thread Cert.KMix.nD Cert.KMix.τ).loc Cert.KMix.main_arg2)
      ∧ r.2.mem ((c.tc : Thread Cert.KMix.nD Cert.KMix.τ).loc Cert.KMix.main_arg3) = m ((c.tc : Thread Cert.KMix.nD Cert.KMix.τ).loc Cert.KMix.main_arg3)
      ∧ r.2.mem ((c.tc : Thread Cert.KMix.nD Cert.KMix.τ).loc Cert.KMix.main_arg4) = m ((c.tc : Thread Cert.KMix.nD Cert.KMix.τ).loc Cert.KMix.main_arg4))
      ∧ r.2.sem = fun _ => 0)

def quiescent_KMixIdeal [hKMixIdeal : Cert.KMixIdeal.Facts] : Prop :=
  ∀ (m : (ℓ : Loc Cert.KMixIdeal.nD Cert.KMixIdeal.τ Cert.KMixIdeal.sig) → Buf (Elt Ideal) ℓ) (g : Dev Cert.KMixIdeal.nD → PrngReg), Pre_KMixIdeal m →
    θ_run (Cert.KMixIdeal.defs (F := Ideal)) (onTc (τ := Cert.KMixIdeal.τ) (Cert.KMixIdeal.main (F := Ideal))) ⟨m, fun _ => 0, g⟩ (fun r => (∀ c : Dev Cert.KMixIdeal.nD,
      r.2.mem ((c.tc : Thread Cert.KMixIdeal.nD Cert.KMixIdeal.τ).loc Cert.KMixIdeal.main_arg0) = m ((c.tc : Thread Cert.KMixIdeal.nD Cert.KMixIdeal.τ).loc Cert.KMixIdeal.main_arg0)
      ∧ r.2.mem ((c.tc : Thread Cert.KMixIdeal.nD Cert.KMixIdeal.τ).loc Cert.KMixIdeal.main_arg1) = m ((c.tc : Thread Cert.KMixIdeal.nD Cert.KMixIdeal.τ).loc Cert.KMixIdeal.main_arg1)
      ∧ r.2.mem ((c.tc : Thread Cert.KMixIdeal.nD Cert.KMixIdeal.τ).loc Cert.KMixIdeal.main_arg2) = m ((c.tc : Thread Cert.KMixIdeal.nD Cert.KMixIdeal.τ).loc Cert.KMixIdeal.main_arg2)
      ∧ r.2.mem ((c.tc : Thread Cert.KMixIdeal.nD Cert.KMixIdeal.τ).loc Cert.KMixIdeal.main_arg3) = m ((c.tc : Thread Cert.KMixIdeal.nD Cert.KMixIdeal.τ).loc Cert.KMixIdeal.main_arg3)
      ∧ r.2.mem ((c.tc : Thread Cert.KMixIdeal.nD Cert.KMixIdeal.τ).loc Cert.KMixIdeal.main_arg4) = m ((c.tc : Thread Cert.KMixIdeal.nD Cert.KMixIdeal.τ).loc Cert.KMixIdeal.main_arg4))
      ∧ r.2.sem = fun _ => 0)

def quiescent_RMixIdeal [hRMixIdeal : Cert.RMixIdeal.Facts] : Prop :=
  ∀ (m : (ℓ : Loc Cert.RMixIdeal.nD Cert.RMixIdeal.τ Cert.RMixIdeal.sig) → Buf (Elt Ideal) ℓ) (g : Dev Cert.RMixIdeal.nD → PrngReg), Pre_RMixIdeal m →
    θ_run (Cert.RMixIdeal.defs (F := Ideal)) (onTc (τ := Cert.RMixIdeal.τ) (Cert.RMixIdeal.main (F := Ideal))) ⟨m, fun _ => 0, g⟩ (fun r => (∀ c : Dev Cert.RMixIdeal.nD,
      r.2.mem ((c.tc : Thread Cert.RMixIdeal.nD Cert.RMixIdeal.τ).loc Cert.RMixIdeal.main_arg0) = m ((c.tc : Thread Cert.RMixIdeal.nD Cert.RMixIdeal.τ).loc Cert.RMixIdeal.main_arg0)
      ∧ r.2.mem ((c.tc : Thread Cert.RMixIdeal.nD Cert.RMixIdeal.τ).loc Cert.RMixIdeal.main_arg1) = m ((c.tc : Thread Cert.RMixIdeal.nD Cert.RMixIdeal.τ).loc Cert.RMixIdeal.main_arg1)
      ∧ r.2.mem ((c.tc : Thread Cert.RMixIdeal.nD Cert.RMixIdeal.τ).loc Cert.RMixIdeal.main_arg2) = m ((c.tc : Thread Cert.RMixIdeal.nD Cert.RMixIdeal.τ).loc Cert.RMixIdeal.main_arg2)
      ∧ r.2.mem ((c.tc : Thread Cert.RMixIdeal.nD Cert.RMixIdeal.τ).loc Cert.RMixIdeal.main_arg3) = m ((c.tc : Thread Cert.RMixIdeal.nD Cert.RMixIdeal.τ).loc Cert.RMixIdeal.main_arg3)
      ∧ r.2.mem ((c.tc : Thread Cert.RMixIdeal.nD Cert.RMixIdeal.τ).loc Cert.RMixIdeal.main_arg4) = m ((c.tc : Thread Cert.RMixIdeal.nD Cert.RMixIdeal.τ).loc Cert.RMixIdeal.main_arg4))
      ∧ r.2.sem = fun _ => 0)

def quiescent_KProj [hKProj : Cert.KProj.Facts] : Prop :=
  ∀ (m : (ℓ : Loc Cert.KProj.nD Cert.KProj.τ Cert.KProj.sig) → Buf (Elt Bits) ℓ) (g : Dev Cert.KProj.nD → PrngReg), Pre_KProj m →
    θ_run (Cert.KProj.defs (F := Bits)) (onTc (τ := Cert.KProj.τ) (Cert.KProj.main (F := Bits))) ⟨m, fun _ => 0, g⟩ (fun r => (∀ c : Dev Cert.KProj.nD,
      r.2.mem ((c.tc : Thread Cert.KProj.nD Cert.KProj.τ).loc Cert.KProj.main_arg0) = m ((c.tc : Thread Cert.KProj.nD Cert.KProj.τ).loc Cert.KProj.main_arg0)
      ∧ r.2.mem ((c.tc : Thread Cert.KProj.nD Cert.KProj.τ).loc Cert.KProj.main_arg1) = m ((c.tc : Thread Cert.KProj.nD Cert.KProj.τ).loc Cert.KProj.main_arg1)
      ∧ r.2.mem ((c.tc : Thread Cert.KProj.nD Cert.KProj.τ).loc Cert.KProj.main_arg2) = m ((c.tc : Thread Cert.KProj.nD Cert.KProj.τ).loc Cert.KProj.main_arg2))
      ∧ r.2.sem = fun _ => 0)

def quiescent_KProjIdeal [hKProjIdeal : Cert.KProjIdeal.Facts] : Prop :=
  ∀ (m : (ℓ : Loc Cert.KProjIdeal.nD Cert.KProjIdeal.τ Cert.KProjIdeal.sig) → Buf (Elt Ideal) ℓ) (g : Dev Cert.KProjIdeal.nD → PrngReg), Pre_KProjIdeal m →
    θ_run (Cert.KProjIdeal.defs (F := Ideal)) (onTc (τ := Cert.KProjIdeal.τ) (Cert.KProjIdeal.main (F := Ideal))) ⟨m, fun _ => 0, g⟩ (fun r => (∀ c : Dev Cert.KProjIdeal.nD,
      r.2.mem ((c.tc : Thread Cert.KProjIdeal.nD Cert.KProjIdeal.τ).loc Cert.KProjIdeal.main_arg0) = m ((c.tc : Thread Cert.KProjIdeal.nD Cert.KProjIdeal.τ).loc Cert.KProjIdeal.main_arg0)
      ∧ r.2.mem ((c.tc : Thread Cert.KProjIdeal.nD Cert.KProjIdeal.τ).loc Cert.KProjIdeal.main_arg1) = m ((c.tc : Thread Cert.KProjIdeal.nD Cert.KProjIdeal.τ).loc Cert.KProjIdeal.main_arg1)
      ∧ r.2.mem ((c.tc : Thread Cert.KProjIdeal.nD Cert.KProjIdeal.τ).loc Cert.KProjIdeal.main_arg2) = m ((c.tc : Thread Cert.KProjIdeal.nD Cert.KProjIdeal.τ).loc Cert.KProjIdeal.main_arg2))
      ∧ r.2.sem = fun _ => 0)

def quiescent_RProjIdeal [hRProjIdeal : Cert.RProjIdeal.Facts] : Prop :=
  ∀ (m : (ℓ : Loc Cert.RProjIdeal.nD Cert.RProjIdeal.τ Cert.RProjIdeal.sig) → Buf (Elt Ideal) ℓ) (g : Dev Cert.RProjIdeal.nD → PrngReg), Pre_RProjIdeal m →
    θ_run (Cert.RProjIdeal.defs (F := Ideal)) (onTc (τ := Cert.RProjIdeal.τ) (Cert.RProjIdeal.main (F := Ideal))) ⟨m, fun _ => 0, g⟩ (fun r => (∀ c : Dev Cert.RProjIdeal.nD,
      r.2.mem ((c.tc : Thread Cert.RProjIdeal.nD Cert.RProjIdeal.τ).loc Cert.RProjIdeal.main_arg0) = m ((c.tc : Thread Cert.RProjIdeal.nD Cert.RProjIdeal.τ).loc Cert.RProjIdeal.main_arg0)
      ∧ r.2.mem ((c.tc : Thread Cert.RProjIdeal.nD Cert.RProjIdeal.τ).loc Cert.RProjIdeal.main_arg1) = m ((c.tc : Thread Cert.RProjIdeal.nD Cert.RProjIdeal.τ).loc Cert.RProjIdeal.main_arg1)
      ∧ r.2.mem ((c.tc : Thread Cert.RProjIdeal.nD Cert.RProjIdeal.τ).loc Cert.RProjIdeal.main_arg2) = m ((c.tc : Thread Cert.RProjIdeal.nD Cert.RProjIdeal.τ).loc Cert.RProjIdeal.main_arg2))
      ∧ r.2.sem = fun _ => 0)

def quiescent_KQkv [hKQkv : Cert.KQkv.Facts] : Prop :=
  ∀ (m : (ℓ : Loc Cert.KQkv.nD Cert.KQkv.τ Cert.KQkv.sig) → Buf (Elt Bits) ℓ) (g : Dev Cert.KQkv.nD → PrngReg), Pre_KQkv m →
    θ_run (Cert.KQkv.defs (F := Bits)) (onTc (τ := Cert.KQkv.τ) (Cert.KQkv.main (F := Bits))) ⟨m, fun _ => 0, g⟩ (fun r => (∀ c : Dev Cert.KQkv.nD,
      r.2.mem ((c.tc : Thread Cert.KQkv.nD Cert.KQkv.τ).loc Cert.KQkv.main_arg0) = m ((c.tc : Thread Cert.KQkv.nD Cert.KQkv.τ).loc Cert.KQkv.main_arg0)
      ∧ r.2.mem ((c.tc : Thread Cert.KQkv.nD Cert.KQkv.τ).loc Cert.KQkv.main_arg1) = m ((c.tc : Thread Cert.KQkv.nD Cert.KQkv.τ).loc Cert.KQkv.main_arg1)
      ∧ r.2.mem ((c.tc : Thread Cert.KQkv.nD Cert.KQkv.τ).loc Cert.KQkv.main_arg2) = m ((c.tc : Thread Cert.KQkv.nD Cert.KQkv.τ).loc Cert.KQkv.main_arg2)
      ∧ r.2.mem ((c.tc : Thread Cert.KQkv.nD Cert.KQkv.τ).loc Cert.KQkv.main_arg3) = m ((c.tc : Thread Cert.KQkv.nD Cert.KQkv.τ).loc Cert.KQkv.main_arg3)
      ∧ r.2.mem ((c.tc : Thread Cert.KQkv.nD Cert.KQkv.τ).loc Cert.KQkv.main_arg4) = m ((c.tc : Thread Cert.KQkv.nD Cert.KQkv.τ).loc Cert.KQkv.main_arg4)
      ∧ r.2.mem ((c.tc : Thread Cert.KQkv.nD Cert.KQkv.τ).loc Cert.KQkv.main_arg5) = m ((c.tc : Thread Cert.KQkv.nD Cert.KQkv.τ).loc Cert.KQkv.main_arg5)
      ∧ r.2.mem ((c.tc : Thread Cert.KQkv.nD Cert.KQkv.τ).loc Cert.KQkv.main_arg6) = m ((c.tc : Thread Cert.KQkv.nD Cert.KQkv.τ).loc Cert.KQkv.main_arg6)
      ∧ r.2.mem ((c.tc : Thread Cert.KQkv.nD Cert.KQkv.τ).loc Cert.KQkv.main_arg7) = m ((c.tc : Thread Cert.KQkv.nD Cert.KQkv.τ).loc Cert.KQkv.main_arg7))
      ∧ r.2.sem = fun _ => 0)

def quiescent_KQkvIdeal [hKQkvIdeal : Cert.KQkvIdeal.Facts] : Prop :=
  ∀ (m : (ℓ : Loc Cert.KQkvIdeal.nD Cert.KQkvIdeal.τ Cert.KQkvIdeal.sig) → Buf (Elt Ideal) ℓ) (g : Dev Cert.KQkvIdeal.nD → PrngReg), Pre_KQkvIdeal m →
    θ_run (Cert.KQkvIdeal.defs (F := Ideal)) (onTc (τ := Cert.KQkvIdeal.τ) (Cert.KQkvIdeal.main (F := Ideal))) ⟨m, fun _ => 0, g⟩ (fun r => (∀ c : Dev Cert.KQkvIdeal.nD,
      r.2.mem ((c.tc : Thread Cert.KQkvIdeal.nD Cert.KQkvIdeal.τ).loc Cert.KQkvIdeal.main_arg0) = m ((c.tc : Thread Cert.KQkvIdeal.nD Cert.KQkvIdeal.τ).loc Cert.KQkvIdeal.main_arg0)
      ∧ r.2.mem ((c.tc : Thread Cert.KQkvIdeal.nD Cert.KQkvIdeal.τ).loc Cert.KQkvIdeal.main_arg1) = m ((c.tc : Thread Cert.KQkvIdeal.nD Cert.KQkvIdeal.τ).loc Cert.KQkvIdeal.main_arg1)
      ∧ r.2.mem ((c.tc : Thread Cert.KQkvIdeal.nD Cert.KQkvIdeal.τ).loc Cert.KQkvIdeal.main_arg2) = m ((c.tc : Thread Cert.KQkvIdeal.nD Cert.KQkvIdeal.τ).loc Cert.KQkvIdeal.main_arg2)
      ∧ r.2.mem ((c.tc : Thread Cert.KQkvIdeal.nD Cert.KQkvIdeal.τ).loc Cert.KQkvIdeal.main_arg3) = m ((c.tc : Thread Cert.KQkvIdeal.nD Cert.KQkvIdeal.τ).loc Cert.KQkvIdeal.main_arg3)
      ∧ r.2.mem ((c.tc : Thread Cert.KQkvIdeal.nD Cert.KQkvIdeal.τ).loc Cert.KQkvIdeal.main_arg4) = m ((c.tc : Thread Cert.KQkvIdeal.nD Cert.KQkvIdeal.τ).loc Cert.KQkvIdeal.main_arg4)
      ∧ r.2.mem ((c.tc : Thread Cert.KQkvIdeal.nD Cert.KQkvIdeal.τ).loc Cert.KQkvIdeal.main_arg5) = m ((c.tc : Thread Cert.KQkvIdeal.nD Cert.KQkvIdeal.τ).loc Cert.KQkvIdeal.main_arg5)
      ∧ r.2.mem ((c.tc : Thread Cert.KQkvIdeal.nD Cert.KQkvIdeal.τ).loc Cert.KQkvIdeal.main_arg6) = m ((c.tc : Thread Cert.KQkvIdeal.nD Cert.KQkvIdeal.τ).loc Cert.KQkvIdeal.main_arg6)
      ∧ r.2.mem ((c.tc : Thread Cert.KQkvIdeal.nD Cert.KQkvIdeal.τ).loc Cert.KQkvIdeal.main_arg7) = m ((c.tc : Thread Cert.KQkvIdeal.nD Cert.KQkvIdeal.τ).loc Cert.KQkvIdeal.main_arg7))
      ∧ r.2.sem = fun _ => 0)

def quiescent_RQkvIdeal [hRQkvIdeal : Cert.RQkvIdeal.Facts] : Prop :=
  ∀ (m : (ℓ : Loc Cert.RQkvIdeal.nD Cert.RQkvIdeal.τ Cert.RQkvIdeal.sig) → Buf (Elt Ideal) ℓ) (g : Dev Cert.RQkvIdeal.nD → PrngReg), Pre_RQkvIdeal m →
    θ_run (Cert.RQkvIdeal.defs (F := Ideal)) (onTc (τ := Cert.RQkvIdeal.τ) (Cert.RQkvIdeal.main (F := Ideal))) ⟨m, fun _ => 0, g⟩ (fun r => (∀ c : Dev Cert.RQkvIdeal.nD,
      r.2.mem ((c.tc : Thread Cert.RQkvIdeal.nD Cert.RQkvIdeal.τ).loc Cert.RQkvIdeal.main_arg0) = m ((c.tc : Thread Cert.RQkvIdeal.nD Cert.RQkvIdeal.τ).loc Cert.RQkvIdeal.main_arg0)
      ∧ r.2.mem ((c.tc : Thread Cert.RQkvIdeal.nD Cert.RQkvIdeal.τ).loc Cert.RQkvIdeal.main_arg1) = m ((c.tc : Thread Cert.RQkvIdeal.nD Cert.RQkvIdeal.τ).loc Cert.RQkvIdeal.main_arg1)
      ∧ r.2.mem ((c.tc : Thread Cert.RQkvIdeal.nD Cert.RQkvIdeal.τ).loc Cert.RQkvIdeal.main_arg2) = m ((c.tc : Thread Cert.RQkvIdeal.nD Cert.RQkvIdeal.τ).loc Cert.RQkvIdeal.main_arg2)
      ∧ r.2.mem ((c.tc : Thread Cert.RQkvIdeal.nD Cert.RQkvIdeal.τ).loc Cert.RQkvIdeal.main_arg3) = m ((c.tc : Thread Cert.RQkvIdeal.nD Cert.RQkvIdeal.τ).loc Cert.RQkvIdeal.main_arg3)
      ∧ r.2.mem ((c.tc : Thread Cert.RQkvIdeal.nD Cert.RQkvIdeal.τ).loc Cert.RQkvIdeal.main_arg4) = m ((c.tc : Thread Cert.RQkvIdeal.nD Cert.RQkvIdeal.τ).loc Cert.RQkvIdeal.main_arg4)
      ∧ r.2.mem ((c.tc : Thread Cert.RQkvIdeal.nD Cert.RQkvIdeal.τ).loc Cert.RQkvIdeal.main_arg5) = m ((c.tc : Thread Cert.RQkvIdeal.nD Cert.RQkvIdeal.τ).loc Cert.RQkvIdeal.main_arg5)
      ∧ r.2.mem ((c.tc : Thread Cert.RQkvIdeal.nD Cert.RQkvIdeal.τ).loc Cert.RQkvIdeal.main_arg6) = m ((c.tc : Thread Cert.RQkvIdeal.nD Cert.RQkvIdeal.τ).loc Cert.RQkvIdeal.main_arg6)
      ∧ r.2.mem ((c.tc : Thread Cert.RQkvIdeal.nD Cert.RQkvIdeal.τ).loc Cert.RQkvIdeal.main_arg7) = m ((c.tc : Thread Cert.RQkvIdeal.nD Cert.RQkvIdeal.τ).loc Cert.RQkvIdeal.main_arg7))
      ∧ r.2.sem = fun _ => 0)

def quiescent_KDown [hKDown : Cert.KDown.Facts] : Prop :=
  ∀ (m : (ℓ : Loc Cert.KDown.nD Cert.KDown.τ Cert.KDown.sig) → Buf (Elt Bits) ℓ) (g : Dev Cert.KDown.nD → PrngReg), Pre_KDown m →
    θ_run (Cert.KDown.defs (F := Bits)) (onTc (τ := Cert.KDown.τ) (Cert.KDown.main (F := Bits))) ⟨m, fun _ => 0, g⟩ (fun r => (∀ c : Dev Cert.KDown.nD,
      r.2.mem ((c.tc : Thread Cert.KDown.nD Cert.KDown.τ).loc Cert.KDown.main_arg0) = m ((c.tc : Thread Cert.KDown.nD Cert.KDown.τ).loc Cert.KDown.main_arg0)
      ∧ r.2.mem ((c.tc : Thread Cert.KDown.nD Cert.KDown.τ).loc Cert.KDown.main_arg1) = m ((c.tc : Thread Cert.KDown.nD Cert.KDown.τ).loc Cert.KDown.main_arg1)
      ∧ r.2.mem ((c.tc : Thread Cert.KDown.nD Cert.KDown.τ).loc Cert.KDown.main_arg2) = m ((c.tc : Thread Cert.KDown.nD Cert.KDown.τ).loc Cert.KDown.main_arg2))
      ∧ r.2.sem = fun _ => 0)

def quiescent_KDownIdeal [hKDownIdeal : Cert.KDownIdeal.Facts] : Prop :=
  ∀ (m : (ℓ : Loc Cert.KDownIdeal.nD Cert.KDownIdeal.τ Cert.KDownIdeal.sig) → Buf (Elt Ideal) ℓ) (g : Dev Cert.KDownIdeal.nD → PrngReg), Pre_KDownIdeal m →
    θ_run (Cert.KDownIdeal.defs (F := Ideal)) (onTc (τ := Cert.KDownIdeal.τ) (Cert.KDownIdeal.main (F := Ideal))) ⟨m, fun _ => 0, g⟩ (fun r => (∀ c : Dev Cert.KDownIdeal.nD,
      r.2.mem ((c.tc : Thread Cert.KDownIdeal.nD Cert.KDownIdeal.τ).loc Cert.KDownIdeal.main_arg0) = m ((c.tc : Thread Cert.KDownIdeal.nD Cert.KDownIdeal.τ).loc Cert.KDownIdeal.main_arg0)
      ∧ r.2.mem ((c.tc : Thread Cert.KDownIdeal.nD Cert.KDownIdeal.τ).loc Cert.KDownIdeal.main_arg1) = m ((c.tc : Thread Cert.KDownIdeal.nD Cert.KDownIdeal.τ).loc Cert.KDownIdeal.main_arg1)
      ∧ r.2.mem ((c.tc : Thread Cert.KDownIdeal.nD Cert.KDownIdeal.τ).loc Cert.KDownIdeal.main_arg2) = m ((c.tc : Thread Cert.KDownIdeal.nD Cert.KDownIdeal.τ).loc Cert.KDownIdeal.main_arg2))
      ∧ r.2.sem = fun _ => 0)

def quiescent_RDownIdeal [hRDownIdeal : Cert.RDownIdeal.Facts] : Prop :=
  ∀ (m : (ℓ : Loc Cert.RDownIdeal.nD Cert.RDownIdeal.τ Cert.RDownIdeal.sig) → Buf (Elt Ideal) ℓ) (g : Dev Cert.RDownIdeal.nD → PrngReg), Pre_RDownIdeal m →
    θ_run (Cert.RDownIdeal.defs (F := Ideal)) (onTc (τ := Cert.RDownIdeal.τ) (Cert.RDownIdeal.main (F := Ideal))) ⟨m, fun _ => 0, g⟩ (fun r => (∀ c : Dev Cert.RDownIdeal.nD,
      r.2.mem ((c.tc : Thread Cert.RDownIdeal.nD Cert.RDownIdeal.τ).loc Cert.RDownIdeal.main_arg0) = m ((c.tc : Thread Cert.RDownIdeal.nD Cert.RDownIdeal.τ).loc Cert.RDownIdeal.main_arg0)
      ∧ r.2.mem ((c.tc : Thread Cert.RDownIdeal.nD Cert.RDownIdeal.τ).loc Cert.RDownIdeal.main_arg1) = m ((c.tc : Thread Cert.RDownIdeal.nD Cert.RDownIdeal.τ).loc Cert.RDownIdeal.main_arg1)
      ∧ r.2.mem ((c.tc : Thread Cert.RDownIdeal.nD Cert.RDownIdeal.τ).loc Cert.RDownIdeal.main_arg2) = m ((c.tc : Thread Cert.RDownIdeal.nD Cert.RDownIdeal.τ).loc Cert.RDownIdeal.main_arg2))
      ∧ r.2.sem = fun _ => 0)

def quiescent_KDw [hKDw : Cert.KDw.Facts] : Prop :=
  ∀ (m : (ℓ : Loc Cert.KDw.nD Cert.KDw.τ Cert.KDw.sig) → Buf (Elt Bits) ℓ) (g : Dev Cert.KDw.nD → PrngReg), Pre_KDw m →
    θ_run (Cert.KDw.defs (F := Bits)) (onTc (τ := Cert.KDw.τ) (Cert.KDw.main (F := Bits))) ⟨m, fun _ => 0, g⟩ (fun r => (∀ c : Dev Cert.KDw.nD,
      r.2.mem ((c.tc : Thread Cert.KDw.nD Cert.KDw.τ).loc Cert.KDw.main_arg0) = m ((c.tc : Thread Cert.KDw.nD Cert.KDw.τ).loc Cert.KDw.main_arg0)
      ∧ r.2.mem ((c.tc : Thread Cert.KDw.nD Cert.KDw.τ).loc Cert.KDw.main_arg1) = m ((c.tc : Thread Cert.KDw.nD Cert.KDw.τ).loc Cert.KDw.main_arg1))
      ∧ r.2.sem = fun _ => 0)

def quiescent_KDwIdeal [hKDwIdeal : Cert.KDwIdeal.Facts] : Prop :=
  ∀ (m : (ℓ : Loc Cert.KDwIdeal.nD Cert.KDwIdeal.τ Cert.KDwIdeal.sig) → Buf (Elt Ideal) ℓ) (g : Dev Cert.KDwIdeal.nD → PrngReg), Pre_KDwIdeal m →
    θ_run (Cert.KDwIdeal.defs (F := Ideal)) (onTc (τ := Cert.KDwIdeal.τ) (Cert.KDwIdeal.main (F := Ideal))) ⟨m, fun _ => 0, g⟩ (fun r => (∀ c : Dev Cert.KDwIdeal.nD,
      r.2.mem ((c.tc : Thread Cert.KDwIdeal.nD Cert.KDwIdeal.τ).loc Cert.KDwIdeal.main_arg0) = m ((c.tc : Thread Cert.KDwIdeal.nD Cert.KDwIdeal.τ).loc Cert.KDwIdeal.main_arg0)
      ∧ r.2.mem ((c.tc : Thread Cert.KDwIdeal.nD Cert.KDwIdeal.τ).loc Cert.KDwIdeal.main_arg1) = m ((c.tc : Thread Cert.KDwIdeal.nD Cert.KDwIdeal.τ).loc Cert.KDwIdeal.main_arg1))
      ∧ r.2.sem = fun _ => 0)

def quiescent_RDwIdeal [hRDwIdeal : Cert.RDwIdeal.Facts] : Prop :=
  ∀ (m : (ℓ : Loc Cert.RDwIdeal.nD Cert.RDwIdeal.τ Cert.RDwIdeal.sig) → Buf (Elt Ideal) ℓ) (g : Dev Cert.RDwIdeal.nD → PrngReg), Pre_RDwIdeal m →
    θ_run (Cert.RDwIdeal.defs (F := Ideal)) (onTc (τ := Cert.RDwIdeal.τ) (Cert.RDwIdeal.main (F := Ideal))) ⟨m, fun _ => 0, g⟩ (fun r => (∀ c : Dev Cert.RDwIdeal.nD,
      r.2.mem ((c.tc : Thread Cert.RDwIdeal.nD Cert.RDwIdeal.τ).loc Cert.RDwIdeal.main_arg0) = m ((c.tc : Thread Cert.RDwIdeal.nD Cert.RDwIdeal.τ).loc Cert.RDwIdeal.main_arg0)
      ∧ r.2.mem ((c.tc : Thread Cert.RDwIdeal.nD Cert.RDwIdeal.τ).loc Cert.RDwIdeal.main_arg1) = m ((c.tc : Thread Cert.RDwIdeal.nD Cert.RDwIdeal.τ).loc Cert.RDwIdeal.main_arg1))
      ∧ r.2.sem = fun _ => 0)

def quiescent_KAdam [hKAdam : Cert.KAdam.Facts] : Prop :=
  ∀ (m : (ℓ : Loc Cert.KAdam.nD Cert.KAdam.τ Cert.KAdam.sig) → Buf (Elt Bits) ℓ) (g : Dev Cert.KAdam.nD → PrngReg), Pre_KAdam m →
    θ_run (Cert.KAdam.defs (F := Bits)) (onTc (τ := Cert.KAdam.τ) (Cert.KAdam.main (F := Bits))) ⟨m, fun _ => 0, g⟩ (fun r => (∀ c : Dev Cert.KAdam.nD,
      r.2.mem ((c.tc : Thread Cert.KAdam.nD Cert.KAdam.τ).loc Cert.KAdam.main_arg0) = m ((c.tc : Thread Cert.KAdam.nD Cert.KAdam.τ).loc Cert.KAdam.main_arg0)
      ∧ r.2.mem ((c.tc : Thread Cert.KAdam.nD Cert.KAdam.τ).loc Cert.KAdam.main_arg1) = m ((c.tc : Thread Cert.KAdam.nD Cert.KAdam.τ).loc Cert.KAdam.main_arg1)
      ∧ r.2.mem ((c.tc : Thread Cert.KAdam.nD Cert.KAdam.τ).loc Cert.KAdam.main_arg2) = m ((c.tc : Thread Cert.KAdam.nD Cert.KAdam.τ).loc Cert.KAdam.main_arg2)
      ∧ r.2.mem ((c.tc : Thread Cert.KAdam.nD Cert.KAdam.τ).loc Cert.KAdam.main_arg3) = m ((c.tc : Thread Cert.KAdam.nD Cert.KAdam.τ).loc Cert.KAdam.main_arg3))
      ∧ r.2.sem = fun _ => 0)

def quiescent_KAdamIdeal [hKAdamIdeal : Cert.KAdamIdeal.Facts] : Prop :=
  ∀ (m : (ℓ : Loc Cert.KAdamIdeal.nD Cert.KAdamIdeal.τ Cert.KAdamIdeal.sig) → Buf (Elt Ideal) ℓ) (g : Dev Cert.KAdamIdeal.nD → PrngReg), Pre_KAdamIdeal m →
    θ_run (Cert.KAdamIdeal.defs (F := Ideal)) (onTc (τ := Cert.KAdamIdeal.τ) (Cert.KAdamIdeal.main (F := Ideal))) ⟨m, fun _ => 0, g⟩ (fun r => (∀ c : Dev Cert.KAdamIdeal.nD,
      r.2.mem ((c.tc : Thread Cert.KAdamIdeal.nD Cert.KAdamIdeal.τ).loc Cert.KAdamIdeal.main_arg0) = m ((c.tc : Thread Cert.KAdamIdeal.nD Cert.KAdamIdeal.τ).loc Cert.KAdamIdeal.main_arg0)
      ∧ r.2.mem ((c.tc : Thread Cert.KAdamIdeal.nD Cert.KAdamIdeal.τ).loc Cert.KAdamIdeal.main_arg1) = m ((c.tc : Thread Cert.KAdamIdeal.nD Cert.KAdamIdeal.τ).loc Cert.KAdamIdeal.main_arg1)
      ∧ r.2.mem ((c.tc : Thread Cert.KAdamIdeal.nD Cert.KAdamIdeal.τ).loc Cert.KAdamIdeal.main_arg2) = m ((c.tc : Thread Cert.KAdamIdeal.nD Cert.KAdamIdeal.τ).loc Cert.KAdamIdeal.main_arg2)
      ∧ r.2.mem ((c.tc : Thread Cert.KAdamIdeal.nD Cert.KAdamIdeal.τ).loc Cert.KAdamIdeal.main_arg3) = m ((c.tc : Thread Cert.KAdamIdeal.nD Cert.KAdamIdeal.τ).loc Cert.KAdamIdeal.main_arg3))
      ∧ r.2.sem = fun _ => 0)

def quiescent_RAdamIdeal [hRAdamIdeal : Cert.RAdamIdeal.Facts] : Prop :=
  ∀ (m : (ℓ : Loc Cert.RAdamIdeal.nD Cert.RAdamIdeal.τ Cert.RAdamIdeal.sig) → Buf (Elt Ideal) ℓ) (g : Dev Cert.RAdamIdeal.nD → PrngReg), Pre_RAdamIdeal m →
    θ_run (Cert.RAdamIdeal.defs (F := Ideal)) (onTc (τ := Cert.RAdamIdeal.τ) (Cert.RAdamIdeal.main (F := Ideal))) ⟨m, fun _ => 0, g⟩ (fun r => (∀ c : Dev Cert.RAdamIdeal.nD,
      r.2.mem ((c.tc : Thread Cert.RAdamIdeal.nD Cert.RAdamIdeal.τ).loc Cert.RAdamIdeal.main_arg0) = m ((c.tc : Thread Cert.RAdamIdeal.nD Cert.RAdamIdeal.τ).loc Cert.RAdamIdeal.main_arg0)
      ∧ r.2.mem ((c.tc : Thread Cert.RAdamIdeal.nD Cert.RAdamIdeal.τ).loc Cert.RAdamIdeal.main_arg1) = m ((c.tc : Thread Cert.RAdamIdeal.nD Cert.RAdamIdeal.τ).loc Cert.RAdamIdeal.main_arg1)
      ∧ r.2.mem ((c.tc : Thread Cert.RAdamIdeal.nD Cert.RAdamIdeal.τ).loc Cert.RAdamIdeal.main_arg2) = m ((c.tc : Thread Cert.RAdamIdeal.nD Cert.RAdamIdeal.τ).loc Cert.RAdamIdeal.main_arg2)
      ∧ r.2.mem ((c.tc : Thread Cert.RAdamIdeal.nD Cert.RAdamIdeal.τ).loc Cert.RAdamIdeal.main_arg3) = m ((c.tc : Thread Cert.RAdamIdeal.nD Cert.RAdamIdeal.τ).loc Cert.RAdamIdeal.main_arg3))
      ∧ r.2.sem = fun _ => 0)

def preserves_KLoss_KLossIdeal : Prop :=
  True

def algebraic_KLossIdeal_RLossIdeal [hKLossIdeal : Cert.KLossIdeal.Facts] [hRLossIdeal : Cert.RLossIdeal.Facts] : Prop :=
  ∀ (m : (ℓ : Loc Cert.KLossIdeal.nD Cert.KLossIdeal.τ Cert.KLossIdeal.sig) → Buf (Elt Ideal) ℓ) (g : Dev Cert.KLossIdeal.nD → PrngReg)
    (m' : (ℓ : Loc Cert.RLossIdeal.nD Cert.RLossIdeal.τ Cert.RLossIdeal.sig) → Buf (Elt Ideal) ℓ) (g' : Dev Cert.RLossIdeal.nD → PrngReg), Pre_KLossIdeal m →
    (∀ c : Dev Cert.KLossIdeal.nD,
      m' ((c.tc : Thread Cert.RLossIdeal.nD Cert.RLossIdeal.τ).loc Cert.RLossIdeal.main_arg0) = m ((c.tc : Thread Cert.KLossIdeal.nD Cert.KLossIdeal.τ).loc Cert.KLossIdeal.main_arg0)
      ∧ m' ((c.tc : Thread Cert.RLossIdeal.nD Cert.RLossIdeal.τ).loc Cert.RLossIdeal.main_arg1) = m ((c.tc : Thread Cert.KLossIdeal.nD Cert.KLossIdeal.τ).loc Cert.KLossIdeal.main_arg1)) →
    ∃ (v0 : (c : Dev Cert.KLossIdeal.nD) → Buf (Elt Ideal) ((c.tc : Thread Cert.KLossIdeal.nD Cert.KLossIdeal.τ).loc Cert.KLossIdeal.main_v2_0)) (v1 : (c : Dev Cert.KLossIdeal.nD) → Buf (Elt Ideal) ((c.tc : Thread Cert.KLossIdeal.nD Cert.KLossIdeal.τ).loc Cert.KLossIdeal.main_v2_1)) (v2 : (c : Dev Cert.KLossIdeal.nD) → Buf (Elt Ideal) ((c.tc : Thread Cert.KLossIdeal.nD Cert.KLossIdeal.τ).loc Cert.KLossIdeal.main_v2_2)),
      θ_run (Cert.KLossIdeal.defs (F := Ideal)) (onTc (τ := Cert.KLossIdeal.τ) (Cert.KLossIdeal.main (F := Ideal))) ⟨m, fun _ => 0, g⟩ (fun r => ∀ c : Dev Cert.KLossIdeal.nD,
          r.2.mem ((c.tc : Thread Cert.KLossIdeal.nD Cert.KLossIdeal.τ).loc Cert.KLossIdeal.main_v2_0) = v0 c
          ∧ r.2.mem ((c.tc : Thread Cert.KLossIdeal.nD Cert.KLossIdeal.τ).loc Cert.KLossIdeal.main_v2_1) = v1 c
          ∧ r.2.mem ((c.tc : Thread Cert.KLossIdeal.nD Cert.KLossIdeal.τ).loc Cert.KLossIdeal.main_v2_2) = v2 c
          ∧ r.2.mem ((c.tc : Thread Cert.KLossIdeal.nD Cert.KLossIdeal.τ).loc Cert.KLossIdeal.main_arg0) = m ((c.tc : Thread Cert.KLossIdeal.nD Cert.KLossIdeal.τ).loc Cert.KLossIdeal.main_arg0)
          ∧ r.2.mem ((c.tc : Thread Cert.KLossIdeal.nD Cert.KLossIdeal.τ).loc Cert.KLossIdeal.main_arg1) = m ((c.tc : Thread Cert.KLossIdeal.nD Cert.KLossIdeal.τ).loc Cert.KLossIdeal.main_arg1))
      ∧ θ_run (Cert.RLossIdeal.defs (F := Ideal)) (onTc (τ := Cert.RLossIdeal.τ) (Cert.RLossIdeal.main (F := Ideal))) ⟨m', fun _ => 0, g'⟩ (fun r => ∀ c : Dev Cert.RLossIdeal.nD,
          r.2.mem ((c.tc : Thread Cert.RLossIdeal.nD Cert.RLossIdeal.τ).loc Cert.RLossIdeal.main_v15) = v0 c
          ∧ r.2.mem ((c.tc : Thread Cert.RLossIdeal.nD Cert.RLossIdeal.τ).loc Cert.RLossIdeal.main_v16) = v1 c
          ∧ r.2.mem ((c.tc : Thread Cert.RLossIdeal.nD Cert.RLossIdeal.τ).loc Cert.RLossIdeal.main_v17) = v2 c
          ∧ r.2.mem ((c.tc : Thread Cert.RLossIdeal.nD Cert.RLossIdeal.τ).loc Cert.RLossIdeal.main_arg0) = m' ((c.tc : Thread Cert.RLossIdeal.nD Cert.RLossIdeal.τ).loc Cert.RLossIdeal.main_arg0)
          ∧ r.2.mem ((c.tc : Thread Cert.RLossIdeal.nD Cert.RLossIdeal.τ).loc Cert.RLossIdeal.main_arg1) = m' ((c.tc : Thread Cert.RLossIdeal.nD Cert.RLossIdeal.τ).loc Cert.RLossIdeal.main_arg1))

def preserves_KMla_KMlaIdeal : Prop :=
  IdealRules.named_const.Statement Cert.KMlaIdeal.κ "mask" .f32 0xF149F2CA#32 ⊥
  ∧ IdealRules.named_const.Statement Cert.KMlaIdeal.κ "c" .f32 0x3E16C740#32 ((((Real.sqrt 96) * (Real.log 2))⁻¹ : ℝ) : EReal)
  ∧ IdealRules.named_const.Statement Cert.KMlaIdeal.κ "scale" .f32 0x3DD105EC#32 (((Real.sqrt 96)⁻¹ : ℝ) : EReal)

def algebraic_KMlaIdeal_RMlaIdeal_pre_finite [hKMlaIdeal : Cert.KMlaIdeal.Facts] [hRMlaIdeal : Cert.RMlaIdeal.Facts] [hPre_finite : Cert.Pre_finite.Facts] : Prop :=
  ∀ (m : (ℓ : Loc Cert.KMlaIdeal.nD Cert.KMlaIdeal.τ Cert.KMlaIdeal.sig) → Buf (Elt Ideal) ℓ) (g : Dev Cert.KMlaIdeal.nD → PrngReg)
    (m' : (ℓ : Loc Cert.RMlaIdeal.nD Cert.RMlaIdeal.τ Cert.RMlaIdeal.sig) → Buf (Elt Ideal) ℓ) (g' : Dev Cert.RMlaIdeal.nD → PrngReg), Pre_KMlaIdeal_finite m →
    (∀ c : Dev Cert.KMlaIdeal.nD,
      m' ((c.tc : Thread Cert.RMlaIdeal.nD Cert.RMlaIdeal.τ).loc Cert.RMlaIdeal.main_arg0) = m ((c.tc : Thread Cert.KMlaIdeal.nD Cert.KMlaIdeal.τ).loc Cert.KMlaIdeal.main_arg0)
      ∧ m' ((c.tc : Thread Cert.RMlaIdeal.nD Cert.RMlaIdeal.τ).loc Cert.RMlaIdeal.main_arg1) = m ((c.tc : Thread Cert.KMlaIdeal.nD Cert.KMlaIdeal.τ).loc Cert.KMlaIdeal.main_arg1)
      ∧ m' ((c.tc : Thread Cert.RMlaIdeal.nD Cert.RMlaIdeal.τ).loc Cert.RMlaIdeal.main_arg2) = m ((c.tc : Thread Cert.KMlaIdeal.nD Cert.KMlaIdeal.τ).loc Cert.KMlaIdeal.main_arg2)
      ∧ m' ((c.tc : Thread Cert.RMlaIdeal.nD Cert.RMlaIdeal.τ).loc Cert.RMlaIdeal.main_arg3) = m ((c.tc : Thread Cert.KMlaIdeal.nD Cert.KMlaIdeal.τ).loc Cert.KMlaIdeal.main_arg3)) →
    ∃ (v0 : (c : Dev Cert.KMlaIdeal.nD) → Buf (Elt Ideal) ((c.tc : Thread Cert.KMlaIdeal.nD Cert.KMlaIdeal.τ).loc Cert.KMlaIdeal.main_v44_0)) (v1 : (c : Dev Cert.KMlaIdeal.nD) → Buf (Elt Ideal) ((c.tc : Thread Cert.KMlaIdeal.nD Cert.KMlaIdeal.τ).loc Cert.KMlaIdeal.main_v44_1)) (v2 : (c : Dev Cert.KMlaIdeal.nD) → Buf (Elt Ideal) ((c.tc : Thread Cert.KMlaIdeal.nD Cert.KMlaIdeal.τ).loc Cert.KMlaIdeal.main_v44_2)),
      θ_run (Cert.KMlaIdeal.defs (F := Ideal)) (onTc (τ := Cert.KMlaIdeal.τ) (Cert.KMlaIdeal.main (F := Ideal))) ⟨m, fun _ => 0, g⟩ (fun r => ∀ c : Dev Cert.KMlaIdeal.nD,
          r.2.mem ((c.tc : Thread Cert.KMlaIdeal.nD Cert.KMlaIdeal.τ).loc Cert.KMlaIdeal.main_v44_0) = v0 c
          ∧ r.2.mem ((c.tc : Thread Cert.KMlaIdeal.nD Cert.KMlaIdeal.τ).loc Cert.KMlaIdeal.main_v44_1) = v1 c
          ∧ r.2.mem ((c.tc : Thread Cert.KMlaIdeal.nD Cert.KMlaIdeal.τ).loc Cert.KMlaIdeal.main_v44_2) = v2 c
          ∧ r.2.mem ((c.tc : Thread Cert.KMlaIdeal.nD Cert.KMlaIdeal.τ).loc Cert.KMlaIdeal.main_arg0) = m ((c.tc : Thread Cert.KMlaIdeal.nD Cert.KMlaIdeal.τ).loc Cert.KMlaIdeal.main_arg0)
          ∧ r.2.mem ((c.tc : Thread Cert.KMlaIdeal.nD Cert.KMlaIdeal.τ).loc Cert.KMlaIdeal.main_arg1) = m ((c.tc : Thread Cert.KMlaIdeal.nD Cert.KMlaIdeal.τ).loc Cert.KMlaIdeal.main_arg1)
          ∧ r.2.mem ((c.tc : Thread Cert.KMlaIdeal.nD Cert.KMlaIdeal.τ).loc Cert.KMlaIdeal.main_arg2) = m ((c.tc : Thread Cert.KMlaIdeal.nD Cert.KMlaIdeal.τ).loc Cert.KMlaIdeal.main_arg2)
          ∧ r.2.mem ((c.tc : Thread Cert.KMlaIdeal.nD Cert.KMlaIdeal.τ).loc Cert.KMlaIdeal.main_arg3) = m ((c.tc : Thread Cert.KMlaIdeal.nD Cert.KMlaIdeal.τ).loc Cert.KMlaIdeal.main_arg3))
      ∧ θ_run (Cert.RMlaIdeal.defs (F := Ideal)) (onTc (τ := Cert.RMlaIdeal.τ) (Cert.RMlaIdeal.main (F := Ideal))) ⟨m', fun _ => 0, g'⟩ (fun r => ∀ c : Dev Cert.RMlaIdeal.nD,
          r.2.mem ((c.tc : Thread Cert.RMlaIdeal.nD Cert.RMlaIdeal.τ).loc Cert.RMlaIdeal.main_v67) = v0 c
          ∧ r.2.mem ((c.tc : Thread Cert.RMlaIdeal.nD Cert.RMlaIdeal.τ).loc Cert.RMlaIdeal.main_v69) = v1 c
          ∧ r.2.mem ((c.tc : Thread Cert.RMlaIdeal.nD Cert.RMlaIdeal.τ).loc Cert.RMlaIdeal.main_v71) = v2 c
          ∧ r.2.mem ((c.tc : Thread Cert.RMlaIdeal.nD Cert.RMlaIdeal.τ).loc Cert.RMlaIdeal.main_arg0) = m' ((c.tc : Thread Cert.RMlaIdeal.nD Cert.RMlaIdeal.τ).loc Cert.RMlaIdeal.main_arg0)
          ∧ r.2.mem ((c.tc : Thread Cert.RMlaIdeal.nD Cert.RMlaIdeal.τ).loc Cert.RMlaIdeal.main_arg1) = m' ((c.tc : Thread Cert.RMlaIdeal.nD Cert.RMlaIdeal.τ).loc Cert.RMlaIdeal.main_arg1)
          ∧ r.2.mem ((c.tc : Thread Cert.RMlaIdeal.nD Cert.RMlaIdeal.τ).loc Cert.RMlaIdeal.main_arg2) = m' ((c.tc : Thread Cert.RMlaIdeal.nD Cert.RMlaIdeal.τ).loc Cert.RMlaIdeal.main_arg2)
          ∧ r.2.mem ((c.tc : Thread Cert.RMlaIdeal.nD Cert.RMlaIdeal.τ).loc Cert.RMlaIdeal.main_arg3) = m' ((c.tc : Thread Cert.RMlaIdeal.nD Cert.RMlaIdeal.τ).loc Cert.RMlaIdeal.main_arg3))

def preserves_KGate_KGateIdeal : Prop :=
  True

def algebraic_KGateIdeal_RGateIdeal_pre_finite_factors [hKGateIdeal : Cert.KGateIdeal.Facts] [hRGateIdeal : Cert.RGateIdeal.Facts] [hPre_finite_factors : Cert.Pre_finite_factors.Facts] : Prop :=
  ∀ (m : (ℓ : Loc Cert.KGateIdeal.nD Cert.KGateIdeal.τ Cert.KGateIdeal.sig) → Buf (Elt Ideal) ℓ) (g : Dev Cert.KGateIdeal.nD → PrngReg)
    (m' : (ℓ : Loc Cert.RGateIdeal.nD Cert.RGateIdeal.τ Cert.RGateIdeal.sig) → Buf (Elt Ideal) ℓ) (g' : Dev Cert.RGateIdeal.nD → PrngReg), Pre_KGateIdeal_finite_factors m →
    (∀ c : Dev Cert.KGateIdeal.nD,
      m' ((c.tc : Thread Cert.RGateIdeal.nD Cert.RGateIdeal.τ).loc Cert.RGateIdeal.main_arg0) = m ((c.tc : Thread Cert.KGateIdeal.nD Cert.KGateIdeal.τ).loc Cert.KGateIdeal.main_arg0)
      ∧ m' ((c.tc : Thread Cert.RGateIdeal.nD Cert.RGateIdeal.τ).loc Cert.RGateIdeal.main_arg1) = m ((c.tc : Thread Cert.KGateIdeal.nD Cert.KGateIdeal.τ).loc Cert.KGateIdeal.main_arg1)
      ∧ m' ((c.tc : Thread Cert.RGateIdeal.nD Cert.RGateIdeal.τ).loc Cert.RGateIdeal.main_arg2) = m ((c.tc : Thread Cert.KGateIdeal.nD Cert.KGateIdeal.τ).loc Cert.KGateIdeal.main_arg2)
      ∧ m' ((c.tc : Thread Cert.RGateIdeal.nD Cert.RGateIdeal.τ).loc Cert.RGateIdeal.main_arg3) = m ((c.tc : Thread Cert.KGateIdeal.nD Cert.KGateIdeal.τ).loc Cert.KGateIdeal.main_arg3)) →
    ∃ (v0 : (c : Dev Cert.KGateIdeal.nD) → Buf (Elt Ideal) ((c.tc : Thread Cert.KGateIdeal.nD Cert.KGateIdeal.τ).loc Cert.KGateIdeal.main_v4_0)) (v1 : (c : Dev Cert.KGateIdeal.nD) → Buf (Elt Ideal) ((c.tc : Thread Cert.KGateIdeal.nD Cert.KGateIdeal.τ).loc Cert.KGateIdeal.main_v4_1)),
      θ_run (Cert.KGateIdeal.defs (F := Ideal)) (onTc (τ := Cert.KGateIdeal.τ) (Cert.KGateIdeal.main (F := Ideal))) ⟨m, fun _ => 0, g⟩ (fun r => ∀ c : Dev Cert.KGateIdeal.nD,
          r.2.mem ((c.tc : Thread Cert.KGateIdeal.nD Cert.KGateIdeal.τ).loc Cert.KGateIdeal.main_v4_0) = v0 c
          ∧ r.2.mem ((c.tc : Thread Cert.KGateIdeal.nD Cert.KGateIdeal.τ).loc Cert.KGateIdeal.main_v4_1) = v1 c
          ∧ r.2.mem ((c.tc : Thread Cert.KGateIdeal.nD Cert.KGateIdeal.τ).loc Cert.KGateIdeal.main_arg0) = m ((c.tc : Thread Cert.KGateIdeal.nD Cert.KGateIdeal.τ).loc Cert.KGateIdeal.main_arg0)
          ∧ r.2.mem ((c.tc : Thread Cert.KGateIdeal.nD Cert.KGateIdeal.τ).loc Cert.KGateIdeal.main_arg1) = m ((c.tc : Thread Cert.KGateIdeal.nD Cert.KGateIdeal.τ).loc Cert.KGateIdeal.main_arg1)
          ∧ r.2.mem ((c.tc : Thread Cert.KGateIdeal.nD Cert.KGateIdeal.τ).loc Cert.KGateIdeal.main_arg2) = m ((c.tc : Thread Cert.KGateIdeal.nD Cert.KGateIdeal.τ).loc Cert.KGateIdeal.main_arg2)
          ∧ r.2.mem ((c.tc : Thread Cert.KGateIdeal.nD Cert.KGateIdeal.τ).loc Cert.KGateIdeal.main_arg3) = m ((c.tc : Thread Cert.KGateIdeal.nD Cert.KGateIdeal.τ).loc Cert.KGateIdeal.main_arg3))
      ∧ θ_run (Cert.RGateIdeal.defs (F := Ideal)) (onTc (τ := Cert.RGateIdeal.τ) (Cert.RGateIdeal.main (F := Ideal))) ⟨m', fun _ => 0, g'⟩ (fun r => ∀ c : Dev Cert.RGateIdeal.nD,
          r.2.mem ((c.tc : Thread Cert.RGateIdeal.nD Cert.RGateIdeal.τ).loc Cert.RGateIdeal.main_v13) = v0 c
          ∧ r.2.mem ((c.tc : Thread Cert.RGateIdeal.nD Cert.RGateIdeal.τ).loc Cert.RGateIdeal.main_v14) = v1 c
          ∧ r.2.mem ((c.tc : Thread Cert.RGateIdeal.nD Cert.RGateIdeal.τ).loc Cert.RGateIdeal.main_arg0) = m' ((c.tc : Thread Cert.RGateIdeal.nD Cert.RGateIdeal.τ).loc Cert.RGateIdeal.main_arg0)
          ∧ r.2.mem ((c.tc : Thread Cert.RGateIdeal.nD Cert.RGateIdeal.τ).loc Cert.RGateIdeal.main_arg1) = m' ((c.tc : Thread Cert.RGateIdeal.nD Cert.RGateIdeal.τ).loc Cert.RGateIdeal.main_arg1)
          ∧ r.2.mem ((c.tc : Thread Cert.RGateIdeal.nD Cert.RGateIdeal.τ).loc Cert.RGateIdeal.main_arg2) = m' ((c.tc : Thread Cert.RGateIdeal.nD Cert.RGateIdeal.τ).loc Cert.RGateIdeal.main_arg2)
          ∧ r.2.mem ((c.tc : Thread Cert.RGateIdeal.nD Cert.RGateIdeal.τ).loc Cert.RGateIdeal.main_arg3) = m' ((c.tc : Thread Cert.RGateIdeal.nD Cert.RGateIdeal.τ).loc Cert.RGateIdeal.main_arg3))

def preserves_KNorm_KNormIdeal : Prop :=
  True

def algebraic_KNormIdeal_RNormIdeal [hKNormIdeal : Cert.KNormIdeal.Facts] [hRNormIdeal : Cert.RNormIdeal.Facts] : Prop :=
  ∀ (m : (ℓ : Loc Cert.KNormIdeal.nD Cert.KNormIdeal.τ Cert.KNormIdeal.sig) → Buf (Elt Ideal) ℓ) (g : Dev Cert.KNormIdeal.nD → PrngReg)
    (m' : (ℓ : Loc Cert.RNormIdeal.nD Cert.RNormIdeal.τ Cert.RNormIdeal.sig) → Buf (Elt Ideal) ℓ) (g' : Dev Cert.RNormIdeal.nD → PrngReg), Pre_KNormIdeal m →
    (∀ c : Dev Cert.KNormIdeal.nD,
      m' ((c.tc : Thread Cert.RNormIdeal.nD Cert.RNormIdeal.τ).loc Cert.RNormIdeal.main_arg0) = m ((c.tc : Thread Cert.KNormIdeal.nD Cert.KNormIdeal.τ).loc Cert.KNormIdeal.main_arg0)
      ∧ m' ((c.tc : Thread Cert.RNormIdeal.nD Cert.RNormIdeal.τ).loc Cert.RNormIdeal.main_arg1) = m ((c.tc : Thread Cert.KNormIdeal.nD Cert.KNormIdeal.τ).loc Cert.KNormIdeal.main_arg1)
      ∧ m' ((c.tc : Thread Cert.RNormIdeal.nD Cert.RNormIdeal.τ).loc Cert.RNormIdeal.main_arg2) = m ((c.tc : Thread Cert.KNormIdeal.nD Cert.KNormIdeal.τ).loc Cert.KNormIdeal.main_arg2)
      ∧ m' ((c.tc : Thread Cert.RNormIdeal.nD Cert.RNormIdeal.τ).loc Cert.RNormIdeal.main_arg3) = m ((c.tc : Thread Cert.KNormIdeal.nD Cert.KNormIdeal.τ).loc Cert.KNormIdeal.main_arg3)
      ∧ m' ((c.tc : Thread Cert.RNormIdeal.nD Cert.RNormIdeal.τ).loc Cert.RNormIdeal.main_arg4) = m ((c.tc : Thread Cert.KNormIdeal.nD Cert.KNormIdeal.τ).loc Cert.KNormIdeal.main_arg4)
      ∧ m' ((c.tc : Thread Cert.RNormIdeal.nD Cert.RNormIdeal.τ).loc Cert.RNormIdeal.main_arg5) = m ((c.tc : Thread Cert.KNormIdeal.nD Cert.KNormIdeal.τ).loc Cert.KNormIdeal.main_arg5)
      ∧ m' ((c.tc : Thread Cert.RNormIdeal.nD Cert.RNormIdeal.τ).loc Cert.RNormIdeal.main_arg6) = m ((c.tc : Thread Cert.KNormIdeal.nD Cert.KNormIdeal.τ).loc Cert.KNormIdeal.main_arg6)) →
    ∃ (v0 : (c : Dev Cert.KNormIdeal.nD) → Buf (Elt Ideal) ((c.tc : Thread Cert.KNormIdeal.nD Cert.KNormIdeal.τ).loc Cert.KNormIdeal.main_v7_0)) (v1 : (c : Dev Cert.KNormIdeal.nD) → Buf (Elt Ideal) ((c.tc : Thread Cert.KNormIdeal.nD Cert.KNormIdeal.τ).loc Cert.KNormIdeal.main_v7_1)) (v2 : (c : Dev Cert.KNormIdeal.nD) → Buf (Elt Ideal) ((c.tc : Thread Cert.KNormIdeal.nD Cert.KNormIdeal.τ).loc Cert.KNormIdeal.main_v7_2)),
      θ_run (Cert.KNormIdeal.defs (F := Ideal)) (onTc (τ := Cert.KNormIdeal.τ) (Cert.KNormIdeal.main (F := Ideal))) ⟨m, fun _ => 0, g⟩ (fun r => ∀ c : Dev Cert.KNormIdeal.nD,
          r.2.mem ((c.tc : Thread Cert.KNormIdeal.nD Cert.KNormIdeal.τ).loc Cert.KNormIdeal.main_v7_0) = v0 c
          ∧ r.2.mem ((c.tc : Thread Cert.KNormIdeal.nD Cert.KNormIdeal.τ).loc Cert.KNormIdeal.main_v7_1) = v1 c
          ∧ r.2.mem ((c.tc : Thread Cert.KNormIdeal.nD Cert.KNormIdeal.τ).loc Cert.KNormIdeal.main_v7_2) = v2 c
          ∧ r.2.mem ((c.tc : Thread Cert.KNormIdeal.nD Cert.KNormIdeal.τ).loc Cert.KNormIdeal.main_arg0) = m ((c.tc : Thread Cert.KNormIdeal.nD Cert.KNormIdeal.τ).loc Cert.KNormIdeal.main_arg0)
          ∧ r.2.mem ((c.tc : Thread Cert.KNormIdeal.nD Cert.KNormIdeal.τ).loc Cert.KNormIdeal.main_arg1) = m ((c.tc : Thread Cert.KNormIdeal.nD Cert.KNormIdeal.τ).loc Cert.KNormIdeal.main_arg1)
          ∧ r.2.mem ((c.tc : Thread Cert.KNormIdeal.nD Cert.KNormIdeal.τ).loc Cert.KNormIdeal.main_arg2) = m ((c.tc : Thread Cert.KNormIdeal.nD Cert.KNormIdeal.τ).loc Cert.KNormIdeal.main_arg2)
          ∧ r.2.mem ((c.tc : Thread Cert.KNormIdeal.nD Cert.KNormIdeal.τ).loc Cert.KNormIdeal.main_arg3) = m ((c.tc : Thread Cert.KNormIdeal.nD Cert.KNormIdeal.τ).loc Cert.KNormIdeal.main_arg3)
          ∧ r.2.mem ((c.tc : Thread Cert.KNormIdeal.nD Cert.KNormIdeal.τ).loc Cert.KNormIdeal.main_arg4) = m ((c.tc : Thread Cert.KNormIdeal.nD Cert.KNormIdeal.τ).loc Cert.KNormIdeal.main_arg4)
          ∧ r.2.mem ((c.tc : Thread Cert.KNormIdeal.nD Cert.KNormIdeal.τ).loc Cert.KNormIdeal.main_arg5) = m ((c.tc : Thread Cert.KNormIdeal.nD Cert.KNormIdeal.τ).loc Cert.KNormIdeal.main_arg5)
          ∧ r.2.mem ((c.tc : Thread Cert.KNormIdeal.nD Cert.KNormIdeal.τ).loc Cert.KNormIdeal.main_arg6) = m ((c.tc : Thread Cert.KNormIdeal.nD Cert.KNormIdeal.τ).loc Cert.KNormIdeal.main_arg6))
      ∧ θ_run (Cert.RNormIdeal.defs (F := Ideal)) (onTc (τ := Cert.RNormIdeal.τ) (Cert.RNormIdeal.main (F := Ideal))) ⟨m', fun _ => 0, g'⟩ (fun r => ∀ c : Dev Cert.RNormIdeal.nD,
          r.2.mem ((c.tc : Thread Cert.RNormIdeal.nD Cert.RNormIdeal.τ).loc Cert.RNormIdeal.main_v45) = v0 c
          ∧ r.2.mem ((c.tc : Thread Cert.RNormIdeal.nD Cert.RNormIdeal.τ).loc Cert.RNormIdeal.main_v46) = v1 c
          ∧ r.2.mem ((c.tc : Thread Cert.RNormIdeal.nD Cert.RNormIdeal.τ).loc Cert.RNormIdeal.main_v47) = v2 c
          ∧ r.2.mem ((c.tc : Thread Cert.RNormIdeal.nD Cert.RNormIdeal.τ).loc Cert.RNormIdeal.main_arg0) = m' ((c.tc : Thread Cert.RNormIdeal.nD Cert.RNormIdeal.τ).loc Cert.RNormIdeal.main_arg0)
          ∧ r.2.mem ((c.tc : Thread Cert.RNormIdeal.nD Cert.RNormIdeal.τ).loc Cert.RNormIdeal.main_arg1) = m' ((c.tc : Thread Cert.RNormIdeal.nD Cert.RNormIdeal.τ).loc Cert.RNormIdeal.main_arg1)
          ∧ r.2.mem ((c.tc : Thread Cert.RNormIdeal.nD Cert.RNormIdeal.τ).loc Cert.RNormIdeal.main_arg2) = m' ((c.tc : Thread Cert.RNormIdeal.nD Cert.RNormIdeal.τ).loc Cert.RNormIdeal.main_arg2)
          ∧ r.2.mem ((c.tc : Thread Cert.RNormIdeal.nD Cert.RNormIdeal.τ).loc Cert.RNormIdeal.main_arg3) = m' ((c.tc : Thread Cert.RNormIdeal.nD Cert.RNormIdeal.τ).loc Cert.RNormIdeal.main_arg3)
          ∧ r.2.mem ((c.tc : Thread Cert.RNormIdeal.nD Cert.RNormIdeal.τ).loc Cert.RNormIdeal.main_arg4) = m' ((c.tc : Thread Cert.RNormIdeal.nD Cert.RNormIdeal.τ).loc Cert.RNormIdeal.main_arg4)
          ∧ r.2.mem ((c.tc : Thread Cert.RNormIdeal.nD Cert.RNormIdeal.τ).loc Cert.RNormIdeal.main_arg5) = m' ((c.tc : Thread Cert.RNormIdeal.nD Cert.RNormIdeal.τ).loc Cert.RNormIdeal.main_arg5)
          ∧ r.2.mem ((c.tc : Thread Cert.RNormIdeal.nD Cert.RNormIdeal.τ).loc Cert.RNormIdeal.main_arg6) = m' ((c.tc : Thread Cert.RNormIdeal.nD Cert.RNormIdeal.τ).loc Cert.RNormIdeal.main_arg6))

def preserves_KMerge_KMergeIdeal : Prop :=
  True

def algebraic_KMergeIdeal_RMergeIdeal [hKMergeIdeal : Cert.KMergeIdeal.Facts] [hRMergeIdeal : Cert.RMergeIdeal.Facts] : Prop :=
  ∀ (m : (ℓ : Loc Cert.KMergeIdeal.nD Cert.KMergeIdeal.τ Cert.KMergeIdeal.sig) → Buf (Elt Ideal) ℓ) (g : Dev Cert.KMergeIdeal.nD → PrngReg)
    (m' : (ℓ : Loc Cert.RMergeIdeal.nD Cert.RMergeIdeal.τ Cert.RMergeIdeal.sig) → Buf (Elt Ideal) ℓ) (g' : Dev Cert.RMergeIdeal.nD → PrngReg), Pre_KMergeIdeal m →
    (∀ c : Dev Cert.KMergeIdeal.nD,
      m' ((c.tc : Thread Cert.RMergeIdeal.nD Cert.RMergeIdeal.τ).loc Cert.RMergeIdeal.main_arg0) = m ((c.tc : Thread Cert.KMergeIdeal.nD Cert.KMergeIdeal.τ).loc Cert.KMergeIdeal.main_arg0)
      ∧ m' ((c.tc : Thread Cert.RMergeIdeal.nD Cert.RMergeIdeal.τ).loc Cert.RMergeIdeal.main_arg1) = m ((c.tc : Thread Cert.KMergeIdeal.nD Cert.KMergeIdeal.τ).loc Cert.KMergeIdeal.main_arg1)
      ∧ m' ((c.tc : Thread Cert.RMergeIdeal.nD Cert.RMergeIdeal.τ).loc Cert.RMergeIdeal.main_arg2) = m ((c.tc : Thread Cert.KMergeIdeal.nD Cert.KMergeIdeal.τ).loc Cert.KMergeIdeal.main_arg2)
      ∧ m' ((c.tc : Thread Cert.RMergeIdeal.nD Cert.RMergeIdeal.τ).loc Cert.RMergeIdeal.main_arg3) = m ((c.tc : Thread Cert.KMergeIdeal.nD Cert.KMergeIdeal.τ).loc Cert.KMergeIdeal.main_arg3)
      ∧ m' ((c.tc : Thread Cert.RMergeIdeal.nD Cert.RMergeIdeal.τ).loc Cert.RMergeIdeal.main_arg4) = m ((c.tc : Thread Cert.KMergeIdeal.nD Cert.KMergeIdeal.τ).loc Cert.KMergeIdeal.main_arg4)
      ∧ m' ((c.tc : Thread Cert.RMergeIdeal.nD Cert.RMergeIdeal.τ).loc Cert.RMergeIdeal.main_arg5) = m ((c.tc : Thread Cert.KMergeIdeal.nD Cert.KMergeIdeal.τ).loc Cert.KMergeIdeal.main_arg5)
      ∧ m' ((c.tc : Thread Cert.RMergeIdeal.nD Cert.RMergeIdeal.τ).loc Cert.RMergeIdeal.main_arg6) = m ((c.tc : Thread Cert.KMergeIdeal.nD Cert.KMergeIdeal.τ).loc Cert.KMergeIdeal.main_arg6)) →
    ∃ (v0 : (c : Dev Cert.KMergeIdeal.nD) → Buf (Elt Ideal) ((c.tc : Thread Cert.KMergeIdeal.nD Cert.KMergeIdeal.τ).loc Cert.KMergeIdeal.main_v44_0)) (v1 : (c : Dev Cert.KMergeIdeal.nD) → Buf (Elt Ideal) ((c.tc : Thread Cert.KMergeIdeal.nD Cert.KMergeIdeal.τ).loc Cert.KMergeIdeal.main_v44_1)) (v2 : (c : Dev Cert.KMergeIdeal.nD) → Buf (Elt Ideal) ((c.tc : Thread Cert.KMergeIdeal.nD Cert.KMergeIdeal.τ).loc Cert.KMergeIdeal.main_v44_2)) (v3 : (c : Dev Cert.KMergeIdeal.nD) → Buf (Elt Ideal) ((c.tc : Thread Cert.KMergeIdeal.nD Cert.KMergeIdeal.τ).loc Cert.KMergeIdeal.main_v44_3)) (v4 : (c : Dev Cert.KMergeIdeal.nD) → Buf (Elt Ideal) ((c.tc : Thread Cert.KMergeIdeal.nD Cert.KMergeIdeal.τ).loc Cert.KMergeIdeal.main_v44_4)) (v5 : (c : Dev Cert.KMergeIdeal.nD) → Buf (Elt Ideal) ((c.tc : Thread Cert.KMergeIdeal.nD Cert.KMergeIdeal.τ).loc Cert.KMergeIdeal.main_v44_5)),
      θ_run (Cert.KMergeIdeal.defs (F := Ideal)) (onTc (τ := Cert.KMergeIdeal.τ) (Cert.KMergeIdeal.main (F := Ideal))) ⟨m, fun _ => 0, g⟩ (fun r => ∀ c : Dev Cert.KMergeIdeal.nD,
          r.2.mem ((c.tc : Thread Cert.KMergeIdeal.nD Cert.KMergeIdeal.τ).loc Cert.KMergeIdeal.main_v44_0) = v0 c
          ∧ r.2.mem ((c.tc : Thread Cert.KMergeIdeal.nD Cert.KMergeIdeal.τ).loc Cert.KMergeIdeal.main_v44_1) = v1 c
          ∧ r.2.mem ((c.tc : Thread Cert.KMergeIdeal.nD Cert.KMergeIdeal.τ).loc Cert.KMergeIdeal.main_v44_2) = v2 c
          ∧ r.2.mem ((c.tc : Thread Cert.KMergeIdeal.nD Cert.KMergeIdeal.τ).loc Cert.KMergeIdeal.main_v44_3) = v3 c
          ∧ r.2.mem ((c.tc : Thread Cert.KMergeIdeal.nD Cert.KMergeIdeal.τ).loc Cert.KMergeIdeal.main_v44_4) = v4 c
          ∧ r.2.mem ((c.tc : Thread Cert.KMergeIdeal.nD Cert.KMergeIdeal.τ).loc Cert.KMergeIdeal.main_v44_5) = v5 c
          ∧ r.2.mem ((c.tc : Thread Cert.KMergeIdeal.nD Cert.KMergeIdeal.τ).loc Cert.KMergeIdeal.main_arg0) = m ((c.tc : Thread Cert.KMergeIdeal.nD Cert.KMergeIdeal.τ).loc Cert.KMergeIdeal.main_arg0)
          ∧ r.2.mem ((c.tc : Thread Cert.KMergeIdeal.nD Cert.KMergeIdeal.τ).loc Cert.KMergeIdeal.main_arg1) = m ((c.tc : Thread Cert.KMergeIdeal.nD Cert.KMergeIdeal.τ).loc Cert.KMergeIdeal.main_arg1)
          ∧ r.2.mem ((c.tc : Thread Cert.KMergeIdeal.nD Cert.KMergeIdeal.τ).loc Cert.KMergeIdeal.main_arg2) = m ((c.tc : Thread Cert.KMergeIdeal.nD Cert.KMergeIdeal.τ).loc Cert.KMergeIdeal.main_arg2)
          ∧ r.2.mem ((c.tc : Thread Cert.KMergeIdeal.nD Cert.KMergeIdeal.τ).loc Cert.KMergeIdeal.main_arg3) = m ((c.tc : Thread Cert.KMergeIdeal.nD Cert.KMergeIdeal.τ).loc Cert.KMergeIdeal.main_arg3)
          ∧ r.2.mem ((c.tc : Thread Cert.KMergeIdeal.nD Cert.KMergeIdeal.τ).loc Cert.KMergeIdeal.main_arg4) = m ((c.tc : Thread Cert.KMergeIdeal.nD Cert.KMergeIdeal.τ).loc Cert.KMergeIdeal.main_arg4)
          ∧ r.2.mem ((c.tc : Thread Cert.KMergeIdeal.nD Cert.KMergeIdeal.τ).loc Cert.KMergeIdeal.main_arg5) = m ((c.tc : Thread Cert.KMergeIdeal.nD Cert.KMergeIdeal.τ).loc Cert.KMergeIdeal.main_arg5)
          ∧ r.2.mem ((c.tc : Thread Cert.KMergeIdeal.nD Cert.KMergeIdeal.τ).loc Cert.KMergeIdeal.main_arg6) = m ((c.tc : Thread Cert.KMergeIdeal.nD Cert.KMergeIdeal.τ).loc Cert.KMergeIdeal.main_arg6))
      ∧ θ_run (Cert.RMergeIdeal.defs (F := Ideal)) (onTc (τ := Cert.RMergeIdeal.τ) (Cert.RMergeIdeal.main (F := Ideal))) ⟨m', fun _ => 0, g'⟩ (fun r => ∀ c : Dev Cert.RMergeIdeal.nD,
          r.2.mem ((c.tc : Thread Cert.RMergeIdeal.nD Cert.RMergeIdeal.τ).loc Cert.RMergeIdeal.main_v44) = v0 c
          ∧ r.2.mem ((c.tc : Thread Cert.RMergeIdeal.nD Cert.RMergeIdeal.τ).loc Cert.RMergeIdeal.main_v45) = v1 c
          ∧ r.2.mem ((c.tc : Thread Cert.RMergeIdeal.nD Cert.RMergeIdeal.τ).loc Cert.RMergeIdeal.main_v46) = v2 c
          ∧ r.2.mem ((c.tc : Thread Cert.RMergeIdeal.nD Cert.RMergeIdeal.τ).loc Cert.RMergeIdeal.main_v47) = v3 c
          ∧ r.2.mem ((c.tc : Thread Cert.RMergeIdeal.nD Cert.RMergeIdeal.τ).loc Cert.RMergeIdeal.main_v48) = v4 c
          ∧ r.2.mem ((c.tc : Thread Cert.RMergeIdeal.nD Cert.RMergeIdeal.τ).loc Cert.RMergeIdeal.main_v49) = v5 c
          ∧ r.2.mem ((c.tc : Thread Cert.RMergeIdeal.nD Cert.RMergeIdeal.τ).loc Cert.RMergeIdeal.main_arg0) = m' ((c.tc : Thread Cert.RMergeIdeal.nD Cert.RMergeIdeal.τ).loc Cert.RMergeIdeal.main_arg0)
          ∧ r.2.mem ((c.tc : Thread Cert.RMergeIdeal.nD Cert.RMergeIdeal.τ).loc Cert.RMergeIdeal.main_arg1) = m' ((c.tc : Thread Cert.RMergeIdeal.nD Cert.RMergeIdeal.τ).loc Cert.RMergeIdeal.main_arg1)
          ∧ r.2.mem ((c.tc : Thread Cert.RMergeIdeal.nD Cert.RMergeIdeal.τ).loc Cert.RMergeIdeal.main_arg2) = m' ((c.tc : Thread Cert.RMergeIdeal.nD Cert.RMergeIdeal.τ).loc Cert.RMergeIdeal.main_arg2)
          ∧ r.2.mem ((c.tc : Thread Cert.RMergeIdeal.nD Cert.RMergeIdeal.τ).loc Cert.RMergeIdeal.main_arg3) = m' ((c.tc : Thread Cert.RMergeIdeal.nD Cert.RMergeIdeal.τ).loc Cert.RMergeIdeal.main_arg3)
          ∧ r.2.mem ((c.tc : Thread Cert.RMergeIdeal.nD Cert.RMergeIdeal.τ).loc Cert.RMergeIdeal.main_arg4) = m' ((c.tc : Thread Cert.RMergeIdeal.nD Cert.RMergeIdeal.τ).loc Cert.RMergeIdeal.main_arg4)
          ∧ r.2.mem ((c.tc : Thread Cert.RMergeIdeal.nD Cert.RMergeIdeal.τ).loc Cert.RMergeIdeal.main_arg5) = m' ((c.tc : Thread Cert.RMergeIdeal.nD Cert.RMergeIdeal.τ).loc Cert.RMergeIdeal.main_arg5)
          ∧ r.2.mem ((c.tc : Thread Cert.RMergeIdeal.nD Cert.RMergeIdeal.τ).loc Cert.RMergeIdeal.main_arg6) = m' ((c.tc : Thread Cert.RMergeIdeal.nD Cert.RMergeIdeal.τ).loc Cert.RMergeIdeal.main_arg6))

def preserves_KDh_KDhIdeal : Prop :=
  True

def algebraic_KDhIdeal_RDhIdeal [hKDhIdeal : Cert.KDhIdeal.Facts] [hRDhIdeal : Cert.RDhIdeal.Facts] : Prop :=
  ∀ (m : (ℓ : Loc Cert.KDhIdeal.nD Cert.KDhIdeal.τ Cert.KDhIdeal.sig) → Buf (Elt Ideal) ℓ) (g : Dev Cert.KDhIdeal.nD → PrngReg)
    (m' : (ℓ : Loc Cert.RDhIdeal.nD Cert.RDhIdeal.τ Cert.RDhIdeal.sig) → Buf (Elt Ideal) ℓ) (g' : Dev Cert.RDhIdeal.nD → PrngReg), Pre_KDhIdeal m →
    (∀ c : Dev Cert.KDhIdeal.nD,
      m' ((c.tc : Thread Cert.RDhIdeal.nD Cert.RDhIdeal.τ).loc Cert.RDhIdeal.main_arg0) = m ((c.tc : Thread Cert.KDhIdeal.nD Cert.KDhIdeal.τ).loc Cert.KDhIdeal.main_arg0)
      ∧ m' ((c.tc : Thread Cert.RDhIdeal.nD Cert.RDhIdeal.τ).loc Cert.RDhIdeal.main_arg1) = m ((c.tc : Thread Cert.KDhIdeal.nD Cert.KDhIdeal.τ).loc Cert.KDhIdeal.main_arg1)
      ∧ m' ((c.tc : Thread Cert.RDhIdeal.nD Cert.RDhIdeal.τ).loc Cert.RDhIdeal.main_arg2) = m ((c.tc : Thread Cert.KDhIdeal.nD Cert.KDhIdeal.τ).loc Cert.KDhIdeal.main_arg2)
      ∧ m' ((c.tc : Thread Cert.RDhIdeal.nD Cert.RDhIdeal.τ).loc Cert.RDhIdeal.main_arg3) = m ((c.tc : Thread Cert.KDhIdeal.nD Cert.KDhIdeal.τ).loc Cert.KDhIdeal.main_arg3)
      ∧ m' ((c.tc : Thread Cert.RDhIdeal.nD Cert.RDhIdeal.τ).loc Cert.RDhIdeal.main_arg4) = m ((c.tc : Thread Cert.KDhIdeal.nD Cert.KDhIdeal.τ).loc Cert.KDhIdeal.main_arg4)) →
    ∃ (v0 : (c : Dev Cert.KDhIdeal.nD) → Buf (Elt Ideal) ((c.tc : Thread Cert.KDhIdeal.nD Cert.KDhIdeal.τ).loc Cert.KDhIdeal.main_v41_0)) (v1 : (c : Dev Cert.KDhIdeal.nD) → Buf (Elt Ideal) ((c.tc : Thread Cert.KDhIdeal.nD Cert.KDhIdeal.τ).loc Cert.KDhIdeal.main_v41_1)) (v2 : (c : Dev Cert.KDhIdeal.nD) → Buf (Elt Ideal) ((c.tc : Thread Cert.KDhIdeal.nD Cert.KDhIdeal.τ).loc Cert.KDhIdeal.main_v41_2)),
      θ_run (Cert.KDhIdeal.defs (F := Ideal)) (onTc (τ := Cert.KDhIdeal.τ) (Cert.KDhIdeal.main (F := Ideal))) ⟨m, fun _ => 0, g⟩ (fun r => ∀ c : Dev Cert.KDhIdeal.nD,
          r.2.mem ((c.tc : Thread Cert.KDhIdeal.nD Cert.KDhIdeal.τ).loc Cert.KDhIdeal.main_v41_0) = v0 c
          ∧ r.2.mem ((c.tc : Thread Cert.KDhIdeal.nD Cert.KDhIdeal.τ).loc Cert.KDhIdeal.main_v41_1) = v1 c
          ∧ r.2.mem ((c.tc : Thread Cert.KDhIdeal.nD Cert.KDhIdeal.τ).loc Cert.KDhIdeal.main_v41_2) = v2 c
          ∧ r.2.mem ((c.tc : Thread Cert.KDhIdeal.nD Cert.KDhIdeal.τ).loc Cert.KDhIdeal.main_arg0) = m ((c.tc : Thread Cert.KDhIdeal.nD Cert.KDhIdeal.τ).loc Cert.KDhIdeal.main_arg0)
          ∧ r.2.mem ((c.tc : Thread Cert.KDhIdeal.nD Cert.KDhIdeal.τ).loc Cert.KDhIdeal.main_arg1) = m ((c.tc : Thread Cert.KDhIdeal.nD Cert.KDhIdeal.τ).loc Cert.KDhIdeal.main_arg1)
          ∧ r.2.mem ((c.tc : Thread Cert.KDhIdeal.nD Cert.KDhIdeal.τ).loc Cert.KDhIdeal.main_arg2) = m ((c.tc : Thread Cert.KDhIdeal.nD Cert.KDhIdeal.τ).loc Cert.KDhIdeal.main_arg2)
          ∧ r.2.mem ((c.tc : Thread Cert.KDhIdeal.nD Cert.KDhIdeal.τ).loc Cert.KDhIdeal.main_arg3) = m ((c.tc : Thread Cert.KDhIdeal.nD Cert.KDhIdeal.τ).loc Cert.KDhIdeal.main_arg3)
          ∧ r.2.mem ((c.tc : Thread Cert.KDhIdeal.nD Cert.KDhIdeal.τ).loc Cert.KDhIdeal.main_arg4) = m ((c.tc : Thread Cert.KDhIdeal.nD Cert.KDhIdeal.τ).loc Cert.KDhIdeal.main_arg4))
      ∧ θ_run (Cert.RDhIdeal.defs (F := Ideal)) (onTc (τ := Cert.RDhIdeal.τ) (Cert.RDhIdeal.main (F := Ideal))) ⟨m', fun _ => 0, g'⟩ (fun r => ∀ c : Dev Cert.RDhIdeal.nD,
          r.2.mem ((c.tc : Thread Cert.RDhIdeal.nD Cert.RDhIdeal.τ).loc Cert.RDhIdeal.main_v40) = v0 c
          ∧ r.2.mem ((c.tc : Thread Cert.RDhIdeal.nD Cert.RDhIdeal.τ).loc Cert.RDhIdeal.main_v41) = v1 c
          ∧ r.2.mem ((c.tc : Thread Cert.RDhIdeal.nD Cert.RDhIdeal.τ).loc Cert.RDhIdeal.main_v42) = v2 c
          ∧ r.2.mem ((c.tc : Thread Cert.RDhIdeal.nD Cert.RDhIdeal.τ).loc Cert.RDhIdeal.main_arg0) = m' ((c.tc : Thread Cert.RDhIdeal.nD Cert.RDhIdeal.τ).loc Cert.RDhIdeal.main_arg0)
          ∧ r.2.mem ((c.tc : Thread Cert.RDhIdeal.nD Cert.RDhIdeal.τ).loc Cert.RDhIdeal.main_arg1) = m' ((c.tc : Thread Cert.RDhIdeal.nD Cert.RDhIdeal.τ).loc Cert.RDhIdeal.main_arg1)
          ∧ r.2.mem ((c.tc : Thread Cert.RDhIdeal.nD Cert.RDhIdeal.τ).loc Cert.RDhIdeal.main_arg2) = m' ((c.tc : Thread Cert.RDhIdeal.nD Cert.RDhIdeal.τ).loc Cert.RDhIdeal.main_arg2)
          ∧ r.2.mem ((c.tc : Thread Cert.RDhIdeal.nD Cert.RDhIdeal.τ).loc Cert.RDhIdeal.main_arg3) = m' ((c.tc : Thread Cert.RDhIdeal.nD Cert.RDhIdeal.τ).loc Cert.RDhIdeal.main_arg3)
          ∧ r.2.mem ((c.tc : Thread Cert.RDhIdeal.nD Cert.RDhIdeal.τ).loc Cert.RDhIdeal.main_arg4) = m' ((c.tc : Thread Cert.RDhIdeal.nD Cert.RDhIdeal.τ).loc Cert.RDhIdeal.main_arg4))

def preserves_KKv_KKvIdeal : Prop :=
  True

def algebraic_KKvIdeal_RKvIdeal [hKKvIdeal : Cert.KKvIdeal.Facts] [hRKvIdeal : Cert.RKvIdeal.Facts] : Prop :=
  ∀ (m : (ℓ : Loc Cert.KKvIdeal.nD Cert.KKvIdeal.τ Cert.KKvIdeal.sig) → Buf (Elt Ideal) ℓ) (g : Dev Cert.KKvIdeal.nD → PrngReg)
    (m' : (ℓ : Loc Cert.RKvIdeal.nD Cert.RKvIdeal.τ Cert.RKvIdeal.sig) → Buf (Elt Ideal) ℓ) (g' : Dev Cert.RKvIdeal.nD → PrngReg), Pre_KKvIdeal m →
    (∀ c : Dev Cert.KKvIdeal.nD,
      m' ((c.tc : Thread Cert.RKvIdeal.nD Cert.RKvIdeal.τ).loc Cert.RKvIdeal.main_arg0) = m ((c.tc : Thread Cert.KKvIdeal.nD Cert.KKvIdeal.τ).loc Cert.KKvIdeal.main_arg0)
      ∧ m' ((c.tc : Thread Cert.RKvIdeal.nD Cert.RKvIdeal.τ).loc Cert.RKvIdeal.main_arg1) = m ((c.tc : Thread Cert.KKvIdeal.nD Cert.KKvIdeal.τ).loc Cert.KKvIdeal.main_arg1)
      ∧ m' ((c.tc : Thread Cert.RKvIdeal.nD Cert.RKvIdeal.τ).loc Cert.RKvIdeal.main_arg2) = m ((c.tc : Thread Cert.KKvIdeal.nD Cert.KKvIdeal.τ).loc Cert.KKvIdeal.main_arg2)
      ∧ m' ((c.tc : Thread Cert.RKvIdeal.nD Cert.RKvIdeal.τ).loc Cert.RKvIdeal.main_arg3) = m ((c.tc : Thread Cert.KKvIdeal.nD Cert.KKvIdeal.τ).loc Cert.KKvIdeal.main_arg3)) →
    ∃ (v0 : (c : Dev Cert.KKvIdeal.nD) → Buf (Elt Ideal) ((c.tc : Thread Cert.KKvIdeal.nD Cert.KKvIdeal.τ).loc Cert.KKvIdeal.main_v42_0)) (v1 : (c : Dev Cert.KKvIdeal.nD) → Buf (Elt Ideal) ((c.tc : Thread Cert.KKvIdeal.nD Cert.KKvIdeal.τ).loc Cert.KKvIdeal.main_v42_1)) (v2 : (c : Dev Cert.KKvIdeal.nD) → Buf (Elt Ideal) ((c.tc : Thread Cert.KKvIdeal.nD Cert.KKvIdeal.τ).loc Cert.KKvIdeal.main_v42_2)),
      θ_run (Cert.KKvIdeal.defs (F := Ideal)) (onTc (τ := Cert.KKvIdeal.τ) (Cert.KKvIdeal.main (F := Ideal))) ⟨m, fun _ => 0, g⟩ (fun r => ∀ c : Dev Cert.KKvIdeal.nD,
          r.2.mem ((c.tc : Thread Cert.KKvIdeal.nD Cert.KKvIdeal.τ).loc Cert.KKvIdeal.main_v42_0) = v0 c
          ∧ r.2.mem ((c.tc : Thread Cert.KKvIdeal.nD Cert.KKvIdeal.τ).loc Cert.KKvIdeal.main_v42_1) = v1 c
          ∧ r.2.mem ((c.tc : Thread Cert.KKvIdeal.nD Cert.KKvIdeal.τ).loc Cert.KKvIdeal.main_v42_2) = v2 c
          ∧ r.2.mem ((c.tc : Thread Cert.KKvIdeal.nD Cert.KKvIdeal.τ).loc Cert.KKvIdeal.main_arg0) = m ((c.tc : Thread Cert.KKvIdeal.nD Cert.KKvIdeal.τ).loc Cert.KKvIdeal.main_arg0)
          ∧ r.2.mem ((c.tc : Thread Cert.KKvIdeal.nD Cert.KKvIdeal.τ).loc Cert.KKvIdeal.main_arg1) = m ((c.tc : Thread Cert.KKvIdeal.nD Cert.KKvIdeal.τ).loc Cert.KKvIdeal.main_arg1)
          ∧ r.2.mem ((c.tc : Thread Cert.KKvIdeal.nD Cert.KKvIdeal.τ).loc Cert.KKvIdeal.main_arg2) = m ((c.tc : Thread Cert.KKvIdeal.nD Cert.KKvIdeal.τ).loc Cert.KKvIdeal.main_arg2)
          ∧ r.2.mem ((c.tc : Thread Cert.KKvIdeal.nD Cert.KKvIdeal.τ).loc Cert.KKvIdeal.main_arg3) = m ((c.tc : Thread Cert.KKvIdeal.nD Cert.KKvIdeal.τ).loc Cert.KKvIdeal.main_arg3))
      ∧ θ_run (Cert.RKvIdeal.defs (F := Ideal)) (onTc (τ := Cert.RKvIdeal.τ) (Cert.RKvIdeal.main (F := Ideal))) ⟨m', fun _ => 0, g'⟩ (fun r => ∀ c : Dev Cert.RKvIdeal.nD,
          r.2.mem ((c.tc : Thread Cert.RKvIdeal.nD Cert.RKvIdeal.τ).loc Cert.RKvIdeal.main_v70) = v0 c
          ∧ r.2.mem ((c.tc : Thread Cert.RKvIdeal.nD Cert.RKvIdeal.τ).loc Cert.RKvIdeal.main_v72) = v1 c
          ∧ r.2.mem ((c.tc : Thread Cert.RKvIdeal.nD Cert.RKvIdeal.τ).loc Cert.RKvIdeal.main_v73) = v2 c
          ∧ r.2.mem ((c.tc : Thread Cert.RKvIdeal.nD Cert.RKvIdeal.τ).loc Cert.RKvIdeal.main_arg0) = m' ((c.tc : Thread Cert.RKvIdeal.nD Cert.RKvIdeal.τ).loc Cert.RKvIdeal.main_arg0)
          ∧ r.2.mem ((c.tc : Thread Cert.RKvIdeal.nD Cert.RKvIdeal.τ).loc Cert.RKvIdeal.main_arg1) = m' ((c.tc : Thread Cert.RKvIdeal.nD Cert.RKvIdeal.τ).loc Cert.RKvIdeal.main_arg1)
          ∧ r.2.mem ((c.tc : Thread Cert.RKvIdeal.nD Cert.RKvIdeal.τ).loc Cert.RKvIdeal.main_arg2) = m' ((c.tc : Thread Cert.RKvIdeal.nD Cert.RKvIdeal.τ).loc Cert.RKvIdeal.main_arg2)
          ∧ r.2.mem ((c.tc : Thread Cert.RKvIdeal.nD Cert.RKvIdeal.τ).loc Cert.RKvIdeal.main_arg3) = m' ((c.tc : Thread Cert.RKvIdeal.nD Cert.RKvIdeal.τ).loc Cert.RKvIdeal.main_arg3))

def preserves_KAttn_KAttnIdeal : Prop :=
  IdealRules.named_const.Statement Cert.KAttnIdeal.κ "mask" .f32 0xF149F2CA#32 ⊥
  ∧ IdealRules.named_const.Statement Cert.KAttnIdeal.κ "c" .f32 0x3E16C740#32 ((((Real.sqrt 96) * (Real.log 2))⁻¹ : ℝ) : EReal)
  ∧ IdealRules.named_const.Statement Cert.KAttnIdeal.κ "ln2" .f32 0x3FB8AA3B#32 (((Real.log 2)⁻¹ : ℝ) : EReal)

def algebraic_KAttnIdeal_RAttnIdeal_pre_finite_qkv [hKAttnIdeal : Cert.KAttnIdeal.Facts] [hRAttnIdeal : Cert.RAttnIdeal.Facts] [hPre_finite_qkv : Cert.Pre_finite_qkv.Facts] : Prop :=
  ∀ (m : (ℓ : Loc Cert.KAttnIdeal.nD Cert.KAttnIdeal.τ Cert.KAttnIdeal.sig) → Buf (Elt Ideal) ℓ) (g : Dev Cert.KAttnIdeal.nD → PrngReg)
    (m' : (ℓ : Loc Cert.RAttnIdeal.nD Cert.RAttnIdeal.τ Cert.RAttnIdeal.sig) → Buf (Elt Ideal) ℓ) (g' : Dev Cert.RAttnIdeal.nD → PrngReg), Pre_KAttnIdeal_finite_qkv m →
    (∀ c : Dev Cert.KAttnIdeal.nD,
      m' ((c.tc : Thread Cert.RAttnIdeal.nD Cert.RAttnIdeal.τ).loc Cert.RAttnIdeal.main_arg0) = m ((c.tc : Thread Cert.KAttnIdeal.nD Cert.KAttnIdeal.τ).loc Cert.KAttnIdeal.main_arg0)
      ∧ m' ((c.tc : Thread Cert.RAttnIdeal.nD Cert.RAttnIdeal.τ).loc Cert.RAttnIdeal.main_arg1) = m ((c.tc : Thread Cert.KAttnIdeal.nD Cert.KAttnIdeal.τ).loc Cert.KAttnIdeal.main_arg1)
      ∧ m' ((c.tc : Thread Cert.RAttnIdeal.nD Cert.RAttnIdeal.τ).loc Cert.RAttnIdeal.main_arg2) = m ((c.tc : Thread Cert.KAttnIdeal.nD Cert.KAttnIdeal.τ).loc Cert.KAttnIdeal.main_arg2)) →
    ∃ (v0 : (c : Dev Cert.KAttnIdeal.nD) → Buf (Elt Ideal) ((c.tc : Thread Cert.KAttnIdeal.nD Cert.KAttnIdeal.τ).loc Cert.KAttnIdeal.main_v9_0)) (v1 : (c : Dev Cert.KAttnIdeal.nD) → Buf (Elt Ideal) ((c.tc : Thread Cert.KAttnIdeal.nD Cert.KAttnIdeal.τ).loc Cert.KAttnIdeal.main_v9_1)),
      θ_run (Cert.KAttnIdeal.defs (F := Ideal)) (onTc (τ := Cert.KAttnIdeal.τ) (Cert.KAttnIdeal.main (F := Ideal))) ⟨m, fun _ => 0, g⟩ (fun r => ∀ c : Dev Cert.KAttnIdeal.nD,
          r.2.mem ((c.tc : Thread Cert.KAttnIdeal.nD Cert.KAttnIdeal.τ).loc Cert.KAttnIdeal.main_v9_0) = v0 c
          ∧ r.2.mem ((c.tc : Thread Cert.KAttnIdeal.nD Cert.KAttnIdeal.τ).loc Cert.KAttnIdeal.main_v9_1) = v1 c
          ∧ r.2.mem ((c.tc : Thread Cert.KAttnIdeal.nD Cert.KAttnIdeal.τ).loc Cert.KAttnIdeal.main_arg0) = m ((c.tc : Thread Cert.KAttnIdeal.nD Cert.KAttnIdeal.τ).loc Cert.KAttnIdeal.main_arg0)
          ∧ r.2.mem ((c.tc : Thread Cert.KAttnIdeal.nD Cert.KAttnIdeal.τ).loc Cert.KAttnIdeal.main_arg1) = m ((c.tc : Thread Cert.KAttnIdeal.nD Cert.KAttnIdeal.τ).loc Cert.KAttnIdeal.main_arg1)
          ∧ r.2.mem ((c.tc : Thread Cert.KAttnIdeal.nD Cert.KAttnIdeal.τ).loc Cert.KAttnIdeal.main_arg2) = m ((c.tc : Thread Cert.KAttnIdeal.nD Cert.KAttnIdeal.τ).loc Cert.KAttnIdeal.main_arg2))
      ∧ θ_run (Cert.RAttnIdeal.defs (F := Ideal)) (onTc (τ := Cert.RAttnIdeal.τ) (Cert.RAttnIdeal.main (F := Ideal))) ⟨m', fun _ => 0, g'⟩ (fun r => ∀ c : Dev Cert.RAttnIdeal.nD,
          r.2.mem ((c.tc : Thread Cert.RAttnIdeal.nD Cert.RAttnIdeal.τ).loc Cert.RAttnIdeal.main_v38) = v0 c
          ∧ r.2.mem ((c.tc : Thread Cert.RAttnIdeal.nD Cert.RAttnIdeal.τ).loc Cert.RAttnIdeal.main_v39) = v1 c
          ∧ r.2.mem ((c.tc : Thread Cert.RAttnIdeal.nD Cert.RAttnIdeal.τ).loc Cert.RAttnIdeal.main_arg0) = m' ((c.tc : Thread Cert.RAttnIdeal.nD Cert.RAttnIdeal.τ).loc Cert.RAttnIdeal.main_arg0)
          ∧ r.2.mem ((c.tc : Thread Cert.RAttnIdeal.nD Cert.RAttnIdeal.τ).loc Cert.RAttnIdeal.main_arg1) = m' ((c.tc : Thread Cert.RAttnIdeal.nD Cert.RAttnIdeal.τ).loc Cert.RAttnIdeal.main_arg1)
          ∧ r.2.mem ((c.tc : Thread Cert.RAttnIdeal.nD Cert.RAttnIdeal.τ).loc Cert.RAttnIdeal.main_arg2) = m' ((c.tc : Thread Cert.RAttnIdeal.nD Cert.RAttnIdeal.τ).loc Cert.RAttnIdeal.main_arg2))

def preserves_KUp_KUpIdeal : Prop :=
  True

def algebraic_KUpIdeal_RUpIdeal [hKUpIdeal : Cert.KUpIdeal.Facts] [hRUpIdeal : Cert.RUpIdeal.Facts] : Prop :=
  ∀ (m : (ℓ : Loc Cert.KUpIdeal.nD Cert.KUpIdeal.τ Cert.KUpIdeal.sig) → Buf (Elt Ideal) ℓ) (g : Dev Cert.KUpIdeal.nD → PrngReg)
    (m' : (ℓ : Loc Cert.RUpIdeal.nD Cert.RUpIdeal.τ Cert.RUpIdeal.sig) → Buf (Elt Ideal) ℓ) (g' : Dev Cert.RUpIdeal.nD → PrngReg), Pre_KUpIdeal m →
    (∀ c : Dev Cert.KUpIdeal.nD,
      m' ((c.tc : Thread Cert.RUpIdeal.nD Cert.RUpIdeal.τ).loc Cert.RUpIdeal.main_arg0) = m ((c.tc : Thread Cert.KUpIdeal.nD Cert.KUpIdeal.τ).loc Cert.KUpIdeal.main_arg0)
      ∧ m' ((c.tc : Thread Cert.RUpIdeal.nD Cert.RUpIdeal.τ).loc Cert.RUpIdeal.main_arg1) = m ((c.tc : Thread Cert.KUpIdeal.nD Cert.KUpIdeal.τ).loc Cert.KUpIdeal.main_arg1)
      ∧ m' ((c.tc : Thread Cert.RUpIdeal.nD Cert.RUpIdeal.τ).loc Cert.RUpIdeal.main_arg2) = m ((c.tc : Thread Cert.KUpIdeal.nD Cert.KUpIdeal.τ).loc Cert.KUpIdeal.main_arg2)
      ∧ m' ((c.tc : Thread Cert.RUpIdeal.nD Cert.RUpIdeal.τ).loc Cert.RUpIdeal.main_arg3) = m ((c.tc : Thread Cert.KUpIdeal.nD Cert.KUpIdeal.τ).loc Cert.KUpIdeal.main_arg3)) →
    ∃ (v0 : (c : Dev Cert.KUpIdeal.nD) → Buf (Elt Ideal) ((c.tc : Thread Cert.KUpIdeal.nD Cert.KUpIdeal.τ).loc Cert.KUpIdeal.main_v5_0)) (v1 : (c : Dev Cert.KUpIdeal.nD) → Buf (Elt Ideal) ((c.tc : Thread Cert.KUpIdeal.nD Cert.KUpIdeal.τ).loc Cert.KUpIdeal.main_v5_1)) (v2 : (c : Dev Cert.KUpIdeal.nD) → Buf (Elt Ideal) ((c.tc : Thread Cert.KUpIdeal.nD Cert.KUpIdeal.τ).loc Cert.KUpIdeal.main_v5_2)) (v3 : (c : Dev Cert.KUpIdeal.nD) → Buf (Elt Ideal) ((c.tc : Thread Cert.KUpIdeal.nD Cert.KUpIdeal.τ).loc Cert.KUpIdeal.main_v5_3)),
      θ_run (Cert.KUpIdeal.defs (F := Ideal)) (onTc (τ := Cert.KUpIdeal.τ) (Cert.KUpIdeal.main (F := Ideal))) ⟨m, fun _ => 0, g⟩ (fun r => ∀ c : Dev Cert.KUpIdeal.nD,
          r.2.mem ((c.tc : Thread Cert.KUpIdeal.nD Cert.KUpIdeal.τ).loc Cert.KUpIdeal.main_v5_0) = v0 c
          ∧ r.2.mem ((c.tc : Thread Cert.KUpIdeal.nD Cert.KUpIdeal.τ).loc Cert.KUpIdeal.main_v5_1) = v1 c
          ∧ r.2.mem ((c.tc : Thread Cert.KUpIdeal.nD Cert.KUpIdeal.τ).loc Cert.KUpIdeal.main_v5_2) = v2 c
          ∧ r.2.mem ((c.tc : Thread Cert.KUpIdeal.nD Cert.KUpIdeal.τ).loc Cert.KUpIdeal.main_v5_3) = v3 c
          ∧ r.2.mem ((c.tc : Thread Cert.KUpIdeal.nD Cert.KUpIdeal.τ).loc Cert.KUpIdeal.main_arg0) = m ((c.tc : Thread Cert.KUpIdeal.nD Cert.KUpIdeal.τ).loc Cert.KUpIdeal.main_arg0)
          ∧ r.2.mem ((c.tc : Thread Cert.KUpIdeal.nD Cert.KUpIdeal.τ).loc Cert.KUpIdeal.main_arg1) = m ((c.tc : Thread Cert.KUpIdeal.nD Cert.KUpIdeal.τ).loc Cert.KUpIdeal.main_arg1)
          ∧ r.2.mem ((c.tc : Thread Cert.KUpIdeal.nD Cert.KUpIdeal.τ).loc Cert.KUpIdeal.main_arg2) = m ((c.tc : Thread Cert.KUpIdeal.nD Cert.KUpIdeal.τ).loc Cert.KUpIdeal.main_arg2)
          ∧ r.2.mem ((c.tc : Thread Cert.KUpIdeal.nD Cert.KUpIdeal.τ).loc Cert.KUpIdeal.main_arg3) = m ((c.tc : Thread Cert.KUpIdeal.nD Cert.KUpIdeal.τ).loc Cert.KUpIdeal.main_arg3))
      ∧ θ_run (Cert.RUpIdeal.defs (F := Ideal)) (onTc (τ := Cert.RUpIdeal.τ) (Cert.RUpIdeal.main (F := Ideal))) ⟨m', fun _ => 0, g'⟩ (fun r => ∀ c : Dev Cert.RUpIdeal.nD,
          r.2.mem ((c.tc : Thread Cert.RUpIdeal.nD Cert.RUpIdeal.τ).loc Cert.RUpIdeal.main_v17) = v0 c
          ∧ r.2.mem ((c.tc : Thread Cert.RUpIdeal.nD Cert.RUpIdeal.τ).loc Cert.RUpIdeal.main_v18) = v1 c
          ∧ r.2.mem ((c.tc : Thread Cert.RUpIdeal.nD Cert.RUpIdeal.τ).loc Cert.RUpIdeal.main_v19) = v2 c
          ∧ r.2.mem ((c.tc : Thread Cert.RUpIdeal.nD Cert.RUpIdeal.τ).loc Cert.RUpIdeal.main_v20) = v3 c
          ∧ r.2.mem ((c.tc : Thread Cert.RUpIdeal.nD Cert.RUpIdeal.τ).loc Cert.RUpIdeal.main_arg0) = m' ((c.tc : Thread Cert.RUpIdeal.nD Cert.RUpIdeal.τ).loc Cert.RUpIdeal.main_arg0)
          ∧ r.2.mem ((c.tc : Thread Cert.RUpIdeal.nD Cert.RUpIdeal.τ).loc Cert.RUpIdeal.main_arg1) = m' ((c.tc : Thread Cert.RUpIdeal.nD Cert.RUpIdeal.τ).loc Cert.RUpIdeal.main_arg1)
          ∧ r.2.mem ((c.tc : Thread Cert.RUpIdeal.nD Cert.RUpIdeal.τ).loc Cert.RUpIdeal.main_arg2) = m' ((c.tc : Thread Cert.RUpIdeal.nD Cert.RUpIdeal.τ).loc Cert.RUpIdeal.main_arg2)
          ∧ r.2.mem ((c.tc : Thread Cert.RUpIdeal.nD Cert.RUpIdeal.τ).loc Cert.RUpIdeal.main_arg3) = m' ((c.tc : Thread Cert.RUpIdeal.nD Cert.RUpIdeal.τ).loc Cert.RUpIdeal.main_arg3))

def preserves_KMix_KMixIdeal : Prop :=
  True

def algebraic_KMixIdeal_RMixIdeal [hKMixIdeal : Cert.KMixIdeal.Facts] [hRMixIdeal : Cert.RMixIdeal.Facts] : Prop :=
  ∀ (m : (ℓ : Loc Cert.KMixIdeal.nD Cert.KMixIdeal.τ Cert.KMixIdeal.sig) → Buf (Elt Ideal) ℓ) (g : Dev Cert.KMixIdeal.nD → PrngReg)
    (m' : (ℓ : Loc Cert.RMixIdeal.nD Cert.RMixIdeal.τ Cert.RMixIdeal.sig) → Buf (Elt Ideal) ℓ) (g' : Dev Cert.RMixIdeal.nD → PrngReg), Pre_KMixIdeal m →
    (∀ c : Dev Cert.KMixIdeal.nD,
      m' ((c.tc : Thread Cert.RMixIdeal.nD Cert.RMixIdeal.τ).loc Cert.RMixIdeal.main_arg0) = m ((c.tc : Thread Cert.KMixIdeal.nD Cert.KMixIdeal.τ).loc Cert.KMixIdeal.main_arg0)
      ∧ m' ((c.tc : Thread Cert.RMixIdeal.nD Cert.RMixIdeal.τ).loc Cert.RMixIdeal.main_arg1) = m ((c.tc : Thread Cert.KMixIdeal.nD Cert.KMixIdeal.τ).loc Cert.KMixIdeal.main_arg1)
      ∧ m' ((c.tc : Thread Cert.RMixIdeal.nD Cert.RMixIdeal.τ).loc Cert.RMixIdeal.main_arg2) = m ((c.tc : Thread Cert.KMixIdeal.nD Cert.KMixIdeal.τ).loc Cert.KMixIdeal.main_arg2)
      ∧ m' ((c.tc : Thread Cert.RMixIdeal.nD Cert.RMixIdeal.τ).loc Cert.RMixIdeal.main_arg3) = m ((c.tc : Thread Cert.KMixIdeal.nD Cert.KMixIdeal.τ).loc Cert.KMixIdeal.main_arg3)
      ∧ m' ((c.tc : Thread Cert.RMixIdeal.nD Cert.RMixIdeal.τ).loc Cert.RMixIdeal.main_arg4) = m ((c.tc : Thread Cert.KMixIdeal.nD Cert.KMixIdeal.τ).loc Cert.KMixIdeal.main_arg4)) →
    ∃ (v0 : (c : Dev Cert.KMixIdeal.nD) → Buf (Elt Ideal) ((c.tc : Thread Cert.KMixIdeal.nD Cert.KMixIdeal.τ).loc Cert.KMixIdeal.main_v52_0)) (v1 : (c : Dev Cert.KMixIdeal.nD) → Buf (Elt Ideal) ((c.tc : Thread Cert.KMixIdeal.nD Cert.KMixIdeal.τ).loc Cert.KMixIdeal.main_v52_1)) (v2 : (c : Dev Cert.KMixIdeal.nD) → Buf (Elt Ideal) ((c.tc : Thread Cert.KMixIdeal.nD Cert.KMixIdeal.τ).loc Cert.KMixIdeal.main_v52_2)),
      θ_run (Cert.KMixIdeal.defs (F := Ideal)) (onTc (τ := Cert.KMixIdeal.τ) (Cert.KMixIdeal.main (F := Ideal))) ⟨m, fun _ => 0, g⟩ (fun r => ∀ c : Dev Cert.KMixIdeal.nD,
          r.2.mem ((c.tc : Thread Cert.KMixIdeal.nD Cert.KMixIdeal.τ).loc Cert.KMixIdeal.main_v52_0) = v0 c
          ∧ r.2.mem ((c.tc : Thread Cert.KMixIdeal.nD Cert.KMixIdeal.τ).loc Cert.KMixIdeal.main_v52_1) = v1 c
          ∧ r.2.mem ((c.tc : Thread Cert.KMixIdeal.nD Cert.KMixIdeal.τ).loc Cert.KMixIdeal.main_v52_2) = v2 c
          ∧ r.2.mem ((c.tc : Thread Cert.KMixIdeal.nD Cert.KMixIdeal.τ).loc Cert.KMixIdeal.main_arg0) = m ((c.tc : Thread Cert.KMixIdeal.nD Cert.KMixIdeal.τ).loc Cert.KMixIdeal.main_arg0)
          ∧ r.2.mem ((c.tc : Thread Cert.KMixIdeal.nD Cert.KMixIdeal.τ).loc Cert.KMixIdeal.main_arg1) = m ((c.tc : Thread Cert.KMixIdeal.nD Cert.KMixIdeal.τ).loc Cert.KMixIdeal.main_arg1)
          ∧ r.2.mem ((c.tc : Thread Cert.KMixIdeal.nD Cert.KMixIdeal.τ).loc Cert.KMixIdeal.main_arg2) = m ((c.tc : Thread Cert.KMixIdeal.nD Cert.KMixIdeal.τ).loc Cert.KMixIdeal.main_arg2)
          ∧ r.2.mem ((c.tc : Thread Cert.KMixIdeal.nD Cert.KMixIdeal.τ).loc Cert.KMixIdeal.main_arg3) = m ((c.tc : Thread Cert.KMixIdeal.nD Cert.KMixIdeal.τ).loc Cert.KMixIdeal.main_arg3)
          ∧ r.2.mem ((c.tc : Thread Cert.KMixIdeal.nD Cert.KMixIdeal.τ).loc Cert.KMixIdeal.main_arg4) = m ((c.tc : Thread Cert.KMixIdeal.nD Cert.KMixIdeal.τ).loc Cert.KMixIdeal.main_arg4))
      ∧ θ_run (Cert.RMixIdeal.defs (F := Ideal)) (onTc (τ := Cert.RMixIdeal.τ) (Cert.RMixIdeal.main (F := Ideal))) ⟨m', fun _ => 0, g'⟩ (fun r => ∀ c : Dev Cert.RMixIdeal.nD,
          r.2.mem ((c.tc : Thread Cert.RMixIdeal.nD Cert.RMixIdeal.τ).loc Cert.RMixIdeal.main_v20) = v0 c
          ∧ r.2.mem ((c.tc : Thread Cert.RMixIdeal.nD Cert.RMixIdeal.τ).loc Cert.RMixIdeal.main_v21) = v1 c
          ∧ r.2.mem ((c.tc : Thread Cert.RMixIdeal.nD Cert.RMixIdeal.τ).loc Cert.RMixIdeal.main_v22) = v2 c
          ∧ r.2.mem ((c.tc : Thread Cert.RMixIdeal.nD Cert.RMixIdeal.τ).loc Cert.RMixIdeal.main_arg0) = m' ((c.tc : Thread Cert.RMixIdeal.nD Cert.RMixIdeal.τ).loc Cert.RMixIdeal.main_arg0)
          ∧ r.2.mem ((c.tc : Thread Cert.RMixIdeal.nD Cert.RMixIdeal.τ).loc Cert.RMixIdeal.main_arg1) = m' ((c.tc : Thread Cert.RMixIdeal.nD Cert.RMixIdeal.τ).loc Cert.RMixIdeal.main_arg1)
          ∧ r.2.mem ((c.tc : Thread Cert.RMixIdeal.nD Cert.RMixIdeal.τ).loc Cert.RMixIdeal.main_arg2) = m' ((c.tc : Thread Cert.RMixIdeal.nD Cert.RMixIdeal.τ).loc Cert.RMixIdeal.main_arg2)
          ∧ r.2.mem ((c.tc : Thread Cert.RMixIdeal.nD Cert.RMixIdeal.τ).loc Cert.RMixIdeal.main_arg3) = m' ((c.tc : Thread Cert.RMixIdeal.nD Cert.RMixIdeal.τ).loc Cert.RMixIdeal.main_arg3)
          ∧ r.2.mem ((c.tc : Thread Cert.RMixIdeal.nD Cert.RMixIdeal.τ).loc Cert.RMixIdeal.main_arg4) = m' ((c.tc : Thread Cert.RMixIdeal.nD Cert.RMixIdeal.τ).loc Cert.RMixIdeal.main_arg4))

def preserves_KProj_KProjIdeal : Prop :=
  True

def algebraic_KProjIdeal_RProjIdeal [hKProjIdeal : Cert.KProjIdeal.Facts] [hRProjIdeal : Cert.RProjIdeal.Facts] : Prop :=
  ∀ (m : (ℓ : Loc Cert.KProjIdeal.nD Cert.KProjIdeal.τ Cert.KProjIdeal.sig) → Buf (Elt Ideal) ℓ) (g : Dev Cert.KProjIdeal.nD → PrngReg)
    (m' : (ℓ : Loc Cert.RProjIdeal.nD Cert.RProjIdeal.τ Cert.RProjIdeal.sig) → Buf (Elt Ideal) ℓ) (g' : Dev Cert.RProjIdeal.nD → PrngReg), Pre_KProjIdeal m →
    (∀ c : Dev Cert.KProjIdeal.nD,
      m' ((c.tc : Thread Cert.RProjIdeal.nD Cert.RProjIdeal.τ).loc Cert.RProjIdeal.main_arg0) = m ((c.tc : Thread Cert.KProjIdeal.nD Cert.KProjIdeal.τ).loc Cert.KProjIdeal.main_arg0)
      ∧ m' ((c.tc : Thread Cert.RProjIdeal.nD Cert.RProjIdeal.τ).loc Cert.RProjIdeal.main_arg1) = m ((c.tc : Thread Cert.KProjIdeal.nD Cert.KProjIdeal.τ).loc Cert.KProjIdeal.main_arg1)
      ∧ m' ((c.tc : Thread Cert.RProjIdeal.nD Cert.RProjIdeal.τ).loc Cert.RProjIdeal.main_arg2) = m ((c.tc : Thread Cert.KProjIdeal.nD Cert.KProjIdeal.τ).loc Cert.KProjIdeal.main_arg2)) →
    ∃ (v0 : (c : Dev Cert.KProjIdeal.nD) → Buf (Elt Ideal) ((c.tc : Thread Cert.KProjIdeal.nD Cert.KProjIdeal.τ).loc Cert.KProjIdeal.main_v22_0)) (v1 : (c : Dev Cert.KProjIdeal.nD) → Buf (Elt Ideal) ((c.tc : Thread Cert.KProjIdeal.nD Cert.KProjIdeal.τ).loc Cert.KProjIdeal.main_v22_1)),
      θ_run (Cert.KProjIdeal.defs (F := Ideal)) (onTc (τ := Cert.KProjIdeal.τ) (Cert.KProjIdeal.main (F := Ideal))) ⟨m, fun _ => 0, g⟩ (fun r => ∀ c : Dev Cert.KProjIdeal.nD,
          r.2.mem ((c.tc : Thread Cert.KProjIdeal.nD Cert.KProjIdeal.τ).loc Cert.KProjIdeal.main_v22_0) = v0 c
          ∧ r.2.mem ((c.tc : Thread Cert.KProjIdeal.nD Cert.KProjIdeal.τ).loc Cert.KProjIdeal.main_v22_1) = v1 c
          ∧ r.2.mem ((c.tc : Thread Cert.KProjIdeal.nD Cert.KProjIdeal.τ).loc Cert.KProjIdeal.main_arg0) = m ((c.tc : Thread Cert.KProjIdeal.nD Cert.KProjIdeal.τ).loc Cert.KProjIdeal.main_arg0)
          ∧ r.2.mem ((c.tc : Thread Cert.KProjIdeal.nD Cert.KProjIdeal.τ).loc Cert.KProjIdeal.main_arg1) = m ((c.tc : Thread Cert.KProjIdeal.nD Cert.KProjIdeal.τ).loc Cert.KProjIdeal.main_arg1)
          ∧ r.2.mem ((c.tc : Thread Cert.KProjIdeal.nD Cert.KProjIdeal.τ).loc Cert.KProjIdeal.main_arg2) = m ((c.tc : Thread Cert.KProjIdeal.nD Cert.KProjIdeal.τ).loc Cert.KProjIdeal.main_arg2))
      ∧ θ_run (Cert.RProjIdeal.defs (F := Ideal)) (onTc (τ := Cert.RProjIdeal.τ) (Cert.RProjIdeal.main (F := Ideal))) ⟨m', fun _ => 0, g'⟩ (fun r => ∀ c : Dev Cert.RProjIdeal.nD,
          r.2.mem ((c.tc : Thread Cert.RProjIdeal.nD Cert.RProjIdeal.τ).loc Cert.RProjIdeal.main_v20) = v0 c
          ∧ r.2.mem ((c.tc : Thread Cert.RProjIdeal.nD Cert.RProjIdeal.τ).loc Cert.RProjIdeal.main_v25) = v1 c
          ∧ r.2.mem ((c.tc : Thread Cert.RProjIdeal.nD Cert.RProjIdeal.τ).loc Cert.RProjIdeal.main_arg0) = m' ((c.tc : Thread Cert.RProjIdeal.nD Cert.RProjIdeal.τ).loc Cert.RProjIdeal.main_arg0)
          ∧ r.2.mem ((c.tc : Thread Cert.RProjIdeal.nD Cert.RProjIdeal.τ).loc Cert.RProjIdeal.main_arg1) = m' ((c.tc : Thread Cert.RProjIdeal.nD Cert.RProjIdeal.τ).loc Cert.RProjIdeal.main_arg1)
          ∧ r.2.mem ((c.tc : Thread Cert.RProjIdeal.nD Cert.RProjIdeal.τ).loc Cert.RProjIdeal.main_arg2) = m' ((c.tc : Thread Cert.RProjIdeal.nD Cert.RProjIdeal.τ).loc Cert.RProjIdeal.main_arg2))

def preserves_KQkv_KQkvIdeal : Prop :=
  IdealRules.named_const.Statement Cert.KQkvIdeal.κ "n" .f32 0x3C2AAAAB#32 ((1 / 96 : ℝ) : EReal)

def algebraic_KQkvIdeal_RQkvIdeal [hKQkvIdeal : Cert.KQkvIdeal.Facts] [hRQkvIdeal : Cert.RQkvIdeal.Facts] : Prop :=
  ∀ (m : (ℓ : Loc Cert.KQkvIdeal.nD Cert.KQkvIdeal.τ Cert.KQkvIdeal.sig) → Buf (Elt Ideal) ℓ) (g : Dev Cert.KQkvIdeal.nD → PrngReg)
    (m' : (ℓ : Loc Cert.RQkvIdeal.nD Cert.RQkvIdeal.τ Cert.RQkvIdeal.sig) → Buf (Elt Ideal) ℓ) (g' : Dev Cert.RQkvIdeal.nD → PrngReg), Pre_KQkvIdeal m →
    (∀ c : Dev Cert.KQkvIdeal.nD,
      m' ((c.tc : Thread Cert.RQkvIdeal.nD Cert.RQkvIdeal.τ).loc Cert.RQkvIdeal.main_arg0) = m ((c.tc : Thread Cert.KQkvIdeal.nD Cert.KQkvIdeal.τ).loc Cert.KQkvIdeal.main_arg0)
      ∧ m' ((c.tc : Thread Cert.RQkvIdeal.nD Cert.RQkvIdeal.τ).loc Cert.RQkvIdeal.main_arg1) = m ((c.tc : Thread Cert.KQkvIdeal.nD Cert.KQkvIdeal.τ).loc Cert.KQkvIdeal.main_arg1)
      ∧ m' ((c.tc : Thread Cert.RQkvIdeal.nD Cert.RQkvIdeal.τ).loc Cert.RQkvIdeal.main_arg2) = m ((c.tc : Thread Cert.KQkvIdeal.nD Cert.KQkvIdeal.τ).loc Cert.KQkvIdeal.main_arg2)
      ∧ m' ((c.tc : Thread Cert.RQkvIdeal.nD Cert.RQkvIdeal.τ).loc Cert.RQkvIdeal.main_arg3) = m ((c.tc : Thread Cert.KQkvIdeal.nD Cert.KQkvIdeal.τ).loc Cert.KQkvIdeal.main_arg3)
      ∧ m' ((c.tc : Thread Cert.RQkvIdeal.nD Cert.RQkvIdeal.τ).loc Cert.RQkvIdeal.main_arg4) = m ((c.tc : Thread Cert.KQkvIdeal.nD Cert.KQkvIdeal.τ).loc Cert.KQkvIdeal.main_arg4)
      ∧ m' ((c.tc : Thread Cert.RQkvIdeal.nD Cert.RQkvIdeal.τ).loc Cert.RQkvIdeal.main_arg5) = m ((c.tc : Thread Cert.KQkvIdeal.nD Cert.KQkvIdeal.τ).loc Cert.KQkvIdeal.main_arg5)
      ∧ m' ((c.tc : Thread Cert.RQkvIdeal.nD Cert.RQkvIdeal.τ).loc Cert.RQkvIdeal.main_arg6) = m ((c.tc : Thread Cert.KQkvIdeal.nD Cert.KQkvIdeal.τ).loc Cert.KQkvIdeal.main_arg6)
      ∧ m' ((c.tc : Thread Cert.RQkvIdeal.nD Cert.RQkvIdeal.τ).loc Cert.RQkvIdeal.main_arg7) = m ((c.tc : Thread Cert.KQkvIdeal.nD Cert.KQkvIdeal.τ).loc Cert.KQkvIdeal.main_arg7)) →
    ∃ (v0 : (c : Dev Cert.KQkvIdeal.nD) → Buf (Elt Ideal) ((c.tc : Thread Cert.KQkvIdeal.nD Cert.KQkvIdeal.τ).loc Cert.KQkvIdeal.main_v65_0)) (v1 : (c : Dev Cert.KQkvIdeal.nD) → Buf (Elt Ideal) ((c.tc : Thread Cert.KQkvIdeal.nD Cert.KQkvIdeal.τ).loc Cert.KQkvIdeal.main_v65_1)) (v2 : (c : Dev Cert.KQkvIdeal.nD) → Buf (Elt Ideal) ((c.tc : Thread Cert.KQkvIdeal.nD Cert.KQkvIdeal.τ).loc Cert.KQkvIdeal.main_v65_2)),
      θ_run (Cert.KQkvIdeal.defs (F := Ideal)) (onTc (τ := Cert.KQkvIdeal.τ) (Cert.KQkvIdeal.main (F := Ideal))) ⟨m, fun _ => 0, g⟩ (fun r => ∀ c : Dev Cert.KQkvIdeal.nD,
          r.2.mem ((c.tc : Thread Cert.KQkvIdeal.nD Cert.KQkvIdeal.τ).loc Cert.KQkvIdeal.main_v65_0) = v0 c
          ∧ r.2.mem ((c.tc : Thread Cert.KQkvIdeal.nD Cert.KQkvIdeal.τ).loc Cert.KQkvIdeal.main_v65_1) = v1 c
          ∧ r.2.mem ((c.tc : Thread Cert.KQkvIdeal.nD Cert.KQkvIdeal.τ).loc Cert.KQkvIdeal.main_v65_2) = v2 c
          ∧ r.2.mem ((c.tc : Thread Cert.KQkvIdeal.nD Cert.KQkvIdeal.τ).loc Cert.KQkvIdeal.main_arg0) = m ((c.tc : Thread Cert.KQkvIdeal.nD Cert.KQkvIdeal.τ).loc Cert.KQkvIdeal.main_arg0)
          ∧ r.2.mem ((c.tc : Thread Cert.KQkvIdeal.nD Cert.KQkvIdeal.τ).loc Cert.KQkvIdeal.main_arg1) = m ((c.tc : Thread Cert.KQkvIdeal.nD Cert.KQkvIdeal.τ).loc Cert.KQkvIdeal.main_arg1)
          ∧ r.2.mem ((c.tc : Thread Cert.KQkvIdeal.nD Cert.KQkvIdeal.τ).loc Cert.KQkvIdeal.main_arg2) = m ((c.tc : Thread Cert.KQkvIdeal.nD Cert.KQkvIdeal.τ).loc Cert.KQkvIdeal.main_arg2)
          ∧ r.2.mem ((c.tc : Thread Cert.KQkvIdeal.nD Cert.KQkvIdeal.τ).loc Cert.KQkvIdeal.main_arg3) = m ((c.tc : Thread Cert.KQkvIdeal.nD Cert.KQkvIdeal.τ).loc Cert.KQkvIdeal.main_arg3)
          ∧ r.2.mem ((c.tc : Thread Cert.KQkvIdeal.nD Cert.KQkvIdeal.τ).loc Cert.KQkvIdeal.main_arg4) = m ((c.tc : Thread Cert.KQkvIdeal.nD Cert.KQkvIdeal.τ).loc Cert.KQkvIdeal.main_arg4)
          ∧ r.2.mem ((c.tc : Thread Cert.KQkvIdeal.nD Cert.KQkvIdeal.τ).loc Cert.KQkvIdeal.main_arg5) = m ((c.tc : Thread Cert.KQkvIdeal.nD Cert.KQkvIdeal.τ).loc Cert.KQkvIdeal.main_arg5)
          ∧ r.2.mem ((c.tc : Thread Cert.KQkvIdeal.nD Cert.KQkvIdeal.τ).loc Cert.KQkvIdeal.main_arg6) = m ((c.tc : Thread Cert.KQkvIdeal.nD Cert.KQkvIdeal.τ).loc Cert.KQkvIdeal.main_arg6)
          ∧ r.2.mem ((c.tc : Thread Cert.KQkvIdeal.nD Cert.KQkvIdeal.τ).loc Cert.KQkvIdeal.main_arg7) = m ((c.tc : Thread Cert.KQkvIdeal.nD Cert.KQkvIdeal.τ).loc Cert.KQkvIdeal.main_arg7))
      ∧ θ_run (Cert.RQkvIdeal.defs (F := Ideal)) (onTc (τ := Cert.RQkvIdeal.τ) (Cert.RQkvIdeal.main (F := Ideal))) ⟨m', fun _ => 0, g'⟩ (fun r => ∀ c : Dev Cert.RQkvIdeal.nD,
          r.2.mem ((c.tc : Thread Cert.RQkvIdeal.nD Cert.RQkvIdeal.τ).loc Cert.RQkvIdeal.main_v114) = v0 c
          ∧ r.2.mem ((c.tc : Thread Cert.RQkvIdeal.nD Cert.RQkvIdeal.τ).loc Cert.RQkvIdeal.main_v117) = v1 c
          ∧ r.2.mem ((c.tc : Thread Cert.RQkvIdeal.nD Cert.RQkvIdeal.τ).loc Cert.RQkvIdeal.main_v120) = v2 c
          ∧ r.2.mem ((c.tc : Thread Cert.RQkvIdeal.nD Cert.RQkvIdeal.τ).loc Cert.RQkvIdeal.main_arg0) = m' ((c.tc : Thread Cert.RQkvIdeal.nD Cert.RQkvIdeal.τ).loc Cert.RQkvIdeal.main_arg0)
          ∧ r.2.mem ((c.tc : Thread Cert.RQkvIdeal.nD Cert.RQkvIdeal.τ).loc Cert.RQkvIdeal.main_arg1) = m' ((c.tc : Thread Cert.RQkvIdeal.nD Cert.RQkvIdeal.τ).loc Cert.RQkvIdeal.main_arg1)
          ∧ r.2.mem ((c.tc : Thread Cert.RQkvIdeal.nD Cert.RQkvIdeal.τ).loc Cert.RQkvIdeal.main_arg2) = m' ((c.tc : Thread Cert.RQkvIdeal.nD Cert.RQkvIdeal.τ).loc Cert.RQkvIdeal.main_arg2)
          ∧ r.2.mem ((c.tc : Thread Cert.RQkvIdeal.nD Cert.RQkvIdeal.τ).loc Cert.RQkvIdeal.main_arg3) = m' ((c.tc : Thread Cert.RQkvIdeal.nD Cert.RQkvIdeal.τ).loc Cert.RQkvIdeal.main_arg3)
          ∧ r.2.mem ((c.tc : Thread Cert.RQkvIdeal.nD Cert.RQkvIdeal.τ).loc Cert.RQkvIdeal.main_arg4) = m' ((c.tc : Thread Cert.RQkvIdeal.nD Cert.RQkvIdeal.τ).loc Cert.RQkvIdeal.main_arg4)
          ∧ r.2.mem ((c.tc : Thread Cert.RQkvIdeal.nD Cert.RQkvIdeal.τ).loc Cert.RQkvIdeal.main_arg5) = m' ((c.tc : Thread Cert.RQkvIdeal.nD Cert.RQkvIdeal.τ).loc Cert.RQkvIdeal.main_arg5)
          ∧ r.2.mem ((c.tc : Thread Cert.RQkvIdeal.nD Cert.RQkvIdeal.τ).loc Cert.RQkvIdeal.main_arg6) = m' ((c.tc : Thread Cert.RQkvIdeal.nD Cert.RQkvIdeal.τ).loc Cert.RQkvIdeal.main_arg6)
          ∧ r.2.mem ((c.tc : Thread Cert.RQkvIdeal.nD Cert.RQkvIdeal.τ).loc Cert.RQkvIdeal.main_arg7) = m' ((c.tc : Thread Cert.RQkvIdeal.nD Cert.RQkvIdeal.τ).loc Cert.RQkvIdeal.main_arg7))

def preserves_KDown_KDownIdeal : Prop :=
  True

def algebraic_KDownIdeal_RDownIdeal [hKDownIdeal : Cert.KDownIdeal.Facts] [hRDownIdeal : Cert.RDownIdeal.Facts] : Prop :=
  ∀ (m : (ℓ : Loc Cert.KDownIdeal.nD Cert.KDownIdeal.τ Cert.KDownIdeal.sig) → Buf (Elt Ideal) ℓ) (g : Dev Cert.KDownIdeal.nD → PrngReg)
    (m' : (ℓ : Loc Cert.RDownIdeal.nD Cert.RDownIdeal.τ Cert.RDownIdeal.sig) → Buf (Elt Ideal) ℓ) (g' : Dev Cert.RDownIdeal.nD → PrngReg), Pre_KDownIdeal m →
    (∀ c : Dev Cert.KDownIdeal.nD,
      m' ((c.tc : Thread Cert.RDownIdeal.nD Cert.RDownIdeal.τ).loc Cert.RDownIdeal.main_arg0) = m ((c.tc : Thread Cert.KDownIdeal.nD Cert.KDownIdeal.τ).loc Cert.KDownIdeal.main_arg0)
      ∧ m' ((c.tc : Thread Cert.RDownIdeal.nD Cert.RDownIdeal.τ).loc Cert.RDownIdeal.main_arg1) = m ((c.tc : Thread Cert.KDownIdeal.nD Cert.KDownIdeal.τ).loc Cert.KDownIdeal.main_arg1)
      ∧ m' ((c.tc : Thread Cert.RDownIdeal.nD Cert.RDownIdeal.τ).loc Cert.RDownIdeal.main_arg2) = m ((c.tc : Thread Cert.KDownIdeal.nD Cert.KDownIdeal.τ).loc Cert.KDownIdeal.main_arg2)) →
    ∃ (v0 : (c : Dev Cert.KDownIdeal.nD) → Buf (Elt Ideal) ((c.tc : Thread Cert.KDownIdeal.nD Cert.KDownIdeal.τ).loc Cert.KDownIdeal.main_v2)),
      θ_run (Cert.KDownIdeal.defs (F := Ideal)) (onTc (τ := Cert.KDownIdeal.τ) (Cert.KDownIdeal.main (F := Ideal))) ⟨m, fun _ => 0, g⟩ (fun r => ∀ c : Dev Cert.KDownIdeal.nD,
          r.2.mem ((c.tc : Thread Cert.KDownIdeal.nD Cert.KDownIdeal.τ).loc Cert.KDownIdeal.main_v2) = v0 c
          ∧ r.2.mem ((c.tc : Thread Cert.KDownIdeal.nD Cert.KDownIdeal.τ).loc Cert.KDownIdeal.main_arg0) = m ((c.tc : Thread Cert.KDownIdeal.nD Cert.KDownIdeal.τ).loc Cert.KDownIdeal.main_arg0)
          ∧ r.2.mem ((c.tc : Thread Cert.KDownIdeal.nD Cert.KDownIdeal.τ).loc Cert.KDownIdeal.main_arg1) = m ((c.tc : Thread Cert.KDownIdeal.nD Cert.KDownIdeal.τ).loc Cert.KDownIdeal.main_arg1)
          ∧ r.2.mem ((c.tc : Thread Cert.KDownIdeal.nD Cert.KDownIdeal.τ).loc Cert.KDownIdeal.main_arg2) = m ((c.tc : Thread Cert.KDownIdeal.nD Cert.KDownIdeal.τ).loc Cert.KDownIdeal.main_arg2))
      ∧ θ_run (Cert.RDownIdeal.defs (F := Ideal)) (onTc (τ := Cert.RDownIdeal.τ) (Cert.RDownIdeal.main (F := Ideal))) ⟨m', fun _ => 0, g'⟩ (fun r => ∀ c : Dev Cert.RDownIdeal.nD,
          r.2.mem ((c.tc : Thread Cert.RDownIdeal.nD Cert.RDownIdeal.τ).loc Cert.RDownIdeal.main_v3) = v0 c
          ∧ r.2.mem ((c.tc : Thread Cert.RDownIdeal.nD Cert.RDownIdeal.τ).loc Cert.RDownIdeal.main_arg0) = m' ((c.tc : Thread Cert.RDownIdeal.nD Cert.RDownIdeal.τ).loc Cert.RDownIdeal.main_arg0)
          ∧ r.2.mem ((c.tc : Thread Cert.RDownIdeal.nD Cert.RDownIdeal.τ).loc Cert.RDownIdeal.main_arg1) = m' ((c.tc : Thread Cert.RDownIdeal.nD Cert.RDownIdeal.τ).loc Cert.RDownIdeal.main_arg1)
          ∧ r.2.mem ((c.tc : Thread Cert.RDownIdeal.nD Cert.RDownIdeal.τ).loc Cert.RDownIdeal.main_arg2) = m' ((c.tc : Thread Cert.RDownIdeal.nD Cert.RDownIdeal.τ).loc Cert.RDownIdeal.main_arg2))

def preserves_KDw_KDwIdeal : Prop :=
  True

def algebraic_KDwIdeal_RDwIdeal [hKDwIdeal : Cert.KDwIdeal.Facts] [hRDwIdeal : Cert.RDwIdeal.Facts] : Prop :=
  ∀ (m : (ℓ : Loc Cert.KDwIdeal.nD Cert.KDwIdeal.τ Cert.KDwIdeal.sig) → Buf (Elt Ideal) ℓ) (g : Dev Cert.KDwIdeal.nD → PrngReg)
    (m' : (ℓ : Loc Cert.RDwIdeal.nD Cert.RDwIdeal.τ Cert.RDwIdeal.sig) → Buf (Elt Ideal) ℓ) (g' : Dev Cert.RDwIdeal.nD → PrngReg), Pre_KDwIdeal m →
    (∀ c : Dev Cert.KDwIdeal.nD,
      m' ((c.tc : Thread Cert.RDwIdeal.nD Cert.RDwIdeal.τ).loc Cert.RDwIdeal.main_arg0) = m ((c.tc : Thread Cert.KDwIdeal.nD Cert.KDwIdeal.τ).loc Cert.KDwIdeal.main_arg0)
      ∧ m' ((c.tc : Thread Cert.RDwIdeal.nD Cert.RDwIdeal.τ).loc Cert.RDwIdeal.main_arg1) = m ((c.tc : Thread Cert.KDwIdeal.nD Cert.KDwIdeal.τ).loc Cert.KDwIdeal.main_arg1)) →
    ∃ (v0 : (c : Dev Cert.KDwIdeal.nD) → Buf (Elt Ideal) ((c.tc : Thread Cert.KDwIdeal.nD Cert.KDwIdeal.τ).loc Cert.KDwIdeal.main_v20)),
      θ_run (Cert.KDwIdeal.defs (F := Ideal)) (onTc (τ := Cert.KDwIdeal.τ) (Cert.KDwIdeal.main (F := Ideal))) ⟨m, fun _ => 0, g⟩ (fun r => ∀ c : Dev Cert.KDwIdeal.nD,
          r.2.mem ((c.tc : Thread Cert.KDwIdeal.nD Cert.KDwIdeal.τ).loc Cert.KDwIdeal.main_v20) = v0 c
          ∧ r.2.mem ((c.tc : Thread Cert.KDwIdeal.nD Cert.KDwIdeal.τ).loc Cert.KDwIdeal.main_arg0) = m ((c.tc : Thread Cert.KDwIdeal.nD Cert.KDwIdeal.τ).loc Cert.KDwIdeal.main_arg0)
          ∧ r.2.mem ((c.tc : Thread Cert.KDwIdeal.nD Cert.KDwIdeal.τ).loc Cert.KDwIdeal.main_arg1) = m ((c.tc : Thread Cert.KDwIdeal.nD Cert.KDwIdeal.τ).loc Cert.KDwIdeal.main_arg1))
      ∧ θ_run (Cert.RDwIdeal.defs (F := Ideal)) (onTc (τ := Cert.RDwIdeal.τ) (Cert.RDwIdeal.main (F := Ideal))) ⟨m', fun _ => 0, g'⟩ (fun r => ∀ c : Dev Cert.RDwIdeal.nD,
          r.2.mem ((c.tc : Thread Cert.RDwIdeal.nD Cert.RDwIdeal.τ).loc Cert.RDwIdeal.main_v16) = v0 c
          ∧ r.2.mem ((c.tc : Thread Cert.RDwIdeal.nD Cert.RDwIdeal.τ).loc Cert.RDwIdeal.main_arg0) = m' ((c.tc : Thread Cert.RDwIdeal.nD Cert.RDwIdeal.τ).loc Cert.RDwIdeal.main_arg0)
          ∧ r.2.mem ((c.tc : Thread Cert.RDwIdeal.nD Cert.RDwIdeal.τ).loc Cert.RDwIdeal.main_arg1) = m' ((c.tc : Thread Cert.RDwIdeal.nD Cert.RDwIdeal.τ).loc Cert.RDwIdeal.main_arg1))

def preserves_KAdam_KAdamIdeal : Prop :=
  True

def algebraic_KAdamIdeal_RAdamIdeal [hKAdamIdeal : Cert.KAdamIdeal.Facts] [hRAdamIdeal : Cert.RAdamIdeal.Facts] : Prop :=
  ∀ (m : (ℓ : Loc Cert.KAdamIdeal.nD Cert.KAdamIdeal.τ Cert.KAdamIdeal.sig) → Buf (Elt Ideal) ℓ) (g : Dev Cert.KAdamIdeal.nD → PrngReg)
    (m' : (ℓ : Loc Cert.RAdamIdeal.nD Cert.RAdamIdeal.τ Cert.RAdamIdeal.sig) → Buf (Elt Ideal) ℓ) (g' : Dev Cert.RAdamIdeal.nD → PrngReg), Pre_KAdamIdeal m →
    (∀ c : Dev Cert.KAdamIdeal.nD,
      m' ((c.tc : Thread Cert.RAdamIdeal.nD Cert.RAdamIdeal.τ).loc Cert.RAdamIdeal.main_arg0) = m ((c.tc : Thread Cert.KAdamIdeal.nD Cert.KAdamIdeal.τ).loc Cert.KAdamIdeal.main_arg0)
      ∧ m' ((c.tc : Thread Cert.RAdamIdeal.nD Cert.RAdamIdeal.τ).loc Cert.RAdamIdeal.main_arg1) = m ((c.tc : Thread Cert.KAdamIdeal.nD Cert.KAdamIdeal.τ).loc Cert.KAdamIdeal.main_arg1)
      ∧ m' ((c.tc : Thread Cert.RAdamIdeal.nD Cert.RAdamIdeal.τ).loc Cert.RAdamIdeal.main_arg2) = m ((c.tc : Thread Cert.KAdamIdeal.nD Cert.KAdamIdeal.τ).loc Cert.KAdamIdeal.main_arg2)
      ∧ m' ((c.tc : Thread Cert.RAdamIdeal.nD Cert.RAdamIdeal.τ).loc Cert.RAdamIdeal.main_arg3) = m ((c.tc : Thread Cert.KAdamIdeal.nD Cert.KAdamIdeal.τ).loc Cert.KAdamIdeal.main_arg3)) →
    ∃ (v0 : (c : Dev Cert.KAdamIdeal.nD) → Buf (Elt Ideal) ((c.tc : Thread Cert.KAdamIdeal.nD Cert.KAdamIdeal.τ).loc Cert.KAdamIdeal.main_v0_0)) (v1 : (c : Dev Cert.KAdamIdeal.nD) → Buf (Elt Ideal) ((c.tc : Thread Cert.KAdamIdeal.nD Cert.KAdamIdeal.τ).loc Cert.KAdamIdeal.main_v0_1)) (v2 : (c : Dev Cert.KAdamIdeal.nD) → Buf (Elt Ideal) ((c.tc : Thread Cert.KAdamIdeal.nD Cert.KAdamIdeal.τ).loc Cert.KAdamIdeal.main_v0_2)),
      θ_run (Cert.KAdamIdeal.defs (F := Ideal)) (onTc (τ := Cert.KAdamIdeal.τ) (Cert.KAdamIdeal.main (F := Ideal))) ⟨m, fun _ => 0, g⟩ (fun r => ∀ c : Dev Cert.KAdamIdeal.nD,
          r.2.mem ((c.tc : Thread Cert.KAdamIdeal.nD Cert.KAdamIdeal.τ).loc Cert.KAdamIdeal.main_v0_0) = v0 c
          ∧ r.2.mem ((c.tc : Thread Cert.KAdamIdeal.nD Cert.KAdamIdeal.τ).loc Cert.KAdamIdeal.main_v0_1) = v1 c
          ∧ r.2.mem ((c.tc : Thread Cert.KAdamIdeal.nD Cert.KAdamIdeal.τ).loc Cert.KAdamIdeal.main_v0_2) = v2 c
          ∧ r.2.mem ((c.tc : Thread Cert.KAdamIdeal.nD Cert.KAdamIdeal.τ).loc Cert.KAdamIdeal.main_arg0) = m ((c.tc : Thread Cert.KAdamIdeal.nD Cert.KAdamIdeal.τ).loc Cert.KAdamIdeal.main_arg0)
          ∧ r.2.mem ((c.tc : Thread Cert.KAdamIdeal.nD Cert.KAdamIdeal.τ).loc Cert.KAdamIdeal.main_arg1) = m ((c.tc : Thread Cert.KAdamIdeal.nD Cert.KAdamIdeal.τ).loc Cert.KAdamIdeal.main_arg1)
          ∧ r.2.mem ((c.tc : Thread Cert.KAdamIdeal.nD Cert.KAdamIdeal.τ).loc Cert.KAdamIdeal.main_arg2) = m ((c.tc : Thread Cert.KAdamIdeal.nD Cert.KAdamIdeal.τ).loc Cert.KAdamIdeal.main_arg2)
          ∧ r.2.mem ((c.tc : Thread Cert.KAdamIdeal.nD Cert.KAdamIdeal.τ).loc Cert.KAdamIdeal.main_arg3) = m ((c.tc : Thread Cert.KAdamIdeal.nD Cert.KAdamIdeal.τ).loc Cert.KAdamIdeal.main_arg3))
      ∧ θ_run (Cert.RAdamIdeal.defs (F := Ideal)) (onTc (τ := Cert.RAdamIdeal.τ) (Cert.RAdamIdeal.main (F := Ideal))) ⟨m', fun _ => 0, g'⟩ (fun r => ∀ c : Dev Cert.RAdamIdeal.nD,
          r.2.mem ((c.tc : Thread Cert.RAdamIdeal.nD Cert.RAdamIdeal.τ).loc Cert.RAdamIdeal.main_v23) = v0 c
          ∧ r.2.mem ((c.tc : Thread Cert.RAdamIdeal.nD Cert.RAdamIdeal.τ).loc Cert.RAdamIdeal.main_v4) = v1 c
          ∧ r.2.mem ((c.tc : Thread Cert.RAdamIdeal.nD Cert.RAdamIdeal.τ).loc Cert.RAdamIdeal.main_v10) = v2 c
          ∧ r.2.mem ((c.tc : Thread Cert.RAdamIdeal.nD Cert.RAdamIdeal.τ).loc Cert.RAdamIdeal.main_arg0) = m' ((c.tc : Thread Cert.RAdamIdeal.nD Cert.RAdamIdeal.τ).loc Cert.RAdamIdeal.main_arg0)
          ∧ r.2.mem ((c.tc : Thread Cert.RAdamIdeal.nD Cert.RAdamIdeal.τ).loc Cert.RAdamIdeal.main_arg1) = m' ((c.tc : Thread Cert.RAdamIdeal.nD Cert.RAdamIdeal.τ).loc Cert.RAdamIdeal.main_arg1)
          ∧ r.2.mem ((c.tc : Thread Cert.RAdamIdeal.nD Cert.RAdamIdeal.τ).loc Cert.RAdamIdeal.main_arg2) = m' ((c.tc : Thread Cert.RAdamIdeal.nD Cert.RAdamIdeal.τ).loc Cert.RAdamIdeal.main_arg2)
          ∧ r.2.mem ((c.tc : Thread Cert.RAdamIdeal.nD Cert.RAdamIdeal.τ).loc Cert.RAdamIdeal.main_arg3) = m' ((c.tc : Thread Cert.RAdamIdeal.nD Cert.RAdamIdeal.τ).loc Cert.RAdamIdeal.main_arg3))

def Claim : Prop :=
  ∃ (hKLoss : Cert.KLoss.Facts) (hKLossIdeal : Cert.KLossIdeal.Facts) (hRLossIdeal : Cert.RLossIdeal.Facts) (hKMla : Cert.KMla.Facts) (hKMlaIdeal : Cert.KMlaIdeal.Facts) (hRMlaIdeal : Cert.RMlaIdeal.Facts) (hKGate : Cert.KGate.Facts) (hKGateIdeal : Cert.KGateIdeal.Facts) (hRGateIdeal : Cert.RGateIdeal.Facts) (hKNorm : Cert.KNorm.Facts) (hKNormIdeal : Cert.KNormIdeal.Facts) (hRNormIdeal : Cert.RNormIdeal.Facts) (hKMerge : Cert.KMerge.Facts) (hKMergeIdeal : Cert.KMergeIdeal.Facts) (hRMergeIdeal : Cert.RMergeIdeal.Facts) (hKDh : Cert.KDh.Facts) (hKDhIdeal : Cert.KDhIdeal.Facts) (hRDhIdeal : Cert.RDhIdeal.Facts) (hKKv : Cert.KKv.Facts) (hKKvIdeal : Cert.KKvIdeal.Facts) (hRKvIdeal : Cert.RKvIdeal.Facts) (hKAttn : Cert.KAttn.Facts) (hKAttnIdeal : Cert.KAttnIdeal.Facts) (hRAttnIdeal : Cert.RAttnIdeal.Facts) (hKUp : Cert.KUp.Facts) (hKUpIdeal : Cert.KUpIdeal.Facts) (hRUpIdeal : Cert.RUpIdeal.Facts) (hKMix : Cert.KMix.Facts) (hKMixIdeal : Cert.KMixIdeal.Facts) (hRMixIdeal : Cert.RMixIdeal.Facts) (hKProj : Cert.KProj.Facts) (hKProjIdeal : Cert.KProjIdeal.Facts) (hRProjIdeal : Cert.RProjIdeal.Facts) (hKQkv : Cert.KQkv.Facts) (hKQkvIdeal : Cert.KQkvIdeal.Facts) (hRQkvIdeal : Cert.RQkvIdeal.Facts) (hKDown : Cert.KDown.Facts) (hKDownIdeal : Cert.KDownIdeal.Facts) (hRDownIdeal : Cert.RDownIdeal.Facts) (hKDw : Cert.KDw.Facts) (hKDwIdeal : Cert.KDwIdeal.Facts) (hRDwIdeal : Cert.RDwIdeal.Facts) (hKAdam : Cert.KAdam.Facts) (hKAdamIdeal : Cert.KAdamIdeal.Facts) (hRAdamIdeal : Cert.RAdamIdeal.Facts) (hPre_finite : Cert.Pre_finite.Facts) (hPre_finite_factors : Cert.Pre_finite_factors.Facts) (hPre_finite_qkv : Cert.Pre_finite_qkv.Facts),
    quiescent_KLoss (hKLoss := hKLoss)
    ∧ quiescent_KLossIdeal (hKLossIdeal := hKLossIdeal)
    ∧ quiescent_RLossIdeal (hRLossIdeal := hRLossIdeal)
    ∧ quiescent_KMla (hKMla := hKMla)
    ∧ quiescent_KMlaIdeal (hKMlaIdeal := hKMlaIdeal)
    ∧ quiescent_KMlaIdeal_pre_finite (hKMlaIdeal := hKMlaIdeal) (hPre_finite := hPre_finite)
    ∧ quiescent_RMlaIdeal (hRMlaIdeal := hRMlaIdeal)
    ∧ quiescent_RMlaIdeal_pre_finite (hRMlaIdeal := hRMlaIdeal) (hPre_finite := hPre_finite)
    ∧ quiescent_KGate (hKGate := hKGate)
    ∧ quiescent_KGateIdeal (hKGateIdeal := hKGateIdeal)
    ∧ quiescent_KGateIdeal_pre_finite_factors (hKGateIdeal := hKGateIdeal) (hPre_finite_factors := hPre_finite_factors)
    ∧ quiescent_RGateIdeal (hRGateIdeal := hRGateIdeal)
    ∧ quiescent_RGateIdeal_pre_finite_factors (hRGateIdeal := hRGateIdeal) (hPre_finite_factors := hPre_finite_factors)
    ∧ quiescent_KNorm (hKNorm := hKNorm)
    ∧ quiescent_KNormIdeal (hKNormIdeal := hKNormIdeal)
    ∧ quiescent_RNormIdeal (hRNormIdeal := hRNormIdeal)
    ∧ quiescent_KMerge (hKMerge := hKMerge)
    ∧ quiescent_KMergeIdeal (hKMergeIdeal := hKMergeIdeal)
    ∧ quiescent_RMergeIdeal (hRMergeIdeal := hRMergeIdeal)
    ∧ quiescent_KDh (hKDh := hKDh)
    ∧ quiescent_KDhIdeal (hKDhIdeal := hKDhIdeal)
    ∧ quiescent_RDhIdeal (hRDhIdeal := hRDhIdeal)
    ∧ quiescent_KKv (hKKv := hKKv)
    ∧ quiescent_KKvIdeal (hKKvIdeal := hKKvIdeal)
    ∧ quiescent_RKvIdeal (hRKvIdeal := hRKvIdeal)
    ∧ quiescent_KAttn (hKAttn := hKAttn)
    ∧ quiescent_KAttnIdeal (hKAttnIdeal := hKAttnIdeal)
    ∧ quiescent_KAttnIdeal_pre_finite_qkv (hKAttnIdeal := hKAttnIdeal) (hPre_finite_qkv := hPre_finite_qkv)
    ∧ quiescent_RAttnIdeal (hRAttnIdeal := hRAttnIdeal)
    ∧ quiescent_RAttnIdeal_pre_finite_qkv (hRAttnIdeal := hRAttnIdeal) (hPre_finite_qkv := hPre_finite_qkv)
    ∧ quiescent_KUp (hKUp := hKUp)
    ∧ quiescent_KUpIdeal (hKUpIdeal := hKUpIdeal)
    ∧ quiescent_RUpIdeal (hRUpIdeal := hRUpIdeal)
    ∧ quiescent_KMix (hKMix := hKMix)
    ∧ quiescent_KMixIdeal (hKMixIdeal := hKMixIdeal)
    ∧ quiescent_RMixIdeal (hRMixIdeal := hRMixIdeal)
    ∧ quiescent_KProj (hKProj := hKProj)
    ∧ quiescent_KProjIdeal (hKProjIdeal := hKProjIdeal)
    ∧ quiescent_RProjIdeal (hRProjIdeal := hRProjIdeal)
    ∧ quiescent_KQkv (hKQkv := hKQkv)
    ∧ quiescent_KQkvIdeal (hKQkvIdeal := hKQkvIdeal)
    ∧ quiescent_RQkvIdeal (hRQkvIdeal := hRQkvIdeal)
    ∧ quiescent_KDown (hKDown := hKDown)
    ∧ quiescent_KDownIdeal (hKDownIdeal := hKDownIdeal)
    ∧ quiescent_RDownIdeal (hRDownIdeal := hRDownIdeal)
    ∧ quiescent_KDw (hKDw := hKDw)
    ∧ quiescent_KDwIdeal (hKDwIdeal := hKDwIdeal)
    ∧ quiescent_RDwIdeal (hRDwIdeal := hRDwIdeal)
    ∧ quiescent_KAdam (hKAdam := hKAdam)
    ∧ quiescent_KAdamIdeal (hKAdamIdeal := hKAdamIdeal)
    ∧ quiescent_RAdamIdeal (hRAdamIdeal := hRAdamIdeal)
    ∧ preserves_KLoss_KLossIdeal
    ∧ algebraic_KLossIdeal_RLossIdeal (hKLossIdeal := hKLossIdeal) (hRLossIdeal := hRLossIdeal)
    ∧ preserves_KMla_KMlaIdeal
    ∧ algebraic_KMlaIdeal_RMlaIdeal_pre_finite (hKMlaIdeal := hKMlaIdeal) (hRMlaIdeal := hRMlaIdeal) (hPre_finite := hPre_finite)
    ∧ preserves_KGate_KGateIdeal
    ∧ algebraic_KGateIdeal_RGateIdeal_pre_finite_factors (hKGateIdeal := hKGateIdeal) (hRGateIdeal := hRGateIdeal) (hPre_finite_factors := hPre_finite_factors)
    ∧ preserves_KNorm_KNormIdeal
    ∧ algebraic_KNormIdeal_RNormIdeal (hKNormIdeal := hKNormIdeal) (hRNormIdeal := hRNormIdeal)
    ∧ preserves_KMerge_KMergeIdeal
    ∧ algebraic_KMergeIdeal_RMergeIdeal (hKMergeIdeal := hKMergeIdeal) (hRMergeIdeal := hRMergeIdeal)
    ∧ preserves_KDh_KDhIdeal
    ∧ algebraic_KDhIdeal_RDhIdeal (hKDhIdeal := hKDhIdeal) (hRDhIdeal := hRDhIdeal)
    ∧ preserves_KKv_KKvIdeal
    ∧ algebraic_KKvIdeal_RKvIdeal (hKKvIdeal := hKKvIdeal) (hRKvIdeal := hRKvIdeal)
    ∧ preserves_KAttn_KAttnIdeal
    ∧ algebraic_KAttnIdeal_RAttnIdeal_pre_finite_qkv (hKAttnIdeal := hKAttnIdeal) (hRAttnIdeal := hRAttnIdeal) (hPre_finite_qkv := hPre_finite_qkv)
    ∧ preserves_KUp_KUpIdeal
    ∧ algebraic_KUpIdeal_RUpIdeal (hKUpIdeal := hKUpIdeal) (hRUpIdeal := hRUpIdeal)
    ∧ preserves_KMix_KMixIdeal
    ∧ algebraic_KMixIdeal_RMixIdeal (hKMixIdeal := hKMixIdeal) (hRMixIdeal := hRMixIdeal)
    ∧ preserves_KProj_KProjIdeal
    ∧ algebraic_KProjIdeal_RProjIdeal (hKProjIdeal := hKProjIdeal) (hRProjIdeal := hRProjIdeal)
    ∧ preserves_KQkv_KQkvIdeal
    ∧ algebraic_KQkvIdeal_RQkvIdeal (hKQkvIdeal := hKQkvIdeal) (hRQkvIdeal := hRQkvIdeal)
    ∧ preserves_KDown_KDownIdeal
    ∧ algebraic_KDownIdeal_RDownIdeal (hKDownIdeal := hKDownIdeal) (hRDownIdeal := hRDownIdeal)
    ∧ preserves_KDw_KDwIdeal
    ∧ algebraic_KDwIdeal_RDwIdeal (hKDwIdeal := hKDwIdeal) (hRDwIdeal := hRDwIdeal)
    ∧ preserves_KAdam_KAdamIdeal
    ∧ algebraic_KAdamIdeal_RAdamIdeal (hKAdamIdeal := hKAdamIdeal) (hRAdamIdeal := hRAdamIdeal)
-- ==== Pre_finite.lean ====
abbrev S2x2048x8x96 : Shape := ⟨4, ![2, 2048, 8, 96]⟩
abbrev S2x2048x8x64 : Shape := ⟨4, ![2, 2048, 8, 64]⟩
abbrev S2x2048x512 : Shape := ⟨3, ![2, 2048, 512]⟩
abbrev S_ : Shape := ⟨0, ![]⟩

class Facts : Prop where
  bcast_S_S2x2048x8x96 : S_.BroadcastsInDim S2x2048x8x96 (![] : Fin 0 → Fin S2x2048x8x96.rank)
  bcast_S_S2x2048x8x64 : S_.BroadcastsInDim S2x2048x8x64 (![] : Fin 0 → Fin S2x2048x8x64.rank)
  bcast_S_S2x2048x512 : S_.BroadcastsInDim S2x2048x512 (![] : Fin 0 → Fin S2x2048x512.rank)

variable [Facts]

def fn {F : FTy → Type} [FloatOps F] (main_arg0 : FVec F S2x2048x8x96 .f32) (main_arg1 : FVec F S2x2048x8x96 .f32) (main_arg2 : FVec F S2x2048x8x64 .f32) (main_arg3 : FVec F S2x2048x512 .f32) : IVec S2x2048x8x96 1 × IVec S2x2048x8x96 1 × IVec S2x2048x8x64 1 × IVec S2x2048x512 1 :=
  let main_v0 : FVec F S2x2048x8x96 .f32 := Host.absf main_arg0
  let main_cst : FVec F S_ .f32 := constant S_ .f32 0x7F800000#32
  let main_v1 : FVec F S2x2048x8x96 .f32 := broadcastInDim S2x2048x8x96 ![] bcast_S_S2x2048x8x96 main_cst
  let main_v2 : IVec S2x2048x8x96 1 := cmpf .olt main_v0 main_v1
  let main_v3 : FVec F S2x2048x8x96 .f32 := Host.absf main_arg1
  let main_cst_0 : FVec F S_ .f32 := constant S_ .f32 0x7F800000#32
  let main_v4 : FVec F S2x2048x8x96 .f32 := broadcastInDim S2x2048x8x96 ![] bcast_S_S2x2048x8x96 main_cst_0
  let main_v5 : IVec S2x2048x8x96 1 := cmpf .olt main_v3 main_v4
  let main_v6 : FVec F S2x2048x8x64 .f32 := Host.absf main_arg2
  let main_cst_1 : FVec F S_ .f32 := constant S_ .f32 0x7F800000#32
  let main_v7 : FVec F S2x2048x8x64 .f32 := broadcastInDim S2x2048x8x64 ![] bcast_S_S2x2048x8x64 main_cst_1
  let main_v8 : IVec S2x2048x8x64 1 := cmpf .olt main_v6 main_v7
  let main_v9 : FVec F S2x2048x512 .f32 := Host.absf main_arg3
  let main_cst_2 : FVec F S_ .f32 := constant S_ .f32 0x7F800000#32
  let main_v10 : FVec F S2x2048x512 .f32 := broadcastInDim S2x2048x512 ![] bcast_S_S2x2048x512 main_cst_2
  let main_v11 : IVec S2x2048x512 1 := cmpf .olt main_v9 main_v10
  (main_v2, main_v5, main_v8, main_v11)
-- ==== Pre_finite_factors.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

class Facts : Prop where
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)

variable [Facts]

def fn {F : FTy → Type} [FloatOps F] (main_arg0 : FVec F S4096x2816 .f32) (main_arg1 : FVec F S4096x2816 .f32) (main_arg2 : FVec F S2816x1024 .f32) (main_arg3 : FVec F S4096x1024 .f32) : IVec S4096x2816 1 × IVec S2816x1024 1 × IVec S4096x1024 1 :=
  let main_v0 : FVec F S4096x2816 .f32 := Host.absf main_arg1
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_v3 : FVec F S2816x1024 .f32 := Host.absf main_arg2
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S4096x1024 .f32 := Host.absf main_arg3
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Pre_finite_qkv.lean ====
abbrev S2x2048x8x96 : Shape := ⟨4, ![2, 2048, 8, 96]⟩
abbrev S2x2048x8x64 : Shape := ⟨4, ![2, 2048, 8, 64]⟩
abbrev S_ : Shape := ⟨0, ![]⟩

class Facts : Prop where
  bcast_S_S2x2048x8x96 : S_.BroadcastsInDim S2x2048x8x96 (![] : Fin 0 → Fin S2x2048x8x96.rank)
  bcast_S_S2x2048x8x64 : S_.BroadcastsInDim S2x2048x8x64 (![] : Fin 0 → Fin S2x2048x8x64.rank)

variable [Facts]

def fn {F : FTy → Type} [FloatOps F] (main_arg0 : FVec F S2x2048x8x96 .f32) (main_arg1 : FVec F S2x2048x8x96 .f32) (main_arg2 : FVec F S2x2048x8x64 .f32) : IVec S2x2048x8x96 1 × IVec S2x2048x8x96 1 × IVec S2x2048x8x64 1 :=
  let main_v0 : FVec F S2x2048x8x96 .f32 := Host.absf main_arg0
  let main_cst : FVec F S_ .f32 := constant S_ .f32 0x7F800000#32
  let main_v1 : FVec F S2x2048x8x96 .f32 := broadcastInDim S2x2048x8x96 ![] bcast_S_S2x2048x8x96 main_cst
  let main_v2 : IVec S2x2048x8x96 1 := cmpf .olt main_v0 main_v1
  let main_v3 : FVec F S2x2048x8x96 .f32 := Host.absf main_arg1
  let main_cst_0 : FVec F S_ .f32 := constant S_ .f32 0x7F800000#32
  let main_v4 : FVec F S2x2048x8x96 .f32 := broadcastInDim S2x2048x8x96 ![] bcast_S_S2x2048x8x96 main_cst_0
  let main_v5 : IVec S2x2048x8x96 1 := cmpf .olt main_v3 main_v4
  let main_v6 : FVec F S2x2048x8x64 .f32 := Host.absf main_arg2
  let main_cst_1 : FVec F S_ .f32 := constant S_ .f32 0x7F800000#32
  let main_v7 : FVec F S2x2048x8x64 .f32 := broadcastInDim S2x2048x8x64 ![] bcast_S_S2x2048x8x64 main_cst_1
  let main_v8 : IVec S2x2048x8x64 1 := cmpf .olt main_v6 main_v7
  (main_v2, main_v5, main_v8)
-- ==== KLoss.lean ====
abbrev S2x2048x1024 : Shape := ⟨3, ![2, 2048, 1024]⟩
abbrev S4096x1024 : Shape := ⟨2, ![4096, 1024]⟩
abbrev S1x1 : Shape := ⟨2, ![1, 1]⟩
abbrev S512x1024 : Shape := ⟨2, ![512, 1024]⟩
abbrev S1x1024 : Shape := ⟨2, ![1, 1024]⟩
abbrev S1024 : Shape := ⟨1, ![1024]⟩
abbrev S1 : Shape := ⟨1, ![1]⟩

abbrev nBuf : Space → Nat
  | .hbm => 7
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1, .f32⟩
  | .local _ .vmem, ⟨9, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v21 : BitVec 1 := Scalar.cmpi .eq arg0 c7_i32
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RLossIdeal.lean ====
abbrev S2x2048x1024 : Shape := ⟨3, ![2, 2048, 1024]⟩
abbrev S_ : Shape := ⟨0, ![]⟩
abbrev S2x2048 : Shape := ⟨2, ![2, 2048]⟩
abbrev S4096x1024 : Shape := ⟨2, ![4096, 1024]⟩
abbrev S1x1 : Shape := ⟨2, ![1, 1]⟩

abbrev nBuf : Space → Nat
  | .hbm => 28
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S_, .f32⟩
  | .hbm, ⟨5, _⟩ => ⟨S2x2048x1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S_, .f32⟩
  | .hbm, ⟨10, _⟩ => ⟨S2x2048, .f32⟩
  | .hbm, ⟨11, _⟩ => ⟨S2x2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2x2048, .f32⟩
  | .hbm, ⟨20, _⟩ => ⟨S_, .f32⟩
  | .hbm, ⟨21, _⟩ => ⟨S2x2048, .f32⟩
  | .hbm, ⟨22, _⟩ => ⟨S2x2048, .f32⟩
  | .hbm, ⟨23, _⟩ => ⟨S2x2048x1024, .f32⟩
  | .hbm, ⟨24, _⟩ => ⟨S2x2048x1024, .f32⟩
  | .hbm, ⟨25, _⟩ => ⟨S4096x1024, .f32⟩
  | .hbm, ⟨26, _⟩ => ⟨S4096x1024, .bf16⟩
  | .hbm, ⟨27, _⟩ => ⟨S1x1, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== KMla.lean ====
abbrev S2x2048x8x96 : Shape := ⟨4, ![2, 2048, 8, 96]⟩
abbrev S2x2048x8x64 : Shape := ⟨4, ![2, 2048, 8, 64]⟩
abbrev S2x2048x512 : Shape := ⟨3, ![2, 2048, 512]⟩
abbrev S_ : Shape := ⟨0, ![]⟩
abbrev S2x2048x8x128 : Shape := ⟨4, ![2, 2048, 8, 128]⟩
abbrev S4096x1024 : Shape := ⟨2, ![4096, 1024]⟩
abbrev S2x8x2048x2048 : Shape := ⟨4, ![2, 8, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩
abbrev S16x2048x1 : Shape := ⟨3, ![16, 2048, 1]⟩
abbrev S2048x128 : Shape := ⟨2, ![2048, 128]⟩
abbrev S1x2048x1 : Shape := ⟨3, ![1, 2048, 1]⟩
abbrev S256x128 : Shape := ⟨2, ![256, 128]⟩
abbrev S1x256x1 : Shape := ⟨3, ![1, 256, 1]⟩
abbrev S256x1 : Shape := ⟨2, ![256, 1]⟩
abbrev S256 : Shape := ⟨1, ![256]⟩
abbrev S256x256 : Shape := ⟨2, ![256, 256]⟩
abbrev S512x128 : Shape := ⟨2, ![512, 128]⟩
abbrev S256x512 : Shape := ⟨2, ![256, 512]⟩
abbrev S768x128 : Shape := ⟨2, ![768, 128]⟩
abbrev S256x768 : Shape := ⟨2, ![256, 768]⟩
abbrev S1024x128 : Shape := ⟨2, ![1024, 128]⟩
abbrev S256x1024 : Shape := ⟨2, ![256, 1024]⟩
abbrev S1280x128 : Shape := ⟨2, ![1280, 128]⟩
abbrev S256x1280 : Shape := ⟨2, ![256, 1280]⟩
abbrev S1536x128 : Shape := ⟨2, ![1536, 128]⟩
abbrev S256x1536 : Shape := ⟨2, ![256, 1536]⟩
abbrev S1792x128 : Shape := ⟨2, ![1792, 128]⟩
abbrev S256x1792 : Shape := ⟨2, ![256, 1792]⟩
abbrev S2048x256 : Shape := ⟨2, ![2048, 256]⟩
abbrev S1792x256 : Shape := ⟨2, ![1792, 256]⟩
abbrev S1536x256 : Shape := ⟨2, ![1536, 256]⟩
abbrev S1280x256 : Shape := ⟨2, ![1280, 256]⟩
abbrev S1024x256 : Shape := ⟨2, ![1024, 256]⟩
abbrev S768x256 : Shape := ⟨2, ![768, 256]⟩
abbrev S512x256 : Shape := ⟨2, ![512, 256]⟩

abbrev nBuf : Space → Nat
  | .hbm => 69
  | .vmem => 18
  | .smem => 0
  | _ => 0

abbrev bufTy : (tb : Table) → Fin (tcTables nBuf tb) → BufTy
  | .hbm, ⟨0, _⟩ => ⟨S2x2048x8x96, .f32⟩
  | .hbm, ⟨1, _⟩ => ⟨S2x2048x8x96, .f32⟩
  | .hbm, ⟨2, _⟩ => ⟨S2x2048x8x64, .f32⟩
  | .hbm, ⟨3, _⟩ => ⟨S2x2048x512, .f32⟩
  | .hbm, ⟨4, _⟩ => ⟨S_, .i32⟩
  | .hbm, ⟨5, _⟩ => ⟨S_, .f32⟩
  | .hbm, ⟨6, _⟩ => ⟨S2x2048x8x128, .f32⟩
  | .hbm, ⟨7, _⟩ => ⟨S4096x1024, .f32⟩
  | .hbm, ⟨8, _⟩ => ⟨S4096x1024, .bf16⟩
  | .hbm, ⟨9, _⟩ => ⟨S_, .i32⟩
  | .hbm, ⟨10, _⟩ => ⟨S_, .f32⟩
  | .hbm, ⟨11, _⟩ => ⟨S2x2048x8x128, .f32⟩
  | .hbm, ⟨12, _⟩ => ⟨S4096x1024, .f32⟩
  | .hbm, ⟨13, _⟩ => ⟨S4096x1024, .bf16⟩
  | .hbm, ⟨14, _⟩ => ⟨S_, .i32⟩
  | .hbm, ⟨15, _⟩ => ⟨S_, .f32⟩
  | .hbm, ⟨16, _⟩ => ⟨S2x2048x8x128, .f32⟩
  | .hbm, ⟨17, _⟩ => ⟨S4096x1024, .f32⟩
  | .hbm, ⟨18, _⟩ => ⟨S4096x1024, .bf16⟩
  | .hbm, ⟨19, _⟩ => ⟨S2x2048x8x64, .f32⟩
  | .hbm, ⟨20, _⟩ => ⟨S_, .i32⟩
  | .hbm, ⟨21, _⟩ => ⟨S_, .f32⟩
  | .hbm, ⟨22, _⟩ => ⟨S2x2048x8x128, .f32⟩
  | .hbm, ⟨23, _⟩ => ⟨S4096x1024, .f32⟩
  | .hbm, ⟨24, _⟩ => ⟨S4096x1024, .bf16⟩
  | .hbm, ⟨25, _⟩ => ⟨S2x8x2048x2048, .f32⟩
  | .hbm, ⟨26, _⟩ => ⟨S_, .f32⟩
  | .hbm, ⟨27, _⟩ => ⟨S_, .f32⟩
  | .hbm, ⟨28, _⟩ => ⟨S2x8x2048x2048, .f32⟩
  | .hbm, ⟨29, _⟩ => ⟨S2x8x2048x2048, .f32⟩
  | .hbm, ⟨30, _⟩ => ⟨S2048, .i32⟩
  | .hbm, ⟨31, _⟩ => ⟨S2048x1, .i32⟩
  | .hbm, ⟨32, _⟩ => ⟨S1x2048, .i32⟩
  | .hbm, ⟨33, _⟩ => ⟨S2048x2048, .i32⟩
  | .hbm, ⟨34, _⟩ => ⟨S2048x2048, .i32⟩
  | .hbm, ⟨35, _⟩ => ⟨S2048x2048, .i1⟩
  | .hbm, ⟨36, _⟩ => ⟨S_, .f32⟩
  | .hbm, ⟨37, _⟩ => ⟨S_, .f32⟩
  | .hbm, ⟨38, _⟩ => ⟨S2x8x2048x2048, .i1⟩
  | .hbm, ⟨39, _⟩ => ⟨S2x8x2048x2048, .f32⟩
  | .hbm, ⟨40, _⟩ => ⟨S2x8x2048x2048, .f32⟩
  | .hbm, ⟨41, _⟩ => ⟨S_, .f32⟩
  | .hbm, ⟨42, _⟩ => ⟨S2x8x2048, .f32⟩
  | .hbm, ⟨43, _⟩ => ⟨S2x8x2048x1, .f32⟩
  | .hbm, ⟨44, _⟩ => ⟨S2x8x2048x2048, .f32⟩
  | .hbm, ⟨45, _⟩ => ⟨S2x8x2048x2048, .f32⟩
  | .hbm, ⟨46, _⟩ => ⟨S2x8x2048x2048, .f32⟩
  | .hbm, ⟨47, _⟩ => ⟨S_, .f32⟩
  | .hbm, ⟨48, _⟩ => ⟨S2x8x2048, .f32⟩
  | .hbm, ⟨49, _⟩ => ⟨S2x8x2048x1, .f32⟩
  | .hbm, ⟨50, _⟩ => ⟨S2x8x2048x2048, .f32⟩
  | .hbm, ⟨51, _⟩ => ⟨S2x8x2048x2048, .f32⟩
  | .hbm, ⟨52, _⟩ => ⟨S2x8x64x2048, .f32⟩
  | .hbm, ⟨53, _⟩ => ⟨S2x2048x8x64, .f32⟩
  | .hbm, ⟨54, _⟩ => ⟨S2x8x2048x1, .f32⟩
  | .hbm, ⟨55, _⟩ => ⟨S2x8x2048x1, .f32⟩
  | .hbm, ⟨56, _⟩ => ⟨S_, .f32⟩
  | .hbm, ⟨57, _⟩ => ⟨S_, .f32⟩
  | .hbm, ⟨58, _⟩ => ⟨S2x8x2048x1, .f32⟩
  | .hbm, ⟨59, _⟩ => ⟨S2x8x2048x1, .f32⟩
  | .hbm, ⟨60, _⟩ => ⟨S16x2048x1, .f32⟩
  | .hbm, ⟨61, _⟩ => ⟨S_, .i32⟩
  | .hbm, ⟨62, _⟩ => ⟨S_, .f32⟩
  | .hbm, ⟨63, _⟩ => ⟨S2x2048x8x128, .f32⟩
  | .hbm, ⟨64, _⟩ => ⟨S4096x1024, .f32⟩
  | .hbm, ⟨65, _⟩ => ⟨S4096x1024, .bf16⟩
  | .hbm, ⟨66, _⟩ => ⟨S4096x1024, .f32⟩
  | .hbm, ⟨67, _⟩ => ⟨S4096x1024, .f32⟩
  | .hbm, ⟨68, _⟩ => ⟨S4096x1024, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S1x2048x1, .f32⟩
  | .local _ .vmem, ⟨11, _⟩ => ⟨S1x2048x1, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | _, _ => ⟨S2x2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_call2_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_call3_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_call4_v0 : Ref sig .tc := ⟨.hbm, 37, rfl⟩
abbrev main_call4_v1 : Ref sig .tc := ⟨.hbm, 38, rfl⟩
abbrev main_call4_v2 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_7 : Ref sig .tc := ⟨.hbm, 61, rfl⟩
abbrev main_call5_v0 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44_0 : Ref sig .tc := ⟨.hbm, 66, rfl⟩
abbrev main_v44_1 : Ref sig .tc := ⟨.hbm, 67, rfl⟩
abbrev main_v44_2 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KMlaIdeal.lean ====
variable {F : FTy → Type} [FloatOps F] [Named F]
def κ : String → Option EReal := fun
  | "c" => some ((((Real.sqrt 96) * (Real.log 2))⁻¹ : ℝ) : EReal)
  | "mask" => some ⊥
  | "scale" => some (((Real.sqrt 96)⁻¹ : ℝ) : EReal)
  | _ => none
-- ==== RMlaIdeal.lean ====
abbrev S2x2048x8x96 : Shape := ⟨4, ![2, 2048, 8, 96]⟩
abbrev S2x2048x8x64 : Shape := ⟨4, ![2, 2048, 8, 64]⟩
abbrev S2x2048x512 : Shape := ⟨3, ![2, 2048, 512]⟩
abbrev S2x8x2048x2048 : Shape := ⟨4, ![2, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩
abbrev S2x8x2048x96 : Shape := ⟨4, ![2, 8, 2048, 96]⟩
abbrev S2x2048x8x128 : Shape := ⟨4, ![2, 2048, 8, 128]⟩
abbrev S4096x1024 : Shape := ⟨2, ![4096, 1024]⟩

abbrev nBuf : Space → Nat
  | .hbm => 103
  | .vmem => 0
  | .smem => 0
  | _ => 0

abbrev bufTy : (tb : Table) → Fin (tcTables nBuf tb) → BufTy
  | .hbm, ⟨0, _⟩ => ⟨S2x2048x8x96, .f32⟩
  | .hbm, ⟨1, _⟩ => ⟨S2x2048x8x96, .f32⟩
  | .hbm, ⟨2, _⟩ => ⟨S2x2048x8x64, .f32⟩
  | .hbm, ⟨3, _⟩ => ⟨S2x2048x512, .f32⟩
  | .hbm, ⟨4, _⟩ => ⟨S2x8x2048x2048, .f32⟩
  | .hbm, ⟨5, _⟩ => ⟨S_, .f32⟩
  | .hbm, ⟨6, _⟩ => ⟨S_, .f32⟩
  | .hbm, ⟨7, _⟩ => ⟨S2x8x2048x2048, .f32⟩
  | .hbm, ⟨8, _⟩ => ⟨S2x8x2048x2048, .f32⟩
  | .hbm, ⟨9, _⟩ => ⟨S2048, .i32⟩
  | .hbm, ⟨10, _⟩ => ⟨S2048x1, .i32⟩
  | .hbm, ⟨11, _⟩ => ⟨S1x2048, .i32⟩
  | .hbm, ⟨12, _⟩ => ⟨S2048x2048, .i32⟩
  | .hbm, ⟨13, _⟩ => ⟨S2048x2048, .i32⟩
  | .hbm, ⟨14, _⟩ => ⟨S2048x2048, .i1⟩
  | .hbm, ⟨15, _⟩ => ⟨S_, .f32⟩
  | .hbm, ⟨16, _⟩ => ⟨S_, .f32⟩
  | .hbm, ⟨17, _⟩ => ⟨S2x8x2048x2048, .i1⟩
  | .hbm, ⟨18, _⟩ => ⟨S2x8x2048x2048, .f32⟩
  | .hbm, ⟨19, _⟩ => ⟨S2x8x2048x2048, .f32⟩
  | .hbm, ⟨20, _⟩ => ⟨S_, .f32⟩
  | .hbm, ⟨21, _⟩ => ⟨S2x8x2048x2048, .f32⟩
  | .hbm, ⟨22, _⟩ => ⟨S_, .f32⟩
  | .hbm, ⟨23, _⟩ => ⟨S2x8x2048, .f32⟩
  | .hbm, ⟨24, _⟩ => ⟨S2x8x2048x1, .f32⟩
  | .hbm, ⟨25, _⟩ => ⟨S2x8x2048x2048, .f32⟩
  | .hbm, ⟨26, _⟩ => ⟨S2x8x2048x2048, .i1⟩
  | .hbm, ⟨27, _⟩ => ⟨S2x8x2048x2048, .f32⟩
  | .hbm, ⟨28, _⟩ => ⟨S_, .f32⟩
  | .hbm, ⟨29, _⟩ => ⟨S2x8x2048, .f32⟩
  | .hbm, ⟨30, _⟩ => ⟨S_, .f32⟩
  | .hbm, ⟨31, _⟩ => ⟨S2x8x2048, .f32⟩
  | .hbm, ⟨32, _⟩ => ⟨S2x8x2048, .f32⟩
  | .hbm, ⟨33, _⟩ => ⟨S_, .f32⟩
  | .hbm, ⟨34, _⟩ => ⟨S2x8x2048, .f32⟩
  | .hbm, ⟨35, _⟩ => ⟨S2x8x2048, .i1⟩
  | .hbm, ⟨36, _⟩ => ⟨S_, .f32⟩
  | .hbm, ⟨37, _⟩ => ⟨S2x8x2048, .f32⟩
  | .hbm, ⟨38, _⟩ => ⟨S2x8x2048, .i1⟩
  | .hbm, ⟨39, _⟩ => ⟨S_, .f32⟩
  | .hbm, ⟨40, _⟩ => ⟨S2x8x2048, .f32⟩
  | .hbm, ⟨41, _⟩ => ⟨S_, .f32⟩
  | .hbm, ⟨42, _⟩ => ⟨S2x8x2048, .f32⟩
  | .hbm, ⟨43, _⟩ => ⟨S_, .f32⟩
  | .hbm, ⟨44, _⟩ => ⟨S2x8x2048, .f32⟩
  | .hbm, ⟨45, _⟩ => ⟨S2x8x2048, .f32⟩
  | .hbm, ⟨46, _⟩ => ⟨S2x8x2048, .f32⟩
  | .hbm, ⟨47, _⟩ => ⟨S2x8x2048x1, .f32⟩
  | .hbm, ⟨48, _⟩ => ⟨S2x8x2048x2048, .f32⟩
  | .hbm, ⟨49, _⟩ => ⟨S2x8x2048x2048, .f32⟩
  | .hbm, ⟨50, _⟩ => ⟨S2x8x2048x2048, .f32⟩
  | .hbm, ⟨51, _⟩ => ⟨S_, .f32⟩
  | .hbm, ⟨52, _⟩ => ⟨S2x8x2048, .f32⟩
  | .hbm, ⟨53, _⟩ => ⟨S2x8x2048x1, .f32⟩
  | .hbm, ⟨54, _⟩ => ⟨S2x8x2048x2048, .f32⟩
  | .hbm, ⟨55, _⟩ => ⟨S2x8x2048x2048, .f32⟩
  | .hbm, ⟨56, _⟩ => ⟨S2x8x2048x1, .f32⟩
  | .hbm, ⟨57, _⟩ => ⟨S_, .f32⟩
  | .hbm, ⟨58, _⟩ => ⟨S2x8x2048x1, .f32⟩
  | .hbm, ⟨59, _⟩ => ⟨S2x8x2048x1, .f32⟩
  | .hbm, ⟨60, _⟩ => ⟨S2x8x64x2048, .f32⟩
  | .hbm, ⟨61, _⟩ => ⟨S2x2048x8x64, .f32⟩
  | .hbm, ⟨62, _⟩ => ⟨S2x2048x512, .f32⟩
  | .hbm, ⟨63, _⟩ => ⟨S2x2048x8x64, .f32⟩
  | .hbm, ⟨64, _⟩ => ⟨S2x8x64x2048, .f32⟩
  | .hbm, ⟨65, _⟩ => ⟨S2x8x2048x2048, .f32⟩
  | .hbm, ⟨66, _⟩ => ⟨S2x8x64x2048, .f32⟩
  | .hbm, ⟨67, _⟩ => ⟨S2x2048x8x64, .f32⟩
  | .hbm, ⟨68, _⟩ => ⟨S2x8x2048x2048, .f32⟩
  | .hbm, ⟨69, _⟩ => ⟨S2x8x2048x2048, .f32⟩
  | .hbm, ⟨70, _⟩ => ⟨S2x8x2048x2048, .f32⟩
  | .hbm, ⟨71, _⟩ => ⟨S_, .f32⟩
  | .hbm, ⟨72, _⟩ => ⟨S2x8x2048, .f32⟩
  | .hbm, ⟨73, _⟩ => ⟨S2x8x2048x1, .f32⟩
  | .hbm, ⟨74, _⟩ => ⟨S2x8x2048x1, .f32⟩
  | .hbm, ⟨75, _⟩ => ⟨S2x8x2048x2048, .f32⟩
  | .hbm, ⟨76, _⟩ => ⟨S2x8x2048x2048, .f32⟩
  | .hbm, ⟨77, _⟩ => ⟨S_, .f32⟩
  | .hbm, ⟨78, _⟩ => ⟨S2x8x2048, .f32⟩
  | .hbm, ⟨79, _⟩ => ⟨S2x8x2048x2048, .f32⟩
  | .hbm, ⟨80, _⟩ => ⟨S2x8x2048x2048, .f32⟩
  | .hbm, ⟨81, _⟩ => ⟨S2x8x2048x2048, .f32⟩
  | .hbm, ⟨82, _⟩ => ⟨S_, .f32⟩
  | .hbm, ⟨83, _⟩ => ⟨S2x8x2048x2048, .f32⟩
  | .hbm, ⟨84, _⟩ => ⟨S2x8x2048x2048, .f32⟩
  | .hbm, ⟨85, _⟩ => ⟨S2x8x2048x2048, .f32⟩
  | .hbm, ⟨86, _⟩ => ⟨S2x8x2048x2048, .f32⟩
  | .hbm, ⟨87, _⟩ => ⟨S2x8x2048x96, .f32⟩
  | .hbm, ⟨88, _⟩ => ⟨S2x2048x8x96, .f32⟩
  | .hbm, ⟨89, _⟩ => ⟨S2x8x2048x96, .f32⟩
  | .hbm, ⟨90, _⟩ => ⟨S2x2048x8x96, .f32⟩
  | .hbm, ⟨91, _⟩ => ⟨S_, .i32⟩
  | .hbm, ⟨92, _⟩ => ⟨S_, .f32⟩
  | .hbm, ⟨93, _⟩ => ⟨S2x2048x8x128, .f32⟩
  | .hbm, ⟨94, _⟩ => ⟨S4096x1024, .f32⟩
  | .hbm, ⟨95, _⟩ => ⟨S_, .i32⟩
  | .hbm, ⟨96, _⟩ => ⟨S_, .f32⟩
  | .hbm, ⟨97, _⟩ => ⟨S2x2048x8x128, .f32⟩
  | .hbm, ⟨98, _⟩ => ⟨S4096x1024, .f32⟩
  | .hbm, ⟨99, _⟩ => ⟨S_, .i32⟩
  | .hbm, ⟨100, _⟩ => ⟨S_, .f32⟩
  | .hbm, ⟨101, _⟩ => ⟨S2x2048x8x128, .f32⟩
  | .hbm, ⟨102, _⟩ => ⟨S4096x1024, .f32⟩
  | _, _ => ⟨S2x2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call1_cst : Ref sig .tc := ⟨.hbm, 82, rfl⟩
abbrev main_call1_v0 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c : Ref sig .tc := ⟨.hbm, 91, rfl⟩
abbrev main_call2_v0 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_call3_v0 : Ref sig .tc := ⟨.hbm, 96, rfl⟩
abbrev main_v68 : Ref sig .tc := ⟨.hbm, 97, rfl⟩
abbrev main_v69 : Ref sig .tc := ⟨.hbm, 98, rfl⟩
abbrev main_c_14 : Ref sig .tc := ⟨.hbm, 99, rfl⟩
abbrev main_call4_v0 : Ref sig .tc := ⟨.hbm, 100, rfl⟩
abbrev main_v70 : Ref sig .tc := ⟨.hbm, 101, rfl⟩
abbrev main_v71 : Ref sig .tc := ⟨.hbm, 102, rfl⟩

abbrev nD : Nat := 1
abbrev τ : Topo := Topo.v7x

variable {F : FTy → Type} [FloatOps F]
-- ==== KGate.lean ====
abbrev S4096x2816 : Shape := ⟨2, ![4096, 2816]⟩
abbrev S2816x1024 : Shape := ⟨2, ![2816, 1024]⟩
abbrev S4096x1024 : Shape := ⟨2, ![4096, 1024]⟩
abbrev S512x1024 : Shape := ⟨2, ![512, 1024]⟩
abbrev S512x2816 : Shape := ⟨2, ![512, 2816]⟩
abbrev S256x1024 : Shape := ⟨2, ![256, 1024]⟩
abbrev S512x256 : Shape := ⟨2, ![512, 256]⟩

abbrev nBuf : Space → Nat
  | .hbm => 10
  | .vmem => 11
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x1024, .bf16⟩
  | .hbm, ⟨5, _⟩ => ⟨S2816x1024, .bf16⟩
  | .hbm, ⟨6, _⟩ => ⟨S4096x2816, .bf16⟩
  | .hbm, ⟨7, _⟩ => ⟨S4096x2816, .bf16⟩
  | .hbm, ⟨8, _⟩ => ⟨S4096x2816, .bf16⟩
  | .hbm, ⟨9, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RGateIdeal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S1024x2816 : Shape := ⟨2, ![1024, 2816]⟩

abbrev nBuf : Space → Nat
  | .hbm => 36
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S1024x2816, .f32⟩
  | .hbm, ⟨26, _⟩ => ⟨S2816x1024, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .bf16⟩
  | .hbm, ⟨35, _⟩ => ⟨S4096x2816, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩

abbrev nD : Nat := 1
abbrev τ : Topo := Topo.v7x

variable {F : FTy → Type} [FloatOps F]
-- ==== KNorm.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S2816x1024 : Shape := ⟨2, ![2816, 1024]⟩
abbrev S1x1024 : Shape := ⟨2, ![1, 1024]⟩
abbrev S512x2816 : Shape := ⟨2, ![512, 2816]⟩
abbrev S512x1024 : Shape := ⟨2, ![512, 1024]⟩
abbrev S2816x512 : Shape := ⟨2, ![2816, 512]⟩
abbrev S512x512 : Shape := ⟨2, ![512, 512]⟩
abbrev S512 : Shape := ⟨1, ![512]⟩
abbrev S512x1 : Shape := ⟨2, ![512, 1]⟩

abbrev nBuf : Space → Nat
  | .hbm => 17
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .bf16⟩
  | .hbm, ⟨8, _⟩ => ⟨S2816x1024, .f32⟩
  | .hbm, ⟨9, _⟩ => ⟨S2816x1024, .bf16⟩
  | .hbm, ⟨10, _⟩ => ⟨S4096x2816, .bf16⟩
  | .hbm, ⟨11, _⟩ => ⟨S2816x1024, .f32⟩
  | .hbm, ⟨12, _⟩ => ⟨S2816x1024, .bf16⟩
  | .hbm, ⟨13, _⟩ => ⟨S1x1024, .f32⟩
  | .hbm, ⟨14, _⟩ => ⟨S4096x1024, .f32⟩
  | .hbm, ⟨15, _⟩ => ⟨S4096x1024, .bf16⟩
  | .hbm, ⟨16, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RNormIdeal.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S2816x1024 : Shape := ⟨2, ![2816, 1024]⟩

abbrev nBuf : Space → Nat
  | .hbm => 64
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S2816x1024, .f32⟩
  | .hbm, ⟨30, _⟩ => ⟨S1024x2816, .f32⟩
  | .hbm, ⟨31, _⟩ => ⟨S4096x1024, .f32⟩
  | .hbm, ⟨32, _⟩ => ⟨S2816x1024, .f32⟩
  | .hbm, ⟨33, _⟩ => ⟨S1024x2816, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .bf16⟩
  | .hbm, ⟨63, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== KMerge.lean ====
abbrev S4096x512 : Shape := ⟨2, ![4096, 512]⟩
abbrev S2x2048x3232 : Shape := ⟨3, ![2, 2048, 3232]⟩
abbrev S512x1024 : Shape := ⟨2, ![512, 1024]⟩
abbrev S1024x1024 : Shape := ⟨2, ![1024, 1024]⟩
abbrev S4096x1024 : Shape := ⟨2, ![4096, 1024]⟩
abbrev S1024x512 : Shape := ⟨2, ![1024, 512]⟩
abbrev S1024x64 : Shape := ⟨2, ![1024, 64]⟩
abbrev S1024x8x64 : Shape := ⟨3, ![1024, 8, 64]⟩
abbrev S_ : Shape := ⟨0, ![]⟩
abbrev S1024x8x128 : Shape := ⟨3, ![1024, 8, 128]⟩
abbrev S4096x3232 : Shape := ⟨2, ![4096, 3232]⟩
abbrev S3232x4096 : Shape := ⟨2, ![3232, 4096]⟩
abbrev S512x4096 : Shape := ⟨2, ![512, 4096]⟩
abbrev S128x4096 : Shape := ⟨2, ![128, 4096]⟩
abbrev S256x4096 : Shape := ⟨2, ![256, 4096]⟩
abbrev S32x4096 : Shape := ⟨2, ![32, 4096]⟩
abbrev S1024x4096 : Shape := ⟨2, ![1024, 4096]⟩
abbrev S96x4096 : Shape := ⟨2, ![96, 4096]⟩
abbrev S64x4096 : Shape := ⟨2, ![64, 4096]⟩
abbrev S3328x4096 : Shape := ⟨2, ![3328, 4096]⟩
abbrev S4096x3328 : Shape := ⟨2, ![4096, 3328]⟩
abbrev S512x512 : Shape := ⟨2, ![512, 512]⟩

abbrev nBuf : Space → Nat
  | .hbm => 60
  | .vmem => 25
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S2x2048x3232, .f32⟩
  | .hbm, ⟨3, _⟩ => ⟨S512x1024, .f32⟩
  | .hbm, ⟨4, _⟩ => ⟨S512x1024, .f32⟩
  | .hbm, ⟨5, _⟩ => ⟨S1024x1024, .f32⟩
  | .hbm, ⟨6, _⟩ => ⟨S4096x1024, .f32⟩
  | .hbm, ⟨7, _⟩ => ⟨S1024x512, .f32⟩
  | .hbm, ⟨8, _⟩ => ⟨S1024x64, .f32⟩
  | .hbm, ⟨9, _⟩ => ⟨S1024x64, .f32⟩
  | .hbm, ⟨10, _⟩ => ⟨S1024x64, .f32⟩
  | .hbm, ⟨11, _⟩ => ⟨S1024x64, .f32⟩
  | .hbm, ⟨12, _⟩ => ⟨S1024x64, .f32⟩
  | .hbm, ⟨13, _⟩ => ⟨S1024x64, .f32⟩
  | .hbm, ⟨14, _⟩ => ⟨S1024x64, .f32⟩
  | .hbm, ⟨15, _⟩ => ⟨S1024x64, .f32⟩
  | .hbm, ⟨16, _⟩ => ⟨S1024x512, .f32⟩
  | .hbm, ⟨17, _⟩ => ⟨S1024x512, .bf16⟩
  | .hbm, ⟨18, _⟩ => ⟨S1024x512, .f32⟩
  | .hbm, ⟨19, _⟩ => ⟨S1024x8x64, .f32⟩
  | .hbm, ⟨20, _⟩ => ⟨S_, .i32⟩
  | .hbm, ⟨21, _⟩ => ⟨S_, .f32⟩
  | .hbm, ⟨22, _⟩ => ⟨S1024x8x128, .f32⟩
  | .hbm, ⟨23, _⟩ => ⟨S1024x1024, .f32⟩
  | .hbm, ⟨24, _⟩ => ⟨S1024x1024, .bf16⟩
  | .hbm, ⟨25, _⟩ => ⟨S4096x1024, .f32⟩
  | .hbm, ⟨26, _⟩ => ⟨S4096x1024, .f32⟩
  | .hbm, ⟨27, _⟩ => ⟨S4096x1024, .bf16⟩
  | .hbm, ⟨28, _⟩ => ⟨S1024x1024, .bf16⟩
  | .hbm, ⟨29, _⟩ => ⟨S4096x3232, .f32⟩
  | .hbm, ⟨30, _⟩ => ⟨S3232x4096, .f32⟩
  | .hbm, ⟨31, _⟩ => ⟨S512x4096, .f32⟩
  | .hbm, ⟨32, _⟩ => ⟨S128x4096, .f32⟩
  | .hbm, ⟨33, _⟩ => ⟨S128x4096, .f32⟩
  | .hbm, ⟨34, _⟩ => ⟨S256x4096, .f32⟩
  | .hbm, ⟨35, _⟩ => ⟨S128x4096, .f32⟩
  | .hbm, ⟨36, _⟩ => ⟨S32x4096, .f32⟩
  | .hbm, ⟨37, _⟩ => ⟨S1024x4096, .f32⟩
  | .hbm, ⟨38, _⟩ => ⟨S1024x4096, .f32⟩
  | .hbm, ⟨39, _⟩ => ⟨S_, .f32⟩
  | .hbm, ⟨40, _⟩ => ⟨S96x4096, .f32⟩
  | .hbm, ⟨41, _⟩ => ⟨S64x4096, .f32⟩
  | .hbm, ⟨42, _⟩ => ⟨S64x4096, .f32⟩
  | .hbm, ⟨43, _⟩ => ⟨S64x4096, .f32⟩
  | .hbm, ⟨44, _⟩ => ⟨S64x4096, .f32⟩
  | .hbm, ⟨45, _⟩ => ⟨S64x4096, .f32⟩
  | .hbm, ⟨46, _⟩ => ⟨S64x4096, .f32⟩
  | .hbm, ⟨47, _⟩ => ⟨S64x4096, .f32⟩
  | .hbm, ⟨48, _⟩ => ⟨S64x4096, .f32⟩
  | .hbm, ⟨49, _⟩ => ⟨S512x4096, .f32⟩
  | .hbm, ⟨50, _⟩ => ⟨S3328x4096, .f32⟩
  | .hbm, ⟨51, _⟩ => ⟨S4096x3328, .f32⟩
  | .hbm, ⟨52, _⟩ => ⟨S4096x1024, .bf16⟩
  | .hbm, ⟨53, _⟩ => ⟨S4096x1024, .bf16⟩
  | .hbm, ⟨54, _⟩ => ⟨S4096x1024, .bf16⟩
  | .hbm, ⟨55, _⟩ => ⟨S4096x1024, .bf16⟩
  | .hbm, ⟨56, _⟩ => ⟨S4096x1024, .bf16⟩
  | .hbm, ⟨57, _⟩ => ⟨S4096x1024, .bf16⟩
  | .hbm, ⟨58, _⟩ => ⟨S4096x512, .bf16⟩
  | .hbm, ⟨59, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1024x512, .bf16⟩
  | .local _ .vmem, ⟨12, _⟩ => ⟨S1024x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x512, .bf16⟩
  | .local _ .vmem, ⟨22, _⟩ => ⟨S512x512, .bf16⟩
  | .local _ .vmem, ⟨23, _⟩ => ⟨S512x1024, .bf16⟩
  | .local _ .vmem, ⟨24, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_call0_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44_0 : Ref sig .tc := ⟨.hbm, 54, rfl⟩
abbrev main_v44_1 : Ref sig .tc := ⟨.hbm, 55, rfl⟩
abbrev main_v44_2 : Ref sig .tc := ⟨.hbm, 56, rfl⟩
abbrev main_v44_3 : Ref sig .tc := ⟨.hbm, 57, rfl⟩
abbrev main_v44_4 : Ref sig .tc := ⟨.hbm, 58, rfl⟩
abbrev main_v44_5 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== RMergeIdeal.lean ====
abbrev S4096x512 : Shape := ⟨2, ![4096, 512]⟩
abbrev S2x2048x3232 : Shape := ⟨3, ![2, 2048, 3232]⟩
abbrev S512x1024 : Shape := ⟨2, ![512, 1024]⟩
abbrev S1024x1024 : Shape := ⟨2, ![1024, 1024]⟩
abbrev S4096x1024 : Shape := ⟨2, ![4096, 1024]⟩
abbrev S4096x3232 : Shape := ⟨2, ![4096, 3232]⟩
abbrev S_ : Shape := ⟨0, ![]⟩
abbrev S4096x2x4x64 : Shape := ⟨4, ![4096, 2, 4, 64]⟩
abbrev S4096x4x2x64 : Shape := ⟨4, ![4096, 4, 2, 64]⟩
abbrev S4096x8x64 : Shape := ⟨3, ![4096, 8, 64]⟩
abbrev S4096x8x128 : Shape := ⟨3, ![4096, 8, 128]⟩

abbrev nBuf : Space → Nat
  | .hbm => 65
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S2x2048x3232, .f32⟩
  | .hbm, ⟨3, _⟩ => ⟨S512x1024, .f32⟩
  | .hbm, ⟨4, _⟩ => ⟨S512x1024, .f32⟩
  | .hbm, ⟨5, _⟩ => ⟨S1024x1024, .f32⟩
  | .hbm, ⟨6, _⟩ => ⟨S4096x1024, .f32⟩
  | .hbm, ⟨7, _⟩ => ⟨S4096x3232, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S1024x1024, .f32⟩
  | .hbm, ⟨41, _⟩ => ⟨S1024x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x512, .f32⟩
  | .hbm, ⟨50, _⟩ => ⟨S4096x512, .f32⟩
  | .hbm, ⟨51, _⟩ => ⟨S4096x2x4x64, .f32⟩
  | .hbm, ⟨52, _⟩ => ⟨S4096x4x2x64, .f32⟩
  | .hbm, ⟨53, _⟩ => ⟨S4096x512, .f32⟩
  | .hbm, ⟨54, _⟩ => ⟨S4096x8x64, .f32⟩
  | .hbm, ⟨55, _⟩ => ⟨S_, .i32⟩
  | .hbm, ⟨56, _⟩ => ⟨S_, .f32⟩
  | .hbm, ⟨57, _⟩ => ⟨S4096x8x128, .f32⟩
  | .hbm, ⟨58, _⟩ => ⟨S4096x1024, .f32⟩
  | .hbm, ⟨59, _⟩ => ⟨S4096x1024, .bf16⟩
  | .hbm, ⟨60, _⟩ => ⟨S4096x1024, .bf16⟩
  | .hbm, ⟨61, _⟩ => ⟨S4096x1024, .bf16⟩
  | .hbm, ⟨62, _⟩ => ⟨S4096x1024, .bf16⟩
  | .hbm, ⟨63, _⟩ => ⟨S4096x512, .bf16⟩
  | .hbm, ⟨64, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c : Ref sig .tc := ⟨.hbm, 55, rfl⟩
abbrev main_call0_v0 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== KDh.lean ====
abbrev S4096x1024 : Shape := ⟨2, ![4096, 1024]⟩
abbrev S1024 : Shape := ⟨1, ![1024]⟩
abbrev S1024x3232 : Shape := ⟨2, ![1024, 3232]⟩
abbrev S4096x3232 : Shape := ⟨2, ![4096, 3232]⟩
abbrev S3232x1024 : Shape := ⟨2, ![3232, 1024]⟩
abbrev S512x1024 : Shape := ⟨2, ![512, 1024]⟩
abbrev S128x1024 : Shape := ⟨2, ![128, 1024]⟩
abbrev S256x1024 : Shape := ⟨2, ![256, 1024]⟩
abbrev S32x1024 : Shape := ⟨2, ![32, 1024]⟩
abbrev S1024x1024 : Shape := ⟨2, ![1024, 1024]⟩
abbrev S_ : Shape := ⟨0, ![]⟩
abbrev S96x1024 : Shape := ⟨2, ![96, 1024]⟩
abbrev S64x1024 : Shape := ⟨2, ![64, 1024]⟩
abbrev S3328x1024 : Shape := ⟨2, ![3328, 1024]⟩
abbrev S4096x512 : Shape := ⟨2, ![4096, 512]⟩
abbrev S4096x128 : Shape := ⟨2, ![4096, 128]⟩
abbrev S4096x256 : Shape := ⟨2, ![4096, 256]⟩
abbrev S4096x32 : Shape := ⟨2, ![4096, 32]⟩
abbrev S4096x64 : Shape := ⟨2, ![4096, 64]⟩
abbrev S1x1024 : Shape := ⟨2, ![1, 1024]⟩
abbrev S512x512 : Shape := ⟨2, ![512, 512]⟩
abbrev S512x256 : Shape := ⟨2, ![512, 256]⟩
abbrev S512x128 : Shape := ⟨2, ![512, 128]⟩
abbrev S1024x512 : Shape := ⟨2, ![1024, 512]⟩
abbrev S256x512 : Shape := ⟨2, ![256, 512]⟩
abbrev S128x512 : Shape := ⟨2, ![128, 512]⟩
abbrev S512 : Shape := ⟨1, ![512]⟩
abbrev S512x1 : Shape := ⟨2, ![512, 1]⟩

abbrev nBuf : Space → Nat
  | .hbm => 52
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3232, .f32⟩
  | .hbm, ⟨3, _⟩ => ⟨S4096x1024, .f32⟩
  | .hbm, ⟨4, _⟩ => ⟨S4096x3232, .f32⟩
  | .hbm, ⟨5, _⟩ => ⟨S3232x1024, .f32⟩
  | .hbm, ⟨6, _⟩ => ⟨S512x1024, .f32⟩
  | .hbm, ⟨7, _⟩ => ⟨S128x1024, .f32⟩
  | .hbm, ⟨8, _⟩ => ⟨S128x1024, .f32⟩
  | .hbm, ⟨9, _⟩ => ⟨S256x1024, .f32⟩
  | .hbm, ⟨10, _⟩ => ⟨S128x1024, .f32⟩
  | .hbm, ⟨11, _⟩ => ⟨S32x1024, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S96x1024, .f32⟩
  | .hbm, ⟨16, _⟩ => ⟨S64x1024, .f32⟩
  | .hbm, ⟨17, _⟩ => ⟨S64x1024, .f32⟩
  | .hbm, ⟨18, _⟩ => ⟨S64x1024, .f32⟩
  | .hbm, ⟨19, _⟩ => ⟨S64x1024, .f32⟩
  | .hbm, ⟨20, _⟩ => ⟨S64x1024, .f32⟩
  | .hbm, ⟨21, _⟩ => ⟨S64x1024, .f32⟩
  | .hbm, ⟨22, _⟩ => ⟨S64x1024, .f32⟩
  | .hbm, ⟨23, _⟩ => ⟨S64x1024, .f32⟩
  | .hbm, ⟨24, _⟩ => ⟨S512x1024, .f32⟩
  | .hbm, ⟨25, _⟩ => ⟨S3328x1024, .f32⟩
  | .hbm, ⟨26, _⟩ => ⟨S3328x1024, .bf16⟩
  | .hbm, ⟨27, _⟩ => ⟨S4096x3232, .bf16⟩
  | .hbm, ⟨28, _⟩ => ⟨S4096x512, .bf16⟩
  | .hbm, ⟨29, _⟩ => ⟨S4096x128, .bf16⟩
  | .hbm, ⟨30, _⟩ => ⟨S4096x128, .bf16⟩
  | .hbm, ⟨31, _⟩ => ⟨S4096x256, .bf16⟩
  | .hbm, ⟨32, _⟩ => ⟨S4096x128, .bf16⟩
  | .hbm, ⟨33, _⟩ => ⟨S4096x32, .bf16⟩
  | .hbm, ⟨34, _⟩ => ⟨S4096x1024, .bf16⟩
  | .hbm, ⟨35, _⟩ => ⟨S4096x1024, .bf16⟩
  | .hbm, ⟨36, _⟩ => ⟨S4096x64, .bf16⟩
  | .hbm, ⟨37, _⟩ => ⟨S4096x64, .bf16⟩
  | .hbm, ⟨38, _⟩ => ⟨S4096x64, .bf16⟩
  | .hbm, ⟨39, _⟩ => ⟨S4096x64, .bf16⟩
  | .hbm, ⟨40, _⟩ => ⟨S4096x64, .bf16⟩
  | .hbm, ⟨41, _⟩ => ⟨S4096x64, .bf16⟩
  | .hbm, ⟨42, _⟩ => ⟨S4096x64, .bf16⟩
  | .hbm, ⟨43, _⟩ => ⟨S4096x64, .bf16⟩
  | .hbm, ⟨44, _⟩ => ⟨S4096x512, .bf16⟩
  | .hbm, ⟨45, _⟩ => ⟨S_, .i32⟩
  | .hbm, ⟨46, _⟩ => ⟨S_, .bf16⟩
  | .hbm, ⟨47, _⟩ => ⟨S4096x128, .bf16⟩
  | .hbm, ⟨48, _⟩ => ⟨S1x1024, .f32⟩
  | .hbm, ⟨49, _⟩ => ⟨S4096x1024, .f32⟩
  | .hbm, ⟨50, _⟩ => ⟨S4096x1024, .bf16⟩
  | .hbm, ⟨51, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S3328x1024, .bf16⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | .local _ .vmem, ⟨26, _⟩ => ⟨S1x1024, .f32⟩
  | .local _ .vmem, ⟨27, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_c : Ref sig .tc := ⟨.hbm, 45, rfl⟩
abbrev main_call0_v0 : Ref sig .tc := ⟨.hbm, 46, rfl⟩
abbrev main_v39 : Ref sig .tc := ⟨.hbm, 47, rfl⟩
abbrev main_v40 : Ref sig .tc := ⟨.hbm, 48, rfl⟩
abbrev main_v41_0 : Ref sig .tc := ⟨.hbm, 49, rfl⟩
abbrev main_v41_1 : Ref sig .tc := ⟨.hbm, 50, rfl⟩
abbrev main_v41_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3328x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== RDhIdeal.lean ====
abbrev S4096x1024 : Shape := ⟨2, ![4096, 1024]⟩
abbrev S1024 : Shape := ⟨1, ![1024]⟩
abbrev S1024x3232 : Shape := ⟨2, ![1024, 3232]⟩
abbrev S4096x3232 : Shape := ⟨2, ![4096, 3232]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S3232x1024 : Shape := ⟨2, ![3232, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3232, .f32⟩
  | .hbm, ⟨3, _⟩ => ⟨S4096x1024, .f32⟩
  | .hbm, ⟨4, _⟩ => ⟨S4096x3232, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x3232, .f32⟩
  | .hbm, ⟨26, _⟩ => ⟨S3232x1024, .f32⟩
  | .hbm, ⟨27, _⟩ => ⟨S1024x3232, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | .hbm, ⟨56, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== KKv.lean ====
abbrev S2x2048x3232 : Shape := ⟨3, ![2, 2048, 3232]⟩
abbrev S64 : Shape := ⟨1, ![64]⟩
abbrev S2x16x256x2x64 : Shape := ⟨5, ![2, 16, 256, 2, 64]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S4096x3232 : Shape := ⟨2, ![4096, 3232]⟩
abbrev S3232x4096 : Shape := ⟨2, ![3232, 4096]⟩
abbrev S512x4096 : Shape := ⟨2, ![512, 4096]⟩
abbrev S128x4096 : Shape := ⟨2, ![128, 4096]⟩
abbrev S256x4096 : Shape := ⟨2, ![256, 4096]⟩
abbrev S32x4096 : Shape := ⟨2, ![32, 4096]⟩
abbrev S1024x4096 : Shape := ⟨2, ![1024, 4096]⟩
abbrev S_ : Shape := ⟨0, ![]⟩
abbrev S96x4096 : Shape := ⟨2, ![96, 4096]⟩
abbrev S64x4096 : Shape := ⟨2, ![64, 4096]⟩
abbrev S3328x4096 : Shape := ⟨2, ![3328, 4096]⟩
abbrev S4096x3328 : Shape := ⟨2, ![4096, 3328]⟩
abbrev S32x2x128x128 : Shape := ⟨4, ![32, 2, 128, 128]⟩
abbrev S32x1x128x128 : Shape := ⟨4, ![32, 1, 128, 128]⟩
abbrev S32x128x128 : Shape := ⟨3, ![32, 128, 128]⟩
abbrev S4096x128 : Shape := ⟨2, ![4096, 128]⟩
abbrev S512x128 : Shape := ⟨2, ![512, 128]⟩
abbrev S128x128 : Shape := ⟨2, ![128, 128]⟩
abbrev S384x128 : Shape := ⟨2, ![384, 128]⟩
abbrev S512 : Shape := ⟨1, ![512]⟩
abbrev S512x1 : Shape := ⟨2, ![512, 1]⟩
abbrev S128 : Shape := ⟨1, ![128]⟩

abbrev nBuf : Space → Nat
  | .hbm => 50
  | .vmem => 20
  | .smem => 0
  | _ => 0

abbrev bufTy : (tb : Table) → Fin (tcTables nBuf tb) → BufTy
  | .hbm, ⟨0, _⟩ => ⟨S2x2048x3232, .f32⟩
  | .hbm, ⟨1, _⟩ => ⟨S64, .f32⟩
  | .hbm, ⟨2, _⟩ => ⟨S2x16x256x2x64, .f32⟩
  | .hbm, ⟨3, _⟩ => ⟨S2x16x256x2x64, .f32⟩
  | .hbm, ⟨4, _⟩ => ⟨S1x64, .f32⟩
  | .hbm, ⟨5, _⟩ => ⟨S1x1x1x64, .f32⟩
  | .hbm, ⟨6, _⟩ => ⟨S1x1x2x64, .f32⟩
  | .hbm, ⟨7, _⟩ => ⟨S1x128, .f32⟩
  | .hbm, ⟨8, _⟩ => ⟨S4096x3232, .f32⟩
  | .hbm, ⟨9, _⟩ => ⟨S3232x4096, .f32⟩
  | .hbm, ⟨10, _⟩ => ⟨S512x4096, .f32⟩
  | .hbm, ⟨11, _⟩ => ⟨S128x4096, .f32⟩
  | .hbm, ⟨12, _⟩ => ⟨S128x4096, .f32⟩
  | .hbm, ⟨13, _⟩ => ⟨S256x4096, .f32⟩
  | .hbm, ⟨14, _⟩ => ⟨S128x4096, .f32⟩
  | .hbm, ⟨15, _⟩ => ⟨S32x4096, .f32⟩
  | .hbm, ⟨16, _⟩ => ⟨S1024x4096, .f32⟩
  | .hbm, ⟨17, _⟩ => ⟨S1024x4096, .f32⟩
  | .hbm, ⟨18, _⟩ => ⟨S_, .f32⟩
  | .hbm, ⟨19, _⟩ => ⟨S96x4096, .f32⟩
  | .hbm, ⟨20, _⟩ => ⟨S64x4096, .f32⟩
  | .hbm, ⟨21, _⟩ => ⟨S64x4096, .f32⟩
  | .hbm, ⟨22, _⟩ => ⟨S64x4096, .f32⟩
  | .hbm, ⟨23, _⟩ => ⟨S64x4096, .f32⟩
  | .hbm, ⟨24, _⟩ => ⟨S64x4096, .f32⟩
  | .hbm, ⟨25, _⟩ => ⟨S64x4096, .f32⟩
  | .hbm, ⟨26, _⟩ => ⟨S64x4096, .f32⟩
  | .hbm, ⟨27, _⟩ => ⟨S64x4096, .f32⟩
  | .hbm, ⟨28, _⟩ => ⟨S512x4096, .f32⟩
  | .hbm, ⟨29, _⟩ => ⟨S3328x4096, .f32⟩
  | .hbm, ⟨30, _⟩ => ⟨S4096x3328, .f32⟩
  | .hbm, ⟨31, _⟩ => ⟨S32x2x128x128, .f32⟩
  | .hbm, ⟨32, _⟩ => ⟨S32x1x128x128, .f32⟩
  | .hbm, ⟨33, _⟩ => ⟨S32x128x128, .f32⟩
  | .hbm, ⟨34, _⟩ => ⟨S4096x128, .f32⟩
  | .hbm, ⟨35, _⟩ => ⟨S32x2x128x128, .f32⟩
  | .hbm, ⟨36, _⟩ => ⟨S32x1x128x128, .f32⟩
  | .hbm, ⟨37, _⟩ => ⟨S32x128x128, .f32⟩
  | .hbm, ⟨38, _⟩ => ⟨S4096x128, .f32⟩
  | .hbm, ⟨39, _⟩ => ⟨S32x2x128x128, .f32⟩
  | .hbm, ⟨40, _⟩ => ⟨S32x1x128x128, .f32⟩
  | .hbm, ⟨41, _⟩ => ⟨S32x128x128, .f32⟩
  | .hbm, ⟨42, _⟩ => ⟨S4096x128, .f32⟩
  | .hbm, ⟨43, _⟩ => ⟨S32x2x128x128, .f32⟩
  | .hbm, ⟨44, _⟩ => ⟨S32x1x128x128, .f32⟩
  | .hbm, ⟨45, _⟩ => ⟨S32x128x128, .f32⟩
  | .hbm, ⟨46, _⟩ => ⟨S4096x128, .f32⟩
  | .hbm, ⟨47, _⟩ => ⟨S4096x128, .bf16⟩
  | .hbm, ⟨48, _⟩ => ⟨S4096x128, .bf16⟩
  | .hbm, ⟨49, _⟩ => ⟨S1x128, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S128x128, .f32⟩
  | .local _ .vmem, ⟨8, _⟩ => ⟨S128x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S128x128, .f32⟩
  | .local _ .vmem, ⟨14, _⟩ => ⟨S128x128, .f32⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S1x128, .f32⟩
  | _, _ => ⟨S2x2048x3232, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42_0 : Ref sig .tc := ⟨.hbm, 47, rfl⟩
abbrev main_v42_1 : Ref sig .tc := ⟨.hbm, 48, rfl⟩
abbrev main_v42_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c22_i32 : BitVec 32 := 22#32
  let c0_i32 : BitVec 32 := 0#32
  ![v1.toNat, c22_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.addi arg1 c1_i32
  let c4_i32 : BitVec 32 := 4#32
  let v2 : BitVec 32 := Scalar.muli c4_i32 v1
  let c15_i32 : BitVec 32 := 15#32
  let v3 : BitVec 32 := Scalar.minsi v2 c15_i32
  let v4 : BitVec 32 := Scalar.addi v0 v3
  let c0_i32 : BitVec 32 := 0#32
  let c0_i32_0 : BitVec 32 := 0#32
  ![v4.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.addi arg1 c1_i32
  let c4_i32 : BitVec 32 := 4#32
  let v2 : BitVec 32 := Scalar.muli c4_i32 v1
  let c15_i32 : BitVec 32 := 15#32
  let v3 : BitVec 32 := Scalar.minsi v2 c15_i32
  let v4 : BitVec 32 := Scalar.addi v0 v3
  let c0_i32 : BitVec 32 := 0#32
  let c0_i32_0 : BitVec 32 := 0#32
  ![v4.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== RKvIdeal.lean ====
abbrev S2x2048x3232 : Shape := ⟨3, ![2, 2048, 3232]⟩
abbrev S64 : Shape := ⟨1, ![64]⟩
abbrev S2x16x256x2x64 : Shape := ⟨5, ![2, 16, 256, 2, 64]⟩
abbrev S2x2048x128 : Shape := ⟨3, ![2, 2048, 128]⟩
abbrev S2x64 : Shape := ⟨2, ![2, 64]⟩
abbrev S2x2048x2x64 : Shape := ⟨4, ![2, 2048, 2, 64]⟩
abbrev S_ : Shape := ⟨0, ![]⟩
abbrev S2x2048x2 : Shape := ⟨3, ![2, 2048, 2]⟩
abbrev S2x2048x2x1 : Shape := ⟨4, ![2, 2048, 2, 1]⟩
abbrev S1x1x2x64 : Shape := ⟨4, ![1, 1, 2, 64]⟩
abbrev S2x16x128x2x64 : Shape := ⟨5, ![2, 16, 128, 2, 64]⟩
abbrev S2x1x128x2x64 : Shape := ⟨5, ![2, 1, 128, 2, 64]⟩
abbrev S2x15x128x2x64 : Shape := ⟨5, ![2, 15, 128, 2, 64]⟩
abbrev S4096x128 : Shape := ⟨2, ![4096, 128]⟩
abbrev S1x128 : Shape := ⟨2, ![1, 128]⟩

abbrev nBuf : Space → Nat
  | .hbm => 93
  | .vmem => 0
  | .smem => 0
  | _ => 0

abbrev bufTy : (tb : Table) → Fin (tcTables nBuf tb) → BufTy
  | .hbm, ⟨0, _⟩ => ⟨S2x2048x3232, .f32⟩
  | .hbm, ⟨1, _⟩ => ⟨S64, .f32⟩
  | .hbm, ⟨2, _⟩ => ⟨S2x16x256x2x64, .f32⟩
  | .hbm, ⟨3, _⟩ => ⟨S2x16x256x2x64, .f32⟩
  | .hbm, ⟨4, _⟩ => ⟨S2x2048x128, .f32⟩
  | .hbm, ⟨5, _⟩ => ⟨S2x2048x128, .f32⟩
  | .hbm, ⟨6, _⟩ => ⟨S2x64, .f32⟩
  | .hbm, ⟨7, _⟩ => ⟨S2x2048x2x64, .f32⟩
  | .hbm, ⟨8, _⟩ => ⟨S2x2048x2x64, .f32⟩
  | .hbm, ⟨9, _⟩ => ⟨S_, .f32⟩
  | .hbm, ⟨10, _⟩ => ⟨S2x2048x2, .f32⟩
  | .hbm, ⟨11, _⟩ => ⟨S2x2048x2x1, .f32⟩
  | .hbm, ⟨12, _⟩ => ⟨S_, .f32⟩
  | .hbm, ⟨13, _⟩ => ⟨S2x2048x2x1, .f32⟩
  | .hbm, ⟨14, _⟩ => ⟨S2x2048x2x1, .f32⟩
  | .hbm, ⟨15, _⟩ => ⟨S_, .f32⟩
  | .hbm, ⟨16, _⟩ => ⟨S2x2048x2x1, .f32⟩
  | .hbm, ⟨17, _⟩ => ⟨S2x2048x2x1, .f32⟩
  | .hbm, ⟨18, _⟩ => ⟨S2x2048x2x1, .f32⟩
  | .hbm, ⟨19, _⟩ => ⟨S2x2048x2x1, .f32⟩
  | .hbm, ⟨20, _⟩ => ⟨S_, .f32⟩
  | .hbm, ⟨21, _⟩ => ⟨S2x2048x2x1, .f32⟩
  | .hbm, ⟨22, _⟩ => ⟨S2x2048x2x1, .f32⟩
  | .hbm, ⟨23, _⟩ => ⟨S2x2048x2x64, .f32⟩
  | .hbm, ⟨24, _⟩ => ⟨S2x2048x2x64, .f32⟩
  | .hbm, ⟨25, _⟩ => ⟨S1x1x2x64, .f32⟩
  | .hbm, ⟨26, _⟩ => ⟨S2x2048x2x64, .f32⟩
  | .hbm, ⟨27, _⟩ => ⟨S2x2048x2x64, .f32⟩
  | .hbm, ⟨28, _⟩ => ⟨S2x16x128x2x64, .f32⟩
  | .hbm, ⟨29, _⟩ => ⟨S2x16x128x2x64, .f32⟩
  | .hbm, ⟨30, _⟩ => ⟨S2x1x128x2x64, .f32⟩
  | .hbm, ⟨31, _⟩ => ⟨S_, .f32⟩
  | .hbm, ⟨32, _⟩ => ⟨S2x1x128x2x64, .f32⟩
  | .hbm, ⟨33, _⟩ => ⟨S2x15x128x2x64, .f32⟩
  | .hbm, ⟨34, _⟩ => ⟨S2x16x128x2x64, .f32⟩
  | .hbm, ⟨35, _⟩ => ⟨S_, .f32⟩
  | .hbm, ⟨36, _⟩ => ⟨S2x1x128x2x64, .f32⟩
  | .hbm, ⟨37, _⟩ => ⟨S2x16x256x2x64, .f32⟩
  | .hbm, ⟨38, _⟩ => ⟨S2x1x128x2x64, .f32⟩
  | .hbm, ⟨39, _⟩ => ⟨S_, .f32⟩
  | .hbm, ⟨40, _⟩ => ⟨S2x1x128x2x64, .f32⟩
  | .hbm, ⟨41, _⟩ => ⟨S2x15x128x2x64, .f32⟩
  | .hbm, ⟨42, _⟩ => ⟨S2x16x128x2x64, .f32⟩
  | .hbm, ⟨43, _⟩ => ⟨S_, .f32⟩
  | .hbm, ⟨44, _⟩ => ⟨S2x1x128x2x64, .f32⟩
  | .hbm, ⟨45, _⟩ => ⟨S2x16x256x2x64, .f32⟩
  | .hbm, ⟨46, _⟩ => ⟨S2x16x128x2x64, .f32⟩
  | .hbm, ⟨47, _⟩ => ⟨S2x16x128x2x64, .f32⟩
  | .hbm, ⟨48, _⟩ => ⟨S2x1x128x2x64, .f32⟩
  | .hbm, ⟨49, _⟩ => ⟨S2x15x128x2x64, .f32⟩
  | .hbm, ⟨50, _⟩ => ⟨S_, .f32⟩
  | .hbm, ⟨51, _⟩ => ⟨S2x16x128x2x64, .f32⟩
  | .hbm, ⟨52, _⟩ => ⟨S2x16x128x2x64, .f32⟩
  | .hbm, ⟨53, _⟩ => ⟨S2x16x128x2x64, .f32⟩
  | .hbm, ⟨54, _⟩ => ⟨S2x16x128x2x64, .f32⟩
  | .hbm, ⟨55, _⟩ => ⟨S2x1x128x2x64, .f32⟩
  | .hbm, ⟨56, _⟩ => ⟨S2x15x128x2x64, .f32⟩
  | .hbm, ⟨57, _⟩ => ⟨S_, .f32⟩
  | .hbm, ⟨58, _⟩ => ⟨S2x16x128x2x64, .f32⟩
  | .hbm, ⟨59, _⟩ => ⟨S2x16x128x2x64, .f32⟩
  | .hbm, ⟨60, _⟩ => ⟨S2x2048x128, .f32⟩
  | .hbm, ⟨61, _⟩ => ⟨S2x2048x2x64, .f32⟩
  | .hbm, ⟨62, _⟩ => ⟨S2x2048x2x64, .f32⟩
  | .hbm, ⟨63, _⟩ => ⟨S_, .f32⟩
  | .hbm, ⟨64, _⟩ => ⟨S2x64, .f32⟩
  | .hbm, ⟨65, _⟩ => ⟨S1x1x2x64, .f32⟩
  | .hbm, ⟨66, _⟩ => ⟨S2x2048x2x64, .f32⟩
  | .hbm, ⟨67, _⟩ => ⟨S2x2048x2x64, .f32⟩
  | .hbm, ⟨68, _⟩ => ⟨S_, .f32⟩
  | .hbm, ⟨69, _⟩ => ⟨S2x64, .f32⟩
  | .hbm, ⟨70, _⟩ => ⟨S2x2048x2x64, .f32⟩
  | .hbm, ⟨71, _⟩ => ⟨S_, .f32⟩
  | .hbm, ⟨72, _⟩ => ⟨S2x2048x2, .f32⟩
  | .hbm, ⟨73, _⟩ => ⟨S2x2048x2x1, .f32⟩
  | .hbm, ⟨74, _⟩ => ⟨S2x2048x2x64, .f32⟩
  | .hbm, ⟨75, _⟩ => ⟨S2x2048x2x64, .f32⟩
  | .hbm, ⟨76, _⟩ => ⟨S2x2048x2x1, .f32⟩
  | .hbm, ⟨77, _⟩ => ⟨S_, .f32⟩
  | .hbm, ⟨78, _⟩ => ⟨S2x2048x2x1, .f32⟩
  | .hbm, ⟨79, _⟩ => ⟨S2x2048x2x1, .f32⟩
  | .hbm, ⟨80, _⟩ => ⟨S_, .f32⟩
  | .hbm, ⟨81, _⟩ => ⟨S2x2048x2, .f32⟩
  | .hbm, ⟨82, _⟩ => ⟨S2x2048x2x64, .f32⟩
  | .hbm, ⟨83, _⟩ => ⟨S2x2048x2x64, .f32⟩
  | .hbm, ⟨84, _⟩ => ⟨S2x2048x2x64, .f32⟩
  | .hbm, ⟨85, _⟩ => ⟨S2x2048x2x64, .f32⟩
  | .hbm, ⟨86, _⟩ => ⟨S2x2048x2x64, .f32⟩
  | .hbm, ⟨87, _⟩ => ⟨S2x2048x128, .f32⟩
  | .hbm, ⟨88, _⟩ => ⟨S4096x128, .f32⟩
  | .hbm, ⟨89, _⟩ => ⟨S4096x128, .bf16⟩
  | .hbm, ⟨90, _⟩ => ⟨S4096x128, .f32⟩
  | .hbm, ⟨91, _⟩ => ⟨S4096x128, .bf16⟩
  | .hbm, ⟨92, _⟩ => ⟨S1x128, .f32⟩
  | _, _ => ⟨S2x2048x3232, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_8 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_9 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_10 : Ref sig .tc := ⟨.hbm, 68, rfl⟩
abbrev main_v53 : Ref sig .tc := ⟨.hbm, 69, rfl⟩
abbrev main_v54 : Ref sig .tc := ⟨.hbm, 70, rfl⟩
abbrev main_cst_11 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_12 : Ref sig .tc := ⟨.hbm, 77, rfl⟩
abbrev main_v60 : Ref sig .tc := ⟨.hbm, 78, rfl⟩
abbrev main_v61 : Ref sig .tc := ⟨.hbm, 79, rfl⟩
abbrev main_cst_13 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩

abbrev nD : Nat := 1
abbrev τ : Topo := Topo.v7x

variable {F : FTy → Type} [FloatOps F]
-- ==== KAttn.lean ====
abbrev S2x2048x8x96 : Shape := ⟨4, ![2, 2048, 8, 96]⟩
abbrev S2x2048x8x64 : Shape := ⟨4, ![2, 2048, 8, 64]⟩
abbrev S_ : Shape := ⟨0, ![]⟩
abbrev S2x2048x8x128 : Shape := ⟨4, ![2, 2048, 8, 128]⟩
abbrev S4096x1024 : Shape := ⟨2, ![4096, 1024]⟩
abbrev S16x2048x1 : Shape := ⟨3, ![16, 2048, 1]⟩
abbrev S2048x128 : Shape := ⟨2, ![2048, 128]⟩
abbrev S1x2048x1 : Shape := ⟨3, ![1, 2048, 1]⟩
abbrev S256x128 : Shape := ⟨2, ![256, 128]⟩
abbrev S256x256 : Shape := ⟨2, ![256, 256]⟩
abbrev S512x128 : Shape := ⟨2, ![512, 128]⟩
abbrev S256x512 : Shape := ⟨2, ![256, 512]⟩
abbrev S768x128 : Shape := ⟨2, ![768, 128]⟩
abbrev S256x768 : Shape := ⟨2, ![256, 768]⟩
abbrev S1024x128 : Shape := ⟨2, ![1024, 128]⟩
abbrev S256x1024 : Shape := ⟨2, ![256, 1024]⟩
abbrev S1280x128 : Shape := ⟨2, ![1280, 128]⟩
abbrev S256x1280 : Shape := ⟨2, ![256, 1280]⟩
abbrev S1536x128 : Shape := ⟨2, ![1536, 128]⟩
abbrev S256x1536 : Shape := ⟨2, ![256, 1536]⟩
abbrev S1792x128 : Shape := ⟨2, ![1792, 128]⟩
abbrev S256x1792 : Shape := ⟨2, ![256, 1792]⟩
abbrev S256 : Shape := ⟨1, ![256]⟩
abbrev S256x1 : Shape := ⟨2, ![256, 1]⟩
abbrev S1x256x1 : Shape := ⟨3, ![1, 256, 1]⟩

abbrev nBuf : Space → Nat
  | .hbm => 20
  | .vmem => 10
  | .smem => 0
  | _ => 0

abbrev bufTy : (tb : Table) → Fin (tcTables nBuf tb) → BufTy
  | .hbm, ⟨0, _⟩ => ⟨S2x2048x8x96, .f32⟩
  | .hbm, ⟨1, _⟩ => ⟨S2x2048x8x96, .f32⟩
  | .hbm, ⟨2, _⟩ => ⟨S2x2048x8x64, .f32⟩
  | .hbm, ⟨3, _⟩ => ⟨S_, .i32⟩
  | .hbm, ⟨4, _⟩ => ⟨S_, .f32⟩
  | .hbm, ⟨5, _⟩ => ⟨S2x2048x8x128, .f32⟩
  | .hbm, ⟨6, _⟩ => ⟨S4096x1024, .f32⟩
  | .hbm, ⟨7, _⟩ => ⟨S4096x1024, .bf16⟩
  | .hbm, ⟨8, _⟩ => ⟨S_, .i32⟩
  | .hbm, ⟨9, _⟩ => ⟨S_, .f32⟩
  | .hbm, ⟨10, _⟩ => ⟨S2x2048x8x128, .f32⟩
  | .hbm, ⟨11, _⟩ => ⟨S4096x1024, .f32⟩
  | .hbm, ⟨12, _⟩ => ⟨S4096x1024, .bf16⟩
  | .hbm, ⟨13, _⟩ => ⟨S_, .i32⟩
  | .hbm, ⟨14, _⟩ => ⟨S_, .f32⟩
  | .hbm, ⟨15, _⟩ => ⟨S2x2048x8x128, .f32⟩
  | .hbm, ⟨16, _⟩ => ⟨S4096x1024, .f32⟩
  | .hbm, ⟨17, _⟩ => ⟨S4096x1024, .bf16⟩
  | .hbm, ⟨18, _⟩ => ⟨S4096x1024, .bf16⟩
  | .hbm, ⟨19, _⟩ => ⟨S16x2048x1, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S1x2048x1, .f32⟩
  | .local _ .vmem, ⟨9, _⟩ => ⟨S1x2048x1, .f32⟩
  | _, _ => ⟨S2x2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_call2_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KAttnIdeal.lean ====
variable {F : FTy → Type} [FloatOps F] [Named F]
def κ : String → Option EReal := fun
  | "c" => some ((((Real.sqrt 96) * (Real.log 2))⁻¹ : ℝ) : EReal)
  | "ln2" => some (((Real.log 2)⁻¹ : ℝ) : EReal)
  | "mask" => some ⊥
  | _ => none
-- ==== RAttnIdeal.lean ====
abbrev S2x2048x8x96 : Shape := ⟨4, ![2, 2048, 8, 96]⟩
abbrev S2x2048x8x64 : Shape := ⟨4, ![2, 2048, 8, 64]⟩
abbrev S2x8x2048x2048 : Shape := ⟨4, ![2, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩
abbrev S2x2048x8x128 : Shape := ⟨4, ![2, 2048, 8, 128]⟩
abbrev S4096x1024 : Shape := ⟨2, ![4096, 1024]⟩
abbrev S16x2048x1 : Shape := ⟨3, ![16, 2048, 1]⟩

abbrev nBuf : Space → Nat
  | .hbm => 56
  | .vmem => 0
  | .smem => 0
  | _ => 0

abbrev bufTy : (tb : Table) → Fin (tcTables nBuf tb) → BufTy
  | .hbm, ⟨0, _⟩ => ⟨S2x2048x8x96, .f32⟩
  | .hbm, ⟨1, _⟩ => ⟨S2x2048x8x96, .f32⟩
  | .hbm, ⟨2, _⟩ => ⟨S2x2048x8x64, .f32⟩
  | .hbm, ⟨3, _⟩ => ⟨S2x8x2048x2048, .f32⟩
  | .hbm, ⟨4, _⟩ => ⟨S_, .f32⟩
  | .hbm, ⟨5, _⟩ => ⟨S_, .f32⟩
  | .hbm, ⟨6, _⟩ => ⟨S2x8x2048x2048, .f32⟩
  | .hbm, ⟨7, _⟩ => ⟨S2x8x2048x2048, .f32⟩
  | .hbm, ⟨8, _⟩ => ⟨S2048, .i32⟩
  | .hbm, ⟨9, _⟩ => ⟨S2048x1, .i32⟩
  | .hbm, ⟨10, _⟩ => ⟨S1x2048, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S_, .f32⟩
  | .hbm, ⟨15, _⟩ => ⟨S_, .f32⟩
  | .hbm, ⟨16, _⟩ => ⟨S2x8x2048x2048, .i1⟩
  | .hbm, ⟨17, _⟩ => ⟨S2x8x2048x2048, .f32⟩
  | .hbm, ⟨18, _⟩ => ⟨S2x8x2048x2048, .f32⟩
  | .hbm, ⟨19, _⟩ => ⟨S_, .f32⟩
  | .hbm, ⟨20, _⟩ => ⟨S2x8x2048, .f32⟩
  | .hbm, ⟨21, _⟩ => ⟨S_, .f32⟩
  | .hbm, ⟨22, _⟩ => ⟨S2x8x2048, .f32⟩
  | .hbm, ⟨23, _⟩ => ⟨S2x8x2048, .f32⟩
  | .hbm, ⟨24, _⟩ => ⟨S2x8x2048x1, .f32⟩
  | .hbm, ⟨25, _⟩ => ⟨S2x8x2048x2048, .f32⟩
  | .hbm, ⟨26, _⟩ => ⟨S2x8x2048x2048, .f32⟩
  | .hbm, ⟨27, _⟩ => ⟨S2x8x2048x2048, .f32⟩
  | .hbm, ⟨28, _⟩ => ⟨S_, .f32⟩
  | .hbm, ⟨29, _⟩ => ⟨S2x8x2048, .f32⟩
  | .hbm, ⟨30, _⟩ => ⟨S2x8x2048x1, .f32⟩
  | .hbm, ⟨31, _⟩ => ⟨S2x8x2048x2048, .f32⟩
  | .hbm, ⟨32, _⟩ => ⟨S2x8x2048x2048, .f32⟩
  | .hbm, ⟨33, _⟩ => ⟨S2x8x64x2048, .f32⟩
  | .hbm, ⟨34, _⟩ => ⟨S2x2048x8x64, .f32⟩
  | .hbm, ⟨35, _⟩ => ⟨S_, .f32⟩
  | .hbm, ⟨36, _⟩ => ⟨S2x8x2048, .f32⟩
  | .hbm, ⟨37, _⟩ => ⟨S2x8x2048x1, .f32⟩
  | .hbm, ⟨38, _⟩ => ⟨S2x8x2048x2048, .f32⟩
  | .hbm, ⟨39, _⟩ => ⟨S2x8x2048x2048, .f32⟩
  | .hbm, ⟨40, _⟩ => ⟨S2x8x2048x2048, .f32⟩
  | .hbm, ⟨41, _⟩ => ⟨S_, .f32⟩
  | .hbm, ⟨42, _⟩ => ⟨S2x8x2048, .f32⟩
  | .hbm, ⟨43, _⟩ => ⟨S2x8x2048x1, .f32⟩
  | .hbm, ⟨44, _⟩ => ⟨S2x8x2048x1, .f32⟩
  | .hbm, ⟨45, _⟩ => ⟨S2x8x2048x1, .f32⟩
  | .hbm, ⟨46, _⟩ => ⟨S_, .f32⟩
  | .hbm, ⟨47, _⟩ => ⟨S_, .f32⟩
  | .hbm, ⟨48, _⟩ => ⟨S2x8x2048x1, .f32⟩
  | .hbm, ⟨49, _⟩ => ⟨S2x8x2048x1, .f32⟩
  | .hbm, ⟨50, _⟩ => ⟨S_, .i32⟩
  | .hbm, ⟨51, _⟩ => ⟨S_, .f32⟩
  | .hbm, ⟨52, _⟩ => ⟨S2x2048x8x128, .f32⟩
  | .hbm, ⟨53, _⟩ => ⟨S4096x1024, .f32⟩
  | .hbm, ⟨54, _⟩ => ⟨S4096x1024, .bf16⟩
  | .hbm, ⟨55, _⟩ => ⟨S16x2048x1, .f32⟩
  | _, _ => ⟨S2x2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c : Ref sig .tc := ⟨.hbm, 50, rfl⟩
abbrev main_call1_v0 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== KUp.lean ====
abbrev S4096x1024 : Shape := ⟨2, ![4096, 1024]⟩
abbrev S1024 : Shape := ⟨1, ![1024]⟩
abbrev S1024x2816 : Shape := ⟨2, ![1024, 2816]⟩
abbrev S1x1024 : Shape := ⟨2, ![1, 1024]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩

abbrev nBuf : Space → Nat
  | .hbm => 13
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S1x1024, .f32⟩
  | .hbm, ⟨5, _⟩ => ⟨S2816x1024, .f32⟩
  | .hbm, ⟨6, _⟩ => ⟨S2816x1024, .bf16⟩
  | .hbm, ⟨7, _⟩ => ⟨S2816x1024, .f32⟩
  | .hbm, ⟨8, _⟩ => ⟨S2816x1024, .bf16⟩
  | .hbm, ⟨9, _⟩ => ⟨S4096x1024, .bf16⟩
  | .hbm, ⟨10, _⟩ => ⟨S4096x2816, .bf16⟩
  | .hbm, ⟨11, _⟩ => ⟨S4096x2816, .bf16⟩
  | .hbm, ⟨12, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S512x1024, .bf16⟩
  | .local _ .vmem, ⟨6, _⟩ => ⟨S512x1024, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RUpIdeal.lean ====
abbrev S4096x1024 : Shape := ⟨2, ![4096, 1024]⟩
abbrev S1024 : Shape := ⟨1, ![1024]⟩
abbrev S1024x2816 : Shape := ⟨2, ![1024, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x1024, .bf16⟩
  | .hbm, ⟨33, _⟩ => ⟨S4096x2816, .bf16⟩
  | .hbm, ⟨34, _⟩ => ⟨S4096x2816, .bf16⟩
  | .hbm, ⟨35, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== KMix.lean ====
abbrev S4096x512 : Shape := ⟨2, ![4096, 512]⟩
abbrev S2x2048x3232 : Shape := ⟨3, ![2, 2048, 3232]⟩
abbrev S512x1024 : Shape := ⟨2, ![512, 1024]⟩
abbrev S1024x512 : Shape := ⟨2, ![1024, 512]⟩
abbrev S1024x64 : Shape := ⟨2, ![1024, 64]⟩
abbrev S1024x8x64 : Shape := ⟨3, ![1024, 8, 64]⟩
abbrev S_ : Shape := ⟨0, ![]⟩
abbrev S1024x8x128 : Shape := ⟨3, ![1024, 8, 128]⟩
abbrev S1024x1024 : Shape := ⟨2, ![1024, 1024]⟩
abbrev S4096x64 : Shape := ⟨2, ![4096, 64]⟩
abbrev S2x2048x8x64 : Shape := ⟨4, ![2, 2048, 8, 64]⟩
abbrev S2x2048x8x128 : Shape := ⟨4, ![2, 2048, 8, 128]⟩
abbrev S4096x1024 : Shape := ⟨2, ![4096, 1024]⟩
abbrev S4096x3232 : Shape := ⟨2, ![4096, 3232]⟩
abbrev S3232x4096 : Shape := ⟨2, ![3232, 4096]⟩
abbrev S512x4096 : Shape := ⟨2, ![512, 4096]⟩
abbrev S128x4096 : Shape := ⟨2, ![128, 4096]⟩
abbrev S256x4096 : Shape := ⟨2, ![256, 4096]⟩
abbrev S32x4096 : Shape := ⟨2, ![32, 4096]⟩
abbrev S1024x4096 : Shape := ⟨2, ![1024, 4096]⟩
abbrev S96x4096 : Shape := ⟨2, ![96, 4096]⟩
abbrev S64x4096 : Shape := ⟨2, ![64, 4096]⟩
abbrev S3328x4096 : Shape := ⟨2, ![3328, 4096]⟩
abbrev S4096x3328 : Shape := ⟨2, ![4096, 3328]⟩
abbrev S512x512 : Shape := ⟨2, ![512, 512]⟩

abbrev nBuf : Space → Nat
  | .hbm => 65
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S2x2048x3232, .f32⟩
  | .hbm, ⟨3, _⟩ => ⟨S512x1024, .f32⟩
  | .hbm, ⟨4, _⟩ => ⟨S512x1024, .f32⟩
  | .hbm, ⟨5, _⟩ => ⟨S1024x512, .f32⟩
  | .hbm, ⟨6, _⟩ => ⟨S1024x64, .f32⟩
  | .hbm, ⟨7, _⟩ => ⟨S1024x64, .f32⟩
  | .hbm, ⟨8, _⟩ => ⟨S1024x64, .f32⟩
  | .hbm, ⟨9, _⟩ => ⟨S1024x64, .f32⟩
  | .hbm, ⟨10, _⟩ => ⟨S1024x64, .f32⟩
  | .hbm, ⟨11, _⟩ => ⟨S1024x64, .f32⟩
  | .hbm, ⟨12, _⟩ => ⟨S1024x64, .f32⟩
  | .hbm, ⟨13, _⟩ => ⟨S1024x64, .f32⟩
  | .hbm, ⟨14, _⟩ => ⟨S1024x512, .f32⟩
  | .hbm, ⟨15, _⟩ => ⟨S1024x512, .bf16⟩
  | .hbm, ⟨16, _⟩ => ⟨S1024x512, .f32⟩
  | .hbm, ⟨17, _⟩ => ⟨S1024x8x64, .f32⟩
  | .hbm, ⟨18, _⟩ => ⟨S_, .i32⟩
  | .hbm, ⟨19, _⟩ => ⟨S_, .f32⟩
  | .hbm, ⟨20, _⟩ => ⟨S1024x8x128, .f32⟩
  | .hbm, ⟨21, _⟩ => ⟨S1024x1024, .f32⟩
  | .hbm, ⟨22, _⟩ => ⟨S1024x1024, .bf16⟩
  | .hbm, ⟨23, _⟩ => ⟨S4096x64, .f32⟩
  | .hbm, ⟨24, _⟩ => ⟨S4096x64, .f32⟩
  | .hbm, ⟨25, _⟩ => ⟨S4096x64, .f32⟩
  | .hbm, ⟨26, _⟩ => ⟨S4096x64, .f32⟩
  | .hbm, ⟨27, _⟩ => ⟨S4096x64, .f32⟩
  | .hbm, ⟨28, _⟩ => ⟨S4096x64, .f32⟩
  | .hbm, ⟨29, _⟩ => ⟨S4096x64, .f32⟩
  | .hbm, ⟨30, _⟩ => ⟨S4096x64, .f32⟩
  | .hbm, ⟨31, _⟩ => ⟨S4096x512, .f32⟩
  | .hbm, ⟨32, _⟩ => ⟨S4096x512, .bf16⟩
  | .hbm, ⟨33, _⟩ => ⟨S2x2048x8x64, .f32⟩
  | .hbm, ⟨34, _⟩ => ⟨S_, .i32⟩
  | .hbm, ⟨35, _⟩ => ⟨S_, .f32⟩
  | .hbm, ⟨36, _⟩ => ⟨S2x2048x8x128, .f32⟩
  | .hbm, ⟨37, _⟩ => ⟨S4096x1024, .f32⟩
  | .hbm, ⟨38, _⟩ => ⟨S4096x1024, .bf16⟩
  | .hbm, ⟨39, _⟩ => ⟨S4096x3232, .f32⟩
  | .hbm, ⟨40, _⟩ => ⟨S3232x4096, .f32⟩
  | .hbm, ⟨41, _⟩ => ⟨S512x4096, .f32⟩
  | .hbm, ⟨42, _⟩ => ⟨S128x4096, .f32⟩
  | .hbm, ⟨43, _⟩ => ⟨S128x4096, .f32⟩
  | .hbm, ⟨44, _⟩ => ⟨S256x4096, .f32⟩
  | .hbm, ⟨45, _⟩ => ⟨S128x4096, .f32⟩
  | .hbm, ⟨46, _⟩ => ⟨S32x4096, .f32⟩
  | .hbm, ⟨47, _⟩ => ⟨S1024x4096, .f32⟩
  | .hbm, ⟨48, _⟩ => ⟨S1024x4096, .f32⟩
  | .hbm, ⟨49, _⟩ => ⟨S_, .f32⟩
  | .hbm, ⟨50, _⟩ => ⟨S96x4096, .f32⟩
  | .hbm, ⟨51, _⟩ => ⟨S64x4096, .f32⟩
  | .hbm, ⟨52, _⟩ => ⟨S64x4096, .f32⟩
  | .hbm, ⟨53, _⟩ => ⟨S64x4096, .f32⟩
  | .hbm, ⟨54, _⟩ => ⟨S64x4096, .f32⟩
  | .hbm, ⟨55, _⟩ => ⟨S64x4096, .f32⟩
  | .hbm, ⟨56, _⟩ => ⟨S64x4096, .f32⟩
  | .hbm, ⟨57, _⟩ => ⟨S64x4096, .f32⟩
  | .hbm, ⟨58, _⟩ => ⟨S64x4096, .f32⟩
  | .hbm, ⟨59, _⟩ => ⟨S512x4096, .f32⟩
  | .hbm, ⟨60, _⟩ => ⟨S3328x4096, .f32⟩
  | .hbm, ⟨61, _⟩ => ⟨S4096x3328, .f32⟩
  | .hbm, ⟨62, _⟩ => ⟨S4096x1024, .bf16⟩
  | .hbm, ⟨63, _⟩ => ⟨S4096x1024, .bf16⟩
  | .hbm, ⟨64, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x512, .bf16⟩
  | .local _ .vmem, ⟨9, _⟩ => ⟨S1024x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_0 : Ref sig .tc := ⟨.hbm, 34, rfl⟩
abbrev main_call1_v0 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52_0 : Ref sig .tc := ⟨.hbm, 62, rfl⟩
abbrev main_v52_1 : Ref sig .tc := ⟨.hbm, 63, rfl⟩
abbrev main_v52_2 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RMixIdeal.lean ====
abbrev S4096x512 : Shape := ⟨2, ![4096, 512]⟩
abbrev S2x2048x3232 : Shape := ⟨3, ![2, 2048, 3232]⟩
abbrev S512x1024 : Shape := ⟨2, ![512, 1024]⟩
abbrev S4096x3232 : Shape := ⟨2, ![4096, 3232]⟩
abbrev S4096x1024 : Shape := ⟨2, ![4096, 1024]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S2x2048x3232, .f32⟩
  | .hbm, ⟨3, _⟩ => ⟨S512x1024, .f32⟩
  | .hbm, ⟨4, _⟩ => ⟨S512x1024, .f32⟩
  | .hbm, ⟨5, _⟩ => ⟨S4096x3232, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .bf16⟩
  | .hbm, ⟨30, _⟩ => ⟨S4096x1024, .bf16⟩
  | .hbm, ⟨31, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== KProj.lean ====
abbrev S4096x1024 : Shape := ⟨2, ![4096, 1024]⟩
abbrev S1024 : Shape := ⟨1, ![1024]⟩
abbrev S1024x3232 : Shape := ⟨2, ![1024, 3232]⟩
abbrev S1x1024 : Shape := ⟨2, ![1, 1024]⟩
abbrev S3232x1024 : Shape := ⟨2, ![3232, 1024]⟩
abbrev S512x1024 : Shape := ⟨2, ![512, 1024]⟩
abbrev S128x1024 : Shape := ⟨2, ![128, 1024]⟩
abbrev S256x1024 : Shape := ⟨2, ![256, 1024]⟩
abbrev S32x1024 : Shape := ⟨2, ![32, 1024]⟩
abbrev S1024x1024 : Shape := ⟨2, ![1024, 1024]⟩
abbrev S_ : Shape := ⟨0, ![]⟩
abbrev S96x1024 : Shape := ⟨2, ![96, 1024]⟩
abbrev S64x1024 : Shape := ⟨2, ![64, 1024]⟩
abbrev S3328x1024 : Shape := ⟨2, ![3328, 1024]⟩
abbrev S4096x3328 : Shape := ⟨2, ![4096, 3328]⟩
abbrev S512x3328 : Shape := ⟨2, ![512, 3328]⟩
abbrev S512 : Shape := ⟨1, ![512]⟩
abbrev S512x1 : Shape := ⟨2, ![512, 1]⟩
abbrev S512x512 : Shape := ⟨2, ![512, 512]⟩
abbrev S512x256 : Shape := ⟨2, ![512, 256]⟩

abbrev nBuf : Space → Nat
  | .hbm => 28
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3232, .f32⟩
  | .hbm, ⟨3, _⟩ => ⟨S1x1024, .f32⟩
  | .hbm, ⟨4, _⟩ => ⟨S3232x1024, .f32⟩
  | .hbm, ⟨5, _⟩ => ⟨S512x1024, .f32⟩
  | .hbm, ⟨6, _⟩ => ⟨S128x1024, .f32⟩
  | .hbm, ⟨7, _⟩ => ⟨S128x1024, .f32⟩
  | .hbm, ⟨8, _⟩ => ⟨S256x1024, .f32⟩
  | .hbm, ⟨9, _⟩ => ⟨S128x1024, .f32⟩
  | .hbm, ⟨10, _⟩ => ⟨S32x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S96x1024, .f32⟩
  | .hbm, ⟨15, _⟩ => ⟨S64x1024, .f32⟩
  | .hbm, ⟨16, _⟩ => ⟨S64x1024, .f32⟩
  | .hbm, ⟨17, _⟩ => ⟨S64x1024, .f32⟩
  | .hbm, ⟨18, _⟩ => ⟨S64x1024, .f32⟩
  | .hbm, ⟨19, _⟩ => ⟨S64x1024, .f32⟩
  | .hbm, ⟨20, _⟩ => ⟨S64x1024, .f32⟩
  | .hbm, ⟨21, _⟩ => ⟨S64x1024, .f32⟩
  | .hbm, ⟨22, _⟩ => ⟨S64x1024, .f32⟩
  | .hbm, ⟨23, _⟩ => ⟨S512x1024, .f32⟩
  | .hbm, ⟨24, _⟩ => ⟨S3328x1024, .f32⟩
  | .hbm, ⟨25, _⟩ => ⟨S3328x1024, .bf16⟩
  | .hbm, ⟨26, _⟩ => ⟨S4096x1024, .bf16⟩
  | .hbm, ⟨27, _⟩ => ⟨S4096x3328, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3328x1024, .bf16⟩
  | .local _ .vmem, ⟨4, _⟩ => ⟨S512x1024, .bf16⟩
  | .local _ .vmem, ⟨5, _⟩ => ⟨S512x1024, .bf16⟩
  | .local _ .vmem, ⟨6, _⟩ => ⟨S512x3328, .f32⟩
  | .local _ .vmem, ⟨7, _⟩ => ⟨S512x3328, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22_0 : Ref sig .tc := ⟨.hbm, 26, rfl⟩
abbrev main_v22_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3328x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3328 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RProjIdeal.lean ====
abbrev S4096x1024 : Shape := ⟨2, ![4096, 1024]⟩
abbrev S1024 : Shape := ⟨1, ![1024]⟩
abbrev S1024x3232 : Shape := ⟨2, ![1024, 3232]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3232 : Shape := ⟨2, ![4096, 3232]⟩
abbrev S4096x512 : Shape := ⟨2, ![4096, 512]⟩
abbrev S4096x2x4x64 : Shape := ⟨4, ![4096, 2, 4, 64]⟩
abbrev S4096x4x2x64 : Shape := ⟨4, ![4096, 4, 2, 64]⟩
abbrev S4096x32 : Shape := ⟨2, ![4096, 32]⟩
abbrev S4096x128 : Shape := ⟨2, ![4096, 128]⟩
abbrev S4096x2048 : Shape := ⟨2, ![4096, 2048]⟩
abbrev S4096x256 : Shape := ⟨2, ![4096, 256]⟩
abbrev S4096x3328 : Shape := ⟨2, ![4096, 3328]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3232, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x3232, .f32⟩
  | .hbm, ⟨20, _⟩ => ⟨S4096x512, .f32⟩
  | .hbm, ⟨21, _⟩ => ⟨S4096x2x4x64, .f32⟩
  | .hbm, ⟨22, _⟩ => ⟨S4096x4x2x64, .f32⟩
  | .hbm, ⟨23, _⟩ => ⟨S4096x512, .f32⟩
  | .hbm, ⟨24, _⟩ => ⟨S4096x32, .f32⟩
  | .hbm, ⟨25, _⟩ => ⟨S_, .i32⟩
  | .hbm, ⟨26, _⟩ => ⟨S_, .f32⟩
  | .hbm, ⟨27, _⟩ => ⟨S4096x128, .f32⟩
  | .hbm, ⟨28, _⟩ => ⟨S4096x1024, .bf16⟩
  | .hbm, ⟨29, _⟩ => ⟨S4096x2048, .f32⟩
  | .hbm, ⟨30, _⟩ => ⟨S4096x256, .f32⟩
  | .hbm, ⟨31, _⟩ => ⟨S4096x256, .f32⟩
  | .hbm, ⟨32, _⟩ => ⟨S4096x128, .f32⟩
  | .hbm, ⟨33, _⟩ => ⟨S4096x3328, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== KQkv.lean ====
abbrev S2x2048x3232 : Shape := ⟨3, ![2, 2048, 3232]⟩
abbrev S2x2048 : Shape := ⟨2, ![2, 2048]⟩
abbrev S256 : Shape := ⟨1, ![256]⟩
abbrev S128 : Shape := ⟨1, ![128]⟩
abbrev S96 : Shape := ⟨1, ![96]⟩
abbrev S256x768 : Shape := ⟨2, ![256, 768]⟩
abbrev S128x1024 : Shape := ⟨2, ![128, 1024]⟩
abbrev S1024x128 : Shape := ⟨2, ![1024, 128]⟩
abbrev S8x128x128 : Shape := ⟨3, ![8, 128, 128]⟩
abbrev S4096x3232 : Shape := ⟨2, ![4096, 3232]⟩
abbrev S3232x4096 : Shape := ⟨2, ![3232, 4096]⟩
abbrev S512x4096 : Shape := ⟨2, ![512, 4096]⟩
abbrev S128x4096 : Shape := ⟨2, ![128, 4096]⟩
abbrev S256x4096 : Shape := ⟨2, ![256, 4096]⟩
abbrev S32x4096 : Shape := ⟨2, ![32, 4096]⟩
abbrev S1024x4096 : Shape := ⟨2, ![1024, 4096]⟩
abbrev S_ : Shape := ⟨0, ![]⟩
abbrev S96x4096 : Shape := ⟨2, ![96, 4096]⟩
abbrev S64x4096 : Shape := ⟨2, ![64, 4096]⟩
abbrev S3328x4096 : Shape := ⟨2, ![3328, 4096]⟩
abbrev S4096x3328 : Shape := ⟨2, ![4096, 3328]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S4096x32 : Shape := ⟨2, ![4096, 32]⟩
abbrev S4096x128 : Shape := ⟨2, ![4096, 128]⟩
abbrev S1x256 : Shape := ⟨2, ![1, 256]⟩
abbrev S1x128 : Shape := ⟨2, ![1, 128]⟩
abbrev S1x96 : Shape := ⟨2, ![1, 96]⟩
abbrev S768x256 : Shape := ⟨2, ![768, 256]⟩
abbrev S8x96x256 : Shape := ⟨3, ![8, 96, 256]⟩
abbrev S8x128x256 : Shape := ⟨3, ![8, 128, 256]⟩
abbrev S1024x256 : Shape := ⟨2, ![1024, 256]⟩
abbrev S8x64x128 : Shape := ⟨3, ![8, 64, 128]⟩
abbrev S4096x1024 : Shape := ⟨2, ![4096, 1024]⟩
abbrev S512x256 : Shape := ⟨2, ![512, 256]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩

abbrev nBuf : Space → Nat
  | .hbm => 93
  | .vmem => 25
  | .smem => 0
  | _ => 0

abbrev bufTy : (tb : Table) → Fin (tcTables nBuf tb) → BufTy
  | .hbm, ⟨0, _⟩ => ⟨S2x2048x3232, .f32⟩
  | .hbm, ⟨1, _⟩ => ⟨S2x2048, .i32⟩
  | .hbm, ⟨2, _⟩ => ⟨S256, .f32⟩
  | .hbm, ⟨3, _⟩ => ⟨S128, .f32⟩
  | .hbm, ⟨4, _⟩ => ⟨S96, .f32⟩
  | .hbm, ⟨5, _⟩ => ⟨S96, .f32⟩
  | .hbm, ⟨6, _⟩ => ⟨S256x768, .f32⟩
  | .hbm, ⟨7, _⟩ => ⟨S128x1024, .f32⟩
  | .hbm, ⟨8, _⟩ => ⟨S1024x128, .f32⟩
  | .hbm, ⟨9, _⟩ => ⟨S8x128x128, .f32⟩
  | .hbm, ⟨10, _⟩ => ⟨S4096x3232, .f32⟩
  | .hbm, ⟨11, _⟩ => ⟨S3232x4096, .f32⟩
  | .hbm, ⟨12, _⟩ => ⟨S512x4096, .f32⟩
  | .hbm, ⟨13, _⟩ => ⟨S128x4096, .f32⟩
  | .hbm, ⟨14, _⟩ => ⟨S128x4096, .f32⟩
  | .hbm, ⟨15, _⟩ => ⟨S256x4096, .f32⟩
  | .hbm, ⟨16, _⟩ => ⟨S128x4096, .f32⟩
  | .hbm, ⟨17, _⟩ => ⟨S32x4096, .f32⟩
  | .hbm, ⟨18, _⟩ => ⟨S1024x4096, .f32⟩
  | .hbm, ⟨19, _⟩ => ⟨S1024x4096, .f32⟩
  | .hbm, ⟨20, _⟩ => ⟨S_, .f32⟩
  | .hbm, ⟨21, _⟩ => ⟨S96x4096, .f32⟩
  | .hbm, ⟨22, _⟩ => ⟨S64x4096, .f32⟩
  | .hbm, ⟨23, _⟩ => ⟨S64x4096, .f32⟩
  | .hbm, ⟨24, _⟩ => ⟨S64x4096, .f32⟩
  | .hbm, ⟨25, _⟩ => ⟨S64x4096, .f32⟩
  | .hbm, ⟨26, _⟩ => ⟨S64x4096, .f32⟩
  | .hbm, ⟨27, _⟩ => ⟨S64x4096, .f32⟩
  | .hbm, ⟨28, _⟩ => ⟨S64x4096, .f32⟩
  | .hbm, ⟨29, _⟩ => ⟨S64x4096, .f32⟩
  | .hbm, ⟨30, _⟩ => ⟨S512x4096, .f32⟩
  | .hbm, ⟨31, _⟩ => ⟨S3328x4096, .f32⟩
  | .hbm, ⟨32, _⟩ => ⟨S4096x3328, .f32⟩
  | .hbm, ⟨33, _⟩ => ⟨S16, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S2x2048, .f32⟩
  | .hbm, ⟨42, _⟩ => ⟨S4096x1, .f32⟩
  | .hbm, ⟨43, _⟩ => ⟨S1x16, .f32⟩
  | .hbm, ⟨44, _⟩ => ⟨S4096x16, .f32⟩
  | .hbm, ⟨45, _⟩ => ⟨S4096x16, .f32⟩
  | .hbm, ⟨46, _⟩ => ⟨S4096x16, .f32⟩
  | .hbm, ⟨47, _⟩ => ⟨S4096x16, .f32⟩
  | .hbm, ⟨48, _⟩ => ⟨S4096x16, .f32⟩
  | .hbm, ⟨49, _⟩ => ⟨S_, .f32⟩
  | .hbm, ⟨50, _⟩ => ⟨S4096x64, .f32⟩
  | .hbm, ⟨51, _⟩ => ⟨S_, .f32⟩
  | .hbm, ⟨52, _⟩ => ⟨S4096x64, .f32⟩
  | .hbm, ⟨53, _⟩ => ⟨S_, .f32⟩
  | .hbm, ⟨54, _⟩ => ⟨S4096x32, .f32⟩
  | .hbm, ⟨55, _⟩ => ⟨S_, .f32⟩
  | .hbm, ⟨56, _⟩ => ⟨S4096x16, .f32⟩
  | .hbm, ⟨57, _⟩ => ⟨S4096x128, .f32⟩
  | .hbm, ⟨58, _⟩ => ⟨S4096x16, .f32⟩
  | .hbm, ⟨59, _⟩ => ⟨S4096x128, .f32⟩
  | .hbm, ⟨60, _⟩ => ⟨S4096x128, .f32⟩
  | .hbm, ⟨61, _⟩ => ⟨S1x256, .f32⟩
  | .hbm, ⟨62, _⟩ => ⟨S1x128, .f32⟩
  | .hbm, ⟨63, _⟩ => ⟨S1x96, .f32⟩
  | .hbm, ⟨64, _⟩ => ⟨S_, .i32⟩
  | .hbm, ⟨65, _⟩ => ⟨S_, .f32⟩
  | .hbm, ⟨66, _⟩ => ⟨S1x128, .f32⟩
  | .hbm, ⟨67, _⟩ => ⟨S1x96, .f32⟩
  | .hbm, ⟨68, _⟩ => ⟨S_, .i32⟩
  | .hbm, ⟨69, _⟩ => ⟨S_, .f32⟩
  | .hbm, ⟨70, _⟩ => ⟨S1x128, .f32⟩
  | .hbm, ⟨71, _⟩ => ⟨S768x256, .f32⟩
  | .hbm, ⟨72, _⟩ => ⟨S8x96x256, .f32⟩
  | .hbm, ⟨73, _⟩ => ⟨S_, .i32⟩
  | .hbm, ⟨74, _⟩ => ⟨S_, .f32⟩
  | .hbm, ⟨75, _⟩ => ⟨S8x128x256, .f32⟩
  | .hbm, ⟨76, _⟩ => ⟨S1024x256, .f32⟩
  | .hbm, ⟨77, _⟩ => ⟨S1024x256, .bf16⟩
  | .hbm, ⟨78, _⟩ => ⟨S8x64x128, .f32⟩
  | .hbm, ⟨79, _⟩ => ⟨S_, .i32⟩
  | .hbm, ⟨80, _⟩ => ⟨S_, .f32⟩
  | .hbm, ⟨81, _⟩ => ⟨S8x128x128, .f32⟩
  | .hbm, ⟨82, _⟩ => ⟨S1024x128, .f32⟩
  | .hbm, ⟨83, _⟩ => ⟨S1024x128, .bf16⟩
  | .hbm, ⟨84, _⟩ => ⟨S8x64x128, .f32⟩
  | .hbm, ⟨85, _⟩ => ⟨S_, .i32⟩
  | .hbm, ⟨86, _⟩ => ⟨S_, .f32⟩
  | .hbm, ⟨87, _⟩ => ⟨S8x128x128, .f32⟩
  | .hbm, ⟨88, _⟩ => ⟨S1024x128, .f32⟩
  | .hbm, ⟨89, _⟩ => ⟨S1024x128, .bf16⟩
  | .hbm, ⟨90, _⟩ => ⟨S4096x1024, .bf16⟩
  | .hbm, ⟨91, _⟩ => ⟨S4096x1024, .bf16⟩
  | .hbm, ⟨92, _⟩ => ⟨S4096x1024, .bf16⟩
  | .local _ .vmem, ⟨0, _⟩ => ⟨S512x256, .f32⟩
  | .local _ .vmem, ⟨1, _⟩ => ⟨S512x256, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x256, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1024x256, .bf16⟩
  | .local _ .vmem, ⟨17, _⟩ => ⟨S1024x128, .bf16⟩
  | .local _ .vmem, ⟨18, _⟩ => ⟨S1024x128, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | _, _ => ⟨S2x2048x3232, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_0 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_2 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c : Ref sig .tc := ⟨.hbm, 64, rfl⟩
abbrev main_call0_v0 : Ref sig .tc := ⟨.hbm, 65, rfl⟩
abbrev main_v49 : Ref sig .tc := ⟨.hbm, 66, rfl⟩
abbrev main_v50 : Ref sig .tc := ⟨.hbm, 67, rfl⟩
abbrev main_c_6 : Ref sig .tc := ⟨.hbm, 68, rfl⟩
abbrev main_call1_v0 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_7 : Ref sig .tc := ⟨.hbm, 73, rfl⟩
abbrev main_call2_v0 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_8 : Ref sig .tc := ⟨.hbm, 79, rfl⟩
abbrev main_call3_v0 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_9 : Ref sig .tc := ⟨.hbm, 85, rfl⟩
abbrev main_call4_v0 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65_0 : Ref sig .tc := ⟨.hbm, 90, rfl⟩
abbrev main_v65_1 : Ref sig .tc := ⟨.hbm, 91, rfl⟩
abbrev main_v65_2 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_1 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_2 (i : grid0.Coords) : Fin 2 → Nat :=
  let arg0 : BitVec 32 := BitVec.ofNat 32 (i 0).val
  let c25_i32 : BitVec 32 := 25#32
  let c0_i32 : BitVec 32 := 0#32
  ![arg0.toNat, c25_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== KQkvIdeal.lean ====
variable {F : FTy → Type} [FloatOps F] [Named F]
def κ : String → Option EReal := fun
  | "n" => some ((1 / 96 : ℝ) : EReal)
  | _ => none
-- ==== RQkvIdeal.lean ====
abbrev S2x2048x3232 : Shape := ⟨3, ![2, 2048, 3232]⟩
abbrev S2x2048 : Shape := ⟨2, ![2, 2048]⟩
abbrev S256 : Shape := ⟨1, ![256]⟩
abbrev S128 : Shape := ⟨1, ![128]⟩
abbrev S96 : Shape := ⟨1, ![96]⟩
abbrev S256x768 : Shape := ⟨2, ![256, 768]⟩
abbrev S128x1024 : Shape := ⟨2, ![128, 1024]⟩
abbrev S16 : Shape := ⟨1, ![16]⟩
abbrev S_ : Shape := ⟨0, ![]⟩
abbrev S2x2048x1 : Shape := ⟨3, ![2, 2048, 1]⟩
abbrev S1x1x16 : Shape := ⟨3, ![1, 1, 16]⟩
abbrev S2x2048x16 : Shape := ⟨3, ![2, 2048, 16]⟩
abbrev S2x2048x1x16 : Shape := ⟨4, ![2, 2048, 1, 16]⟩
abbrev S2x2048x256 : Shape := ⟨3, ![2, 2048, 256]⟩
abbrev S2x2048x128 : Shape := ⟨3, ![2, 2048, 128]⟩
abbrev S2x2048x32 : Shape := ⟨3, ![2, 2048, 32]⟩
abbrev S1x1x256 : Shape := ⟨3, ![1, 1, 256]⟩
abbrev S2x2048x768 : Shape := ⟨3, ![2, 2048, 768]⟩
abbrev S2x2048x8x96 : Shape := ⟨4, ![2, 2048, 8, 96]⟩
abbrev S1x1x128 : Shape := ⟨3, ![1, 1, 128]⟩
abbrev S2x2048x1024 : Shape := ⟨3, ![2, 2048, 1024]⟩
abbrev S2x2048x8x128 : Shape := ⟨4, ![2, 2048, 8, 128]⟩
abbrev S2x2048x8x64 : Shape := ⟨4, ![2, 2048, 8, 64]⟩
abbrev S2x2048x1x32 : Shape := ⟨4, ![2, 2048, 1, 32]⟩
abbrev S2x2048x8x32 : Shape := ⟨4, ![2, 2048, 8, 32]⟩
abbrev S2x2048x8 : Shape := ⟨3, ![2, 2048, 8]⟩
abbrev S2x2048x8x1 : Shape := ⟨4, ![2, 2048, 8, 1]⟩
abbrev S1x1x1x96 : Shape := ⟨4, ![1, 1, 1, 96]⟩
abbrev S2x2048x8x16 : Shape := ⟨4, ![2, 2048, 8, 16]⟩
abbrev S4096x1024 : Shape := ⟨2, ![4096, 1024]⟩

abbrev nBuf : Space → Nat
  | .hbm => 149
  | .vmem => 0
  | .smem => 0
  | _ => 0

abbrev hbmTy0_0 (i : Nat) : BufTy := match i % 128 with
  | 0 => ⟨S2x2048x3232, .f32⟩
  | 1 => ⟨S2x2048, .i32⟩
  | 2 => ⟨S256, .f32⟩
  | 3 => ⟨S128, .f32⟩
  | 4 => ⟨S96, .f32⟩
  | 5 => ⟨S96, .f32⟩
  | 6 => ⟨S256x768, .f32⟩
  | 7 => ⟨S128x1024, .f32⟩
  | 8 => ⟨S16, .f32⟩
  | 9 => ⟨S16, .f32⟩
  | 10 => ⟨S_, .f32⟩
  | 11 => ⟨S16, .f32⟩
  | 12 => ⟨S16, .f32⟩
  | 13 => ⟨S_, .f32⟩
  | 14 => ⟨S16, .f32⟩
  | 15 => ⟨S16, .f32⟩
  | 16 => ⟨S2x2048, .f32⟩
  | 17 => ⟨S2x2048x1, .f32⟩
  | 18 => ⟨S1x1x16, .f32⟩
  | 19 => ⟨S2x2048x16, .f32⟩
  | 20 => ⟨S2x2048x16, .f32⟩
  | 21 => ⟨S2x2048x16, .f32⟩
  | 22 => ⟨S2x2048x16, .f32⟩
  | 23 => ⟨S2x2048x1x16, .f32⟩
  | 24 => ⟨S2x2048x16, .f32⟩
  | 25 => ⟨S2x2048x1x16, .f32⟩
  | 26 => ⟨S2x2048x256, .f32⟩
  | 27 => ⟨S2x2048x128, .f32⟩
  | 28 => ⟨S2x2048x32, .f32⟩
  | 29 => ⟨S2x2048x256, .f32⟩
  | 30 => ⟨S_, .f32⟩
  | 31 => ⟨S2x2048, .f32⟩
  | 32 => ⟨S2x2048x1, .f32⟩
  | 33 => ⟨S_, .f32⟩
  | 34 => ⟨S2x2048x1, .f32⟩
  | 35 => ⟨S2x2048x1, .f32⟩
  | 36 => ⟨S_, .f32⟩
  | 37 => ⟨S2x2048x1, .f32⟩
  | 38 => ⟨S2x2048x1, .f32⟩
  | 39 => ⟨S2x2048x1, .f32⟩
  | 40 => ⟨S2x2048x256, .f32⟩
  | 41 => ⟨S2x2048x256, .f32⟩
  | 42 => ⟨S1x1x256, .f32⟩
  | 43 => ⟨S2x2048x256, .f32⟩
  | 44 => ⟨S2x2048x256, .f32⟩
  | 45 => ⟨S2x2048x768, .f32⟩
  | 46 => ⟨S2x2048x8x96, .f32⟩
  | 47 => ⟨S2x2048x128, .f32⟩
  | 48 => ⟨S_, .f32⟩
  | 49 => ⟨S2x2048, .f32⟩
  | 50 => ⟨S2x2048x1, .f32⟩
  | 51 => ⟨S_, .f32⟩
  | 52 => ⟨S2x2048x1, .f32⟩
  | 53 => ⟨S2x2048x1, .f32⟩
  | 54 => ⟨S_, .f32⟩
  | 55 => ⟨S2x2048x1, .f32⟩
  | 56 => ⟨S2x2048x1, .f32⟩
  | 57 => ⟨S2x2048x1, .f32⟩
  | 58 => ⟨S2x2048x128, .f32⟩
  | 59 => ⟨S2x2048x128, .f32⟩
  | 60 => ⟨S1x1x128, .f32⟩
  | 61 => ⟨S2x2048x128, .f32⟩
  | 62 => ⟨S2x2048x128, .f32⟩
  | 63 => ⟨S2x2048x1024, .f32⟩
  | 64 => ⟨S2x2048x8x128, .f32⟩
  | 65 => ⟨S2x2048x8x64, .f32⟩
  | 66 => ⟨S2x2048x8x64, .f32⟩
  | 67 => ⟨S2x2048x1x32, .f32⟩
  | 68 => ⟨S2x2048x8x32, .f32⟩
  | 69 => ⟨S2x2048x8x96, .f32⟩
  | 70 => ⟨S2x2048x8x96, .f32⟩
  | 71 => ⟨S_, .f32⟩
  | 72 => ⟨S2x2048x8, .f32⟩
  | 73 => ⟨S2x2048x8x1, .f32⟩
  | 74 => ⟨S_, .f32⟩
  | 75 => ⟨S2x2048x8x1, .f32⟩
  | 76 => ⟨S2x2048x8x1, .f32⟩
  | 77 => ⟨S_, .f32⟩
  | 78 => ⟨S2x2048x8x1, .f32⟩
  | 79 => ⟨S2x2048x8x1, .f32⟩
  | 80 => ⟨S2x2048x8x1, .f32⟩
  | 81 => ⟨S2x2048x8x96, .f32⟩
  | 82 => ⟨S2x2048x8x96, .f32⟩
  | 83 => ⟨S1x1x1x96, .f32⟩
  | 84 => ⟨S2x2048x8x96, .f32⟩
  | 85 => ⟨S2x2048x8x96, .f32⟩
  | 86 => ⟨S2x2048x8x96, .f32⟩
  | 87 => ⟨S_, .f32⟩
  | 88 => ⟨S2x2048x8, .f32⟩
  | 89 => ⟨S2x2048x8x1, .f32⟩
  | 90 => ⟨S_, .f32⟩
  | 91 => ⟨S2x2048x8x1, .f32⟩
  | 92 => ⟨S2x2048x8x1, .f32⟩
  | 93 => ⟨S_, .f32⟩
  | 94 => ⟨S2x2048x8x1, .f32⟩
  | 95 => ⟨S2x2048x8x1, .f32⟩
  | 96 => ⟨S2x2048x8x1, .f32⟩
  | 97 => ⟨S2x2048x8x96, .f32⟩
  | 98 => ⟨S2x2048x8x96, .f32⟩
  | 99 => ⟨S1x1x1x96, .f32⟩
  | 100 => ⟨S2x2048x8x96, .f32⟩
  | 101 => ⟨S2x2048x8x96, .f32⟩
  | 102 => ⟨S2x2048x8x64, .f32⟩
  | 103 => ⟨S2x2048x8x32, .f32⟩
  | 104 => ⟨S2x2048x8x16, .f32⟩
  | 105 => ⟨S2x2048x8x16, .f32⟩
  | 106 => ⟨S2x2048x8x16, .f32⟩
  | 107 => ⟨S2x2048x8x16, .f32⟩
  | 108 => ⟨S2x2048x8x16, .f32⟩
  | 109 => ⟨S2x2048x8x16, .f32⟩
  | 110 => ⟨S2x2048x8x16, .f32⟩
  | 111 => ⟨S2x2048x8x16, .f32⟩
  | 112 => ⟨S2x2048x8x16, .f32⟩
  | 113 => ⟨S2x2048x8x16, .f32⟩
  | 114 => ⟨S2x2048x8x16, .f32⟩
  | 115 => ⟨S2x2048x8x16, .f32⟩
  | 116 => ⟨S2x2048x8x32, .f32⟩
  | 117 => ⟨S2x2048x8x96, .f32⟩
  | 118 => ⟨S2x2048x8x64, .f32⟩
  | 119 => ⟨S2x2048x8x32, .f32⟩
  | 120 => ⟨S2x2048x8x16, .f32⟩
  | 121 => ⟨S2x2048x8x16, .f32⟩
  | 122 => ⟨S2x2048x8x16, .f32⟩
  | 123 => ⟨S2x2048x8x16, .f32⟩
  | 124 => ⟨S2x2048x8x16, .f32⟩
  | 125 => ⟨S2x2048x8x16, .f32⟩
  | 126 => ⟨S2x2048x8x16, .f32⟩
  | 127 => ⟨S2x2048x8x16, .f32⟩
  | _ => ⟨S2x2048x3232, .f32⟩

abbrev hbmTy0_1 (i : Nat) : BufTy := match i % 128 with
  | 0 => ⟨S2x2048x8x16, .f32⟩
  | 1 => ⟨S2x2048x8x16, .f32⟩
  | 2 => ⟨S2x2048x8x16, .f32⟩
  | 3 => ⟨S2x2048x8x16, .f32⟩
  | 4 => ⟨S2x2048x8x32, .f32⟩
  | 5 => ⟨S2x2048x8x96, .f32⟩
  | 6 => ⟨S_, .i32⟩
  | 7 => ⟨S_, .f32⟩
  | 8 => ⟨S2x2048x8x128, .f32⟩
  | 9 => ⟨S4096x1024, .f32⟩
  | 10 => ⟨S4096x1024, .bf16⟩
  | 11 => ⟨S_, .i32⟩
  | 12 => ⟨S_, .f32⟩
  | 13 => ⟨S2x2048x8x128, .f32⟩
  | 14 => ⟨S4096x1024, .f32⟩
  | 15 => ⟨S4096x1024, .bf16⟩
  | 16 => ⟨S_, .i32⟩
  | 17 => ⟨S_, .f32⟩
  | 18 => ⟨S2x2048x8x128, .f32⟩
  | 19 => ⟨S4096x1024, .f32⟩
  | 20 => ⟨S4096x1024, .bf16⟩
  | _ => ⟨S2x2048x3232, .f32⟩

abbrev hbmTy (i : Nat) : BufTy := match i / 128 with
  | 0 => hbmTy0_0 i
  | 1 => hbmTy0_1 i
  | _ => ⟨S2x2048x3232, .f32⟩

abbrev bufTy : (tb : Table) → Fin (tcTables nBuf tb) → BufTy
  | .hbm, ⟨i, _⟩ => hbmTy i
  | _, _ => ⟨S2x2048x3232, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_7 : Ref sig .tc := ⟨.hbm, 71, rfl⟩
abbrev main_v55 : Ref sig .tc := ⟨.hbm, 72, rfl⟩
abbrev main_v56 : Ref sig .tc := ⟨.hbm, 73, rfl⟩
abbrev main_cst_8 : Ref sig .tc := ⟨.hbm, 74, rfl⟩
abbrev main_v57 : Ref sig .tc := ⟨.hbm, 75, rfl⟩
abbrev main_v58 : Ref sig .tc := ⟨.hbm, 76, rfl⟩
abbrev main_cst_9 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_10 : Ref sig .tc := ⟨.hbm, 87, rfl⟩
abbrev main_v68 : Ref sig .tc := ⟨.hbm, 88, rfl⟩
abbrev main_v69 : Ref sig .tc := ⟨.hbm, 89, rfl⟩
abbrev main_cst_11 : Ref sig .tc := ⟨.hbm, 90, rfl⟩
abbrev main_v70 : Ref sig .tc := ⟨.hbm, 91, rfl⟩
abbrev main_v71 : Ref sig .tc := ⟨.hbm, 92, rfl⟩
abbrev main_cst_12 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_c : Ref sig .tc := ⟨.hbm, 134, rfl⟩
abbrev main_call0_v0 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_c_13 : Ref sig .tc := ⟨.hbm, 139, rfl⟩
abbrev main_call1_v0 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_c_14 : Ref sig .tc := ⟨.hbm, 144, rfl⟩
abbrev main_call2_v0 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩

abbrev nD : Nat := 1
abbrev τ : Topo := Topo.v7x

variable {F : FTy → Type} [FloatOps F]
-- ==== KDown.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩
abbrev S2816x512 : Shape := ⟨2, ![2816, 512]⟩
abbrev S512x512 : Shape := ⟨2, ![512, 512]⟩

abbrev nBuf : Space → Nat
  | .hbm => 6
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x2816, .bf16⟩
  | .hbm, ⟨4, _⟩ => ⟨S2816x1024, .bf16⟩
  | .hbm, ⟨5, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RDownIdeal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== KDw.lean ====
abbrev S4096x1024 : Shape := ⟨2, ![4096, 1024]⟩
abbrev S4096x3232 : Shape := ⟨2, ![4096, 3232]⟩
abbrev S4096x512 : Shape := ⟨2, ![4096, 512]⟩
abbrev S4096x128 : Shape := ⟨2, ![4096, 128]⟩
abbrev S4096x256 : Shape := ⟨2, ![4096, 256]⟩
abbrev S4096x32 : Shape := ⟨2, ![4096, 32]⟩
abbrev S4096x64 : Shape := ⟨2, ![4096, 64]⟩
abbrev S_ : Shape := ⟨0, ![]⟩
abbrev S3328x1024 : Shape := ⟨2, ![3328, 1024]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S256x1024 : Shape := ⟨2, ![256, 1024]⟩
abbrev S128x1024 : Shape := ⟨2, ![128, 1024]⟩

abbrev nBuf : Space → Nat
  | .hbm => 25
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x3232, .f32⟩
  | .hbm, ⟨2, _⟩ => ⟨S4096x3232, .bf16⟩
  | .hbm, ⟨3, _⟩ => ⟨S4096x512, .bf16⟩
  | .hbm, ⟨4, _⟩ => ⟨S4096x128, .bf16⟩
  | .hbm, ⟨5, _⟩ => ⟨S4096x128, .bf16⟩
  | .hbm, ⟨6, _⟩ => ⟨S4096x256, .bf16⟩
  | .hbm, ⟨7, _⟩ => ⟨S4096x128, .bf16⟩
  | .hbm, ⟨8, _⟩ => ⟨S4096x32, .bf16⟩
  | .hbm, ⟨9, _⟩ => ⟨S4096x1024, .bf16⟩
  | .hbm, ⟨10, _⟩ => ⟨S4096x1024, .bf16⟩
  | .hbm, ⟨11, _⟩ => ⟨S4096x64, .bf16⟩
  | .hbm, ⟨12, _⟩ => ⟨S4096x64, .bf16⟩
  | .hbm, ⟨13, _⟩ => ⟨S4096x64, .bf16⟩
  | .hbm, ⟨14, _⟩ => ⟨S4096x64, .bf16⟩
  | .hbm, ⟨15, _⟩ => ⟨S4096x64, .bf16⟩
  | .hbm, ⟨16, _⟩ => ⟨S4096x64, .bf16⟩
  | .hbm, ⟨17, _⟩ => ⟨S4096x64, .bf16⟩
  | .hbm, ⟨18, _⟩ => ⟨S4096x64, .bf16⟩
  | .hbm, ⟨19, _⟩ => ⟨S4096x512, .bf16⟩
  | .hbm, ⟨20, _⟩ => ⟨S_, .i32⟩
  | .hbm, ⟨21, _⟩ => ⟨S_, .bf16⟩
  | .hbm, ⟨22, _⟩ => ⟨S4096x128, .bf16⟩
  | .hbm, ⟨23, _⟩ => ⟨S4096x1024, .bf16⟩
  | .hbm, ⟨24, _⟩ => ⟨S3328x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S512x1024, .bf16⟩
  | .local _ .vmem, ⟨17, _⟩ => ⟨S512x1024, .bf16⟩
  | .local _ .vmem, ⟨18, _⟩ => ⟨S3328x1024, .bf16⟩
  | .local _ .vmem, ⟨19, _⟩ => ⟨S3328x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_c : Ref sig .tc := ⟨.hbm, 20, rfl⟩
abbrev main_call0_v0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v103 : BitVec 1 := Scalar.cmpi .eq arg0 c7_i32
  let v104 : BitVec 32 := Scalar.extui v103
  let c0_i32_80 : BitVec 32 := 0#32
  let v105 : BitVec 1 := Scalar.cmpi .ne v104 c0_i32_80
  v105

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3328x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RDwIdeal.lean ====
abbrev S4096x1024 : Shape := ⟨2, ![4096, 1024]⟩
abbrev S4096x3232 : Shape := ⟨2, ![4096, 3232]⟩
abbrev S_ : Shape := ⟨0, ![]⟩
abbrev S1024x3232 : Shape := ⟨2, ![1024, 3232]⟩
abbrev S3232x1024 : Shape := ⟨2, ![3232, 1024]⟩
abbrev S512x1024 : Shape := ⟨2, ![512, 1024]⟩
abbrev S2x4x64x1024 : Shape := ⟨4, ![2, 4, 64, 1024]⟩
abbrev S4x2x64x1024 : Shape := ⟨4, ![4, 2, 64, 1024]⟩
abbrev S32x1024 : Shape := ⟨2, ![32, 1024]⟩
abbrev S128x1024 : Shape := ⟨2, ![128, 1024]⟩
abbrev S2048x1024 : Shape := ⟨2, ![2048, 1024]⟩
abbrev S256x1024 : Shape := ⟨2, ![256, 1024]⟩
abbrev S3328x1024 : Shape := ⟨2, ![3328, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3232, .f32⟩
  | .hbm, ⟨2, _⟩ => ⟨S_, .f32⟩
  | .hbm, ⟨3, _⟩ => ⟨S1024x3232, .f32⟩
  | .hbm, ⟨4, _⟩ => ⟨S4096x3232, .f32⟩
  | .hbm, ⟨5, _⟩ => ⟨S3232x1024, .f32⟩
  | .hbm, ⟨6, _⟩ => ⟨S1024x3232, .f32⟩
  | .hbm, ⟨7, _⟩ => ⟨S3232x1024, .f32⟩
  | .hbm, ⟨8, _⟩ => ⟨S512x1024, .f32⟩
  | .hbm, ⟨9, _⟩ => ⟨S2x4x64x1024, .f32⟩
  | .hbm, ⟨10, _⟩ => ⟨S4x2x64x1024, .f32⟩
  | .hbm, ⟨11, _⟩ => ⟨S512x1024, .f32⟩
  | .hbm, ⟨12, _⟩ => ⟨S32x1024, .f32⟩
  | .hbm, ⟨13, _⟩ => ⟨S_, .i32⟩
  | .hbm, ⟨14, _⟩ => ⟨S_, .f32⟩
  | .hbm, ⟨15, _⟩ => ⟨S128x1024, .f32⟩
  | .hbm, ⟨16, _⟩ => ⟨S2048x1024, .f32⟩
  | .hbm, ⟨17, _⟩ => ⟨S256x1024, .f32⟩
  | .hbm, ⟨18, _⟩ => ⟨S256x1024, .f32⟩
  | .hbm, ⟨19, _⟩ => ⟨S128x1024, .f32⟩
  | .hbm, ⟨20, _⟩ => ⟨S3328x1024, .f32⟩
  | .hbm, ⟨21, _⟩ => ⟨S3328x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== KAdam.lean ====
abbrev S2x352x1024 : Shape := ⟨3, ![2, 352, 1024]⟩
abbrev S1x352x1024 : Shape := ⟨3, ![1, 352, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S2x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RAdamIdeal.lean ====
abbrev S2x352x1024 : Shape := ⟨3, ![2, 352, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S_, .f32⟩
  | .hbm, ⟨5, _⟩ => ⟨S2x352x1024, .f32⟩
  | .hbm, ⟨6, _⟩ => ⟨S2x352x1024, .f32⟩
  | .hbm, ⟨7, _⟩ => ⟨S_, .f32⟩
  | .hbm, ⟨8, _⟩ => ⟨S2x352x1024, .f32⟩
  | .hbm, ⟨9, _⟩ => ⟨S2x352x1024, .f32⟩
  | .hbm, ⟨10, _⟩ => ⟨S2x352x1024, .f32⟩
  | .hbm, ⟨11, _⟩ => ⟨S_, .f32⟩
  | .hbm, ⟨12, _⟩ => ⟨S2x352x1024, .f32⟩
  | .hbm, ⟨13, _⟩ => ⟨S2x352x1024, .f32⟩
  | .hbm, ⟨14, _⟩ => ⟨S2x352x1024, .f32⟩
  | .hbm, ⟨15, _⟩ => ⟨S_, .f32⟩
  | .hbm, ⟨16, _⟩ => ⟨S2x352x1024, .f32⟩
  | .hbm, ⟨17, _⟩ => ⟨S2x352x1024, .f32⟩
  | .hbm, ⟨18, _⟩ => ⟨S2x352x1024, .f32⟩
  | .hbm, ⟨19, _⟩ => ⟨S_, .f32⟩
  | .hbm, ⟨20, _⟩ => ⟨S2x352x1024, .f32⟩
  | .hbm, ⟨21, _⟩ => ⟨S2x352x1024, .f32⟩
  | .hbm, ⟨22, _⟩ => ⟨S_, .f32⟩
  | .hbm, ⟨23, _⟩ => ⟨S2x352x1024, .f32⟩
  | .hbm, ⟨24, _⟩ => ⟨S2x352x1024, .f32⟩
  | .hbm, ⟨25, _⟩ => ⟨S2x352x1024, .f32⟩
  | .hbm, ⟨26, _⟩ => ⟨S_, .f32⟩
  | .hbm, ⟨27, _⟩ => ⟨S2x352x1024, .f32⟩
  | .hbm, ⟨28, _⟩ => ⟨S2x352x1024, .f32⟩
  | .hbm, ⟨29, _⟩ => ⟨S2x352x1024, .f32⟩
  | .hbm, ⟨30, _⟩ => ⟨S_, .f32⟩
  | .hbm, ⟨31, _⟩ => ⟨S2x352x1024, .f32⟩
  | .hbm, ⟨32, _⟩ => ⟨S2x352x1024, .f32⟩
  | .hbm, ⟨33, _⟩ => ⟨S2x352x1024, .f32⟩
  | .hbm, ⟨34, _⟩ => ⟨S_, .f32⟩
  | .hbm, ⟨35, _⟩ => ⟨S2x352x1024, .f32⟩
  | .hbm, ⟨36, _⟩ => ⟨S2x352x1024, .f32⟩
  | _, _ => ⟨S2x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.LossValue.lean ====
/- The loss head: its three results are those of differentiating the loss. -/
module

public import proofs.«01_k».proof.Proof.Gen.KLossIdeal.Value
public import proofs.«01_k».proof.Proof.Gen.RLossIdeal.Read
public import Idealize.ShloMosaic.Lib.Pipeline.ValueKit

@[expose] public section

set_option maxRecDepth 16384

noncomputable section

namespace Cert.LossHead

open Cert.KLossIdeal Cert.KLossIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The output of the model, and the target. -/
abbrev Y : FVec Ideal S2x2048x1024 .f32 := m ((c : Thread nD τ).loc main_arg0)
abbrev T : FVec Ideal S2x2048x1024 .f32 := m ((c : Thread nD τ).loc main_arg1)

/-- Which block of its array each window holds at a point. -/
theorem idx : ∀ t : Fin cfg0.N, win0_0.index t = ![t.val, 0] ∧ win0_1.index t = ![t.val, 0]
    ∧ win0_2.index t = ![t.val, 0] ∧ win0_3.index t = ![t.val, 0] ∧ win0_4.index t = ![0, 0] ∧ t.val < 8 :=
  (by decide +kernel : ∀ t : Fin grid0.N, _)

theorem two : Ideal.ofBits .f32 0x40000000#32 = ((2 : ℝ) : EReal) := by
  simp [Ideal.ofBits, Ideal.ieee, -EReal.coe_mul]; norm_num

theorem half : Ideal.ofBits .f32 0x3F000000#32 = ((1 / 2 : ℝ) : EReal) := by
  simp [Ideal.ofBits, Ideal.ieee, -EReal.coe_mul]; norm_num

theorem width : Ideal.ofBits .f32 0x44800000#32 = ((1024 : ℝ) : EReal) := by
  simp [Ideal.ofBits, Ideal.ieee, -EReal.coe_mul]; norm_num

theorem perWidth : Ideal.ofBits .f32 0x3A800000#32 = ((1 / 1024 : ℝ) : EReal) := by
  simp [Ideal.ofBits, Ideal.ieee, -EReal.coe_mul]; norm_num

theorem halfPerWidth : Ideal.ofBits .f32 0x3A000000#32 = ((1 / 2048 : ℝ) : EReal) := by
  simp [Ideal.ofBits, Ideal.ieee, -EReal.coe_mul]; norm_num

/-- The flat copies of the two arrays, at a row and a column. -/
theorem flat0 (r : Fin 4096) (l : Fin 1024) :
    (show FVec Ideal S4096x1024 .f32 from V m c main_v0) (ix2 r l) = Y m c (ix3 ⟨r.val / 2048, by omega⟩ ⟨r.val % 2048, by omega⟩ l) := by
  entry_read
  pointwise

theorem flat1 (r : Fin 4096) (l : Fin 1024) :
    (show FVec Ideal S4096x1024 .f32 from V m c main_v1) (ix2 r l) = T m c (ix3 ⟨r.val / 2048, by omega⟩ ⟨r.val % 2048, by omega⟩ l) := by
  entry_read
  pointwise

/-- A point's block of the first array, at a row and a column. -/
theorem read0 (t : Fin cfg0.N) (r : Fin 512) (l : Fin 1024) :
    (show FVec Ideal S512x1024 .f32 from iblk m c 0 t) (ix2 r l)
      = Y m c (ix3 ⟨(512 * t.val + r.val) / 2048, by have := (idx t).2.2.2.2.2; omega⟩ ⟨(512 * t.val + r.val) % 2048, by omega⟩ l) := by
  have ht := (idx t).2.2.2.2.2
  refine Eq.trans ?_ (flat0 m c ⟨512 * t.val + r.val, by omega⟩ l)
  blk_ext [iblk, idx t]

/-- A point's block of the second array, at a row and a column. -/
theorem read1 (t : Fin cfg0.N) (r : Fin 512) (l : Fin 1024) :
    (show FVec Ideal S512x1024 .f32 from iblk m c 1 t) (ix2 r l)
      = T m c (ix3 ⟨(512 * t.val + r.val) / 2048, by have := (idx t).2.2.2.2.2; omega⟩ ⟨(512 * t.val + r.val) % 2048, by omega⟩ l) := by
  have ht := (idx t).2.2.2.2.2
  refine Eq.trans ?_ (flat1 m c ⟨512 * t.val + r.val, by omega⟩ l)
  blk_ext [iblk, idx t]

/-- What every point leaves in the two gradient blocks, whichever case runs. -/
theorem blocks (t : Fin cfg0.N) :
    (outsAt0 m c t.val t.isLt).1 = k0_pay2 (iblk m c 0 t) (iblk m c 1 t)
      ∧ (outsAt0 m c t.val t.isLt).2.1 = k0_pay3 (iblk m c 0 t) (iblk m c 1 t) := by
  have hN : t.val < 8 := (idx t).2.2.2.2.2
  by_cases h0 : t.val % 8 = 0
  · have h1 : ¬t.val % 8 = 7 := by omega
    constructor
    · rw [outsAt0_A m c t h0 h1]; frame_out
    · rw [outsAt0_A m c t h0 h1]; frame_out
  · by_cases h1 : t.val % 8 = 7
    · constructor
      · rw [outsAt0_C m c t h0 h1]; frame_out
      · rw [outsAt0_C m c t h0 h1]; frame_out
    · constructor
      · rw [outsAt0_B m c t h0 h1]; frame_out
      · rw [outsAt0_B m c t h0 h1]; frame_out

/-- Half over the width, times twice a number, is the number over the width. -/
theorem scale (e : EReal) :
    Ideal.div (Ideal.ofBits .f32 0x3F000000#32) (Ideal.ofBits .f32 0x44800000#32) * (Ideal.ofBits .f32 0x40000000#32 * e)
      = e * Ideal.ofBits .f32 0x3A800000#32 := by
  rw [two, half, width, perWidth, Ideal.div_coe, ← mul_assoc, ← EReal.coe_mul, ← EReal.coe_mul, mul_comm]
  all_goals norm_num

open Cert.RLossIdeal.Read in
/-- The reference's gradient at a row of the batch laid out flat, and a column. -/
theorem ref_dy (X Z : FVec Ideal S2x2048x1024 .f32) (r : Fin 4096) (l : Fin 1024) :
    val_main_v15 (F := Ideal) X Z (ix2 r l)
      = (X (ix3 ⟨r.val / 2048, by omega⟩ ⟨r.val % 2048, by omega⟩ l) - Z (ix3 ⟨r.val / 2048, by omega⟩ ⟨r.val % 2048, by omega⟩ l))
        * Ideal.ofBits .f32 0x3A800000#32 := by
  simp only [val_main_v15, val_main_v14, val_main_v13, val_main_v12, val_main_v11, val_main_cst_6, val_main_v10, val_main_v9,
    val_main_cst_5, val_main_cst_4, val_main_v3, val_main_v2, val_main_cst, val_main_v0]
  pointwise
  rw [scale]

/-- The scaled difference of a point's blocks is the reference's gradient where the block sits. -/
theorem point (t : Fin cfg0.N) (y : S512x1024.Idx) (i : S4096x1024.Idx) (h0 : (i 0).val = 512 * t.val + (y 0).val)
    (h1 : (i 1).val = (y 1).val) :
    k0_pay2 (F := Ideal) (iblk m c 0 t) (iblk m c 1 t) y = Cert.RLossIdeal.Read.val_main_v15 (F := Ideal) (Y m c) (T m c) i := by
  obtain ⟨r, l, rfl⟩ : ∃ (r : Fin 512) (l : Fin 1024), y = ix2 r l := ⟨y 0, y 1, eq_ix2 y⟩
  obtain ⟨r', l', rfl⟩ : ∃ (r' : Fin 4096) (l' : Fin 1024), i = ix2 r' l' := ⟨i 0, i 1, eq_ix2 i⟩
  obtain rfl : l' = l := Fin.ext h1
  rw [ref_dy]
  have hp (x0 x1 : FVec Ideal S512x1024 .f32) : k0_pay2 x0 x1 (ix2 r l') = (x0 (ix2 r l') - x1 (ix2 r l')) * Ideal.ofBits .f32 0x3A800000#32 := by
    pointwise [k0_pay2, k0_pay1]
  refine (hp _ _).trans ?_
  have e0 := read0 m c t r l'
  have e1 := read1 m c t r l'
  have h0' : r'.val = 512 * t.val + r.val := h0
  simp only [← h0'] at e0 e1
  exact congrArg (· * _) (congrArg₂ (· - ·) e0 e1)

open Cert.RLossIdeal.Read in
/-- The gradient of the loss. -/
theorem final_dy : (dats m 0 c).arrAt 2 cfg0.N = val_main_v15 (F := Ideal) (Y m c) (T m c) := by
  refine (dats m 0 c).arrAt_eq_of_covers 2 _ (by decide +kernel) fun t hf y => ?_
  blk_simp
  rw [after0_2, (blocks m c t).1]
  refine point m c t y _ ?_ ?_
  all_goals blk_simp [idx t]
  omega

open Cert.RLossIdeal.Read in
/-- Its narrow copy. -/
theorem final_dyb : (dats m 0 c).arrAt 3 cfg0.N = val_main_v16 (F := Ideal) (Y m c) (T m c) := by
  refine (dats m 0 c).arrAt_eq_of_covers 3 _ (by decide +kernel) fun t hf y => ?_
  blk_simp
  rw [after0_3, (blocks m c t).2]
  refine Eq.trans (b := k0_pay2 (F := Ideal) (iblk m c 0 t) (iblk m c 1 t) y) rfl (point m c t y _ ?_ ?_)
  all_goals blk_simp [idx t]
  omega

/-- What the carried row holds at a column: the squares of the rows so far. -/
theorem row (t : Fin cfg0.N) (j : S1x1024.Idx) :
    (outsAt0 m c t.val t.isLt).2.2.2 j = ∑ p ∈ Finset.Iic t, ∑ r : Fin 512,
      ((show FVec Ideal S512x1024 .f32 from iblk m c 0 p) (ix2 r (j 1)) - (show FVec Ideal S512x1024 .f32 from iblk m c 1 p) (ix2 r (j 1)))
        * ((show FVec Ideal S512x1024 .f32 from iblk m c 0 p) (ix2 r (j 1)) - (show FVec Ideal S512x1024 .f32 from iblk m c 1 p) (ix2 r (j 1))) := by
  have hpay (x0 x1 : FVec Ideal S512x1024 .f32) (acc : FVec Ideal S1x1024 .f32) (j) :
      k0_pay5 x0 x1 acc j = acc j + ∑ r : Fin 512, (x0 (ix2 r (j 1)) - x1 (ix2 r (j 1))) * (x0 (ix2 r (j 1)) - x1 (ix2 r (j 1))) := by
    pointwise [k0_pay5, k0_pay1]
  have hzero (j) : k0_pay4 (F := Ideal) j = 0 := by pointwise [k0_pay4]
  rw [Pipeline.eq_sum_fin_of_reset_step_apply_single (fun n h => (outsAt0 m c n h).2.2.2) 8 (fun _ => 0) _
    (fun t h j => by rw [outsAt0_A m c t h (by omega)]; frame_out; rw [hpay, hzero])
    (fun t h j => by
      by_cases h1 : t.val % 8 = 7
      · rw [outsAt0_C m c t h h1]; frame_out; rw [hpay, (Memref.isWhole_whole _).read_unread]
      · rw [outsAt0_B m c t h h1]; frame_out; rw [hpay, (Memref.isWhole_whole _).read_unread])
    (le_of_eq N_0) t j, zero_add]

/-- A nonnegative real factor comes out of a sum. -/
theorem sum_mul_real {ι : Type} [Fintype ι] (k : ℝ) (hk : 0 ≤ k) (f : ι → EReal) : (∑ i, f i) * (k : EReal) = ∑ i, f i * (k : EReal) := by
  classical
  suffices h : ∀ s : Finset ι, (∑ i ∈ s, f i) * (k : EReal) = ∑ i ∈ s, f i * (k : EReal) from h _
  intro s
  induction s using Finset.induction_on with
  | empty => simp
  | insert a s ha ih =>
    rw [Finset.sum_insert ha, Finset.sum_insert ha,
      EReal.right_distrib_of_nonneg_of_ne_top (EReal.coe_nonneg.mpr hk) (EReal.coe_ne_top k), ih]

/-- A sum over the eight blocks' rows is a sum over the batch's rows. -/
theorem sum_rows (f : Fin 2 → Fin 2048 → EReal) (g : Fin 8 → Fin 512 → EReal)
    (h : ∀ p r, g p r = f ⟨(512 * p.val + r.val) / 2048, by omega⟩ ⟨(512 * p.val + r.val) % 2048, by omega⟩) :
    ∑ p, ∑ r, g p r = ∑ b, ∑ s, f b s := by
  refine Fin.sum_points_lanes_congr 4 fun t k ha hl => ?_
  rw [h]
  congr 1 <;> (apply Fin.ext; dsimp only; omega)

open Cert.RLossIdeal.Read in
/-- The reference's loss. -/
theorem ref_loss (X Z : FVec Ideal S2x2048x1024 .f32) (j) :
    val_main_v17 (F := Ideal) X Z j
      = Ideal.ofBits .f32 0x3F000000#32 * ∑ b : Fin 2, ∑ s : Fin 2048,
          Ideal.div (∑ l : Fin 1024, (X (ix3 b s l) - Z (ix3 b s l)) * (X (ix3 b s l) - Z (ix3 b s l))) (Ideal.ofBits .f32 0x44800000#32) := by
  simp only [val_main_v17, val_main_v8, val_main_v7, val_main_v6, val_main_v5, val_main_v4, val_main_v1, val_main_v0, val_main_cst_0,
    val_main_cst_1, val_main_cst_2, val_main_cst_3]
  pointwise

open Cert.RLossIdeal.Read in
/-- The loss. -/
theorem final_loss : (dats m 0 c).arrAt 4 cfg0.N = val_main_v17 (F := Ideal) (Y m c) (T m c) := by
  refine (dats m 0 c).arrAt_eq_of_after_last 4 t0_7 (by decide +kernel) _ fun j => ?_
  rw [ref_loss]
  have hpay (a : FVec Ideal S1x1024 .f32) (j) :
      k0_pay6 a j = (∑ l : Fin 1024, a (ix2 0 l)) * Ideal.ofBits .f32 0x3A000000#32 := by pointwise [k0_pay6]
  have h7 : t0_7.val = 7 := rfl
  have hlast : (outsAt0 m c t0_7.val t0_7.isLt).2.2.1 = k0_pay6 (F := Ideal) (outsAt0 m c t0_7.val t0_7.isLt).2.2.2 := by
    rw [outsAt0_C m c t0_7 (by omega) (by omega)]; frame_out
  blk_simp
  rw [after0_4, hlast, hpay]
  have hrow (l : Fin 1024) : (outsAt0 m c t0_7.val t0_7.isLt).2.2.2 (ix2 0 l)
      = ∑ b : Fin 2, ∑ s : Fin 2048, (Y m c (ix3 b s l) - T m c (ix3 b s l)) * (Y m c (ix3 b s l) - T m c (ix3 b s l)) := by
    rw [row m c t0_7]
    have hall : Finset.Iic t0_7 = Finset.univ := by decide +kernel
    rw [hall]
    refine sum_rows (fun b s => (Y m c (ix3 b s l) - T m c (ix3 b s l)) * (Y m c (ix3 b s l) - T m c (ix3 b s l))) _ fun p r => ?_
    have e : (show FVec Ideal S512x1024 .f32 from iblk m c 0 p) (ix2 r l) - (show FVec Ideal S512x1024 .f32 from iblk m c 1 p) (ix2 r l) = _ :=
      congrArg₂ (· - ·) (read0 m c p r l) (read1 m c p r l)
    exact congrArg₂ (· * ·) e e
  simp only [hrow]
  have h (x : EReal) : Ideal.div x (Ideal.ofBits .f32 0x44800000#32) = x * ((1 / 1024 : ℝ) : EReal) := by
    rw [width, Ideal.div_coe]; all_goals norm_num
  simp only [h]
  simp only [← sum_mul_real (1 / 1024) (by norm_num)]
  rw [half, halfPerWidth, mul_comm ((1 / 2 : ℝ) : EReal), mul_assoc, ← EReal.coe_mul]
  refine congrArg₂ (· * ·) ?_ (congrArg _ (by norm_num))
  rw [Finset.sum_comm]
  exact Finset.sum_congr rfl fun b _ => Finset.sum_comm

end Cert.LossHead
-- ==== Proof.MlaT0.lean ====
/- The latent attention's backward kernel: one head's three gradient blocks as sums over the sequence. -/
module

public import proofs.«01_k».proof.Proof.Gen.KMlaIdeal.Value
public import Idealize.ShloMosaic.Lib.Pipeline.ValueKit
public import Idealize.ShloMosaic.Lib.FinSumWindow

@[expose] public section

set_option maxRecDepth 16384

noncomputable section

namespace Cert.Mla

open Cert.KMlaIdeal Cert.KMlaIdeal.Gen Idealize.ShloMosaic Idealize.ShloMosaic.TcCoe Idealize.SL.Sem
open Idealize.ShloMosaic.Pipeline (Dat)

/-- One head's block: 2048 positions of 128 lanes. -/
abbrev Blk := FVec Ideal S2048x128 .bf16

/-- The product of two rows of two blocks. -/
def dots (a b : Blk) (r s : Fin 2048) : EReal := ∑ d : Fin 128, a (ix2 r d) * b (ix2 s d)

/-- A query's probability of a key, from the masked score and the saved logarithm of the row's sum. -/
def prob (q k : Blk) (l : FVec Ideal S1x2048x1 .f32) (r s : Fin 2048) : EReal :=
  Ideal.exp2 ((if s ≤ r then dots q k r s else ⊥) * (((Real.sqrt 96 * Real.log 2)⁻¹ : ℝ) : EReal) - l (ix3 0 r 0))

/-- The gradient of a score: the probability times how far its own gradient lies above the row's mean, times the scale. -/
def grad (q k v o g : Blk) (l : FVec Ideal S1x2048x1 .f32) (r s : Fin 2048) : EReal :=
  prob q k l r s * (dots g v r s - dots g o r r) * (((Real.sqrt 96)⁻¹ : ℝ) : EReal)

variable (x0 x1 x2 x3 x4 : Blk) (x5 : FVec Ideal S1x2048x1 .f32)

/-- The kernel's mask chooses by the order of the two positions in the tile. -/
theorem sel (r s : Fin 256) (a b : EReal) :
    Scalar.select (IntOp.cmpi CmpIPredicate.sge (BitVec.ofNat 32 r.val) (BitVec.ofNat 32 s.val)) a b = if s.val ≤ r.val then a else b := by
  have e : ∀ n : Fin 256, (BitVec.ofNat 32 n.val).toInt = n.val := by
    intro n
    rw [BitVec.toInt_eq_toNat_of_lt (by simp only [BitVec.toNat_ofNat]; omega)]
    simp only [BitVec.toNat_ofNat]
    omega
  by_cases h : s.val ≤ r.val <;> simp [Scalar.select, IntOp.cmpi, h, BitVec.sle, e]

/-- The named mask is minus infinity. -/
theorem mask_val : (Named.named κ "mask" 4048155338#32 : Ideal .f32) = (⊥ : EReal) := rfl
/-- The named factor of the exponent is the exact one. -/
theorem c_val : (Named.named κ "c" 1041680192#32 : Ideal .f32) = (((Real.sqrt 96 * Real.log 2)⁻¹ : ℝ) : EReal) := rfl
/-- The named scale is the exact one. -/
theorem scale_val : (Named.named κ "scale" 1037108716#32 : Ideal .f32) = (((Real.sqrt 96)⁻¹ : ℝ) : EReal) := rfl

/-- A row of the sequence, from its tile's first row and its place in the tile. -/
abbrev row (n r : ℕ) (h : n + r < 2048) : Fin 2048 := ⟨n + r, h⟩

/-- The score gradients of the tiles on the diagonal. -/
theorem grad_diag (r s : Fin 256) :
    (k0_pay146 (F := Ideal) x0 x1 x2 x3 x4 x5) (ix2 r s) = grad x0 x1 x2 x3 x4 x5 (row 0 r (by omega)) (row 0 s (by omega)) ∧
    (k0_pay148 (F := Ideal) x0 x1 x2 x3 x4 x5) (ix2 r s) = grad x0 x1 x2 x3 x4 x5 (row 256 r (by omega)) (row 256 s (by omega)) ∧
    (k0_pay149 (F := Ideal) x0 x1 x2 x3 x4 x5) (ix2 r s) = grad x0 x1 x2 x3 x4 x5 (row 512 r (by omega)) (row 512 s (by omega)) ∧
    (k0_pay151 (F := Ideal) x0 x1 x2 x3 x4 x5) (ix2 r s) = grad x0 x1 x2 x3 x4 x5 (row 768 r (by omega)) (row 768 s (by omega)) ∧
    (k0_pay152 (F := Ideal) x0 x1 x2 x3 x4 x5) (ix2 r s) = grad x0 x1 x2 x3 x4 x5 (row 1024 r (by omega)) (row 1024 s (by omega)) ∧
    (k0_pay155 (F := Ideal) x0 x1 x2 x3 x4 x5) (ix2 r s) = grad x0 x1 x2 x3 x4 x5 (row 1280 r (by omega)) (row 1280 s (by omega)) ∧
    (k0_pay156 (F := Ideal) x0 x1 x2 x3 x4 x5) (ix2 r s) = grad x0 x1 x2 x3 x4 x5 (row 1536 r (by omega)) (row 1536 s (by omega)) ∧
    (k0_pay159 (F := Ideal) x0 x1 x2 x3 x4 x5) (ix2 r s) = grad x0 x1 x2 x3 x4 x5 (row 1792 r (by omega)) (row 1792 s (by omega)) := by
  refine ⟨?_, ?_, ?_, ?_, ?_, ?_, ?_, ?_⟩
  all_goals
    unfold_payloads
    unfold grad prob dots row
    pointwise [View.ld]
    simp only [sel, mask_val, c_val, scale_val, Fin.mk_le_mk, Nat.add_le_add_iff_left]
    rfl

/-- The probabilities of the tiles on the diagonal. -/
theorem prob_diag (r s : Fin 256) :
    (k0_pay38 (k0_pay115 (F := Ideal) x0 x1 x2 x3 x4 x5) (k0_pay131 (F := Ideal) x0 x1 x2 x3 x4 x5) (View.ld x1 r0_0)) (ix2 r s) = prob x0 x1 x5 (row 0 r (by omega)) (row 0 s (by omega)) ∧
    (k0_pay42 (k0_pay147 (F := Ideal) x0 x1 x2 x3 x4 x5)) (ix2 r s) = prob x0 x1 x5 (row 256 r (by omega)) (row 256 s (by omega)) ∧
    (k0_pay45 (k0_pay117 (F := Ideal) x0 x1 x2 x3 x4 x5) (k0_pay133 (F := Ideal) x0 x1 x2 x3 x4 x5) (View.ld x1 r0_2)) (ix2 r s) = prob x0 x1 x5 (row 512 r (by omega)) (row 512 s (by omega)) ∧
    (k0_pay48 (k0_pay150 (F := Ideal) x0 x1 x2 x3 x4 x5)) (ix2 r s) = prob x0 x1 x5 (row 768 r (by omega)) (row 768 s (by omega)) ∧
    (k0_pay51 (k0_pay119 (F := Ideal) x0 x1 x2 x3 x4 x5) (k0_pay135 (F := Ideal) x0 x1 x2 x3 x4 x5) (View.ld x1 r0_4)) (ix2 r s) = prob x0 x1 x5 (row 1024 r (by omega)) (row 1024 s (by omega)) ∧
    (k0_pay56 (k0_pay136 (F := Ideal) x0 x1 x2 x3 x4 x5) (k0_pay153 (F := Ideal) x0 x1 x2 x3 x4 x5) (k0_pay154 (F := Ideal) x0 x1 x2 x3 x4 x5)) (ix2 r s) = prob x0 x1 x5 (row 1280 r (by omega)) (row 1280 s (by omega)) ∧
    (k0_pay59 (k0_pay121 (F := Ideal) x0 x1 x2 x3 x4 x5) (k0_pay137 (F := Ideal) x0 x1 x2 x3 x4 x5) (View.ld x1 r0_6)) (ix2 r s) = prob x0 x1 x5 (row 1536 r (by omega)) (row 1536 s (by omega)) ∧
    (k0_pay64 (k0_pay138 (F := Ideal) x0 x1 x2 x3 x4 x5) (k0_pay157 (F := Ideal) x0 x1 x2 x3 x4 x5) (k0_pay158 (F := Ideal) x0 x1 x2 x3 x4 x5) (Named.named κ "mask" 0xF149F2CA#32)) (ix2 r s) = prob x0 x1 x5 (row 1792 r (by omega)) (row 1792 s (by omega)) := by
  refine ⟨?_, ?_, ?_, ?_, ?_, ?_, ?_, ?_⟩
  all_goals
    unfold_payloads
    unfold prob dots row
    pointwise [View.ld]
    simp only [sel, mask_val, c_val, scale_val, Fin.mk_le_mk, Nat.add_le_add_iff_left]
    rfl

/-- The score gradients of the tiles below the diagonal. -/
theorem grad_rest (r : Fin 256) :
    (∀ s : Fin 256, (k0_pay160 (F := Ideal) x0 x1 x2 x3 x4 x5) (ix2 r s) = grad x0 x1 x2 x3 x4 x5 (row 256 r (by omega)) (row 0 s (by omega))) ∧
    (∀ s : Fin 512, (k0_pay163 (F := Ideal) x0 x1 x2 x3 x4 x5) (ix2 r s) = grad x0 x1 x2 x3 x4 x5 (row 512 r (by omega)) (row 0 s (by omega))) ∧
    (∀ s : Fin 768, (k0_pay165 (F := Ideal) x0 x1 x2 x3 x4 x5) (ix2 r s) = grad x0 x1 x2 x3 x4 x5 (row 768 r (by omega)) (row 0 s (by omega))) ∧
    (∀ s : Fin 1024, (k0_pay167 (F := Ideal) x0 x1 x2 x3 x4 x5) (ix2 r s) = grad x0 x1 x2 x3 x4 x5 (row 1024 r (by omega)) (row 0 s (by omega))) ∧
    (∀ s : Fin 1280, (k0_pay169 (F := Ideal) x0 x1 x2 x3 x4 x5) (ix2 r s) = grad x0 x1 x2 x3 x4 x5 (row 1280 r (by omega)) (row 0 s (by omega))) ∧
    (∀ s : Fin 1536, (k0_pay171 (F := Ideal) x0 x1 x2 x3 x4 x5) (ix2 r s) = grad x0 x1 x2 x3 x4 x5 (row 1536 r (by omega)) (row 0 s (by omega))) ∧
    (∀ s : Fin 1792, (k0_pay173 (F := Ideal) x0 x1 x2 x3 x4 x5) (ix2 r s) = grad x0 x1 x2 x3 x4 x5 (row 1792 r (by omega)) (row 0 s (by omega))) := by
  refine ⟨?_, ?_, ?_, ?_, ?_, ?_, ?_⟩
  all_goals
    intro s
    unfold_payloads
    unfold grad prob dots row
    pointwise [View.ld]
    try rw [if_pos (show (_ : Fin 2048) ≤ _ from Fin.mk_le_mk.2 (by omega))]
    simp only [c_val, scale_val]
    rfl

/-- The probabilities of the tiles below the diagonal. -/
theorem prob_rest (r : Fin 256) :
    (∀ s : Fin 256, (k0_pay67 (k0_pay116 (F := Ideal) x0 x1 x2 x3 x4 x5) (k0_pay132 (F := Ideal) x0 x1 x2 x3 x4 x5) (View.ld x1 r0_0)) (ix2 r s) = prob x0 x1 x5 (row 256 r (by omega)) (row 0 s (by omega))) ∧
    (∀ s : Fin 512, (k0_pay162 (F := Ideal) x0 x1 x2 x3 x4 x5) (ix2 r s) = prob x0 x1 x5 (row 512 r (by omega)) (row 0 s (by omega))) ∧
    (∀ s : Fin 768, (k0_pay164 (F := Ideal) x0 x1 x2 x3 x4 x5) (ix2 r s) = prob x0 x1 x5 (row 768 r (by omega)) (row 0 s (by omega))) ∧
    (∀ s : Fin 1024, (k0_pay166 (F := Ideal) x0 x1 x2 x3 x4 x5) (ix2 r s) = prob x0 x1 x5 (row 1024 r (by omega)) (row 0 s (by omega))) ∧
    (∀ s : Fin 1280, (k0_pay168 (F := Ideal) x0 x1 x2 x3 x4 x5) (ix2 r s) = prob x0 x1 x5 (row 1280 r (by omega)) (row 0 s (by omega))) ∧
    (∀ s : Fin 1536, (k0_pay170 (F := Ideal) x0 x1 x2 x3 x4 x5) (ix2 r s) = prob x0 x1 x5 (row 1536 r (by omega)) (row 0 s (by omega))) ∧
    (∀ s : Fin 1792, (k0_pay172 (F := Ideal) x0 x1 x2 x3 x4 x5) (ix2 r s) = prob x0 x1 x5 (row 1792 r (by omega)) (row 0 s (by omega))) := by
  refine ⟨?_, ?_, ?_, ?_, ?_, ?_, ?_⟩
  all_goals
    intro s
    unfold_payloads
    unfold prob dots row
    pointwise [View.ld]
    try rw [if_pos (show (_ : Fin 2048) ≤ _ from Fin.mk_le_mk.2 (by omega))]
    simp only [c_val, scale_val]
    rfl

/-- A masked score has no probability: the key lies after the query. -/
theorem prob_after (r s : Fin 2048) (h : r < s) : prob x0 x1 x5 r s = 0 := by
  unfold prob
  rw [if_neg (not_le.2 h), EReal.bot_mul_coe_of_pos (by positivity), EReal.bot_sub]
  rfl

/-- A masked score has no gradient. -/
theorem grad_after (r s : Fin 2048) (h : r < s) : grad x0 x1 x2 x3 x4 x5 r s = 0 := by
  unfold grad
  rw [prob_after x0 x1 x5 r s h, zero_mul, zero_mul]

/-- A sum over the queries from a key's own tile on is the sum over all queries, where the earlier ones count nothing. -/
theorem sum_from (G : Fin 2048 → Fin 2048 → EReal) (hG : ∀ r s, r < s → G r s = 0) (b : Blk) (lo W : ℕ) (hW : lo + W = 2048)
    (Y : Fin 2048) (e : Fin 128) (d : Fin 128) (he : e = d) (s : Fin 256) (hY : Y.val = lo + s.val) (T : Fin W → EReal)
    (hT : ∀ p : Fin W, T p = G ⟨lo + p.val, by omega⟩ ⟨lo + s.val, by omega⟩ * b (ix2 ⟨lo + p.val, by omega⟩ d)) :
    ∑ p, T p = ∑ r, G r Y * b (ix2 r e) := by
  subst he
  rw [FinSumWindow.sum_window lo (W := W) hW.le (fun r => G r Y * b (ix2 r e)) fun P hP => by
    rw [hG P Y (Fin.lt_def.2 (by have := P.isLt; omega)), zero_mul]]
  refine Finset.sum_congr rfl fun p _ => ?_
  rw [hT p]
  exact congrArg (fun w => G _ w * b _) (Fin.ext hY.symm)

/-- `concatenate` under a name of its own, so that it is read by the theorem below. -/
def stack {α : Type} (t : Shape) (a : Fin t.rank) (xs : List ((s : Shape) × (s.Idx → α)))
    (h : Shape.Concatenates (xs.map (·.1)) t a) : t.Idx → α := concatenate t a xs h

/-- The name `stack` stands for `concatenate`. -/
theorem stack_eq {α : Type} (t : Shape) (a : Fin t.rank) (xs : List ((s : Shape) × (s.Idx → α)))
    (h : Shape.Concatenates (xs.map (·.1)) t a) : concatenate t a xs h = stack t a xs h := rfl

/-- Square tiles whose entries are a function's at the tiles' places, one below the other from row `lo + n` on. -/
inductive Tiled (G : Fin 2048 → Fin 2048 → EReal) (lo : ℕ) : List ((s : Shape) × (s.Idx → EReal)) → ℕ → Prop
  | nil (n : ℕ) : Tiled G lo [] n
  | cons (a : S256x256.Idx → EReal) (ps : List ((s : Shape) × (s.Idx → EReal))) (n : ℕ)
      (ha : ∀ (r s : Fin 256) (h : lo + (n + r.val) < 2048) (h' : lo + s.val < 2048),
        a (ix2 r s) = G ⟨lo + (n + r.val), h⟩ ⟨lo + s.val, h'⟩)
      (hp : Tiled G lo ps (n + 256)) : Tiled G lo (⟨S256x256, a⟩ :: ps) n

/-- Reading a column of tiles at a place reads the function at that place. -/
theorem Tiled.read {G : Fin 2048 → Fin 2048 → EReal} {lo W : ℕ} (s : Fin 256) (p : Fin W) (h' : lo + s.val < 2048)
    {xs : List ((s : Shape) × (s.Idx → EReal))} {n : ℕ} (T : Tiled G lo xs n)
    (hs : ∀ s ∈ xs.map (·.1), s.FitsOff (⟨2, ![W, 256]⟩ : Shape) 0) (c : ℕ) (hc : c < (axisSizes (⟨2, ![W, 256]⟩ : Shape) 0 xs).sum)
    (h : lo + (n + c) < 2048) :
    concatenateAt (⟨2, ![W, 256]⟩ : Shape) 0 (ix2 p s) xs hs c hc = G ⟨lo + (n + c), h⟩ ⟨lo + s.val, h'⟩ := by
  induction T generalizing c with
  | nil n => exact absurd hc (Nat.not_lt_zero _)
  | cons a ps n ha hp ih =>
    have here : ∀ (hlt : c < 256) (f : ∀ b : Fin 2, _), a (Shape.Idx.norm fun b => ⟨if b.val = 0 then c else (ix2 p s (b.cast rfl)).val, f b⟩)
        = G ⟨lo + (n + c), h⟩ ⟨lo + s.val, h'⟩ := by
      intro hlt f
      rw [← ha ⟨c, hlt⟩ s h h', Shape.Idx.norm_def]
      congr 1
      funext b
      fin_cases b <;> rfl
    cases ps with
    | nil =>
      rw [concatenateAt_singleton]
      exact here (by simpa [axisSizes] using hc) _
    | cons q ps =>
      rw [concatenateAt_cons]
      split
      · exact here (by assumption) _
      · rename_i hlt
        have hlt' : ¬ c < 256 := hlt
        refine (ih _ (c - 256) _ (by omega)).trans ?_
        congr 2
        omega

/-- Reading stacked tiles at a place reads the function at that place. -/
theorem stack_read {G : Fin 2048 → Fin 2048 → EReal} {lo W : ℕ} {xs : List ((s : Shape) × (s.Idx → EReal))}
    {h : Shape.Concatenates (xs.map (·.1)) (⟨2, ![W, 256]⟩ : Shape) 0} (T : Tiled G lo xs 0) (p : Fin W) (s : Fin 256)
    (hp : lo + p.val < 2048) (hs : lo + s.val < 2048) :
    stack (⟨2, ![W, 256]⟩ : Shape) 0 xs h (ix2 p s) = G ⟨lo + p.val, hp⟩ ⟨lo + s.val, hs⟩ := by
  unfold stack
  rw [concatenate_apply, T.read s p hs _ _ _ (by simpa using hp)]
  simp

set_option maxHeartbeats 2000000 in
/-- A key head's gradient block. -/
theorem dk_point (y : S2048x128.Idx) :
    out0_7 (F := Ideal) x0 x1 x2 x3 x4 x5 y = ∑ r, grad x0 x1 x2 x3 x4 x5 r (y 0) * x0 (ix2 r (y 1)) := by
  unfold out0_7
  canon_tiles z h
  all_goals
    idx_vars z
    idx_vars y
    simp only [k0_pay99, k0_pay101, k0_pay104, k0_pay106, k0_pay109, k0_pay111, k0_pay113, k0_pay1, stack_eq]
    pointwise [View.ld_apply]
  case' piece7 => refine sum_from _ (grad_after x0 x1 x2 x3 x4 x5) x0 0 2048 (by decide) _ _ _ (Fin.ext h1) _ (h0.trans (Nat.zero_add _).symm) _ fun p => ?_
  case' piece0 | piece1 | piece2 | piece3 | piece4 | piece5 | piece6 =>
    refine sum_from _ (grad_after x0 x1 x2 x3 x4 x5) x0 _ _ (by decide) _ _ _ (Fin.ext h1) _ h0 _ fun p => ?_
  all_goals
    have hp := p.isLt
    refine congrArg₂ (· * ·) ?_ (congrArg x0 (by congr 1 <;> exact Fin.ext (by dsimp only <;> omega)))
  case' piece1 | piece2 | piece3 | piece4 | piece5 | piece6 | piece7 =>
    refine stack_read ?_ p z0 _ _
    repeat' refine Tiled.cons _ _ _ (fun r s h h' => ?_) ?_
    all_goals try exact Tiled.nil _
  all_goals
    pointwise []
    simp only [grad_diag, grad_rest]
    try congr 1 <;> exact Fin.ext (by dsimp only <;> omega)

set_option maxHeartbeats 2000000 in
/-- A value head's gradient block. -/
theorem dv_point (y : S2048x128.Idx) :
    out0_8 (F := Ideal) x0 x1 x2 x3 x4 x5 y = ∑ r, prob x0 x1 x5 r (y 0) * x4 (ix2 r (y 1)) := by
  unfold out0_8
  canon_tiles z h
  all_goals
    idx_vars z
    idx_vars y
    simp only [k0_pay98, k0_pay100, k0_pay102, k0_pay103, k0_pay105, k0_pay107, k0_pay108, k0_pay110, k0_pay112, k0_pay114, k0_pay2, stack_eq]
    pointwise [View.ld_apply]
  case' piece7 => refine sum_from _ (prob_after x0 x1 x5) x4 0 2048 (by decide) _ _ _ (Fin.ext h1) _ (h0.trans (Nat.zero_add _).symm) _ fun p => ?_
  case' piece0 | piece1 | piece2 | piece3 | piece4 | piece5 | piece6 =>
    refine sum_from _ (prob_after x0 x1 x5) x4 _ _ (by decide) _ _ _ (Fin.ext h1) _ h0 _ fun p => ?_
  all_goals
    have hp := p.isLt
    refine congrArg₂ (· * ·) ?_ (congrArg x4 (by congr 1 <;> exact Fin.ext (by dsimp only <;> omega)))
  case' piece1 | piece2 | piece3 | piece4 | piece5 | piece6 | piece7 =>
    refine stack_read ?_ p z0 _ _
    repeat' refine Tiled.cons _ _ _ (fun r s h h' => ?_) ?_
    all_goals try exact Tiled.nil _
  all_goals
    pointwise []
    simp only [prob_diag, prob_rest]
    try congr 1 <;> exact Fin.ext (by dsimp only <;> omega)

/-- A sum over the keys of a query's own tile and of the tiles before it is the sum over all keys. -/
theorem sum_to (G : Fin 2048 → Fin 2048 → EReal) (hG : ∀ r s, r < s → G r s = 0) (b : Blk) (lo : ℕ) (hW : lo + 256 ≤ 2048)
    (Y : Fin 2048) (e : Fin 128) (d : Fin 128) (he : e = d) (r : Fin 256) (hY : Y.val = lo + r.val)
    (T : Fin 256 → EReal) (U : Fin lo → EReal)
    (hT : ∀ p : Fin 256, T p = G ⟨lo + r.val, by omega⟩ ⟨lo + p.val, by omega⟩ * b (ix2 ⟨lo + p.val, by omega⟩ d))
    (hU : ∀ p : Fin lo, U p = G ⟨lo + r.val, by omega⟩ ⟨p.val, by omega⟩ * b (ix2 ⟨p.val, by omega⟩ d)) :
    ∑ p, T p + ∑ p, U p = ∑ s, G Y s * b (ix2 s e) := by
  subst he
  rw [FinSumWindow.sum_window 0 (W := lo + 256) (by omega) (fun s => G Y s * b (ix2 s e)) fun P hP => by
    rw [hG Y P (Fin.lt_def.2 (by omega)), zero_mul], Fin.sum_univ_add, add_comm]
  refine congrArg₂ (· + ·) (Finset.sum_congr rfl fun p _ => ?_) (Finset.sum_congr rfl fun p _ => ?_)
  · rw [hU p]
    simp only [Fin.val_castAdd, Nat.zero_add]
    exact congrArg (fun w => G w _ * b _) (Fin.ext hY.symm)
  · rw [hT p]
    simp only [Fin.val_natAdd, Nat.zero_add]
    exact congrArg (fun w => G w _ * b _) (Fin.ext hY.symm)

/-- A sum over the keys of the first tile is the sum over all keys for a query of that tile. -/
theorem sum_first (G : Fin 2048 → Fin 2048 → EReal) (hG : ∀ r s, r < s → G r s = 0) (b : Blk)
    (Y : Fin 2048) (e : Fin 128) (d : Fin 128) (he : e = d) (r : Fin 256) (hY : Y.val = r.val)
    (T : Fin 256 → EReal) (hT : ∀ p : Fin 256, T p = G ⟨r.val, by omega⟩ ⟨p.val, by omega⟩ * b (ix2 ⟨p.val, by omega⟩ d)) :
    ∑ p, T p = ∑ s, G Y s * b (ix2 s e) := by
  have h := sum_to G hG b 0 (by decide) Y e d he r (hY.trans (Nat.zero_add _).symm) T (fun p => p.elim0)
    (fun p => by rw [hT p]; congr 1 <;> congr 1 <;> first | exact Fin.ext (by simp) | (congr 1 <;> exact Fin.ext (by simp))) fun p => p.elim0
  rw [← h]
  simp

set_option maxHeartbeats 2000000 in
/-- A query head's gradient block. -/
theorem dq_point (y : S2048x128.Idx) : out0_6 (F := Ideal) x0 x1 x2 x3 x4 x5 y = ∑ s, grad x0 x1 x2 x3 x4 x5 (y 0) s * x1 (ix2 s (y 1)) := by
  unfold out0_6
  canon_tiles z h
  all_goals
    idx_vars z
    idx_vars y
    pointwise [k0_pay89, k0_pay90, k0_pay91, k0_pay92, k0_pay93, k0_pay94, k0_pay95, k0_pay96, k0_pay97, View.ld_apply]
  case' piece7 => refine sum_first _ (grad_after x0 x1 x2 x3 x4 x5) x1 _ _ _ (Fin.ext h1) _ h0 _ fun p => ?_
  case' piece0 | piece1 | piece2 | piece3 | piece4 | piece5 | piece6 =>
    refine sum_to _ (grad_after x0 x1 x2 x3 x4 x5) x1 _ (by decide) _ _ _ (Fin.ext h1) _ h0 _ _ (fun p => ?_) (fun p => ?_)
  all_goals
    have hp := p.isLt
    simp only [grad_diag, grad_rest]
    try congr 1 <;> congr 1 <;> first | rfl | exact Fin.ext (by dsimp only <;> omega) | (congr 1 <;> exact Fin.ext (by dsimp only <;> omega))

end Cert.Mla
-- ==== Proof.MlaReal.lean ====
/- Causal attention of one head over the reals, and its gradient. -/
module

public import Idealize.ShloMosaic.Lib.Pipeline.ValueKit

@[expose] public section

noncomputable section

namespace Cert.Mla

variable (q k : Fin 2048 → Fin 96 → ℝ) (v g : Fin 2048 → Fin 64 → ℝ)

/-- The scaled score of a query row and a key row. -/
def scoreR (r s : Fin 2048) : ℝ := (∑ d, q r d * k s d) / Real.sqrt 96

/-- The scores a row sees: those of later rows are −∞. -/
def maskedR (r s : Fin 2048) : EReal := if s ≤ r then ((scoreR q k r s : ℝ) : EReal) else ⊥

/-- The largest score of a row. -/
def maxE (r : Fin 2048) : EReal := Finset.univ.fold max ⊥ (maskedR q k r)

/-- A row's largest score. -/
def maxR (r : Fin 2048) : ℝ := (maxE q k r).toReal

/-- A row's largest score is a real number: the first key is never masked. -/
theorem maxE_eq (r : Fin 2048) : maxE q k r = (maxR q k r : EReal) := by
  refine (EReal.coe_toReal ?_ ?_).symm
  · refine ne_of_lt ?_
    rw [maxE, Finset.fold_max_lt]
    refine ⟨bot_lt_top, fun s _ => ?_⟩
    unfold maskedR
    split_ifs
    · exact EReal.coe_lt_top _
    · exact bot_lt_top
  · refine ne_of_gt ?_
    rw [maxE, Finset.lt_fold_max]
    refine Or.inr ⟨r, Finset.mem_univ _, ?_⟩
    simp [maskedR]

/-- The weight of a key row before the sum over the row divides it. -/
def expR (r s : Fin 2048) : ℝ := if s ≤ r then Real.exp (scoreR q k r s - maxR q k r) else 0

/-- A row's sum of exponentials. -/
def sumR (r : Fin 2048) : ℝ := ∑ s, expR q k r s

/-- A row's sum of exponentials is positive. -/
theorem sumR_pos (r : Fin 2048) : 0 < sumR q k r := by
  refine Finset.sum_pos' (fun s _ => ?_) ⟨r, Finset.mem_univ _, ?_⟩
  · unfold expR; split_ifs
    · exact (Real.exp_pos _).le
    · exact le_rfl
  · simp [expR, Real.exp_pos]

/-- The attention's weights. -/
def probR (r s : Fin 2048) : ℝ := expR q k r s / sumR q k r

/-- The gradient of the weights. -/
def dprobR (r s : Fin 2048) : ℝ := ∑ d, g r d * v s d

/-- A row's weighted sum of the weights' gradient. -/
def deltaR (r : Fin 2048) : ℝ := ∑ s, probR q k r s * dprobR v g r s

/-- The gradient of the dot products. -/
def gradR (r s : Fin 2048) : ℝ := probR q k r s * (dprobR v g r s - deltaR q k v g r) / Real.sqrt 96

/-- The attention's output. -/
def outR (r : Fin 2048) (d : Fin 64) : ℝ := ∑ s, probR q k r s * v s d

/-- A row of the output's gradient against the same row of the output. -/
theorem delta_eq (r : Fin 2048) : ∑ d, g r d * outR q k v r d = deltaR q k v g r := by
  simp only [outR, deltaR, dprobR, Finset.mul_sum]
  rw [Finset.sum_comm]
  refine Finset.sum_congr rfl fun s _ => Finset.sum_congr rfl fun d _ => ?_
  ring

/-- The row's logarithm of the sum, in base 2. -/
def lseR (r : Fin 2048) : ℝ := (maxR q k r + Real.log (sumR q k r)) / Real.log 2

/-- Two to a score less the row's logarithm is the weight. -/
theorem two_rpow (r s : Fin 2048) (h : s ≤ r) :
    (2 : ℝ) ^ ((∑ d, q r d * k s d) * (Real.sqrt 96 * Real.log 2)⁻¹ - lseR q k r) = probR q k r s := by
  have h2 : Real.log 2 ≠ 0 := (Real.log_pos one_lt_two).ne'
  have e : (∑ d, q r d * k s d) * (Real.sqrt 96 * Real.log 2)⁻¹ - lseR q k r
      = (scoreR q k r s - maxR q k r - Real.log (sumR q k r)) / Real.log 2 := by
    rw [lseR, scoreR, mul_inv]; field_simp; ring
  rw [e, Real.rpow_def_of_pos two_pos, mul_div_cancel₀ _ h2, Real.exp_sub, Real.exp_log (sumR_pos q k r), probR, expR, if_pos h]

/-- The reference's spelling of the gradient of the dot products. -/
theorem grad_eq (r s : Fin 2048) :
    (dprobR v g r s / sumR q k r + -(∑ s, dprobR v g r s * (1 / (sumR q k r * sumR q k r)) * expR q k r s)) * expR q k r s / Real.sqrt 96
      = gradR q k v g r s := by
  have h := (sumR_pos q k r).ne'
  have e : ∑ s, dprobR v g r s * (1 / (sumR q k r * sumR q k r)) * expR q k r s = deltaR q k v g r / sumR q k r := by
    rw [deltaR, Finset.sum_div]
    refine Finset.sum_congr rfl fun s _ => ?_
    rw [probR]; field_simp
  rw [e, gradR, probR]
  congr 1
  field_simp
  ring

/-- A sum of reals, each read as an extended real. -/
theorem coe_sum {n : ℕ} (f : Fin n → ℝ) : ∑ i, ((f i : ℝ) : EReal) = ((∑ i, f i : ℝ) : EReal) :=
  (map_sum ({ toFun := fun x : ℝ => (x : EReal), map_zero' := rfl, map_add' := EReal.coe_add } : ℝ →+ EReal) f Finset.univ).symm

/-- A head's columns, followed by zeros up to the 128 columns its tile has. -/
def padR {n : ℕ} (f : Fin 2048 → Fin n → ℝ) (r : Fin 2048) (d : Fin 128) : ℝ := if h : d.val < n then f r ⟨d.val, h⟩ else 0

/-- The gradient of the queries, of the keys and of the values, in a tile's columns. -/
def dqR (r : Fin 2048) (d : Fin 128) : ℝ := ∑ s, gradR q k v g r s * padR k s d
def dkR (s : Fin 2048) (d : Fin 128) : ℝ := ∑ r, gradR q k v g r s * padR q r d
def dvR (s : Fin 2048) (d : Fin 128) : ℝ := ∑ r, padR g r d * probR q k r s

/-- A quotient of reals, each read as an extended real. -/
theorem div_real (x y : ℝ) (h : y ≠ 0) : Idealize.ShloMosaic.Ideal.div (x : EReal) (y : EReal) = ((x / y : ℝ) : EReal) := by
  rw [Idealize.ShloMosaic.Ideal.div_coe h, ← EReal.coe_mul, mul_one_div]

/-- The sum over a tile's columns is over the head's own. -/
theorem pad_sum {n : ℕ} (hn : n ≤ 128) (f g : Fin 2048 → Fin n → ℝ) (r s : Fin 2048) :
    ∑ d, padR f r d * padR g s d = ∑ d, f r d * g s d := by
  refine (Finset.sum_of_injOn (Fin.castLE hn) (Fin.castLE_injective hn).injOn (by simp) (fun d _ hd => ?_) fun d _ => ?_).symm
  · have h : ¬d.val < n := fun h => hd ⟨⟨d.val, h⟩, by simp, rfl⟩
    simp [padR, h]
  · simp [padR]

end Cert.Mla
-- ==== Proof.MlaRef.lean ====
/- The reference of the latent attention, read index by index. -/
module

public import proofs.«01_k».proof.Proof.Gen.RMlaIdeal.Read
public import proofs.«01_k».proof.Proof.MlaReal
public import Idealize.ShloMosaic.Lib.Pipeline.ValueKit

@[expose] public section

set_option maxRecDepth 16384

noncomputable section

namespace Cert.Mla

open Cert.RMlaIdeal Cert.RMlaIdeal.Read Idealize.ShloMosaic Idealize.ShloMosaic.TcCoe Idealize.SL.Sem

variable (x0 x1 : FVec Ideal S2x2048x8x96 .f32) (x2 : FVec Ideal S2x2048x8x64 .f32) (x3 : FVec Ideal S2x2048x512 .f32)
  (q k : Fin 2 → Fin 8 → Fin 2048 → Fin 96 → ℝ) (v g : Fin 2 → Fin 8 → Fin 2048 → Fin 64 → ℝ)
  (hq : ∀ b r h d, x0 (ix4 b r h d) = (q b h r d : EReal)) (hk : ∀ b r h d, x1 (ix4 b r h d) = (k b h r d : EReal))
  (hv : ∀ b r h d, x2 (ix4 b r h d) = (v b h r d : EReal))
  (hg : ∀ (b : Fin 2) (r : Fin 2048) (h : Fin 8) (d : Fin 64) (hd : h.val * 64 + d.val < 512), x3 (ix3 b r ⟨h.val * 64 + d.val, hd⟩) = (g b h r d : EReal))
  (b : Fin 2) (h : Fin 8) (r s : Fin 2048)

/-- Choosing by a comparison of two rows. -/
theorem sel_row (a e : EReal) :
    Scalar.select (IntOp.cmpi CmpIPredicate.sge (BitVec.ofNat 32 r.val) (BitVec.ofNat 32 s.val)) a e = if s ≤ r then a else e := by
  have hi : ∀ n : Fin 2048, (BitVec.ofNat 32 n.val).toInt = n.val := by
    intro n
    rw [BitVec.toInt_eq_toNat_of_lt (by simp only [BitVec.toNat_ofNat]; omega)]
    simp only [BitVec.toNat_ofNat]
    omega
  by_cases h : s ≤ r <;> simp [Scalar.select, IntOp.cmpi, h, BitVec.sle, hi]

/-- The word of 96. -/
theorem ninetySix : Ideal.ofBits .f32 1119879168#32 = ((96 : ℝ) : EReal) := by
  simp [Ideal.ofBits, Ideal.ieee, -EReal.coe_mul]; norm_num

/-- The word of minus infinity. -/
theorem negInf : Ideal.ofBits .f32 4286578688#32 = (⊥ : EReal) := by
  simp [Ideal.ofBits, Ideal.ieee]

/-- The square root of 96 is the real one. -/
theorem root : Ideal.sqrt ((96 : ℝ) : EReal) = ((Real.sqrt 96 : ℝ) : EReal) := by
  rw [Ideal.sqrt_coe, if_neg (by norm_num)]

/-- The square root of 96 is not zero. -/
theorem root_ne : Real.sqrt 96 ≠ 0 := by positivity

include hq hk in
/-- The masked scores. -/
theorem v10 : val_main_v10_0 (F := Ideal) x0 x1 (ix4 b h r s) = maskedR (q b h) (k b h) r s := by
  pointwise [val_main_v10_0, val_main_v10_1, val_main_v9, val_main_v8, val_main_v7, val_main_v6, val_main_v5, val_main_v4, val_main_v3, val_main_v2, val_main_v1, val_main_cst, val_main_v0, val_main_call0_v2, val_main_call0_v0, val_main_cst_0]
  refine (sel_row r s _ _).trans ?_
  rw [maskedR]
  refine if_congr Iff.rfl ?_ negInf
  simp only [hq, hk, ← EReal.coe_mul, coe_sum]
  rw [ninetySix, root, div_real _ _ root_ne, scoreR]

include hq hk in
/-- The largest score of a row. -/
theorem v11 : val_main_v11 (F := Ideal) x0 x1 (ix3 b h r) = (maxR (q b h) (k b h) r : EReal) := by
  pointwise [val_main_v11]
  simp only [v10 x0 x1 q k hq hk]
  rw [← maxE_eq, maxE]
  exact congrArg (fun z => Finset.fold max z _ _) negInf

/-- The exponential of a masked score less the row's largest. -/
theorem exp_sub (q k : Fin 2048 → Fin 96 → ℝ) : Ideal.exp (maskedR q k r s - (maxR q k r : EReal)) = (expR q k r s : EReal) := by
  rw [maskedR, expR]
  split_ifs
  · rw [← EReal.coe_sub, Ideal.exp_coe]
  · rw [EReal.bot_sub, Ideal.exp_bot, EReal.coe_zero]

include hq hk in
/-- The weights before the row's sum divides them. -/
theorem v31 : val_main_v31 (F := Ideal) x0 x1 (ix4 b h r s) = (expR (q b h) (k b h) r s : EReal) := by
  have e0 := v10 x0 x1 q k hq hk b h r s
  have e1 := v11 x0 x1 q k hq hk b h r
  have ix : idx_main_v28 (idx_main_v29 (ix4 b h r s)) = ix3 b h r := by
    funext a; match a with | 0 => rfl | 1 => rfl | 2 => rfl
  rw [val_main_v31_apply, val_main_v30_apply, val_main_v29_apply, val_main_v28_apply, val_main_v18_apply, val_main_v17_apply, val_main_cst_3_apply, e0, ix, e1]
  show Ideal.exp (maskedR (q b h) (k b h) r s - max (Ideal.ofBits .f32 4286578688#32) (maxR (q b h) (k b h) r : EReal)) = _
  rw [negInf, max_eq_right bot_le, exp_sub]

include hq hk in
/-- The sum of a row. -/
theorem v32 : val_main_v32 (F := Ideal) x0 x1 (ix3 b h r) = (sumR (q b h) (k b h) r : EReal) := by
  pointwise [val_main_v32, val_main_cst_9]
  simp only [v31 x0 x1 q k hq hk, coe_sum]
  rfl

include hq hk in
/-- The attention's weights. -/
theorem v35 : val_main_v35 (F := Ideal) x0 x1 (ix4 b h r s) = (probR (q b h) (k b h) r s : EReal) := by
  pointwise [val_main_v35, val_main_v34, val_main_v33]
  rw [v31 x0 x1 q k hq hk, v32 x0 x1 q k hq hk, div_real _ _ (sumR_pos _ _ _).ne', probR]

include hv hg in
/-- The gradient of the weights. -/
theorem v44 : val_main_v44 (F := Ideal) x2 x3 (ix4 b h r s) = (dprobR (v b h) (g b h) r s : EReal) := by
  pointwise [val_main_v44, val_main_v43, val_main_v42]
  simp only [hv, hg, ← EReal.coe_mul, coe_sum]
  rfl

include hq hk hv hg in
/-- The gradient of the dot products. -/
theorem v61 : val_main_v61 (F := Ideal) x0 x1 x2 x3 (ix4 b h r s) = (gradR (q b h) (k b h) (v b h) (g b h) r s : EReal) := by
  pointwise [val_main_v61, val_main_v60, val_main_v59, val_main_v58, val_main_v57, val_main_v56, val_main_v55, val_main_v54, val_main_v53, val_main_v52, val_main_v51, val_main_v50, val_main_v49, val_main_v48, val_main_v47, val_main_v38, val_main_v37, val_main_v36, val_main_v33, val_main_call1_v0, val_main_call1_cst, val_main_cst_10, val_main_cst_11, val_main_cst_12,
    val_main_v10_1, val_main_v9, val_main_v8, val_main_v7, val_main_v6, val_main_v5, val_main_v4, val_main_v1, val_main_cst]
  have hL := (sumR_pos (q b h) (k b h) r).ne'
  rw [ninetySix, root, sel_row]
  simp only [v44 x2 x3 v g hv hg, v32 x0 x1 q k hq hk, v31 x0 x1 q k hq hk]
  rw [← grad_eq]
  split_ifs with hs
  · rw [← EReal.coe_one]
    simp only [← EReal.coe_mul, div_real _ _ hL, div_real _ _ (mul_ne_zero hL hL), coe_sum, ← EReal.coe_neg, ← EReal.coe_add, div_real _ _ root_ne]
    simp
  · rw [← EReal.coe_zero, div_real _ _ root_ne]
    simp [expR, hs]

/-- The padding is zero. -/
theorem pad_word : (FloatOps.sitofp FTy.f32 0#32 : Ideal .f32) = (0 : EReal) := by
  show (((0#32 : BitVec 32).toInt : ℝ) : EReal) = 0
  simp

include hq hk hv hg in
/-- The gradient of the queries. -/
theorem ref_dq (R : Fin 4096) (C : Fin 1024) : val_main_v67 (F := Ideal) x0 x1 x2 x3 (ix2 R C)
    = (dqR (q ⟨R.val / 2048, by omega⟩ ⟨C.val / 128, by omega⟩) (k ⟨R.val / 2048, by omega⟩ ⟨C.val / 128, by omega⟩) (v ⟨R.val / 2048, by omega⟩ ⟨C.val / 128, by omega⟩) (g ⟨R.val / 2048, by omega⟩ ⟨C.val / 128, by omega⟩) ⟨R.val % 2048, by omega⟩ ⟨C.val % 128, by omega⟩ : EReal) := by
  pointwise [val_main_v67, val_main_v66, val_main_v65, val_main_v64, val_main_call2_v0, val_main_c]
  simp only [v61 x0 x1 x2 x3 q k v g hq hk hv hg, hk, pad_word, ← EReal.coe_mul, coe_sum]
  unfold dqR padR
  by_cases hC : C.val % 128 < 96
  · rw [dif_pos ⟨by omega, by omega, by omega, hC⟩]
    simp only [hC, dif_pos]
  · rw [dif_neg (fun h => hC h.2.2.2)]
    simp only [hC, dif_neg, not_false_eq_true, mul_zero, Finset.sum_const_zero, EReal.coe_zero]

include hq hk hv hg in
/-- The gradient of the keys. -/
theorem ref_dk (R : Fin 4096) (C : Fin 1024) : val_main_v69 (F := Ideal) x0 x1 x2 x3 (ix2 R C)
    = (dkR (q ⟨R.val / 2048, by omega⟩ ⟨C.val / 128, by omega⟩) (k ⟨R.val / 2048, by omega⟩ ⟨C.val / 128, by omega⟩) (v ⟨R.val / 2048, by omega⟩ ⟨C.val / 128, by omega⟩) (g ⟨R.val / 2048, by omega⟩ ⟨C.val / 128, by omega⟩) ⟨R.val % 2048, by omega⟩ ⟨C.val % 128, by omega⟩ : EReal) := by
  pointwise [val_main_v69, val_main_v68, val_main_v63, val_main_v62, val_main_call3_v0, val_main_c_13]
  simp only [v61 x0 x1 x2 x3 q k v g hq hk hv hg, hq, pad_word, ← EReal.coe_mul, coe_sum]
  unfold dkR padR
  by_cases hC : C.val % 128 < 96
  · rw [dif_pos ⟨by omega, by omega, by omega, hC⟩]
    simp only [hC, dif_pos]
  · rw [dif_neg (fun h => hC h.2.2.2)]
    simp only [hC, dif_neg, not_false_eq_true, mul_zero, Finset.sum_const_zero, EReal.coe_zero]

include hq hk hg in
/-- The gradient of the values. -/
theorem ref_dv (R : Fin 4096) (C : Fin 1024) : val_main_v71 (F := Ideal) x0 x1 x3 (ix2 R C)
    = (dvR (q ⟨R.val / 2048, by omega⟩ ⟨C.val / 128, by omega⟩) (k ⟨R.val / 2048, by omega⟩ ⟨C.val / 128, by omega⟩) (g ⟨R.val / 2048, by omega⟩ ⟨C.val / 128, by omega⟩) ⟨R.val % 2048, by omega⟩ ⟨C.val % 128, by omega⟩ : EReal) := by
  pointwise [val_main_v71, val_main_v70, val_main_v46, val_main_v45, val_main_v43, val_main_v42, val_main_call4_v0, val_main_c_14]
  simp only [v35 x0 x1 q k hq hk, pad_word]
  unfold dvR padR
  by_cases hC : C.val % 128 < 64
  · rw [dif_pos ⟨by omega, by omega, by omega, hC⟩]
    have hx := fun s => hg ⟨R.val / 2048, by omega⟩ s ⟨C.val / 128, by omega⟩ ⟨C.val % 128, hC⟩ (by simp only; omega)
    simp only [hx, ← EReal.coe_mul, coe_sum, hC, dif_pos]
  · rw [dif_neg (fun h => hC h.2.2.2)]
    simp only [hC, dif_neg, not_false_eq_true, zero_mul, Finset.sum_const_zero, EReal.coe_zero]

end Cert.Mla
-- ==== Proof.MlaRead.lean ====
/- What the host hands the latent attention's backward kernel, as terms of the program's arguments. -/
module

public import proofs.«01_k».proof.Proof.MlaT0
public import proofs.«01_k».proof.Proof.MlaRef
public import Idealize.ShloMosaic.Lib.Pipeline.ValueKit

@[expose] public section

set_option maxRecDepth 16384

noncomputable section

namespace Cert.Mla

open Cert.KMlaIdeal Cert.KMlaIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The block every window shows at a step of the grid. -/
theorem idx : ∀ t : Fin cfg0.N, win0_0.index t = ![t.val / 8, t.val % 8] ∧ win0_1.index t = ![t.val / 8, t.val % 8] ∧ win0_2.index t = ![t.val / 8, t.val % 8]
    ∧ win0_3.index t = ![t.val / 8, t.val % 8] ∧ win0_4.index t = ![t.val / 8, t.val % 8] ∧ win0_5.index t = ![t.val, 0, 0]
    ∧ win0_6.index t = ![t.val / 8, t.val % 8] ∧ win0_7.index t = ![t.val / 8, t.val % 8] ∧ win0_8.index t = ![t.val / 8, t.val % 8] :=
  (by decide +kernel : ∀ t : Fin grid0.N, _)

/-- The queries, as the program is given them. -/
abbrev Q : FVec Ideal S2x2048x8x96 .f32 := m ((c : Thread nD τ).loc main_arg0)
/-- The keys. -/
abbrev K : FVec Ideal S2x2048x8x96 .f32 := m ((c : Thread nD τ).loc main_arg1)
/-- The values. -/
abbrev W : FVec Ideal S2x2048x8x64 .f32 := m ((c : Thread nD τ).loc main_arg2)
/-- The output's gradient. -/
abbrev G : FVec Ideal S2x2048x512 .f32 := m ((c : Thread nD τ).loc main_arg3)

/-- The host's forward pass: the masked scores. -/
def scoreH (x0 x1 : FVec Ideal S2x2048x8x96 .f32) : FVec Ideal S2x8x2048x2048 .f32 :=
  select
    (broadcastInDim S2x8x2048x2048 ![2, 3] bcast_S2048x2048_S2x8x2048x2048_2_3
      (cmpi CmpIPredicate.sge
        (broadcastInDim S2048x2048 ![0, 1] bcast_S2048x1_S2048x2048_0_1
          (broadcastInDim S2048x1 ![0] bcast_S2048_S2048x1_0 (iotaInDim S2048 32 0)))
        (broadcastInDim S2048x2048 ![0, 1] bcast_S1x2048_S2048x2048_0_1
          (broadcastInDim S1x2048 ![1] bcast_S2048_S1x2048_1 (iotaInDim S2048 32 0)))))
    (Host.divf
      (Host.dotGeneral dot_S2x2048x8x96_S2x2048x8x96_S2x8x2048x2048_3_3_1_1_02_02 none x0 x1)
      (broadcastInDim S2x8x2048x2048 ![] bcast_S_S2x8x2048x2048
        (Host.sqrt (constant S_ FTy.f32 1119879168#32))))
    (broadcastInDim S2x8x2048x2048 ![] bcast_S_S2x8x2048x2048 (constant S_ FTy.f32 4286578688#32))

/-- A row's largest score. -/
def maxH (x0 x1 : FVec Ideal S2x2048x8x96 .f32) : FVec Ideal S2x8x2048x1 .f32 :=
  broadcastInDim S2x8x2048x1 ![0, 1, 2] bcast_S2x8x2048_S2x8x2048x1_0_1_2
    (Host.reduce FloatOps.maximumf (scoreH x0 x1) (constant S_ FTy.f32 4286578688#32) reducesTo_S2x8x2048x2048_S2x8x2048_d3 h_S_)

/-- The exponentials of the scores less the row's largest. -/
def expH (x0 x1 : FVec Ideal S2x2048x8x96 .f32) : FVec Ideal S2x8x2048x2048 .f32 :=
  Host.exp (subf (scoreH x0 x1) (broadcastInDim S2x8x2048x2048 ![0, 1, 2, 3] bcast_S2x8x2048x1_S2x8x2048x2048_0_1_2_3 (maxH x0 x1)))

/-- A row's sum of exponentials. -/
def sumH (x0 x1 : FVec Ideal S2x2048x8x96 .f32) : FVec Ideal S2x8x2048x1 .f32 :=
  broadcastInDim S2x8x2048x1 ![0, 1, 2] bcast_S2x8x2048_S2x8x2048x1_0_1_2
    (Host.reduceAdd (expH x0 x1) (constant S_ FTy.f32 0#32) reducesTo_S2x8x2048x2048_S2x8x2048_d3 h_S_)

/-- The logarithm, base 2, of a row's sum of exponentials. -/
def lseH (x0 x1 : FVec Ideal S2x2048x8x96 .f32) : FVec Ideal S16x2048x1 .f32 :=
  shapeCast S16x2048x1
    (Host.divf (addf (maxH x0 x1) (Host.log (sumH x0 x1)))
      (broadcastInDim S2x8x2048x1 ![] bcast_S_S2x8x2048x1 (Host.log (constant S_ FTy.f32 1073741824#32))))
    shapeCasts_S2x8x2048x1_S16x2048x1

/-- The attention's output, padded to 128 lanes a head. -/
def outH (x0 x1 : FVec Ideal S2x2048x8x96 .f32) (x2 : FVec Ideal S2x2048x8x64 .f32) : FVec Ideal S4096x1024 .bf16 :=
  truncf FTy.bf16
    (shapeCast S4096x1024
      (pad S2x2048x8x128 ![0, 0, 0, 0] ![0, 0, 0, 64] ![0, 0, 0, 0]
        (transpose S2x2048x8x64 [0, 3, 1, 2]
          (Host.dotGeneral dot_S2x2048x8x64_S2x8x2048x2048_S2x8x64x2048_1_3_3_2_02_01 none x2
            (Host.divf (expH x0 x1)
              (broadcastInDim S2x8x2048x2048 ![0, 1, 2, 3] bcast_S2x8x2048x1_S2x8x2048x2048_0_1_2_3 (sumH x0 x1))))
          transposes_S2x8x64x2048_S2x2048x8x64_0_3_1_2)
        (sitofp FTy.f32 (constantI S_ 32 0#32)) pads_S2x2048x8x64_S2x2048x8x128_000_000_000_0640 h_S_)
      shapeCasts_S2x2048x8x128_S4096x1024)
    bitsLt_bf16_f32

/-- Queries or keys, padded to 128 lanes a head. -/
def headH (x0 : FVec Ideal S2x2048x8x96 .f32) : FVec Ideal S4096x1024 .bf16 :=
  truncf FTy.bf16
    (shapeCast S4096x1024
      (pad S2x2048x8x128 ![0, 0, 0, 0] ![0, 0, 0, 32] ![0, 0, 0, 0] x0
        (sitofp FTy.f32 (constantI S_ 32 0#32)) pads_S2x2048x8x96_S2x2048x8x128_000_000_000_0320 h_S_)
      shapeCasts_S2x2048x8x128_S4096x1024)
    bitsLt_bf16_f32

/-- Values, padded to 128 lanes a head. -/
def valueH (x2 : FVec Ideal S2x2048x8x64 .f32) : FVec Ideal S4096x1024 .bf16 :=
  truncf FTy.bf16
    (shapeCast S4096x1024
      (pad S2x2048x8x128 ![0, 0, 0, 0] ![0, 0, 0, 64] ![0, 0, 0, 0] x2
        (sitofp FTy.f32 (constantI S_ 32 0#32)) pads_S2x2048x8x64_S2x2048x8x128_000_000_000_0640 h_S_)
      shapeCasts_S2x2048x8x128_S4096x1024)
    bitsLt_bf16_f32

/-- The kernel's operand for the queries. -/
theorem Vq : V m c main_v2 = headH (Q m c) := by
  simp only [V, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  entry_read
  simp -implicitDefEqProofs only [StableHlo.TRef.toBuf, StableHlo.TRef.ofBuf, cast_cast, cast_eq]
  rfl

/-- The kernel's operand for the keys. -/
theorem Vk : V m c main_v5 = headH (K m c) := by
  simp only [V, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  entry_read
  simp -implicitDefEqProofs only [StableHlo.TRef.toBuf, StableHlo.TRef.ofBuf, cast_cast, cast_eq]
  rfl

/-- The kernel's operand for the values. -/
theorem Vv : V m c main_v8 = valueH (W m c) := by
  simp only [V, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  entry_read
  simp -implicitDefEqProofs only [StableHlo.TRef.toBuf, StableHlo.TRef.ofBuf, cast_cast, cast_eq]
  rfl

/-- The kernel's operand for the output. -/
theorem Vo : V m c main_v43 = outH (Q m c) (K m c) (W m c) := by
  simp only [V, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  entry_read
  simp -implicitDefEqProofs only [StableHlo.TRef.toBuf, StableHlo.TRef.ofBuf, cast_cast, cast_eq]
  rfl

/-- The kernel's operand for the output's gradient. -/
theorem Vg : V m c main_v12 = valueH (shapeCast S2x2048x8x64 (G m c) shapeCasts_S2x2048x512_S2x2048x8x64) := by
  simp only [V, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  entry_read
  simp -implicitDefEqProofs only [StableHlo.TRef.toBuf, StableHlo.TRef.ofBuf, cast_cast, cast_eq]
  rfl

/-- The kernel's operand for the logarithms of the row sums. -/
theorem Vl : V m c main_v40 = lseH (Q m c) (K m c) := by
  simp only [V, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  entry_read
  simp -implicitDefEqProofs only [StableHlo.TRef.toBuf, StableHlo.TRef.ofBuf, cast_cast, cast_eq]
  rfl

end Cert.Mla
-- ==== Proof.MlaValue.lean ====
/- The latent attention's gradient kernel computes the gradients of attention. -/
module

public import proofs.«01_k».proof.Proof.MlaRead

@[expose] public section

set_option maxRecDepth 16384

noncomputable section

namespace Cert.Mla

open Cert.KMlaIdeal Cert.KMlaIdeal.Gen Idealize.ShloMosaic Idealize.ShloMosaic.TcCoe Idealize.SL.Sem
open Idealize.ShloMosaic.Pipeline (Dat)

section host

variable (x0 x1 : FVec Ideal S2x2048x8x96 .f32) (x2 : FVec Ideal S2x2048x8x64 .f32) (x3 : FVec Ideal S2x2048x512 .f32)
  (q k : Fin 2 → Fin 8 → Fin 2048 → Fin 96 → ℝ) (v g : Fin 2 → Fin 8 → Fin 2048 → Fin 64 → ℝ)
  (hq : ∀ b r h d, x0 (ix4 b r h d) = (q b h r d : EReal)) (hk : ∀ b r h d, x1 (ix4 b r h d) = (k b h r d : EReal))
  (hv : ∀ b r h d, x2 (ix4 b r h d) = (v b h r d : EReal))
  (b : Fin 2) (h : Fin 8) (r s : Fin 2048)

include hq hk in
theorem scoreH_read : scoreH x0 x1 (ix4 b h r s) = maskedR (q b h) (k b h) r s := by
  pointwise [scoreH]
  refine (sel_row r s _ _).trans ?_
  rw [maskedR]
  refine if_congr Iff.rfl ?_ negInf
  simp only [hq, hk, ← EReal.coe_mul, coe_sum]
  rw [ninetySix, root, div_real _ _ root_ne, scoreR]

include hq hk in
theorem maxH_read : maxH x0 x1 (ix4 b h r 0) = (maxR (q b h) (k b h) r : EReal) := by
  pointwise [maxH]
  simp only [scoreH_read x0 x1 q k hq hk]
  rw [← maxE_eq, maxE]
  exact congrArg (fun z => Finset.fold max z _ _) negInf

include hq hk in
theorem expH_read : expH x0 x1 (ix4 b h r s) = (expR (q b h) (k b h) r s : EReal) := by
  have e0 := scoreH_read x0 x1 q k hq hk b h r s
  have e1 := maxH_read x0 x1 q k hq hk b h r
  unfold expH
  revert e0 e1
  generalize scoreH x0 x1 = y
  generalize maxH x0 x1 = z
  intro e0 e1
  pointwise
  rw [e0, e1, exp_sub]

include hq hk in
theorem sumH_read : sumH x0 x1 (ix4 b h r 0) = (sumR (q b h) (k b h) r : EReal) := by
  pointwise [sumH]
  simp only [expH_read x0 x1 q k hq hk, coe_sum]
  rfl

/-- The word of 2. -/
theorem wordTwo : Ideal.ofBits .f32 1073741824#32 = ((2 : ℝ) : EReal) := by
  simp [Ideal.ofBits, Ideal.ieee, -EReal.coe_mul]; norm_num

/-- A head of the batch is its sequence and its head. -/
theorem row_split (y : FVec Ideal S2x8x2048x1 .f32) (B : Fin 16) (r : Fin 2048) :
    shapeCast S16x2048x1 y shapeCasts_S2x8x2048x1_S16x2048x1 (ix3 B r 0) = y (ix4 ⟨B.val / 8, by omega⟩ ⟨B.val % 8, by omega⟩ r 0) := by
  pointwise

/-- The sum of a row's largest score and the logarithm of its sum, entry by entry. -/
theorem add_log (y z : FVec Ideal S2x8x2048x1 .f32) (b : Fin 2) (h : Fin 8) (r : Fin 2048) :
    addf y (Host.log z) (ix4 b h r 0) = y (ix4 b h r 0) + Ideal.log (z (ix4 b h r 0)) := by
  pointwise

/-- The division by the logarithm of 2, entry by entry. -/
theorem div_log (y : FVec Ideal S2x8x2048x1 .f32) (b : Fin 2) (h : Fin 8) (r : Fin 2048) :
    (Host.divf y (broadcastInDim S2x8x2048x1 ![] bcast_S_S2x8x2048x1 (Host.log (constant S_ FTy.f32 1073741824#32)))) (ix4 b h r 0)
      = Ideal.div (y (ix4 b h r 0)) (Ideal.log (Ideal.ofBits .f32 1073741824#32)) := by
  pointwise

/-- The saved logarithm of a row, entry by entry. -/
theorem lseH_apply (B : Fin 16) : lseH x0 x1 (ix3 B r 0)
    = Ideal.div (maxH x0 x1 (ix4 ⟨B.val / 8, by omega⟩ ⟨B.val % 8, by omega⟩ r 0) + Ideal.log (sumH x0 x1 (ix4 ⟨B.val / 8, by omega⟩ ⟨B.val % 8, by omega⟩ r 0)))
      (Ideal.log (Ideal.ofBits .f32 1073741824#32)) := by
  unfold lseH
  rw [row_split, div_log, add_log]

include hq hk in
theorem lseH_read (B : Fin 16) : lseH x0 x1 (ix3 B r 0) = (lseR (q ⟨B.val / 8, by omega⟩ ⟨B.val % 8, by omega⟩) (k ⟨B.val / 8, by omega⟩ ⟨B.val % 8, by omega⟩) r : EReal) := by
  rw [lseH_apply]
  have h2 : Real.log 2 ≠ 0 := (Real.log_pos one_lt_two).ne'
  rw [maxH_read x0 x1 q k hq hk, sumH_read x0 x1 q k hq hk, wordTwo, Ideal.log_coe, Ideal.log_coe, if_neg (not_le.2 (sumR_pos _ _ _)), if_neg (by norm_num), ← EReal.coe_add,
    div_real _ _ h2, lseR]

include hq in
theorem headH_read (R : Fin 4096) (C : Fin 1024) : headH x0 (ix2 R C)
    = (padR (q ⟨R.val / 2048, by omega⟩ ⟨C.val / 128, by omega⟩) ⟨R.val % 2048, by omega⟩ ⟨C.val % 128, by omega⟩ : EReal) := by
  pointwise [headH]
  simp only [hq, pad_word]
  unfold padR
  by_cases hC : C.val % 128 < 96
  · rw [dif_pos ⟨by omega, by omega, by omega, hC⟩, dif_pos hC]
  · rw [dif_neg (fun h => hC h.2.2.2), dif_neg hC, EReal.coe_zero]

include hv in
theorem valueH_read (R : Fin 4096) (C : Fin 1024) : valueH x2 (ix2 R C)
    = (padR (v ⟨R.val / 2048, by omega⟩ ⟨C.val / 128, by omega⟩) ⟨R.val % 2048, by omega⟩ ⟨C.val % 128, by omega⟩ : EReal) := by
  pointwise [valueH]
  simp only [hv, pad_word]
  unfold padR
  by_cases hC : C.val % 128 < 64
  · rw [dif_pos ⟨by omega, by omega, by omega, hC⟩, dif_pos hC]
  · rw [dif_neg (fun h => hC h.2.2.2), dif_neg hC, EReal.coe_zero]

include hq hk in
theorem quot_read : Host.divf (expH x0 x1)
    (broadcastInDim S2x8x2048x2048 ![0, 1, 2, 3] bcast_S2x8x2048x1_S2x8x2048x2048_0_1_2_3 (sumH x0 x1)) (ix4 b h r s) = (probR (q b h) (k b h) r s : EReal) := by
  pointwise
  rw [expH_read x0 x1 q k hq hk, sumH_read x0 x1 q k hq hk, div_real _ _ (sumR_pos _ _ _).ne', probR]

include hq hk hv in
theorem outH_read (R : Fin 4096) (C : Fin 1024) : outH x0 x1 x2 (ix2 R C)
    = (padR (outR (q ⟨R.val / 2048, by omega⟩ ⟨C.val / 128, by omega⟩) (k ⟨R.val / 2048, by omega⟩ ⟨C.val / 128, by omega⟩) (v ⟨R.val / 2048, by omega⟩ ⟨C.val / 128, by omega⟩)) ⟨R.val % 2048, by omega⟩ ⟨C.val % 128, by omega⟩ : EReal) := by
  have e := quot_read x0 x1 q k hq hk
  unfold outH
  revert e
  generalize Host.divf (expH x0 x1) (broadcastInDim S2x8x2048x2048 ![0, 1, 2, 3] bcast_S2x8x2048x1_S2x8x2048x2048_0_1_2_3 (sumH x0 x1)) = y
  intro e
  pointwise
  simp only [hv, e, ← EReal.coe_mul, coe_sum, pad_word]
  unfold padR outR
  by_cases hC : C.val % 128 < 64
  · simp only [hC, and_true, dif_pos]
    rw [dif_pos ⟨by omega, by omega, by omega⟩]
    refine congrArg _ (Finset.sum_congr rfl fun s _ => ?_)
    rw [mul_comm]
  · rw [dif_neg (fun h => hC h.2.2.2), dif_neg hC, EReal.coe_zero]

end host

section tile

variable (x0 x1 x2 x3 x4 : Blk) (x5 : FVec Ideal S1x2048x1 .f32)
  (q k : Fin 2048 → Fin 96 → ℝ) (v g : Fin 2048 → Fin 64 → ℝ)

/-- A point's blocks hold one head: its queries, keys, values, output, the output's gradient, the row's logarithms. -/
structure Head : Prop where
  q_ : ∀ r d, x0 (ix2 r d) = (padR q r d : EReal)
  k_ : ∀ r d, x1 (ix2 r d) = (padR k r d : EReal)
  v_ : ∀ r d, x2 (ix2 r d) = (padR v r d : EReal)
  o_ : ∀ r d, x3 (ix2 r d) = (padR (outR q k v) r d : EReal)
  g_ : ∀ r d, x4 (ix2 r d) = (padR g r d : EReal)
  l_ : ∀ r, x5 (ix3 0 r 0) = (lseR q k r : EReal)

variable {x0 x1 x2 x3 x4 x5 q k v g} (H : Head x0 x1 x2 x3 x4 x5 q k v g) (r s : Fin 2048)

/-- A product of padded rows is the product of the rows. -/
theorem dots_pad {n : ℕ} (hn : n ≤ 128) {a e : Blk} {f h : Fin 2048 → Fin n → ℝ} (ha : ∀ r d, a (ix2 r d) = (padR f r d : EReal))
    (he : ∀ r d, e (ix2 r d) = (padR h r d : EReal)) : dots a e r s = ((∑ d, f r d * h s d : ℝ) : EReal) := by
  rw [dots, ← pad_sum hn, ← coe_sum]
  refine Finset.sum_congr rfl fun d _ => ?_
  rw [ha, he, EReal.coe_mul]

include H in
theorem prob_real : prob x0 x1 x5 r s = (probR q k r s : EReal) := by
  have hc : (0 : ℝ) < (Real.sqrt 96 * Real.log 2)⁻¹ := by have := Real.log_pos one_lt_two; positivity
  rw [prob, dots_pad r s (by norm_num) H.q_ H.k_, H.l_]
  split_ifs with hs
  · rw [← EReal.coe_mul, ← EReal.coe_sub, Ideal.exp2_coe, ← two_rpow q k r s hs]
    rfl
  · rw [EReal.bot_mul_coe_of_pos hc, EReal.bot_sub, Ideal.exp2_bot, probR, expR, if_neg hs, zero_div, EReal.coe_zero]

include H in
theorem grad_real : grad x0 x1 x2 x3 x4 x5 r s = (gradR q k v g r s : EReal) := by
  rw [grad, prob_real H, dots_pad r s (by norm_num) H.g_ H.v_, dots_pad r r (by norm_num) H.g_ H.o_]
  rw [← EReal.coe_sub, ← EReal.coe_mul, ← EReal.coe_mul, gradR, dprobR, ← delta_eq, ← div_eq_mul_inv]

include H in
theorem dq_real (d : Fin 128) : out0_6 (F := Ideal) x0 x1 x2 x3 x4 x5 (ix2 r d) = (dqR q k v g r d : EReal) := by
  refine (dq_point x0 x1 x2 x3 x4 x5 (ix2 r d)).trans ?_
  rw [dqR, ← coe_sum]
  refine Finset.sum_congr rfl fun s _ => ?_
  rw [EReal.coe_mul, ← grad_real H, ← H.k_]
  rfl

include H in
theorem dk_real (d : Fin 128) : out0_7 (F := Ideal) x0 x1 x2 x3 x4 x5 (ix2 s d) = (dkR q k v g s d : EReal) := by
  refine (dk_point x0 x1 x2 x3 x4 x5 (ix2 s d)).trans ?_
  rw [dkR, ← coe_sum]
  refine Finset.sum_congr rfl fun r _ => ?_
  rw [EReal.coe_mul, ← grad_real H, ← H.q_]
  rfl

include H in
theorem dv_real (d : Fin 128) : out0_8 (F := Ideal) x0 x1 x2 x3 x4 x5 (ix2 s d) = (dvR q k g s d : EReal) := by
  refine (dv_point x0 x1 x2 x3 x4 x5 (ix2 s d)).trans ?_
  rw [dvR, ← coe_sum]
  refine Finset.sum_congr rfl fun r _ => ?_
  rw [EReal.coe_mul, ← prob_real H, ← H.g_, mul_comm]
  rfl

end tile

section final

variable (m : (ℓ : Loc nD τ sig) → Buf (Elt Ideal) ℓ) (c : Dev nD)
  (q k : Fin 2 → Fin 8 → Fin 2048 → Fin 96 → ℝ) (v g : Fin 2 → Fin 8 → Fin 2048 → Fin 64 → ℝ)
  (hq : ∀ b r h d, Q m c (ix4 b r h d) = (q b h r d : EReal)) (hk : ∀ b r h d, K m c (ix4 b r h d) = (k b h r d : EReal))
  (hv : ∀ b r h d, W m c (ix4 b r h d) = (v b h r d : EReal))
  (hg : ∀ (b : Fin 2) (r : Fin 2048) (h : Fin 8) (d : Fin 64) (hd : h.val * 64 + d.val < 512), G m c (ix3 b r ⟨h.val * 64 + d.val, hd⟩) = (g b h r d : EReal))

/-- The grid has sixteen steps. -/
theorem points : ∀ t : Fin cfg0.N, t.val < 16 := (by decide +kernel : ∀ t : Fin grid0.N, _)

/-- A point's batch entry and head. -/
abbrev bat (t : Fin cfg0.N) : Fin 2 := ⟨t.val / 8, by have := points t; omega⟩
abbrev hd (t : Fin cfg0.N) : Fin 8 := ⟨t.val % 8, by omega⟩

/-- A step's block of an operand is one head of it. -/
theorem head_block (t : Fin cfg0.N) {n : ℕ} (f : Fin 2 → Fin 8 → Fin 2048 → Fin n → ℝ) (A : FVec Ideal S4096x1024 .bf16)
    (hA : ∀ (R : Fin 4096) (C : Fin 1024), A (ix2 R C) = (padR (f ⟨R.val / 2048, by omega⟩ ⟨C.val / 128, by omega⟩) ⟨R.val % 2048, by omega⟩ ⟨C.val % 128, by omega⟩ : EReal))
    (r : Fin 2048) (d : Fin 128) (R : Fin 4096) (C : Fin 1024) (hR : R.val = 2048 * (t.val / 8) + r.val) (hC : C.val = 128 * (t.val % 8) + d.val) :
    A (ix2 R C) = (padR (f (bat t) (hd t)) r d : EReal) := by
  rw [hA]
  congr 2
  · congr 1 <;> exact Fin.ext (by simp only; omega)
  · exact Fin.ext (by simp only; omega)
  · exact Fin.ext (by simp only; omega)

include hg in
theorem split_g (b : Fin 2) (r : Fin 2048) (h : Fin 8) (d : Fin 64) :
    shapeCast S2x2048x8x64 (G m c) shapeCasts_S2x2048x512_S2x2048x8x64 (ix4 b r h d) = (g b h r d : EReal) := by
  rw [← hg b r h d (by omega)]
  pointwise

include hq in
theorem read_q (t : Fin cfg0.N) (r : Fin 2048) (d : Fin 128) : (show FVec Ideal S2048x128 .bf16 from iblk m c 0 t) (ix2 r d) = (padR (q (bat t) (hd t)) r d : EReal) := by
  have ht := points t
  refine Eq.trans ?_ (head_block t q _ (headH_read (Q m c) q hq) r d ⟨2048 * (t.val / 8) + r.val, by omega⟩ ⟨128 * (t.val % 8) + d.val, by omega⟩ rfl rfl)
  rw [← Vq m c]
  blk_ext [iblk, idx t]

include hk in
theorem read_k (t : Fin cfg0.N) (r : Fin 2048) (d : Fin 128) : (show FVec Ideal S2048x128 .bf16 from iblk m c 1 t) (ix2 r d) = (padR (k (bat t) (hd t)) r d : EReal) := by
  have ht := points t
  refine Eq.trans ?_ (head_block t k _ (headH_read (K m c) k hk) r d ⟨2048 * (t.val / 8) + r.val, by omega⟩ ⟨128 * (t.val % 8) + d.val, by omega⟩ rfl rfl)
  rw [← Vk m c]
  blk_ext [iblk, idx t]

include hv in
theorem read_v (t : Fin cfg0.N) (r : Fin 2048) (d : Fin 128) : (show FVec Ideal S2048x128 .bf16 from iblk m c 2 t) (ix2 r d) = (padR (v (bat t) (hd t)) r d : EReal) := by
  have ht := points t
  refine Eq.trans ?_ (head_block t v _ (valueH_read (W m c) v hv) r d ⟨2048 * (t.val / 8) + r.val, by omega⟩ ⟨128 * (t.val % 8) + d.val, by omega⟩ rfl rfl)
  rw [← Vv m c]
  blk_ext [iblk, idx t]

include hq hk hv in
theorem read_o (t : Fin cfg0.N) (r : Fin 2048) (d : Fin 128) : (show FVec Ideal S2048x128 .bf16 from iblk m c 3 t) (ix2 r d) = (padR (outR (q (bat t) (hd t)) (k (bat t) (hd t)) (v (bat t) (hd t))) r d : EReal) := by
  have ht := points t
  refine Eq.trans ?_ (head_block t (fun b h => outR (q b h) (k b h) (v b h)) _ (outH_read (Q m c) (K m c) (W m c) q k v hq hk hv) r d ⟨2048 * (t.val / 8) + r.val, by omega⟩ ⟨128 * (t.val % 8) + d.val, by omega⟩ rfl rfl)
  rw [← Vo m c]
  blk_ext [iblk, idx t]

include hg in
theorem read_g (t : Fin cfg0.N) (r : Fin 2048) (d : Fin 128) : (show FVec Ideal S2048x128 .bf16 from iblk m c 4 t) (ix2 r d) = (padR (g (bat t) (hd t)) r d : EReal) := by
  have ht := points t
  refine Eq.trans ?_ (head_block t g _ (valueH_read (shapeCast S2x2048x8x64 (G m c) shapeCasts_S2x2048x512_S2x2048x8x64) g (split_g m c g hg)) r d ⟨2048 * (t.val / 8) + r.val, by omega⟩ ⟨128 * (t.val % 8) + d.val, by omega⟩ rfl rfl)
  rw [← Vg m c]
  blk_ext [iblk, idx t]

include hq hk in
theorem read_l (t : Fin cfg0.N) (r : Fin 2048) : (show FVec Ideal S1x2048x1 .f32 from iblk m c 5 t) (ix3 0 r 0)
    = (lseR (q (bat t) (hd t)) (k (bat t) (hd t)) r : EReal) := by
  have ht := points t
  refine Eq.trans ?_ (lseH_read (Q m c) (K m c) q k hq hk r ⟨t.val, by omega⟩)
  rw [← Vl m c]
  blk_ext [iblk, idx t]

include hq hk hv hg in
theorem head (t : Fin cfg0.N) : Head (iblk m c 0 t) (iblk m c 1 t) (iblk m c 2 t) (iblk m c 3 t) (iblk m c 4 t) (iblk m c 5 t)
    (q (bat t) (hd t)) (k (bat t) (hd t)) (v (bat t) (hd t)) (g (bat t) (hd t)) where
  q_ := read_q m c q hq t
  k_ := read_k m c k hk t
  v_ := read_v m c v hv t
  o_ := read_o m c q k v hq hk hv t
  g_ := read_g m c g hg t
  l_ := read_l m c q k hq hk t

/-- An array made of one tile per batch entry and head, read at a place of a point's tile. -/
theorem tile_read (f : Fin 2 → Fin 8 → Fin 2048 → Fin 128 → ℝ) (A : FVec Ideal S4096x1024 .f32)
    (hA : ∀ (R : Fin 4096) (C : Fin 1024), A (ix2 R C) = (f ⟨R.val / 2048, by omega⟩ ⟨C.val / 128, by omega⟩ ⟨R.val % 2048, by omega⟩ ⟨C.val % 128, by omega⟩ : EReal))
    (t : Fin cfg0.N) (r : Fin 2048) (d : Fin 128) (R : Fin 4096) (C : Fin 1024) (hR : R.val = 2048 * (t.val / 8) + r.val) (hC : C.val = 128 * (t.val % 8) + d.val) :
    A (ix2 R C) = (f (bat t) (hd t) r d : EReal) := by
  rw [hA]
  have e0 : (⟨R.val / 2048, by omega⟩ : Fin 2) = bat t := Fin.ext (by simp only; omega)
  have e1 : (⟨C.val / 128, by omega⟩ : Fin 8) = hd t := Fin.ext (by simp only; omega)
  have e2 : (⟨R.val % 2048, by omega⟩ : Fin 2048) = r := Fin.ext (by simp only; omega)
  have e3 : (⟨C.val % 128, by omega⟩ : Fin 128) = d := Fin.ext (by simp only; omega)
  rw [e0, e1, e2, e3]

open Cert.RMlaIdeal.Read in
include hq hk hv hg in
/-- The gradient of the queries. -/
theorem final_dq : (dats m 0 c).arrAt 6 cfg0.N = val_main_v67 (F := Ideal) (Q m c) (K m c) (W m c) (G m c) := by
  refine (dats m 0 c).arrAt_eq_of_covers 6 _ (by decide +kernel) fun t hf y => ?_
  rw [after0_6]
  obtain ⟨r, d, rfl⟩ : ∃ (r : Fin 2048) (d : Fin 128), y = ix2 r d := ⟨y 0, y 1, eq_ix2 y⟩
  refine (dq_real (head m c q k v g hq hk hv hg t) r d).trans ?_
  have ht := points t
  refine Eq.trans (tile_read (fun b h => dqR (q b h) (k b h) (v b h) (g b h)) _ (ref_dq (Q m c) (K m c) (W m c) (G m c) q k v g hq hk hv hg) t r d ⟨2048 * (t.val / 8) + r.val, by omega⟩ ⟨128 * (t.val % 8) + d.val, by omega⟩ rfl rfl).symm ?_
  blk_ext [idx t]

open Cert.RMlaIdeal.Read in
include hq hk hv hg in
/-- The gradient of the keys. -/
theorem final_dk : (dats m 0 c).arrAt 7 cfg0.N = val_main_v69 (F := Ideal) (Q m c) (K m c) (W m c) (G m c) := by
  refine (dats m 0 c).arrAt_eq_of_covers 7 _ (by decide +kernel) fun t hf y => ?_
  rw [after0_7]
  obtain ⟨r, d, rfl⟩ : ∃ (r : Fin 2048) (d : Fin 128), y = ix2 r d := ⟨y 0, y 1, eq_ix2 y⟩
  refine (dk_real (head m c q k v g hq hk hv hg t) r d).trans ?_
  have ht := points t
  refine Eq.trans (tile_read (fun b h => dkR (q b h) (k b h) (v b h) (g b h)) _ (ref_dk (Q m c) (K m c) (W m c) (G m c) q k v g hq hk hv hg) t r d ⟨2048 * (t.val / 8) + r.val, by omega⟩ ⟨128 * (t.val % 8) + d.val, by omega⟩ rfl rfl).symm ?_
  blk_ext [idx t]

open Cert.RMlaIdeal.Read in
include hq hk hv hg in
/-- The gradient of the values. -/
theorem final_dv : (dats m 0 c).arrAt 8 cfg0.N = val_main_v71 (F := Ideal) (Q m c) (K m c) (G m c) := by
  refine (dats m 0 c).arrAt_eq_of_covers 8 _ (by decide +kernel) fun t hf y => ?_
  rw [after0_8]
  obtain ⟨r, d, rfl⟩ : ∃ (r : Fin 2048) (d : Fin 128), y = ix2 r d := ⟨y 0, y 1, eq_ix2 y⟩
  refine (dv_real (head m c q k v g hq hk hv hg t) r d).trans ?_
  have ht := points t
  refine Eq.trans (tile_read (fun b h => dvR (q b h) (k b h) (g b h)) _ (ref_dv (Q m c) (K m c) (G m c) q k g hq hk hg) t r d ⟨2048 * (t.val / 8) + r.val, by omega⟩ ⟨128 * (t.val % 8) + d.val, by omega⟩ rfl rfl).symm ?_
  blk_ext [idx t]

end final

end Cert.Mla
-- ==== Proof.Finite.lean ====
/- The side conditions of the preconditions' operations. -/
module

public import proofs.«01_k».proof.Proof.MlaRef
public import proofs.«01_k».proof.Pre_finite

@[expose] public section

set_option maxRecDepth 16384

noncomputable section

namespace Cert.Mla

open Cert.Pre_finite Idealize.ShloMosaic Idealize.ShloMosaic.TcCoe Idealize.SL.Sem
open Idealize.ShloMosaic.Pipeline (Dat)

/-- The side conditions of the precondition's operations. -/
theorem pre_facts : Cert.Pre_finite.Facts := by
  constructor <;> decide

end Cert.Mla
-- ==== Proof.Reals.lean ====
/- What a precondition of finite elements says: every element is a real number. -/
module

public import Idealize.ShloMosaic.Lib.Pipeline.ValueKit

@[expose] public section

noncomputable section

namespace Cert.Reals

open Idealize.ShloMosaic

/-- An array whose elements are smaller than infinity in absolute value holds real numbers. -/
theorem real_of {s : Shape} (x : FVec Ideal s .f32) (hb : (⟨0, ![]⟩ : Shape).BroadcastsInDim s (![] : Fin 0 → Fin s.rank))
    (h : cmpf .olt (Host.absf x) (broadcastInDim s ![] hb (constant (⟨0, ![]⟩ : Shape) .f32 0x7F800000#32)) = fun _ => 1#1) (i : s.Idx) : x i = ((x i).toReal : EReal) := by
  have e := congrFun h i
  have hi : Ideal.ofBits .f32 0x7F800000#32 = (⊤ : EReal) := by simp [Ideal.ofBits, Ideal.ieee]
  have e' : Ideal.cmp .olt (max (x i) (-(x i))) (Ideal.ofBits .f32 0x7F800000#32) = 1#1 := e
  rw [hi] at e'
  have lt : max (x i) (-(x i)) < ⊤ := by
    by_contra hn
    simp [Ideal.cmp, hn] at e'
  refine (EReal.coe_toReal (fun ht => ?_) fun hb => ?_).symm
  · rw [ht] at lt; simp at lt
  · rw [hb] at lt; simp at lt

end Cert.Reals
-- ==== Proof.Sigmoid.lean ====
/- The logistic function on the extended reals, as the kernels write it by a hyperbolic tangent and as the references write it. -/
module

public import Idealize.ShloMosaic.Lib.Pipeline.ValueKit

@[expose] public section

noncomputable section

namespace Cert.Sigmoid

open Idealize.ShloMosaic

/-- The word of one half. -/
theorem half : Ideal.ofBits .f32 0x3F000000#32 = ((1 / 2 : ℝ) : EReal) := by
  simp [Ideal.ofBits, Ideal.ieee, -EReal.coe_mul]; norm_num

/-- The word of one. -/
theorem one : Ideal.ofBits .f32 0x3F800000#32 = (1 : EReal) := by
  rw [← EReal.coe_one]
  simp [Ideal.ofBits, Ideal.ieee, -EReal.coe_mul, -EReal.coe_one]; norm_num

/-- The logistic function of a real number. -/
def sigR (x : ℝ) : ℝ := 1 / (1 + Real.exp (-x))

/-- The logistic function, 0 and 1 at the two infinities. -/
def sig : EReal → EReal
  | ⊥ => 0
  | ⊤ => 1
  | (x : ℝ) => (sigR x : EReal)

/-- The kernels' form. -/
def viaTanh (x : EReal) : EReal :=
  Ideal.ofBits .f32 0x3F000000#32 * Ideal.tanh (Ideal.ofBits .f32 0x3F000000#32 * x) + Ideal.ofBits .f32 0x3F000000#32

/-- The references' form. -/
def viaExp (x : EReal) : EReal :=
  Ideal.div (Ideal.ofBits .f32 0x3F800000#32) (Ideal.ofBits .f32 0x3F800000#32 + Ideal.exp (-x))

/-- The kernels' form is the logistic function. -/
theorem viaTanh_eq (x : EReal) : viaTanh x = sig x := by
  unfold viaTanh
  rw [half]
  induction x with
  | bot =>
    rw [EReal.coe_mul_bot_of_pos (by norm_num)]
    show ((1 / 2 : ℝ) : EReal) * ((-1 : ℝ) : EReal) + _ = ((0 : ℝ) : EReal)
    norm_cast; norm_num
  | top =>
    rw [EReal.coe_mul_top_of_pos (by norm_num)]
    show ((1 / 2 : ℝ) : EReal) * ((1 : ℝ) : EReal) + _ = ((1 : ℝ) : EReal)
    norm_cast; norm_num
  | coe x =>
    show ((1 / 2 : ℝ) : EReal) * (Real.tanh (1 / 2 * x) : EReal) + _ = ((sigR x : ℝ) : EReal)
    norm_cast
    have h : Real.exp (-x) = Real.exp (-(1 / 2 * x)) * Real.exp (-(1 / 2 * x)) := by rw [← Real.exp_add]; congr 1; ring
    unfold sigR
    rw [h, Real.tanh_eq_sinh_div_cosh, Real.sinh_eq, Real.cosh_eq]
    have hp := Real.exp_pos (1 / 2 * x)
    rw [Real.exp_neg]
    field_simp
    ring

/-- The references' form is the logistic function. -/
theorem viaExp_eq (x : EReal) : viaExp x = sig x := by
  unfold viaExp
  rw [one]
  induction x with
  | bot =>
    show Ideal.div 1 (1 + Ideal.exp (-⊥)) = 0
    rw [EReal.neg_bot]
    show Ideal.div 1 (((1 : ℝ) : EReal) + ⊤) = 0
    rw [EReal.coe_add_top]
    simp [Ideal.div]
  | top =>
    rw [EReal.neg_top]
    show Ideal.div 1 (1 + 0) = 1
    simp [Ideal.div]
  | coe x =>
    show Ideal.div ((1 : ℝ) : EReal) (((1 : ℝ) : EReal) + (Real.exp (-x) : EReal)) = (sigR x : EReal)
    have hp := Real.exp_pos (-x)
    rw [← EReal.coe_add, Ideal.div_coe]
    · rw [← EReal.coe_mul, one_mul]; rfl
    · positivity

/-- A real factor that is not negative goes into a sum. -/
theorem mul_sum {ι : Type} [Fintype ι] (k : ℝ) (hk : 0 ≤ k) (f : ι → EReal) : (k : EReal) * ∑ i, f i = ∑ i, (k : EReal) * f i := by
  classical
  suffices h : ∀ s : Finset ι, (k : EReal) * (∑ i ∈ s, f i) = ∑ i ∈ s, (k : EReal) * f i from h _
  intro s
  induction s using Finset.induction_on with
  | empty => simp
  | insert a s ha ih =>
    rw [Finset.sum_insert ha, Finset.sum_insert ha,
      EReal.left_distrib_of_nonneg_of_ne_top (EReal.coe_nonneg.mpr hk) (EReal.coe_ne_top k), ih]

/-- A sum of real numbers is real. -/
theorem coe_sum {ι : Type} [Fintype ι] (f : ι → ℝ) : ((∑ i, f i : ℝ) : EReal) = ∑ i, (f i : EReal) :=
  map_sum (⟨⟨Real.toEReal, EReal.coe_zero⟩, EReal.coe_add⟩ : ℝ →+ EReal) f Finset.univ

/-- The logistic function's gate: with a real factor, the slope written as one product and as a sum. -/
theorem slope (g : ℝ) (x : EReal) :
    (g : EReal) * (sig x * (1 + x * (1 - sig x))) = (g : EReal) * sig x + (g : EReal) * (sig x * (1 - sig x)) * x := by
  induction x with
  | bot =>
    show (g : EReal) * (0 * (1 + ⊥ * (1 - 0))) = (g : EReal) * 0 + (g : EReal) * (0 * (1 - 0)) * ⊥
    simp
  | top =>
    have : (1 : EReal) - 1 = 0 := by rw [← EReal.coe_one, ← EReal.coe_sub]; simp
    show (g : EReal) * (1 * (1 + ⊤ * (1 - 1))) = (g : EReal) * 1 + (g : EReal) * (1 * (1 - 1)) * ⊤
    simp [this]
  | coe x =>
    show (g : EReal) * ((sigR x : EReal) * (((1 : ℝ) : EReal) + (x : EReal) * (((1 : ℝ) : EReal) - (sigR x : EReal))))
      = (g : EReal) * (sigR x : EReal) + (g : EReal) * ((sigR x : EReal) * (((1 : ℝ) : EReal) - (sigR x : EReal))) * (x : EReal)
    norm_cast
    ring

end Cert.Sigmoid
-- ==== Proof.GateValue.lean ====
/- The SwiGLU gate's gradient kernel computes the gradients of the gate. -/
module

public import proofs.«01_k».proof.Proof.Gen.KGateIdeal.Value
public import proofs.«01_k».proof.Proof.Gen.RGateIdeal.Read
public import proofs.«01_k».proof.Proof.Sigmoid

@[expose] public section

set_option maxRecDepth 16384

noncomputable section

namespace Cert.Gate

open Cert.KGateIdeal Cert.KGateIdeal.Gen Idealize.ShloMosaic Idealize.ShloMosaic.TcCoe Idealize.SL.Sem Cert.Sigmoid
open Idealize.ShloMosaic.Pipeline (Dat)

section block

variable (x0 : FVec Ideal S512x1024 .bf16) (x1 : FVec Ideal S2816x1024 .bf16) (x2 x3 : FVec Ideal S512x2816 .bf16)

/-- The gradient of the hidden row that a step's blocks give. -/
def dh (r : Fin 512) (j : Fin 2816) : EReal := Ideal.ofBits .f32 0x3F000000#32 * ∑ d : Fin 1024, x0 (ix2 r d) * x1 (ix2 j d)

/-- What a step writes to the second gradient. -/
theorem db_point (y : S512x2816.Idx) : out0_5 (F := Ideal) x0 x1 x2 x3 y = dh x0 x1 (y 0) (y 1) * (x2 y * viaTanh (x2 y)) := by
  unfold out0_5
  canon_tiles z h
  all_goals
    idx_vars z
    idx_vars y
    unfold_payloads
    unfold dh viaTanh
    pointwise [View.ld_apply]
    obtain ⟨y0, hy0⟩ := y0
    obtain ⟨y1, hy1⟩ := y1
    dsimp only at h0 h1
    subst h0 h1
    rfl

/-- What a step writes to the first gradient. -/
theorem da_point (y : S512x2816.Idx) : out0_4 (F := Ideal) x0 x1 x2 x3 y
    = dh x0 x1 (y 0) (y 1) * x3 y * (viaTanh (x2 y) * (Ideal.ofBits .f32 0x3F800000#32 + x2 y * (Ideal.ofBits .f32 0x3F800000#32 - viaTanh (x2 y)))) := by
  unfold out0_4
  canon_tiles z h
  all_goals
    idx_vars z
    idx_vars y
    unfold_payloads
    unfold dh viaTanh
    pointwise [View.ld_apply]
    obtain ⟨y0, hy0⟩ := y0
    obtain ⟨y1, hy1⟩ := y1
    dsimp only at h0 h1
    subst h0 h1
    rfl

end block

section reference

open Cert.RGateIdeal.Read

variable (a b : FVec Ideal S4096x2816 .f32) (w : FVec Ideal S2816x1024 .f32) (d : FVec Ideal S4096x1024 .f32)

/-- The gradient of the hidden row. -/
def dhR (r : Fin 4096) (j : Fin 2816) : EReal := ∑ k : Fin 1024, Ideal.ofBits .f32 0x3F000000#32 * d (ix2 r k) * w (ix2 j k)

/-- The reference's gradient of the hidden row. -/
theorem ref_dh (r : Fin 4096) (j : Fin 2816) : val_main_v9 (F := Ideal) w d (ix2 r j) = dhR w d r j := by
  unfold dhR
  simp only [val_main_v9, val_main_v6, val_main_v5, val_main_cst_0]
  pointwise

/-- The reference's gate. -/
theorem ref_sig (i : S4096x2816.Idx) : val_main_v0_2 (F := Ideal) a i = viaExp (a i) := by
  unfold viaExp
  idx_vars i
  simp only [val_main_v0_2, val_main_call0_v4, val_main_call0_cst_0, val_main_call0_v3, val_main_call0_v2, val_main_call0_cst, val_main_call0_v1, val_main_call0_v0]
  pointwise

/-- The reference's second gradient. -/
theorem ref_db (r : Fin 4096) (j : Fin 2816) : val_main_v14 (F := Ideal) a w d (ix2 r j) = a (ix2 r j) * viaExp (a (ix2 r j)) * dhR w d r j := by
  rw [← ref_dh, ← ref_sig]
  rfl

/-- The reference's first gradient. -/
theorem ref_da (r : Fin 4096) (j : Fin 2816) : val_main_v13 (F := Ideal) a b w d (ix2 r j)
    = dhR w d r j * b (ix2 r j) * viaExp (a (ix2 r j))
      + a (ix2 r j) * (dhR w d r j * b (ix2 r j)) * (viaExp (a (ix2 r j)) * (Ideal.ofBits .f32 0x3F800000#32 - viaExp (a (ix2 r j)))) := by
  rw [← ref_dh, ← ref_sig]
  rfl

end reference

variable (m : (ℓ : Loc nD τ sig) → Buf (Elt Ideal) ℓ) (c : Dev nD)

/-- The gate's argument. -/
abbrev A : FVec Ideal S4096x2816 .f32 := m ((c : Thread nD τ).loc main_arg0)
/-- The other factor of the hidden row. -/
abbrev B : FVec Ideal S4096x2816 .f32 := m ((c : Thread nD τ).loc main_arg1)
/-- The projection behind the gate. -/
abbrev W : FVec Ideal S2816x1024 .f32 := m ((c : Thread nD τ).loc main_arg2)
/-- The gradient that comes in. -/
abbrev D : FVec Ideal S4096x1024 .f32 := m ((c : Thread nD τ).loc main_arg3)

/-- The block every window shows at a step of the grid. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ t.val < 8 :=
  (by decide +kernel : ∀ t : Fin grid0.N, _)

/-- The host hands the kernel the four arguments. -/
theorem host : V m c main_v0 = D m c ∧ V m c main_v1 = W m c ∧ V m c main_v2 = A m c ∧ V m c main_v3 = B m c := by
  refine ⟨?_, ?_, ?_, ?_⟩ <;> entry_read <;> rfl

/-- A step's rows of the gradient that comes in. -/
theorem read_d (t : Fin cfg0.N) (r : Fin 512) (k : Fin 1024) (h : 512 * t.val + r.val < 4096) :
    (show FVec Ideal S512x1024 .bf16 from iblk m c 0 t) (ix2 r k) = D m c (ix2 ⟨512 * t.val + r.val, h⟩ k) := by
  rw [← (host m c).1]
  blk_ext [iblk, idx t]

/-- The projection, whole at every step. -/
theorem read_w (t : Fin cfg0.N) (j : Fin 2816) (k : Fin 1024) :
    (show FVec Ideal S2816x1024 .bf16 from iblk m c 1 t) (ix2 j k) = W m c (ix2 j k) := by
  rw [← (host m c).2.1]
  blk_ext [iblk, idx t]

/-- A step's rows of the gate's argument. -/
theorem read_a (t : Fin cfg0.N) (r : Fin 512) (j : Fin 2816) (h : 512 * t.val + r.val < 4096) :
    (show FVec Ideal S512x2816 .bf16 from iblk m c 2 t) (ix2 r j) = A m c (ix2 ⟨512 * t.val + r.val, h⟩ j) := by
  rw [← (host m c).2.2.1]
  blk_ext [iblk, idx t]

/-- A step's rows of the other factor. -/
theorem read_b (t : Fin cfg0.N) (r : Fin 512) (j : Fin 2816) (h : 512 * t.val + r.val < 4096) :
    (show FVec Ideal S512x2816 .bf16 from iblk m c 3 t) (ix2 r j) = B m c (ix2 ⟨512 * t.val + r.val, h⟩ j) := by
  rw [← (host m c).2.2.2]
  blk_ext [iblk, idx t]

/-- A step's gradient of the hidden row is the reference's. -/
theorem dh_eq (t : Fin cfg0.N) (r : Fin 512) (j : Fin 2816) (h : 512 * t.val + r.val < 4096) :
    dh (iblk m c 0 t) (iblk m c 1 t) r j = dhR (W m c) (D m c) ⟨512 * t.val + r.val, h⟩ j := by
  unfold dh dhR
  rw [half, mul_sum _ (by norm_num)]
  refine Finset.sum_congr rfl fun k _ => ?_
  rw [mul_assoc]
  exact congrArg _ (congrArg₂ (· * ·) (read_d m c t r k h) (read_w m c t j k))

open Cert.RGateIdeal.Read in
/-- The gradient of the other factor. -/
theorem final_db : (dats m 0 c).arrAt 5 cfg0.N = val_main_v14 (F := Ideal) (A m c) (W m c) (D m c) := by
  refine (dats m 0 c).arrAt_eq_of_covers 5 _ (by decide +kernel) fun t hf y => ?_
  rw [after0_5, db_point]
  obtain ⟨r, j, rfl⟩ : ∃ (r : Fin 512) (j : Fin 2816), y = ix2 r j := ⟨y 0, y 1, eq_ix2 y⟩
  have ht := (idx t).2.2.2.2.2.2
  have h : 512 * t.val + r.val < 4096 := by omega
  refine Eq.trans (b := val_main_v14 (F := Ideal) (A m c) (W m c) (D m c) (ix2 ⟨512 * t.val + r.val, h⟩ j)) ?_ ?_
  · rw [ref_db, viaExp_eq, viaTanh_eq, mul_comm]
    exact congrArg₂ (fun x z => x * sig x * z) (read_a m c t r j h) (dh_eq m c t r j h)
  · blk_ext [idx t]

open Cert.RGateIdeal.Read in
/-- The gradient of the gate's argument, where the other factors are real numbers. -/
theorem final_da (hb : ∀ i, B m c i = ((B m c i).toReal : EReal)) (hw : ∀ i, W m c i = ((W m c i).toReal : EReal))
    (hd : ∀ i, D m c i = ((D m c i).toReal : EReal)) :
    (dats m 0 c).arrAt 4 cfg0.N = val_main_v13 (F := Ideal) (A m c) (B m c) (W m c) (D m c) := by
  refine (dats m 0 c).arrAt_eq_of_covers 4 _ (by decide +kernel) fun t hf y => ?_
  rw [after0_4, da_point]
  obtain ⟨r, j, rfl⟩ : ∃ (r : Fin 512) (j : Fin 2816), y = ix2 r j := ⟨y 0, y 1, eq_ix2 y⟩
  have ht := (idx t).2.2.2.2.2.2
  have h : 512 * t.val + r.val < 4096 := by omega
  refine Eq.trans (b := val_main_v13 (F := Ideal) (A m c) (B m c) (W m c) (D m c) (ix2 ⟨512 * t.val + r.val, h⟩ j)) ?_ ?_
  · rw [ref_da, viaExp_eq, viaTanh_eq, one]
    obtain ⟨g, hg⟩ : ∃ g : ℝ, dhR (W m c) (D m c) ⟨512 * t.val + r.val, h⟩ j * B m c (ix2 ⟨512 * t.val + r.val, h⟩ j) = (g : EReal) := by
      refine ⟨(∑ k : Fin 1024, (1 / 2 * (D m c (ix2 ⟨512 * t.val + r.val, h⟩ k)).toReal) * (W m c (ix2 j k)).toReal) * (B m c (ix2 ⟨512 * t.val + r.val, h⟩ j)).toReal, ?_⟩
      rw [EReal.coe_mul, ← hb, coe_sum]
      refine congrArg (· * _) (Finset.sum_congr rfl fun k _ => ?_)
      rw [half, EReal.coe_mul, EReal.coe_mul, ← hd, ← hw]
    have e : dh (iblk m c 0 t) (iblk m c 1 t) r j * (show FVec Ideal S512x2816 .bf16 from iblk m c 3 t) (ix2 r j) = (g : EReal) :=
      (congrArg₂ (· * ·) (dh_eq m c t r j h) (read_b m c t r j h)).trans hg
    refine (congrArg₂ (fun x z => x * (sig z * (1 + z * (1 - sig z)))) e (read_a m c t r j h)).trans ?_
    rw [hg, slope]
    refine congrArg _ ?_
    rw [mul_comm, ← mul_assoc]
  · blk_ext [idx t]

end Cert.Gate
-- ==== Proof.NormValue.lean ====
/- The gradient kernel of a norm under two products computes the norm's gradients. -/
module

public import proofs.«01_k».proof.Proof.Gen.KNormIdeal.Value
public import proofs.«01_k».proof.Proof.Gen.RNormIdeal.Read
public import proofs.«01_k».proof.Proof.Sigmoid

@[expose] public section

set_option maxRecDepth 16384

noncomputable section

namespace Cert.Norm

open Cert.KNormIdeal Cert.KNormIdeal.Gen Idealize.ShloMosaic Idealize.ShloMosaic.TcCoe Idealize.SL.Sem Cert.Sigmoid
open Idealize.ShloMosaic.Pipeline (Dat)

/-- The word of the norm's width. -/
theorem width : Ideal.ofBits .f32 0x44800000#32 = ((1024 : ℝ) : EReal) := by
  simp [Ideal.ofBits, Ideal.ieee, -EReal.coe_mul]; norm_num

/-- The word of minus one half. -/
theorem minusHalf : Ideal.ofBits .f32 0xBF000000#32 = ((-1 / 2 : ℝ) : EReal) := by
  simp [Ideal.ofBits, Ideal.ieee, -EReal.coe_mul]; norm_num

/-- The word that the norm adds under its root is positive. -/
theorem eps_pos : ∃ e : ℝ, 0 < e ∧ Ideal.ofBits .f32 0x358637BD#32 = (e : EReal) := by
  refine ⟨_, ?_, by simp [Ideal.ofBits, Ideal.ieee, -EReal.coe_mul]; rfl⟩
  norm_num

/-- The mean square of a row, with the norm's small number added. -/
def ms (x : Fin 1024 → EReal) : EReal := Ideal.div (∑ k, x k * x k) (Ideal.ofBits .f32 0x44800000#32) + Ideal.ofBits .f32 0x358637BD#32

/-- Over the width. -/
theorem div_width (e : EReal) : Ideal.div e (Ideal.ofBits .f32 0x44800000#32) = e * ((1 / 1024 : ℝ) : EReal) := by
  rw [width, Ideal.div_coe]; all_goals norm_num

theorem ms_pos (x : Fin 1024 → EReal) : 0 < ms x := by
  obtain ⟨e, he, h⟩ := eps_pos
  unfold ms
  rw [h, div_width]
  refine lt_of_lt_of_le (EReal.coe_pos.mpr he) (le_add_of_nonneg_left (mul_nonneg (Finset.sum_nonneg fun k _ => ?_) (EReal.coe_nonneg.mpr (by norm_num))))
  induction x k with
  | bot => simp
  | top => simp
  | coe r => rw [← EReal.coe_mul]; exact EReal.coe_nonneg.mpr (mul_self_nonneg r)

/-- The inverse root of a positive number is a real number, and over that number it is the cube. -/
theorem root (v : EReal) (hv : 0 < v) :
    ∃ ρ : ℝ, 0 ≤ ρ ∧ Ideal.rsqrt v = (ρ : EReal) ∧ Ideal.div (Ideal.rsqrt v) v = ((ρ ^ 3 : ℝ) : EReal) := by
  induction v with
  | bot => simp at hv
  | top =>
    have h : Ideal.rsqrt ⊤ = ((0 : ℝ) : EReal) := rfl
    refine ⟨0, le_refl _, h, ?_⟩
    rw [h]
    simp [Ideal.div]
  | coe r =>
    have hr : 0 < r := EReal.coe_pos.mp hv
    have h : Ideal.rsqrt (r : EReal) = (((√r)⁻¹ : ℝ) : EReal) := by
      rw [Ideal.rsqrt_coe, if_neg (not_lt.mpr hr.le), if_neg hr.ne']
    refine ⟨(√r)⁻¹, by positivity, h, ?_⟩
    rw [h, Ideal.div_coe (hr.ne'), ← EReal.coe_mul]
    congr 1
    have h2 : 1 / r = (√r)⁻¹ * (√r)⁻¹ := by rw [← mul_inv, Real.mul_self_sqrt hr.le, one_div]
    rw [h2]
    ring

/-- The gradient of a norm at an element, as the kernel forms it. -/
def gradK (x n g : Fin 1024 → EReal) (y : EReal) (j : Fin 1024) : EReal :=
  y + Ideal.rsqrt (ms x) * (n j * g j - x j * Ideal.rsqrt (ms x) * Ideal.div (∑ k, n k * g k * (x k * Ideal.rsqrt (ms x))) (Ideal.ofBits .f32 0x44800000#32))

/-- What the reference sends back through the square. -/
def back (x n g : Fin 1024 → EReal) : EReal :=
  Ideal.div ((∑ k, x k * (n k * g k)) * (Ideal.ofBits .f32 0xBF000000#32 * Ideal.div (Ideal.rsqrt (ms x)) (ms x))) (Ideal.ofBits .f32 0x44800000#32)

/-- The gradient of a norm at an element, as the reference forms it. -/
def gradR (x n g : Fin 1024 → EReal) (y : EReal) (j : Fin 1024) : EReal :=
  y + n j * g j * Ideal.rsqrt (ms x) + x j * back x n g + back x n g * x j

/-- The two are the same number. -/
theorem grad_eq (x n g : Fin 1024 → EReal) (y : EReal) (j : Fin 1024) : gradK x n g y j = gradR x n g y j := by
  unfold gradK gradR back
  obtain ⟨ρ, hρ, e1, e2⟩ := root _ (ms_pos x)
  rw [e2, e1, div_width, div_width, minusHalf, ← EReal.coe_mul]
  have hs : ∑ k, n k * g k * (x k * (ρ : EReal)) = (ρ : EReal) * ∑ k, x k * (n k * g k) := by
    rw [mul_sum _ hρ]
    refine Finset.sum_congr rfl fun k _ => ?_
    ac_rfl
  rw [hs]
  generalize (∑ k, x k * (n k * g k)) = S
  rw [sub_eq_add_neg, EReal.left_distrib_of_nonneg_of_ne_top (EReal.coe_nonneg.mpr hρ) (EReal.coe_ne_top ρ), ← add_assoc, add_assoc (_ + _)]
  refine congrArg₂ (· + ·) (congrArg (y + ·) (mul_comm _ _)) ?_
  have h2 (z : EReal) : z + z = ((2 : ℝ) : EReal) * z := by
    induction z with
    | bot => simp [EReal.coe_mul_bot_of_pos]
    | top => simp [EReal.coe_mul_top_of_pos]
    | coe r => rw [← EReal.coe_add, ← EReal.coe_mul]; congr 1; ring
  rw [mul_comm (S * _ * _) (x j), h2]
  have hk : (ρ : EReal) * -(x j * ρ * (ρ * S * ((1 / 1024 : ℝ) : EReal))) = ((-(ρ * ρ * ρ * (1 / 1024)) : ℝ) : EReal) * (x j * S) := by
    rw [EReal.coe_neg, EReal.neg_mul, mul_neg, EReal.coe_mul, EReal.coe_mul, EReal.coe_mul]
    refine congrArg _ ?_
    ac_rfl
  rw [hk]
  have hr : ((2 : ℝ) : EReal) * (x j * (S * ((-1 / 2 * ρ ^ 3 : ℝ) : EReal) * ((1 / 1024 : ℝ) : EReal))) = ((2 * (-1 / 2 * ρ ^ 3) * (1 / 1024) : ℝ) : EReal) * (x j * S) := by
    rw [EReal.coe_mul (2 * _), EReal.coe_mul 2]
    ac_rfl
  rw [hr]
  refine congrArg (fun z : ℝ => (z : EReal) * _) ?_
  ring

section block

variable (x0 x1 : FVec Ideal S512x2816 .bf16) (x2 x3 : FVec Ideal S2816x1024 .bf16) (x4 : FVec Ideal S512x1024 .f32) (x5 : FVec Ideal S1x1024 .f32)
  (x6 : FVec Ideal S512x1024 .f32)

/-- The two halves of the columns that a step writes to its scratch. -/
def halves : List (View.Piece (Elt Ideal) S512x1024 .f32) :=
  [⟨Rect.unit (s := S512x1024) ![0, 512] S512x512.size inb_S512x1024_S512x512_0_512,
      k0_pay2 (F := Ideal) x0 (View.ld (Val := Elt Ideal) (e' := .bf16) x2 (Rect.unit (s := S2816x1024) ![0, 512] S2816x512.size inb_S2816x1024_S2816x512_0_512)) x1
        (View.ld (Val := Elt Ideal) (e' := .bf16) x3 (Rect.unit (s := S2816x1024) ![0, 512] S2816x512.size inb_S2816x1024_S2816x512_0_512))⟩,
    ⟨Rect.unit (s := S512x1024) ![0, 0] S512x512.size inb_S512x1024_S512x512_0_0,
      k0_pay1 (F := Ideal) x0 (View.ld (Val := Elt Ideal) (e' := .bf16) x2 (Rect.unit (s := S2816x1024) ![0, 0] S2816x512.size inb_S2816x1024_S2816x512_0_0)) x1
        (View.ld (Val := Elt Ideal) (e' := .bf16) x3 (Rect.unit (s := S2816x1024) ![0, 0] S2816x512.size inb_S2816x1024_S2816x512_0_0))⟩]

/-- The gradient of the normed rows that a step forms. -/
def dnB (y : S512x1024.Idx) : EReal := (∑ k : Fin 2816, x0 (ix2 (y 0) k) * x2 (ix2 k (y 1))) + ∑ k : Fin 2816, x1 (ix2 (y 0) k) * x3 (ix2 k (y 1))

theorem canon_halves (y : S512x1024.Idx) : View.canon (halves x0 x1 x2 x3) y = dnB x0 x1 x2 x3 y := by
  unfold halves
  canon_tiles z h
  all_goals
    idx_vars z
    idx_vars y
    unfold_payloads
    unfold dnB
    pointwise [View.ld_apply]
    obtain ⟨y0, hy0⟩ := y0
    obtain ⟨y1, hy1⟩ := y1
    dsimp only at h0 h1
    subst h0 h1
    rfl

/-- What the step reads back of its scratch. -/
theorem read_halves : (View.whole (sig := sig) cc0_scratch0).readCov (Val := Elt Ideal) (halves x0 x1 x2 x3) (Rect.unit (s := S512x1024) ![0, 0] S512x1024.size inb_S512x1024_S512x1024_0_0).toLoadRect
    = dnB x0 x1 x2 x3 := by
  rw [View.readCov_eq_canon']
  funext j
  rw [canon_halves]
  idx_vars j
  unfold dnB
  pointwise

variable (dn : FVec Ideal S512x1024 .f32) (r : Fin 512) (j : Fin 1024)

/-- What a step writes to the gradient of the rows. -/
theorem dx_point : k0_pay6 (F := Ideal) x4 (k0_pay3 x4) dn x5 x6 (ix2 r j)
    = gradK (fun k => x4 (ix2 r k)) (fun k => dn (ix2 r k)) (fun k => x5 (ix2 0 k)) (x6 (ix2 r j)) j := by
  unfold gradK ms
  pointwise [k0_pay6, k0_pay5, k0_pay4, k0_pay3]

/-- What a step adds to the gradient of the gain. -/
theorem dg_point (acc : FVec Ideal S1x1024 .f32) (i : S1x1024.Idx) : k0_pay9 (F := Ideal) x4 (k0_pay3 x4) dn acc i
    = acc i + ∑ r : Fin 512, dn (ix2 r (i 1)) * (x4 (ix2 r (i 1)) * Ideal.rsqrt (ms fun k => x4 (ix2 r k))) := by
  idx_vars i
  unfold ms
  pointwise [k0_pay9, k0_pay5, k0_pay4, k0_pay3]

end block

variable (m : (ℓ : Loc nD τ sig) → Buf (Elt Ideal) ℓ) (c : Dev nD)

/-- A step's gradient of the normed rows. -/
abbrev dnT (t : Fin cfg0.N) : FVec Ideal S512x1024 .f32 := dnB (iblk m c 0 t) (iblk m c 1 t) (iblk m c 2 t) (iblk m c 3 t)

/-- What a step leaves in the blocks of the gradient and of its narrow copy. -/
theorem blocks (t : Fin cfg0.N) :
    (outsAt0 m c t.val t.isLt).1 = k0_pay6 (iblk m c 4 t) (k0_pay3 (iblk m c 4 t)) (dnT m c t) (iblk m c 5 t) (iblk m c 6 t)
      ∧ (outsAt0 m c t.val t.isLt).2.1 = k0_pay7 (iblk m c 4 t) (k0_pay3 (iblk m c 4 t)) (dnT m c t) (iblk m c 5 t) (iblk m c 6 t) := by
  unfold dnT
  rw [← read_halves]
  unfold halves
  by_cases h0 : t.val % 8 = 0
  · rw [outsAt0_A m c t h0]; constructor <;> frame_out
  · rw [outsAt0_B m c t h0]; constructor <;> frame_out

section reference

open Cert.RNormIdeal.Read

variable (x : FVec Ideal S4096x1024 .f32) (g : FVec Ideal S1024 .f32) (wg wu : FVec Ideal S1024x2816 .f32) (dy : FVec Ideal S4096x1024 .f32)
  (da db : FVec Ideal S4096x2816 .f32)

/-- The reference's gradient of the normed rows. -/
theorem ref_dn (r : Fin 4096) (j : Fin 1024) : val_main_v24 (F := Ideal) wg wu da db (ix2 r j)
    = (∑ k : Fin 2816, db (ix2 r k) * wu (ix2 j k)) + ∑ k : Fin 2816, da (ix2 r k) * wg (ix2 j k) := by
  simp only [val_main_v24, val_main_v23, val_main_v20]
  pointwise

/-- The reference's inverse root. -/
theorem ref_root (r : Fin 4096) : val_main_v7 (F := Ideal) x (ix2 r 0) = Ideal.rsqrt (ms fun k => x (ix2 r k)) := by
  unfold ms
  simp only [val_main_v7, val_main_v6, val_main_v5, val_main_v4, val_main_v3, val_main_v2, val_main_v1, val_main_v0, val_main_cst, val_main_cst_0, val_main_cst_1]
  pointwise

/-- The reference's mean square. -/
theorem ref_ms (r : Fin 4096) : val_main_v6 (F := Ideal) x (ix2 r 0) = ms fun k => x (ix2 r k) := by
  unfold ms
  simp only [val_main_v6, val_main_v5, val_main_v4, val_main_v3, val_main_v2, val_main_v1, val_main_v0, val_main_cst, val_main_cst_0, val_main_cst_1]
  pointwise

/-- What the reference sends back through the square. -/
theorem ref_back (r : Fin 4096) : val_main_v39 (F := Ideal) x g wg wu da db (ix2 r 0)
    = back (fun k => x (ix2 r k)) (fun k => val_main_v24 (F := Ideal) wg wu da db (ix2 r k)) (fun k => g (ix1 k)) := by
  unfold back
  rw [← ref_root, ← ref_ms]
  simp only [val_main_v39, val_main_v38, val_main_v37, val_main_v33, val_main_v32, val_main_v31, val_main_v29, val_main_v28, val_main_v13, val_main_v10, val_main_v9, val_main_v8, val_main_cst_5, val_main_cst_2, val_main_cst_6]
  generalize val_main_v24 (F := Ideal) wg wu da db = dn
  generalize val_main_v6 (F := Ideal) x = v6
  generalize val_main_v7 (F := Ideal) x = v7
  pointwise

/-- The reference's gradient of the rows. -/
theorem ref_dx (r : Fin 4096) (j : Fin 1024) : val_main_v45 (F := Ideal) x g wg wu dy da db (ix2 r j)
    = gradR (fun k => x (ix2 r k)) (fun k => val_main_v24 (F := Ideal) wg wu da db (ix2 r k)) (fun k => g (ix1 k)) (dy (ix2 r j)) j := by
  unfold gradR
  rw [← ref_back, ← ref_root]
  simp only [val_main_v45, val_main_v44, val_main_v43, val_main_v42, val_main_v41, val_main_v40, val_main_cst_7, val_main_v36, val_main_v35, val_main_v34, val_main_v29, val_main_v28, val_main_v13]
  generalize val_main_v24 (F := Ideal) wg wu da db = dn
  generalize val_main_v39 (F := Ideal) x g wg wu da db = v39
  generalize val_main_v7 (F := Ideal) x = v7
  pointwise
  simp only [Finset.univ_unique, Finset.sum_singleton]
  rfl

/-- The reference's gradient of the gain. -/
theorem ref_dg (i : S1x1024.Idx) : val_main_v47 (F := Ideal) x wg wu da db i
    = ∑ r : Fin 4096, (x (ix2 r (i 1)) * Ideal.rsqrt (ms fun k => x (ix2 r k))) * val_main_v24 (F := Ideal) wg wu da db (ix2 r (i 1)) := by
  simp only [← ref_root]
  simp only [val_main_v47, val_main_v30, val_main_v27, val_main_v26, val_main_v25, val_main_v12, val_main_v11, val_main_cst_3, val_main_cst_4]
  generalize val_main_v24 (F := Ideal) wg wu da db = dn
  generalize val_main_v7 (F := Ideal) x = v7
  idx_vars i
  pointwise
  simp only [Finset.univ_unique, Finset.sum_singleton]

end reference

/-- The rows that are normed. -/
abbrev X : FVec Ideal S4096x1024 .f32 := m ((c : Thread nD τ).loc main_arg0)
/-- The gain. -/
abbrev G : FVec Ideal S1024 .f32 := m ((c : Thread nD τ).loc main_arg1)
/-- The two projections. -/
abbrev WG : FVec Ideal S1024x2816 .f32 := m ((c : Thread nD τ).loc main_arg2)
abbrev WU : FVec Ideal S1024x2816 .f32 := m ((c : Thread nD τ).loc main_arg3)
/-- The gradients that come in. -/
abbrev DY : FVec Ideal S4096x1024 .f32 := m ((c : Thread nD τ).loc main_arg4)
abbrev DA : FVec Ideal S4096x2816 .f32 := m ((c : Thread nD τ).loc main_arg5)
abbrev DB : FVec Ideal S4096x2816 .f32 := m ((c : Thread nD τ).loc main_arg6)

/-- The block every window shows at a step of the grid. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![t.val, 0]
    ∧ win0_7.index t = ![t.val, 0] ∧ win0_8.index t = ![t.val, 0] ∧ win0_9.index t = ![0, 0] ∧ t.val < 8 :=
  (by decide +kernel : ∀ t : Fin grid0.N, _)

/-- The arguments that the host passes on in their own order. -/
theorem host : V m c main_v0 = DA m c ∧ V m c main_v3 = DB m c ∧ V m c main_arg0 = X m c ∧ V m c main_arg4 = DY m c := by
  refine ⟨?_, ?_, ?_, ?_⟩ <;> entry_read <;> rfl

/-- The projections that the host turns over. -/
theorem host_w (k : Fin 2816) (j : Fin 1024) : V m c main_v2 (ix2 k j) = WG m c (ix2 j k) ∧ V m c main_v5 (ix2 k j) = WU m c (ix2 j k) := by
  constructor <;> entry_read <;> pointwise

/-- The gain that the host lays out as a row. -/
theorem host_g (j : Fin 1024) : V m c main_v6 (ix2 0 j) = G m c (ix1 j) := by
  entry_read
  pointwise

section reads

variable (t : Fin cfg0.N) (r : Fin 512) (h : 512 * t.val + r.val < 4096)

theorem read_da (k : Fin 2816) : (show FVec Ideal S512x2816 .bf16 from iblk m c 0 t) (ix2 r k) = DA m c (ix2 ⟨512 * t.val + r.val, h⟩ k) := by
  rw [← (host m c).1]
  blk_ext [iblk, idx t]

theorem read_db (k : Fin 2816) : (show FVec Ideal S512x2816 .bf16 from iblk m c 1 t) (ix2 r k) = DB m c (ix2 ⟨512 * t.val + r.val, h⟩ k) := by
  rw [← (host m c).2.1]
  blk_ext [iblk, idx t]

theorem read_wg (k : Fin 2816) (j : Fin 1024) : (show FVec Ideal S2816x1024 .bf16 from iblk m c 2 t) (ix2 k j) = WG m c (ix2 j k) := by
  rw [← (host_w m c k j).1]
  blk_ext [iblk, idx t]

theorem read_wu (k : Fin 2816) (j : Fin 1024) : (show FVec Ideal S2816x1024 .bf16 from iblk m c 3 t) (ix2 k j) = WU m c (ix2 j k) := by
  rw [← (host_w m c k j).2]
  blk_ext [iblk, idx t]

theorem read_x (j : Fin 1024) : (show FVec Ideal S512x1024 .f32 from iblk m c 4 t) (ix2 r j) = X m c (ix2 ⟨512 * t.val + r.val, h⟩ j) := by
  rw [← (host m c).2.2.1]
  blk_ext [iblk, idx t]

theorem read_g (j : Fin 1024) : (show FVec Ideal S1x1024 .f32 from iblk m c 5 t) (ix2 0 j) = G m c (ix1 j) := by
  rw [← host_g m c j]
  blk_ext [iblk, idx t]

theorem read_dy (j : Fin 1024) : (show FVec Ideal S512x1024 .f32 from iblk m c 6 t) (ix2 r j) = DY m c (ix2 ⟨512 * t.val + r.val, h⟩ j) := by
  rw [← (host m c).2.2.2]
  blk_ext [iblk, idx t]

open Cert.RNormIdeal.Read in
/-- A step's gradient of the normed rows is the reference's. -/
theorem dn_eq (j : Fin 1024) : dnT m c t (ix2 r j) = val_main_v24 (F := Ideal) (WG m c) (WU m c) (DA m c) (DB m c) (ix2 ⟨512 * t.val + r.val, h⟩ j) := by
  rw [ref_dn, add_comm]
  exact congrArg₂ (· + ·) (Finset.sum_congr rfl fun k _ => congrArg₂ (· * ·) (read_da m c t r h k) (read_wg m c t k j))
    (Finset.sum_congr rfl fun k _ => congrArg₂ (· * ·) (read_db m c t r h k) (read_wu m c t k j))

open Cert.RNormIdeal.Read in
/-- A step's gradient of the rows is the reference's. -/
theorem dx_eq (j : Fin 1024) : k0_pay6 (F := Ideal) (iblk m c 4 t) (k0_pay3 (iblk m c 4 t)) (dnT m c t) (iblk m c 5 t) (iblk m c 6 t) (ix2 r j)
    = val_main_v45 (F := Ideal) (X m c) (G m c) (WG m c) (WU m c) (DY m c) (DA m c) (DB m c) (ix2 ⟨512 * t.val + r.val, h⟩ j) := by
  rw [ref_dx, ← grad_eq]
  refine (dx_point _ _ _ _ r j).trans ?_
  have ex := funext (read_x m c t r h)
  have en := funext (dn_eq m c t r h)
  have eg := funext (read_g m c t)
  have ey := read_dy m c t r h j
  exact (congrArg (fun x => gradK x _ _ _ j) ex).trans ((congrArg (fun n => gradK _ n _ _ j) en).trans
    ((congrArg (fun g => gradK _ _ g _ j) eg).trans (congrArg (fun y => gradK _ _ _ y j) ey)))

end reads

open Cert.RNormIdeal.Read in
/-- The gradient of the rows. -/
theorem final_dx : (dats m 0 c).arrAt 7 cfg0.N = val_main_v45 (F := Ideal) (X m c) (G m c) (WG m c) (WU m c) (DY m c) (DA m c) (DB m c) := by
  refine (dats m 0 c).arrAt_eq_of_covers 7 _ (by decide +kernel) fun t hf y => ?_
  rw [after0_7, (blocks m c t).1]
  obtain ⟨r, j, rfl⟩ : ∃ (r : Fin 512) (j : Fin 1024), y = ix2 r j := ⟨y 0, y 1, eq_ix2 y⟩
  have ht := (idx t).2.2.2.2.2.2.2.2.2.2
  have h : 512 * t.val + r.val < 4096 := by omega
  refine (dx_eq m c t r h j).trans ?_
  blk_ext [idx t]

open Cert.RNormIdeal.Read in
/-- Its narrow copy. -/
theorem final_dxb : (dats m 0 c).arrAt 8 cfg0.N = val_main_v46 (F := Ideal) (X m c) (G m c) (WG m c) (WU m c) (DY m c) (DA m c) (DB m c) := by
  refine (dats m 0 c).arrAt_eq_of_covers 8 _ (by decide +kernel) fun t hf y => ?_
  rw [after0_8, (blocks m c t).2]
  obtain ⟨r, j, rfl⟩ : ∃ (r : Fin 512) (j : Fin 1024), y = ix2 r j := ⟨y 0, y 1, eq_ix2 y⟩
  have ht := (idx t).2.2.2.2.2.2.2.2.2.2
  have h : 512 * t.val + r.val < 4096 := by omega
  refine Eq.trans (b := k0_pay6 (F := Ideal) (iblk m c 4 t) (k0_pay3 (iblk m c 4 t)) (dnT m c t) (iblk m c 5 t) (iblk m c 6 t) (ix2 r j)) rfl
    ((dx_eq m c t r h j).trans ?_)
  show val_main_v45 (F := Ideal) (X m c) (G m c) (WG m c) (WU m c) (DY m c) (DA m c) (DB m c) _ = val_main_v45 (F := Ideal) (X m c) (G m c) (WG m c) (WU m c) (DY m c) (DA m c) (DB m c) _
  blk_ext [idx t]

/-- What the carried row holds at a column: the gradient of the gain from the rows so far. -/
theorem row (t : Fin cfg0.N) (i : S1x1024.Idx) : (outsAt0 m c t.val t.isLt).2.2 i = ∑ p ∈ Finset.Iic t, ∑ r : Fin 512,
    dnT m c p (ix2 r (i 1)) * ((show FVec Ideal S512x1024 .f32 from iblk m c 4 p) (ix2 r (i 1)) * Ideal.rsqrt (ms fun k => (show FVec Ideal S512x1024 .f32 from iblk m c 4 p) (ix2 r k))) := by
  have hzero (j) : k0_pay8 (F := Ideal) j = 0 := by pointwise [k0_pay8]
  unfold dnT
  simp only [← read_halves]
  unfold halves
  rw [Pipeline.eq_sum_fin_of_reset_step_apply_single (fun n h => (outsAt0 m c n h).2.2) 8 (fun _ => 0) _
    (fun t h j => by rw [outsAt0_A m c t h]; frame_out; rw [dg_point, hzero])
    (fun t h j => by rw [outsAt0_B m c t h]; frame_out; rw [dg_point])
    (le_of_eq N_0) t i, zero_add]

open Cert.RNormIdeal.Read in
/-- The gradient of the gain. -/
theorem final_dg : (dats m 0 c).arrAt 9 cfg0.N = val_main_v47 (F := Ideal) (X m c) (WG m c) (WU m c) (DA m c) (DB m c) := by
  refine (dats m 0 c).arrAt_eq_of_after_last 9 t0_7 (by decide +kernel) _ fun i => ?_
  rw [after0_9, ref_dg]
  blk_simp
  rw [row m c t0_7, (by decide +kernel : Finset.Iic t0_7 = Finset.univ)]
  refine Fin.sum_mul_add_congr fun p r hl => ?_
  have hp := (idx p).2.2.2.2.2.2.2.2.2.2
  have h : 512 * p.val + r.val < 4096 := by omega
  have e : (⟨p.val * 512 + r.val, hl⟩ : Fin 4096) = ⟨512 * p.val + r.val, h⟩ := Fin.ext (by dsimp only; omega)
  rw [e, mul_comm]
  have ex := funext (read_x m c p r h)
  exact congrArg₂ (· * ·) (congrArg₂ (fun a x => a * Ideal.rsqrt (ms x)) (read_x m c p r h (i 1)) ex) (dn_eq m c p r h (i 1))

end Cert.Norm
-- ==== Proof.MergeValue.lean ====
/- The gradient kernel of the gated merge computes the gradients of the merge and of the two products behind it. -/
module

public import proofs.«01_k».proof.Proof.Gen.KMergeIdeal.Value
public import proofs.«01_k».proof.Proof.Gen.RMergeIdeal.Read
public import proofs.«01_k».proof.Proof.Sigmoid
public import Idealize.ShloMosaic.Lib.StableHlo.RunRead

@[expose] public section

set_option maxRecDepth 16384

noncomputable section

namespace Cert.Merge

open Cert.KMergeIdeal Cert.KMergeIdeal.Gen Idealize.ShloMosaic Idealize.ShloMosaic.TcCoe Idealize.SL.Sem Cert.Sigmoid
open Idealize.ShloMosaic.Pipeline (Dat)

section block

variable (x0 : FVec Ideal S512x1024 .bf16) (x1 : FVec Ideal S1024x1024 .bf16) (g : FVec Ideal S512x1024 .f32) (s : FVec Ideal S512x1024 .bf16)

/-- The gradient of the merged rows that a step's blocks give. -/
def dm (r : Fin 512) (j : Fin 1024) : EReal := ∑ d : Fin 1024, x0 (ix2 r d) * x1 (ix2 j d)

/-- The gradient of a branch. -/
def dyB (r : Fin 512) (j : Fin 1024) : EReal := dm x0 x1 r j * viaTanh (g (ix2 r j))

/-- The gradient of a branch's gate. -/
def dgB (r : Fin 512) (j : Fin 1024) : EReal :=
  dm x0 x1 r j * s (ix2 r j) * (viaTanh (g (ix2 r j)) * (Ideal.ofBits .f32 0x3F800000#32 - viaTanh (g (ix2 r j))))

end block

variable (m : (ℓ : Loc nD τ sig) → Buf (Elt Ideal) ℓ) (c : Dev nD)

/-- A sum over 1024 positions is the sum of its two halves. -/
theorem sum_halves (f : Fin 1024 → EReal) :
    ∑ k, f k = ∑ x : Fin 512, f ⟨x.val, by omega⟩ + ∑ x : Fin 512, f ⟨512 + x.val, by omega⟩ :=
  Fin.sum_univ_add (a := 512) (b := 512) f

/-- A step's gradient of the merged rows. -/
abbrev dmT (t : Fin cfg0.N) : Fin 512 → Fin 1024 → EReal := dm (iblk m c 0 t) (iblk m c 1 t)
/-- A step's gradients of the branches. -/
abbrev dyaT (t : Fin cfg0.N) : Fin 512 → Fin 1024 → EReal := dyB (iblk m c 0 t) (iblk m c 1 t) (X0_2 m c t)
abbrev dybT (t : Fin cfg0.N) : Fin 512 → Fin 1024 → EReal := dyB (iblk m c 0 t) (iblk m c 1 t) (X0_3 m c t)

/-- What a step leaves of the first branch's gradient. -/
theorem point_ya (t : Fin cfg0.N) (y : S512x1024.Idx) : (outsAt0 m c t).1 y = dyaT m c t (y 0) (y 1) := by
  unfold outsAt0
  frame_out
  unfold dyaT dyB
  generalize X0_2 m c t = x2
  canon_tiles z h
  all_goals
    idx_vars z
    idx_vars y
    unfold_payloads
    unfold dm viaTanh
    pointwise [View.ld_apply]
    obtain ⟨y0, hy0⟩ := y0
    obtain ⟨y1, hy1⟩ := y1
    dsimp only at h0 h1
    subst h0 h1
    rfl

/-- What a step leaves of the second branch's gradient. -/
theorem point_yb (t : Fin cfg0.N) (y : S512x1024.Idx) : (outsAt0 m c t).2.1 y = dybT m c t (y 0) (y 1) := by
  unfold outsAt0
  frame_out
  unfold dybT dyB
  generalize X0_3 m c t = x3
  canon_tiles z h
  all_goals
    idx_vars z
    idx_vars y
    unfold_payloads
    unfold dm viaTanh
    pointwise [View.ld_apply]
    obtain ⟨y0, hy0⟩ := y0
    obtain ⟨y1, hy1⟩ := y1
    dsimp only at h0 h1
    subst h0 h1
    rfl

/-- What a step leaves of the first gate's gradient. -/
theorem point_ga (t : Fin cfg0.N) (y : S512x1024.Idx) : (outsAt0 m c t).2.2.1 y
    = dgB (iblk m c 0 t) (iblk m c 1 t) (X0_2 m c t) (iblk m c 4 t) (y 0) (y 1) := by
  unfold outsAt0
  frame_out
  unfold dgB
  generalize X0_2 m c t = x2
  canon_tiles z h
  all_goals
    idx_vars z
    idx_vars y
    unfold_payloads
    unfold dm viaTanh
    pointwise [View.ld_apply]
    obtain ⟨y0, hy0⟩ := y0
    obtain ⟨y1, hy1⟩ := y1
    dsimp only at h0 h1
    subst h0 h1
    rfl

/-- What a step leaves of the second gate's gradient. -/
theorem point_gb (t : Fin cfg0.N) (y : S512x1024.Idx) : (outsAt0 m c t).2.2.2.1 y
    = dgB (iblk m c 0 t) (iblk m c 1 t) (X0_3 m c t) (iblk m c 5 t) (y 0) (y 1) := by
  unfold outsAt0
  frame_out
  unfold dgB
  generalize X0_3 m c t = x3
  canon_tiles z h
  all_goals
    idx_vars z
    idx_vars y
    unfold_payloads
    unfold dm viaTanh
    pointwise [View.ld_apply]
    obtain ⟨y0, hy0⟩ := y0
    obtain ⟨y1, hy1⟩ := y1
    dsimp only at h0 h1
    subst h0 h1
    rfl

/-- What a step leaves of the first mixer's gradient: the branch's gradient times the stored weight. -/
theorem point_oa (t : Fin cfg0.N) (r : Fin 512) (j : Fin 512) : (outsAt0 m c t).2.2.2.2.1 (ix2 r j)
    = ∑ k : Fin 1024, dyaT m c t r k * (show FVec Ideal S1024x512 .bf16 from iblk m c 6 t) (ix2 k j) := by
  rw [sum_halves]
  unfold outsAt0
  frame_out
  unfold dyaT dyB
  generalize X0_2 m c t = x2
  unfold_payloads
  pointwise [View.ld_apply]
  rfl

/-- What a step leaves of the second mixer's gradient. -/
theorem point_ob (t : Fin cfg0.N) (r : Fin 512) (j : Fin 1024) : (outsAt0 m c t).2.2.2.2.2 (ix2 r j)
    = ∑ k : Fin 1024, dybT m c t r k * (show FVec Ideal S1024x1024 .bf16 from iblk m c 7 t) (ix2 k j) := by
  rw [sum_halves]
  unfold outsAt0
  frame_out
  unfold dybT dyB
  generalize X0_3 m c t = x3
  unfold_payloads
  pointwise [View.ld_apply]
  rfl

section host

/-- The gates' and the branches' arrays, the two products' weights. -/
abbrev OA : FVec Ideal S4096x512 .f32 := m ((c.tc : Thread nD τ).loc main_arg0)
abbrev OB : FVec Ideal S4096x512 .f32 := m ((c.tc : Thread nD τ).loc main_arg1)
abbrev PR : FVec Ideal S2x2048x3232 .f32 := m ((c.tc : Thread nD τ).loc main_arg2)
abbrev WA : FVec Ideal S512x1024 .f32 := m ((c.tc : Thread nD τ).loc main_arg3)
abbrev WB : FVec Ideal S512x1024 .f32 := m ((c.tc : Thread nD τ).loc main_arg4)
abbrev WO : FVec Ideal S1024x1024 .f32 := m ((c.tc : Thread nD τ).loc main_arg5)
abbrev DX : FVec Ideal S4096x1024 .f32 := m ((c.tc : Thread nD τ).loc main_arg6)

/-- Column `j` of the first branch's stored weight is this row of the weight: the heads are stored in another order. -/
def col (j : Fin 512) : Fin 512 := ⟨j.val / 64 % 2 * 256 + j.val / 128 * 64 + j.val % 64, by omega⟩

/-- The eight pieces of the stored weight, read one after the other, are that row. -/
theorem ladder (f : Fin 512 → EReal) (j : Fin 512) :
    (if h : j.val < 64 then f j else if h : j.val - 64 < 64 then f ⟨256 + (j.val - 64), by omega⟩
      else if h : j.val - 64 - 64 < 64 then f ⟨64 + (j.val - 64 - 64), by omega⟩
      else if h : j.val - 64 - 64 - 64 < 64 then f ⟨320 + (j.val - 64 - 64 - 64), by omega⟩
      else if h : j.val - 64 - 64 - 64 - 64 < 64 then f ⟨128 + (j.val - 64 - 64 - 64 - 64), by omega⟩
      else if h : j.val - 64 - 64 - 64 - 64 - 64 < 64 then f ⟨384 + (j.val - 64 - 64 - 64 - 64 - 64), by omega⟩
      else if h : j.val - 64 - 64 - 64 - 64 - 64 - 64 < 64 then f ⟨192 + (j.val - 64 - 64 - 64 - 64 - 64 - 64), by omega⟩
      else f ⟨448 + (j.val - 64 - 64 - 64 - 64 - 64 - 64 - 64), by omega⟩) = f (col j) := by
  have key : ∀ z : Fin 512, z.val = (col j).val → f z = f (col j) := fun z h => congrArg f (Fin.ext h)
  split_ifs <;> exact key _ (by simp only [col]; omega)

/-- The first branch's stored weight is the transposed weight with its columns in the stored order. -/
theorem host_wa (k : Fin 1024) (j : Fin 512) : (show FVec Ideal S1024x512 .bf16 from V m c main_v10) (ix2 k j) = WA m c (ix2 (col j) k) := by
  simp only [V]
  after_reads_simp
  dsimp only [Matrix.cons_val]
  pointwise
  after_reads_simp
  pointwise
  exact ladder (fun z => WA m c (ix2 z k)) j

/-- The second branch's stored weight is the transposed weight with each head padded by zeros. -/
theorem host_wb (k : Fin 1024) (j : Fin 1024) : (show FVec Ideal S1024x1024 .bf16 from V m c main_v15) (ix2 k j)
    = if h : j.val / 128 < 8 ∧ j.val % 128 < 64 then WB m c (ix2 ⟨j.val / 128 * 64 + j.val % 128, by omega⟩ k) else (FloatOps.sitofp (F := Ideal) .f32 0#32 : EReal) := by
  simp only [V]
  after_reads_simp
  simp -implicitDefEqProofs only [StableHlo.TRef.toBuf, StableHlo.TRef.ofBuf, cast_cast, cast_eq]
  pointwise

/-- The packed projection's first columns are the first gate. -/
theorem host_ga (r : Fin 4096) (j : Fin 1024) (h : j.val < 3328) (h' : 1184 + j.val < 3232) :
    (show FVec Ideal S4096x3328 .f32 from V m c main_v41) (ix2 r ⟨j.val, h⟩)
      = PR m c (ix3 ⟨r.val / 2048, by omega⟩ ⟨r.val % 2048, by omega⟩ ⟨1184 + j.val, h'⟩) := by
  simp only [V]
  after_reads_simp
  dsimp only [Matrix.cons_val]
  pointwise
  after_reads_simp
  pointwise

/-- Its next columns are the second gate. -/
theorem host_gb (r : Fin 4096) (j : Fin 1024) (h : 1024 + j.val < 3328) (h' : 2208 + j.val < 3232) :
    (show FVec Ideal S4096x3328 .f32 from V m c main_v41) (ix2 r ⟨1024 + j.val, h⟩)
      = PR m c (ix3 ⟨r.val / 2048, by omega⟩ ⟨r.val % 2048, by omega⟩ ⟨2208 + j.val, h'⟩) := by
  simp only [V]
  after_reads_simp
  dsimp only [Matrix.cons_val]
  pointwise
  after_reads_simp
  pointwise

/-- The first saved branch is the mixer's heads times the weight. -/
theorem host_s (r : Fin 4096) (j : Fin 1024) : (show FVec Ideal S4096x1024 .bf16 from V m c main_v42) (ix2 r j)
    = ∑ k : Fin 512, OA m c (ix2 r k) * WA m c (ix2 k j) := by
  simp only [V]
  after_reads_simp
  pointwise

/-- The second saved branch likewise. -/
theorem host_sb (r : Fin 4096) (j : Fin 1024) : (show FVec Ideal S4096x1024 .bf16 from V m c main_v43) (ix2 r j)
    = ∑ k : Fin 512, OB m c (ix2 r k) * WB m c (ix2 k j) := by
  simp only [V]
  after_reads_simp
  pointwise

end host

section steps

/-- The blocks each step reads and writes. -/
theorem idx : ∀ t : Fin cfg0.N, win0_0.index t = ![t.val, 0] ∧ win0_1.index t = ![0, 0] ∧ win0_2.index t = ![t.val, 0]
    ∧ win0_3.index t = ![t.val, 1] ∧ win0_4.index t = ![t.val, 0] ∧ win0_5.index t = ![t.val, 0] ∧ win0_6.index t = ![0, 0]
    ∧ win0_7.index t = ![0, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] :=
  (by decide +kernel : ∀ t : Fin grid0.N, _)

variable (t : Fin cfg0.N)

/-- Every step reads the whole stored weight. -/
theorem at_wa (k : Fin 1024) (j : Fin 512) : (show FVec Ideal S1024x512 .bf16 from iblk m c 6 t) (ix2 k j) = WA m c (ix2 (col j) k) := by
  rw [← host_wa]
  blk_ext [iblk, idx t]

/-- Every step reads the whole padded weight. -/
theorem at_wb (k : Fin 1024) (j : Fin 1024) : (show FVec Ideal S1024x1024 .bf16 from iblk m c 7 t) (ix2 k j)
    = if h : j.val / 128 < 8 ∧ j.val % 128 < 64 then WB m c (ix2 ⟨j.val / 128 * 64 + j.val % 128, by omega⟩ k) else (FloatOps.sitofp (F := Ideal) .f32 0#32 : EReal) := by
  rw [← host_wb]
  blk_ext [iblk, idx t]

variable (r : Fin 512) (hr : 512 * t.val + r.val < 4096)

/-- A step's block of the first gate. -/
theorem at_ga (j : Fin 1024) (h' : 1184 + j.val < 3232) : X0_2 m c t (ix2 r j)
    = PR m c (ix3 ⟨(512 * t.val + r.val) / 2048, by omega⟩ ⟨(512 * t.val + r.val) % 2048, by omega⟩ ⟨1184 + j.val, h'⟩) := by
  rw [← host_ga m c ⟨512 * t.val + r.val, hr⟩ j (by omega) h']
  unfold X0_2 Pipeline.Window.fill
  simp only [moved0_2 t (ix2 r j), dif_pos]
  blk_ext [iblk, idx t]

/-- A step's block of the second gate. -/
theorem at_gb (j : Fin 1024) (h' : 2208 + j.val < 3232) : X0_3 m c t (ix2 r j)
    = PR m c (ix3 ⟨(512 * t.val + r.val) / 2048, by omega⟩ ⟨(512 * t.val + r.val) % 2048, by omega⟩ ⟨2208 + j.val, h'⟩) := by
  rw [← host_gb m c ⟨512 * t.val + r.val, hr⟩ j (by omega) h']
  unfold X0_3 Pipeline.Window.fill
  simp only [moved0_3 t (ix2 r j), dif_pos]
  blk_ext [iblk, idx t]

/-- A step's block of the first branch. -/
theorem at_s (j : Fin 1024) : (show FVec Ideal S512x1024 .bf16 from iblk m c 4 t) (ix2 r j)
    = ∑ k : Fin 512, OA m c (ix2 ⟨512 * t.val + r.val, hr⟩ k) * WA m c (ix2 k j) := by
  rw [← host_s]
  blk_ext [iblk, idx t]

/-- A step's block of the second branch. -/
theorem at_sb (j : Fin 1024) : (show FVec Ideal S512x1024 .bf16 from iblk m c 5 t) (ix2 r j)
    = ∑ k : Fin 512, OB m c (ix2 ⟨512 * t.val + r.val, hr⟩ k) * WB m c (ix2 k j) := by
  rw [← host_sb]
  blk_ext [iblk, idx t]

/-- A step's gradient of the merged rows is a product of the arguments. -/
theorem at_dm (k : Fin 1024) : dm (iblk m c 0 t) (iblk m c 1 t) r k = ∑ d : Fin 1024, DX m c (ix2 ⟨512 * t.val + r.val, hr⟩ d) * WO m c (ix2 k d) := by
  have hx : (show FVec Ideal S4096x1024 .bf16 from V m c main_v18) = truncf .bf16 (DX m c) bitsLt_bf16_f32 := by
    simp only [V]
    after_reads_simp
  have hw : (show FVec Ideal S1024x1024 .bf16 from V m c main_v19) = truncf .bf16 (WO m c) bitsLt_bf16_f32 := by
    simp only [V]
    after_reads_simp
  refine Finset.sum_congr rfl fun d _ => congrArg₂ (· * ·) ?_ ?_
  · refine Eq.trans ?_ (congrFun hx (ix2 ⟨512 * t.val + r.val, hr⟩ d))
    blk_ext [iblk, idx t]
  · refine Eq.trans ?_ (congrFun hw (ix2 k d))
    blk_ext [iblk, idx t]

end steps

section reference

variable (x0 x1 : FVec Ideal S4096x512 .f32) (x2 : FVec Ideal S2x2048x3232 .f32) (x3 x4 : FVec Ideal S512x1024 .f32)
  (x5 : FVec Ideal S1024x1024 .f32) (x6 : FVec Ideal S4096x1024 .f32)

open Cert.RMergeIdeal.Read

/-- The reference's gradient of the merged rows, at an entry. -/
theorem read_dm (r : Fin 4096) (j : Fin 1024) : val_main_v29 (F := Ideal) x5 x6 (ix2 r j) = ∑ d : Fin 1024, x6 (ix2 r d) * x5 (ix2 j d) := by
  simp only [val_main_v29]
  pointwise

/-- The reference's first gate, at an entry. -/
theorem read_ga (r : Fin 4096) (j : Fin 1024) : val_main_v10 (F := Ideal) x2 (ix2 r j)
    = viaExp (x2 (ix3 ⟨r.val / 2048, by omega⟩ ⟨r.val % 2048, by omega⟩ ⟨1184 + j.val, by omega⟩)) := by
  simp only [val_main_v10, val_main_v9, val_main_v8, val_main_v7, val_main_v6, val_main_v5, val_main_v4, val_main_v3, val_main_v2, val_main_v1, val_main_v0, val_main_cst, val_main_cst_0]
  unfold viaExp
  pointwise

/-- The reference's second gate, at an entry. -/
theorem read_gb (r : Fin 4096) (j : Fin 1024) : val_main_v20 (F := Ideal) x2 (ix2 r j)
    = viaExp (x2 (ix3 ⟨r.val / 2048, by omega⟩ ⟨r.val % 2048, by omega⟩ ⟨2208 + j.val, by omega⟩)) := by
  simp only [val_main_v20, val_main_v19, val_main_v18, val_main_v17, val_main_v16, val_main_v15, val_main_v2, val_main_v1, val_main_v0, val_main_cst_2, val_main_cst_3]
  unfold viaExp
  pointwise

/-- The reference's gradient of the first mixer's heads, at an entry. -/
theorem read_doa (r : Fin 4096) (j : Fin 512) : val_main_v48 (F := Ideal) x2 x3 x5 x6 (ix2 r j)
    = ∑ k : Fin 1024, val_main_v33 (F := Ideal) x2 x5 x6 (ix2 r k) * x3 (ix2 (col j) k) := by
  simp only [val_main_v48, val_main_v40, val_main_v39, val_main_v38, val_main_v36]
  generalize val_main_v33 (F := Ideal) x2 x5 x6 = w
  pointwise
  rfl

/-- The reference's gradient of the second mixer's heads, at an entry. -/
theorem read_dob (r : Fin 4096) (j : Fin 1024) : val_main_v49 (F := Ideal) x2 x4 x5 x6 (ix2 r j)
    = ∑ k : Fin 1024, val_main_v30 (F := Ideal) x2 x5 x6 (ix2 r k) * (if h : j.val / 128 < 8 ∧ j.val % 128 < 64 then x4 (ix2 ⟨j.val / 128 * 64 + j.val % 128, by omega⟩ k) else (FloatOps.sitofp (F := Ideal) .f32 0#32 : EReal)) := by
  simp only [val_main_v49, val_main_v43, val_main_v42, val_main_v41, val_main_v37, val_main_call0_v0, val_main_c]
  generalize val_main_v30 (F := Ideal) x2 x5 x6 = w
  pointwise
  split_ifs
  · rfl
  · have h0 : (FloatOps.sitofp (F := Ideal) .f32 0#32 : EReal) = 0 := by
      show ((((0#32 : BitVec 32).toInt : ℤ) : ℝ) : EReal) = 0
      simp
    rw [h0]
    simp only [mul_zero, Finset.sum_const_zero]

end reference

section values

open Cert.RMergeIdeal.Read

variable (t : Fin cfg0.N) (r : Fin 512) (hr : 512 * t.val + r.val < 4096)

/-- A step's gradients of the branches are the reference's rows. -/
theorem ya_eq (j : Fin 1024) : dyaT m c t r j = val_main_v33 (F := Ideal) (PR m c) (WO m c) (DX m c) (ix2 ⟨512 * t.val + r.val, hr⟩ j) := by
  rw [val_main_v33_apply, read_dm, read_ga]
  unfold dyaT dyB
  rw [at_dm m c t r hr, at_ga m c t r hr j (by omega), viaTanh_eq, viaExp_eq]
  exact mul_comm _ _

/-- The same for the second branch. -/
theorem yb_eq (j : Fin 1024) : dybT m c t r j = val_main_v30 (F := Ideal) (PR m c) (WO m c) (DX m c) (ix2 ⟨512 * t.val + r.val, hr⟩ j) := by
  rw [val_main_v30_apply, read_dm, read_gb]
  unfold dybT dyB
  rw [at_dm m c t r hr, at_gb m c t r hr j (by omega), viaTanh_eq, viaExp_eq]
  exact mul_comm _ _

/-- A step's gradients of the gates are the reference's rows. -/
theorem ga_eq (j : Fin 1024) : dgB (iblk m c 0 t) (iblk m c 1 t) (X0_2 m c t) (iblk m c 4 t) r j
    = val_main_v35 (F := Ideal) (OA m c) (PR m c) (WA m c) (WO m c) (DX m c) (ix2 ⟨512 * t.val + r.val, hr⟩ j) := by
  rw [val_main_v35_apply, val_main_v34_apply, val_main_v13_apply, val_main_v12_apply, read_dm, read_ga]
  unfold dgB
  rw [at_dm m c t r hr, at_ga m c t r hr j (by omega), (show iblk m c 4 t (ix2 r j) = _ from at_s m c t r hr j), viaTanh_eq, viaExp_eq]
  simp only [val_main_v11, val_main_cst_1, val_main_v3]
  pointwise

/-- The same for the second gate. -/
theorem gb_eq (j : Fin 1024) : dgB (iblk m c 0 t) (iblk m c 1 t) (X0_3 m c t) (iblk m c 5 t) r j
    = val_main_v32 (F := Ideal) (OB m c) (PR m c) (WB m c) (WO m c) (DX m c) (ix2 ⟨512 * t.val + r.val, hr⟩ j) := by
  rw [val_main_v32_apply, val_main_v31_apply, val_main_v23_apply, val_main_v22_apply, read_dm, read_gb]
  unfold dgB
  rw [at_dm m c t r hr, at_gb m c t r hr j (by omega), (show iblk m c 5 t (ix2 r j) = _ from at_sb m c t r hr j), viaTanh_eq, viaExp_eq]
  simp only [val_main_v21, val_main_cst_4, val_main_v4]
  pointwise

end values

section finals

open Cert.RMergeIdeal.Read

/-- The rows of a step are rows of the array. -/
theorem rows (t : Fin cfg0.N) (r : Fin 512) : 512 * t.val + r.val < 4096 := by
  have : t.val < 8 := t.isLt
  omega

/-- The gradient of the first branch. -/
theorem final_ya : (dats m 0 c).arrAt 8 cfg0.N = val_main_v44 (F := Ideal) (PR m c) (WO m c) (DX m c) := by
  refine (dats m 0 c).arrAt_eq_of_covers 8 _ (by decide +kernel) fun t hf y => ?_
  rw [after0_8, point_ya]
  obtain ⟨r, j, rfl⟩ : ∃ (r : Fin 512) (j : Fin 1024), y = ix2 r j := ⟨y 0, y 1, eq_ix2 y⟩
  refine (ya_eq m c t r (rows t r) j).trans ?_
  show _ = val_main_v33 (F := Ideal) (PR m c) (WO m c) (DX m c) _
  blk_ext [idx t]

/-- The gradient of the second branch. -/
theorem final_yb : (dats m 0 c).arrAt 9 cfg0.N = val_main_v45 (F := Ideal) (PR m c) (WO m c) (DX m c) := by
  refine (dats m 0 c).arrAt_eq_of_covers 9 _ (by decide +kernel) fun t hf y => ?_
  rw [after0_9, point_yb]
  obtain ⟨r, j, rfl⟩ : ∃ (r : Fin 512) (j : Fin 1024), y = ix2 r j := ⟨y 0, y 1, eq_ix2 y⟩
  refine (yb_eq m c t r (rows t r) j).trans ?_
  show _ = val_main_v30 (F := Ideal) (PR m c) (WO m c) (DX m c) _
  blk_ext [idx t]

/-- The gradient of the first gate. -/
theorem final_ga : (dats m 0 c).arrAt 10 cfg0.N = val_main_v46 (F := Ideal) (OA m c) (PR m c) (WA m c) (WO m c) (DX m c) := by
  refine (dats m 0 c).arrAt_eq_of_covers 10 _ (by decide +kernel) fun t hf y => ?_
  rw [after0_10, point_ga]
  obtain ⟨r, j, rfl⟩ : ∃ (r : Fin 512) (j : Fin 1024), y = ix2 r j := ⟨y 0, y 1, eq_ix2 y⟩
  refine (ga_eq m c t r (rows t r) j).trans ?_
  show _ = val_main_v35 (F := Ideal) (OA m c) (PR m c) (WA m c) (WO m c) (DX m c) _
  blk_ext [idx t]

/-- The gradient of the second gate. -/
theorem final_gb : (dats m 0 c).arrAt 11 cfg0.N = val_main_v47 (F := Ideal) (OB m c) (PR m c) (WB m c) (WO m c) (DX m c) := by
  refine (dats m 0 c).arrAt_eq_of_covers 11 _ (by decide +kernel) fun t hf y => ?_
  rw [after0_11, point_gb]
  obtain ⟨r, j, rfl⟩ : ∃ (r : Fin 512) (j : Fin 1024), y = ix2 r j := ⟨y 0, y 1, eq_ix2 y⟩
  refine (gb_eq m c t r (rows t r) j).trans ?_
  show _ = val_main_v32 (F := Ideal) (OB m c) (PR m c) (WB m c) (WO m c) (DX m c) _
  blk_ext [idx t]

/-- The gradient of the first mixer's heads. -/
theorem final_oa : (dats m 0 c).arrAt 12 cfg0.N = val_main_v48 (F := Ideal) (PR m c) (WA m c) (WO m c) (DX m c) := by
  refine (dats m 0 c).arrAt_eq_of_covers 12 _ (by decide +kernel) fun t hf y => ?_
  obtain ⟨r, j, rfl⟩ : ∃ (r : Fin 512) (j : Fin 512), y = ix2 r j := ⟨y 0, y 1, eq_ix2 y⟩
  rw [after0_12]
  refine (point_oa m c t r j).trans ?_
  refine (Finset.sum_congr rfl fun k _ => congrArg₂ (· * ·) (ya_eq m c t r (rows t r) k) (at_wa m c t k j)).trans ?_
  refine (read_doa _ _ _ _ ⟨512 * t.val + r.val, rows t r⟩ j).symm.trans ?_
  blk_ext [idx t]

/-- The gradient of the second mixer's heads, each padded to twice its width. -/
theorem final_ob : (dats m 0 c).arrAt 13 cfg0.N = val_main_v49 (F := Ideal) (PR m c) (WB m c) (WO m c) (DX m c) := by
  refine (dats m 0 c).arrAt_eq_of_covers 13 _ (by decide +kernel) fun t hf y => ?_
  obtain ⟨r, j, rfl⟩ : ∃ (r : Fin 512) (j : Fin 1024), y = ix2 r j := ⟨y 0, y 1, eq_ix2 y⟩
  rw [after0_13]
  refine (point_ob m c t r j).trans ?_
  refine (Finset.sum_congr rfl fun k _ => congrArg₂ (· * ·) (yb_eq m c t r (rows t r) k) (at_wb m c t k j)).trans ?_
  refine (read_dob _ _ _ _ ⟨512 * t.val + r.val, rows t r⟩ j).symm.trans ?_
  blk_ext [idx t]

end finals

end Cert.Merge
-- ==== Proof.UpValue.lean ====
/- The forward kernel of a norm under the two products of the SwiGLU block computes the normed rows, the two products and the hidden rows. -/
module

public import proofs.«01_k».proof.Proof.Gen.KUpIdeal.Value
public import proofs.«01_k».proof.Proof.Gen.RUpIdeal.Read
public import proofs.«01_k».proof.Proof.NormValue

@[expose] public section

set_option maxRecDepth 16384

noncomputable section

namespace Cert.Up

open Cert.KUpIdeal Cert.KUpIdeal.Gen Idealize.ShloMosaic Idealize.ShloMosaic.TcCoe Idealize.SL.Sem Cert.Sigmoid
open Cert.Norm (ms)
open Idealize.ShloMosaic.Pipeline (Dat)

/-- A row over its root mean square, times the gain. -/
def normed (x g : Fin 1024 → EReal) (k : Fin 1024) : EReal := x k * Ideal.rsqrt (ms x) * g k

/-- A normed row times a column of a weight. -/
def prod (x g w : Fin 1024 → EReal) : EReal := ∑ k, normed x g k * w k

section block

variable (x0 : FVec Ideal S512x1024 .f32) (x1 : FVec Ideal S1x1024 .f32) (x2 x3 : FVec Ideal S2816x1024 .bf16)

/-- What a step writes to the normed rows. -/
theorem n_point (y : S512x1024.Idx) : out0_4 (F := Ideal) x0 x1 x2 x3 y = normed (fun k => x0 (ix2 (y 0) k)) (fun k => x1 (ix2 0 k)) (y 1) := by
  unfold out0_4
  canon_tiles z h
  all_goals
    idx_vars z
    idx_vars y
    unfold_payloads
    unfold normed ms
    pointwise [View.ld_apply]
    obtain ⟨y0, hy0⟩ := y0
    obtain ⟨y1, hy1⟩ := y1
    dsimp only at h0 h1
    subst h0 h1
    rfl

/-- What a step writes to the first product. -/
theorem a_point (y : S512x2816.Idx) : out0_5 (F := Ideal) x0 x1 x2 x3 y
    = prod (fun k => x0 (ix2 (y 0) k)) (fun k => x1 (ix2 0 k)) (fun k => x2 (ix2 (y 1) k)) := by
  unfold out0_5
  canon_tiles z h
  all_goals
    idx_vars z
    idx_vars y
    unfold_payloads
    unfold prod normed ms
    pointwise [View.ld_apply]
    obtain ⟨y0, hy0⟩ := y0
    obtain ⟨y1, hy1⟩ := y1
    dsimp only at h0 h1
    subst h0 h1
    rfl

/-- What a step writes to the second product. -/
theorem b_point (y : S512x2816.Idx) : out0_6 (F := Ideal) x0 x1 x2 x3 y
    = prod (fun k => x0 (ix2 (y 0) k)) (fun k => x1 (ix2 0 k)) (fun k => x3 (ix2 (y 1) k)) := by
  unfold out0_6
  canon_tiles z h
  all_goals
    idx_vars z
    idx_vars y
    unfold_payloads
    unfold prod normed ms
    pointwise [View.ld_apply]
    obtain ⟨y0, hy0⟩ := y0
    obtain ⟨y1, hy1⟩ := y1
    dsimp only at h0 h1
    subst h0 h1
    rfl

/-- The hidden element from the two products. -/
def hid (a b : EReal) : EReal := a * viaTanh a * b

/-- What a step writes to the hidden rows. -/
theorem h_point (y : S512x2816.Idx) : out0_7 (F := Ideal) x0 x1 x2 x3 y
    = hid (prod (fun k => x0 (ix2 (y 0) k)) (fun k => x1 (ix2 0 k)) (fun k => x2 (ix2 (y 1) k)))
      (prod (fun k => x0 (ix2 (y 0) k)) (fun k => x1 (ix2 0 k)) (fun k => x3 (ix2 (y 1) k))) := by
  unfold out0_7
  canon_tiles z h
  all_goals
    idx_vars z
    idx_vars y
    unfold_payloads
    unfold hid viaTanh prod normed ms
    pointwise [View.ld_apply]
    obtain ⟨y0, hy0⟩ := y0
    obtain ⟨y1, hy1⟩ := y1
    dsimp only at h0 h1
    subst h0 h1
    rfl

end block

section reference

open Cert.RUpIdeal.Read

variable (x : FVec Ideal S4096x1024 .f32) (g : FVec Ideal S1024 .f32) (wg wu : FVec Ideal S1024x2816 .f32)

/-- The reference's normed rows. -/
theorem ref_n (r : Fin 4096) (k : Fin 1024) : val_main_v12 (F := Ideal) x g (ix2 r k) = normed (fun k => x (ix2 r k)) (fun k => g (ix1 k)) k := by
  unfold normed ms
  simp only [val_main_v12, val_main_v11, val_main_v10, val_main_v9, val_main_v8, val_main_v7, val_main_v6, val_main_v5, val_main_v4, val_main_v3, val_main_v2, val_main_v1, val_main_v0, val_main_cst, val_main_cst_0, val_main_cst_1]
  pointwise

/-- The reference's first product. -/
theorem ref_a (r : Fin 4096) (j : Fin 2816) : val_main_v13 (F := Ideal) x g wg (ix2 r j)
    = prod (fun k => x (ix2 r k)) (fun k => g (ix1 k)) (fun k => wg (ix2 k j)) := by
  unfold prod
  simp only [← ref_n]
  simp only [val_main_v13]
  generalize val_main_v12 (F := Ideal) x g = n
  pointwise

/-- The reference's second product. -/
theorem ref_b (r : Fin 4096) (j : Fin 2816) : val_main_v14 (F := Ideal) x g wu (ix2 r j)
    = prod (fun k => x (ix2 r k)) (fun k => g (ix1 k)) (fun k => wu (ix2 k j)) := by
  unfold prod
  simp only [← ref_n]
  simp only [val_main_v14]
  generalize val_main_v12 (F := Ideal) x g = n
  pointwise

/-- The reference's hidden rows. -/
theorem ref_h (r : Fin 4096) (j : Fin 2816) : val_main_v16 (F := Ideal) x g wg wu (ix2 r j)
    = hid (val_main_v13 (F := Ideal) x g wg (ix2 r j)) (val_main_v14 (F := Ideal) x g wu (ix2 r j)) := by
  unfold hid
  rw [viaTanh_eq, ← viaExp_eq]
  unfold viaExp
  simp only [val_main_v16, val_main_v15, val_main_call0_v5, val_main_call0_v4, val_main_call0_cst_0, val_main_call0_v3, val_main_call0_v2, val_main_call0_cst, val_main_call0_v1, val_main_call0_v0]
  generalize val_main_v13 (F := Ideal) x g wg = a
  generalize val_main_v14 (F := Ideal) x g wu = b
  pointwise

end reference

variable (m : (ℓ : Loc nD τ sig) → Buf (Elt Ideal) ℓ) (c : Dev nD)

/-- The rows that are normed. -/
abbrev X : FVec Ideal S4096x1024 .f32 := m ((c : Thread nD τ).loc main_arg0)
/-- The gain. -/
abbrev G : FVec Ideal S1024 .f32 := m ((c : Thread nD τ).loc main_arg1)
/-- The projection behind the gate. -/
abbrev WG : FVec Ideal S1024x2816 .f32 := m ((c : Thread nD τ).loc main_arg2)
/-- The other projection. -/
abbrev WU : FVec Ideal S1024x2816 .f32 := m ((c : Thread nD τ).loc main_arg3)

/-- The block every window shows at a step of the grid. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] ∧ t.val < 8 :=
  (by decide +kernel : ∀ t : Fin grid0.N, _)

/-- The projections that the host turns over. -/
theorem host_w (k : Fin 2816) (j : Fin 1024) : V m c main_v2 (ix2 k j) = WG m c (ix2 j k) ∧ V m c main_v4 (ix2 k j) = WU m c (ix2 j k) := by
  constructor <;> entry_read <;> pointwise

/-- The rows that the host passes on. -/
theorem host_x : V m c main_arg0 = X m c := V_main_arg0 m c

/-- The gain that the host lays out as a row. -/
theorem host_g (j : Fin 1024) : V m c main_v0 (ix2 0 j) = G m c (ix1 j) := by
  entry_read
  pointwise

section reads

variable (t : Fin cfg0.N) (r : Fin 512) (h : 512 * t.val + r.val < 4096)

/-- A step's rows. -/
theorem read_x (j : Fin 1024) : (show FVec Ideal S512x1024 .f32 from iblk m c 0 t) (ix2 r j) = X m c (ix2 ⟨512 * t.val + r.val, h⟩ j) := by
  rw [← host_x m c]
  blk_ext [iblk, idx t]

/-- The gain, whole at every step. -/
theorem read_g (j : Fin 1024) : (show FVec Ideal S1x1024 .f32 from iblk m c 1 t) (ix2 0 j) = G m c (ix1 j) := by
  rw [← host_g m c j]
  blk_ext [iblk, idx t]

/-- The projection behind the gate, whole at every step. -/
theorem read_wg (k : Fin 2816) (j : Fin 1024) : (show FVec Ideal S2816x1024 .bf16 from iblk m c 2 t) (ix2 k j) = WG m c (ix2 j k) := by
  rw [← (host_w m c k j).1]
  blk_ext [iblk, idx t]

/-- The other projection, whole at every step. -/
theorem read_wu (k : Fin 2816) (j : Fin 1024) : (show FVec Ideal S2816x1024 .bf16 from iblk m c 3 t) (ix2 k j) = WU m c (ix2 j k) := by
  rw [← (host_w m c k j).2]
  blk_ext [iblk, idx t]

end reads

open Cert.RUpIdeal.Read in
/-- The normed rows. -/
theorem final_n : (dats m 0 c).arrAt 4 cfg0.N = val_main_v17 (F := Ideal) (X m c) (G m c) := by
  refine (dats m 0 c).arrAt_eq_of_covers 4 _ (by decide +kernel) fun t hf y => ?_
  rw [after0_4, n_point]
  obtain ⟨r, j, rfl⟩ : ∃ (r : Fin 512) (j : Fin 1024), y = ix2 r j := ⟨y 0, y 1, eq_ix2 y⟩
  have ht := (idx t).2.2.2.2.2.2.2.2
  have h : 512 * t.val + r.val < 4096 := by omega
  refine Eq.trans (b := val_main_v12 (F := Ideal) (X m c) (G m c) (ix2 ⟨512 * t.val + r.val, h⟩ j)) ?_ ?_
  · rw [ref_n]
    exact congrArg₂ (fun x g => normed x g j) (funext (read_x m c t r h)) (funext (read_g m c t))
  · show val_main_v12 (F := Ideal) (X m c) (G m c) _ = val_main_v12 (F := Ideal) (X m c) (G m c) _
    blk_ext [idx t]

open Cert.RUpIdeal.Read in
/-- The first product. -/
theorem final_a : (dats m 0 c).arrAt 5 cfg0.N = val_main_v18 (F := Ideal) (X m c) (G m c) (WG m c) := by
  refine (dats m 0 c).arrAt_eq_of_covers 5 _ (by decide +kernel) fun t hf y => ?_
  rw [after0_5, a_point]
  obtain ⟨r, j, rfl⟩ : ∃ (r : Fin 512) (j : Fin 2816), y = ix2 r j := ⟨y 0, y 1, eq_ix2 y⟩
  have ht := (idx t).2.2.2.2.2.2.2.2
  have h : 512 * t.val + r.val < 4096 := by omega
  refine Eq.trans (b := val_main_v13 (F := Ideal) (X m c) (G m c) (WG m c) (ix2 ⟨512 * t.val + r.val, h⟩ j)) ?_ ?_
  · rw [ref_a, ← funext (read_x m c t r h), ← funext (read_g m c t), ← funext (read_wg m c t j)]
    rfl
  · show val_main_v13 (F := Ideal) (X m c) (G m c) (WG m c) _ = val_main_v13 (F := Ideal) (X m c) (G m c) (WG m c) _
    blk_ext [idx t]

open Cert.RUpIdeal.Read in
/-- The second product. -/
theorem final_b : (dats m 0 c).arrAt 6 cfg0.N = val_main_v19 (F := Ideal) (X m c) (G m c) (WU m c) := by
  refine (dats m 0 c).arrAt_eq_of_covers 6 _ (by decide +kernel) fun t hf y => ?_
  rw [after0_6, b_point]
  obtain ⟨r, j, rfl⟩ : ∃ (r : Fin 512) (j : Fin 2816), y = ix2 r j := ⟨y 0, y 1, eq_ix2 y⟩
  have ht := (idx t).2.2.2.2.2.2.2.2
  have h : 512 * t.val + r.val < 4096 := by omega
  refine Eq.trans (b := val_main_v14 (F := Ideal) (X m c) (G m c) (WU m c) (ix2 ⟨512 * t.val + r.val, h⟩ j)) ?_ ?_
  · rw [ref_b, ← funext (read_x m c t r h), ← funext (read_g m c t), ← funext (read_wu m c t j)]
    rfl
  · show val_main_v14 (F := Ideal) (X m c) (G m c) (WU m c) _ = val_main_v14 (F := Ideal) (X m c) (G m c) (WU m c) _
    blk_ext [idx t]

open Cert.RUpIdeal.Read in
/-- The hidden rows. -/
theorem final_h : (dats m 0 c).arrAt 7 cfg0.N = val_main_v20 (F := Ideal) (X m c) (G m c) (WG m c) (WU m c) := by
  refine (dats m 0 c).arrAt_eq_of_covers 7 _ (by decide +kernel) fun t hf y => ?_
  rw [after0_7, h_point]
  obtain ⟨r, j, rfl⟩ : ∃ (r : Fin 512) (j : Fin 2816), y = ix2 r j := ⟨y 0, y 1, eq_ix2 y⟩
  have ht := (idx t).2.2.2.2.2.2.2.2
  have h : 512 * t.val + r.val < 4096 := by omega
  refine Eq.trans (b := val_main_v16 (F := Ideal) (X m c) (G m c) (WG m c) (WU m c) (ix2 ⟨512 * t.val + r.val, h⟩ j)) ?_ ?_
  · rw [ref_h, ref_a, ref_b, ← funext (read_x m c t r h), ← funext (read_g m c t), ← funext (read_wg m c t j), ← funext (read_wu m c t j)]
    rfl
  · show val_main_v16 (F := Ideal) (X m c) (G m c) (WG m c) (WU m c) _ = val_main_v16 (F := Ideal) (X m c) (G m c) (WG m c) (WU m c) _
    blk_ext [idx t]

end Cert.Up
-- ==== Proof.DhValue.lean ====
/- The gradient kernel of the norm in front of the combined input projection computes the norm's gradients. -/
module

public import proofs.«01_k».proof.Proof.Gen.KDhIdeal.Value
public import proofs.«01_k».proof.Proof.Gen.RDhIdeal.Read
public import proofs.«01_k».proof.Proof.NormValue
public import proofs.«01_k».proof.Proof.MergeValue

@[expose] public section

set_option maxRecDepth 16384

noncomputable section

namespace Cert.Dh

open Cert.KDhIdeal Cert.KDhIdeal.Gen Idealize.ShloMosaic Idealize.ShloMosaic.TcCoe Idealize.SL.Sem Cert.Sigmoid
open Cert.Norm (ms gradK gradR back grad_eq)
open Cert.Merge (col ladder)
open Idealize.ShloMosaic.Pipeline (Dat)

section block

variable (x0 x1 : FVec Ideal S512x1024 .bf16) (x2 : FVec Ideal S512x512 .bf16) (x3 : FVec Ideal S512x256 .bf16) (x4 x5 x6 x7 : FVec Ideal S512x128 .bf16)
  (w : FVec Ideal S3328x1024 .bf16) (x9 : FVec Ideal S512x1024 .f32) (x10 : FVec Ideal S1x1024 .f32) (x11 : FVec Ideal S512x1024 .f32)

/-- The two halves of the columns that a step writes to its scratch, each a sum of eight products. -/
def halves : List (View.Piece (Elt Ideal) S512x1024 .f32) :=
  [⟨Rect.unit (s := S512x1024) ![0, 512] S512x512.size inb_S512x1024_S512x512_0_512,
      k0_pay10 (F := Ideal) (k0_pay8 (F := Ideal) (k0_pay6 (F := Ideal) x0 (View.ld (Val := Elt Ideal) (e' := .bf16) w (Rect.unit (s := S3328x1024) ![0, 512] S1024x512.size inb_S3328x1024_S1024x512_0_512)) x1 (View.ld (Val := Elt Ideal) (e' := .bf16) w (Rect.unit (s := S3328x1024) ![1024, 512] S1024x512.size inb_S3328x1024_S1024x512_1024_512)))
          (k0_pay7 x2) (View.ld (Val := Elt Ideal) (e' := .bf16) w (Rect.unit (s := S3328x1024) ![2048, 512] S512x512.size inb_S3328x1024_S512x512_2048_512)) x3 (View.ld (Val := Elt Ideal) (e' := .bf16) w (Rect.unit (s := S3328x1024) ![2560, 512] S256x512.size inb_S3328x1024_S256x512_2560_512))
          x4 (View.ld (Val := Elt Ideal) (e' := .bf16) w (Rect.unit (s := S3328x1024) ![2816, 512] S128x512.size inb_S3328x1024_S128x512_2816_512)) x5 (View.ld (Val := Elt Ideal) (e' := .bf16) w (Rect.unit (s := S3328x1024) ![2944, 512] S128x512.size inb_S3328x1024_S128x512_2944_512))
          x6 (View.ld (Val := Elt Ideal) (e' := .bf16) w (Rect.unit (s := S3328x1024) ![3072, 512] S128x512.size inb_S3328x1024_S128x512_3072_512)))
        (k0_pay9 (F := Ideal) x7 (View.ld (Val := Elt Ideal) (e' := .bf16) w (Rect.unit (s := S3328x1024) ![3200, 512] S128x512.size inb_S3328x1024_S128x512_3200_512)))⟩,
    ⟨Rect.unit (s := S512x1024) ![0, 0] S512x512.size inb_S512x1024_S512x512_0_0,
      k0_pay5 (F := Ideal) (k0_pay3 (F := Ideal) x0 (View.ld (Val := Elt Ideal) (e' := .bf16) w (Rect.unit (s := S3328x1024) ![0, 0] S1024x512.size inb_S3328x1024_S1024x512_0_0)) x1 (View.ld (Val := Elt Ideal) (e' := .bf16) w (Rect.unit (s := S3328x1024) ![1024, 0] S1024x512.size inb_S3328x1024_S1024x512_1024_0)) x2 (View.ld (Val := Elt Ideal) (e' := .bf16) w (Rect.unit (s := S3328x1024) ![2048, 0] S512x512.size inb_S3328x1024_S512x512_2048_0))
          x3 (View.ld (Val := Elt Ideal) (e' := .bf16) w (Rect.unit (s := S3328x1024) ![2560, 0] S256x512.size inb_S3328x1024_S256x512_2560_0)) x4 (View.ld (Val := Elt Ideal) (e' := .bf16) w (Rect.unit (s := S3328x1024) ![2816, 0] S128x512.size inb_S3328x1024_S128x512_2816_0)))
        (k0_pay4 x5) (View.ld (Val := Elt Ideal) (e' := .bf16) w (Rect.unit (s := S3328x1024) ![2944, 0] S128x512.size inb_S3328x1024_S128x512_2944_0)) x6 (View.ld (Val := Elt Ideal) (e' := .bf16) w (Rect.unit (s := S3328x1024) ![3072, 0] S128x512.size inb_S3328x1024_S128x512_3072_0))
        x7 (View.ld (Val := Elt Ideal) (e' := .bf16) w (Rect.unit (s := S3328x1024) ![3200, 0] S128x512.size inb_S3328x1024_S128x512_3200_0))⟩]

/-- The part of the gradient of the normed rows that comes through the weight's rows from `o` on. -/
def part {n : ℕ} (x : Fin 512 → Fin n → EReal) (o : ℕ) (ho : o + n ≤ 3328) (y : S512x1024.Idx) : EReal :=
  ∑ k : Fin n, x (y 0) k * w (ix2 ⟨o + k.val, by omega⟩ (y 1))

/-- The gradient of the normed rows that a step forms. -/
def dnB (y : S512x1024.Idx) : EReal :=
  part w (fun r k => x0 (ix2 r k)) 0 (by decide) y + part w (fun r k => x1 (ix2 r k)) 1024 (by decide) y + part w (fun r k => x2 (ix2 r k)) 2048 (by decide) y + part w (fun r k => x3 (ix2 r k)) 2560 (by decide) y + part w (fun r k => x4 (ix2 r k)) 2816 (by decide) y + part w (fun r k => x5 (ix2 r k)) 2944 (by decide) y + part w (fun r k => x6 (ix2 r k)) 3072 (by decide) y + part w (fun r k => x7 (ix2 r k)) 3200 (by decide) y

theorem canon_halves (y : S512x1024.Idx) : View.canon (halves x0 x1 x2 x3 x4 x5 x6 x7 w) y = dnB x0 x1 x2 x3 x4 x5 x6 x7 w y := by
  unfold halves
  canon_tiles z h
  all_goals
    idx_vars z
    idx_vars y
    unfold_payloads
    unfold dnB part
    pointwise [View.ld_apply]
    obtain ⟨y0, hy0⟩ := y0
    obtain ⟨y1, hy1⟩ := y1
    dsimp only at h0 h1
    subst h0 h1
    rfl

/-- What the step reads back of its scratch. -/
theorem read_halves : (View.whole (sig := sig) cc0_scratch0).readCov (Val := Elt Ideal) (halves x0 x1 x2 x3 x4 x5 x6 x7 w) (Rect.unit (s := S512x1024) ![0, 0] S512x1024.size inb_S512x1024_S512x1024_0_0).toLoadRect
    = dnB x0 x1 x2 x3 x4 x5 x6 x7 w := by
  rw [View.readCov_eq_canon']
  funext j
  rw [canon_halves]
  generalize dnB x0 x1 x2 x3 x4 x5 x6 x7 w = d
  idx_vars j
  pointwise

variable (dn : FVec Ideal S512x1024 .f32) (r : Fin 512) (j : Fin 1024)

/-- What a step writes to the gradient of the rows. -/
theorem dx_point : k0_pay13 (F := Ideal) x9 dn x10 x11 (ix2 r j)
    = gradK (fun k => x9 (ix2 r k)) (fun k => dn (ix2 r k)) (fun k => x10 (ix2 0 k)) (x11 (ix2 r j)) j := by
  unfold gradK ms
  pointwise [k0_pay13, k0_pay12, k0_pay11]

/-- What a step adds to the gradient of the gain. -/
theorem dg_point (acc : FVec Ideal S1x1024 .f32) (i : S1x1024.Idx) : k0_pay2 (F := Ideal) (k0_pay12 x9) dn acc i
    = acc i + ∑ r : Fin 512, dn (ix2 r (i 1)) * (x9 (ix2 r (i 1)) * Ideal.rsqrt (ms fun k => x9 (ix2 r k))) := by
  idx_vars i
  unfold ms
  pointwise [k0_pay2, k0_pay12, k0_pay11]

end block

variable (m : (ℓ : Loc nD τ sig) → Buf (Elt Ideal) ℓ) (c : Dev nD)

/-- A step's gradient of the normed rows. -/
abbrev dnT (t : Fin cfg0.N) : FVec Ideal S512x1024 .f32 :=
  dnB (iblk m c 0 t) (iblk m c 1 t) (iblk m c 2 t) (iblk m c 3 t) (iblk m c 4 t) (iblk m c 5 t) (iblk m c 6 t) (iblk m c 7 t) (iblk m c 8 t)

/-- What a step leaves in the blocks of the gradient and of its narrow copy. -/
theorem blocks (t : Fin cfg0.N) :
    (outsAt0 m c t.val t.isLt).1 = k0_pay13 (iblk m c 9 t) (dnT m c t) (iblk m c 10 t) (iblk m c 11 t)
      ∧ (outsAt0 m c t.val t.isLt).2.1 = k0_pay14 (iblk m c 9 t) (dnT m c t) (iblk m c 10 t) (iblk m c 11 t) := by
  unfold dnT
  rw [← read_halves]
  unfold halves
  by_cases h0 : t.val % 8 = 0
  · rw [outsAt0_A m c t h0]; constructor <;> frame_out
  · rw [outsAt0_B m c t h0]; constructor <;> frame_out

section reference

open Cert.RDhIdeal.Read

variable (x : FVec Ideal S4096x1024 .f32) (g : FVec Ideal S1024 .f32) (w : FVec Ideal S1024x3232 .f32) (dy : FVec Ideal S4096x1024 .f32)
  (dp : FVec Ideal S4096x3232 .f32)

/-- The reference's gradient of the normed rows. -/
theorem ref_dn (r : Fin 4096) (j : Fin 1024) : val_main_v19 (F := Ideal) w dp (ix2 r j) = ∑ k : Fin 3232, dp (ix2 r k) * w (ix2 j k) := by
  simp only [val_main_v19]
  pointwise

/-- The reference's inverse root. -/
theorem ref_root (r : Fin 4096) : val_main_v7 (F := Ideal) x (ix2 r 0) = Ideal.rsqrt (ms fun k => x (ix2 r k)) := by
  unfold ms
  simp only [val_main_v7, val_main_v6, val_main_v5, val_main_v4, val_main_v3, val_main_v2, val_main_v1, val_main_v0, val_main_cst, val_main_cst_0, val_main_cst_1]
  pointwise

/-- The reference's mean square. -/
theorem ref_ms (r : Fin 4096) : val_main_v6 (F := Ideal) x (ix2 r 0) = ms fun k => x (ix2 r k) := by
  unfold ms
  simp only [val_main_v6, val_main_v5, val_main_v4, val_main_v3, val_main_v2, val_main_v1, val_main_v0, val_main_cst, val_main_cst_0, val_main_cst_1]
  pointwise

/-- What the reference sends back through the square. -/
theorem ref_back (r : Fin 4096) : val_main_v34 (F := Ideal) x g w dp (ix2 r 0)
    = back (fun k => x (ix2 r k)) (fun k => val_main_v19 (F := Ideal) w dp (ix2 r k)) (fun k => g (ix1 k)) := by
  unfold back
  rw [← ref_root, ← ref_ms]
  simp only [val_main_v34, val_main_v33, val_main_v32, val_main_v28, val_main_v27, val_main_v26, val_main_v24, val_main_v23, val_main_v13, val_main_v10, val_main_v9, val_main_v8, val_main_cst_5, val_main_cst_2, val_main_cst_6]
  generalize val_main_v19 (F := Ideal) w dp = dn
  generalize val_main_v6 (F := Ideal) x = v6
  generalize val_main_v7 (F := Ideal) x = v7
  pointwise

/-- The reference's gradient of the rows. -/
theorem ref_dx (r : Fin 4096) (j : Fin 1024) : val_main_v40 (F := Ideal) x g w dy dp (ix2 r j)
    = gradR (fun k => x (ix2 r k)) (fun k => val_main_v19 (F := Ideal) w dp (ix2 r k)) (fun k => g (ix1 k)) (dy (ix2 r j)) j := by
  unfold gradR
  rw [← ref_back, ← ref_root]
  simp only [val_main_v40, val_main_v39, val_main_v38, val_main_v37, val_main_v36, val_main_v35, val_main_cst_7, val_main_v31, val_main_v30, val_main_v29, val_main_v24, val_main_v23, val_main_v13]
  generalize val_main_v19 (F := Ideal) w dp = dn
  generalize val_main_v34 (F := Ideal) x g w dp = v34
  generalize val_main_v7 (F := Ideal) x = v7
  pointwise
  simp only [Finset.univ_unique, Finset.sum_singleton]
  rfl

/-- The reference's gradient of the gain. -/
theorem ref_dg (i : S1x1024.Idx) : val_main_v42 (F := Ideal) x w dp i
    = ∑ r : Fin 4096, (x (ix2 r (i 1)) * Ideal.rsqrt (ms fun k => x (ix2 r k))) * val_main_v19 (F := Ideal) w dp (ix2 r (i 1)) := by
  simp only [← ref_root]
  simp only [val_main_v42, val_main_v25, val_main_v22, val_main_v21, val_main_v20, val_main_v12, val_main_v11, val_main_cst_3, val_main_cst_4]
  generalize val_main_v19 (F := Ideal) w dp = dn
  generalize val_main_v7 (F := Ideal) x = v7
  idx_vars i
  pointwise
  simp only [Finset.univ_unique, Finset.sum_singleton]

end reference

/-- The rows that are normed, the gain, the combined weight and the gradients that come in. -/
abbrev X : FVec Ideal S4096x1024 .f32 := m ((c : Thread nD τ).loc main_arg0)
abbrev G : FVec Ideal S1024 .f32 := m ((c : Thread nD τ).loc main_arg1)
abbrev W : FVec Ideal S1024x3232 .f32 := m ((c : Thread nD τ).loc main_arg2)
abbrev DY : FVec Ideal S4096x1024 .f32 := m ((c : Thread nD τ).loc main_arg3)
abbrev DP : FVec Ideal S4096x3232 .f32 := m ((c : Thread nD τ).loc main_arg4)

/-- The block every window shows at a step of the grid. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![0, 0] ∧ win0_9.index t = ![t.val, 0] ∧ win0_10.index t = ![0, 0]
    ∧ win0_11.index t = ![t.val, 0] ∧ win0_12.index t = ![t.val, 0] ∧ win0_13.index t = ![t.val, 0] ∧ win0_14.index t = ![0, 0] ∧ t.val < 8 :=
  (by decide +kernel : ∀ t : Fin grid0.N, _)

theorem rows (t : Fin cfg0.N) (r : Fin 512) : 512 * t.val + r.val < 4096 := by
  have : t.val < 8 := t.isLt
  omega

/-- Rows of the packed weight: the gates and the small projections. -/
theorem host_w (j : Fin 1024) :
    (∀ k : Fin 1024, (show FVec Ideal S3328x1024 .bf16 from V m c main_v20) (ix2 ⟨0 + k.val, by omega⟩ j) = W m c (ix2 j ⟨1184 + k.val, by omega⟩))
      ∧ (∀ k : Fin 1024, (show FVec Ideal S3328x1024 .bf16 from V m c main_v20) (ix2 ⟨1024 + k.val, by omega⟩ j) = W m c (ix2 j ⟨2208 + k.val, by omega⟩))
      ∧ (∀ k : Fin 256, (show FVec Ideal S3328x1024 .bf16 from V m c main_v20) (ix2 ⟨2560 + k.val, by omega⟩ j) = W m c (ix2 j ⟨768 + k.val, by omega⟩))
      ∧ (∀ k : Fin 128, (show FVec Ideal S3328x1024 .bf16 from V m c main_v20) (ix2 ⟨2816 + k.val, by omega⟩ j) = W m c (ix2 j ⟨512 + k.val, by omega⟩))
      ∧ (∀ k : Fin 128, (show FVec Ideal S3328x1024 .bf16 from V m c main_v20) (ix2 ⟨2944 + k.val, by omega⟩ j) = W m c (ix2 j ⟨640 + k.val, by omega⟩))
      ∧ (∀ k : Fin 128, (show FVec Ideal S3328x1024 .bf16 from V m c main_v20) (ix2 ⟨3072 + k.val, by omega⟩ j) = W m c (ix2 j ⟨1024 + k.val, by omega⟩)) := by
  simp only [V]
  after_reads_simp
  dsimp only [Matrix.cons_val]
  refine ⟨fun k => ?_, fun k => ?_, fun k => ?_, fun k => ?_, fun k => ?_, fun k => ?_⟩
  all_goals
    pointwise
    try simp (disch := omega) only [dif_pos, dif_neg]
    after_reads_simp
    pointwise
    try exact congrArg (fun z => W m c (ix2 j z)) (Fin.ext (by dsimp only; omega))

/-- Its rows of the rotary key, and the zeros behind them. -/
theorem host_wr (j : Fin 1024) (k : Fin 128) : (show FVec Ideal S3328x1024 .bf16 from V m c main_v20) (ix2 ⟨3200 + k.val, by omega⟩ j)
    = if h : k.val < 32 then W m c (ix2 j ⟨1152 + k.val, by omega⟩) else 0 := by
  simp only [V]
  after_reads_simp
  dsimp only [Matrix.cons_val]
  pointwise
  by_cases h : k.val < 32
  · simp (disch := omega) only [dif_pos, dif_neg, h]
    after_reads_simp
    pointwise
    exact congrArg (fun z => W m c (ix2 j z)) (Fin.ext (by dsimp only; omega))
  · simp (disch := omega) only [dif_pos, dif_neg, h]
    after_reads_simp
    pointwise

set_option maxHeartbeats 1000000 in
/-- Its rows of the window attention's heads, in their stored order. -/
theorem host_wq (j : Fin 1024) (k : Fin 512) : (show FVec Ideal S3328x1024 .bf16 from V m c main_v20) (ix2 ⟨2048 + k.val, by omega⟩ j)
    = W m c (ix2 j ⟨(col k).val, by omega⟩) := by
  simp only [V]
  after_reads_simp
  dsimp only [Matrix.cons_val]
  pointwise
  simp (disch := omega) only [dif_pos, dif_neg]
  after_reads_simp
  dsimp only [Matrix.cons_val]
  pointwise
  after_reads_simp
  pointwise
  split_ifs <;> exact congrArg (fun z => W m c (ix2 j z)) (Fin.ext (by simp only [col]; omega))

/-- The gradient that comes in, cut into the same pieces: those that keep their order. -/
theorem host_d (r : Fin 4096) :
    (∀ k : Fin 1024, (show FVec Ideal S4096x1024 .bf16 from V m c main_v28) (ix2 r k) = DP m c (ix2 r ⟨1184 + k.val, by omega⟩))
      ∧ (∀ k : Fin 1024, (show FVec Ideal S4096x1024 .bf16 from V m c main_v29) (ix2 r k) = DP m c (ix2 r ⟨2208 + k.val, by omega⟩))
      ∧ (∀ k : Fin 256, (show FVec Ideal S4096x256 .bf16 from V m c main_v25) (ix2 r k) = DP m c (ix2 r ⟨768 + k.val, by omega⟩))
      ∧ (∀ k : Fin 128, (show FVec Ideal S4096x128 .bf16 from V m c main_v23) (ix2 r k) = DP m c (ix2 r ⟨512 + k.val, by omega⟩))
      ∧ (∀ k : Fin 128, (show FVec Ideal S4096x128 .bf16 from V m c main_v24) (ix2 r k) = DP m c (ix2 r ⟨640 + k.val, by omega⟩))
      ∧ (∀ k : Fin 128, (show FVec Ideal S4096x128 .bf16 from V m c main_v26) (ix2 r k) = DP m c (ix2 r ⟨1024 + k.val, by omega⟩)) := by
  simp only [V]
  after_reads_simp
  refine ⟨fun k => ?_, fun k => ?_, fun k => ?_, fun k => ?_, fun k => ?_, fun k => ?_⟩ <;> pointwise

set_option maxHeartbeats 1000000 in
/-- The heads of the window attention in their stored order. -/
theorem host_dq (r : Fin 4096) (k : Fin 512) : (show FVec Ideal S4096x512 .bf16 from V m c main_v38) (ix2 r k) = DP m c (ix2 r ⟨(col k).val, by omega⟩) := by
  simp only [V]
  after_reads_simp
  dsimp only [Matrix.cons_val]
  pointwise
  after_reads_simp
  pointwise
  split_ifs <;> exact congrArg (fun z => DP m c (ix2 r z)) (Fin.ext (by simp only [col]; omega))

/-- The rotary key's piece, widened by zeros. -/
theorem host_dr (r : Fin 4096) (k : Fin 128) : (show FVec Ideal S4096x128 .bf16 from V m c main_v39) (ix2 r k)
    = if h : k.val < 32 then DP m c (ix2 r ⟨1152 + k.val, by omega⟩) else (FloatOps.sitofp (F := Ideal) .bf16 0#32 : EReal) := by
  simp only [V]
  after_reads_simp
  simp -implicitDefEqProofs only [StableHlo.TRef.toBuf, StableHlo.TRef.ofBuf, cast_cast, cast_eq]
  pointwise

/-- The arguments that the host passes on, and the gain that it lays out as a row. -/
theorem host : V m c main_arg0 = X m c ∧ V m c main_arg3 = DY m c ∧ ∀ j : Fin 1024, V m c main_v40 (ix2 0 j) = G m c (ix1 j) := by
  simp only [V]
  refine ⟨?_, ?_, fun j => ?_⟩ <;> after_reads_simp <;> first | rfl | pointwise

/-- A run of positions is its first part and the rest. -/
theorem split (g : ℕ → EReal) (o a b : ℕ) {n o' : ℕ} (hn : n = a + b) (ho : o' = o + a) :
    ∑ k : Fin n, g (o + k.val) = ∑ k : Fin a, g (o + k.val) + ∑ k : Fin b, g (o' + k.val) := by
  subst hn ho
  refine (Fin.sum_univ_add _).trans (congrArg (_ + ·) (Finset.sum_congr rfl fun k _ => ?_))
  exact congrArg g (by simp only [Fin.val_natAdd]; omega)

/-- A sum over the columns of the combined projection, piece by piece. -/
theorem sum_pieces (f : Fin 3232 → EReal) : ∑ k, f k = ∑ k : Fin 1024, f ⟨1184 + k.val, by omega⟩ + ∑ k : Fin 1024, f ⟨2208 + k.val, by omega⟩
    + ∑ k : Fin 512, f ⟨k.val, by omega⟩ + ∑ k : Fin 256, f ⟨768 + k.val, by omega⟩ + ∑ k : Fin 128, f ⟨512 + k.val, by omega⟩
    + ∑ k : Fin 128, f ⟨640 + k.val, by omega⟩ + ∑ k : Fin 128, f ⟨1024 + k.val, by omega⟩ + ∑ k : Fin 32, f ⟨1152 + k.val, by omega⟩ := by
  let g : ℕ → EReal := fun z => if h : z < 3232 then f ⟨z, h⟩ else 0
  have hg (z : ℕ) (h : z < 3232) : f ⟨z, h⟩ = g z := by simp only [g, dif_pos h]
  have h0 : ∑ k, f k = ∑ k : Fin 3232, g (0 + k.val) := Finset.sum_congr rfl fun k _ => by rw [Nat.zero_add]; exact hg k.val k.isLt
  have h1 : ∑ k : Fin 512, f ⟨k.val, by omega⟩ = ∑ k : Fin 512, g (0 + k.val) := Finset.sum_congr rfl fun k _ => by rw [Nat.zero_add]; exact hg k.val _
  rw [h0, h1]
  simp only [hg]
  rw [split g 0 512 2720 rfl rfl, split g _ 128 2592 rfl rfl, split g _ 128 2464 rfl rfl, split g _ 256 2208 rfl rfl, split g _ 128 2080 rfl rfl,
    split g _ 32 2048 rfl rfl, split g _ 1024 1024 rfl rfl]
  ac_rfl

/-- The stored order of the heads is a permutation of the columns. -/
theorem sum_col (f : Fin 512 → EReal) : ∑ k, f (col k) = ∑ k, f k := by
  have back (z : Fin 512) : (col z).val % 64 = z.val % 64 ∧ (col z).val / 64 % 4 = z.val / 128 ∧ (col z).val / 256 = z.val / 64 % 2 := by
    simp only [col]
    omega
  have hi : Function.Injective col := fun a b h => by
    have ha := back a
    have hb := back b
    rw [h] at ha
    exact Fin.ext (by omega)
  exact Fintype.sum_bijective col (Finite.injective_iff_bijective.mp hi) _ _ fun _ => rfl

/-- A sum of products whose factors are zeros beyond a place. -/
theorem sum_padded (f g : Fin 32 → EReal) : (∑ k : Fin 128, (if h : k.val < 32 then f ⟨k.val, h⟩ else (FloatOps.sitofp (F := Ideal) .bf16 0#32 : EReal))
    * (if h : k.val < 32 then g ⟨k.val, h⟩ else 0)) = ∑ k, f k * g k := by
  refine (Fin.sum_univ_add (a := 32) (b := 96) _).trans ?_
  have h0 : ∀ k : Fin 96, (if h : (Fin.natAdd 32 k).val < 32 then g ⟨(Fin.natAdd 32 k).val, h⟩ else 0) = 0 := fun k => dif_neg (by simp [Fin.natAdd])
  simp only [h0, mul_zero, Finset.sum_const_zero, add_zero]
  refine Finset.sum_congr rfl fun k _ => ?_
  have hk : (Fin.castAdd 96 k).val < 32 := k.isLt
  simp only [dif_pos hk]
  rfl

section reads

variable (t : Fin cfg0.N) (r : Fin 512) (h : 512 * t.val + r.val < 4096)

theorem read_w (k : Fin 3328) (j : Fin 1024) : (show FVec Ideal S3328x1024 .bf16 from iblk m c 8 t) (ix2 k j)
    = (show FVec Ideal S3328x1024 .bf16 from V m c main_v20) (ix2 k j) := by
  blk_ext [iblk, idx t]

set_option maxHeartbeats 1000000 in
/-- The blocks of the pieces are rows of the pieces. -/
theorem read_d :
    (∀ k : Fin 1024, (show FVec Ideal S512x1024 .bf16 from iblk m c 0 t) (ix2 r k) = (show FVec Ideal S4096x1024 .bf16 from V m c main_v28) (ix2 ⟨512 * t.val + r.val, h⟩ k))
      ∧ (∀ k : Fin 1024, (show FVec Ideal S512x1024 .bf16 from iblk m c 1 t) (ix2 r k) = (show FVec Ideal S4096x1024 .bf16 from V m c main_v29) (ix2 ⟨512 * t.val + r.val, h⟩ k))
      ∧ (∀ k : Fin 512, (show FVec Ideal S512x512 .bf16 from iblk m c 2 t) (ix2 r k) = (show FVec Ideal S4096x512 .bf16 from V m c main_v38) (ix2 ⟨512 * t.val + r.val, h⟩ k))
      ∧ (∀ k : Fin 256, (show FVec Ideal S512x256 .bf16 from iblk m c 3 t) (ix2 r k) = (show FVec Ideal S4096x256 .bf16 from V m c main_v25) (ix2 ⟨512 * t.val + r.val, h⟩ k))
      ∧ (∀ k : Fin 128, (show FVec Ideal S512x128 .bf16 from iblk m c 4 t) (ix2 r k) = (show FVec Ideal S4096x128 .bf16 from V m c main_v23) (ix2 ⟨512 * t.val + r.val, h⟩ k))
      ∧ (∀ k : Fin 128, (show FVec Ideal S512x128 .bf16 from iblk m c 5 t) (ix2 r k) = (show FVec Ideal S4096x128 .bf16 from V m c main_v24) (ix2 ⟨512 * t.val + r.val, h⟩ k))
      ∧ (∀ k : Fin 128, (show FVec Ideal S512x128 .bf16 from iblk m c 6 t) (ix2 r k) = (show FVec Ideal S4096x128 .bf16 from V m c main_v26) (ix2 ⟨512 * t.val + r.val, h⟩ k))
      ∧ (∀ k : Fin 128, (show FVec Ideal S512x128 .bf16 from iblk m c 7 t) (ix2 r k) = (show FVec Ideal S4096x128 .bf16 from V m c main_v39) (ix2 ⟨512 * t.val + r.val, h⟩ k)) := by
  refine ⟨fun k => ?_, fun k => ?_, fun k => ?_, fun k => ?_, fun k => ?_, fun k => ?_, fun k => ?_, fun k => ?_⟩ <;> blk_ext [iblk, idx t]

theorem read_x (j : Fin 1024) : (show FVec Ideal S512x1024 .f32 from iblk m c 9 t) (ix2 r j) = X m c (ix2 ⟨512 * t.val + r.val, h⟩ j) := by
  rw [← (host m c).1]
  blk_ext [iblk, idx t]

theorem read_g (j : Fin 1024) : (show FVec Ideal S1x1024 .f32 from iblk m c 10 t) (ix2 0 j) = G m c (ix1 j) := by
  rw [← (host m c).2.2 j]
  blk_ext [iblk, idx t]

theorem read_dy (j : Fin 1024) : (show FVec Ideal S512x1024 .f32 from iblk m c 11 t) (ix2 r j) = DY m c (ix2 ⟨512 * t.val + r.val, h⟩ j) := by
  rw [← (host m c).2.1]
  blk_ext [iblk, idx t]

open Cert.RDhIdeal.Read in
/-- A step's gradient of the normed rows is the reference's. -/
theorem dn_eq (j : Fin 1024) : dnT m c t (ix2 r j) = val_main_v19 (F := Ideal) (W m c) (DP m c) (ix2 ⟨512 * t.val + r.val, h⟩ j) := by
  obtain ⟨d0, d1, d2, d3, d4, d5, d6, d7⟩ := read_d m c t r h
  obtain ⟨e0, e1, e3, e4, e5, e6⟩ := host_d m c ⟨512 * t.val + r.val, h⟩
  obtain ⟨w0, w1, w3, w4, w5, w6⟩ := host_w m c j
  rw [ref_dn, sum_pieces, ← sum_col, ← sum_padded]
  exact congrArg₂ (· + ·) (congrArg₂ (· + ·) (congrArg₂ (· + ·) (congrArg₂ (· + ·) (congrArg₂ (· + ·) (congrArg₂ (· + ·) (congrArg₂ (· + ·)
    (Finset.sum_congr rfl fun k _ => congrArg₂ (· * ·) ((d0 k).trans (e0 k)) ((read_w m c t _ j).trans (w0 k)))
    (Finset.sum_congr rfl fun k _ => congrArg₂ (· * ·) ((d1 k).trans (e1 k)) ((read_w m c t _ j).trans (w1 k))))
    (Finset.sum_congr rfl fun k _ => congrArg₂ (· * ·) ((d2 k).trans (host_dq m c _ k)) ((read_w m c t _ j).trans (host_wq m c j k))))
    (Finset.sum_congr rfl fun k _ => congrArg₂ (· * ·) ((d3 k).trans (e3 k)) ((read_w m c t _ j).trans (w3 k))))
    (Finset.sum_congr rfl fun k _ => congrArg₂ (· * ·) ((d4 k).trans (e4 k)) ((read_w m c t _ j).trans (w4 k))))
    (Finset.sum_congr rfl fun k _ => congrArg₂ (· * ·) ((d5 k).trans (e5 k)) ((read_w m c t _ j).trans (w5 k))))
    (Finset.sum_congr rfl fun k _ => congrArg₂ (· * ·) ((d6 k).trans (e6 k)) ((read_w m c t _ j).trans (w6 k))))
    (Finset.sum_congr rfl fun k _ => congrArg₂ (· * ·) ((d7 k).trans (host_dr m c _ k)) ((read_w m c t _ j).trans (host_wr m c j k)))

open Cert.RDhIdeal.Read in
/-- A step's gradient of the rows is the reference's. -/
theorem dx_eq (j : Fin 1024) : k0_pay13 (F := Ideal) (iblk m c 9 t) (dnT m c t) (iblk m c 10 t) (iblk m c 11 t) (ix2 r j)
    = val_main_v40 (F := Ideal) (X m c) (G m c) (W m c) (DY m c) (DP m c) (ix2 ⟨512 * t.val + r.val, h⟩ j) := by
  rw [ref_dx, ← grad_eq]
  refine (dx_point _ _ _ _ r j).trans ?_
  have ex := funext (read_x m c t r h)
  have en := funext (dn_eq m c t r h)
  have eg := funext (read_g m c t)
  have ey := read_dy m c t r h j
  exact (congrArg (fun x => gradK x _ _ _ j) ex).trans ((congrArg (fun n => gradK _ n _ _ j) en).trans
    ((congrArg (fun g => gradK _ _ g _ j) eg).trans (congrArg (fun y => gradK _ _ _ y j) ey)))

end reads

open Cert.RDhIdeal.Read in
/-- The gradient of the rows. -/
theorem final_dx : (dats m 0 c).arrAt 12 cfg0.N = val_main_v40 (F := Ideal) (X m c) (G m c) (W m c) (DY m c) (DP m c) := by
  refine (dats m 0 c).arrAt_eq_of_covers 12 _ (by decide +kernel) fun t hf y => ?_
  rw [after0_12, (blocks m c t).1]
  obtain ⟨r, j, rfl⟩ : ∃ (r : Fin 512) (j : Fin 1024), y = ix2 r j := ⟨y 0, y 1, eq_ix2 y⟩
  refine (dx_eq m c t r (rows t r) j).trans ?_
  blk_ext [idx t]

open Cert.RDhIdeal.Read in
/-- Its narrow copy. -/
theorem final_dxb : (dats m 0 c).arrAt 13 cfg0.N = val_main_v41 (F := Ideal) (X m c) (G m c) (W m c) (DY m c) (DP m c) := by
  refine (dats m 0 c).arrAt_eq_of_covers 13 _ (by decide +kernel) fun t hf y => ?_
  rw [after0_13, (blocks m c t).2]
  obtain ⟨r, j, rfl⟩ : ∃ (r : Fin 512) (j : Fin 1024), y = ix2 r j := ⟨y 0, y 1, eq_ix2 y⟩
  refine Eq.trans (b := k0_pay13 (F := Ideal) (iblk m c 9 t) (dnT m c t) (iblk m c 10 t) (iblk m c 11 t) (ix2 r j)) rfl ((dx_eq m c t r (rows t r) j).trans ?_)
  show val_main_v40 (F := Ideal) (X m c) (G m c) (W m c) (DY m c) (DP m c) _ = val_main_v40 (F := Ideal) (X m c) (G m c) (W m c) (DY m c) (DP m c) _
  blk_ext [idx t]

/-- What the carried row holds at a column: the gradient of the gain from the rows so far. -/
theorem row (t : Fin cfg0.N) (i : S1x1024.Idx) : (outsAt0 m c t.val t.isLt).2.2 i = ∑ p ∈ Finset.Iic t, ∑ r : Fin 512,
    dnT m c p (ix2 r (i 1)) * ((show FVec Ideal S512x1024 .f32 from iblk m c 9 p) (ix2 r (i 1)) * Ideal.rsqrt (ms fun k => (show FVec Ideal S512x1024 .f32 from iblk m c 9 p) (ix2 r k))) := by
  have hzero (j) : k0_pay1 (F := Ideal) j = 0 := by pointwise [k0_pay1]
  unfold dnT
  simp only [← read_halves]
  unfold halves
  rw [Pipeline.eq_sum_fin_of_reset_step_apply_single (fun n h => (outsAt0 m c n h).2.2) 8 (fun _ => 0) _
    (fun t h j => by rw [outsAt0_A m c t h]; frame_out; rw [dg_point, hzero])
    (fun t h j => by rw [outsAt0_B m c t h]; frame_out; rw [dg_point])
    (le_of_eq N_0) t i, zero_add]

open Cert.RDhIdeal.Read in
/-- The gradient of the gain. -/
theorem final_dg : (dats m 0 c).arrAt 14 cfg0.N = val_main_v42 (F := Ideal) (X m c) (W m c) (DP m c) := by
  refine (dats m 0 c).arrAt_eq_of_after_last 14 t0_7 (by decide +kernel) _ fun i => ?_
  rw [after0_14, ref_dg]
  blk_simp
  rw [row m c t0_7, (by decide +kernel : Finset.Iic t0_7 = Finset.univ)]
  refine Fin.sum_mul_add_congr fun p r hl => ?_
  have h := rows p r
  have e : (⟨p.val * 512 + r.val, hl⟩ : Fin 4096) = ⟨512 * p.val + r.val, h⟩ := Fin.ext (by dsimp only; omega)
  rw [e, mul_comm]
  have ex := funext (read_x m c p r h)
  exact congrArg₂ (· * ·) (congrArg₂ (fun a x => a * Ideal.rsqrt (ms x)) (read_x m c p r h (i 1)) ex) (dn_eq m c p r h (i 1))

end Cert.Dh
-- ==== Proof.MixValue.lean ====
/- The forward kernel that merges the two mixers computes the two branches and the merged rows. -/
module

public import proofs.«01_k».proof.Proof.Gen.KMixIdeal.Value
public import proofs.«01_k».proof.Proof.Gen.RMixIdeal.Read
public import proofs.«01_k».proof.Proof.MergeValue
public import proofs.«01_k».proof.Proof.DhValue

@[expose] public section

set_option maxRecDepth 16384

noncomputable section

namespace Cert.Mix

open Cert.KMixIdeal Cert.KMixIdeal.Gen Idealize.ShloMosaic Idealize.ShloMosaic.TcCoe Idealize.SL.Sem Cert.Sigmoid
open Cert.Merge (col ladder)
open Cert.Dh (sum_col)
open Idealize.ShloMosaic.Pipeline (Dat)

section block

variable (x0 : FVec Ideal S512x512 .bf16) (x1 : FVec Ideal S512x1024 .bf16) (g2 g3 : FVec Ideal S512x1024 .f32)
  (x4 : FVec Ideal S1024x512 .bf16) (x5 : FVec Ideal S1024x1024 .bf16) (r : Fin 512) (j : Fin 1024)

/-- The first branch that a step's blocks give. -/
def yaB : EReal := ∑ k : Fin 512, x0 (ix2 r k) * x4 (ix2 j k)

/-- The second branch. -/
def ybB : EReal := ∑ k : Fin 1024, x1 (ix2 r k) * x5 (ix2 j k)

/-- The merged rows: each branch times its gate. -/
def mgB : EReal := viaTanh (g2 (ix2 r j)) * yaB x0 x4 r j + viaTanh (g3 (ix2 r j)) * ybB x1 x5 r j

end block

variable (m : (ℓ : Loc nD τ sig) → Buf (Elt Ideal) ℓ) (c : Dev nD)

/-- A step's branches. -/
abbrev yaT (t : Fin cfg0.N) : Fin 512 → Fin 1024 → EReal := yaB (iblk m c 0 t) (iblk m c 4 t)
abbrev ybT (t : Fin cfg0.N) : Fin 512 → Fin 1024 → EReal := ybB (iblk m c 1 t) (iblk m c 5 t)

/-- What a step leaves of the merged rows. -/
theorem point_mg (t : Fin cfg0.N) (y : S512x1024.Idx) : (outsAt0 m c t).1 y
    = mgB (iblk m c 0 t) (iblk m c 1 t) (X0_2 m c t) (X0_3 m c t) (iblk m c 4 t) (iblk m c 5 t) (y 0) (y 1) := by
  unfold outsAt0
  frame_out
  generalize X0_2 m c t = x2
  generalize X0_3 m c t = x3
  canon_tiles z h
  all_goals
    idx_vars z
    idx_vars y
    unfold_payloads
    unfold mgB yaB ybB viaTanh
    pointwise [View.ld_apply]
    obtain ⟨y0, hy0⟩ := y0
    obtain ⟨y1, hy1⟩ := y1
    dsimp only at h0 h1
    subst h0 h1
    rfl

/-- What a step leaves of the first branch. -/
theorem point_ya (t : Fin cfg0.N) (y : S512x1024.Idx) : (outsAt0 m c t).2.1 y = yaT m c t (y 0) (y 1) := by
  unfold outsAt0
  frame_out
  canon_tiles z h
  all_goals
    idx_vars z
    idx_vars y
    unfold_payloads
    unfold yaT yaB
    pointwise [View.ld_apply]
    obtain ⟨y0, hy0⟩ := y0
    obtain ⟨y1, hy1⟩ := y1
    dsimp only at h0 h1
    subst h0 h1
    rfl

/-- What a step leaves of the second branch. -/
theorem point_yb (t : Fin cfg0.N) (y : S512x1024.Idx) : (outsAt0 m c t).2.2 y = ybT m c t (y 0) (y 1) := by
  unfold outsAt0
  frame_out
  canon_tiles z h
  all_goals
    idx_vars z
    idx_vars y
    unfold_payloads
    unfold ybT ybB
    pointwise [View.ld_apply]
    obtain ⟨y0, hy0⟩ := y0
    obtain ⟨y1, hy1⟩ := y1
    dsimp only at h0 h1
    subst h0 h1
    rfl

section host

/-- The first mixer's heads. -/
abbrev OA : FVec Ideal S4096x512 .f32 := m ((c.tc : Thread nD τ).loc main_arg0)
/-- The second mixer's heads. -/
abbrev OB : FVec Ideal S4096x512 .f32 := m ((c.tc : Thread nD τ).loc main_arg1)
/-- The projection that holds the gates. -/
abbrev PR : FVec Ideal S2x2048x3232 .f32 := m ((c.tc : Thread nD τ).loc main_arg2)
/-- The first branch's weight. -/
abbrev WA : FVec Ideal S512x1024 .f32 := m ((c.tc : Thread nD τ).loc main_arg3)
/-- The second branch's weight. -/
abbrev WB : FVec Ideal S512x1024 .f32 := m ((c.tc : Thread nD τ).loc main_arg4)

/-- What stands at position `j` of a row of eight heads, each padded by zeros to twice its width. -/
def padded (f : Fin 512 → EReal) (j : Fin 1024) : EReal :=
  if h : j.val / 128 < 8 ∧ j.val % 128 < 64 then f ⟨j.val / 128 * 64 + j.val % 128, by omega⟩ else (FloatOps.sitofp (F := Ideal) .f32 0#32 : EReal)

/-- The padding's zeros add nothing to a sum of products. -/
theorem sum_padded (f g : Fin 512 → EReal) : ∑ j, padded f j * padded g j = ∑ k, f k * g k := by
  have h0 : (FloatOps.sitofp (F := Ideal) .f32 0#32 : EReal) = 0 := by
    show ((((0#32 : BitVec 32).toInt : ℤ) : ℝ) : EReal) = 0
    simp
  have hi : Function.Injective (fun k : Fin 512 => (⟨k.val / 64 * 128 + k.val % 64, by omega⟩ : Fin 1024)) := fun a b h => by
    have := congrArg Fin.val h
    dsimp only at this
    exact Fin.ext (by omega)
  refine (Fintype.sum_of_injective _ hi _ _ (fun j hj => ?_) fun k => ?_).symm
  · have hn : ¬(j.val / 128 < 8 ∧ j.val % 128 < 64) := fun h => hj ⟨⟨j.val / 128 * 64 + j.val % 128, by omega⟩, Fin.ext (by dsimp only; omega)⟩
    unfold padded
    simp only [dif_neg hn, h0, mul_zero]
  · have hp : (k.val / 64 * 128 + k.val % 64) / 128 < 8 ∧ (k.val / 64 * 128 + k.val % 64) % 128 < 64 := by omega
    have hk : (⟨(k.val / 64 * 128 + k.val % 64) / 128 * 64 + (k.val / 64 * 128 + k.val % 64) % 128, by omega⟩ : Fin 512) = k := Fin.ext (by dsimp only; omega)
    unfold padded
    simp only [dif_pos hp, hk]

/-- The first branch's stored weight is the transposed weight with its columns in the stored order. -/
theorem host_wa (k : Fin 1024) (j : Fin 512) : (show FVec Ideal S1024x512 .bf16 from V m c main_v10) (ix2 k j) = WA m c (ix2 (col j) k) := by
  simp only [V]
  after_reads_simp
  dsimp only [Matrix.cons_val]
  pointwise
  after_reads_simp
  pointwise
  exact ladder (fun z => WA m c (ix2 z k)) j

/-- The first mixer's heads are stored in that order too. -/
theorem host_oa (r : Fin 4096) (j : Fin 512) : (show FVec Ideal S4096x512 .bf16 from V m c main_v25) (ix2 r j) = OA m c (ix2 r (col j)) := by
  simp only [V]
  after_reads_simp
  dsimp only [Matrix.cons_val]
  pointwise
  after_reads_simp
  pointwise
  exact ladder (fun z => OA m c (ix2 r z)) j

/-- The second branch's stored weight is the transposed weight with each head padded by zeros. -/
theorem host_wb (k : Fin 1024) (j : Fin 1024) : (show FVec Ideal S1024x1024 .bf16 from V m c main_v15) (ix2 k j) = padded (fun z => WB m c (ix2 z k)) j := by
  unfold padded
  simp only [V]
  after_reads_simp
  simp -implicitDefEqProofs only [StableHlo.TRef.toBuf, StableHlo.TRef.ofBuf, cast_cast, cast_eq]
  pointwise

/-- The second mixer's heads are padded likewise. -/
theorem host_ob (r : Fin 4096) (j : Fin 1024) : (show FVec Ideal S4096x1024 .bf16 from V m c main_v29) (ix2 r j) = padded (fun z => OB m c (ix2 r z)) j := by
  unfold padded
  have hr : (⟨r.val / 2048 * 2048 + r.val % 2048, by omega⟩ : Fin 4096) = r := Fin.ext (by dsimp only; omega)
  simp only [V]
  after_reads_simp
  simp -implicitDefEqProofs only [StableHlo.TRef.toBuf, StableHlo.TRef.ofBuf, cast_cast, cast_eq]
  pointwise
  by_cases h : j.val / 128 < 8 ∧ j.val % 128 < 64
  · simp (disch := omega) only [dif_pos, hr]
  · simp (disch := omega) only [dif_neg]

/-- The packed projection's first columns are the first gate. -/
theorem host_ga (r : Fin 4096) (j : Fin 1024) (h : j.val < 3328) (h' : 1184 + j.val < 3232) :
    (show FVec Ideal S4096x3328 .f32 from V m c main_v51) (ix2 r ⟨j.val, h⟩)
      = PR m c (ix3 ⟨r.val / 2048, by omega⟩ ⟨r.val % 2048, by omega⟩ ⟨1184 + j.val, h'⟩) := by
  simp only [V]
  after_reads_simp
  dsimp only [Matrix.cons_val]
  pointwise
  after_reads_simp
  pointwise

/-- Its next columns are the second gate. -/
theorem host_gb (r : Fin 4096) (j : Fin 1024) (h : 1024 + j.val < 3328) (h' : 2208 + j.val < 3232) :
    (show FVec Ideal S4096x3328 .f32 from V m c main_v51) (ix2 r ⟨1024 + j.val, h⟩)
      = PR m c (ix3 ⟨r.val / 2048, by omega⟩ ⟨r.val % 2048, by omega⟩ ⟨2208 + j.val, h'⟩) := by
  simp only [V]
  after_reads_simp
  dsimp only [Matrix.cons_val]
  pointwise
  after_reads_simp
  pointwise

end host

section steps

/-- The blocks each step reads and writes. -/
theorem idx : ∀ t : Fin cfg0.N, win0_0.index t = ![t.val, 0] ∧ win0_1.index t = ![t.val, 0] ∧ win0_2.index t = ![t.val, 0]
    ∧ win0_3.index t = ![t.val, 1] ∧ win0_4.index t = ![0, 0] ∧ win0_5.index t = ![0, 0] ∧ win0_6.index t = ![t.val, 0]
    ∧ win0_7.index t = ![t.val, 0] ∧ win0_8.index t = ![t.val, 0] :=
  (by decide +kernel : ∀ t : Fin grid0.N, _)

variable (t : Fin cfg0.N)

/-- Every step reads the whole stored weight. -/
theorem at_wa (k : Fin 1024) (j : Fin 512) : (show FVec Ideal S1024x512 .bf16 from iblk m c 4 t) (ix2 k j) = WA m c (ix2 (col j) k) := by
  rw [← host_wa]
  blk_ext [iblk, idx t]

/-- Every step reads the whole padded weight. -/
theorem at_wb (k : Fin 1024) (j : Fin 1024) : (show FVec Ideal S1024x1024 .bf16 from iblk m c 5 t) (ix2 k j) = padded (fun z => WB m c (ix2 z k)) j := by
  rw [← host_wb]
  blk_ext [iblk, idx t]

variable (r : Fin 512) (hr : 512 * t.val + r.val < 4096)

/-- A step's rows of the first mixer's heads. -/
theorem at_oa (j : Fin 512) : (show FVec Ideal S512x512 .bf16 from iblk m c 0 t) (ix2 r j) = OA m c (ix2 ⟨512 * t.val + r.val, hr⟩ (col j)) := by
  rw [← host_oa]
  blk_ext [iblk, idx t]

/-- A step's rows of the second mixer's heads. -/
theorem at_ob (j : Fin 1024) : (show FVec Ideal S512x1024 .bf16 from iblk m c 1 t) (ix2 r j) = padded (fun z => OB m c (ix2 ⟨512 * t.val + r.val, hr⟩ z)) j := by
  rw [← host_ob]
  blk_ext [iblk, idx t]

/-- A step's block of the first gate. -/
theorem at_ga (j : Fin 1024) (h' : 1184 + j.val < 3232) : X0_2 m c t (ix2 r j)
    = PR m c (ix3 ⟨(512 * t.val + r.val) / 2048, by omega⟩ ⟨(512 * t.val + r.val) % 2048, by omega⟩ ⟨1184 + j.val, h'⟩) := by
  rw [← host_ga m c ⟨512 * t.val + r.val, hr⟩ j (by omega) h']
  unfold X0_2 Pipeline.Window.fill
  simp only [moved0_2 t (ix2 r j), dif_pos]
  blk_ext [iblk, idx t]

/-- A step's block of the second gate. -/
theorem at_gb (j : Fin 1024) (h' : 2208 + j.val < 3232) : X0_3 m c t (ix2 r j)
    = PR m c (ix3 ⟨(512 * t.val + r.val) / 2048, by omega⟩ ⟨(512 * t.val + r.val) % 2048, by omega⟩ ⟨2208 + j.val, h'⟩) := by
  rw [← host_gb m c ⟨512 * t.val + r.val, hr⟩ j (by omega) h']
  unfold X0_3 Pipeline.Window.fill
  simp only [moved0_3 t (ix2 r j), dif_pos]
  blk_ext [iblk, idx t]

end steps

section reference

variable (x0 x1 : FVec Ideal S4096x512 .f32) (x2 : FVec Ideal S2x2048x3232 .f32) (x3 x4 : FVec Ideal S512x1024 .f32)

open Cert.RMixIdeal.Read

/-- The reference's first branch, at an entry. -/
theorem read_ya (r : Fin 4096) (j : Fin 1024) : val_main_v3 (F := Ideal) x0 x3 (ix2 r j) = ∑ k : Fin 512, x0 (ix2 r k) * x3 (ix2 k j) := by
  simp only [val_main_v3]
  pointwise

/-- The reference's second branch, at an entry. -/
theorem read_yb (r : Fin 4096) (j : Fin 1024) : val_main_v4 (F := Ideal) x1 x4 (ix2 r j) = ∑ k : Fin 512, x1 (ix2 r k) * x4 (ix2 k j) := by
  simp only [val_main_v4]
  pointwise

/-- The reference's first gate, at an entry. -/
theorem read_ga (r : Fin 4096) (j : Fin 1024) : val_main_v10 (F := Ideal) x2 (ix2 r j)
    = viaExp (x2 (ix3 ⟨r.val / 2048, by omega⟩ ⟨r.val % 2048, by omega⟩ ⟨1184 + j.val, by omega⟩)) := by
  simp only [val_main_v10, val_main_v9, val_main_v8, val_main_v7, val_main_v6, val_main_v5, val_main_v1, val_main_v0, val_main_cst, val_main_cst_0]
  unfold viaExp
  pointwise

/-- The reference's second gate, at an entry. -/
theorem read_gb (r : Fin 4096) (j : Fin 1024) : val_main_v17 (F := Ideal) x2 (ix2 r j)
    = viaExp (x2 (ix3 ⟨r.val / 2048, by omega⟩ ⟨r.val % 2048, by omega⟩ ⟨2208 + j.val, by omega⟩)) := by
  simp only [val_main_v17, val_main_v16, val_main_v15, val_main_v14, val_main_v13, val_main_v12, val_main_v2, val_main_v0, val_main_cst_1, val_main_cst_2]
  unfold viaExp
  pointwise

end reference

section finals

open Cert.RMixIdeal.Read

/-- The rows of a step are rows of the array. -/
theorem rows (t : Fin cfg0.N) (r : Fin 512) : 512 * t.val + r.val < 4096 := by
  have : t.val < 8 := t.isLt
  omega

variable (t : Fin cfg0.N) (r : Fin 512) (hr : 512 * t.val + r.val < 4096) (j : Fin 1024)

/-- A step's first branch is the reference's rows: the sum over the stored order is the sum over the columns. -/
theorem ya_eq : yaT m c t r j = val_main_v3 (F := Ideal) (OA m c) (WA m c) (ix2 ⟨512 * t.val + r.val, hr⟩ j) := by
  rw [read_ya, ← sum_col]
  exact Finset.sum_congr rfl fun k _ => congrArg₂ (· * ·) (at_oa m c t r hr k) (at_wa m c t j k)

/-- A step's second branch is the reference's rows. -/
theorem yb_eq : ybT m c t r j = val_main_v4 (F := Ideal) (OB m c) (WB m c) (ix2 ⟨512 * t.val + r.val, hr⟩ j) := by
  rw [read_yb, ← sum_padded]
  exact Finset.sum_congr rfl fun k _ => congrArg₂ (· * ·) (at_ob m c t r hr k) (at_wb m c t j k)

/-- A step's merged rows are the reference's. -/
theorem mg_eq : mgB (iblk m c 0 t) (iblk m c 1 t) (X0_2 m c t) (X0_3 m c t) (iblk m c 4 t) (iblk m c 5 t) r j
    = val_main_v19 (F := Ideal) (OA m c) (OB m c) (PR m c) (WA m c) (WB m c) (ix2 ⟨512 * t.val + r.val, hr⟩ j) := by
  rw [val_main_v19_apply, val_main_v11_apply, val_main_v18_apply, read_ga, read_gb, ← ya_eq, ← yb_eq]
  unfold mgB
  rw [at_ga m c t r hr j (by omega), at_gb m c t r hr j (by omega), viaTanh_eq, viaExp_eq, viaTanh_eq, viaExp_eq]
  rfl

end finals

open Cert.RMixIdeal.Read in
/-- The merged rows. -/
theorem final_mg : (dats m 0 c).arrAt 6 cfg0.N = val_main_v20 (F := Ideal) (OA m c) (OB m c) (PR m c) (WA m c) (WB m c) := by
  refine (dats m 0 c).arrAt_eq_of_covers 6 _ (by decide +kernel) fun t hf y => ?_
  rw [after0_6, point_mg]
  obtain ⟨r, j, rfl⟩ : ∃ (r : Fin 512) (j : Fin 1024), y = ix2 r j := ⟨y 0, y 1, eq_ix2 y⟩
  refine (mg_eq m c t r (rows t r) j).trans ?_
  show _ = val_main_v19 (F := Ideal) (OA m c) (OB m c) (PR m c) (WA m c) (WB m c) _
  blk_ext [idx t]

open Cert.RMixIdeal.Read in
/-- The first branch. -/
theorem final_ya : (dats m 0 c).arrAt 7 cfg0.N = val_main_v21 (F := Ideal) (OA m c) (WA m c) := by
  refine (dats m 0 c).arrAt_eq_of_covers 7 _ (by decide +kernel) fun t hf y => ?_
  rw [after0_7, point_ya]
  obtain ⟨r, j, rfl⟩ : ∃ (r : Fin 512) (j : Fin 1024), y = ix2 r j := ⟨y 0, y 1, eq_ix2 y⟩
  refine (ya_eq m c t r (rows t r) j).trans ?_
  show _ = val_main_v3 (F := Ideal) (OA m c) (WA m c) _
  blk_ext [idx t]

open Cert.RMixIdeal.Read in
/-- The second branch. -/
theorem final_yb : (dats m 0 c).arrAt 8 cfg0.N = val_main_v22 (F := Ideal) (OB m c) (WB m c) := by
  refine (dats m 0 c).arrAt_eq_of_covers 8 _ (by decide +kernel) fun t hf y => ?_
  rw [after0_8, point_yb]
  obtain ⟨r, j, rfl⟩ : ∃ (r : Fin 512) (j : Fin 1024), y = ix2 r j := ⟨y 0, y 1, eq_ix2 y⟩
  refine (yb_eq m c t r (rows t r) j).trans ?_
  show _ = val_main_v4 (F := Ideal) (OB m c) (WB m c) _
  blk_ext [idx t]

end Cert.Mix
-- ==== Proof.ProjValue.lean ====
/- The forward kernel of a norm under the mixers' projection computes the normed rows and the projection with its columns packed. -/
module

public import proofs.«01_k».proof.Proof.Gen.KProjIdeal.Value
public import proofs.«01_k».proof.Proof.Gen.RProjIdeal.Read
public import proofs.«01_k».proof.Proof.MergeValue
public import proofs.«01_k».proof.Proof.UpValue

@[expose] public section

set_option maxRecDepth 16384

noncomputable section

namespace Cert.Packed

open Cert.KProjIdeal Cert.KProjIdeal.Gen Idealize.ShloMosaic Idealize.ShloMosaic.TcCoe Idealize.SL.Sem
open Cert.Norm (ms)
open Cert.Up (normed prod)
open Cert.Merge (col)
open Idealize.ShloMosaic.Pipeline (Dat)

/-- A row of the projection with its columns packed: the two gates, the window attention's heads in their stored order,
    the other pieces one after the other, and zeros behind the rotary key. -/
def pack (f : Fin 3232 → EReal) (j : Fin 3328) : EReal :=
  if h : j.val < 1024 then f ⟨1184 + j.val, by omega⟩
  else if h : j.val < 2048 then f ⟨2208 + (j.val - 1024), by omega⟩
  else if h : j.val < 2560 then f (Fin.castLE (by omega) (col ⟨j.val - 2048, by omega⟩))
  else if h : j.val < 2816 then f ⟨768 + (j.val - 2560), by omega⟩
  else if h : j.val < 2944 then f ⟨512 + (j.val - 2816), by omega⟩
  else if h : j.val < 3072 then f ⟨640 + (j.val - 2944), by omega⟩
  else if h : j.val < 3200 then f ⟨1024 + (j.val - 3072), by omega⟩
  else if h : j.val < 3232 then f ⟨1152 + (j.val - 3200), by omega⟩
  else 0

/-- A normed row times the packed columns is the packed row of the products. -/
theorem prod_pack (x g : Fin 1024 → EReal) (w : Fin 1024 → Fin 3232 → EReal) (j : Fin 3328) :
    prod x g (fun k => pack (w k) j) = pack (fun z => prod x g fun k => w k z) j := by
  unfold pack prod
  split_ifs
  all_goals first | rfl | simp only [mul_zero, Finset.sum_const_zero]

variable (m : (ℓ : Loc nD τ sig) → Buf (Elt Ideal) ℓ) (c : Dev nD)

/-- A row of a step. -/
abbrev rowT (t : Fin cfg0.N) (r : Fin 512) : Fin 1024 → EReal := fun k => (show FVec Ideal S512x1024 .f32 from iblk m c 0 t) (ix2 r k)
/-- The gain of a step. -/
abbrev gainT (t : Fin cfg0.N) : Fin 1024 → EReal := fun k => (show FVec Ideal S1x1024 .f32 from iblk m c 1 t) (ix2 0 k)

/-- What a step leaves of the normed rows. -/
theorem point_n (t : Fin cfg0.N) (y : S512x1024.Idx) : (outsAt0 m c t).1 y = normed (rowT m c t (y 0)) (gainT m c t) (y 1) := by
  unfold outsAt0
  frame_out
  idx_vars y
  unfold_payloads
  unfold rowT gainT normed ms
  pointwise [View.ld_apply]

/-- What a step leaves of the packed projection. -/
theorem point_p (t : Fin cfg0.N) (y : S512x3328.Idx) : (outsAt0 m c t).2 y
    = prod (rowT m c t (y 0)) (gainT m c t) fun k => (show FVec Ideal S3328x1024 .bf16 from iblk m c 2 t) (ix2 (y 1) k) := by
  unfold outsAt0
  frame_out
  canon_tiles z h using View.cover_of_tiledBy _ ![512, 256] (by sl_kernel_rfl) y
  all_goals
    idx_vars z
    idx_vars y
    unfold_payloads
    unfold rowT gainT prod normed ms
    pointwise [View.ld_apply]
    obtain ⟨y0, hy0⟩ := y0
    obtain ⟨y1, hy1⟩ := y1
    dsimp only at h0 h1
    subst h0 h1
    rfl

section host

/-- The rows that are normed. -/
abbrev X : FVec Ideal S4096x1024 .f32 := m ((c.tc : Thread nD τ).loc main_arg0)
/-- The gain. -/
abbrev G : FVec Ideal S1024 .f32 := m ((c.tc : Thread nD τ).loc main_arg1)
/-- The projection's weight. -/
abbrev W : FVec Ideal S1024x3232 .f32 := m ((c.tc : Thread nD τ).loc main_arg2)

/-- The rows that the host passes on. -/
theorem host_x : V m c main_arg0 = X m c := V_main_arg0 m c

/-- The gain that the host lays out as a row. -/
theorem host_g (j : Fin 1024) : V m c main_v0 (ix2 0 j) = G m c (ix1 j) := by
  entry_read
  pointwise

set_option maxHeartbeats 2000000 in
/-- The weight that the host turns over and packs. -/
theorem host_w (k : Fin 1024) (j : Fin 3328) : (show FVec Ideal S3328x1024 .bf16 from V m c main_v21) (ix2 j k) = pack (fun z => W m c (ix2 k z)) j := by
  unfold pack
  simp only [V]
  after_reads_simp
  dsimp only [Matrix.cons_val]
  pointwise
  by_cases h2 : 2048 ≤ j.val ∧ j.val < 2560
  · simp (disch := omega) only [dif_pos, dif_neg]
    after_reads_simp
    dsimp only [Matrix.cons_val]
    pointwise
    after_reads_simp
    pointwise
    split_ifs <;> exact congrArg (fun z => W m c (ix2 k z)) (Fin.ext (by simp only [col, Fin.val_castLE]; omega))
  by_cases h8 : 3232 ≤ j.val
  · simp (disch := omega) only [dif_pos, dif_neg]
    after_reads_simp
    pointwise
  have cases : j.val < 1024 ∨ (1024 ≤ j.val ∧ j.val < 2048) ∨ (2560 ≤ j.val ∧ j.val < 2816) ∨ (2816 ≤ j.val ∧ j.val < 2944)
      ∨ (2944 ≤ j.val ∧ j.val < 3072) ∨ (3072 ≤ j.val ∧ j.val < 3200) ∨ (3200 ≤ j.val ∧ j.val < 3232) := by omega
  rcases cases with h | h | h | h | h | h | h
  all_goals
    simp (disch := omega) only [dif_pos, dif_neg]
    after_reads_simp
    pointwise
    try exact congrArg (fun z => W m c (ix2 k z)) (Fin.ext (by dsimp only; omega))

end host

/-- The block every window shows at a step of the grid. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ t.val < 8 :=
  (by decide +kernel : ∀ t : Fin grid0.N, _)

section reads

variable (t : Fin cfg0.N) (r : Fin 512) (h : 512 * t.val + r.val < 4096)

/-- A step's rows. -/
theorem read_x (j : Fin 1024) : (show FVec Ideal S512x1024 .f32 from iblk m c 0 t) (ix2 r j) = X m c (ix2 ⟨512 * t.val + r.val, h⟩ j) := by
  rw [← host_x m c]
  blk_ext [iblk, idx t]

/-- The gain, whole at every step. -/
theorem read_g (j : Fin 1024) : (show FVec Ideal S1x1024 .f32 from iblk m c 1 t) (ix2 0 j) = G m c (ix1 j) := by
  rw [← host_g m c j]
  blk_ext [iblk, idx t]

/-- The packed weight, whole at every step. -/
theorem read_w (j : Fin 3328) (k : Fin 1024) : (show FVec Ideal S3328x1024 .bf16 from iblk m c 2 t) (ix2 j k) = pack (fun z => W m c (ix2 k z)) j := by
  rw [← host_w m c k j]
  blk_ext [iblk, idx t]

end reads

section reference

open Cert.RProjIdeal.Read

variable (x : FVec Ideal S4096x1024 .f32) (g : FVec Ideal S1024 .f32) (w : FVec Ideal S1024x3232 .f32)

/-- The reference's normed rows. -/
theorem ref_n (r : Fin 4096) (k : Fin 1024) : val_main_v12 (F := Ideal) x g (ix2 r k) = normed (fun k => x (ix2 r k)) (fun k => g (ix1 k)) k := by
  unfold normed ms
  simp only [val_main_v12, val_main_v11, val_main_v10, val_main_v9, val_main_v8, val_main_v7, val_main_v6, val_main_v5, val_main_v4, val_main_v3, val_main_v2, val_main_v1, val_main_v0, val_main_cst, val_main_cst_0, val_main_cst_1]
  pointwise

/-- The reference's projection in its own order. -/
theorem ref_p (r : Fin 4096) (j : Fin 3232) : val_main_v13 (F := Ideal) x g w (ix2 r j)
    = prod (fun k => x (ix2 r k)) (fun k => g (ix1 k)) (fun k => w (ix2 k j)) := by
  unfold prod
  simp only [← ref_n]
  simp only [val_main_v13]
  generalize val_main_v12 (F := Ideal) x g = n
  pointwise

set_option maxHeartbeats 2000000 in
/-- The reference's packed projection. -/
theorem ref_pack (r : Fin 4096) (j : Fin 3328) : val_main_v25 (F := Ideal) x g w (ix2 r j) = pack (fun z => val_main_v13 (F := Ideal) x g w (ix2 r z)) j := by
  have zero : (FloatOps.sitofp (F := Ideal) .f32 0#32 : EReal) = 0 := by
    show ((((0#32 : BitVec 32).toInt : ℤ) : ℝ) : EReal) = 0
    simp
  unfold pack
  simp only [val_main_v25]
  pointwise
  have cases : j.val < 1024 ∨ (1024 ≤ j.val ∧ j.val < 2048) ∨ (2048 ≤ j.val ∧ j.val < 2560) ∨ (2560 ≤ j.val ∧ j.val < 2816) ∨ (2816 ≤ j.val ∧ j.val < 2944)
      ∨ (2944 ≤ j.val ∧ j.val < 3072) ∨ (3072 ≤ j.val ∧ j.val < 3200) ∨ (3200 ≤ j.val ∧ j.val < 3232) ∨ 3232 ≤ j.val := by omega
  rcases cases with h | h | h | h | h | h | h | h | h
  all_goals
    simp (disch := omega) only [dif_pos, dif_neg, val_main_v24, val_main_v23, val_main_v22, val_main_v21, val_main_v19, val_main_v18, val_main_v17, val_main_v16, val_main_v15, val_main_v14, val_main_call0_v0, val_main_c]
    generalize val_main_v13 (F := Ideal) x g w = n
    pointwise
    try simp (disch := omega) only [dif_pos, dif_neg, zero]
    try exact congrArg (fun z => n (ix2 r z)) (Fin.ext (by simp only [col, Fin.val_castLE] <;> omega))

end reference

open Cert.RProjIdeal.Read in
/-- The normed rows. -/
theorem final_n : (dats m 0 c).arrAt 3 cfg0.N = val_main_v20 (F := Ideal) (X m c) (G m c) := by
  refine (dats m 0 c).arrAt_eq_of_covers 3 _ (by decide +kernel) fun t hf y => ?_
  rw [after0_3, point_n]
  obtain ⟨r, j, rfl⟩ : ∃ (r : Fin 512) (j : Fin 1024), y = ix2 r j := ⟨y 0, y 1, eq_ix2 y⟩
  have ht := (idx t).2.2.2.2.2
  have h : 512 * t.val + r.val < 4096 := by omega
  refine Eq.trans (b := val_main_v12 (F := Ideal) (X m c) (G m c) (ix2 ⟨512 * t.val + r.val, h⟩ j)) ?_ ?_
  · rw [ref_n, ← funext (read_x m c t r h), ← funext (read_g m c t)]
    rfl
  · show val_main_v12 (F := Ideal) (X m c) (G m c) _ = val_main_v12 (F := Ideal) (X m c) (G m c) _
    blk_ext [idx t]

open Cert.RProjIdeal.Read in
/-- The packed projection. -/
theorem final_p : (dats m 0 c).arrAt 4 cfg0.N = val_main_v25 (F := Ideal) (X m c) (G m c) (W m c) := by
  refine (dats m 0 c).arrAt_eq_of_covers 4 _ (by decide +kernel) fun t hf y => ?_
  rw [after0_4, point_p]
  obtain ⟨r, j, rfl⟩ : ∃ (r : Fin 512) (j : Fin 3328), y = ix2 r j := ⟨y 0, y 1, eq_ix2 y⟩
  have ht := (idx t).2.2.2.2.2
  have h : 512 * t.val + r.val < 4096 := by omega
  refine Eq.trans (b := val_main_v25 (F := Ideal) (X m c) (G m c) (W m c) (ix2 ⟨512 * t.val + r.val, h⟩ j)) ?_ ?_
  · rw [ref_pack]
    simp only [ref_p]
    rw [← prod_pack, ← funext (read_x m c t r h), ← funext (read_g m c t), ← funext (read_w m c t j)]
    rfl
  · blk_ext [idx t]

end Cert.Packed
-- ==== Proof.QkvBlock.lean ====
/- What a step of the latent attention's forward kernel writes: the queries, the keys and the values of its rows. -/
module

public import proofs.«01_k».proof.Proof.Gen.KQkvIdeal.Value
public import Idealize.ShloMosaic.Lib.Pipeline.ValueKit
public import Idealize.ShloMosaic.Lib.StableHlo.RunRead

@[expose] public section

set_option maxRecDepth 16384

noncomputable section

namespace Cert.Qkv

open Cert.KQkvIdeal Cert.KQkvIdeal.Gen Idealize.ShloMosaic Idealize.ShloMosaic.TcCoe Idealize.SL.Sem
open Idealize.ShloMosaic.Pipeline (Dat)

/-- The norms' small number. -/
def eps : EReal := Ideal.ofBits .f32 0x358637BD#32

/-- A latent row over its root mean square, times the gain; `w` holds the row's width. -/
def lat {n : ℕ} (w : BitVec 32) (x g : Fin n → EReal) (k : Fin n) : EReal :=
  x k * Ideal.rsqrt (Ideal.div (∑ k, x k * x k) (Ideal.ofBits .f32 w) + eps) * g k

/-- A normed latent row times a column of a weight. -/
def latProd {n : ℕ} (w : BitVec 32) (x g v : Fin n → EReal) : EReal := ∑ k, lat w x g k * v k

/-- A padded head over its root mean square, times the gain. -/
def hnorm (u g : Fin 128 → EReal) (l : Fin 128) : EReal :=
  u l * Ideal.rsqrt ((∑ l, u l * u l) * (Named.named κ "n" 0x3C2AAAAB#32 : Ideal .f32) + eps) * g l

/-- A padded head turned by the tables: itself and its two shifts. -/
def rope (u c sm sp : Fin 128 → EReal) (l : Fin 128) : EReal :=
  u l * c l + u ⟨(l.val + 16) % 128, by omega⟩ * sm l + u ⟨(l.val + 112) % 128, by omega⟩ * sp l

/-- Position `l` of head `h`. -/
def hd (h : Fin 8) (l : Fin 128) : Fin 1024 := ⟨128 * h.val + l.val, by omega⟩

/-- The sum the kernel forms of a head and its shifts, at an entry. -/
theorem rope_tile (n c sm sp : FVec Ideal S512x128 .f32) (r : Fin 512) (l : Fin 128) :
    (truncf .bf16 (addf (addf (mulf n c) (mulf (dynamicRotate 1 112#32 none n rotates_S512x128_d1) sm)) (mulf (dynamicRotate 1 16#32 none n rotates_S512x128_d1) sp)) bitsLt_bf16_f32
      : FVec Ideal S512x128 .bf16) (ix2 r l)
      = rope (fun l => n (ix2 r l)) (fun l => c (ix2 r l)) (fun l => sm (ix2 r l)) (fun l => sp (ix2 r l)) l := by
  unfold rope
  pointwise
  rfl

section block

variable (x0 : FVec Ideal S512x256 .f32) (x1 x2 x3 x4 x5 : FVec Ideal S512x128 .f32) (x6 : FVec Ideal S1x256 .f32) (x7 x8 x9 : FVec Ideal S1x128 .f32)
  (x10 : FVec Ideal S1024x256 .bf16) (x11 x12 : FVec Ideal S1024x128 .bf16)

/-- A step's query head before its norm. -/
def rq (r : Fin 512) (h : Fin 8) (l : Fin 128) : EReal :=
  latProd 0x43800000#32 (fun k => x0 (ix2 r k)) (fun k => x6 (ix2 0 k)) fun k => x10 (ix2 (hd h l) k)

/-- A step's key head before its norm: the product and the shared rotary key moved behind it. -/
def rk (r : Fin 512) (h : Fin 8) (l : Fin 128) : EReal :=
  latProd 0x43000000#32 (fun k => x1 (ix2 r k)) (fun k => x7 (ix2 0 k)) (fun k => x11 (ix2 (hd h l) k))
    + x2 (ix2 r ⟨(l.val + 64) % 128, by omega⟩)

/-- The normed query heads. -/
theorem nq (h : Fin 8) (r : Fin 512) (l : Fin 128) : (![k0_pay138 (F := Ideal) x0 x1 x2 x3 x4 x5 x6 x7 x8 x9 x10 x11 x12, k0_pay139 (F := Ideal) x0 x1 x2 x3 x4 x5 x6 x7 x8 x9 x10 x11 x12,
      k0_pay140 (F := Ideal) x0 x1 x2 x3 x4 x5 x6 x7 x8 x9 x10 x11 x12, k0_pay141 (F := Ideal) x0 x1 x2 x3 x4 x5 x6 x7 x8 x9 x10 x11 x12,
      k0_pay142 (F := Ideal) x0 x1 x2 x3 x4 x5 x6 x7 x8 x9 x10 x11 x12, k0_pay143 (F := Ideal) x0 x1 x2 x3 x4 x5 x6 x7 x8 x9 x10 x11 x12,
      k0_pay144 (F := Ideal) x0 x1 x2 x3 x4 x5 x6 x7 x8 x9 x10 x11 x12, k0_pay145 (F := Ideal) x0 x1 x2 x3 x4 x5 x6 x7 x8 x9 x10 x11 x12] : Fin 8 → FVec Ideal S512x128 .f32) h (ix2 r l)
    = hnorm (rq x0 x6 x10 r h) (fun l => x8 (ix2 0 l)) l := by
  fin_cases h
  all_goals
    dsimp only [Matrix.cons_val]
    unfold_payloads
    simp only [hnorm, rq, rk, latProd, lat, eps, hd]
    pointwise [View.ld_apply]
    try rfl

/-- The normed key heads. -/
theorem nk (h : Fin 8) (r : Fin 512) (l : Fin 128) : (![k0_pay146 (F := Ideal) x0 x1 x2 x3 x4 x5 x6 x7 x8 x9 x10 x11 x12, k0_pay147 (F := Ideal) x0 x1 x2 x3 x4 x5 x6 x7 x8 x9 x10 x11 x12,
      k0_pay148 (F := Ideal) x0 x1 x2 x3 x4 x5 x6 x7 x8 x9 x10 x11 x12, k0_pay149 (F := Ideal) x0 x1 x2 x3 x4 x5 x6 x7 x8 x9 x10 x11 x12,
      k0_pay150 (F := Ideal) x0 x1 x2 x3 x4 x5 x6 x7 x8 x9 x10 x11 x12, k0_pay151 (F := Ideal) x0 x1 x2 x3 x4 x5 x6 x7 x8 x9 x10 x11 x12,
      k0_pay152 (F := Ideal) x0 x1 x2 x3 x4 x5 x6 x7 x8 x9 x10 x11 x12, k0_pay154 (F := Ideal) x0 x1 x2 x3 x4 x5 x6 x7 x8 x9 x10 x11 x12] : Fin 8 → FVec Ideal S512x128 .f32) h (ix2 r l)
    = hnorm (rk x1 x2 x7 x11 r h) (fun l => x9 (ix2 0 l)) l := by
  fin_cases h
  all_goals
    dsimp only [Matrix.cons_val]
    unfold_payloads
    simp only [hnorm, rq, rk, latProd, lat, eps, hd]
    pointwise [View.ld_apply]
    try rfl

variable {x3 x4 x5} in
/-- A head's tile of a step's output: the normed head turned by the tables. -/
theorem tile (u : Fin 512 → Fin 8 → Fin 128 → EReal) (g : Fin 128 → EReal) (n c sm sp : FVec Ideal S512x128 .f32) (h : Fin 8)
    (hn : ∀ r l, n (ix2 r l) = hnorm (u r h) g l) (ht : ∀ r l, c (ix2 r l) = x3 (ix2 r l) ∧ sm (ix2 r l) = x4 (ix2 r l) ∧ sp (ix2 r l) = x5 (ix2 r l))
    (r : Fin 512) (l : Fin 128) (y0 : Fin 512) (y1 : Fin 1024) (e0 : y0.val = r.val) (e1 : y1.val = 128 * h.val + l.val) :
    (truncf .bf16 (addf (addf (mulf n c) (mulf (dynamicRotate 1 112#32 none n rotates_S512x128_d1) sm)) (mulf (dynamicRotate 1 16#32 none n rotates_S512x128_d1) sp)) bitsLt_bf16_f32
      : FVec Ideal S512x128 .bf16) (ix2 r l)
      = rope (hnorm (u y0 ⟨y1.val / 128, by omega⟩) g) (fun l => x3 (ix2 y0 l)) (fun l => x4 (ix2 y0 l)) (fun l => x5 (ix2 y0 l)) ⟨y1.val % 128, by omega⟩ := by
  obtain rfl : y0 = r := Fin.ext e0
  have eh : (⟨y1.val / 128, by omega⟩ : Fin 8) = h := Fin.ext (by dsimp only; omega)
  have el : (⟨y1.val % 128, by omega⟩ : Fin 128) = l := Fin.ext (by dsimp only; omega)
  rw [rope_tile, eh, el]
  simp only [hn, ht]

/-- What a step writes to the values. -/
theorem v_point (y : S512x1024.Idx) : out0_15 (F := Ideal) x0 x1 x2 x3 x4 x5 x6 x7 x8 x9 x10 x11 x12 y
    = latProd 0x43000000#32 (fun k => x1 (ix2 (y 0) k)) (fun k => x7 (ix2 0 k)) (fun k => x12 (ix2 (y 1) k)) := by
  unfold out0_15
  canon_tiles z h
  all_goals
    idx_vars z
    idx_vars y
    unfold_payloads
    unfold latProd lat eps
    pointwise [View.ld_apply]
    obtain ⟨y0, hy0⟩ := y0
    obtain ⟨y1, hy1⟩ := y1
    dsimp only at h0 h1
    subst h0 h1
    rfl

/-- The tables, as a step reads them. -/
theorem tab (r : Fin 512) (l : Fin 128) : k0_pay117 (F := Ideal) x0 x1 x2 x3 x4 x5 x6 x7 x8 x9 x10 x11 x12 (ix2 r l) = x3 (ix2 r l) ∧ k0_pay118 (F := Ideal) x0 x1 x2 x3 x4 x5 x6 x7 x8 x9 x10 x11 x12 (ix2 r l) = x4 (ix2 r l)
    ∧ k0_pay119 (F := Ideal) x0 x1 x2 x3 x4 x5 x6 x7 x8 x9 x10 x11 x12 (ix2 r l) = x5 (ix2 r l) := by
  refine ⟨?_, ?_, ?_⟩ <;> unfold_payloads <;> pointwise [View.ld_apply]

/-- What a step writes to the queries. -/
theorem q_point (y : S512x1024.Idx) : out0_13 (F := Ideal) x0 x1 x2 x3 x4 x5 x6 x7 x8 x9 x10 x11 x12 y
    = rope (hnorm (rq x0 x6 x10 (y 0) ⟨(y 1).val / 128, by have : (y 1).val < 1024 := (y 1).isLt; omega⟩) fun l => x8 (ix2 0 l))
      (fun l => x3 (ix2 (y 0) l)) (fun l => x4 (ix2 (y 0) l)) (fun l => x5 (ix2 (y 0) l)) ⟨(y 1).val % 128, by omega⟩ := by
  have n := nq x0 x1 x2 x3 x4 x5 x6 x7 x8 x9 x10 x11 x12
  have t := tab x0 x1 x2 x3 x4 x5 x6 x7 x8 x9 x10 x11 x12
  unfold out0_13
  canon_tiles z h
  all_goals
    idx_vars z
    idx_vars y
  · exact tile _ _ _ _ _ _ 7 (n 7) t z0 z1 y0 y1 h0 (by simpa using h1)
  · exact tile _ _ _ _ _ _ 6 (n 6) t z0 z1 y0 y1 h0 (by simpa using h1)
  · exact tile _ _ _ _ _ _ 5 (n 5) t z0 z1 y0 y1 h0 (by simpa using h1)
  · exact tile _ _ _ _ _ _ 4 (n 4) t z0 z1 y0 y1 h0 (by simpa using h1)
  · exact tile _ _ _ _ _ _ 3 (n 3) t z0 z1 y0 y1 h0 (by simpa using h1)
  · exact tile _ _ _ _ _ _ 2 (n 2) t z0 z1 y0 y1 h0 (by simpa using h1)
  · exact tile _ _ _ _ _ _ 1 (n 1) t z0 z1 y0 y1 h0 (by simpa using h1)
  · exact tile _ _ _ _ _ _ 0 (n 0) t z0 z1 y0 y1 h0 (by simpa using h1)

/-- What a step writes to the keys. -/
theorem k_point (y : S512x1024.Idx) : out0_14 (F := Ideal) x0 x1 x2 x3 x4 x5 x6 x7 x8 x9 x10 x11 x12 y
    = rope (hnorm (rk x1 x2 x7 x11 (y 0) ⟨(y 1).val / 128, by have : (y 1).val < 1024 := (y 1).isLt; omega⟩) fun l => x9 (ix2 0 l))
      (fun l => x3 (ix2 (y 0) l)) (fun l => x4 (ix2 (y 0) l)) (fun l => x5 (ix2 (y 0) l)) ⟨(y 1).val % 128, by omega⟩ := by
  have n := nk x0 x1 x2 x3 x4 x5 x6 x7 x8 x9 x10 x11 x12
  have t := tab x0 x1 x2 x3 x4 x5 x6 x7 x8 x9 x10 x11 x12
  unfold out0_14
  canon_tiles z h
  all_goals
    idx_vars z
    idx_vars y
  · exact tile _ _ _ _ _ _ 7 (n 7) t z0 z1 y0 y1 h0 (by simpa using h1)
  · exact tile _ _ _ _ _ _ 6 (n 6) t z0 z1 y0 y1 h0 (by simpa using h1)
  · exact tile _ _ _ _ _ _ 5 (n 5) t z0 z1 y0 y1 h0 (by simpa using h1)
  · exact tile _ _ _ _ _ _ 4 (n 4) t z0 z1 y0 y1 h0 (by simpa using h1)
  · exact tile _ _ _ _ _ _ 3 (n 3) t z0 z1 y0 y1 h0 (by simpa using h1)
  · exact tile _ _ _ _ _ _ 2 (n 2) t z0 z1 y0 y1 h0 (by simpa using h1)
  · exact tile _ _ _ _ _ _ 1 (n 1) t z0 z1 y0 y1 h0 (by simpa using h1)
  · exact tile _ _ _ _ _ _ 0 (n 0) t z0 z1 y0 y1 h0 (by simpa using h1)

end block

variable (m : (ℓ : Loc nD τ sig) → Buf (Elt Ideal) ℓ) (c : Dev nD)

/-- The projection. -/
abbrev PR : FVec Ideal S2x2048x3232 .f32 := m ((c.tc : Thread nD τ).loc main_arg0)
/-- The positions. -/
abbrev PO : (⟨S2x2048, .i32⟩ : BufTy).Contents (Elt Ideal) := m ((c.tc : Thread nD τ).loc main_arg1)
/-- The gain of the queries' latent rows. -/
abbrev GA : FVec Ideal S256 .f32 := m ((c.tc : Thread nD τ).loc main_arg2)
/-- The gain of the keys' latent rows. -/
abbrev GB : FVec Ideal S128 .f32 := m ((c.tc : Thread nD τ).loc main_arg3)
/-- The gain of the query heads. -/
abbrev GQ : FVec Ideal S96 .f32 := m ((c.tc : Thread nD τ).loc main_arg4)
/-- The gain of the key heads. -/
abbrev GK : FVec Ideal S96 .f32 := m ((c.tc : Thread nD τ).loc main_arg5)
/-- The queries' weight. -/
abbrev WQ : FVec Ideal S256x768 .f32 := m ((c.tc : Thread nD τ).loc main_arg6)
/-- The weight of the keys and the values. -/
abbrev WK : FVec Ideal S128x1024 .f32 := m ((c.tc : Thread nD τ).loc main_arg7)

/-- The converted zero that the host pads with. -/
theorem pad_zero : (FloatOps.sitofp (F := Ideal) .f32 0#32 : EReal) = 0 := by
  show ((((0#32 : BitVec 32).toInt : ℤ) : ℝ) : EReal) = 0
  simp

/-- The angle of a position at a frequency. -/
def ang (p : BitVec 32) (i : ℕ) : EReal :=
  FloatOps.sitofp (F := Ideal) .f32 p * Ideal.pow (Ideal.ofBits .f32 1176256512#32)
    (Ideal.div (-FloatOps.sitofp (F := Ideal) .f32 (BitVec.ofNat 32 i)) (Ideal.ofBits .f32 1098907648#32))

/-- What a head's entry is scaled by: one, the cosine of its angle, or zero behind the head. -/
def tab_c (p : BitVec 32) (l : Fin 128) : EReal :=
  if l.val < 64 then 1 else if l.val < 80 then Ideal.cos (ang p (l.val - 64)) else if l.val < 96 then Ideal.cos (ang p (l.val - 64 - 16)) else 0

/-- What the entry half a turn behind is scaled by. -/
def tab_m (p : BitVec 32) (l : Fin 128) : EReal :=
  if l.val < 64 then 0 else if l.val < 80 then -Ideal.sin (ang p (l.val - 64)) else 0

/-- What the entry half a turn before is scaled by. -/
def tab_p (p : BitVec 32) (l : Fin 128) : EReal :=
  if l.val < 64 then 0 else if l.val < 80 then 0 else if l.val < 96 then Ideal.sin (ang p (l.val - 64 - 16)) else 0

end Cert.Qkv
-- ==== Proof.QkvHost.lean ====
/- The pieces of the packed projection that the latent attention's forward kernel reads. -/
module

public import proofs.«01_k».proof.Proof.QkvBlock

@[expose] public section

set_option maxRecDepth 16384

noncomputable section

namespace Cert.Qkv

open Cert.KQkvIdeal Cert.KQkvIdeal.Gen Idealize.ShloMosaic Idealize.ShloMosaic.TcCoe Idealize.SL.Sem
open Idealize.ShloMosaic.Pipeline (Dat)

variable (m : (ℓ : Loc nD τ sig) → Buf (Elt Ideal) ℓ) (c : Dev nD)

section host

variable (r : Fin 4096)

/-- The queries' latent columns of the packed projection. -/
theorem host_cq (k : Fin 256) (h : 2560 + k.val < 3328) : (show FVec Ideal S4096x3328 .f32 from V m c main_v23) (ix2 r ⟨2560 + k.val, h⟩)
    = PR m c (ix3 ⟨r.val / 2048, by omega⟩ ⟨r.val % 2048, by omega⟩ ⟨768 + k.val, by omega⟩) := by
  simp only [V]
  after_reads_simp
  dsimp only [Matrix.cons_val]
  pointwise
  simp (disch := omega) only [dif_pos, dif_neg]
  after_reads_simp
  pointwise
  try exact congrArg (fun z => PR m c (ix3 ⟨r.val / 2048, by omega⟩ ⟨r.val % 2048, by omega⟩ z)) (Fin.ext (by dsimp only; omega))

/-- The keys' latent columns. -/
theorem host_ckv (k : Fin 128) (h : 3072 + k.val < 3328) : (show FVec Ideal S4096x3328 .f32 from V m c main_v23) (ix2 r ⟨3072 + k.val, h⟩)
    = PR m c (ix3 ⟨r.val / 2048, by omega⟩ ⟨r.val % 2048, by omega⟩ ⟨1024 + k.val, by omega⟩) := by
  simp only [V]
  after_reads_simp
  dsimp only [Matrix.cons_val]
  pointwise
  simp (disch := omega) only [dif_pos, dif_neg]
  after_reads_simp
  pointwise
  try exact congrArg (fun z => PR m c (ix3 ⟨r.val / 2048, by omega⟩ ⟨r.val % 2048, by omega⟩ z)) (Fin.ext (by dsimp only; omega))

/-- The rotary key with zeros behind it. -/
theorem host_kr (l : Fin 128) (h : 3200 + l.val < 3328) : (show FVec Ideal S4096x3328 .f32 from V m c main_v23) (ix2 r ⟨3200 + l.val, h⟩)
    = if h : l.val < 32 then PR m c (ix3 ⟨r.val / 2048, by omega⟩ ⟨r.val % 2048, by omega⟩ ⟨1152 + l.val, by omega⟩) else 0 := by
  simp only [V]
  after_reads_simp
  dsimp only [Matrix.cons_val]
  pointwise
  by_cases hl : l.val < 32
  all_goals
    simp (disch := omega) only [dif_pos, dif_neg]
    after_reads_simp
    pointwise
    try exact congrArg (fun z => PR m c (ix3 ⟨r.val / 2048, by omega⟩ ⟨r.val % 2048, by omega⟩ z)) (Fin.ext (by dsimp only; omega))

end host

end Cert.Qkv
-- ==== Proof.QkvTables.lean ====
/- The tables of the rotation that the latent attention's forward kernel reads. -/
module

public import proofs.«01_k».proof.Proof.QkvBlock

@[expose] public section

set_option maxRecDepth 16384

noncomputable section

namespace Cert.Qkv

open Cert.KQkvIdeal Cert.KQkvIdeal.Gen Idealize.ShloMosaic Idealize.ShloMosaic.TcCoe Idealize.SL.Sem
open Idealize.ShloMosaic.Pipeline (Dat)

variable (m : (ℓ : Loc nD τ sig) → Buf (Elt Ideal) ℓ) (c : Dev nD)

section host

variable (r : Fin 4096)

/-- The table of the cosines. -/
theorem host_c (l : Fin 128) : (show FVec Ideal S4096x128 .f32 from V m c main_v42) (ix2 r l) = tab_c (PO m c (ix2 ⟨r.val / 2048, by omega⟩ ⟨r.val % 2048, by omega⟩)) l := by
  unfold tab_c ang
  simp only [V]
  after_reads_simp
  dsimp only [Matrix.cons_val]
  pointwise
  have cases : l.val < 64 ∨ (64 ≤ l.val ∧ l.val < 80) ∨ (80 ≤ l.val ∧ l.val < 96) ∨ 96 ≤ l.val := by omega
  rcases cases with h | h | h | h
  all_goals
    simp (disch := omega) only [dif_pos, dif_neg, if_pos, if_neg]
    after_reads_simp
    pointwise
    try rfl

/-- The table of the sines that turn the first half. -/
theorem host_m (l : Fin 128) : (show FVec Ideal S4096x128 .f32 from V m c main_v44) (ix2 r l) = tab_m (PO m c (ix2 ⟨r.val / 2048, by omega⟩ ⟨r.val % 2048, by omega⟩)) l := by
  unfold tab_m ang
  simp only [V]
  after_reads_simp
  dsimp only [Matrix.cons_val]
  pointwise
  have cases : l.val < 64 ∨ (64 ≤ l.val ∧ l.val < 80) ∨ (80 ≤ l.val ∧ l.val < 96) ∨ 96 ≤ l.val := by omega
  rcases cases with h | h | h | h
  all_goals
    simp (disch := omega) only [dif_pos, dif_neg, if_pos, if_neg]
    after_reads_simp
    pointwise
    try rfl

/-- The table of the sines that turn the second half. -/
theorem host_p (l : Fin 128) : (show FVec Ideal S4096x128 .f32 from V m c main_v45) (ix2 r l) = tab_p (PO m c (ix2 ⟨r.val / 2048, by omega⟩ ⟨r.val % 2048, by omega⟩)) l := by
  unfold tab_p ang
  simp only [V]
  after_reads_simp
  dsimp only [Matrix.cons_val]
  pointwise
  have cases : l.val < 64 ∨ (64 ≤ l.val ∧ l.val < 80) ∨ (80 ≤ l.val ∧ l.val < 96) ∨ 96 ≤ l.val := by omega
  rcases cases with h | h | h | h
  all_goals
    simp (disch := omega) only [dif_pos, dif_neg, if_pos, if_neg]
    after_reads_simp
    pointwise
    try rfl

end host

end Cert.Qkv
-- ==== Proof.QkvWeights.lean ====
/- The padded gains and weights that the latent attention's forward kernel reads. -/
module

public import proofs.«01_k».proof.Proof.QkvBlock

@[expose] public section

set_option maxRecDepth 16384

noncomputable section

namespace Cert.Qkv

open Cert.KQkvIdeal Cert.KQkvIdeal.Gen Idealize.ShloMosaic Idealize.ShloMosaic.TcCoe Idealize.SL.Sem
open Idealize.ShloMosaic.Pipeline (Dat)

variable (m : (ℓ : Loc nD τ sig) → Buf (Elt Ideal) ℓ) (c : Dev nD)

section host

variable (r : Fin 4096)

/-- The gain of the query heads as a padded row. -/
theorem host_gq (l : Fin 128) : V m c main_v49 (ix2 0 l) = if h : l.val < 96 then GQ m c (ix1 ⟨l.val, h⟩) else 0 := by
  simp only [V]
  after_reads_simp
  simp -implicitDefEqProofs only [StableHlo.TRef.toBuf, StableHlo.TRef.ofBuf, cast_cast, cast_eq]
  pointwise
  try simp only [pad_zero]

/-- The gain of the key heads. -/
theorem host_gk (l : Fin 128) : V m c main_v51 (ix2 0 l) = if h : l.val < 96 then GK m c (ix1 ⟨l.val, h⟩) else 0 := by
  simp only [V]
  after_reads_simp
  simp -implicitDefEqProofs only [StableHlo.TRef.toBuf, StableHlo.TRef.ofBuf, cast_cast, cast_eq]
  pointwise
  try simp only [pad_zero]

/-- The gain of the queries' latent rows. -/
theorem host_ga (k : Fin 256) : V m c main_v46 (ix2 0 k) = GA m c (ix1 k) := by
  simp only [V]
  after_reads_simp
  pointwise

/-- The gain of the keys' latent rows. -/
theorem host_gb (k : Fin 128) : V m c main_v47 (ix2 0 k) = GB m c (ix1 k) := by
  simp only [V]
  after_reads_simp
  pointwise

/-- The queries' weight, a row for every position of a padded head. -/
theorem host_wq (h : Fin 8) (l : Fin 128) (k : Fin 256) : (show FVec Ideal S1024x256 .bf16 from V m c main_v56) (ix2 (hd h l) k)
    = if hl : l.val < 96 then WQ m c (ix2 k ⟨96 * h.val + l.val, by omega⟩) else 0 := by
  unfold hd
  simp only [V]
  after_reads_simp
  simp -implicitDefEqProofs only [StableHlo.TRef.toBuf, StableHlo.TRef.ofBuf, cast_cast, cast_eq]
  pointwise
  by_cases hl : l.val < 96
  · simp (disch := omega) only [dif_pos]
    exact congrArg (fun z => WQ m c (ix2 k z)) (Fin.ext (by dsimp only; omega))
  · simp (disch := omega) only [dif_neg, pad_zero]

/-- The keys' weight. -/
theorem host_wk (h : Fin 8) (l : Fin 128) (k : Fin 128) : (show FVec Ideal S1024x128 .bf16 from V m c main_v60) (ix2 (hd h l) k)
    = if hl : l.val < 64 then WK m c (ix2 k ⟨128 * h.val + l.val, by omega⟩) else 0 := by
  unfold hd
  simp only [V]
  after_reads_simp
  simp -implicitDefEqProofs only [StableHlo.TRef.toBuf, StableHlo.TRef.ofBuf, cast_cast, cast_eq]
  pointwise
  by_cases hl : l.val < 64
  · simp (disch := omega) only [dif_pos]
    exact congrArg (fun z => WK m c (ix2 k z)) (Fin.ext (by dsimp only; omega))
  · simp (disch := omega) only [dif_neg, pad_zero]

/-- The values' weight. -/
theorem host_wv (h : Fin 8) (l : Fin 128) (k : Fin 128) : (show FVec Ideal S1024x128 .bf16 from V m c main_v64) (ix2 (hd h l) k)
    = if hl : l.val < 64 then WK m c (ix2 k ⟨128 * h.val + (64 + l.val), by omega⟩) else 0 := by
  unfold hd
  simp only [V]
  after_reads_simp
  simp -implicitDefEqProofs only [StableHlo.TRef.toBuf, StableHlo.TRef.ofBuf, cast_cast, cast_eq]
  pointwise
  by_cases hl : l.val < 64
  · simp (disch := omega) only [dif_pos]
    exact congrArg (fun z => WK m c (ix2 k z)) (Fin.ext (by dsimp only; omega))
  · simp (disch := omega) only [dif_neg, pad_zero]

end host

end Cert.Qkv
-- ==== Proof.QkvRef.lean ====
/- The reference's queries, keys and values of the latent attention, at an entry. -/
module

public import proofs.«01_k».proof.Proof.Gen.RQkvIdeal.Read
public import proofs.«01_k».proof.Proof.QkvBlock

@[expose] public section

set_option maxRecDepth 16384

noncomputable section

namespace Cert.Qkv

open Cert.KQkvIdeal Cert.RQkvIdeal.Read Idealize.ShloMosaic Idealize.ShloMosaic.TcCoe Idealize.SL.Sem

/-- What stands at position `l` of a row that zeros fill up to 128. -/
def wide {n : ℕ} (f : Fin n → EReal) (l : Fin 128) : EReal := if h : l.val < n then f ⟨l.val, h⟩ else 0

/-- A head with its last 32 entries turned by the angles of position `p`. -/
def turned (n : Fin 96 → EReal) (p : BitVec 32) (l : Fin 96) : EReal :=
  if l.val < 64 then n l
  else if h : l.val < 80 then n l * Ideal.cos (ang p (l.val - 64)) - n ⟨l.val + 16, by omega⟩ * Ideal.sin (ang p (l.val - 64))
  else n l * Ideal.cos (ang p (l.val - 64 - 16)) + n ⟨l.val - 16, by omega⟩ * Ideal.sin (ang p (l.val - 64 - 16))

variable (x0 : FVec Ideal S2x2048x3232 .f32) (x1 : (⟨S2x2048, .i32⟩ : BufTy).Contents (Elt Ideal)) (x2 : FVec Ideal S256 .f32) (x3 : FVec Ideal S128 .f32)
  (x4 x5 : FVec Ideal S96 .f32) (x6 : FVec Ideal S256x768 .f32) (x7 : FVec Ideal S128x1024 .f32) (b : Fin 2) (s : Fin 2048) (h : Fin 8)

/-- The normed latent rows of the queries. -/
theorem ref_la (k : Fin 256) : val_main_v31 (F := Ideal) x0 x2 (ix3 b s k)
    = lat 0x43800000#32 (fun k : Fin 256 => x0 (ix3 b s ⟨768 + k.val, by omega⟩)) (fun k => x2 (ix1 k)) k := by
  unfold lat eps
  simp only [val_main_v31, val_main_v30, val_main_v29, val_main_v28, val_main_v27, val_main_v26, val_main_v25, val_main_v24, val_main_v23, val_main_v22, val_main_v21, val_main_v20, val_main_v19, val_main_v16, val_main_cst_1, val_main_cst_2, val_main_cst_3]
  pointwise

/-- The normed latent rows of the keys. -/
theorem ref_lb (k : Fin 128) : val_main_v46 (F := Ideal) x0 x3 (ix3 b s k)
    = lat 0x43000000#32 (fun k : Fin 128 => x0 (ix3 b s ⟨1024 + k.val, by omega⟩)) (fun k => x3 (ix1 k)) k := by
  unfold lat eps
  simp only [val_main_v46, val_main_v45, val_main_v44, val_main_v43, val_main_v42, val_main_v41, val_main_v40, val_main_v39, val_main_v38, val_main_v37, val_main_v36, val_main_v35, val_main_v34, val_main_v17, val_main_cst_4, val_main_cst_5, val_main_cst_6]
  pointwise

/-- A query head before its norm. -/
def hq (l : Fin 96) : EReal := latProd 0x43800000#32 (fun k : Fin 256 => x0 (ix3 b s ⟨768 + k.val, by omega⟩)) (fun k => x2 (ix1 k))
  fun k => x6 (ix2 k ⟨96 * h.val + l.val, by omega⟩)

/-- The product that holds a head's key and value. -/
def hkv (l : Fin 128) : EReal := latProd 0x43000000#32 (fun k : Fin 128 => x0 (ix3 b s ⟨1024 + k.val, by omega⟩)) (fun k => x3 (ix1 k))
  fun k => x7 (ix2 k ⟨128 * h.val + l.val, by omega⟩)

/-- A key head before its norm: the product's first half and the shared rotary key. -/
def hk (l : Fin 96) : EReal := if l.val < 64 then hkv x0 x3 x7 b s h ⟨l.val, by omega⟩ else x0 (ix3 b s ⟨1152 + (l.val - 64), by omega⟩)

/-- The reference's query head before its norm. -/
theorem ref_q (l : Fin 96) : val_main_v33 (F := Ideal) x0 x2 x6 (ix4 b s h l) = hq x0 x2 x6 b s h l := by
  unfold hq latProd
  simp only [← ref_la]
  simp only [val_main_v33, val_main_v32]
  generalize val_main_v31 (F := Ideal) x0 x2 = n
  pointwise
  try exact Finset.sum_congr rfl fun k _ => congrArg (fun z => n (ix3 b s k) * x6 (ix2 k z)) (Fin.ext (by dsimp only; omega))

/-- The reference's product behind the keys and the values. -/
theorem ref_kv (l : Fin 128) : val_main_v48 (F := Ideal) x0 x3 x7 (ix4 b s h l) = hkv x0 x3 x7 b s h l := by
  unfold hkv latProd
  simp only [← ref_lb]
  simp only [val_main_v48, val_main_v47]
  generalize val_main_v46 (F := Ideal) x0 x3 = n
  pointwise
  try exact Finset.sum_congr rfl fun k _ => congrArg (fun z => n (ix3 b s k) * x7 (ix2 k z)) (Fin.ext (by dsimp only; omega))

/-- The reference's key head before its norm. -/
theorem ref_k (l : Fin 96) : val_main_v53 (F := Ideal) x0 x3 x7 (ix4 b s h l) = hk x0 x3 x7 b s h l := by
  unfold hk
  simp only [← ref_kv]
  simp only [val_main_v53]
  pointwise
  by_cases hl : l.val < 64
  all_goals
    simp (disch := omega) only [dif_pos, dif_neg, if_pos, if_neg, val_main_v49, val_main_v52, val_main_v51, val_main_v18]
    generalize val_main_v48 (F := Ideal) x0 x3 x7 = n
    pointwise

/-- A query head over its root mean square. -/
theorem ref_nq (l : Fin 96) : val_main_v66 (F := Ideal) x0 x2 x4 x6 (ix4 b s h l) = lat 0x42C00000#32 (hq x0 x2 x6 b s h) (fun k => x4 (ix1 k)) l := by
  unfold lat eps
  simp only [← ref_q]
  simp only [val_main_v66, val_main_v65, val_main_v64, val_main_v63, val_main_v62, val_main_v61, val_main_v60, val_main_v59, val_main_v58, val_main_v57, val_main_v56, val_main_v55, val_main_v54, val_main_cst_7, val_main_cst_8, val_main_cst_9]
  generalize val_main_v33 (F := Ideal) x0 x2 x6 = n
  pointwise

/-- A key head over its root mean square. -/
theorem ref_nk (l : Fin 96) : val_main_v79 (F := Ideal) x0 x3 x5 x7 (ix4 b s h l) = lat 0x42C00000#32 (hk x0 x3 x7 b s h) (fun k => x5 (ix1 k)) l := by
  unfold lat eps
  simp only [← ref_k]
  simp only [val_main_v79, val_main_v78, val_main_v77, val_main_v76, val_main_v75, val_main_v74, val_main_v73, val_main_v72, val_main_v71, val_main_v70, val_main_v69, val_main_v68, val_main_v67, val_main_cst_10, val_main_cst_11, val_main_cst_12]
  generalize val_main_v53 (F := Ideal) x0 x3 x7 = n
  pointwise

/-- The cosines and sines of the angles. -/
theorem ref_cs (i : Fin 16) : val_main_v12 (F := Ideal) x1 (ix3 b s i) = Ideal.cos (ang (x1 (ix2 b s)) i.val) ∧ val_main_v14 (F := Ideal) x1 (ix3 b s i) = Ideal.sin (ang (x1 (ix2 b s)) i.val) := by
  unfold ang
  constructor
  all_goals
    simp only [val_main_v14, val_main_v12, val_main_v11, val_main_v10, val_main_v9, val_main_v8, val_main_v7, val_main_v6, val_main_v5, val_main_v4, val_main_v3, val_main_v2, val_main_v1, val_main_v0, val_main_cst, val_main_cst_0]
    pointwise

/-- A turned query head. -/
theorem ref_tq (l : Fin 96) : val_main_v95 (F := Ideal) x0 x1 x2 x4 x6 (ix4 b s h l)
    = turned (fun l => val_main_v66 (F := Ideal) x0 x2 x4 x6 (ix4 b s h l)) (x1 (ix2 b s)) l := by
  have hc := fun i => (ref_cs x1 b s i).1
  have hs := fun i => (ref_cs x1 b s i).2
  unfold turned
  simp only [val_main_v95]
  pointwise
  have cases : l.val < 64 ∨ (64 ≤ l.val ∧ l.val < 80) ∨ (80 ≤ l.val ∧ l.val < 96) := by omega
  rcases cases with hl | hl | hl
  · simp (disch := omega) only [dif_pos, dif_neg, if_pos, if_neg, val_main_v80]
    generalize val_main_v66 (F := Ideal) x0 x2 x4 x6 = n
    pointwise
  · simp (disch := omega) only [dif_pos, dif_neg, if_pos, if_neg, val_main_v94]
    pointwise
    simp (disch := omega) only [dif_pos, dif_neg, if_pos, if_neg, val_main_v93, val_main_v92, val_main_v91, val_main_v90, val_main_v89, val_main_v88, val_main_v87, val_main_v86, val_main_v85, val_main_v84, val_main_v83, val_main_v82, val_main_v81, val_main_v15, val_main_v13]
    generalize val_main_v66 (F := Ideal) x0 x2 x4 x6 = n
    generalize val_main_v12 (F := Ideal) x1 = cs at hc ⊢
    generalize val_main_v14 (F := Ideal) x1 = sn at hs ⊢
    pointwise
    simp only [hc, hs]
    exact congrArg₂ (fun x y => n (ix4 b s h x) * Ideal.cos (ang (x1 (ix2 b s)) (l.val - 64)) - n (ix4 b s h y) * Ideal.sin (ang (x1 (ix2 b s)) (l.val - 64)))
      (Fin.ext (by dsimp only; omega)) (Fin.ext (by dsimp only; omega))
  · simp (disch := omega) only [dif_pos, dif_neg, if_pos, if_neg, val_main_v94]
    pointwise
    simp (disch := omega) only [dif_pos, dif_neg, if_pos, if_neg, val_main_v93, val_main_v92, val_main_v91, val_main_v90, val_main_v89, val_main_v88, val_main_v87, val_main_v86, val_main_v85, val_main_v84, val_main_v83, val_main_v82, val_main_v81, val_main_v15, val_main_v13]
    generalize val_main_v66 (F := Ideal) x0 x2 x4 x6 = n
    generalize val_main_v12 (F := Ideal) x1 = cs at hc ⊢
    generalize val_main_v14 (F := Ideal) x1 = sn at hs ⊢
    pointwise
    simp only [hc, hs]
    exact congrArg₂ (fun x y => n (ix4 b s h x) * Ideal.cos (ang (x1 (ix2 b s)) (l.val - 64 - 16)) + n (ix4 b s h y) * Ideal.sin (ang (x1 (ix2 b s)) (l.val - 64 - 16)))
      (Fin.ext (by dsimp only; omega)) (Fin.ext (by dsimp only; omega))

/-- A turned key head. -/
theorem ref_tk (l : Fin 96) : val_main_v111 (F := Ideal) x0 x1 x3 x5 x7 (ix4 b s h l)
    = turned (fun l => val_main_v79 (F := Ideal) x0 x3 x5 x7 (ix4 b s h l)) (x1 (ix2 b s)) l := by
  have hc := fun i => (ref_cs x1 b s i).1
  have hs := fun i => (ref_cs x1 b s i).2
  unfold turned
  simp only [val_main_v111]
  pointwise
  have cases : l.val < 64 ∨ (64 ≤ l.val ∧ l.val < 80) ∨ (80 ≤ l.val ∧ l.val < 96) := by omega
  rcases cases with hl | hl | hl
  · simp (disch := omega) only [dif_pos, dif_neg, if_pos, if_neg, val_main_v96]
    generalize val_main_v79 (F := Ideal) x0 x3 x5 x7 = n
    pointwise
  · simp (disch := omega) only [dif_pos, dif_neg, if_pos, if_neg, val_main_v110]
    pointwise
    simp (disch := omega) only [dif_pos, dif_neg, if_pos, if_neg, val_main_v109, val_main_v108, val_main_v107, val_main_v106, val_main_v105, val_main_v104, val_main_v103, val_main_v102, val_main_v101, val_main_v100, val_main_v99, val_main_v98, val_main_v97, val_main_v15, val_main_v13]
    generalize val_main_v79 (F := Ideal) x0 x3 x5 x7 = n
    generalize val_main_v12 (F := Ideal) x1 = cs at hc ⊢
    generalize val_main_v14 (F := Ideal) x1 = sn at hs ⊢
    pointwise
    simp only [hc, hs]
    exact congrArg₂ (fun x y => n (ix4 b s h x) * Ideal.cos (ang (x1 (ix2 b s)) (l.val - 64)) - n (ix4 b s h y) * Ideal.sin (ang (x1 (ix2 b s)) (l.val - 64)))
      (Fin.ext (by dsimp only; omega)) (Fin.ext (by dsimp only; omega))
  · simp (disch := omega) only [dif_pos, dif_neg, if_pos, if_neg, val_main_v110]
    pointwise
    simp (disch := omega) only [dif_pos, dif_neg, if_pos, if_neg, val_main_v109, val_main_v108, val_main_v107, val_main_v106, val_main_v105, val_main_v104, val_main_v103, val_main_v102, val_main_v101, val_main_v100, val_main_v99, val_main_v98, val_main_v97, val_main_v15, val_main_v13]
    generalize val_main_v79 (F := Ideal) x0 x3 x5 x7 = n
    generalize val_main_v12 (F := Ideal) x1 = cs at hc ⊢
    generalize val_main_v14 (F := Ideal) x1 = sn at hs ⊢
    pointwise
    simp only [hc, hs]
    exact congrArg₂ (fun x y => n (ix4 b s h x) * Ideal.cos (ang (x1 (ix2 b s)) (l.val - 64 - 16)) + n (ix4 b s h y) * Ideal.sin (ang (x1 (ix2 b s)) (l.val - 64 - 16)))
      (Fin.ext (by dsimp only; omega)) (Fin.ext (by dsimp only; omega))

/-- The reference's values. -/
theorem ref_rv (r : Fin 4096) (j : Fin 1024) : val_main_v120 (F := Ideal) x0 x3 x7 (ix2 r j)
    = wide (fun l : Fin 64 => hkv x0 x3 x7 ⟨r.val / 2048, by omega⟩ ⟨r.val % 2048, by omega⟩ ⟨j.val / 128, by omega⟩ ⟨64 + l.val, by omega⟩) ⟨j.val % 128, by omega⟩ := by
  unfold wide
  simp only [← ref_kv]
  simp only [val_main_v120, val_main_v119, val_main_v118, val_main_call2_v0, val_main_c_14, val_main_v50]
  generalize val_main_v48 (F := Ideal) x0 x3 x7 = n
  pointwise
  by_cases hj : j.val % 128 < 64
  · simp (disch := omega) only [dif_pos]
  · simp (disch := omega) only [dif_neg, pad_zero]

/-- The reference's queries. -/
theorem ref_rq (r : Fin 4096) (j : Fin 1024) : val_main_v114 (F := Ideal) x0 x1 x2 x4 x6 (ix2 r j)
    = wide (turned (lat 0x42C00000#32 (hq x0 x2 x6 ⟨r.val / 2048, by omega⟩ ⟨r.val % 2048, by omega⟩ ⟨j.val / 128, by omega⟩) fun k => x4 (ix1 k))
      (x1 (ix2 ⟨r.val / 2048, by omega⟩ ⟨r.val % 2048, by omega⟩))) ⟨j.val % 128, by omega⟩ := by
  unfold wide
  have e := fun b s h l => (ref_tq x0 x1 x2 x4 x6 b s h l).trans (congrFun (congrArg (fun n => turned n (x1 (ix2 b s))) (funext fun l => ref_nq x0 x2 x4 x6 b s h l)) l)
  simp only [val_main_v114, val_main_v113, val_main_v112, val_main_call0_v0, val_main_c]
  generalize val_main_v95 (F := Ideal) x0 x1 x2 x4 x6 = n at e ⊢
  pointwise
  by_cases hj : j.val % 128 < 96
  · simp (disch := omega) only [dif_pos, e]
  · simp (disch := omega) only [dif_neg, pad_zero]

/-- The reference's keys. -/
theorem ref_rk (r : Fin 4096) (j : Fin 1024) : val_main_v117 (F := Ideal) x0 x1 x3 x5 x7 (ix2 r j)
    = wide (turned (lat 0x42C00000#32 (hk x0 x3 x7 ⟨r.val / 2048, by omega⟩ ⟨r.val % 2048, by omega⟩ ⟨j.val / 128, by omega⟩) fun k => x5 (ix1 k))
      (x1 (ix2 ⟨r.val / 2048, by omega⟩ ⟨r.val % 2048, by omega⟩))) ⟨j.val % 128, by omega⟩ := by
  unfold wide
  have e := fun b s h l => (ref_tk x0 x1 x3 x5 x7 b s h l).trans (congrFun (congrArg (fun n => turned n (x1 (ix2 b s))) (funext fun l => ref_nk x0 x3 x5 x7 b s h l)) l)
  simp only [val_main_v117, val_main_v116, val_main_v115, val_main_call1_v0, val_main_c_13]
  generalize val_main_v111 (F := Ideal) x0 x1 x3 x5 x7 = n at e ⊢
  pointwise
  by_cases hj : j.val % 128 < 96
  · simp (disch := omega) only [dif_pos, e]
  · simp (disch := omega) only [dif_neg, pad_zero]

end Cert.Qkv
-- ==== Proof.QkvMath.lean ====
/- The zeros behind a padded head change neither its norm nor its turn. -/
module

public import proofs.«01_k».proof.Proof.QkvRef

@[expose] public section

set_option maxRecDepth 16384

noncomputable section

namespace Cert.Qkv

open Cert.KQkvIdeal Idealize.ShloMosaic Idealize.ShloMosaic.TcCoe Idealize.SL.Sem

/-- The word of 96. -/
theorem headWidth : Ideal.ofBits .f32 0x42C00000#32 = ((96 : ℝ) : EReal) := by
  simp [Ideal.ofBits, Ideal.ieee, -EReal.coe_mul]; norm_num

/-- The named factor is one over 96, so multiplying by it divides by the width of a head. -/
theorem by_width (e : EReal) : e * (Named.named κ "n" 0x3C2AAAAB#32 : Ideal .f32) = Ideal.div e (Ideal.ofBits .f32 0x42C00000#32) := by
  have h : (Named.named κ "n" 0x3C2AAAAB#32 : Ideal .f32) = ((1 / 96 : ℝ) : EReal) := rfl
  rw [h, headWidth, Ideal.div_coe]; all_goals norm_num

/-- A sum over 128 entries whose last 32 are zero is the sum over the first 96. -/
theorem sum_wide (f : Fin 128 → EReal) (h0 : ∀ l : Fin 128, 96 ≤ l.val → f l = 0) : ∑ l, f l = ∑ k : Fin 96, f ⟨k.val, by omega⟩ := by
  have e : ∑ l, f l = ∑ l : Fin (96 + 32), f l := rfl
  rw [e, Fin.sum_univ_add, Finset.sum_eq_zero (s := Finset.univ (α := Fin 32)) fun i _ => h0 _ (by simp only [Fin.val_natAdd]; omega), add_zero]
  rfl

/-- The norm of a padded head is the padded norm of the head. -/
theorem hnorm_wide (u g : Fin 96 → EReal) (l : Fin 128) : hnorm (wide u) (wide g) l = wide (lat 0x42C00000#32 u g) l := by
  unfold hnorm lat
  rw [by_width, sum_wide _ fun l hl => by unfold wide; simp only [dif_neg (show ¬l.val < 96 by omega), mul_zero]]
  have e : ∀ k : Fin 96, wide u ⟨k.val, by omega⟩ = u k := fun k => dif_pos k.isLt
  simp only [e]
  unfold wide
  by_cases hl : l.val < 96
  · simp only [dif_pos hl]
  · simp only [dif_neg hl, zero_mul]

/-- The turn of a padded head by the tables is the padded turn of the head. -/
theorem rope_wide (n : Fin 96 → EReal) (p : BitVec 32) (l : Fin 128) : rope (wide n) (tab_c p) (tab_m p) (tab_p p) l = wide (turned n p) l := by
  unfold rope tab_c tab_m tab_p turned
  have cases : l.val < 64 ∨ (64 ≤ l.val ∧ l.val < 80) ∨ (80 ≤ l.val ∧ l.val < 96) ∨ 96 ≤ l.val := by omega
  rcases cases with h | h | h | h
  · unfold wide
    simp (disch := omega) only [dif_pos, dif_neg, if_pos, if_neg, mul_zero, mul_one, add_zero]
  · have e : wide n ⟨(l.val + 16) % 128, by omega⟩ = n ⟨l.val + 16, by omega⟩ := by
      unfold wide
      simp (disch := omega) only [dif_pos]
      exact congrArg n (Fin.ext (by dsimp only; omega))
    rw [e]
    unfold wide
    simp (disch := omega) only [dif_pos, dif_neg, if_pos, if_neg, mul_zero, mul_one, add_zero, mul_neg, sub_eq_add_neg]
  · have e : wide n ⟨(l.val + 112) % 128, by omega⟩ = n ⟨l.val - 16, by omega⟩ := by
      unfold wide
      simp (disch := omega) only [dif_pos]
      exact congrArg n (Fin.ext (by dsimp only; omega))
    rw [e]
    unfold wide
    simp (disch := omega) only [dif_pos, dif_neg, if_pos, if_neg, mul_zero, mul_one, add_zero]
  · unfold wide
    simp (disch := omega) only [dif_neg, if_neg, mul_zero, add_zero]

/-- A product whose weight has rows of zeros behind the head is the padded product. -/
theorem latProd_wide {n d : ℕ} (w : BitVec 32) (x g : Fin n → EReal) (v : Fin d → Fin n → EReal) (l : Fin 128) :
    latProd w x g (fun k => if h : l.val < d then v ⟨l.val, h⟩ k else 0) = wide (fun z => latProd w x g (v z)) l := by
  unfold latProd wide
  by_cases h : l.val < d
  · simp only [dif_pos h]
  · simp only [dif_neg h, mul_zero, Finset.sum_const_zero]

/-- A padded head that the kernel norms and turns is the padded head of the reference. -/
theorem head_eq (u g c sm sp : Fin 128 → EReal) (u' g' : Fin 96 → EReal) (p : BitVec 32) (l : Fin 128) (hu : ∀ l, u l = wide u' l) (hg : ∀ l, g l = wide g' l)
    (hc : ∀ l, c l = tab_c p l) (hm : ∀ l, sm l = tab_m p l) (hp : ∀ l, sp l = tab_p p l) :
    rope (hnorm u g) c sm sp l = wide (turned (lat 0x42C00000#32 u' g') p) l := by
  obtain rfl := funext hu
  obtain rfl := funext hg
  obtain rfl := funext hc
  obtain rfl := funext hm
  obtain rfl := funext hp
  rw [funext (hnorm_wide u' g'), rope_wide]

end Cert.Qkv
-- ==== Proof.QkvValue.lean ====
/- The latent attention's forward kernel computes the queries, the keys and the values of the reference. -/
module

public import proofs.«01_k».proof.Proof.QkvHost
public import proofs.«01_k».proof.Proof.QkvTables
public import proofs.«01_k».proof.Proof.QkvWeights
public import proofs.«01_k».proof.Proof.QkvMath

@[expose] public section

set_option maxRecDepth 16384

noncomputable section

namespace Cert.Qkv

open Cert.KQkvIdeal Cert.KQkvIdeal.Gen Cert.RQkvIdeal.Read Idealize.ShloMosaic Idealize.ShloMosaic.TcCoe Idealize.SL.Sem
open Idealize.ShloMosaic.Pipeline (Dat)

variable (m : (ℓ : Loc nD τ sig) → Buf (Elt Ideal) ℓ) (c : Dev nD)

/-- The block every window shows at a step of the grid. -/
theorem idx : ∀ t : Fin cfg0.N, win0_0.index t = ![t.val, 10] ∧ win0_1.index t = ![t.val, 24] ∧ win0_2.index t = ![t.val, 25]
    ∧ win0_3.index t = ![t.val, 0] ∧ win0_4.index t = ![t.val, 0] ∧ win0_5.index t = ![t.val, 0] ∧ win0_6.index t = ![0, 0] ∧ win0_7.index t = ![0, 0]
    ∧ win0_8.index t = ![0, 0] ∧ win0_9.index t = ![0, 0] ∧ win0_10.index t = ![0, 0] ∧ win0_11.index t = ![0, 0] ∧ win0_12.index t = ![0, 0]
    ∧ win0_13.index t = ![t.val, 0] ∧ win0_14.index t = ![t.val, 0] ∧ win0_15.index t = ![t.val, 0] :=
  (by decide +kernel : ∀ t : Fin grid0.N, _)

section reads

variable (t : Fin cfg0.N)

/-- The gain of the queries' latent rows, whole at every step. -/
theorem read_ga (k : Fin 256) : (show FVec Ideal S1x256 .f32 from iblk m c 6 t) (ix2 0 k) = GA m c (ix1 k) := by
  rw [← host_ga m c k]
  blk_ext [iblk, idx t]

/-- The gain of the keys' latent rows. -/
theorem read_gb (k : Fin 128) : (show FVec Ideal S1x128 .f32 from iblk m c 7 t) (ix2 0 k) = GB m c (ix1 k) := by
  rw [← host_gb m c k]
  blk_ext [iblk, idx t]

/-- The padded gain of the query heads. -/
theorem read_gq (l : Fin 128) : (show FVec Ideal S1x128 .f32 from iblk m c 8 t) (ix2 0 l) = wide (fun k : Fin 96 => GQ m c (ix1 k)) l := by
  refine Eq.trans ?_ (host_gq m c l)
  blk_ext [iblk, idx t]

/-- The padded gain of the key heads. -/
theorem read_gk (l : Fin 128) : (show FVec Ideal S1x128 .f32 from iblk m c 9 t) (ix2 0 l) = wide (fun k : Fin 96 => GK m c (ix1 k)) l := by
  refine Eq.trans ?_ (host_gk m c l)
  blk_ext [iblk, idx t]

/-- The queries' padded weight. -/
theorem read_wq (h : Fin 8) (l : Fin 128) (k : Fin 256) : (show FVec Ideal S1024x256 .bf16 from iblk m c 10 t) (ix2 (hd h l) k) = if hl : l.val < 96 then WQ m c (ix2 k ⟨96 * h.val + l.val, by omega⟩) else 0 := by
  rw [← host_wq m c h l k]
  blk_ext [iblk, idx t]

/-- The keys' padded weight. -/
theorem read_wk (h : Fin 8) (l : Fin 128) (k : Fin 128) : (show FVec Ideal S1024x128 .bf16 from iblk m c 11 t) (ix2 (hd h l) k) = if hl : l.val < 64 then WK m c (ix2 k ⟨128 * h.val + l.val, by omega⟩) else 0 := by
  rw [← host_wk m c h l k]
  blk_ext [iblk, idx t]

/-- The values' padded weight. -/
theorem read_wv (h : Fin 8) (l : Fin 128) (k : Fin 128) : (show FVec Ideal S1024x128 .bf16 from iblk m c 12 t) (ix2 (hd h l) k) = if hl : l.val < 64 then WK m c (ix2 k ⟨128 * h.val + (64 + l.val), by omega⟩) else 0 := by
  rw [← host_wv m c h l k]
  blk_ext [iblk, idx t]

variable (r : Fin 512) (h : 512 * t.val + r.val < 4096)

/-- A step's latent rows of the queries. -/
theorem read_cq (k : Fin 256) : (show FVec Ideal S512x256 .f32 from iblk m c 0 t) (ix2 r k) = PR m c (ix3 ⟨(512 * t.val + r.val) / 2048, by omega⟩ ⟨(512 * t.val + r.val) % 2048, by omega⟩ ⟨768 + k.val, by omega⟩) := by
  rw [← host_cq m c ⟨512 * t.val + r.val, h⟩ k (by omega)]
  blk_ext [iblk, idx t]

/-- A step's latent rows of the keys. -/
theorem read_ckv (k : Fin 128) : (show FVec Ideal S512x128 .f32 from iblk m c 1 t) (ix2 r k) = PR m c (ix3 ⟨(512 * t.val + r.val) / 2048, by omega⟩ ⟨(512 * t.val + r.val) % 2048, by omega⟩ ⟨1024 + k.val, by omega⟩) := by
  rw [← host_ckv m c ⟨512 * t.val + r.val, h⟩ k (by omega)]
  blk_ext [iblk, idx t]

/-- A step's rotary keys. -/
theorem read_kr (l : Fin 128) : (show FVec Ideal S512x128 .f32 from iblk m c 2 t) (ix2 r l) = if h : l.val < 32 then PR m c (ix3 ⟨(512 * t.val + r.val) / 2048, by omega⟩ ⟨(512 * t.val + r.val) % 2048, by omega⟩ ⟨1152 + l.val, by omega⟩) else 0 := by
  rw [← host_kr m c ⟨512 * t.val + r.val, h⟩ l (by omega)]
  blk_ext [iblk, idx t]

/-- A step's table of the cosines. -/
theorem read_c (l : Fin 128) : (show FVec Ideal S512x128 .f32 from iblk m c 3 t) (ix2 r l) = tab_c (PO m c (ix2 ⟨(512 * t.val + r.val) / 2048, by omega⟩ ⟨(512 * t.val + r.val) % 2048, by omega⟩)) l := by
  rw [← host_c m c ⟨512 * t.val + r.val, h⟩ l]
  blk_ext [iblk, idx t]

/-- A step's table of the sines of the first half. -/
theorem read_m (l : Fin 128) : (show FVec Ideal S512x128 .f32 from iblk m c 4 t) (ix2 r l) = tab_m (PO m c (ix2 ⟨(512 * t.val + r.val) / 2048, by omega⟩ ⟨(512 * t.val + r.val) % 2048, by omega⟩)) l := by
  rw [← host_m m c ⟨512 * t.val + r.val, h⟩ l]
  blk_ext [iblk, idx t]

/-- A step's table of the sines of the second half. -/
theorem read_p (l : Fin 128) : (show FVec Ideal S512x128 .f32 from iblk m c 5 t) (ix2 r l) = tab_p (PO m c (ix2 ⟨(512 * t.val + r.val) / 2048, by omega⟩ ⟨(512 * t.val + r.val) % 2048, by omega⟩)) l := by
  rw [← host_p m c ⟨512 * t.val + r.val, h⟩ l]
  blk_ext [iblk, idx t]

/-- A step's query heads are the reference's, padded. -/
theorem rq_eq (z : Fin 8) (l : Fin 128) : rq (iblk m c 0 t) (iblk m c 6 t) (iblk m c 10 t) r z l = wide (hq (PR m c) (GA m c) (WQ m c) ⟨(512 * t.val + r.val) / 2048, by omega⟩ ⟨(512 * t.val + r.val) % 2048, by omega⟩ z) l := by
  unfold rq hq
  rw [show (fun k => (iblk m c 0 t : FVec Ideal S512x256 .f32) (ix2 r k)) = _ from funext (read_cq m c t r h),
    show (fun k => (iblk m c 6 t : FVec Ideal S1x256 .f32) (ix2 0 k)) = _ from funext (read_ga m c t),
    show (fun k => (iblk m c 10 t : FVec Ideal S1024x256 .bf16) (ix2 (hd z l) k)) = _ from funext (read_wq m c t z l)]
  exact latProd_wide _ _ _ (fun (a : Fin 96) k => WQ m c (ix2 k ⟨96 * z.val + a.val, by omega⟩)) l

/-- A step's key heads are the reference's, padded. -/
theorem rk_eq (z : Fin 8) (l : Fin 128) : rk (iblk m c 1 t) (iblk m c 2 t) (iblk m c 7 t) (iblk m c 11 t) r z l = wide (hk (PR m c) (GB m c) (WK m c) ⟨(512 * t.val + r.val) / 2048, by omega⟩ ⟨(512 * t.val + r.val) % 2048, by omega⟩ z) l := by
  unfold rk
  rw [show (fun k => (iblk m c 1 t : FVec Ideal S512x128 .f32) (ix2 r k)) = _ from funext (read_ckv m c t r h),
    show (fun k => (iblk m c 7 t : FVec Ideal S1x128 .f32) (ix2 0 k)) = _ from funext (read_gb m c t),
    show (fun k => (iblk m c 11 t : FVec Ideal S1024x128 .bf16) (ix2 (hd z l) k)) = _ from funext (read_wk m c t z l)]
  refine (congrArg₂ (· + ·) (latProd_wide _ _ _ (fun (a : Fin 64) k => WK m c (ix2 k ⟨128 * z.val + a.val, by omega⟩)) l)
    (read_kr m c t r h ⟨(l.val + 64) % 128, by omega⟩)).trans ?_
  unfold wide hk hkv
  have cases : l.val < 64 ∨ (64 ≤ l.val ∧ l.val < 96) ∨ 96 ≤ l.val := by omega
  rcases cases with hl | hl | hl
  · simp (disch := omega) only [dif_pos, dif_neg, if_pos, add_zero]
  · simp (disch := omega) only [dif_pos, dif_neg, if_neg, zero_add]
    exact congrArg (fun a => PR m c (ix3 ⟨(512 * t.val + r.val) / 2048, by omega⟩ ⟨(512 * t.val + r.val) % 2048, by omega⟩ a)) (Fin.ext (by dsimp only; omega))
  · simp (disch := omega) only [dif_neg, add_zero]

/-- A step's values are the reference's, padded. -/
theorem rv_eq (j : Fin 1024) : latProd 0x43000000#32 (fun k => (iblk m c 1 t : FVec Ideal S512x128 .f32) (ix2 r k)) (fun k => (iblk m c 7 t : FVec Ideal S1x128 .f32) (ix2 0 k))
      (fun k => (iblk m c 12 t : FVec Ideal S1024x128 .bf16) (ix2 j k))
    = wide (fun l : Fin 64 => hkv (PR m c) (GB m c) (WK m c) ⟨(512 * t.val + r.val) / 2048, by omega⟩ ⟨(512 * t.val + r.val) % 2048, by omega⟩ ⟨j.val / 128, by omega⟩ ⟨64 + l.val, by omega⟩) ⟨j.val % 128, by omega⟩ := by
  have hj : hd ⟨j.val / 128, by omega⟩ ⟨j.val % 128, by omega⟩ = j := Fin.ext (by unfold hd; dsimp only; omega)
  have w := read_wv m c t ⟨j.val / 128, by omega⟩ ⟨j.val % 128, by omega⟩
  rw [hj] at w
  rw [show (fun k => (iblk m c 1 t : FVec Ideal S512x128 .f32) (ix2 r k)) = _ from funext (read_ckv m c t r h),
    show (fun k => (iblk m c 7 t : FVec Ideal S1x128 .f32) (ix2 0 k)) = _ from funext (read_gb m c t),
    show (fun k => (iblk m c 12 t : FVec Ideal S1024x128 .bf16) (ix2 j k)) = _ from funext w]
  exact latProd_wide _ _ _ (fun (a : Fin 64) k => WK m c (ix2 k ⟨128 * (j.val / 128) + (64 + a.val), by omega⟩)) _

end reads

/-- The rows of a step are rows of the array. -/
theorem rows (t : Fin cfg0.N) (r : Fin 512) : 512 * t.val + r.val < 4096 := by
  have : t.val < 8 := t.isLt
  omega

/-- The queries. -/
theorem final_q : (dats m 0 c).arrAt 13 cfg0.N = val_main_v114 (F := Ideal) (PR m c) (PO m c) (GA m c) (GQ m c) (WQ m c) := by
  refine (dats m 0 c).arrAt_eq_of_covers 13 _ (by decide +kernel) fun t hf y => ?_
  rw [after0_13, q_point]
  obtain ⟨r, j, rfl⟩ : ∃ (r : Fin 512) (j : Fin 1024), y = ix2 r j := ⟨y 0, y 1, eq_ix2 y⟩
  have h := rows t r
  refine Eq.trans (b := val_main_v114 (F := Ideal) (PR m c) (PO m c) (GA m c) (GQ m c) (WQ m c) (ix2 ⟨512 * t.val + r.val, h⟩ j)) ?_ ?_
  · exact (head_eq _ _ _ _ _ _ _ _ _ (rq_eq m c t r h _) (read_gq m c t) (read_c m c t r h) (read_m m c t r h) (read_p m c t r h)).trans (ref_rq _ _ _ _ _ ⟨512 * t.val + r.val, h⟩ j).symm
  · show val_main_v114 (F := Ideal) (PR m c) (PO m c) (GA m c) (GQ m c) (WQ m c) _ = val_main_v114 (F := Ideal) (PR m c) (PO m c) (GA m c) (GQ m c) (WQ m c) _
    blk_ext [idx t]

/-- The keys. -/
theorem final_k : (dats m 0 c).arrAt 14 cfg0.N = val_main_v117 (F := Ideal) (PR m c) (PO m c) (GB m c) (GK m c) (WK m c) := by
  refine (dats m 0 c).arrAt_eq_of_covers 14 _ (by decide +kernel) fun t hf y => ?_
  rw [after0_14, k_point]
  obtain ⟨r, j, rfl⟩ : ∃ (r : Fin 512) (j : Fin 1024), y = ix2 r j := ⟨y 0, y 1, eq_ix2 y⟩
  have h := rows t r
  refine Eq.trans (b := val_main_v117 (F := Ideal) (PR m c) (PO m c) (GB m c) (GK m c) (WK m c) (ix2 ⟨512 * t.val + r.val, h⟩ j)) ?_ ?_
  · exact (head_eq _ _ _ _ _ _ _ _ _ (rk_eq m c t r h _) (read_gk m c t) (read_c m c t r h) (read_m m c t r h) (read_p m c t r h)).trans (ref_rk _ _ _ _ _ ⟨512 * t.val + r.val, h⟩ j).symm
  · show val_main_v117 (F := Ideal) (PR m c) (PO m c) (GB m c) (GK m c) (WK m c) _ = val_main_v117 (F := Ideal) (PR m c) (PO m c) (GB m c) (GK m c) (WK m c) _
    blk_ext [idx t]

/-- The values. -/
theorem final_v : (dats m 0 c).arrAt 15 cfg0.N = val_main_v120 (F := Ideal) (PR m c) (GB m c) (WK m c) := by
  refine (dats m 0 c).arrAt_eq_of_covers 15 _ (by decide +kernel) fun t hf y => ?_
  rw [after0_15, v_point]
  obtain ⟨r, j, rfl⟩ : ∃ (r : Fin 512) (j : Fin 1024), y = ix2 r j := ⟨y 0, y 1, eq_ix2 y⟩
  have h := rows t r
  refine Eq.trans (b := val_main_v120 (F := Ideal) (PR m c) (GB m c) (WK m c) (ix2 ⟨512 * t.val + r.val, h⟩ j)) ?_ ?_
  · exact (rv_eq m c t r h j).trans (ref_rv _ _ _ ⟨512 * t.val + r.val, h⟩ j).symm
  · show val_main_v120 (F := Ideal) (PR m c) (GB m c) (WK m c) _ = val_main_v120 (F := Ideal) (PR m c) (GB m c) (WK m c) _
    blk_ext [idx t]

end Cert.Qkv
-- ==== Proof.DownValue.lean ====
/- The product kernel computes the SwiGLU's down projection with the residual behind it. -/
module

public import proofs.«01_k».proof.Proof.Gen.KDownIdeal.Value
public import proofs.«01_k».proof.Proof.Gen.RDownIdeal.Read
public import Idealize.ShloMosaic.Lib.Pipeline.ValueKit
public import Idealize.ShloMosaic.Lib.StableHlo.RunRead

@[expose] public section

set_option maxRecDepth 16384

noncomputable section

namespace Cert.Down

open Cert.KDownIdeal Cert.KDownIdeal.Gen Cert.RDownIdeal.Read Idealize.ShloMosaic Idealize.ShloMosaic.TcCoe Idealize.SL.Sem
open Idealize.ShloMosaic.Pipeline (Dat)

/-- An entry of the residual and half the product. -/
def down (h w : Fin 2816 → EReal) (x : EReal) : EReal := x + (∑ k, h k * w k) * Ideal.ofBits .f32 0x3F000000#32

/-- What a step leaves. -/
theorem point (x0 : FVec Ideal S512x2816 .bf16) (x1 : FVec Ideal S2816x1024 .bf16) (x2 : FVec Ideal S512x1024 .f32) (y : S512x1024.Idx) :
    out0_3 (F := Ideal) x0 x1 x2 y = down (fun k => x0 (ix2 (y 0) k)) (fun k => x1 (ix2 k (y 1))) (x2 (ix2 (y 0) (y 1))) := by
  unfold out0_3
  canon_tiles z h
  all_goals
    idx_vars z
    idx_vars y
    unfold_payloads
    unfold down
    pointwise [View.ld_apply]
    obtain ⟨y0, hy0⟩ := y0
    obtain ⟨y1, hy1⟩ := y1
    dsimp only at h0 h1
    subst h0 h1
    rfl

variable (m : (ℓ : Loc nD τ sig) → Buf (Elt Ideal) ℓ) (c : Dev nD)

/-- The hidden rows. -/
abbrev H : FVec Ideal S4096x2816 .f32 := m ((c.tc : Thread nD τ).loc main_arg0)
/-- The down projection's weight. -/
abbrev W : FVec Ideal S2816x1024 .f32 := m ((c.tc : Thread nD τ).loc main_arg1)
/-- The residual. -/
abbrev X : FVec Ideal S4096x1024 .f32 := m ((c.tc : Thread nD τ).loc main_arg2)

/-- The hidden rows that the host passes on. -/
theorem host_h (r : Fin 4096) (k : Fin 2816) : (show FVec Ideal S4096x2816 .bf16 from V m c main_v0) (ix2 r k) = H m c (ix2 r k) := by
  simp only [V]
  after_reads_simp
  pointwise

/-- The weight that the host passes on. -/
theorem host_w (k : Fin 2816) (j : Fin 1024) : (show FVec Ideal S2816x1024 .bf16 from V m c main_v1) (ix2 k j) = W m c (ix2 k j) := by
  simp only [V]
  after_reads_simp
  pointwise

/-- The block every window shows at a step of the grid. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

section reads

variable (t : Fin cfg0.N) (r : Fin 512) (h : 512 * t.val + r.val < 4096)

/-- A step's hidden rows. -/
theorem read_h (k : Fin 2816) : (show FVec Ideal S512x2816 .bf16 from iblk m c 0 t) (ix2 r k) = H m c (ix2 ⟨512 * t.val + r.val, h⟩ k) := by
  rw [← host_h m c]
  blk_ext [iblk, idx t]

/-- The weight, whole at every step. -/
theorem read_w (j : Fin 1024) (k : Fin 2816) : (show FVec Ideal S2816x1024 .bf16 from iblk m c 1 t) (ix2 k j) = W m c (ix2 k j) := by
  rw [← host_w m c k j]
  blk_ext [iblk, idx t]

/-- A step's rows of the residual. -/
theorem read_x (j : Fin 1024) : (show FVec Ideal S512x1024 .f32 from iblk m c 2 t) (ix2 r j) = X m c (ix2 ⟨512 * t.val + r.val, h⟩ j) := by
  rw [show X m c = V m c main_arg2 from (V_main_arg2 m c).symm]
  blk_ext [iblk, idx t]

end reads

/-- The reference's rows. -/
theorem ref (h : FVec Ideal S4096x2816 .f32) (w : FVec Ideal S2816x1024 .f32) (x : FVec Ideal S4096x1024 .f32) (r : Fin 4096) (j : Fin 1024) :
    val_main_v3 (F := Ideal) h w x (ix2 r j) = down (fun k => h (ix2 r k)) (fun k => w (ix2 k j)) (x (ix2 r j)) := by
  unfold down
  rw [mul_comm]
  simp only [val_main_v3, val_main_v2, val_main_v1, val_main_v0, val_main_cst]
  pointwise

/-- The rows behind the down projection. -/
theorem final : (dats m 0 c).arrAt 3 cfg0.N = val_main_v3 (F := Ideal) (H m c) (W m c) (X m c) := by
  refine (dats m 0 c).arrAt_eq_of_covers 3 _ (by decide +kernel) fun t hf y => ?_
  rw [after0_3, point]
  obtain ⟨r, j, rfl⟩ : ∃ (r : Fin 512) (j : Fin 1024), y = ix2 r j := ⟨y 0, y 1, eq_ix2 y⟩
  have ht : t.val < 8 := t.isLt
  have h : 512 * t.val + r.val < 4096 := by omega
  refine Eq.trans (b := val_main_v3 (F := Ideal) (H m c) (W m c) (X m c) (ix2 ⟨512 * t.val + r.val, h⟩ j)) ?_ ?_
  · rw [ref, ← funext (read_h m c t r h), ← funext (read_w m c t j), ← read_x m c t r h j]
    rfl
  · show val_main_v3 (F := Ideal) (H m c) (W m c) (X m c) _ = val_main_v3 (F := Ideal) (H m c) (W m c) (X m c) _
    blk_ext [idx t]

end Cert.Down
-- ==== Proof.DwValue.lean ====
/- The product over the tokens is the gradient of the combined input projection's weight, its rows in the packed order. -/
module

public import proofs.«01_k».proof.Proof.Gen.KDwIdeal.Value
public import proofs.«01_k».proof.Proof.Gen.RDwIdeal.Read
public import proofs.«01_k».proof.Proof.ProjValue
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Dw

open Cert.KDwIdeal Cert.KDwIdeal.Gen Cert.RDwIdeal.Read Idealize.ShloMosaic Idealize.ShloMosaic.TcCoe Idealize.SL.Sem
open Cert.Merge (col)
open Cert.Packed (pack)
open Idealize.ShloMosaic.Pipeline (Dat)

section block

variable (x0 x1 : FVec Ideal S512x1024 .bf16) (x2 : FVec Ideal S512x512 .bf16) (x3 : FVec Ideal S512x256 .bf16) (x4 x5 x6 x7 : FVec Ideal S512x128 .bf16)
  (x8 : FVec Ideal S512x1024 .bf16)

/-- The eight pieces of a step's gradients, read as one row of columns. -/
def piece (k : Fin 512) (r : Fin 3328) : EReal :=
  if h : r.val < 1024 then x0 (ix2 k ⟨r.val, h⟩)
  else if h : r.val < 2048 then x1 (ix2 k ⟨r.val - 1024, by omega⟩)
  else if h : r.val < 2560 then x2 (ix2 k ⟨r.val - 2048, by omega⟩)
  else if h : r.val < 2816 then x3 (ix2 k ⟨r.val - 2560, by omega⟩)
  else if h : r.val < 2944 then x4 (ix2 k ⟨r.val - 2816, by omega⟩)
  else if h : r.val < 3072 then x5 (ix2 k ⟨r.val - 2944, by omega⟩)
  else if h : r.val < 3200 then x6 (ix2 k ⟨r.val - 3072, by omega⟩)
  else x7 (ix2 k ⟨r.val - 3200, by omega⟩)

/-- To be an entry of the pieces, it is enough to be the entry of every column with the same number. -/
theorem piece_of (f : EReal) (k : Fin 512) (r : Fin 3328) (h : ∀ q : Fin 3328, q.val = r.val → f = piece x0 x1 x2 x3 x4 x5 x6 x7 k q) :
    f = piece x0 x1 x2 x3 x4 x5 x6 x7 k r := h r rfl

/-- A step's part of an entry: the product over its 512 tokens. -/
def part (y : S3328x1024.Idx) : EReal :=
  ∑ k : Fin 512, piece x0 x1 x2 x3 x4 x5 x6 x7 k (y 0) * x8 (ix2 k (y 1))

end block

variable (m : (ℓ : Loc nD τ sig) → Buf (Elt Ideal) ℓ) (c : Dev nD)

set_option maxHeartbeats 1000000 in
/-- The first step leaves its own part. -/
theorem first (t : Fin cfg0.N) (h0 : t.val % 8 = 0) (h1 : ¬t.val % 8 = 7) (y : S3328x1024.Idx) :
    (outsAt0 m c t.val t.isLt).2 y = 0 + part (iblk m c 0 t) (iblk m c 1 t) (iblk m c 2 t) (iblk m c 3 t) (iblk m c 4 t) (iblk m c 5 t) (iblk m c 6 t) (iblk m c 7 t) (iblk m c 8 t) y := by
  rw [outsAt0_A m c t h0 h1]
  frame_out
  clear h0 h1
  simp (disch := first | decide | (intro a; fin_cases a <;> rfl)) only [↓View.readCov_skip, ↓View.readCov_fill]
  refine (View.canon_append_of_piecesOf (Val := Elt Ideal) (s := S3328x1024) (e := .f32) (fun y => 0 + part (iblk m c 0 t) (iblk m c 1 t) (iblk m c 2 t) (iblk m c 3 t) (iblk m c 4 t) (iblk m c 5 t) (iblk m c 6 t) (iblk m c 7 t) (iblk m c 8 t) y) [_] [_, _, _, _, _, _, _, _, _, _] ?_ y (View.cover_of_tiledBy _ ![128, 1024] (by sl_kernel_rfl) y))
  refine ⟨?_, ?_, ?_, ?_, ?_, ?_, ?_, ?_, ?_, ?_, trivial⟩
  all_goals
    intro z
    idx_vars z
    unfold_payloads
    unfold part
    pointwise [View.ld_apply]
    refine Finset.sum_congr rfl fun k _ => congrArg₂ (fun a b => @HMul.hMul EReal EReal EReal _ a b) (piece_of _ _ _ _ _ _ _ _ _ k _ fun q hq => ?_)
      (congrArg (fun b => iblk m c 8 t (ix2 k b)) (Fin.ext (by exact (by omega : z1.val = 0 + 1 * z1.val))))
    change q.val = _ + 1 * z0.val at hq
    simp only [Rect.unit, Matrix.cons_val, Nat.one_mul] at hq
    obtain ⟨q, hq'⟩ := q
    dsimp only at hq
    subst hq
    unfold piece
    simp (disch := omega) only [dif_pos, dif_neg, Nat.add_sub_cancel_left, Nat.zero_add]
    first
      | done
      | rfl
      | exact congrArg (fun z => iblk m c 1 t (ix2 k z)) (Fin.ext (show 512 + z0.val = 1536 + z0.val - 1024 by omega))

set_option maxHeartbeats 1000000 in
/-- A step in between adds its part. -/
theorem middle (t : Fin cfg0.N) (h0 : ¬t.val % 8 = 0) (h1 : ¬t.val % 8 = 7) (y : S3328x1024.Idx) :
    (outsAt0 m c t.val t.isLt).2 y = (outsAt0 m c (t.val - 1) (Nat.lt_of_le_of_lt (Nat.sub_le _ _) t.isLt)).2 y + part (iblk m c 0 t) (iblk m c 1 t) (iblk m c 2 t) (iblk m c 3 t) (iblk m c 4 t) (iblk m c 5 t) (iblk m c 6 t) (iblk m c 7 t) (iblk m c 8 t) y := by
  rw [outsAt0_B m c t h0 h1]
  frame_out
  clear h0 h1
  simp only [read_unread_whole]
  generalize (outsAt0 m c (t.val - 1) _).2 = acc
  refine (View.canon_append_of_piecesOf (Val := Elt Ideal) (s := S3328x1024) (e := .f32) (fun y => acc y + part (iblk m c 0 t) (iblk m c 1 t) (iblk m c 2 t) (iblk m c 3 t) (iblk m c 4 t) (iblk m c 5 t) (iblk m c 6 t) (iblk m c 7 t) (iblk m c 8 t) y) [] [_, _, _, _, _, _, _, _, _, _] ?_ y (View.cover_of_tiledBy _ ![128, 1024] (by sl_kernel_rfl) y))
  refine ⟨?_, ?_, ?_, ?_, ?_, ?_, ?_, ?_, ?_, ?_, trivial⟩
  all_goals
    intro z
    idx_vars z
    unfold_payloads
    unfold part
    pointwise [View.ld_apply]
    refine congrArg₂ (fun a b => @HAdd.hAdd EReal EReal EReal _ a b) (congrArg acc (funext fun a => Fin.ext ?_)) ?_
    · fin_cases a
      · first
          | exact congrArg (_ + ·) (Nat.one_mul z0.val).symm
          | exact (by omega : z0.val = 0 + 1 * z0.val)
      · exact (by omega : z1.val = 0 + 1 * z1.val)
    refine Finset.sum_congr rfl fun k _ => congrArg₂ (fun a b => @HMul.hMul EReal EReal EReal _ a b) (piece_of _ _ _ _ _ _ _ _ _ k _ fun q hq => ?_)
      (congrArg (fun b => iblk m c 8 t (ix2 k b)) (Fin.ext (by exact (by omega : z1.val = 0 + 1 * z1.val))))
    change q.val = _ + 1 * z0.val at hq
    simp only [Rect.unit, Matrix.cons_val, Nat.one_mul] at hq
    obtain ⟨q, hq'⟩ := q
    dsimp only at hq
    subst hq
    unfold piece
    simp (disch := omega) only [dif_pos, dif_neg, Nat.add_sub_cancel_left, Nat.zero_add]
    first
      | done
      | rfl
      | exact congrArg (fun z => iblk m c 1 t (ix2 k z)) (Fin.ext (show 512 + z0.val = 1536 + z0.val - 1024 by omega))

set_option maxHeartbeats 1000000 in
/-- The last step writes the whole. -/
theorem last (t : Fin cfg0.N) (h0 : ¬t.val % 8 = 0) (h1 : t.val % 8 = 7) (y : S3328x1024.Idx) :
    (outsAt0 m c t.val t.isLt).1 y = (outsAt0 m c (t.val - 1) (Nat.lt_of_le_of_lt (Nat.sub_le _ _) t.isLt)).2 y + part (iblk m c 0 t) (iblk m c 1 t) (iblk m c 2 t) (iblk m c 3 t) (iblk m c 4 t) (iblk m c 5 t) (iblk m c 6 t) (iblk m c 7 t) (iblk m c 8 t) y := by
  rw [outsAt0_C m c t h0 h1]
  frame_out
  clear h0 h1
  simp only [read_unread_whole]
  generalize (outsAt0 m c (t.val - 1) _).2 = acc
  rw [View.readCov_eq_canon_ld _ _ _ (fun y => View.cover_of_tiledBy _ ![128, 1024] (by sl_kernel_rfl) y)]
  unfold k0_pay3
  pointwise
  refine (View.canon_append_of_piecesOf (Val := Elt Ideal) (s := S3328x1024) (e := .f32) (fun y => acc y + part (iblk m c 0 t) (iblk m c 1 t) (iblk m c 2 t) (iblk m c 3 t) (iblk m c 4 t) (iblk m c 5 t) (iblk m c 6 t) (iblk m c 7 t) (iblk m c 8 t) y) [] [_, _, _, _, _, _, _, _, _, _] ?_ y (View.cover_of_tiledBy _ ![128, 1024] (by sl_kernel_rfl) y))
  refine ⟨?_, ?_, ?_, ?_, ?_, ?_, ?_, ?_, ?_, ?_, trivial⟩
  all_goals
    intro z
    idx_vars z
    unfold_payloads
    unfold part
    pointwise [View.ld_apply]
    refine congrArg₂ (fun a b => @HAdd.hAdd EReal EReal EReal _ a b) (congrArg acc (funext fun a => Fin.ext ?_)) ?_
    · fin_cases a
      · first
          | exact congrArg (_ + ·) (Nat.one_mul z0.val).symm
          | exact (by omega : z0.val = 0 + 1 * z0.val)
      · exact (by omega : z1.val = 0 + 1 * z1.val)
    refine Finset.sum_congr rfl fun k _ => congrArg₂ (fun a b => @HMul.hMul EReal EReal EReal _ a b) (piece_of _ _ _ _ _ _ _ _ _ k _ fun q hq => ?_)
      (congrArg (fun b => iblk m c 8 t (ix2 k b)) (Fin.ext (by exact (by omega : z1.val = 0 + 1 * z1.val))))
    change q.val = _ + 1 * z0.val at hq
    simp only [Rect.unit, Matrix.cons_val, Nat.one_mul] at hq
    obtain ⟨q, hq'⟩ := q
    dsimp only at hq
    subst hq
    unfold piece
    simp (disch := omega) only [dif_pos, dif_neg, Nat.add_sub_cancel_left, Nat.zero_add]
    first
      | done
      | rfl
      | exact congrArg (fun z => iblk m c 1 t (ix2 k z)) (Fin.ext (show 512 + z0.val = 1536 + z0.val - 1024 by omega))

/-- The gradients of the projection. -/
abbrev A : FVec Ideal S4096x3232 .f32 := m ((c.tc : Thread nD τ).loc main_arg1)
/-- The projection's input. -/
abbrev B : FVec Ideal S4096x1024 .f32 := m ((c.tc : Thread nD τ).loc main_arg0)

/-- The gradients cut into their pieces: those that keep their order. -/
theorem host_a (r : Fin 4096) :
    (∀ k : Fin 1024, (show FVec Ideal S4096x1024 .bf16 from V m c main_v7) (ix2 r k) = A m c (ix2 r ⟨1184 + k.val, by omega⟩))
      ∧ (∀ k : Fin 1024, (show FVec Ideal S4096x1024 .bf16 from V m c main_v8) (ix2 r k) = A m c (ix2 r ⟨2208 + k.val, by omega⟩))
      ∧ (∀ k : Fin 256, (show FVec Ideal S4096x256 .bf16 from V m c main_v4) (ix2 r k) = A m c (ix2 r ⟨768 + k.val, by omega⟩))
      ∧ (∀ k : Fin 128, (show FVec Ideal S4096x128 .bf16 from V m c main_v2) (ix2 r k) = A m c (ix2 r ⟨512 + k.val, by omega⟩))
      ∧ (∀ k : Fin 128, (show FVec Ideal S4096x128 .bf16 from V m c main_v3) (ix2 r k) = A m c (ix2 r ⟨640 + k.val, by omega⟩))
      ∧ (∀ k : Fin 128, (show FVec Ideal S4096x128 .bf16 from V m c main_v5) (ix2 r k) = A m c (ix2 r ⟨1024 + k.val, by omega⟩)) := by
  simp only [V]
  after_reads_simp
  refine ⟨fun k => ?_, fun k => ?_, fun k => ?_, fun k => ?_, fun k => ?_, fun k => ?_⟩ <;> pointwise

set_option maxHeartbeats 1000000 in
/-- The heads of the window attention in their stored order. -/
theorem host_q (r : Fin 4096) (k : Fin 512) : (show FVec Ideal S4096x512 .bf16 from V m c main_v17) (ix2 r k) = A m c (ix2 r (Fin.castLE (by omega) (col k))) := by
  simp only [V]
  after_reads_simp
  dsimp only [Matrix.cons_val]
  pointwise
  after_reads_simp
  pointwise
  split_ifs <;> exact congrArg (fun z => A m c (ix2 r z)) (Fin.ext (by simp only [col, Fin.val_castLE]; omega))

/-- The rotary key's piece, widened by zeros. -/
theorem host_r (r : Fin 4096) (k : Fin 128) : (show FVec Ideal S4096x128 .bf16 from V m c main_v18) (ix2 r k)
    = if h : k.val < 32 then A m c (ix2 r ⟨1152 + k.val, by omega⟩) else 0 := by
  have zero : (FloatOps.sitofp (F := Ideal) .bf16 0#32 : EReal) = 0 := by
    show ((((0#32 : BitVec 32).toInt : ℤ) : ℝ) : EReal) = 0
    simp
  rw [← zero]
  simp only [V]
  after_reads_simp
  simp -implicitDefEqProofs only [StableHlo.TRef.toBuf, StableHlo.TRef.ofBuf, cast_cast, cast_eq]
  pointwise

/-- The input that the host passes on. -/
theorem host_b (r : Fin 4096) (k : Fin 1024) : (show FVec Ideal S4096x1024 .bf16 from V m c main_v19) (ix2 r k) = B m c (ix2 r k) := by
  simp only [V]
  after_reads_simp
  pointwise

/-- The block every window shows at a step of the grid. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![0, 0] :=
  (by decide +kernel : ∀ t : Fin grid0.N, _)

section reads

variable (t : Fin cfg0.N) (r : Fin 512) (h : t.val * 512 + r.val < 4096)

set_option maxHeartbeats 1000000 in
/-- The blocks of the pieces are rows of the pieces. -/
theorem read_d :
    (∀ k : Fin 1024, (show FVec Ideal S512x1024 .bf16 from iblk m c 0 t) (ix2 r k) = (show FVec Ideal S4096x1024 .bf16 from V m c main_v7) (ix2 ⟨t.val * 512 + r.val, h⟩ k))
      ∧ (∀ k : Fin 1024, (show FVec Ideal S512x1024 .bf16 from iblk m c 1 t) (ix2 r k) = (show FVec Ideal S4096x1024 .bf16 from V m c main_v8) (ix2 ⟨t.val * 512 + r.val, h⟩ k))
      ∧ (∀ k : Fin 512, (show FVec Ideal S512x512 .bf16 from iblk m c 2 t) (ix2 r k) = (show FVec Ideal S4096x512 .bf16 from V m c main_v17) (ix2 ⟨t.val * 512 + r.val, h⟩ k))
      ∧ (∀ k : Fin 256, (show FVec Ideal S512x256 .bf16 from iblk m c 3 t) (ix2 r k) = (show FVec Ideal S4096x256 .bf16 from V m c main_v4) (ix2 ⟨t.val * 512 + r.val, h⟩ k))
      ∧ (∀ k : Fin 128, (show FVec Ideal S512x128 .bf16 from iblk m c 4 t) (ix2 r k) = (show FVec Ideal S4096x128 .bf16 from V m c main_v2) (ix2 ⟨t.val * 512 + r.val, h⟩ k))
      ∧ (∀ k : Fin 128, (show FVec Ideal S512x128 .bf16 from iblk m c 5 t) (ix2 r k) = (show FVec Ideal S4096x128 .bf16 from V m c main_v3) (ix2 ⟨t.val * 512 + r.val, h⟩ k))
      ∧ (∀ k : Fin 128, (show FVec Ideal S512x128 .bf16 from iblk m c 6 t) (ix2 r k) = (show FVec Ideal S4096x128 .bf16 from V m c main_v5) (ix2 ⟨t.val * 512 + r.val, h⟩ k))
      ∧ (∀ k : Fin 128, (show FVec Ideal S512x128 .bf16 from iblk m c 7 t) (ix2 r k) = (show FVec Ideal S4096x128 .bf16 from V m c main_v18) (ix2 ⟨t.val * 512 + r.val, h⟩ k))
      ∧ (∀ k : Fin 1024, (show FVec Ideal S512x1024 .bf16 from iblk m c 8 t) (ix2 r k) = (show FVec Ideal S4096x1024 .bf16 from V m c main_v19) (ix2 ⟨t.val * 512 + r.val, h⟩ k)) := by
  refine ⟨fun k => ?_, fun k => ?_, fun k => ?_, fun k => ?_, fun k => ?_, fun k => ?_, fun k => ?_, fun k => ?_, fun k => ?_⟩ <;> blk_ext [iblk, idx t]

set_option maxHeartbeats 1000000 in
/-- A step's pieces, read as one row, are the packed row of the gradients. -/
theorem read_a (j : Fin 3328) : piece (iblk m c 0 t) (iblk m c 1 t) (iblk m c 2 t) (iblk m c 3 t) (iblk m c 4 t) (iblk m c 5 t) (iblk m c 6 t) (iblk m c 7 t) r j
    = pack (fun z => A m c (ix2 ⟨t.val * 512 + r.val, h⟩ z)) j := by
  obtain ⟨d0, d1, d2, d3, d4, d5, d6, d7, -⟩ := read_d m c t r h
  obtain ⟨e0, e1, e3, e4, e5, e6⟩ := host_a m c ⟨t.val * 512 + r.val, h⟩
  unfold piece pack
  split_ifs with h0 h1 h2 h3 h4 h5 h6 h7
  · exact (d0 _).trans (e0 _)
  · exact (d1 _).trans (e1 _)
  · exact (d2 _).trans (host_q m c _ _)
  · exact (d3 _).trans (e3 _)
  · exact (d4 _).trans (e4 _)
  · exact (d5 _).trans (e5 _)
  · exact (d6 _).trans (e6 _)
  · exact ((d7 _).trans (host_r m c _ _)).trans (dif_pos (show j.val - 3200 < 32 by omega))
  · exact ((d7 _).trans (host_r m c _ _)).trans (dif_neg (show ¬j.val - 3200 < 32 by omega))

/-- A step's rows of the input. -/
theorem read_b (k : Fin 1024) : (show FVec Ideal S512x1024 .bf16 from iblk m c 8 t) (ix2 r k) = B m c (ix2 ⟨t.val * 512 + r.val, h⟩ k) :=
  ((read_d m c t r h).2.2.2.2.2.2.2.2 k).trans (host_b m c _ k)

end reads

section reference

variable (b : FVec Ideal S4096x1024 .f32) (a : FVec Ideal S4096x3232 .f32)

/-- The reference's gradient of the weight, transposed. -/
theorem ref_w (r : Fin 3232) (j : Fin 1024) : val_main_v4 (F := Ideal) b a (ix2 r j) = ∑ l : Fin 4096, a (ix2 l r) * b (ix2 l j) := by
  simp only [val_main_v4, val_main_v3, val_main_v2]
  pointwise

set_option maxHeartbeats 2000000 in
/-- The reference's packed rows. -/
theorem ref_pack (r : Fin 3328) (j : Fin 1024) : val_main_v16 (F := Ideal) b a (ix2 r j) = pack (fun z => val_main_v4 (F := Ideal) b a (ix2 z j)) r := by
  have zero : (FloatOps.sitofp (F := Ideal) .f32 0#32 : EReal) = 0 := by
    show ((((0#32 : BitVec 32).toInt : ℤ) : ℝ) : EReal) = 0
    simp
  unfold pack
  simp only [val_main_v16, val_main_v15]
  pointwise
  have cases : r.val < 1024 ∨ (1024 ≤ r.val ∧ r.val < 2048) ∨ (2048 ≤ r.val ∧ r.val < 2560) ∨ (2560 ≤ r.val ∧ r.val < 2816) ∨ (2816 ≤ r.val ∧ r.val < 2944)
      ∨ (2944 ≤ r.val ∧ r.val < 3072) ∨ (3072 ≤ r.val ∧ r.val < 3200) ∨ (3200 ≤ r.val ∧ r.val < 3232) ∨ 3232 ≤ r.val := by omega
  rcases cases with h | h | h | h | h | h | h | h | h
  all_goals
    simp (disch := omega) only [dif_pos, dif_neg, val_main_v14, val_main_v13, val_main_v12, val_main_v11, val_main_v10, val_main_v9, val_main_v8, val_main_v7, val_main_v6, val_main_v5, val_main_call0_v0, val_main_c]
    generalize val_main_v4 (F := Ideal) b a = n
    pointwise
    try simp (disch := omega) only [dif_pos, dif_neg, zero]
    try exact congrArg (fun z => n (ix2 z j)) (Fin.ext (by simp only [col, Fin.val_castLE] <;> omega))

/-- The rows of a product, packed, are the product of the packed rows. -/
theorem pack_sum (f : Fin 4096 → Fin 3232 → EReal) (g : Fin 4096 → EReal) (r : Fin 3328) :
    pack (fun z => ∑ l, f l z * g l) r = ∑ l, pack (f l) r * g l := by
  unfold pack
  split_ifs
  all_goals first | rfl | simp only [zero_mul, Finset.sum_const_zero]

/-- The reference's gradient, packed. -/
theorem ref (r : Fin 3328) (j : Fin 1024) :
    val_main_v16 (F := Ideal) b a (ix2 r j) = ∑ l : Fin 4096, pack (fun z => a (ix2 l z)) r * b (ix2 l j) := by
  rw [ref_pack, ← pack_sum]
  exact congrArg (fun f => pack f r) (funext fun z => ref_w b a z j)

end reference

/-- What the last step writes is the sum of all the steps' parts. -/
theorem total (t : Fin cfg0.N) (ht : t.val % 8 = 7) (y : S3328x1024.Idx) :
    (outsAt0 m c t.val t.isLt).1 y = ∑ p : Fin 8, part (iblk m c 0 ⟨p.val, p.isLt⟩) (iblk m c 1 ⟨p.val, p.isLt⟩) (iblk m c 2 ⟨p.val, p.isLt⟩) (iblk m c 3 ⟨p.val, p.isLt⟩) (iblk m c 4 ⟨p.val, p.isLt⟩) (iblk m c 5 ⟨p.val, p.isLt⟩) (iblk m c 6 ⟨p.val, p.isLt⟩) (iblk m c 7 ⟨p.val, p.isLt⟩) (iblk m c 8 ⟨p.val, p.isLt⟩) y := by
  obtain rfl : t = ⟨7, by decide⟩ := Fin.ext (by have h : t.val < 8 := t.isLt; show t.val = 7; omega)
  have h6 := middle m c ⟨6, by decide⟩ (by decide) (by decide) y
  have h5 := middle m c ⟨5, by decide⟩ (by decide) (by decide) y
  have h4 := middle m c ⟨4, by decide⟩ (by decide) (by decide) y
  have h3 := middle m c ⟨3, by decide⟩ (by decide) (by decide) y
  have h2 := middle m c ⟨2, by decide⟩ (by decide) (by decide) y
  have h1 := middle m c ⟨1, by decide⟩ (by decide) (by decide) y
  have h0 := first m c ⟨0, by decide⟩ (by decide) (by decide) y
  dsimp only [Nat.add_one_sub_one, Nat.reduceSub] at h0 h1 h2 h3 h4 h5 h6
  rw [last m c _ (by decide) ht y]
  dsimp only [Nat.reduceSub]
  rw [h6, h5, h4, h3, h2, h1, h0, Fin.sum_univ_eight, zero_add]
  rfl

/-- The gradient of the weight, its rows packed. -/
theorem final : (dats m 0 c).arrAt 9 cfg0.N = val_main_v16 (F := Ideal) (B m c) (A m c) := by
  refine (dats m 0 c).arrAt_eq_of_covers 9 _ (by decide +kernel) fun t hf y => ?_
  rw [after0_9, total m c t ((flush0_9 t).mp hf) y]
  obtain ⟨r, j, rfl⟩ : ∃ (r : Fin 3328) (j : Fin 1024), y = ix2 r j := ⟨y 0, y 1, eq_ix2 y⟩
  refine Eq.trans (b := val_main_v16 (F := Ideal) (B m c) (A m c) (ix2 r j)) ?_ ?_
  · rw [ref]
    refine Fin.sum_mul_add_congr fun s k hl => ?_
    exact congrArg₂ (· * ·) (read_a m c ⟨s.val, s.isLt⟩ k hl r) (read_b m c ⟨s.val, s.isLt⟩ k hl j)
  · show val_main_v16 (F := Ideal) (B m c) (A m c) _ = val_main_v16 (F := Ideal) (B m c) (A m c) _
    blk_ext [idx t]

end Cert.Dw
-- ==== Proof.AdamValue.lean ====
/- The optimiser's kernel computes the step of AdamW. -/
module

public import proofs.«01_k».proof.Proof.Gen.KAdamIdeal.Value
public import proofs.«01_k».proof.Proof.Gen.RAdamIdeal.Read
public import Idealize.ShloMosaic.Lib.Pipeline.ValueKit
public import Idealize.ShloMosaic.Lib.StableHlo.RunRead

@[expose] public section

set_option maxRecDepth 16384

noncomputable section

namespace Cert.Adam

open Cert.KAdamIdeal Cert.KAdamIdeal.Gen Cert.RAdamIdeal.Read Idealize.ShloMosaic Idealize.ShloMosaic.TcCoe Idealize.SL.Sem
open Idealize.ShloMosaic.Pipeline (Dat)

/-- A number of the step, as it is printed. -/
abbrev num (b : BitVec 32) : EReal := Ideal.ofBits .f32 b

/-- The new first moment of an entry with gradient `g`. -/
def first (g a : EReal) : EReal := num 0x3F666666#32 * a + num 0x3DCCCCCD#32 * g

/-- The new second moment. -/
def second (g b : EReal) : EReal := num 0x3F7FBE77#32 * b + num 0x3A83126F#32 * (g * g)

/-- The change of an entry `w`. -/
def delta (w g a b : EReal) : EReal :=
  num 0xBA83126F#32 * (Ideal.div (Ideal.div (first g a) (num 0x3F26BD02#32)) (Ideal.sqrt (Ideal.div (second g b) (num 0x3C231ACC#32)) + num 0x322BCC77#32)
    + num 0x3C23D70A#32 * w)

section block

variable (x0 x1 x2 x3 : FVec Ideal S1x352x1024 .f32) (y : S1x352x1024.Idx)

/-- What a step leaves of the changes. -/
theorem point_d : out0_4 (F := Ideal) x0 x1 x2 x3 y = delta (x0 y) (x1 y) (x2 y) (x3 y) := by
  unfold out0_4
  canon_tiles z h
  idx_vars z
  idx_vars y
  unfold_payloads
  unfold delta first second num
  pointwise [View.ld_apply]
  obtain rfl : y0 = 0 := Subsingleton.elim _ _
  obtain rfl := Fin.ext h1
  obtain rfl := Fin.ext h2
  rfl

/-- What a step leaves of the first moments. -/
theorem point_m : out0_5 (F := Ideal) x0 x1 x2 x3 y = first (x1 y) (x2 y) := by
  unfold out0_5
  canon_tiles z h
  idx_vars z
  idx_vars y
  unfold_payloads
  unfold first num
  pointwise [View.ld_apply]
  obtain rfl : y0 = 0 := Subsingleton.elim _ _
  obtain rfl := Fin.ext h1
  obtain rfl := Fin.ext h2
  rfl

/-- What a step leaves of the second moments. -/
theorem point_v : out0_6 (F := Ideal) x0 x1 x2 x3 y = second (x1 y) (x3 y) := by
  unfold out0_6
  canon_tiles z h
  idx_vars z
  idx_vars y
  unfold_payloads
  unfold second num
  pointwise [View.ld_apply]
  obtain rfl : y0 = 0 := Subsingleton.elim _ _
  obtain rfl := Fin.ext h1
  obtain rfl := Fin.ext h2
  rfl

end block

section reference

variable (w g a b : FVec Ideal S2x352x1024 .f32) (y : S2x352x1024.Idx)

/-- The reference's changes. -/
theorem ref_d : val_main_v23 (F := Ideal) w g a b y = delta (w y) (g y) (a y) (b y) := by
  unfold delta first second num
  simp only [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  pointwise

/-- The reference's first moments. -/
theorem ref_m : val_main_v4 (F := Ideal) g a y = first (g y) (a y) := by
  unfold first num
  simp only [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  pointwise

/-- The reference's second moments. -/
theorem ref_v : val_main_v10 (F := Ideal) g b y = second (g y) (b y) := by
  unfold second num
  simp only [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  pointwise

end reference

variable (m : (ℓ : Loc nD τ sig) → Buf (Elt Ideal) ℓ) (c : Dev nD)

/-- The weight. -/
abbrev W : FVec Ideal S2x352x1024 .f32 := m ((c.tc : Thread nD τ).loc main_arg0)
/-- The gradient. -/
abbrev G : FVec Ideal S2x352x1024 .f32 := m ((c.tc : Thread nD τ).loc main_arg1)
/-- The first moment. -/
abbrev A : FVec Ideal S2x352x1024 .f32 := m ((c.tc : Thread nD τ).loc main_arg2)
/-- The second moment. -/
abbrev B : FVec Ideal S2x352x1024 .f32 := m ((c.tc : Thread nD τ).loc main_arg3)

/-- The block every window shows at a step of the grid. -/
theorem idx : ∀ t : Fin cfg0.N, win0_0.index t = ![t.val, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] :=
  (by decide +kernel : ∀ t : Fin grid0.N, _)

section reads

variable (t : Fin cfg0.N) (r : Fin 352) (j : Fin 1024)

/-- A step's part of the weight. -/
theorem read_w : (show FVec Ideal S1x352x1024 .f32 from iblk m c 0 t) (ix3 0 r j) = W m c (ix3 ⟨t.val, t.isLt⟩ r j) := by
  rw [show W m c = V m c main_arg0 from (V_main_arg0 m c).symm]
  blk_ext [iblk, idx t]

/-- A step's part of the gradient. -/
theorem read_g : (show FVec Ideal S1x352x1024 .f32 from iblk m c 1 t) (ix3 0 r j) = G m c (ix3 ⟨t.val, t.isLt⟩ r j) := by
  rw [show G m c = V m c main_arg1 from (V_main_arg1 m c).symm]
  blk_ext [iblk, idx t]

/-- A step's part of the first moment. -/
theorem read_a : (show FVec Ideal S1x352x1024 .f32 from iblk m c 2 t) (ix3 0 r j) = A m c (ix3 ⟨t.val, t.isLt⟩ r j) := by
  rw [show A m c = V m c main_arg2 from (V_main_arg2 m c).symm]
  blk_ext [iblk, idx t]

/-- A step's part of the second moment. -/
theorem read_b : (show FVec Ideal S1x352x1024 .f32 from iblk m c 3 t) (ix3 0 r j) = B m c (ix3 ⟨t.val, t.isLt⟩ r j) := by
  rw [show B m c = V m c main_arg3 from (V_main_arg3 m c).symm]
  blk_ext [iblk, idx t]

end reads

/-- The changes of the weight. -/
theorem final_d : (dats m 0 c).arrAt 4 cfg0.N = val_main_v23 (F := Ideal) (W m c) (G m c) (A m c) (B m c) := by
  refine (dats m 0 c).arrAt_eq_of_covers 4 _ (by decide +kernel) fun t hf y => ?_
  rw [after0_4, point_d]
  obtain ⟨o, r, j, rfl⟩ : ∃ (o : Fin 1) (r : Fin 352) (j : Fin 1024), y = ix3 o r j := ⟨y 0, y 1, y 2, eq_ix3 y⟩
  obtain rfl : o = 0 := Subsingleton.elim _ _
  refine Eq.trans (b := val_main_v23 (F := Ideal) (W m c) (G m c) (A m c) (B m c) (ix3 ⟨t.val, t.isLt⟩ r j)) ?_ ?_
  · rw [ref_d, ← read_w m c t r j, ← read_g m c t r j, ← read_a m c t r j, ← read_b m c t r j]
    rfl
  · show val_main_v23 (F := Ideal) (W m c) (G m c) (A m c) (B m c) _ = val_main_v23 (F := Ideal) (W m c) (G m c) (A m c) (B m c) _
    blk_ext [idx t]

/-- The first moments. -/
theorem final_m : (dats m 0 c).arrAt 5 cfg0.N = val_main_v4 (F := Ideal) (G m c) (A m c) := by
  refine (dats m 0 c).arrAt_eq_of_covers 5 _ (by decide +kernel) fun t hf y => ?_
  rw [after0_5, point_m]
  obtain ⟨o, r, j, rfl⟩ : ∃ (o : Fin 1) (r : Fin 352) (j : Fin 1024), y = ix3 o r j := ⟨y 0, y 1, y 2, eq_ix3 y⟩
  obtain rfl : o = 0 := Subsingleton.elim _ _
  refine Eq.trans (b := val_main_v4 (F := Ideal) (G m c) (A m c) (ix3 ⟨t.val, t.isLt⟩ r j)) ?_ ?_
  · rw [ref_m, ← read_g m c t r j, ← read_a m c t r j]
    rfl
  · show val_main_v4 (F := Ideal) (G m c) (A m c) _ = val_main_v4 (F := Ideal) (G m c) (A m c) _
    blk_ext [idx t]

/-- The second moments. -/
theorem final_v : (dats m 0 c).arrAt 6 cfg0.N = val_main_v10 (F := Ideal) (G m c) (B m c) := by
  refine (dats m 0 c).arrAt_eq_of_covers 6 _ (by decide +kernel) fun t hf y => ?_
  rw [after0_6, point_v]
  obtain ⟨o, r, j, rfl⟩ : ∃ (o : Fin 1) (r : Fin 352) (j : Fin 1024), y = ix3 o r j := ⟨y 0, y 1, y 2, eq_ix3 y⟩
  obtain rfl : o = 0 := Subsingleton.elim _ _
  refine Eq.trans (b := val_main_v10 (F := Ideal) (G m c) (B m c) (ix3 ⟨t.val, t.isLt⟩ r j)) ?_ ?_
  · rw [ref_v, ← read_g m c t r j, ← read_b m c t r j]
    rfl
  · show val_main_v10 (F := Ideal) (G m c) (B m c) _ = val_main_v10 (F := Ideal) (G m c) (B m c) _
    blk_ext [idx t]

end Cert.Adam
-- ==== Proof.KvValue.lean ====
/- The kernel behind the window attention computes the gradients of the keys' norm and of the windows. -/
module

public import proofs.«01_k».proof.Proof.Gen.KKvIdeal.Value
public import proofs.«01_k».proof.Proof.Gen.RKvIdeal.Read
public import proofs.«01_k».proof.Proof.NormValue
public import Idealize.ShloMosaic.Lib.StableHlo.RunRead

@[expose] public section

set_option maxRecDepth 16384

noncomputable section

namespace Cert.Kv

open Cert.KKvIdeal Cert.KKvIdeal.Gen Idealize.ShloMosaic Idealize.ShloMosaic.TcCoe Idealize.SL.Sem Cert.Sigmoid
open Idealize.ShloMosaic.Pipeline (Dat)

/-- The words of a head's width and of its inverse. -/
theorem width : Ideal.ofBits .f32 0x42800000#32 = ((64 : ℝ) : EReal) := by
  simp [Ideal.ofBits, Ideal.ieee, -EReal.coe_mul]; norm_num

theorem inverse : Ideal.ofBits .f32 0x3C800000#32 = ((1 / 64 : ℝ) : EReal) := by
  simp [Ideal.ofBits, Ideal.ieee, -EReal.coe_mul]; norm_num

/-- The mean square of a head, with the norm's small number added, as the reference forms it. -/
def ms (x : Fin 64 → EReal) : EReal := Ideal.div (∑ k, x k * x k) (Ideal.ofBits .f32 0x42800000#32) + Ideal.ofBits .f32 0x358637BD#32

/-- Over the width. -/
theorem div_width (e : EReal) : Ideal.div e (Ideal.ofBits .f32 0x42800000#32) = e * Ideal.ofBits .f32 0x3C800000#32 := by
  rw [width, inverse, Ideal.div_coe]; all_goals norm_num

theorem ms_pos (x : Fin 64 → EReal) : 0 < ms x := by
  obtain ⟨e, he, h⟩ := Cert.Norm.eps_pos
  unfold ms
  rw [h, div_width, inverse]
  refine lt_of_lt_of_le (EReal.coe_pos.mpr he) (le_add_of_nonneg_left (mul_nonneg (Finset.sum_nonneg fun k _ => ?_) (EReal.coe_nonneg.mpr (by norm_num))))
  induction x k with
  | bot => simp
  | top => simp
  | coe r => rw [← EReal.coe_mul]; exact EReal.coe_nonneg.mpr (mul_self_nonneg r)

/-- The gradient of a head's norm at an element, as the kernel forms it. -/
def gradK (x n g : Fin 64 → EReal) (j : Fin 64) : EReal :=
  Ideal.rsqrt (ms x) * (n j * g j - x j * Ideal.rsqrt (ms x) * ((∑ k, n k * g k * (x k * Ideal.rsqrt (ms x))) * Ideal.ofBits .f32 0x3C800000#32))

/-- What the reference sends back through the square. -/
def back (x n g : Fin 64 → EReal) : EReal :=
  Ideal.div ((∑ k, x k * (n k * g k)) * (Ideal.ofBits .f32 0xBF000000#32 * Ideal.div (Ideal.rsqrt (ms x)) (ms x))) (Ideal.ofBits .f32 0x42800000#32)

/-- The gradient of a head's norm at an element, as the reference forms it. -/
def gradR (x n g : Fin 64 → EReal) (j : Fin 64) : EReal := n j * g j * Ideal.rsqrt (ms x) + x j * back x n g + back x n g * x j

/-- The two are the same number. -/
theorem grad_eq (x n g : Fin 64 → EReal) (j : Fin 64) : gradK x n g j = gradR x n g j := by
  unfold gradK gradR back
  obtain ⟨ρ, hρ, e1, e2⟩ := Cert.Norm.root _ (ms_pos x)
  rw [e2, e1, div_width, inverse, Cert.Norm.minusHalf, ← EReal.coe_mul]
  have hs : ∑ k, n k * g k * (x k * (ρ : EReal)) = (ρ : EReal) * ∑ k, x k * (n k * g k) := by
    rw [mul_sum _ hρ]
    refine Finset.sum_congr rfl fun k _ => ?_
    ac_rfl
  rw [hs]
  generalize (∑ k, x k * (n k * g k)) = S
  rw [sub_eq_add_neg, EReal.left_distrib_of_nonneg_of_ne_top (EReal.coe_nonneg.mpr hρ) (EReal.coe_ne_top ρ), add_assoc (_ * _)]
  refine congrArg₂ (· + ·) (mul_comm _ _) ?_
  have h2 (z : EReal) : z + z = ((2 : ℝ) : EReal) * z := by
    induction z with
    | bot => simp [EReal.coe_mul_bot_of_pos]
    | top => simp [EReal.coe_mul_top_of_pos]
    | coe r => rw [← EReal.coe_add, ← EReal.coe_mul]; congr 1; ring
  rw [mul_comm (S * _ * _) (x j), h2]
  have hk : (ρ : EReal) * -(x j * ρ * (ρ * S * ((1 / 64 : ℝ) : EReal))) = ((-(ρ * ρ * ρ * (1 / 64)) : ℝ) : EReal) * (x j * S) := by
    rw [EReal.coe_neg, EReal.neg_mul, mul_neg, EReal.coe_mul, EReal.coe_mul, EReal.coe_mul]
    refine congrArg _ ?_
    ac_rfl
  rw [hk]
  have hr : ((2 : ℝ) : EReal) * (x j * (S * ((-1 / 2 * ρ ^ 3 : ℝ) : EReal) * ((1 / 64 : ℝ) : EReal))) = ((2 * (-1 / 2 * ρ ^ 3) * (1 / 64) : ℝ) : EReal) * (x j * S) := by
    rw [EReal.coe_mul (2 * _), EReal.coe_mul 2]
    ac_rfl
  rw [hr]
  refine congrArg (fun z : ℝ => (z : EReal) * _) ?_
  ring

/-- The lane of a head's number in the row of both heads. -/
def lane (j : Fin 128) (k : Fin 64) : Fin 128 := ⟨j.val / 64 * 64 + k.val, by omega⟩

/-- The comparison that tells the first head's lanes from the second's. -/
theorem below : ∀ j : Fin 128, IntOp.cmpi CmpIPredicate.slt (BitVec.ofNat 32 j.val) 64#32 = if j.val < 64 then 1#1 else 0#1 := by
  decide +kernel

/-- A choice by a decided word. -/
theorem sel {p : Prop} [Decidable p] (a b : EReal) : Scalar.select (if p then 1#1 else 0#1) a b = if p then a else b := by
  split_ifs <;> rfl

/-- Of two sums over masked lanes, the one of the lane's own head. -/
theorem pick (f : Fin 128 → EReal) (j : Fin 128) :
    Scalar.select (IntOp.cmpi CmpIPredicate.slt (BitVec.ofNat 32 j.val) 64#32)
      (∑ k : Fin 128, Scalar.select (IntOp.cmpi CmpIPredicate.slt (BitVec.ofNat 32 k.val) 64#32) (f k) 0)
      (∑ k : Fin 128, Scalar.select (IntOp.cmpi CmpIPredicate.slt (BitVec.ofNat 32 k.val) 64#32) 0 (f k))
      = ∑ k : Fin 64, f (lane j k) := by
  have hs (u v : Fin 128 → EReal) : ∑ k : Fin 128, (if k.val < 64 then u k else v k)
      = ∑ k : Fin 64, u ⟨k.val, by omega⟩ + ∑ k : Fin 64, v ⟨64 + k.val, by omega⟩ := by
    refine (Fin.sum_univ_add (a := 64) (b := 64) _).trans (congrArg₂ (· + ·) (Finset.sum_congr rfl fun k _ => ?_) (Finset.sum_congr rfl fun k _ => ?_))
    · exact if_pos k.isLt
    · exact if_neg (by simp [Fin.natAdd])
  simp only [below, sel, hs, Finset.sum_const_zero, zero_add, add_zero]
  split_ifs with h
  · exact Finset.sum_congr rfl fun k _ => congrArg f (Fin.ext (by simp only [lane]; omega))
  · exact Finset.sum_congr rfl fun k _ => congrArg f (Fin.ext (by simp only [lane]; omega))

section block

variable (x : FVec Ideal S512x128 .f32) (g : FVec Ideal S1x128 .f32) (n a b : FVec Ideal S512x128 .f32) (b' : FVec Ideal S128x128 .f32) (i : grid0.Coords)
  (r : Fin 512) (j : Fin 128)

/-- The gradient of a key or a value: from its own block's window, and from the window of the block behind it. -/
def tot (s : EReal) : EReal := a (ix2 r j) + if h : r.val < 384 then b (ix2 ⟨128 + r.val, by omega⟩ j) else s * b' (ix2 ⟨r.val - 384, by omega⟩ j)

/-- A step's gradient of the normed keys. -/
theorem pay5_point : k0_pay5 (F := Ideal) i a (View.ld (Val := Elt Ideal) (e' := .f32) b (Rect.unit (s := S512x128) ![128, 0] S384x128.size inb_S512x128_S384x128_128_0)) b' (ix2 r j)
    = tot a b b' r j (k0_pay4 (F := Ideal) i) := by
  unfold tot
  pointwise [k0_pay5, View.ld_apply]

/-- A step's gradient of the values. -/
theorem pay6_point : k0_pay6 (F := Ideal) i a (View.ld (Val := Elt Ideal) (e' := .f32) b (Rect.unit (s := S512x128) ![128, 0] S384x128.size inb_S512x128_S384x128_128_0)) b' (ix2 r j)
    = tot a b b' r j (k0_pay4 (F := Ideal) i) := by
  unfold tot
  pointwise [k0_pay6, View.ld_apply]

/-- The inverse root of a head's mean square, at every lane of the head. -/
theorem pay8_point : k0_pay8 (F := Ideal) k0_pay3 x (ix2 r j) = Ideal.rsqrt (ms fun k => x (ix2 r (lane j k))) := by
  unfold ms
  pointwise [k0_pay8, k0_pay3]
  rw [pick fun k => x (ix2 r k) * x (ix2 r k), div_width]

/-- A normed key. -/
theorem pay9_point : k0_pay9 (F := Ideal) k0_pay3 x (ix2 r j) = x (ix2 r j) * Ideal.rsqrt (ms fun k => x (ix2 r (lane j k))) := by
  rw [← pay8_point]
  unfold k0_pay9
  generalize k0_pay8 (F := Ideal) k0_pay3 x = v
  pointwise

/-- What a step writes to the gradient of the keys. -/
theorem dk_point (kk : Fin 64) (hk : lane j kk = j) : k0_pay1 (F := Ideal) k0_pay3 (k0_pay8 k0_pay3 x) (k0_pay9 k0_pay3 x) (k0_pay11 n g) (k0_pay12 k0_pay3 n x g) (k0_pay13 k0_pay3 n x g) (ix2 r j)
    = gradK (fun k => x (ix2 r (lane j k))) (fun k => n (ix2 r (lane j k))) (fun k => g (ix2 0 (lane j k))) kk := by
  have h9 := fun j => pay9_point x r j
  have h8 := pay8_point x r j
  unfold gradK
  dsimp only
  have hj : x (ix2 r j) * k0_pay8 (F := Ideal) k0_pay3 x (ix2 r j) = k0_pay9 (F := Ideal) k0_pay3 x (ix2 r j) := by rw [h9, h8]
  rw [hk, ← h8, hj]
  have h12 (k : Fin 64) : n (ix2 r (lane j k)) * g (ix2 0 (lane j k)) * (x (ix2 r (lane j k)) * k0_pay8 (F := Ideal) k0_pay3 x (ix2 r j))
      = n (ix2 r (lane j k)) * g (ix2 0 (lane j k)) * k0_pay9 (F := Ideal) k0_pay3 x (ix2 r (lane j k)) := by
    have hl : (fun k' => x (ix2 r (lane (lane j k) k'))) = fun k' => x (ix2 r (lane j k')) := funext fun k' => congrArg (fun z => x (ix2 r z)) (Fin.ext (by simp only [lane]; omega))
    rw [h9, h8, hl]
  simp only [h12]
  unfold k0_pay1 k0_pay13 k0_pay12 k0_pay11
  generalize k0_pay8 (F := Ideal) k0_pay3 x = v8
  generalize k0_pay9 (F := Ideal) k0_pay3 x = v9
  rw [← pick fun k => n (ix2 r k) * g (ix2 0 k) * v9 (ix2 r k)]
  pointwise [k0_pay3]

/-- What a step adds to the gradient of the norm's gain. -/
theorem dg_point (acc : FVec Ideal S1x128 .f32) (o : Fin 1) : k0_pay10 (F := Ideal) k0_pay3 n x acc (ix2 o j)
    = acc (ix2 o j) + ∑ r : Fin 512, n (ix2 r j) * (x (ix2 r j) * Ideal.rsqrt (ms fun k => x (ix2 r (lane j k)))) := by
  simp only [← pay9_point]
  unfold k0_pay10
  generalize k0_pay9 (F := Ideal) k0_pay3 x = v9
  pointwise

end block

variable (m : (ℓ : Loc nD τ sig) → Buf (Elt Ideal) ℓ) (c : Dev nD)

/-- The block every window shows at a step of the grid, and the step's weight of the block behind its own. -/
theorem idx : ∀ t : Fin cfg0.N, win0_0.index t = ![t.val, 22] ∧ win0_1.index t = ![0, 0] ∧ win0_2.index t = ![t.val, 0]
    ∧ win0_3.index t = ![t.val, 0] ∧ win0_4.index t = ![t.val / 4 * 16 + min (4 * (t.val % 4 + 1)) 15, 0] ∧ win0_5.index t = ![t.val, 0] ∧ win0_6.index t = ![t.val, 0]
    ∧ win0_7.index t = ![t.val / 4 * 16 + min (4 * (t.val % 4 + 1)) 15, 0] ∧ win0_8.index t = ![t.val, 0] ∧ win0_9.index t = ![t.val, 0] ∧ win0_10.index t = ![0, 0] ∧ t.val < 8 :=
  (by decide +kernel : ∀ t : Fin grid0.N, _)

/-- The block behind weighs one within a batch, zero at its end. -/
theorem weight (t : Fin cfg0.N) : k0_pay4 (F := Ideal) (grid0.coords t) = if t.val % 4 < 3 then 1 else 0 := by
  have e : ∀ t : Fin grid0.N, (Scalar.extui (Scalar.cmpi CmpIPredicate.slt (BitVec.ofNat 32 (grid0.coords t 1).val) 3#32) : BitVec 32).toInt
      = if t.val % 4 < 3 then 1 else 0 := by decide +kernel
  unfold k0_pay4
  pointwise
  refine (congrArg (fun z : ℤ => ((z : ℝ) : EReal)) (e t)).trans ?_
  split_ifs <;> simp

/-- Two places of five coordinates are one when their coordinates are. -/
theorem at5 {n0 n1 n2 n3 n4 : ℕ} {a a' : Fin n0} {b b' : Fin n1} {e e' : Fin n2} {f f' : Fin n3} {g g' : Fin n4}
    (ha : a.val = a'.val) (hb : b.val = b'.val) (he : e.val = e'.val) (hf : f.val = f'.val) (hg : g.val = g'.val) : ix5 a b e f g = ix5 a' b' e' f' g' := by
  rw [Fin.ext ha, Fin.ext hb, Fin.ext he, Fin.ext hf, Fin.ext hg]

/-- A sum over an array's first two axes, at the other two. -/
theorem sum01 {n0 n1 n2 n3 : ℕ} (h : (⟨4, ![n0, n1, n2, n3]⟩ : Shape).ReducesTo [0, 1] (⟨2, ![n2, n3]⟩ : Shape)) (v : (⟨4, ![n0, n1, n2, n3]⟩ : Shape).Idx → EReal) (init : EReal) (a : Fin n2) (b : Fin n3) :
    Ideal.hostReduceAdd h v init (ix2 a b) = init + ∑ k0 : Fin n0, ∑ k1 : Fin n1, v (ix4 k0 k1 a b) := by
  refine congrArg (init + ·) ((Finset.sum_filter_eq_sum_of_fiber _ (fun k : Fin n0 × Fin n1 => ix4 k.1 k.2 a b)
    (fun _ _ e => Prod.ext (congrFun e 0) (congrFun e 1)) (fun i => ?_) v).trans (by simp only [Fintype.sum_prod_type]))
  constructor
  · intro e
    refine ⟨(i 0, i 1), ?_⟩
    funext z; apply Fin.ext
    match z with
    | ⟨0, _⟩ => rfl
    | ⟨1, _⟩ => rfl
    | ⟨2, _⟩ => exact (congrArg Fin.val (congrFun e 0)).symm
    | ⟨3, _⟩ => exact (congrArg Fin.val (congrFun e 1)).symm
  · rintro ⟨k, rfl⟩
    funext z
    apply Fin.ext
    match z with
    | ⟨0, _⟩ => rfl
    | ⟨1, _⟩ => rfl

/-- The packed projection, the norm's gain, and the gradients of the windows of keys and of values. -/
abbrev P := (m ((c : Thread nD τ).loc main_arg0) : FVec Ideal S2x2048x3232 .f32)
abbrev GA := (m ((c : Thread nD τ).loc main_arg1) : FVec Ideal S64 .f32)
abbrev DK := (m ((c : Thread nD τ).loc main_arg2) : FVec Ideal S2x16x256x2x64 .f32)
abbrev DV := (m ((c : Thread nD τ).loc main_arg3) : FVec Ideal S2x16x256x2x64 .f32)

/-- A number of the windows: of the block of a row, a half of the window, the row's place, a lane. -/
def win (d : FVec Ideal S2x16x256x2x64 .f32) (h : Fin 2) (R : Fin 4096) (j : Fin 128) : EReal :=
  d (ix5 (⟨R.val / 128 / 16, by omega⟩ : Fin 2) (⟨R.val / 128 % 16, by omega⟩ : Fin 16) (⟨h.val * 128 + R.val % 128, by omega⟩ : Fin 256)
    (⟨j.val / 64, by omega⟩ : Fin 2) (⟨j.val % 64, by omega⟩ : Fin 64))

set_option maxHeartbeats 1000000 in
theorem host_x (R : Fin 4096) (j : Fin 128) (k : Fin 3328) (hk : k.val = 2816 + j.val) : (show FVec Ideal S4096x3328 .f32 from V m c main_v25) (ix2 R k)
    = P m c (ix3 (⟨R.val / 2048, by omega⟩ : Fin 2) (⟨R.val % 2048, by omega⟩ : Fin 2048) (⟨512 + j.val, by omega⟩ : Fin 3232)) := by
  simp only [V]
  after_reads_simp
  dsimp only [Matrix.cons_val]
  pointwise
  simp (disch := omega) only [dif_pos, dif_neg]
  after_reads_simp
  pointwise
  exact congrArg (fun z => P m c (ix3 _ _ z)) (Fin.ext (by dsimp only; omega))

theorem host_g (o : Fin 1) (j : Fin 128) : (show FVec Ideal S1x128 .f32 from V m c main_v3) (ix2 o j) = GA m c (ix1 (⟨j.val % 64, by omega⟩ : Fin 64)) := by
  simp only [V]
  after_reads_simp
  pointwise

theorem host_own (R : Fin 4096) (j : Fin 128) : (show FVec Ideal S4096x128 .f32 from V m c main_v29) (ix2 R j) = win (DK m c) 1 R j
    ∧ (show FVec Ideal S4096x128 .f32 from V m c main_v37) (ix2 R j) = win (DV m c) 1 R j := by
  simp only [V]
  constructor <;> after_reads_simp <;> pointwise <;> rfl

theorem host_before (R : Fin 4096) (j : Fin 128) : (show FVec Ideal S4096x128 .f32 from V m c main_v33) (ix2 R j) = win (DK m c) 0 R j
    ∧ (show FVec Ideal S4096x128 .f32 from V m c main_v41) (ix2 R j) = win (DV m c) 0 R j := by
  simp only [V]
  constructor <;> after_reads_simp <;> pointwise
  · exact congrArg (DK m c) (at5 rfl rfl (by simp) rfl rfl)
  · exact congrArg (DV m c) (at5 rfl rfl (by simp) rfl rfl)

/-- The gradient at a row of the sequence: what its own window sends it and, but in a batch's last block, what the next window does. -/
def both (d : FVec Ideal S2x16x256x2x64 .f32) (R : Fin 4096) (j : Fin 128) : EReal :=
  win d 1 R j + if h : R.val % 2048 < 1920 then win d 0 ⟨R.val + 128, by omega⟩ j else 0

section reads

variable (t : Fin cfg0.N) (r : Fin 512) (h : 512 * t.val + r.val < 4096) (j : Fin 128)

theorem both_eq (d : FVec Ideal S2x16x256x2x64 .f32) (a b : FVec Ideal S512x128 .f32) (b' : FVec Ideal S128x128 .f32)
    (ha : a (ix2 r j) = win d 1 ⟨512 * t.val + r.val, h⟩ j)
    (hb : ∀ (s : Fin 512) (hs : 512 * t.val + s.val < 4096), b (ix2 s j) = win d 0 ⟨512 * t.val + s.val, hs⟩ j)
    (hc : ∀ (s : Fin 128) (hs : t.val % 4 < 3) (hs' : 512 * (t.val + 1) + s.val < 4096), b' (ix2 s j) = win d 0 ⟨512 * (t.val + 1) + s.val, hs'⟩ j) :
    tot a b b' r j (k0_pay4 (F := Ideal) (grid0.coords t)) = both d ⟨512 * t.val + r.val, h⟩ j := by
  have ht := (idx t).2.2.2.2.2.2.2.2.2.2.2
  unfold tot both
  rw [ha, weight]
  refine congrArg _ ?_
  by_cases h1 : r.val < 384
  · rw [dif_pos h1, dif_pos (by dsimp only; omega), hb _ (by dsimp only; omega)]
    exact congrArg (fun z => win d 0 z j) (Fin.ext (by dsimp only; omega))
  · rw [dif_neg h1]
    by_cases h2 : t.val % 4 < 3
    · rw [if_pos h2, one_mul, dif_pos (by dsimp only; omega), hc _ h2 (by dsimp only; omega)]
      exact congrArg (fun z => win d 0 z j) (Fin.ext (by dsimp only; omega))
    · rw [if_neg h2, zero_mul, dif_neg (by dsimp only; omega)]

theorem read_x : (show FVec Ideal S512x128 .f32 from iblk m c 0 t) (ix2 r j)
    = P m c (ix3 (⟨(512 * t.val + r.val) / 2048, by omega⟩ : Fin 2) (⟨(512 * t.val + r.val) % 2048, by omega⟩ : Fin 2048) (⟨512 + j.val, by omega⟩ : Fin 3232)) := by
  rw [← host_x m c ⟨512 * t.val + r.val, h⟩ j ⟨2816 + j.val, by omega⟩ rfl]
  blk_ext [iblk, idx t]

theorem read_g : (show FVec Ideal S1x128 .f32 from iblk m c 1 t) (ix2 0 j) = GA m c (ix1 (⟨j.val % 64, by omega⟩ : Fin 64)) := by
  rw [← host_g m c 0 j]
  blk_ext [iblk, idx t]

theorem dk_both : tot (iblk m c 2 t) (iblk m c 3 t) (iblk m c 4 t) r j (k0_pay4 (F := Ideal) (grid0.coords t)) = both (DK m c) ⟨512 * t.val + r.val, h⟩ j := by
  have ht := (idx t).2.2.2.2.2.2.2.2.2.2.2
  refine both_eq t r h j (DK m c) _ _ _ ?_ (fun s hs => ?_) (fun s h3 hs => ?_)
  · rw [← (host_own m c _ j).1]; blk_ext [iblk, idx t]
  · rw [← (host_before m c _ j).1]; blk_ext [iblk, idx t]
  · rw [← (host_before m c _ j).1]
    blk_ext [iblk, idx t]

theorem dv_both : tot (iblk m c 5 t) (iblk m c 6 t) (iblk m c 7 t) r j (k0_pay4 (F := Ideal) (grid0.coords t)) = both (DV m c) ⟨512 * t.val + r.val, h⟩ j := by
  have ht := (idx t).2.2.2.2.2.2.2.2.2.2.2
  refine both_eq t r h j (DV m c) _ _ _ ?_ (fun s hs => ?_) (fun s h3 hs => ?_)
  · rw [← (host_own m c _ j).2]; blk_ext [iblk, idx t]
  · rw [← (host_before m c _ j).2]; blk_ext [iblk, idx t]
  · rw [← (host_before m c _ j).2]
    blk_ext [iblk, idx t]

end reads

section reference

open Cert.RKvIdeal.Read

variable (p : FVec Ideal S2x2048x3232 .f32) (g : FVec Ideal S64 .f32) (dk dv : FVec Ideal S2x16x256x2x64 .f32)
  (a : Fin 2) (s : Fin 2048) (h : Fin 2) (k : Fin 64)

theorem ref_root : val_main_v11 (F := Ideal) p (ix4 a s h 0) = Ideal.rsqrt (ms fun k => val_main_v3 (F := Ideal) p (ix4 a s h k)) := by
  unfold ms
  simp only [val_main_v11, val_main_v10, val_main_v9, val_main_v8, val_main_v7, val_main_v6, val_main_v5, val_main_v4, val_main_cst, val_main_cst_0, val_main_cst_1]
  generalize val_main_v3 (F := Ideal) p = x
  pointwise

theorem ref_ms : val_main_v10 (F := Ideal) p (ix4 a s h 0) = ms fun k => val_main_v3 (F := Ideal) p (ix4 a s h k) := by
  unfold ms
  simp only [val_main_v10, val_main_v9, val_main_v8, val_main_v7, val_main_v6, val_main_v5, val_main_v4, val_main_cst, val_main_cst_0, val_main_cst_1]
  generalize val_main_v3 (F := Ideal) p = x
  pointwise

theorem ref_back : val_main_v61 (F := Ideal) p g dk (ix4 a s h 0)
    = back (fun k => val_main_v3 (F := Ideal) p (ix4 a s h k)) (fun k => val_main_v47 (F := Ideal) dk (ix4 a s h k)) (fun k => g (ix1 k)) := by
  unfold back
  rw [← ref_root, ← ref_ms]
  simp only [val_main_v61, val_main_v60, val_main_v59, val_main_v56, val_main_v55, val_main_v54, val_main_v52, val_main_v51, val_main_v17, val_main_v2, val_main_v14, val_main_v13, val_main_v12, val_main_cst_11, val_main_cst_12, val_main_cst_2]
  generalize val_main_v47 (F := Ideal) dk = dn
  generalize val_main_v3 (F := Ideal) p = x
  generalize val_main_v10 (F := Ideal) p = v10
  generalize val_main_v11 (F := Ideal) p = v11
  pointwise

theorem ref_grad : val_main_v67 (F := Ideal) p g dk (ix4 a s h k)
    = gradR (fun k => val_main_v3 (F := Ideal) p (ix4 a s h k)) (fun k => val_main_v47 (F := Ideal) dk (ix4 a s h k)) (fun k => g (ix1 k)) k := by
  unfold gradR
  rw [← ref_back, ← ref_root]
  simp only [val_main_v67, val_main_v66, val_main_v65, val_main_v64, val_main_v63, val_main_v62, val_main_cst_13, val_main_v58, val_main_v57, val_main_v52, val_main_v51, val_main_v17, val_main_v2]
  generalize val_main_v47 (F := Ideal) dk = dn
  generalize val_main_v3 (F := Ideal) p = x
  generalize val_main_v61 (F := Ideal) p g dk = v61
  generalize val_main_v11 (F := Ideal) p = v11
  pointwise
  simp only [Finset.univ_unique, Finset.sum_singleton]
  rfl

variable (R : Fin 4096) (j : Fin 128)

theorem ref_x (k : Fin 64) : val_main_v3 (F := Ideal) p (ix4 (⟨R.val / 2048, by omega⟩ : Fin 2) (⟨R.val % 2048, by omega⟩ : Fin 2048) (⟨j.val / 64, by omega⟩ : Fin 2) k)
    = p (ix3 (⟨R.val / 2048, by omega⟩ : Fin 2) (⟨R.val % 2048, by omega⟩ : Fin 2048) (⟨512 + (lane j k).val, by omega⟩ : Fin 3232)) := by
  simp only [val_main_v3, val_main_v0]
  pointwise
  rfl

theorem ref_dn (k : Fin 64) : val_main_v47 (F := Ideal) dk (ix4 (⟨R.val / 2048, by omega⟩ : Fin 2) (⟨R.val % 2048, by omega⟩ : Fin 2048) (⟨j.val / 64, by omega⟩ : Fin 2) k)
    = both dk R (lane j k) := by
  unfold both win
  simp only [val_main_v47, val_main_v45, val_main_v44, val_main_cst_8, val_main_v43, val_main_v41, val_main_v40]
  pointwise
  refine congrArg₂ (· + ·) (congrArg dk (at5 ?_ ?_ ?_ ?_ ?_)) ?_
  · dsimp only; omega
  · dsimp only; omega
  · dsimp only; omega
  · simp only [lane]; omega
  · simp only [lane]; omega
  have hi : (R.val / 2048 < 2 ∧ R.val % 2048 / 128 < 15 ∧ R.val % 2048 % 128 < 128 ∧ j.val / 64 < 2) ↔ R.val % 2048 < 1920 := by omega
  refine dite_congr (propext hi) (fun h1 => congrArg dk (at5 ?_ ?_ ?_ ?_ ?_)) fun _ => rfl
  · dsimp only; omega
  · dsimp only; omega
  · dsimp only; omega
  · simp only [lane]; omega
  · simp only [lane]; omega

theorem ref_dv : val_main_v72 (F := Ideal) dv (ix2 R j) = both dv R j := by
  unfold both win
  simp only [val_main_v72, val_main_v71, val_main_v46, val_main_v39, val_main_v38, val_main_cst_7, val_main_v37, val_main_v35, val_main_v34]
  pointwise
  refine congrArg₂ (· + ·) (congrArg dv (at5 ?_ rfl ?_ rfl rfl)) ?_
  · dsimp only; omega
  · rfl
  have hi : (R.val / 2048 < 2 ∧ R.val / 128 % 16 < 15 ∧ R.val % 128 < 128 ∧ j.val / 64 < 2 ∧ j.val % 64 < 64) ↔ R.val % 2048 < 1920 := by omega
  refine dite_congr (propext hi) (fun h1 => ?_) fun _ => rfl
  refine congrArg dv (at5 ?_ ?_ ?_ ?_ ?_)
  · dsimp only; omega
  · dsimp only; omega
  · dsimp only; omega
  · rfl
  · rfl

theorem ref_dk : val_main_v70 (F := Ideal) p g dk (ix2 R j) = val_main_v67 (F := Ideal) p g dk (ix4 (⟨R.val / 2048, by omega⟩ : Fin 2) (⟨R.val % 2048, by omega⟩ : Fin 2048) (⟨j.val / 64, by omega⟩ : Fin 2) (⟨j.val % 64, by omega⟩ : Fin 64)) := by
  simp only [val_main_v70, val_main_v69, val_main_v68]
  generalize val_main_v67 (F := Ideal) p g dk = v
  pointwise

theorem ref_dg (o : Fin 1) : val_main_v73 (F := Ideal) p dk (ix2 o j)
    = ∑ a : Fin 2, ∑ s : Fin 2048, val_main_v3 (F := Ideal) p (ix4 a s (⟨j.val / 64, by omega⟩ : Fin 2) (⟨j.val % 64, by omega⟩ : Fin 64)) * val_main_v11 (F := Ideal) p (ix4 a s (⟨j.val / 64, by omega⟩ : Fin 2) 0)
      * val_main_v47 (F := Ideal) dk (ix4 a s (⟨j.val / 64, by omega⟩ : Fin 2) (⟨j.val % 64, by omega⟩ : Fin 64)) := by
  simp only [val_main_v73, val_main_v53, val_main_cst_10, val_main_v50, val_main_v49, val_main_cst_9, val_main_v48, val_main_v16, val_main_v15]
  generalize val_main_v47 (F := Ideal) dk = dn
  generalize val_main_v3 (F := Ideal) p = x
  generalize val_main_v11 (F := Ideal) p = v11
  pointwise
  rw [sum01]
  simp only [Finset.univ_unique, Finset.sum_singleton, zero_add]
  pointwise
  rw [sum01]
  simp only [zero_add]
  pointwise

end reference

/-- A head's gradient at a row of the sequence. -/
theorem dk_eq (t : Fin cfg0.N) (r : Fin 512) (h : 512 * t.val + r.val < 4096) (j : Fin 128) (n : FVec Ideal S512x128 .f32)
    (hn : ∀ j, n (ix2 r j) = both (DK m c) ⟨512 * t.val + r.val, h⟩ j) :
    k0_pay1 (F := Ideal) k0_pay3 (k0_pay8 k0_pay3 (iblk m c 0 t)) (k0_pay9 k0_pay3 (iblk m c 0 t)) (k0_pay11 n (iblk m c 1 t)) (k0_pay12 k0_pay3 n (iblk m c 0 t) (iblk m c 1 t)) (k0_pay13 k0_pay3 n (iblk m c 0 t) (iblk m c 1 t)) (ix2 r j)
      = Cert.RKvIdeal.Read.val_main_v70 (F := Ideal) (P m c) (GA m c) (DK m c) (ix2 ⟨512 * t.val + r.val, h⟩ j) := by
  refine (dk_point (iblk m c 0 t) (iblk m c 1 t) n r j ⟨j.val % 64, by omega⟩ (Fin.ext (by simp only [lane]; omega))).trans ?_
  rw [ref_dk, ref_grad, ← grad_eq]
  have hc : ∀ {x x' n n' g g' : Fin 64 → EReal} {k : Fin 64}, x = x' → n = n' → g = g' → gradK x n g k = gradK x' n' g' k := by
    rintro _ _ _ _ _ _ _ rfl rfl rfl; rfl
  refine hc (funext fun k => ?_) (funext fun k => ?_) (funext fun k => ?_)
  · exact (read_x m c t r h (lane j k)).trans (ref_x (P m c) ⟨512 * t.val + r.val, h⟩ j k).symm
  · exact (hn (lane j k)).trans (ref_dn (DK m c) ⟨512 * t.val + r.val, h⟩ j k).symm
  · exact (read_g m c t r (lane j k)).trans (congrArg (fun z => GA m c (ix1 z)) (Fin.ext (by simp only [lane]; omega)))

/-- A step's gradient of the normed keys and of the values. -/
abbrev dkT (t : Fin cfg0.N) : FVec Ideal S512x128 .f32 :=
  k0_pay5 (grid0.coords t) (iblk m c 2 t) (View.ld (Val := Elt Ideal) (e' := .f32) (iblk m c 3 t : FVec Ideal S512x128 .f32) (Rect.unit (s := S512x128) ![128, 0] S384x128.size inb_S512x128_S384x128_128_0)) (iblk m c 4 t)

theorem rows (t : Fin cfg0.N) (r : Fin 512) : 512 * t.val + r.val < 4096 := by
  have := (idx t).2.2.2.2.2.2.2.2.2.2.2
  omega

theorem dkT_eq (t : Fin cfg0.N) (r : Fin 512) (h : 512 * t.val + r.val < 4096) (j : Fin 128) : dkT m c t (ix2 r j) = both (DK m c) ⟨512 * t.val + r.val, h⟩ j :=
  (pay5_point _ _ _ _ r j).trans (dk_both m c t r h j)

/-- What a step leaves in the blocks of the gradients. -/
theorem blocks (t : Fin cfg0.N) :
    (outsAt0 m c t.val t.isLt).1 = k0_pay1 k0_pay3 (k0_pay8 k0_pay3 (iblk m c 0 t)) (k0_pay9 k0_pay3 (iblk m c 0 t)) (k0_pay11 (dkT m c t) (iblk m c 1 t))
        (k0_pay12 k0_pay3 (dkT m c t) (iblk m c 0 t) (iblk m c 1 t)) (k0_pay13 k0_pay3 (dkT m c t) (iblk m c 0 t) (iblk m c 1 t))
      ∧ (outsAt0 m c t.val t.isLt).2.1 = k0_pay6 (grid0.coords t) (iblk m c 5 t) (View.ld (Val := Elt Ideal) (e' := .f32) (iblk m c 6 t : FVec Ideal S512x128 .f32) (Rect.unit (s := S512x128) ![128, 0] S384x128.size inb_S512x128_S384x128_128_0)) (iblk m c 7 t) := by
  have h7 (x : FVec Ideal S512x128 .f32) : k0_pay7 (F := Ideal) x = x := by
    funext i
    idx_vars i
    pointwise [k0_pay7]
  by_cases h0 : t.val % 8 = 0
  · rw [outsAt0_A m c t h0]; constructor <;> frame_out <;> (try simp only [h7]) <;> rfl
  · rw [outsAt0_B m c t h0]; constructor <;> frame_out <;> (try simp only [h7]) <;> rfl

open Cert.RKvIdeal.Read in
/-- The gradient of the keys. -/
theorem final_dk : (dats m 0 c).arrAt 8 cfg0.N = val_main_v70 (F := Ideal) (P m c) (GA m c) (DK m c) := by
  refine (dats m 0 c).arrAt_eq_of_covers 8 _ (by decide +kernel) fun t hf y => ?_
  rw [after0_8, (blocks m c t).1]
  obtain ⟨r, j, rfl⟩ : ∃ (r : Fin 512) (j : Fin 128), y = ix2 r j := ⟨y 0, y 1, eq_ix2 y⟩
  refine (dk_eq m c t r (rows t r) j (dkT m c t) (dkT_eq m c t r (rows t r))).trans ?_
  blk_ext [idx t]

open Cert.RKvIdeal.Read in
/-- The gradient of the values. -/
theorem final_dv : (dats m 0 c).arrAt 9 cfg0.N = val_main_v72 (F := Ideal) (DV m c) := by
  refine (dats m 0 c).arrAt_eq_of_covers 9 _ (by decide +kernel) fun t hf y => ?_
  rw [after0_9, (blocks m c t).2]
  obtain ⟨r, j, rfl⟩ : ∃ (r : Fin 512) (j : Fin 128), y = ix2 r j := ⟨y 0, y 1, eq_ix2 y⟩
  refine ((pay6_point _ _ _ _ r j).trans ((dv_both m c t r (rows t r) j).trans (ref_dv (DV m c) ⟨512 * t.val + r.val, rows t r⟩ j).symm)).trans ?_
  blk_ext [idx t]

/-- What the carried row holds at a lane: the gradient of the gain from the rows so far. -/
theorem row (t : Fin cfg0.N) (i : S1x128.Idx) : (outsAt0 m c t.val t.isLt).2.2 i = ∑ p ∈ Finset.Iic t, ∑ r : Fin 512,
    dkT m c p (ix2 r (i 1)) * ((show FVec Ideal S512x128 .f32 from iblk m c 0 p) (ix2 r (i 1)) * Ideal.rsqrt (ms fun k => (show FVec Ideal S512x128 .f32 from iblk m c 0 p) (ix2 r (lane (i 1) k)))) := by
  have h7 (x : FVec Ideal S512x128 .f32) : k0_pay7 (F := Ideal) x = x := by
    funext i
    idx_vars i
    pointwise [k0_pay7]
  have hzero (j) : k0_pay2 (F := Ideal) j = 0 := by pointwise [k0_pay2]
  have hd (x n : FVec Ideal S512x128 .f32) (acc : FVec Ideal S1x128 .f32) (j : S1x128.Idx) : k0_pay10 (F := Ideal) k0_pay3 n x acc j
      = acc j + ∑ r : Fin 512, n (ix2 r (j 1)) * (x (ix2 r (j 1)) * Ideal.rsqrt (ms fun k => x (ix2 r (lane (j 1) k)))) := by
    obtain ⟨o, l, rfl⟩ : ∃ (o : Fin 1) (l : Fin 128), j = ix2 o l := ⟨j 0, j 1, eq_ix2 j⟩
    exact dg_point x n l acc o
  unfold dkT
  rw [Pipeline.eq_sum_fin_of_reset_step_apply_single (fun n h => (outsAt0 m c n h).2.2) 8 (fun _ => 0) _
    (fun t h j => by rw [outsAt0_A m c t h]; frame_out; rw [h7, hd, hzero])
    (fun t h j => by rw [outsAt0_B m c t h]; frame_out; rw [h7, hd])
    (le_of_eq N_0) t i, zero_add]
  rfl

/-- What a row of the sequence adds to the gradient of the gain at a lane. -/
def term (p : FVec Ideal S2x2048x3232 .f32) (dk : FVec Ideal S2x16x256x2x64 .f32) (j : Fin 128) (R : Fin 4096) : EReal :=
  both dk R j * (p (ix3 (⟨R.val / 2048, by omega⟩ : Fin 2) (⟨R.val % 2048, by omega⟩ : Fin 2048) (⟨512 + j.val, by omega⟩ : Fin 3232))
    * Ideal.rsqrt (ms fun k => p (ix3 (⟨R.val / 2048, by omega⟩ : Fin 2) (⟨R.val % 2048, by omega⟩ : Fin 2048) (⟨512 + (lane j k).val, by omega⟩ : Fin 3232))))

open Cert.RKvIdeal.Read in
/-- The gradient of the gain, a row for each of the two heads. -/
theorem final_dg : (dats m 0 c).arrAt 10 cfg0.N = val_main_v73 (F := Ideal) (P m c) (DK m c) := by
  refine (dats m 0 c).arrAt_eq_of_after_last 10 t0_7 (by decide +kernel) _ fun i => ?_
  rw [after0_10]
  blk_simp
  obtain ⟨o, j, rfl⟩ : ∃ (o : Fin 1) (j : Fin 128), i = ix2 o j := ⟨i 0, i 1, eq_ix2 i⟩
  rw [row m c t0_7, (by decide +kernel : Finset.Iic t0_7 = Finset.univ), ref_dg]
  have hj : lane j ⟨j.val % 64, by omega⟩ = j := Fin.ext (by simp only [lane]; omega)
  refine Eq.trans (b := ∑ R : Fin 4096, term (P m c) (DK m c) j R) (Fin.sum_mul_add_congr fun p r hl => ?_) (Eq.symm (Fin.sum_mul_add_congr fun a s hl => ?_))
  · have h := rows p r
    have e : (⟨p.val * 512 + r.val, hl⟩ : Fin 4096) = ⟨512 * p.val + r.val, h⟩ := Fin.ext (by dsimp only; omega)
    rw [e]
    have ex := funext fun k => read_x m c p r h (lane j k)
    exact congrArg₂ (· * ·) (dkT_eq m c p r h j) (congrArg₂ (fun a x => a * Ideal.rsqrt (ms x)) (read_x m c p r h j) ex)
  · rw [mul_comm, ref_root]
    have e1 : a = (⟨(a.val * 2048 + s.val) / 2048, by omega⟩ : Fin 2) := Fin.ext (by dsimp only; omega)
    have e2 : s = (⟨(a.val * 2048 + s.val) % 2048, by omega⟩ : Fin 2048) := Fin.ext (by dsimp only; omega)
    have hx (k : Fin 64) := (congrArg₂ (fun a s => val_main_v3 (F := Ideal) (P m c) (ix4 a s (⟨j.val / 64, by omega⟩ : Fin 2) k)) e1 e2).trans (ref_x (P m c) ⟨a.val * 2048 + s.val, hl⟩ j k)
    have hn (k : Fin 64) := (congrArg₂ (fun a s => val_main_v47 (F := Ideal) (DK m c) (ix4 a s (⟨j.val / 64, by omega⟩ : Fin 2) k)) e1 e2).trans (ref_dn (DK m c) ⟨a.val * 2048 + s.val, hl⟩ j k)
    unfold term
    refine congrArg₂ (· * ·) ((hn _).trans (congrArg (both (DK m c) _) hj)) (congrArg₂ (fun a x => a * Ideal.rsqrt (ms x)) ((hx ⟨j.val % 64, by omega⟩).trans ?_) (funext hx))
    exact congrArg (fun z : Fin 128 => P m c (ix3 _ _ (⟨512 + z.val, by omega⟩ : Fin 3232))) hj

end Cert.Kv
-- ==== Proof.AttnT0.lean ====
/- The latent attention's forward kernel: one head's output block and the logarithms of its row sums. -/
module

public import proofs.«01_k».proof.Proof.Gen.KAttnIdeal.Value
public import proofs.«01_k».proof.Proof.MlaT0

@[expose] public section

set_option maxRecDepth 16384

noncomputable section

namespace Cert.Attn

open Cert.KAttnIdeal Cert.KAttnIdeal.Gen Idealize.ShloMosaic Idealize.ShloMosaic.TcCoe Idealize.SL.Sem
open Idealize.ShloMosaic.Pipeline (Dat)
open Cert.Mla (Blk dots sel row)

/-- A query's raw score of a key: later keys are masked. -/
def score (q k : Blk) (r s : Fin 2048) : EReal := if s ≤ r then dots q k r s else ⊥

/-- A query's largest raw score. -/
def top (q k : Blk) (r : Fin 2048) : EReal := Finset.univ.fold max ⊥ (score q k r)

/-- The weight of a key before the sum over the row divides it. -/
def weight (q k : Blk) (r s : Fin 2048) : EReal :=
  Ideal.exp2 ((score q k r s - top q k r) * (((Real.sqrt 96 * Real.log 2)⁻¹ : ℝ) : EReal))

/-- A query's sum of weights. -/
def total (q k : Blk) (r : Fin 2048) : EReal := ∑ s, weight q k r s

variable (x0 x1 x2 : Blk)

/-- The named mask is minus infinity. -/
theorem mask_val : (Named.named κ "mask" 4048155338#32 : Ideal .f32) = (⊥ : EReal) := rfl
/-- The named factor of the exponent is the exact one. -/
theorem c_val : (Named.named κ "c" 1041680192#32 : Ideal .f32) = (((Real.sqrt 96 * Real.log 2)⁻¹ : ℝ) : EReal) := rfl
/-- The named inverse of the logarithm of 2 is the exact one. -/
theorem ln_val : (Named.named κ "ln2" 1069066811#32 : Ideal .f32) = (((Real.log 2)⁻¹ : ℝ) : EReal) := rfl

/-- A masked key has no weight. -/
theorem weight_after (r s : Fin 2048) (h : r < s) : weight x0 x1 r s = 0 := by
  unfold weight score
  rw [if_neg (not_le.2 h), EReal.bot_sub, EReal.bot_mul_coe_of_pos (by have := Real.log_pos one_lt_two; positivity)]
  rfl

/-- A sum over the keys of a query's own tile and of the tiles before it is the sum over all keys. -/
theorem sum_to (H : Fin 2048 → EReal) (lo r : ℕ) (hlo : lo + 256 ≤ 2048) (hr : r < 256) (hH : ∀ s : Fin 2048, lo + r < s.val → H s = 0) :
    ∑ p : Fin 256, H ⟨lo + p.val, by omega⟩ + ∑ p : Fin lo, H ⟨0 + p.val, by omega⟩ = ∑ s, H s := by
  rw [FinSumWindow.sum_window 0 (W := lo + 256) (by omega) H fun P hP => hH P (by omega), Fin.sum_univ_add, add_comm]
  refine congrArg₂ (· + ·) (Finset.sum_congr rfl fun p _ => ?_) (Finset.sum_congr rfl fun p _ => ?_)
  · simp only [Fin.val_castAdd, Nat.zero_add]
  · simp only [Fin.val_natAdd, Nat.zero_add]

/-- The largest over the keys of a query's own tile and of the tiles before it is the largest over all keys. -/
theorem max_to (H : Fin 2048 → EReal) (lo r : ℕ) (hlo : lo + 256 ≤ 2048) (hr : r < 256) (hH : ∀ s : Fin 2048, lo + r < s.val → H s = ⊥) :
    max (Finset.univ.fold max ⊥ fun p : Fin 256 => H ⟨lo + p.val, by omega⟩) (Finset.univ.fold max ⊥ fun p : Fin lo => H ⟨0 + p.val, by omega⟩)
      = Finset.univ.fold max ⊥ H := by
  refine le_antisymm (max_le ?_ ?_) ?_
  · exact Finset.fold_max_le _ |>.2 ⟨bot_le, fun p _ => Finset.le_fold_max _ |>.2 (Or.inr ⟨_, Finset.mem_univ _, le_rfl⟩)⟩
  · exact Finset.fold_max_le _ |>.2 ⟨bot_le, fun p _ => Finset.le_fold_max _ |>.2 (Or.inr ⟨_, Finset.mem_univ _, le_rfl⟩)⟩
  · refine Finset.fold_max_le _ |>.2 ⟨bot_le, fun s _ => ?_⟩
    by_cases h : lo + r < s.val
    · rw [hH s h]; exact bot_le
    by_cases h' : s.val < lo
    · exact le_max_of_le_right (Finset.le_fold_max _ |>.2 (Or.inr ⟨⟨s.val, h'⟩, Finset.mem_univ _, le_of_eq (congrArg H (Fin.ext (Nat.zero_add _).symm))⟩))
    · exact le_max_of_le_left (Finset.le_fold_max _ |>.2 (Or.inr ⟨⟨s.val - lo, by omega⟩, Finset.mem_univ _, le_of_eq (congrArg H (Fin.ext (by dsimp only; omega)))⟩))

/-- A sum over the keys of the first tile is the sum over all keys for a query of that tile. -/
theorem sum_first (H : Fin 2048 → EReal) (r : ℕ) (hr : r < 256) (hH : ∀ s : Fin 2048, 0 + r < s.val → H s = 0) :
    ∑ p : Fin 256, H ⟨0 + p.val, by omega⟩ = ∑ s, H s := by
  rw [← sum_to H 0 r (by decide) hr hH, Fin.sum_univ_zero, add_zero]

/-- The largest over the keys of the first tile is the largest over all keys for a query of that tile. -/
theorem max_first (H : Fin 2048 → EReal) (r : ℕ) (hr : r < 256) (hH : ∀ s : Fin 2048, 0 + r < s.val → H s = ⊥) :
    (Finset.univ.fold max ⊥ fun p : Fin 256 => H ⟨0 + p.val, by omega⟩) = Finset.univ.fold max ⊥ H := by
  rw [← max_to H 0 r (by decide) hr hH, Finset.univ_eq_empty (α := Fin 0), Finset.fold_empty]
  exact (max_eq_left bot_le).symm

/-- A masked key has no raw score. -/
theorem score_after (r s : Fin 2048) (h : r < s) : score x0 x1 r s = ⊥ := if_neg (not_le.2 h)

/-- The raw scores of the tiles on the diagonal. -/
theorem score_diag (r s : Fin 256) :
    (k0_pay104 (F := Ideal) x0 x1 x2) (ix2 r s) = score x0 x1 (row 0 r (by omega)) (row 0 s (by omega)) ∧
    (k0_pay105 (F := Ideal) x0 x1 x2) (ix2 r s) = score x0 x1 (row 256 r (by omega)) (row 256 s (by omega)) ∧
    (k0_pay106 (F := Ideal) x0 x1 x2) (ix2 r s) = score x0 x1 (row 512 r (by omega)) (row 512 s (by omega)) ∧
    (k0_pay107 (F := Ideal) x0 x1 x2) (ix2 r s) = score x0 x1 (row 768 r (by omega)) (row 768 s (by omega)) ∧
    (k0_pay108 (F := Ideal) x0 x1 x2) (ix2 r s) = score x0 x1 (row 1024 r (by omega)) (row 1024 s (by omega)) ∧
    (k0_pay109 (F := Ideal) x0 x1 x2) (ix2 r s) = score x0 x1 (row 1280 r (by omega)) (row 1280 s (by omega)) ∧
    (k0_pay110 (F := Ideal) x0 x1 x2) (ix2 r s) = score x0 x1 (row 1536 r (by omega)) (row 1536 s (by omega)) ∧
    (k0_pay111 (F := Ideal) x0 x1 x2) (ix2 r s) = score x0 x1 (row 1792 r (by omega)) (row 1792 s (by omega)) := by
  refine ⟨?_, ?_, ?_, ?_, ?_, ?_, ?_, ?_⟩
  all_goals
    unfold_payloads
    unfold score dots row
    pointwise [View.ld]
    simp only [sel, mask_val, Fin.mk_le_mk, Nat.add_le_add_iff_left]

/-- The raw scores of the tiles below the diagonal. -/
theorem score_rest (r : Fin 256) :
    (∀ s : Fin 256, (k0_pay112 (F := Ideal) x0 x1 x2) (ix2 r s) = score x0 x1 (row 256 r (by omega)) (row 0 s (by omega))) ∧
    (∀ s : Fin 512, (k0_pay113 (F := Ideal) x0 x1 x2) (ix2 r s) = score x0 x1 (row 512 r (by omega)) (row 0 s (by omega))) ∧
    (∀ s : Fin 768, (k0_pay114 (F := Ideal) x0 x1 x2) (ix2 r s) = score x0 x1 (row 768 r (by omega)) (row 0 s (by omega))) ∧
    (∀ s : Fin 1024, (k0_pay115 (F := Ideal) x0 x1 x2) (ix2 r s) = score x0 x1 (row 1024 r (by omega)) (row 0 s (by omega))) ∧
    (∀ s : Fin 1280, (k0_pay116 (F := Ideal) x0 x1 x2) (ix2 r s) = score x0 x1 (row 1280 r (by omega)) (row 0 s (by omega))) ∧
    (∀ s : Fin 1536, (k0_pay117 (F := Ideal) x0 x1 x2) (ix2 r s) = score x0 x1 (row 1536 r (by omega)) (row 0 s (by omega))) ∧
    (∀ s : Fin 1792, (k0_pay118 (F := Ideal) x0 x1 x2) (ix2 r s) = score x0 x1 (row 1792 r (by omega)) (row 0 s (by omega))) := by
  refine ⟨?_, ?_, ?_, ?_, ?_, ?_, ?_⟩
  all_goals
    intro s
    unfold_payloads
    unfold score dots row
    pointwise [View.ld]
    try rw [if_pos (show (_ : Fin 2048) ≤ _ from Fin.mk_le_mk.2 (by omega))]

/-- The word of minus infinity. -/
theorem negInf : Ideal.ofBits .f32 4286578688#32 = (⊥ : EReal) := by
  simp [Ideal.ofBits, Ideal.ieee]

/-- A query's largest raw score, tile by tile. -/
theorem tops (r : Fin 256) :
    (k0_pay119 (F := Ideal) x0 x1 x2) (ix2 r 0) = top x0 x1 (row 0 r (by omega)) ∧
    (k0_pay122 (F := Ideal) x0 x1 x2) (ix2 r 0) = top x0 x1 (row 256 r (by omega)) ∧
    (k0_pay123 (F := Ideal) x0 x1 x2) (ix2 r 0) = top x0 x1 (row 512 r (by omega)) ∧
    (k0_pay124 (F := Ideal) x0 x1 x2) (ix2 r 0) = top x0 x1 (row 768 r (by omega)) ∧
    (k0_pay125 (F := Ideal) x0 x1 x2) (ix2 r 0) = top x0 x1 (row 1024 r (by omega)) ∧
    (k0_pay126 (F := Ideal) x0 x1 x2) (ix2 r 0) = top x0 x1 (row 1280 r (by omega)) ∧
    (k0_pay127 (F := Ideal) x0 x1 x2) (ix2 r 0) = top x0 x1 (row 1536 r (by omega)) ∧
    (k0_pay128 (F := Ideal) x0 x1 x2) (ix2 r 0) = top x0 x1 (row 1792 r (by omega)) := by
  refine ⟨?_, ?_, ?_, ?_, ?_, ?_, ?_, ?_⟩
  all_goals
    pointwise [k0_pay119, k0_pay120, k0_pay121, k0_pay122, k0_pay123, k0_pay124, k0_pay125, k0_pay126, k0_pay127, k0_pay128, k0_pay24, k0_pay25, k0_pay26, k0_pay27, k0_pay28, k0_pay29, k0_pay30, k0_pay31, k0_pay32, k0_pay33]
    simp only [score_diag, score_rest, negInf]
  case' refine_1 => exact max_first _ _ r.isLt fun s h => score_after x0 x1 _ s (Fin.lt_def.2 h)
  all_goals exact max_to _ _ _ (by decide) r.isLt fun s h => score_after x0 x1 _ s (Fin.lt_def.2 h)

end Cert.Attn
-- ==== Proof.AttnT1.lean ====
/- The latent attention's forward kernel: the weights, their sums and the two results of one head. -/
module

public import proofs.«01_k».proof.Proof.AttnT0

@[expose] public section

set_option maxRecDepth 16384

noncomputable section

namespace Cert.Attn

open Cert.KAttnIdeal Cert.KAttnIdeal.Gen Idealize.ShloMosaic Idealize.ShloMosaic.TcCoe Idealize.SL.Sem
open Idealize.ShloMosaic.Pipeline (Dat)
open Cert.Mla (Blk row)

variable (x0 x1 x2 : Blk)

/-- The weights of the tiles on the diagonal. -/
theorem weight_diag (r s : Fin 256) :
    (k0_pay129 (F := Ideal) x0 x1 x2) (ix2 r s) = weight x0 x1 (row 0 r (by omega)) (row 0 s (by omega)) ∧
    (k0_pay130 (F := Ideal) x0 x1 x2) (ix2 r s) = weight x0 x1 (row 256 r (by omega)) (row 256 s (by omega)) ∧
    (k0_pay131 (F := Ideal) x0 x1 x2) (ix2 r s) = weight x0 x1 (row 512 r (by omega)) (row 512 s (by omega)) ∧
    (k0_pay132 (F := Ideal) x0 x1 x2) (ix2 r s) = weight x0 x1 (row 768 r (by omega)) (row 768 s (by omega)) ∧
    (k0_pay133 (F := Ideal) x0 x1 x2) (ix2 r s) = weight x0 x1 (row 1024 r (by omega)) (row 1024 s (by omega)) ∧
    (k0_pay134 (F := Ideal) x0 x1 x2) (ix2 r s) = weight x0 x1 (row 1280 r (by omega)) (row 1280 s (by omega)) ∧
    (k0_pay135 (F := Ideal) x0 x1 x2) (ix2 r s) = weight x0 x1 (row 1536 r (by omega)) (row 1536 s (by omega)) ∧
    (k0_pay136 (F := Ideal) x0 x1 x2) (ix2 r s) = weight x0 x1 (row 1792 r (by omega)) (row 1792 s (by omega)) := by
  have e1 : k0_pay27 (k0_pay112 x0 x1 x2) (k0_pay120 x0 x1 x2) = k0_pay122 (F := Ideal) x0 x1 x2 := rfl
  have e2 : k0_pay28 (k0_pay113 x0 x1 x2) (k0_pay121 x0 x1 x2) = k0_pay123 (F := Ideal) x0 x1 x2 := rfl
  refine ⟨?_, ?_, ?_, ?_, ?_, ?_, ?_, ?_⟩
  all_goals
    simp only [k0_pay129, k0_pay130, k0_pay131, k0_pay132, k0_pay133, k0_pay134, k0_pay135, k0_pay136, k0_pay34, k0_pay35, k0_pay36, k0_pay37, k0_pay38, k0_pay39, k0_pay40, k0_pay41, k0_pay42, k0_pay43, e1, e2]
    pointwise
    simp only [score_diag, tops, c_val]
    rfl

/-- The weights of the tiles below the diagonal. -/
theorem weight_rest (r : Fin 256) :
    (∀ s : Fin 256, (k0_pay137 (F := Ideal) x0 x1 x2) (ix2 r s) = weight x0 x1 (row 256 r (by omega)) (row 0 s (by omega))) ∧
    (∀ s : Fin 512, (k0_pay138 (F := Ideal) x0 x1 x2) (ix2 r s) = weight x0 x1 (row 512 r (by omega)) (row 0 s (by omega))) ∧
    (∀ s : Fin 768, (k0_pay139 (F := Ideal) x0 x1 x2) (ix2 r s) = weight x0 x1 (row 768 r (by omega)) (row 0 s (by omega))) ∧
    (∀ s : Fin 1024, (k0_pay140 (F := Ideal) x0 x1 x2) (ix2 r s) = weight x0 x1 (row 1024 r (by omega)) (row 0 s (by omega))) ∧
    (∀ s : Fin 1280, (k0_pay50 (k0_pay141 (F := Ideal) x0 x1 x2) (k0_pay142 (F := Ideal) x0 x1 x2)) (ix2 r s) = weight x0 x1 (row 1280 r (by omega)) (row 0 s (by omega))) ∧
    (∀ s : Fin 1536, (k0_pay51 (k0_pay117 (F := Ideal) x0 x1 x2) (k0_pay127 (F := Ideal) x0 x1 x2)) (ix2 r s) = weight x0 x1 (row 1536 r (by omega)) (row 0 s (by omega))) ∧
    (∀ s : Fin 1792, (k0_pay143 (F := Ideal) x0 x1 x2) (ix2 r s) = weight x0 x1 (row 1792 r (by omega)) (row 0 s (by omega))) := by
  refine ⟨?_, ?_, ?_, ?_, ?_, ?_, ?_⟩
  all_goals
    intro s
    pointwise [k0_pay137, k0_pay138, k0_pay139, k0_pay140, k0_pay141, k0_pay142, k0_pay143, k0_pay44, k0_pay45, k0_pay46, k0_pay47, k0_pay48, k0_pay49, k0_pay50, k0_pay51, k0_pay52]
    simp only [score_rest, tops, c_val]
    rfl

/-- A query's sum of weights, tile by tile. -/
theorem totals (r : Fin 256) :
    (k0_pay144 (F := Ideal) x0 x1 x2) (ix2 r 0) = total x0 x1 (row 0 r (by omega)) ∧
    (k0_pay145 (F := Ideal) x0 x1 x2) (ix2 r 0) = total x0 x1 (row 256 r (by omega)) ∧
    (k0_pay146 (F := Ideal) x0 x1 x2) (ix2 r 0) = total x0 x1 (row 512 r (by omega)) ∧
    (k0_pay147 (F := Ideal) x0 x1 x2) (ix2 r 0) = total x0 x1 (row 768 r (by omega)) ∧
    (k0_pay148 (F := Ideal) x0 x1 x2) (ix2 r 0) = total x0 x1 (row 1024 r (by omega)) ∧
    (k0_pay149 (F := Ideal) x0 x1 x2) (ix2 r 0) = total x0 x1 (row 1280 r (by omega)) ∧
    (k0_pay150 (F := Ideal) x0 x1 x2) (ix2 r 0) = total x0 x1 (row 1536 r (by omega)) ∧
    (k0_pay151 (F := Ideal) x0 x1 x2) (ix2 r 0) = total x0 x1 (row 1792 r (by omega)) := by
  refine ⟨?_, ?_, ?_, ?_, ?_, ?_, ?_, ?_⟩
  all_goals
    pointwise [k0_pay144, k0_pay145, k0_pay146, k0_pay147, k0_pay148, k0_pay149, k0_pay150, k0_pay151, k0_pay53, k0_pay54, k0_pay55, k0_pay56, k0_pay57, k0_pay58, k0_pay59, k0_pay60, k0_pay61, k0_pay62, k0_pay63]
    simp only [weight_diag, weight_rest]
  case' refine_1 => exact sum_first _ _ r.isLt fun s h => weight_after x0 x1 _ s (Fin.lt_def.2 h)
  all_goals exact sum_to _ _ _ (by decide) r.isLt fun s h => weight_after x0 x1 _ s (Fin.lt_def.2 h)

end Cert.Attn
-- ==== Proof.AttnReal.lean ====
/- The latent attention's forward kernel: one head's results over the reals, and the reference's. -/
module

public import proofs.«01_k».proof.Proof.AttnT0
public import proofs.«01_k».proof.Proof.MlaValue
public import proofs.«01_k».proof.Proof.Gen.RAttnIdeal.Read

@[expose] public section

set_option maxRecDepth 16384

noncomputable section

namespace Cert.Attn

open Cert.KAttnIdeal Cert.KAttnIdeal.Gen Idealize.ShloMosaic Idealize.ShloMosaic.TcCoe Idealize.SL.Sem
open Idealize.ShloMosaic.Pipeline (Dat)
open Cert.Mla (Blk dots dots_pad padR scoreR maskedR maxE maxR maxE_eq expR sumR sumR_pos probR outR lseR coe_sum div_real outH lseH maxH expH sumH)

section tile

variable (x0 x1 x2 : Blk) (q k : Fin 2048 → Fin 96 → ℝ) (v : Fin 2048 → Fin 64 → ℝ)

/-- A point's blocks hold one head: its queries, keys and values. -/
structure Head : Prop where
  q_ : ∀ r d, x0 (ix2 r d) = (padR q r d : EReal)
  k_ : ∀ r d, x1 (ix2 r d) = (padR k r d : EReal)
  v_ : ∀ r d, x2 (ix2 r d) = (padR v r d : EReal)

variable {x0 x1 x2 q k v} (H : Head x0 x1 x2 q k v) (r s : Fin 2048)

/-- The square root of 96 is positive. -/
theorem root_pos : 0 < Real.sqrt 96 := by positivity

include H in
/-- A raw score is a real number, where the key is not masked. -/
theorem score_real : score x0 x1 r s = if s ≤ r then ((scoreR q k r s * Real.sqrt 96 : ℝ) : EReal) else ⊥ := by
  rw [score, dots_pad r s (by norm_num) H.q_ H.k_, scoreR, div_mul_cancel₀ _ root_pos.ne']

include H in
/-- The largest raw score of a query is the largest scaled score times the root. -/
theorem top_real : top x0 x1 r = ((maxR q k r * Real.sqrt 96 : ℝ) : EReal) := by
  have hm := maxE_eq q k r
  refine le_antisymm ?_ ?_
  · refine (Finset.fold_max_le _).2 ⟨bot_le, fun s _ => ?_⟩
    rw [score_real H]
    split_ifs with hs
    · refine EReal.coe_le_coe_iff.2 (mul_le_mul_of_nonneg_right ?_ root_pos.le)
      refine EReal.coe_le_coe_iff.1 ?_
      rw [← hm]
      refine (Finset.le_fold_max _).2 (Or.inr ⟨s, Finset.mem_univ _, ?_⟩)
      rw [maskedR, if_pos hs]
    · exact bot_le
  · obtain h | ⟨s, _, h⟩ := (Finset.le_fold_max _).1 hm.ge
    · exact absurd h (not_le.2 (EReal.bot_lt_coe _))
    · refine (Finset.le_fold_max _).2 (Or.inr ⟨s, Finset.mem_univ _, ?_⟩)
      rw [maskedR] at h
      rw [score_real H]
      split_ifs at h ⊢ with hs
      · exact EReal.coe_le_coe_iff.2 (mul_le_mul_of_nonneg_right (EReal.coe_le_coe_iff.1 h) root_pos.le)
      · exact absurd h (not_le.2 (EReal.bot_lt_coe _))

include H in
/-- A weight is the exponential of the scaled score less the row's largest. -/
theorem weight_real : weight x0 x1 r s = (expR q k r s : EReal) := by
  by_cases hs : s ≤ r
  · have h2 : Real.log 2 ≠ 0 := (Real.log_pos one_lt_two).ne'
    rw [weight, score_real H, top_real H, if_pos hs, ← EReal.coe_sub, ← EReal.coe_mul, Ideal.exp2_coe, expR, if_pos hs]
    refine congrArg _ ?_
    refine (Real.rpow_def_of_pos two_pos _).trans ?_
    refine congrArg _ ?_
    have := root_pos.ne'
    field_simp
  · rw [weight_after x0 x1 r s (not_le.1 hs), expR, if_neg hs, EReal.coe_zero]

include H in
/-- A query's sum of weights is the row's sum of exponentials. -/
theorem total_real : total x0 x1 r = (sumR q k r : EReal) := by
  rw [total, sumR, ← coe_sum]
  exact Finset.sum_congr rfl fun s _ => weight_real H r s

include H in
/-- The weighted sum of the values, divided, is the attention's output. -/
theorem out_real (d : Fin 128) :
    (∑ s, weight x0 x1 r s * x2 (ix2 s d)) * Ideal.div 1 (total x0 x1 r) = (padR (outR q k v) r d : EReal) := by
  have h := (sumR_pos q k r).ne'
  rw [total_real H, ← EReal.coe_one, div_real _ _ h]
  simp only [weight_real H, H.v_, ← EReal.coe_mul, coe_sum]
  refine congrArg _ ?_
  unfold padR outR probR
  split_ifs
  · rw [Finset.sum_mul]
    refine Finset.sum_congr rfl fun s _ => ?_
    field_simp
  · simp

include H in
/-- The logarithm of a row's sum of exponentials, in base 2. -/
theorem lse_real :
    top x0 x1 r * (((Real.sqrt 96 * Real.log 2)⁻¹ : ℝ) : EReal) + Ideal.log (total x0 x1 r) * (((Real.log 2)⁻¹ : ℝ) : EReal) = (lseR q k r : EReal) := by
  have h2 : Real.log 2 ≠ 0 := (Real.log_pos one_lt_two).ne'
  rw [top_real H, total_real H, Ideal.log_coe, if_neg (not_le.2 (sumR_pos _ _ _)), ← EReal.coe_mul, ← EReal.coe_mul, ← EReal.coe_add, lseR]
  refine congrArg _ ?_
  have := root_pos.ne'
  field_simp

end tile

section ref

open Cert.RAttnIdeal.Read

variable (x0 x1 : FVec Ideal S2x2048x8x96 .f32) (x2 : FVec Ideal S2x2048x8x64 .f32)

/-- The row's largest score is not changed by minus infinity. -/
theorem ref_max : val_main_v13 (F := Ideal) x0 x1 = val_main_v24 (F := Ideal) x0 x1 := by
  funext i
  rw [val_main_v13_apply, val_main_v12_apply, val_main_cst_2_apply]
  show max (Ideal.ofBits .f32 4286578688#32) (val_main_v24 (F := Ideal) x0 x1 i) = _
  rw [negInf, max_eq_right bot_le]

/-- The reference's logarithms of the row sums. -/
theorem ref_lse : val_main_v39 (F := Ideal) x0 x1 = lseH x0 x1 := rfl

/-- The reference's exponentials. -/
theorem ref_exp : val_main_v17 (F := Ideal) x0 x1 = expH x0 x1 := by
  unfold val_main_v17 val_main_v16 val_main_v15 val_main_v14
  rw [ref_max]
  rfl

/-- The reference's output. -/
theorem ref_out : val_main_v38 (F := Ideal) x0 x1 x2 = outH x0 x1 x2 := by
  unfold val_main_v38 val_main_v37 val_main_v36 val_main_v23 val_main_v22 val_main_v21 val_main_v20 val_main_v19 val_main_v18
  rw [ref_exp]
  rfl

end ref

end Cert.Attn
-- ==== Proof.AttnValue.lean ====
/- The latent attention's forward kernel computes attention and the logarithms of its row sums. -/
module

public import proofs.«01_k».proof.Proof.AttnT1
public import proofs.«01_k».proof.Proof.AttnReal
public import Idealize.ShloMosaic.Lib.StableHlo.RunRead

@[expose] public section

set_option maxRecDepth 16384

noncomputable section

namespace Cert.Attn

open Cert.KAttnIdeal Cert.KAttnIdeal.Gen Idealize.ShloMosaic Idealize.ShloMosaic.TcCoe Idealize.SL.Sem
open Idealize.ShloMosaic.Pipeline (Dat)
open Cert.Mla (Blk row padR outR lseR headH valueH headH_read valueH_read outH_read lseH_read)

section point

variable (x0 x1 x2 : Blk)

/-- The word of 1. -/
theorem one : Ideal.ofBits .f32 1065353216#32 = (1 : EReal) := by
  rw [← EReal.coe_one]
  simp [Ideal.ofBits, Ideal.ieee, -EReal.coe_mul, -EReal.coe_one]
  norm_num

/-- A query's weighted sum of the values, from its own tile and the tiles before it. -/
theorem out_tile (lo : ℕ) (hlo : lo + 256 ≤ 2048) (z : Fin 256) (Y : Fin 2048) (hY : Y.val = lo + z.val) (e d : Fin 128) (he : e.val = d.val) :
    (∑ x : Fin 256, weight x0 x1 (row lo z (by omega)) (row lo x (by omega)) * x2 (ix2 ⟨lo + x.val, by omega⟩ d)
      + ∑ x : Fin lo, weight x0 x1 (row lo z (by omega)) (row 0 x (by omega)) * x2 (ix2 ⟨x.val, by omega⟩ d)) * Ideal.div 1 (total x0 x1 (row lo z (by omega)))
      = (∑ s, weight x0 x1 Y s * x2 (ix2 s e)) * Ideal.div 1 (total x0 x1 Y) := by
  obtain rfl : e = d := Fin.ext he
  have e0 : row lo z (by omega) = Y := Fin.ext hY.symm
  rw [e0]
  refine congrArg (· * _) ?_
  rw [← sum_to (fun s => weight x0 x1 Y s * x2 (ix2 s e)) lo z hlo z.isLt fun s h => by
    rw [weight_after x0 x1 _ s (Fin.lt_def.2 (by omega)), zero_mul]]
  simp only [row, Nat.zero_add]

/-- A query's weighted sum of the values, where the query is in the first tile. -/
theorem out_first (z : Fin 256) (Y : Fin 2048) (hY : Y.val = z.val) (e d : Fin 128) (he : e.val = d.val) :
    (∑ x : Fin 256, weight x0 x1 (row 0 z (by omega)) (row 0 x (by omega)) * x2 (ix2 ⟨x.val, by omega⟩ d)) * Ideal.div 1 (total x0 x1 (row 0 z (by omega)))
      = (∑ s, weight x0 x1 Y s * x2 (ix2 s e)) * Ideal.div 1 (total x0 x1 Y) := by
  rw [← out_tile x0 x1 x2 0 (by decide) z Y (hY.trans (Nat.zero_add _).symm) e d he, Fin.sum_univ_zero, add_zero]
  simp only [Nat.zero_add]

set_option maxHeartbeats 2000000 in
/-- A head's output block. -/
theorem out_point (y : S2048x128.Idx) :
    out0_3 (F := Ideal) x0 x1 x2 y = (∑ s, weight x0 x1 (y 0) s * x2 (ix2 s (y 1))) * Ideal.div 1 (total x0 x1 (y 0)) := by
  unfold out0_3
  canon_tiles z h
  all_goals
    idx_vars z
    idx_vars y
    simp only [k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay83, k0_pay85, k0_pay88, k0_pay90, k0_pay93, k0_pay95, k0_pay97]
    pointwise [View.ld_apply]
    simp only [weight_diag, weight_rest, totals, one]
  case' piece7 => exact out_first x0 x1 x2 _ _ h0 _ _ h1
  all_goals exact out_tile x0 x1 x2 _ (by decide) _ _ h0 _ _ h1

set_option maxHeartbeats 2000000 in
/-- A head's logarithms of the row sums. -/
theorem lse_point (y : S1x2048x1.Idx) :
    out0_4 (F := Ideal) x0 x1 x2 y = top x0 x1 (y 1) * (((Real.sqrt 96 * Real.log 2)⁻¹ : ℝ) : EReal) + Ideal.log (total x0 x1 (y 1)) * (((Real.log 2)⁻¹ : ℝ) : EReal) := by
  unfold out0_4
  canon_tiles z h
  all_goals
    idx_vars z
    idx_vars y
    pointwise [k0_pay1, k0_pay82, k0_pay84, k0_pay86, k0_pay87, k0_pay89, k0_pay91, k0_pay92, k0_pay94, k0_pay96]
    simp only [tops, totals, c_val, ln_val]
  all_goals exact congrArg (fun w => top x0 x1 w * _ + Ideal.log (total x0 x1 w) * _) (Fin.ext (by dsimp only; omega))

end point

section final

variable (m : (ℓ : Loc nD τ sig) → Buf (Elt Ideal) ℓ) (c : Dev nD)

/-- The block every window shows at a step of the grid. -/
theorem idx : ∀ t : Fin cfg0.N, win0_0.index t = ![t.val / 8, t.val % 8] ∧ win0_1.index t = ![t.val / 8, t.val % 8] ∧ win0_2.index t = ![t.val / 8, t.val % 8]
    ∧ win0_3.index t = ![t.val / 8, t.val % 8] ∧ win0_4.index t = ![t.val, 0, 0] :=
  (by decide +kernel : ∀ t : Fin grid0.N, _)

/-- The grid has sixteen steps. -/
theorem points : ∀ t : Fin cfg0.N, t.val < 16 := (by decide +kernel : ∀ t : Fin grid0.N, _)

/-- A point's batch entry and head. -/
abbrev bat (t : Fin cfg0.N) : Fin 2 := ⟨t.val / 8, by have := points t; omega⟩
abbrev hd (t : Fin cfg0.N) : Fin 8 := ⟨t.val % 8, by omega⟩

/-- The queries, as the program is given them. -/
abbrev Q : FVec Ideal S2x2048x8x96 .f32 := m ((c : Thread nD τ).loc main_arg0)
/-- The keys. -/
abbrev K : FVec Ideal S2x2048x8x96 .f32 := m ((c : Thread nD τ).loc main_arg1)
/-- The values. -/
abbrev W : FVec Ideal S2x2048x8x64 .f32 := m ((c : Thread nD τ).loc main_arg2)

/-- The kernel's operand for the queries. -/
theorem Vq : V m c main_v2 = headH (Q m c) := by
  simp only [V]
  after_reads_simp
  rfl

/-- The kernel's operand for the keys. -/
theorem Vk : V m c main_v5 = headH (K m c) := by
  simp only [V]
  after_reads_simp
  rfl

/-- The kernel's operand for the values. -/
theorem Vv : V m c main_v8 = valueH (W m c) := by
  simp only [V]
  after_reads_simp
  rfl

variable (q k : Fin 2 → Fin 8 → Fin 2048 → Fin 96 → ℝ) (v : Fin 2 → Fin 8 → Fin 2048 → Fin 64 → ℝ)
  (hq : ∀ b r h d, Q m c (ix4 b r h d) = (q b h r d : EReal)) (hk : ∀ b r h d, K m c (ix4 b r h d) = (k b h r d : EReal))
  (hv : ∀ b r h d, W m c (ix4 b r h d) = (v b h r d : EReal))

/-- A step's block of an operand is one head of it. -/
theorem head_block (t : Fin cfg0.N) {n : ℕ} (f : Fin 2 → Fin 8 → Fin 2048 → Fin n → ℝ) (A : FVec Ideal S4096x1024 .bf16)
    (hA : ∀ (R : Fin 4096) (C : Fin 1024), A (ix2 R C) = (padR (f ⟨R.val / 2048, by omega⟩ ⟨C.val / 128, by omega⟩) ⟨R.val % 2048, by omega⟩ ⟨C.val % 128, by omega⟩ : EReal))
    (r : Fin 2048) (d : Fin 128) (R : Fin 4096) (C : Fin 1024) (hR : R.val = 2048 * (t.val / 8) + r.val) (hC : C.val = 128 * (t.val % 8) + d.val) :
    A (ix2 R C) = (padR (f (bat t) (hd t)) r d : EReal) := by
  rw [hA]
  congr 2
  · congr 1 <;> exact Fin.ext (by simp only; omega)
  · exact Fin.ext (by simp only; omega)
  · exact Fin.ext (by simp only; omega)

include hq hk hv in
/-- A step's blocks hold one head. -/
theorem head (t : Fin cfg0.N) : Head (iblk m c 0 t) (iblk m c 1 t) (iblk m c 2 t) (q (bat t) (hd t)) (k (bat t) (hd t)) (v (bat t) (hd t)) where
  q_ r d := by
    have ht := points t
    refine Eq.trans ?_ (head_block t q _ (headH_read (Q m c) q hq) r d ⟨2048 * (t.val / 8) + r.val, by omega⟩ ⟨128 * (t.val % 8) + d.val, by omega⟩ rfl rfl)
    rw [← Vq m c]
    blk_ext [iblk, idx t]
  k_ r d := by
    have ht := points t
    refine Eq.trans ?_ (head_block t k _ (headH_read (K m c) k hk) r d ⟨2048 * (t.val / 8) + r.val, by omega⟩ ⟨128 * (t.val % 8) + d.val, by omega⟩ rfl rfl)
    rw [← Vk m c]
    blk_ext [iblk, idx t]
  v_ r d := by
    have ht := points t
    refine Eq.trans ?_ (head_block t v _ (valueH_read (W m c) v hv) r d ⟨2048 * (t.val / 8) + r.val, by omega⟩ ⟨128 * (t.val % 8) + d.val, by omega⟩ rfl rfl)
    rw [← Vv m c]
    blk_ext [iblk, idx t]

open Cert.RAttnIdeal.Read in
include hq hk hv in
/-- The attention's output. -/
theorem final_out : (dats m 0 c).arrAt 3 cfg0.N = val_main_v38 (F := Ideal) (Q m c) (K m c) (W m c) := by
  refine (dats m 0 c).arrAt_eq_of_covers 3 _ (by decide +kernel) fun t hf y => ?_
  rw [after0_3]
  obtain ⟨r, d, rfl⟩ : ∃ (r : Fin 2048) (d : Fin 128), y = ix2 r d := ⟨y 0, y 1, eq_ix2 y⟩
  refine (out_point _ _ _ (ix2 r d)).trans ?_
  refine (out_real (head m c q k v hq hk hv t) r d).trans ?_
  have ht := points t
  rw [ref_out]
  refine Eq.trans (head_block t (fun b h => outR (q b h) (k b h) (v b h)) _ (outH_read (Q m c) (K m c) (W m c) q k v hq hk hv) r d ⟨2048 * (t.val / 8) + r.val, by omega⟩ ⟨128 * (t.val % 8) + d.val, by omega⟩ rfl rfl).symm ?_
  blk_ext [idx t]

open Cert.RAttnIdeal.Read in
include hq hk hv in
/-- The logarithms of the row sums. -/
theorem final_lse : (dats m 0 c).arrAt 4 cfg0.N = val_main_v39 (F := Ideal) (Q m c) (K m c) := by
  refine (dats m 0 c).arrAt_eq_of_covers 4 _ (by decide +kernel) fun t hf y => ?_
  rw [after0_4]
  obtain ⟨r, rfl⟩ : ∃ (r : Fin 2048), y = ix3 0 r 0 := ⟨y 1, by
    funext a
    match a with
    | 0 => exact Fin.ext (by have : (y 0).val < 1 := (y 0).isLt; show (y 0).val = 0; omega)
    | 1 => rfl
    | 2 => exact Fin.ext (by have : (y 2).val < 1 := (y 2).isLt; show (y 2).val = 0; omega)⟩
  refine (lse_point _ _ _ (ix3 0 r 0)).trans ?_
  refine (lse_real (head m c q k v hq hk hv t) r).trans ?_
  have ht := points t
  rw [ref_lse]
  refine Eq.trans (lseH_read (Q m c) (K m c) q k hq hk r ⟨t.val, by omega⟩).symm ?_
  blk_ext [idx t]

end final

end Cert.Attn
-- ==== Proof.lean ====
module

public import proofs.«01_k».proof.Proof.Gen.KQkvIdeal.Value
public import proofs.«01_k».proof.Proof.Gen.RQkvIdeal.Run
public import proofs.«01_k».proof.Proof.Gen.RQkvIdeal.Read
public import proofs.«01_k».proof.Proof.Gen.KQkv
public import proofs.«01_k».proof.Proof.Gen.KQkv.Frame
public import proofs.«01_k».proof.Proof.Gen.RQkvIdeal
public import proofs.«01_k».proof.Proof.Gen.KDownIdeal.Value
public import proofs.«01_k».proof.Proof.Gen.RDownIdeal.Run
public import proofs.«01_k».proof.Proof.Gen.RDownIdeal.Read
public import proofs.«01_k».proof.Proof.Gen.KDown
public import proofs.«01_k».proof.Proof.Gen.KDown.Frame
public import proofs.«01_k».proof.Proof.Gen.RDownIdeal
public import proofs.«01_k».proof.Proof.Gen.KDwIdeal.Value
public import proofs.«01_k».proof.Proof.Gen.RDwIdeal.Run
public import proofs.«01_k».proof.Proof.Gen.RDwIdeal.Read
public import proofs.«01_k».proof.Proof.Gen.KDw
public import proofs.«01_k».proof.Proof.Gen.KDw.Frame
public import proofs.«01_k».proof.Proof.Gen.RDwIdeal
public import proofs.«01_k».proof.Proof.Gen.KAdamIdeal.Value
public import proofs.«01_k».proof.Proof.Gen.RAdamIdeal.Run
public import proofs.«01_k».proof.Proof.Gen.RAdamIdeal.Read
public import proofs.«01_k».proof.Proof.Gen.KAdam
public import proofs.«01_k».proof.Proof.Gen.KAdam.Frame
public import proofs.«01_k».proof.Proof.Gen.RAdamIdeal
public import proofs.«01_k».proof.Proof.Gen.KUpIdeal.Value
public import proofs.«01_k».proof.Proof.Gen.RUpIdeal.Run
public import proofs.«01_k».proof.Proof.Gen.RUpIdeal.Read
public import proofs.«01_k».proof.Proof.Gen.KUp
public import proofs.«01_k».proof.Proof.Gen.KUp.Frame
public import proofs.«01_k».proof.Proof.Gen.RUpIdeal
public import proofs.«01_k».proof.Proof.Gen.KMixIdeal.Value
public import proofs.«01_k».proof.Proof.Gen.RMixIdeal.Run
public import proofs.«01_k».proof.Proof.Gen.RMixIdeal.Read
public import proofs.«01_k».proof.Proof.Gen.KMix
public import proofs.«01_k».proof.Proof.Gen.KMix.Frame
public import proofs.«01_k».proof.Proof.Gen.RMixIdeal
public import proofs.«01_k».proof.Proof.Gen.KProjIdeal.Value
public import proofs.«01_k».proof.Proof.Gen.RProjIdeal.Run
public import proofs.«01_k».proof.Proof.Gen.RProjIdeal.Read
public import proofs.«01_k».proof.Proof.Gen.KProj
public import proofs.«01_k».proof.Proof.Gen.KProj.Frame
public import proofs.«01_k».proof.Proof.Gen.RProjIdeal
public import proofs.«01_k».proof.Proof.Gen.KDhIdeal.Value
public import proofs.«01_k».proof.Proof.Gen.RDhIdeal.Run
public import proofs.«01_k».proof.Proof.Gen.RDhIdeal.Read
public import proofs.«01_k».proof.Proof.Gen.KDh
public import proofs.«01_k».proof.Proof.Gen.KDh.Frame
public import proofs.«01_k».proof.Proof.Gen.RDhIdeal
public import proofs.«01_k».proof.Proof.Gen.KAttnIdeal.Value
public import proofs.«01_k».proof.Proof.Gen.RAttnIdeal.Run
public import proofs.«01_k».proof.Proof.Gen.RAttnIdeal.Read
public import proofs.«01_k».proof.Proof.Gen.KAttn
public import proofs.«01_k».proof.Proof.Gen.KAttn.Frame
public import proofs.«01_k».proof.Proof.Gen.RAttnIdeal
public import proofs.«01_k».proof.Proof.Gen.KKvIdeal.Value
public import proofs.«01_k».proof.Proof.Gen.RKvIdeal.Run
public import proofs.«01_k».proof.Proof.Gen.RKvIdeal.Read
public import proofs.«01_k».proof.Proof.Gen.KKv
public import proofs.«01_k».proof.Proof.Gen.KKv.Frame
public import proofs.«01_k».proof.Proof.Gen.RKvIdeal
public import proofs.«01_k».proof.Proof.Gen.KGateIdeal.Value
public import proofs.«01_k».proof.Proof.Gen.RGateIdeal.Run
public import proofs.«01_k».proof.Proof.Gen.RGateIdeal.Read
public import proofs.«01_k».proof.Proof.Gen.KGate
public import proofs.«01_k».proof.Proof.Gen.KGate.Skeleton
public import proofs.«01_k».proof.Proof.Gen.KGate.Launch
public import proofs.«01_k».proof.Proof.Gen.KGate.Points
public import proofs.«01_k».proof.Proof.Gen.KGate.Frame
public import proofs.«01_k».proof.Proof.Gen.RGateIdeal
public import proofs.«01_k».proof.Proof.Gen.KNormIdeal.Value
public import proofs.«01_k».proof.Proof.Gen.RNormIdeal.Run
public import proofs.«01_k».proof.Proof.Gen.RNormIdeal.Read
public import proofs.«01_k».proof.Proof.Gen.KNorm
public import proofs.«01_k».proof.Proof.Gen.KNorm.Skeleton
public import proofs.«01_k».proof.Proof.Gen.KNorm.Launch
public import proofs.«01_k».proof.Proof.Gen.KNorm.Points
public import proofs.«01_k».proof.Proof.Gen.KNorm.Frame
public import proofs.«01_k».proof.Proof.Gen.RNormIdeal
public import proofs.«01_k».proof.Proof.Gen.KMergeIdeal.Value
public import proofs.«01_k».proof.Proof.Gen.RMergeIdeal.Run
public import proofs.«01_k».proof.Proof.Gen.RMergeIdeal.Read
public import proofs.«01_k».proof.Proof.Gen.KMerge
public import proofs.«01_k».proof.Proof.Gen.KMerge.Skeleton
public import proofs.«01_k».proof.Proof.Gen.KMerge.Launch
public import proofs.«01_k».proof.Proof.Gen.KMerge.Points
public import proofs.«01_k».proof.Proof.Gen.KMerge.Frame
public import proofs.«01_k».proof.Proof.Gen.RMergeIdeal
public import proofs.«01_k».proof.Defs
public import proofs.«01_k».proof.Proof.Gen.KLoss
public import proofs.«01_k».proof.Proof.Gen.KLoss.Skeleton
public import proofs.«01_k».proof.Proof.Gen.KLoss.Launch
public import proofs.«01_k».proof.Proof.Gen.KLoss.Points
public import proofs.«01_k».proof.Proof.Gen.KLoss.Frame
public import proofs.«01_k».proof.Proof.Gen.KLossIdeal
public import proofs.«01_k».proof.Proof.Gen.KLossIdeal.Skeleton
public import proofs.«01_k».proof.Proof.Gen.KLossIdeal.Launch
public import proofs.«01_k».proof.Proof.Gen.KLossIdeal.Points
public import proofs.«01_k».proof.Proof.Gen.KLossIdeal.Frame
public import proofs.«01_k».proof.Proof.Gen.RLossIdeal
public import proofs.«01_k».proof.Proof.Gen.KLossIdeal.Value
public import proofs.«01_k».proof.Proof.Gen.RLossIdeal.Run
public import proofs.«01_k».proof.Proof.Gen.RLossIdeal.Read
public import proofs.«01_k».proof.Proof.Gen.KMla
public import proofs.«01_k».proof.Proof.Gen.KMla.Skeleton
public import proofs.«01_k».proof.Proof.Gen.KMla.Launch
public import proofs.«01_k».proof.Proof.Gen.KMla.Points
public import proofs.«01_k».proof.Proof.Gen.KMla.Frame
public import proofs.«01_k».proof.Proof.Gen.KMlaIdeal
public import proofs.«01_k».proof.Proof.Gen.KMlaIdeal.Frame
public import proofs.«01_k».proof.Proof.Gen.RMlaIdeal
public import proofs.«01_k».proof.Proof.Gen.KMlaIdeal.Value
public import proofs.«01_k».proof.Proof.Gen.RMlaIdeal.Run
public import proofs.«01_k».proof.Proof.Gen.RMlaIdeal.Read
public import proofs.«01_k».proof.Proof.LossValue
public import proofs.«01_k».proof.Proof.MlaValue
public import proofs.«01_k».proof.Proof.Finite
public import proofs.«01_k».proof.Proof.Reals
public import proofs.«01_k».proof.Proof.GateValue
public import proofs.«01_k».proof.Proof.NormValue
public import proofs.«01_k».proof.Proof.MergeValue
public import proofs.«01_k».proof.Proof.UpValue
public import proofs.«01_k».proof.Proof.MixValue
public import proofs.«01_k».proof.Proof.ProjValue
public import proofs.«01_k».proof.Proof.QkvValue
public import proofs.«01_k».proof.Proof.DownValue
public import proofs.«01_k».proof.Proof.DwValue
public import proofs.«01_k».proof.Proof.AdamValue
public import proofs.«01_k».proof.Proof.DhValue
public import proofs.«01_k».proof.Proof.KvValue
public import proofs.«01_k».proof.Proof.AttnValue
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference of the loss leaves its arguments as they were. -/
theorem frame_loss_ref : Cert.quiescent_RLossIdeal := by
  intro m g _
  hlo_run
  · simp
  · exact sem_eq_zero_of_no_sems (by decide) _

/-- The loss head computes the loss and its gradient. -/
theorem loss : Cert.algebraic_KLossIdeal_RLossIdeal := by
  pair_intro
  · run_from Cert.KLossIdeal.Gen.run_main m g
  · hlo_run
    · exact (Cert.LossHead.final_dy m c).symm
    · exact (Cert.LossHead.final_dyb m c).symm
    · exact (Cert.LossHead.final_loss m c).symm

/-- The reference of the latent attention's gradient leaves its arguments as they were. -/
theorem frame_mla_ref : Cert.quiescent_RMlaIdeal := by
  intro m g _
  hlo_run
  · simp
  · exact sem_eq_zero_of_no_sems (by decide) _

instance : Cert.Pre_finite.Facts := Cert.Mla.pre_facts

section mla

open Cert.KMlaIdeal Cert.KMlaIdeal.Gen Cert.Mla Cert.Reals

variable (m : (ℓ : Loc Cert.KMlaIdeal.nD Cert.KMlaIdeal.τ Cert.KMlaIdeal.sig) → Buf (Elt Ideal) ℓ) (hm : Cert.Pre_KMlaIdeal_finite m) (c : Dev Cert.KMlaIdeal.nD)

/-- An argument's element, as a real number. -/
abbrev queries (b : Fin 2) (h : Fin 8) (r : Fin 2048) (d : Fin 96) : ℝ := EReal.toReal (Q m c (ix4 b r h d))
abbrev keys (b : Fin 2) (h : Fin 8) (r : Fin 2048) (d : Fin 96) : ℝ := EReal.toReal (K m c (ix4 b r h d))
abbrev values (b : Fin 2) (h : Fin 8) (r : Fin 2048) (d : Fin 64) : ℝ := EReal.toReal (W m c (ix4 b r h d))
abbrev grads (b : Fin 2) (h : Fin 8) (r : Fin 2048) (d : Fin 64) : ℝ := EReal.toReal (G m c (ix3 b r ⟨h.val * 64 + d.val, by omega⟩))

include hm in
theorem queries_eq (b : Fin 2) (r : Fin 2048) (h : Fin 8) (d : Fin 96) : Q m c (ix4 b r h d) = (queries m c b h r d : EReal) :=
  real_of (Q m c) _ (hm c).1 _

include hm in
theorem keys_eq (b : Fin 2) (r : Fin 2048) (h : Fin 8) (d : Fin 96) : K m c (ix4 b r h d) = (keys m c b h r d : EReal) :=
  real_of (K m c) _ (hm c).2.1 _

include hm in
theorem values_eq (b : Fin 2) (r : Fin 2048) (h : Fin 8) (d : Fin 64) : W m c (ix4 b r h d) = (values m c b h r d : EReal) :=
  real_of (W m c) _ (hm c).2.2.1 _

include hm in
theorem grads_eq (b : Fin 2) (r : Fin 2048) (h : Fin 8) (d : Fin 64) (hd : h.val * 64 + d.val < 512) :
    G m c (ix3 b r ⟨h.val * 64 + d.val, hd⟩) = (grads m c b h r d : EReal) :=
  real_of (G m c) _ (hm c).2.2.2 _

include hm in
theorem agree_dq (y0 y1 : FVec Ideal S2x2048x8x96 .f32) (y2 : FVec Ideal S2x2048x8x64 .f32) (y3 : FVec Ideal S2x2048x512 .f32)
    (h0 : y0 = Q m c) (h1 : y1 = K m c) (h2 : y2 = W m c) (h3 : y3 = G m c) :
    Cert.RMlaIdeal.Read.val_main_v67 (F := Ideal) y0 y1 y2 y3 = (dats m 0 c).arrAt 6 cfg0.N := by
  subst h0 h1 h2 h3
  exact (final_dq m c _ _ _ _ (queries_eq m hm c) (keys_eq m hm c) (values_eq m hm c) (grads_eq m hm c)).symm

include hm in
theorem agree_dk (y0 y1 : FVec Ideal S2x2048x8x96 .f32) (y2 : FVec Ideal S2x2048x8x64 .f32) (y3 : FVec Ideal S2x2048x512 .f32)
    (h0 : y0 = Q m c) (h1 : y1 = K m c) (h2 : y2 = W m c) (h3 : y3 = G m c) :
    Cert.RMlaIdeal.Read.val_main_v69 (F := Ideal) y0 y1 y2 y3 = (dats m 0 c).arrAt 7 cfg0.N := by
  subst h0 h1 h2 h3
  exact (final_dk m c _ _ _ _ (queries_eq m hm c) (keys_eq m hm c) (values_eq m hm c) (grads_eq m hm c)).symm

include hm in
theorem agree_dv (y0 y1 : FVec Ideal S2x2048x8x96 .f32) (y2 : FVec Ideal S2x2048x8x64 .f32) (y3 : FVec Ideal S2x2048x512 .f32)
    (h0 : y0 = Q m c) (h1 : y1 = K m c) (h2 : y2 = W m c) (h3 : y3 = G m c) :
    Cert.RMlaIdeal.Read.val_main_v71 (F := Ideal) y0 y1 y3 = (dats m 0 c).arrAt 8 cfg0.N := by
  subst h0 h1 h2 h3
  exact (final_dv m c _ _ _ _ (queries_eq m hm c) (keys_eq m hm c) (values_eq m hm c) (grads_eq m hm c)).symm

end mla

/-- Of finite arguments, the latent attention's gradient kernel computes the gradients of attention. -/
theorem mla : Cert.algebraic_KMlaIdeal_RMlaIdeal_pre_finite := by
  intro m g m' g' hm ha
  refine ⟨fun c => (Cert.KMlaIdeal.Gen.dats m 0 c).arrAt 6 Cert.KMlaIdeal.cfg0.N, fun c => (Cert.KMlaIdeal.Gen.dats m 0 c).arrAt 7 Cert.KMlaIdeal.cfg0.N,
    fun c => (Cert.KMlaIdeal.Gen.dats m 0 c).arrAt 8 Cert.KMlaIdeal.cfg0.N, ?_, ?_⟩
  · exact (θ_run _ _ _).mono (fun r h c => ⟨Cert.KMlaIdeal.Value.post6 m r h c, Cert.KMlaIdeal.Value.post7 m r h c, Cert.KMlaIdeal.Value.post8 m r h c,
      Cert.KMlaIdeal.Value.kept_main_arg0 m r h c, Cert.KMlaIdeal.Value.kept_main_arg1 m r h c, Cert.KMlaIdeal.Value.kept_main_arg2 m r h c,
      Cert.KMlaIdeal.Value.kept_main_arg3 m r h c⟩) (Cert.KMlaIdeal.Gen.run_main m g)
  · refine (θ_run _ _ _).mono (fun r h c => ⟨(h c).1.trans ?_, (h c).2.1.trans ?_, (h c).2.2.1.trans ?_, (h c).2.2.2⟩) (Cert.RMlaIdeal.Value.run m' g')
    · exact (Cert.RMlaIdeal.Read.val_main_v67_eq m' c).trans (agree_dq m hm c _ _ _ _ (ha c).1 (ha c).2.1 (ha c).2.2.1 (ha c).2.2.2)
    · exact (Cert.RMlaIdeal.Read.val_main_v69_eq m' c).trans (agree_dk m hm c _ _ _ _ (ha c).1 (ha c).2.1 (ha c).2.2.1 (ha c).2.2.2)
    · exact (Cert.RMlaIdeal.Read.val_main_v71_eq m' c).trans (agree_dv m hm c _ _ _ _ (ha c).1 (ha c).2.1 (ha c).2.2.1 (ha c).2.2.2)

/-- The shape conditions of the second finiteness predicate. -/
theorem factors_facts : Cert.Pre_finite_factors.Facts := by
  constructor <;> decide

instance : Cert.Pre_finite_factors.Facts := factors_facts

/-- The reference of the gate's gradient leaves its arguments as they were. -/
theorem frame_gate_ref : Cert.quiescent_RGateIdeal := by
  intro m g _
  hlo_run
  · simp
  · exact sem_eq_zero_of_no_sems (by decide) _

/-- The gradients of both factors of the gate, of finite arguments. -/
theorem agree_gate (m : (ℓ : Loc Cert.KGateIdeal.nD Cert.KGateIdeal.τ Cert.KGateIdeal.sig) → Buf (Elt Ideal) ℓ)
    (hm : Cert.Pre_KGateIdeal_finite_factors m) (c : Dev Cert.KGateIdeal.nD)
    (y0 y1 : FVec Ideal Cert.KGateIdeal.S4096x2816 .f32) (y2 : FVec Ideal Cert.KGateIdeal.S2816x1024 .f32) (y3 : FVec Ideal Cert.KGateIdeal.S4096x1024 .f32)
    (h : y0 = Cert.Gate.A m c ∧ y1 = Cert.Gate.B m c ∧ y2 = Cert.Gate.W m c ∧ y3 = Cert.Gate.D m c) :
    Cert.RGateIdeal.Read.val_main_v13 (F := Ideal) y0 y1 y2 y3 = (Cert.KGateIdeal.Gen.dats m 0 c).arrAt 4 Cert.KGateIdeal.cfg0.N
    ∧ Cert.RGateIdeal.Read.val_main_v14 (F := Ideal) y0 y2 y3 = (Cert.KGateIdeal.Gen.dats m 0 c).arrAt 5 Cert.KGateIdeal.cfg0.N := by
  obtain ⟨rfl, rfl, rfl, rfl⟩ := h
  exact ⟨(Cert.Gate.final_da m c (Cert.Reals.real_of (Cert.Gate.B m c) _ (hm c).1) (Cert.Reals.real_of (Cert.Gate.W m c) _ (hm c).2.1)
    (Cert.Reals.real_of (Cert.Gate.D m c) _ (hm c).2.2)).symm, (Cert.Gate.final_db m c).symm⟩

/-- Of finite arguments, the gate's gradient kernel computes the gradients of both factors. -/
theorem gate : Cert.algebraic_KGateIdeal_RGateIdeal_pre_finite_factors := by
  intro m g m' g' hm ha
  refine ⟨fun c => (Cert.KGateIdeal.Gen.dats m 0 c).arrAt 4 Cert.KGateIdeal.cfg0.N, fun c => (Cert.KGateIdeal.Gen.dats m 0 c).arrAt 5 Cert.KGateIdeal.cfg0.N, ?_, ?_⟩
  · run_from Cert.KGateIdeal.Gen.run_main m g
  · refine (θ_run _ _ _).mono (fun r h c => ⟨(h c).1.trans ?_, (h c).2.1.trans ?_, (h c).2.2⟩) (Cert.RGateIdeal.Value.run m' g')
    · exact (Cert.RGateIdeal.Read.val_main_v13_eq _ _ _ _).trans (agree_gate m hm c _ _ _ _ (ha c)).1
    · exact (Cert.RGateIdeal.Read.val_main_v14_eq _ _ _).trans (agree_gate m hm c _ _ _ _ (ha c)).2

/-- The reference of the normalised product's gradient leaves its arguments as they were. -/
theorem frame_norm_ref : Cert.quiescent_RNormIdeal := by
  intro m g _
  hlo_run
  · simp
  · exact sem_eq_zero_of_no_sems (by decide) _

/-- The gradients of the rows, their narrow copy and the gradient of the gain. -/
theorem agree_norm (m : (ℓ : Loc Cert.KNormIdeal.nD Cert.KNormIdeal.τ Cert.KNormIdeal.sig) → Buf (Elt Ideal) ℓ) (c : Dev Cert.KNormIdeal.nD)
    (y0 : FVec Ideal Cert.KNormIdeal.S4096x1024 .f32) (y1 : FVec Ideal Cert.KNormIdeal.S1024 .f32) (y2 y3 : FVec Ideal Cert.KNormIdeal.S1024x2816 .f32)
    (y4 : FVec Ideal Cert.KNormIdeal.S4096x1024 .f32) (y5 y6 : FVec Ideal Cert.KNormIdeal.S4096x2816 .f32)
    (h : y0 = Cert.Norm.X m c ∧ y1 = Cert.Norm.G m c ∧ y2 = Cert.Norm.WG m c ∧ y3 = Cert.Norm.WU m c ∧ y4 = Cert.Norm.DY m c
      ∧ y5 = Cert.Norm.DA m c ∧ y6 = Cert.Norm.DB m c) :
    Cert.RNormIdeal.Read.val_main_v45 (F := Ideal) y0 y1 y2 y3 y4 y5 y6 = (Cert.KNormIdeal.Gen.dats m 0 c).arrAt 7 Cert.KNormIdeal.cfg0.N
    ∧ Cert.RNormIdeal.Read.val_main_v46 (F := Ideal) y0 y1 y2 y3 y4 y5 y6 = (Cert.KNormIdeal.Gen.dats m 0 c).arrAt 8 Cert.KNormIdeal.cfg0.N
    ∧ Cert.RNormIdeal.Read.val_main_v47 (F := Ideal) y0 y2 y3 y5 y6 = (Cert.KNormIdeal.Gen.dats m 0 c).arrAt 9 Cert.KNormIdeal.cfg0.N := by
  obtain ⟨rfl, rfl, rfl, rfl, rfl, rfl, rfl⟩ := h
  exact ⟨(Cert.Norm.final_dx m c).symm, (Cert.Norm.final_dxb m c).symm, (Cert.Norm.final_dg m c).symm⟩

/-- The gradient kernel of the normalised products computes the gradients of the rows and of the gain. -/
theorem norm : Cert.algebraic_KNormIdeal_RNormIdeal := by
  intro m g m' g' hm ha
  refine ⟨fun c => (Cert.KNormIdeal.Gen.dats m 0 c).arrAt 7 Cert.KNormIdeal.cfg0.N, fun c => (Cert.KNormIdeal.Gen.dats m 0 c).arrAt 8 Cert.KNormIdeal.cfg0.N,
    fun c => (Cert.KNormIdeal.Gen.dats m 0 c).arrAt 9 Cert.KNormIdeal.cfg0.N, ?_, ?_⟩
  · run_from Cert.KNormIdeal.Gen.run_main m g
  · refine (θ_run _ _ _).mono (fun r h c => ⟨(h c).1.trans ?_, (h c).2.1.trans ?_, (h c).2.2.1.trans ?_, (h c).2.2.2⟩) (Cert.RNormIdeal.Value.run m' g')
    · exact (Cert.RNormIdeal.Read.val_main_v45_eq m' c).trans (agree_norm m c _ _ _ _ _ _ _ (ha c)).1
    · exact (Cert.RNormIdeal.Read.val_main_v46_eq m' c).trans (agree_norm m c _ _ _ _ _ _ _ (ha c)).2.1
    · exact (Cert.RNormIdeal.Read.val_main_v47_eq _ _ _ _ _).trans (agree_norm m c _ _ _ _ _ _ _ (ha c)).2.2

/-- The reference of the merge's gradient leaves its arguments as they were. -/
theorem frame_merge_ref : Cert.quiescent_RMergeIdeal := by
  intro m g _
  hlo_run
  · simp
  · exact sem_eq_zero_of_no_sems (by decide) _

/-- The gradients of both branches, both gates and both mixers' heads. -/
theorem agree_merge (m : (ℓ : Loc Cert.KMergeIdeal.nD Cert.KMergeIdeal.τ Cert.KMergeIdeal.sig) → Buf (Elt Ideal) ℓ) (c : Dev Cert.KMergeIdeal.nD)
    (y0 y1 : FVec Ideal Cert.KMergeIdeal.S4096x512 .f32) (y2 : FVec Ideal Cert.KMergeIdeal.S2x2048x3232 .f32)
    (y3 y4 : FVec Ideal Cert.KMergeIdeal.S512x1024 .f32) (y5 : FVec Ideal Cert.KMergeIdeal.S1024x1024 .f32) (y6 : FVec Ideal Cert.KMergeIdeal.S4096x1024 .f32)
    (h : y0 = Cert.Merge.OA m c ∧ y1 = Cert.Merge.OB m c ∧ y2 = Cert.Merge.PR m c ∧ y3 = Cert.Merge.WA m c ∧ y4 = Cert.Merge.WB m c
      ∧ y5 = Cert.Merge.WO m c ∧ y6 = Cert.Merge.DX m c) :
    Cert.RMergeIdeal.Read.val_main_v44 (F := Ideal) y2 y5 y6 = (Cert.KMergeIdeal.Gen.dats m 0 c).arrAt 8 Cert.KMergeIdeal.cfg0.N
    ∧ Cert.RMergeIdeal.Read.val_main_v45 (F := Ideal) y2 y5 y6 = (Cert.KMergeIdeal.Gen.dats m 0 c).arrAt 9 Cert.KMergeIdeal.cfg0.N
    ∧ Cert.RMergeIdeal.Read.val_main_v46 (F := Ideal) y0 y2 y3 y5 y6 = (Cert.KMergeIdeal.Gen.dats m 0 c).arrAt 10 Cert.KMergeIdeal.cfg0.N
    ∧ Cert.RMergeIdeal.Read.val_main_v47 (F := Ideal) y1 y2 y4 y5 y6 = (Cert.KMergeIdeal.Gen.dats m 0 c).arrAt 11 Cert.KMergeIdeal.cfg0.N
    ∧ Cert.RMergeIdeal.Read.val_main_v48 (F := Ideal) y2 y3 y5 y6 = (Cert.KMergeIdeal.Gen.dats m 0 c).arrAt 12 Cert.KMergeIdeal.cfg0.N
    ∧ Cert.RMergeIdeal.Read.val_main_v49 (F := Ideal) y2 y4 y5 y6 = (Cert.KMergeIdeal.Gen.dats m 0 c).arrAt 13 Cert.KMergeIdeal.cfg0.N := by
  obtain ⟨rfl, rfl, rfl, rfl, rfl, rfl, rfl⟩ := h
  exact ⟨(Cert.Merge.final_ya m c).symm, (Cert.Merge.final_yb m c).symm, (Cert.Merge.final_ga m c).symm, (Cert.Merge.final_gb m c).symm,
    (Cert.Merge.final_oa m c).symm, (Cert.Merge.final_ob m c).symm⟩

/-- The gradient kernel of the merge computes the gradients of both branches, both gates and both mixers' heads. -/
theorem merge : Cert.algebraic_KMergeIdeal_RMergeIdeal := by
  intro m g m' g' hm ha
  refine ⟨fun c => (Cert.KMergeIdeal.Gen.dats m 0 c).arrAt 8 Cert.KMergeIdeal.cfg0.N, fun c => (Cert.KMergeIdeal.Gen.dats m 0 c).arrAt 9 Cert.KMergeIdeal.cfg0.N, fun c => (Cert.KMergeIdeal.Gen.dats m 0 c).arrAt 10 Cert.KMergeIdeal.cfg0.N,
    fun c => (Cert.KMergeIdeal.Gen.dats m 0 c).arrAt 11 Cert.KMergeIdeal.cfg0.N, fun c => (Cert.KMergeIdeal.Gen.dats m 0 c).arrAt 12 Cert.KMergeIdeal.cfg0.N, fun c => (Cert.KMergeIdeal.Gen.dats m 0 c).arrAt 13 Cert.KMergeIdeal.cfg0.N, ?_, ?_⟩
  · exact (θ_run _ _ _).mono (fun r h c => ⟨Cert.KMergeIdeal.Value.post8 m r h c, Cert.KMergeIdeal.Value.post9 m r h c, Cert.KMergeIdeal.Value.post10 m r h c, Cert.KMergeIdeal.Value.post11 m r h c, Cert.KMergeIdeal.Value.post12 m r h c, Cert.KMergeIdeal.Value.post13 m r h c,
      Cert.KMergeIdeal.Value.kept_main_arg0 m r h c, Cert.KMergeIdeal.Value.kept_main_arg1 m r h c, Cert.KMergeIdeal.Value.kept_main_arg2 m r h c, Cert.KMergeIdeal.Value.kept_main_arg3 m r h c, Cert.KMergeIdeal.Value.kept_main_arg4 m r h c, Cert.KMergeIdeal.Value.kept_main_arg5 m r h c, Cert.KMergeIdeal.Value.kept_main_arg6 m r h c⟩) (Cert.KMergeIdeal.Gen.run_main m g)
  · refine (θ_run _ _ _).mono (fun r h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2⟩) (Cert.RMergeIdeal.Value.run m' g')
    · exact (Cert.RMergeIdeal.Read.val_main_v44_eq _ _ _).trans (agree_merge m c _ _ _ _ _ _ _ (ha c)).1
    · exact (Cert.RMergeIdeal.Read.val_main_v45_eq _ _ _).trans (agree_merge m c _ _ _ _ _ _ _ (ha c)).2.1
    · exact (Cert.RMergeIdeal.Read.val_main_v46_eq _ _ _ _ _).trans (agree_merge m c _ _ _ _ _ _ _ (ha c)).2.2.1
    · exact (Cert.RMergeIdeal.Read.val_main_v47_eq _ _ _ _ _).trans (agree_merge m c _ _ _ _ _ _ _ (ha c)).2.2.2.1
    · exact (Cert.RMergeIdeal.Read.val_main_v48_eq _ _ _ _).trans (agree_merge m c _ _ _ _ _ _ _ (ha c)).2.2.2.2.1
    · exact (Cert.RMergeIdeal.Read.val_main_v49_eq _ _ _ _).trans (agree_merge m c _ _ _ _ _ _ _ (ha c)).2.2.2.2.2

/-- The reference of the mixers' input product's gradient leaves its arguments as they were. -/
theorem frame_dh_ref : Cert.quiescent_RDhIdeal := by
  intro m g _
  hlo_run
  · simp
  · exact sem_eq_zero_of_no_sems (by decide) _

/-- The gradients of the rows, their narrow copy and the gradient of the gain. -/
theorem agree_dh (m : (ℓ : Loc Cert.KDhIdeal.nD Cert.KDhIdeal.τ Cert.KDhIdeal.sig) → Buf (Elt Ideal) ℓ) (c : Dev Cert.KDhIdeal.nD)
    (y0 : FVec Ideal Cert.KDhIdeal.S4096x1024 .f32) (y1 : FVec Ideal Cert.KDhIdeal.S1024 .f32) (y2 : FVec Ideal Cert.KDhIdeal.S1024x3232 .f32)
    (y3 : FVec Ideal Cert.KDhIdeal.S4096x1024 .f32) (y4 : FVec Ideal Cert.KDhIdeal.S4096x3232 .f32)
    (h : y0 = Cert.Dh.X m c ∧ y1 = Cert.Dh.G m c ∧ y2 = Cert.Dh.W m c ∧ y3 = Cert.Dh.DY m c ∧ y4 = Cert.Dh.DP m c) :
    Cert.RDhIdeal.Read.val_main_v40 (F := Ideal) y0 y1 y2 y3 y4 = (Cert.KDhIdeal.Gen.dats m 0 c).arrAt 12 Cert.KDhIdeal.cfg0.N
    ∧ Cert.RDhIdeal.Read.val_main_v41 (F := Ideal) y0 y1 y2 y3 y4 = (Cert.KDhIdeal.Gen.dats m 0 c).arrAt 13 Cert.KDhIdeal.cfg0.N
    ∧ Cert.RDhIdeal.Read.val_main_v42 (F := Ideal) y0 y2 y4 = (Cert.KDhIdeal.Gen.dats m 0 c).arrAt 14 Cert.KDhIdeal.cfg0.N := by
  obtain ⟨rfl, rfl, rfl, rfl, rfl⟩ := h
  exact ⟨(Cert.Dh.final_dx m c).symm, (Cert.Dh.final_dxb m c).symm, (Cert.Dh.final_dg m c).symm⟩

/-- The gradient kernel of the mixers' input product computes the gradients of the rows and of the gain. -/
theorem dh : Cert.algebraic_KDhIdeal_RDhIdeal := by
  intro m g m' g' hm ha
  refine ⟨fun c => (Cert.KDhIdeal.Gen.dats m 0 c).arrAt 12 Cert.KDhIdeal.cfg0.N, fun c => (Cert.KDhIdeal.Gen.dats m 0 c).arrAt 13 Cert.KDhIdeal.cfg0.N,
    fun c => (Cert.KDhIdeal.Gen.dats m 0 c).arrAt 14 Cert.KDhIdeal.cfg0.N, ?_, ?_⟩
  · exact (θ_run _ _ _).mono (fun r h c => ⟨Cert.KDhIdeal.Value.post12 m r h c, Cert.KDhIdeal.Value.post13 m r h c, Cert.KDhIdeal.Value.post14 m r h c,
      Cert.KDhIdeal.Value.kept_main_arg0 m r h c, Cert.KDhIdeal.Value.kept_main_arg1 m r h c, Cert.KDhIdeal.Value.kept_main_arg2 m r h c, Cert.KDhIdeal.Value.kept_main_arg3 m r h c, Cert.KDhIdeal.Value.kept_main_arg4 m r h c⟩) (Cert.KDhIdeal.Gen.run_main m g)
  · refine (θ_run _ _ _).mono (fun r h c => ⟨(h c).1.trans ?_, (h c).2.1.trans ?_, (h c).2.2.1.trans ?_, (h c).2.2.2⟩) (Cert.RDhIdeal.Value.run m' g')
    · exact (Cert.RDhIdeal.Read.val_main_v40_eq m' c).trans (agree_dh m c _ _ _ _ _ (ha c)).1
    · exact (Cert.RDhIdeal.Read.val_main_v41_eq m' c).trans (agree_dh m c _ _ _ _ _ (ha c)).2.1
    · exact (Cert.RDhIdeal.Read.val_main_v42_eq _ _ _).trans (agree_dh m c _ _ _ _ _ (ha c)).2.2

/-- The reference of the window attention's key and value gradients leaves its arguments as they were. -/
theorem frame_kv_ref : Cert.quiescent_RKvIdeal := by
  intro m g _
  hlo_run
  · simp
  · exact sem_eq_zero_of_no_sems (by decide) _

/-- The gradients of the keys, of the values and of the keys' gain. -/
theorem agree_kv (m : (ℓ : Loc Cert.KKvIdeal.nD Cert.KKvIdeal.τ Cert.KKvIdeal.sig) → Buf (Elt Ideal) ℓ) (c : Dev Cert.KKvIdeal.nD)
    (y0 : FVec Ideal Cert.KKvIdeal.S2x2048x3232 .f32) (y1 : FVec Ideal Cert.KKvIdeal.S64 .f32) (y2 y3 : FVec Ideal Cert.KKvIdeal.S2x16x256x2x64 .f32)
    (h : y0 = Cert.Kv.P m c ∧ y1 = Cert.Kv.GA m c ∧ y2 = Cert.Kv.DK m c ∧ y3 = Cert.Kv.DV m c) :
    Cert.RKvIdeal.Read.val_main_v70 (F := Ideal) y0 y1 y2 = (Cert.KKvIdeal.Gen.dats m 0 c).arrAt 8 Cert.KKvIdeal.cfg0.N
    ∧ Cert.RKvIdeal.Read.val_main_v72 (F := Ideal) y3 = (Cert.KKvIdeal.Gen.dats m 0 c).arrAt 9 Cert.KKvIdeal.cfg0.N
    ∧ Cert.RKvIdeal.Read.val_main_v73 (F := Ideal) y0 y2 = (Cert.KKvIdeal.Gen.dats m 0 c).arrAt 10 Cert.KKvIdeal.cfg0.N := by
  obtain ⟨rfl, rfl, rfl, rfl⟩ := h
  exact ⟨(Cert.Kv.final_dk m c).symm, (Cert.Kv.final_dv m c).symm, (Cert.Kv.final_dg m c).symm⟩

/-- The kernel behind the window attention computes the gradients of the keys, of the values and of the keys' gain. -/
theorem kv : Cert.algebraic_KKvIdeal_RKvIdeal := by
  intro m g m' g' hm ha
  refine ⟨fun c => (Cert.KKvIdeal.Gen.dats m 0 c).arrAt 8 Cert.KKvIdeal.cfg0.N, fun c => (Cert.KKvIdeal.Gen.dats m 0 c).arrAt 9 Cert.KKvIdeal.cfg0.N,
    fun c => (Cert.KKvIdeal.Gen.dats m 0 c).arrAt 10 Cert.KKvIdeal.cfg0.N, ?_, ?_⟩
  · exact (θ_run _ _ _).mono (fun r h c => ⟨Cert.KKvIdeal.Value.post8 m r h c, Cert.KKvIdeal.Value.post9 m r h c, Cert.KKvIdeal.Value.post10 m r h c,
      Cert.KKvIdeal.Value.kept_main_arg0 m r h c, Cert.KKvIdeal.Value.kept_main_arg1 m r h c, Cert.KKvIdeal.Value.kept_main_arg2 m r h c, Cert.KKvIdeal.Value.kept_main_arg3 m r h c⟩) (Cert.KKvIdeal.Gen.run_main m g)
  · refine (θ_run _ _ _).mono (fun r h c => ⟨(h c).1.trans ?_, (h c).2.1.trans ?_, (h c).2.2.1.trans ?_, (h c).2.2.2⟩) (Cert.RKvIdeal.Value.run m' g')
    · exact (Cert.RKvIdeal.Read.val_main_v70_eq m' c).trans (agree_kv m c _ _ _ _ (ha c)).1
    · exact (Cert.RKvIdeal.Read.val_main_v72_eq _).trans (agree_kv m c _ _ _ _ (ha c)).2.1
    · exact (Cert.RKvIdeal.Read.val_main_v73_eq _ _).trans (agree_kv m c _ _ _ _ (ha c)).2.2

/-- The reference of the latent attention leaves its arguments as they were. -/
theorem frame_attn_ref : Cert.quiescent_RAttnIdeal := by
  intro m g _
  hlo_run
  · simp
  · exact sem_eq_zero_of_no_sems (by decide) _

/-- The shape conditions of the finiteness predicate over queries, keys and values. -/
theorem qkv_facts : Cert.Pre_finite_qkv.Facts := by
  constructor <;> decide

instance : Cert.Pre_finite_qkv.Facts := qkv_facts

section attn

open Cert.KAttnIdeal Cert.KAttnIdeal.Gen Cert.Attn Cert.Reals

variable (m : (ℓ : Loc Cert.KAttnIdeal.nD Cert.KAttnIdeal.τ Cert.KAttnIdeal.sig) → Buf (Elt Ideal) ℓ) (hm : Cert.Pre_KAttnIdeal_finite_qkv m) (c : Dev Cert.KAttnIdeal.nD)

include hm in
/-- The output and the logarithms of the row sums, of finite arguments. -/
theorem agree_attn (y0 y1 : FVec Ideal S2x2048x8x96 .f32) (y2 : FVec Ideal S2x2048x8x64 .f32) (h : y0 = Q m c ∧ y1 = K m c ∧ y2 = W m c) :
    Cert.RAttnIdeal.Read.val_main_v38 (F := Ideal) y0 y1 y2 = (dats m 0 c).arrAt 3 cfg0.N
    ∧ Cert.RAttnIdeal.Read.val_main_v39 (F := Ideal) y0 y1 = (dats m 0 c).arrAt 4 cfg0.N := by
  obtain ⟨rfl, rfl, rfl⟩ := h
  have hq := fun b r h d => real_of (Q m c) _ (hm c).1 (ix4 b r h d)
  have hk := fun b r h d => real_of (K m c) _ (hm c).2.1 (ix4 b r h d)
  have hv := fun b r h d => real_of (W m c) _ (hm c).2.2 (ix4 b r h d)
  exact ⟨(final_out m c (fun b h r d => EReal.toReal (Q m c (ix4 b r h d))) (fun b h r d => EReal.toReal (K m c (ix4 b r h d)))
    (fun b h r d => EReal.toReal (W m c (ix4 b r h d))) hq hk hv).symm,
    (final_lse m c (fun b h r d => EReal.toReal (Q m c (ix4 b r h d))) (fun b h r d => EReal.toReal (K m c (ix4 b r h d)))
    (fun b h r d => EReal.toReal (W m c (ix4 b r h d))) hq hk hv).symm⟩

end attn

/-- Of finite arguments, the latent attention's forward kernel computes attention and the logarithms of its row sums. -/
theorem attn : Cert.algebraic_KAttnIdeal_RAttnIdeal_pre_finite_qkv := by
  intro m g m' g' hm ha
  refine ⟨fun c => (Cert.KAttnIdeal.Gen.dats m 0 c).arrAt 3 Cert.KAttnIdeal.cfg0.N, fun c => (Cert.KAttnIdeal.Gen.dats m 0 c).arrAt 4 Cert.KAttnIdeal.cfg0.N, ?_, ?_⟩
  · exact (θ_run _ _ _).mono (fun r h c => ⟨Cert.KAttnIdeal.Value.post3 m r h c, Cert.KAttnIdeal.Value.post4 m r h c,
      Cert.KAttnIdeal.Value.kept_main_arg0 m r h c, Cert.KAttnIdeal.Value.kept_main_arg1 m r h c, Cert.KAttnIdeal.Value.kept_main_arg2 m r h c⟩) (Cert.KAttnIdeal.Gen.run_main m g)
  · refine (θ_run _ _ _).mono (fun r h c => ⟨(h c).1.trans ?_, (h c).2.1.trans ?_, (h c).2.2⟩) (Cert.RAttnIdeal.Value.run m' g')
    · exact (Cert.RAttnIdeal.Read.val_main_v38_eq m' c).trans (agree_attn m hm c _ _ _ (ha c)).1
    · exact (Cert.RAttnIdeal.Read.val_main_v39_eq _ _).trans (agree_attn m hm c _ _ _ (ha c)).2

/-- The reference of the feed-forward's first half leaves its arguments as they were. -/
theorem frame_up_ref : Cert.quiescent_RUpIdeal := by
  intro m g _
  hlo_run
  · simp
  · exact sem_eq_zero_of_no_sems (by decide) _

/-- The normed rows, both products and the hidden rows. -/
theorem agree_up (m : (ℓ : Loc Cert.KUpIdeal.nD Cert.KUpIdeal.τ Cert.KUpIdeal.sig) → Buf (Elt Ideal) ℓ) (c : Dev Cert.KUpIdeal.nD)
    (y0 : FVec Ideal Cert.KUpIdeal.S4096x1024 .f32) (y1 : FVec Ideal Cert.KUpIdeal.S1024 .f32) (y2 : FVec Ideal Cert.KUpIdeal.S1024x2816 .f32) (y3 : FVec Ideal Cert.KUpIdeal.S1024x2816 .f32)
    (h : y0 = Cert.Up.X m c ∧ y1 = Cert.Up.G m c ∧ y2 = Cert.Up.WG m c ∧ y3 = Cert.Up.WU m c) :
    Cert.RUpIdeal.Read.val_main_v17 (F := Ideal) y0 y1 = (Cert.KUpIdeal.Gen.dats m 0 c).arrAt 4 Cert.KUpIdeal.cfg0.N
    ∧ Cert.RUpIdeal.Read.val_main_v18 (F := Ideal) y0 y1 y2 = (Cert.KUpIdeal.Gen.dats m 0 c).arrAt 5 Cert.KUpIdeal.cfg0.N
    ∧ Cert.RUpIdeal.Read.val_main_v19 (F := Ideal) y0 y1 y3 = (Cert.KUpIdeal.Gen.dats m 0 c).arrAt 6 Cert.KUpIdeal.cfg0.N
    ∧ Cert.RUpIdeal.Read.val_main_v20 (F := Ideal) y0 y1 y2 y3 = (Cert.KUpIdeal.Gen.dats m 0 c).arrAt 7 Cert.KUpIdeal.cfg0.N := by
  obtain ⟨rfl, rfl, rfl, rfl⟩ := h
  exact ⟨(Cert.Up.final_n m c).symm, (Cert.Up.final_a m c).symm, (Cert.Up.final_b m c).symm, (Cert.Up.final_h m c).symm⟩

/-- The forward kernel of the feed-forward's first half computes the normed rows, both products and the gated hidden rows. -/
theorem up : Cert.algebraic_KUpIdeal_RUpIdeal := by
  intro m g m' g' hm ha
  refine ⟨fun c => (Cert.KUpIdeal.Gen.dats m 0 c).arrAt 4 Cert.KUpIdeal.cfg0.N, fun c => (Cert.KUpIdeal.Gen.dats m 0 c).arrAt 5 Cert.KUpIdeal.cfg0.N, fun c => (Cert.KUpIdeal.Gen.dats m 0 c).arrAt 6 Cert.KUpIdeal.cfg0.N, fun c => (Cert.KUpIdeal.Gen.dats m 0 c).arrAt 7 Cert.KUpIdeal.cfg0.N, ?_, ?_⟩
  · exact (θ_run _ _ _).mono (fun r h c => ⟨Cert.KUpIdeal.Value.post4 m r h c, Cert.KUpIdeal.Value.post5 m r h c, Cert.KUpIdeal.Value.post6 m r h c, Cert.KUpIdeal.Value.post7 m r h c,
      Cert.KUpIdeal.Value.kept_main_arg0 m r h c, Cert.KUpIdeal.Value.kept_main_arg1 m r h c, Cert.KUpIdeal.Value.kept_main_arg2 m r h c, Cert.KUpIdeal.Value.kept_main_arg3 m r h c⟩) (Cert.KUpIdeal.Gen.run_main m g)
  · refine (θ_run _ _ _).mono (fun r h c => ⟨(h c).1.trans ?_, (h c).2.1.trans ?_, (h c).2.2.1.trans ?_, (h c).2.2.2.1.trans ?_, (h c).2.2.2.2⟩) (Cert.RUpIdeal.Value.run m' g')
    · exact (Cert.RUpIdeal.Read.val_main_v17_eq _ _).trans (agree_up m c _ _ _ _ (ha c)).1
    · exact (Cert.RUpIdeal.Read.val_main_v18_eq _ _ _).trans (agree_up m c _ _ _ _ (ha c)).2.1
    · exact (Cert.RUpIdeal.Read.val_main_v19_eq _ _ _).trans (agree_up m c _ _ _ _ (ha c)).2.2.1
    · exact (Cert.RUpIdeal.Read.val_main_v20_eq _ _ _ _).trans (agree_up m c _ _ _ _ (ha c)).2.2.2

/-- The reference of the merge leaves its arguments as they were. -/
theorem frame_mix_ref : Cert.quiescent_RMixIdeal := by
  intro m g _
  hlo_run
  · simp
  · exact sem_eq_zero_of_no_sems (by decide) _

/-- The merged rows and both branches. -/
theorem agree_mix (m : (ℓ : Loc Cert.KMixIdeal.nD Cert.KMixIdeal.τ Cert.KMixIdeal.sig) → Buf (Elt Ideal) ℓ) (c : Dev Cert.KMixIdeal.nD)
    (y0 : FVec Ideal Cert.KMixIdeal.S4096x512 .f32) (y1 : FVec Ideal Cert.KMixIdeal.S4096x512 .f32) (y2 : FVec Ideal Cert.KMixIdeal.S2x2048x3232 .f32) (y3 : FVec Ideal Cert.KMixIdeal.S512x1024 .f32) (y4 : FVec Ideal Cert.KMixIdeal.S512x1024 .f32)
    (h : y0 = Cert.Mix.OA m c ∧ y1 = Cert.Mix.OB m c ∧ y2 = Cert.Mix.PR m c ∧ y3 = Cert.Mix.WA m c ∧ y4 = Cert.Mix.WB m c) :
    Cert.RMixIdeal.Read.val_main_v20 (F := Ideal) y0 y1 y2 y3 y4 = (Cert.KMixIdeal.Gen.dats m 0 c).arrAt 6 Cert.KMixIdeal.cfg0.N
    ∧ Cert.RMixIdeal.Read.val_main_v21 (F := Ideal) y0 y3 = (Cert.KMixIdeal.Gen.dats m 0 c).arrAt 7 Cert.KMixIdeal.cfg0.N
    ∧ Cert.RMixIdeal.Read.val_main_v22 (F := Ideal) y1 y4 = (Cert.KMixIdeal.Gen.dats m 0 c).arrAt 8 Cert.KMixIdeal.cfg0.N := by
  obtain ⟨rfl, rfl, rfl, rfl, rfl⟩ := h
  exact ⟨(Cert.Mix.final_mg m c).symm, (Cert.Mix.final_ya m c).symm, (Cert.Mix.final_yb m c).symm⟩

/-- The forward kernel of the merge computes both branches and the merged rows. -/
theorem mix : Cert.algebraic_KMixIdeal_RMixIdeal := by
  intro m g m' g' hm ha
  refine ⟨fun c => (Cert.KMixIdeal.Gen.dats m 0 c).arrAt 6 Cert.KMixIdeal.cfg0.N, fun c => (Cert.KMixIdeal.Gen.dats m 0 c).arrAt 7 Cert.KMixIdeal.cfg0.N, fun c => (Cert.KMixIdeal.Gen.dats m 0 c).arrAt 8 Cert.KMixIdeal.cfg0.N, ?_, ?_⟩
  · exact (θ_run _ _ _).mono (fun r h c => ⟨Cert.KMixIdeal.Value.post6 m r h c, Cert.KMixIdeal.Value.post7 m r h c, Cert.KMixIdeal.Value.post8 m r h c,
      Cert.KMixIdeal.Value.kept_main_arg0 m r h c, Cert.KMixIdeal.Value.kept_main_arg1 m r h c, Cert.KMixIdeal.Value.kept_main_arg2 m r h c, Cert.KMixIdeal.Value.kept_main_arg3 m r h c, Cert.KMixIdeal.Value.kept_main_arg4 m r h c⟩) (Cert.KMixIdeal.Gen.run_main m g)
  · refine (θ_run _ _ _).mono (fun r h c => ⟨(h c).1.trans ?_, (h c).2.1.trans ?_, (h c).2.2.1.trans ?_, (h c).2.2.2⟩) (Cert.RMixIdeal.Value.run m' g')
    · exact (Cert.RMixIdeal.Read.val_main_v20_eq _ _ _ _ _).trans (agree_mix m c _ _ _ _ _ (ha c)).1
    · exact (Cert.RMixIdeal.Read.val_main_v21_eq _ _).trans (agree_mix m c _ _ _ _ _ (ha c)).2.1
    · exact (Cert.RMixIdeal.Read.val_main_v22_eq _ _).trans (agree_mix m c _ _ _ _ _ (ha c)).2.2

/-- The reference of the mixers' input projection leaves its arguments as they were. -/
theorem frame_proj_ref : Cert.quiescent_RProjIdeal := by
  intro m g _
  hlo_run
  · simp
  · exact sem_eq_zero_of_no_sems (by decide) _

/-- The normed rows and the packed projection. -/
theorem agree_proj (m : (ℓ : Loc Cert.KProjIdeal.nD Cert.KProjIdeal.τ Cert.KProjIdeal.sig) → Buf (Elt Ideal) ℓ) (c : Dev Cert.KProjIdeal.nD)
    (y0 : FVec Ideal Cert.KProjIdeal.S4096x1024 .f32) (y1 : FVec Ideal Cert.KProjIdeal.S1024 .f32) (y2 : FVec Ideal Cert.KProjIdeal.S1024x3232 .f32)
    (h : y0 = Cert.Packed.X m c ∧ y1 = Cert.Packed.G m c ∧ y2 = Cert.Packed.W m c) :
    Cert.RProjIdeal.Read.val_main_v20 (F := Ideal) y0 y1 = (Cert.KProjIdeal.Gen.dats m 0 c).arrAt 3 Cert.KProjIdeal.cfg0.N
    ∧ Cert.RProjIdeal.Read.val_main_v25 (F := Ideal) y0 y1 y2 = (Cert.KProjIdeal.Gen.dats m 0 c).arrAt 4 Cert.KProjIdeal.cfg0.N := by
  obtain ⟨rfl, rfl, rfl⟩ := h
  exact ⟨(Cert.Packed.final_n m c).symm, (Cert.Packed.final_p m c).symm⟩

/-- The forward kernel of the mixers' input projection computes the normed rows and the projection with its columns packed. -/
theorem proj : Cert.algebraic_KProjIdeal_RProjIdeal := by
  intro m g m' g' hm ha
  refine ⟨fun c => (Cert.KProjIdeal.Gen.dats m 0 c).arrAt 3 Cert.KProjIdeal.cfg0.N, fun c => (Cert.KProjIdeal.Gen.dats m 0 c).arrAt 4 Cert.KProjIdeal.cfg0.N, ?_, ?_⟩
  · exact (θ_run _ _ _).mono (fun r h c => ⟨Cert.KProjIdeal.Value.post3 m r h c, Cert.KProjIdeal.Value.post4 m r h c,
      Cert.KProjIdeal.Value.kept_main_arg0 m r h c, Cert.KProjIdeal.Value.kept_main_arg1 m r h c, Cert.KProjIdeal.Value.kept_main_arg2 m r h c⟩) (Cert.KProjIdeal.Gen.run_main m g)
  · refine (θ_run _ _ _).mono (fun r h c => ⟨(h c).1.trans ?_, (h c).2.1.trans ?_, (h c).2.2⟩) (Cert.RProjIdeal.Value.run m' g')
    · exact (Cert.RProjIdeal.Read.val_main_v20_eq _ _).trans (agree_proj m c _ _ _ (ha c)).1
    · exact (Cert.RProjIdeal.Read.val_main_v25_eq m' c).trans (agree_proj m c _ _ _ (ha c)).2

/-- The reference of the latent attention's projections leaves its arguments as they were. -/
theorem frame_qkv_ref : Cert.quiescent_RQkvIdeal := by
  intro m g _
  hlo_run
  · simp
  · exact sem_eq_zero_of_no_sems (by decide) _

/-- The queries, the keys and the values. -/
theorem agree_qkv (m : (ℓ : Loc Cert.KQkvIdeal.nD Cert.KQkvIdeal.τ Cert.KQkvIdeal.sig) → Buf (Elt Ideal) ℓ) (c : Dev Cert.KQkvIdeal.nD)
    (y0 : FVec Ideal Cert.KQkvIdeal.S2x2048x3232 .f32) (y1 : (⟨Cert.KQkvIdeal.S2x2048, .i32⟩ : BufTy).Contents (Elt Ideal)) (y2 : FVec Ideal Cert.KQkvIdeal.S256 .f32) (y3 : FVec Ideal Cert.KQkvIdeal.S128 .f32) (y4 : FVec Ideal Cert.KQkvIdeal.S96 .f32) (y5 : FVec Ideal Cert.KQkvIdeal.S96 .f32) (y6 : FVec Ideal Cert.KQkvIdeal.S256x768 .f32) (y7 : FVec Ideal Cert.KQkvIdeal.S128x1024 .f32)
    (h : y0 = Cert.Qkv.PR m c ∧ y1 = Cert.Qkv.PO m c ∧ y2 = Cert.Qkv.GA m c ∧ y3 = Cert.Qkv.GB m c ∧ y4 = Cert.Qkv.GQ m c ∧ y5 = Cert.Qkv.GK m c ∧ y6 = Cert.Qkv.WQ m c ∧ y7 = Cert.Qkv.WK m c) :
    Cert.RQkvIdeal.Read.val_main_v114 (F := Ideal) y0 y1 y2 y4 y6 = (Cert.KQkvIdeal.Gen.dats m 0 c).arrAt 13 Cert.KQkvIdeal.cfg0.N
    ∧ Cert.RQkvIdeal.Read.val_main_v117 (F := Ideal) y0 y1 y3 y5 y7 = (Cert.KQkvIdeal.Gen.dats m 0 c).arrAt 14 Cert.KQkvIdeal.cfg0.N
    ∧ Cert.RQkvIdeal.Read.val_main_v120 (F := Ideal) y0 y3 y7 = (Cert.KQkvIdeal.Gen.dats m 0 c).arrAt 15 Cert.KQkvIdeal.cfg0.N := by
  obtain ⟨rfl, rfl, rfl, rfl, rfl, rfl, rfl, rfl⟩ := h
  exact ⟨(Cert.Qkv.final_q m c).symm, (Cert.Qkv.final_k m c).symm, (Cert.Qkv.final_v m c).symm⟩

/-- The forward kernel of the latent attention's projections computes the queries, the keys and the values of all heads. -/
theorem qkv : Cert.algebraic_KQkvIdeal_RQkvIdeal := by
  intro m g m' g' hm ha
  refine ⟨fun c => (Cert.KQkvIdeal.Gen.dats m 0 c).arrAt 13 Cert.KQkvIdeal.cfg0.N, fun c => (Cert.KQkvIdeal.Gen.dats m 0 c).arrAt 14 Cert.KQkvIdeal.cfg0.N, fun c => (Cert.KQkvIdeal.Gen.dats m 0 c).arrAt 15 Cert.KQkvIdeal.cfg0.N, ?_, ?_⟩
  · exact (θ_run _ _ _).mono (fun r h c => ⟨Cert.KQkvIdeal.Value.post13 m r h c, Cert.KQkvIdeal.Value.post14 m r h c, Cert.KQkvIdeal.Value.post15 m r h c,
      Cert.KQkvIdeal.Value.kept_main_arg0 m r h c, Cert.KQkvIdeal.Value.kept_main_arg1 m r h c, Cert.KQkvIdeal.Value.kept_main_arg2 m r h c, Cert.KQkvIdeal.Value.kept_main_arg3 m r h c, Cert.KQkvIdeal.Value.kept_main_arg4 m r h c, Cert.KQkvIdeal.Value.kept_main_arg5 m r h c, Cert.KQkvIdeal.Value.kept_main_arg6 m r h c, Cert.KQkvIdeal.Value.kept_main_arg7 m r h c⟩) (Cert.KQkvIdeal.Gen.run_main m g)
  · refine (θ_run _ _ _).mono (fun r h c => ⟨(h c).1.trans ?_, (h c).2.1.trans ?_, (h c).2.2.1.trans ?_, (h c).2.2.2⟩) (Cert.RQkvIdeal.Value.run m' g')
    · exact (Cert.RQkvIdeal.Read.val_main_v114_eq m' c).trans (agree_qkv m c _ _ _ _ _ _ _ _ (ha c)).1
    · exact (Cert.RQkvIdeal.Read.val_main_v117_eq m' c).trans (agree_qkv m c _ _ _ _ _ _ _ _ (ha c)).2.1
    · exact (Cert.RQkvIdeal.Read.val_main_v120_eq _ _ _).trans (agree_qkv m c _ _ _ _ _ _ _ _ (ha c)).2.2

/-- The reference of the down projection leaves its arguments as they were. -/
theorem frame_down_ref : Cert.quiescent_RDownIdeal := by
  intro m g _
  hlo_run
  · simp
  · exact sem_eq_zero_of_no_sems (by decide) _

/-- The rows behind the down projection. -/
theorem agree_down (m : (ℓ : Loc Cert.KDownIdeal.nD Cert.KDownIdeal.τ Cert.KDownIdeal.sig) → Buf (Elt Ideal) ℓ) (c : Dev Cert.KDownIdeal.nD)
    (y0 : FVec Ideal Cert.KDownIdeal.S4096x2816 .f32) (y1 : FVec Ideal Cert.KDownIdeal.S2816x1024 .f32) (y2 : FVec Ideal Cert.KDownIdeal.S4096x1024 .f32)
    (h : y0 = Cert.Down.H m c ∧ y1 = Cert.Down.W m c ∧ y2 = Cert.Down.X m c) :
    Cert.RDownIdeal.Read.val_main_v3 (F := Ideal) y0 y1 y2 = (Cert.KDownIdeal.Gen.dats m 0 c).arrAt 3 Cert.KDownIdeal.cfg0.N := by
  obtain ⟨rfl, rfl, rfl⟩ := h
  exact (Cert.Down.final m c).symm

/-- The product kernel computes the down projection with the residual behind it. -/
theorem down : Cert.algebraic_KDownIdeal_RDownIdeal := by
  intro m g m' g' hm ha
  refine ⟨fun c => (Cert.KDownIdeal.Gen.dats m 0 c).arrAt 3 Cert.KDownIdeal.cfg0.N, ?_, ?_⟩
  · exact (θ_run _ _ _).mono (fun r h c => ⟨Cert.KDownIdeal.Value.post3 m r h c,
      Cert.KDownIdeal.Value.kept_main_arg0 m r h c, Cert.KDownIdeal.Value.kept_main_arg1 m r h c, Cert.KDownIdeal.Value.kept_main_arg2 m r h c⟩) (Cert.KDownIdeal.Gen.run_main m g)
  · refine (θ_run _ _ _).mono (fun r h c => ⟨(h c).1.trans ?_, (h c).2⟩) (Cert.RDownIdeal.Value.run m' g')
    · exact (Cert.RDownIdeal.Read.val_main_v3_eq _ _ _).trans (agree_down m c _ _ _ (ha c))

/-- The reference of the gradient of a weight leaves its arguments as they were. -/
theorem frame_dw_ref : Cert.quiescent_RDwIdeal := by
  intro m g _
  hlo_run
  · simp
  · exact sem_eq_zero_of_no_sems (by decide) _

/-- The gradient of the weight, its rows in the packed order. -/
theorem agree_dw (m : (ℓ : Loc Cert.KDwIdeal.nD Cert.KDwIdeal.τ Cert.KDwIdeal.sig) → Buf (Elt Ideal) ℓ) (c : Dev Cert.KDwIdeal.nD)
    (y0 : FVec Ideal Cert.KDwIdeal.S4096x1024 .f32) (y1 : FVec Ideal Cert.KDwIdeal.S4096x3232 .f32)
    (h : y0 = Cert.Dw.B m c ∧ y1 = Cert.Dw.A m c) :
    Cert.RDwIdeal.Read.val_main_v16 (F := Ideal) y0 y1 = (Cert.KDwIdeal.Gen.dats m 0 c).arrAt 9 Cert.KDwIdeal.cfg0.N := by
  obtain ⟨rfl, rfl⟩ := h
  exact (Cert.Dw.final m c).symm

/-- The product kernel over the tokens computes the gradient of the combined input projection's weight. -/
theorem dw : Cert.algebraic_KDwIdeal_RDwIdeal := by
  intro m g m' g' hm ha
  refine ⟨fun c => (Cert.KDwIdeal.Gen.dats m 0 c).arrAt 9 Cert.KDwIdeal.cfg0.N, ?_, ?_⟩
  · exact (θ_run _ _ _).mono (fun r h c => ⟨Cert.KDwIdeal.Value.post9 m r h c,
      Cert.KDwIdeal.Value.kept_main_arg0 m r h c, Cert.KDwIdeal.Value.kept_main_arg1 m r h c⟩) (Cert.KDwIdeal.Gen.run_main m g)
  · refine (θ_run _ _ _).mono (fun r h c => ⟨(h c).1.trans ?_, (h c).2⟩) (Cert.RDwIdeal.Value.run m' g')
    · exact (Cert.RDwIdeal.Read.val_main_v16_eq _ _).trans (agree_dw m c _ _ (ha c))

/-- The reference of the optimiser leaves its arguments as they were. -/
theorem frame_adam_ref : Cert.quiescent_RAdamIdeal := by
  intro m g _
  hlo_run
  · simp
  · exact sem_eq_zero_of_no_sems (by decide) _

/-- The changes and both moments. -/
theorem agree_adam (m : (ℓ : Loc Cert.KAdamIdeal.nD Cert.KAdamIdeal.τ Cert.KAdamIdeal.sig) → Buf (Elt Ideal) ℓ) (c : Dev Cert.KAdamIdeal.nD)
    (y0 : FVec Ideal Cert.KAdamIdeal.S2x352x1024 .f32) (y1 : FVec Ideal Cert.KAdamIdeal.S2x352x1024 .f32) (y2 : FVec Ideal Cert.KAdamIdeal.S2x352x1024 .f32) (y3 : FVec Ideal Cert.KAdamIdeal.S2x352x1024 .f32)
    (h : y0 = Cert.Adam.W m c ∧ y1 = Cert.Adam.G m c ∧ y2 = Cert.Adam.A m c ∧ y3 = Cert.Adam.B m c) :
    Cert.RAdamIdeal.Read.val_main_v23 (F := Ideal) y0 y1 y2 y3 = (Cert.KAdamIdeal.Gen.dats m 0 c).arrAt 4 Cert.KAdamIdeal.cfg0.N
    ∧ Cert.RAdamIdeal.Read.val_main_v4 (F := Ideal) y1 y2 = (Cert.KAdamIdeal.Gen.dats m 0 c).arrAt 5 Cert.KAdamIdeal.cfg0.N
    ∧ Cert.RAdamIdeal.Read.val_main_v10 (F := Ideal) y1 y3 = (Cert.KAdamIdeal.Gen.dats m 0 c).arrAt 6 Cert.KAdamIdeal.cfg0.N := by
  obtain ⟨rfl, rfl, rfl, rfl⟩ := h
  exact ⟨(Cert.Adam.final_d m c).symm, (Cert.Adam.final_m m c).symm, (Cert.Adam.final_v m c).symm⟩

/-- The optimiser's kernel computes the changes of a weight and both moments. -/
theorem adam : Cert.algebraic_KAdamIdeal_RAdamIdeal := by
  intro m g m' g' hm ha
  refine ⟨fun c => (Cert.KAdamIdeal.Gen.dats m 0 c).arrAt 4 Cert.KAdamIdeal.cfg0.N, fun c => (Cert.KAdamIdeal.Gen.dats m 0 c).arrAt 5 Cert.KAdamIdeal.cfg0.N, fun c => (Cert.KAdamIdeal.Gen.dats m 0 c).arrAt 6 Cert.KAdamIdeal.cfg0.N, ?_, ?_⟩
  · exact (θ_run _ _ _).mono (fun r h c => ⟨Cert.KAdamIdeal.Value.post4 m r h c, Cert.KAdamIdeal.Value.post5 m r h c, Cert.KAdamIdeal.Value.post6 m r h c,
      Cert.KAdamIdeal.Value.kept_main_arg0 m r h c, Cert.KAdamIdeal.Value.kept_main_arg1 m r h c, Cert.KAdamIdeal.Value.kept_main_arg2 m r h c, Cert.KAdamIdeal.Value.kept_main_arg3 m r h c⟩) (Cert.KAdamIdeal.Gen.run_main m g)
  · refine (θ_run _ _ _).mono (fun r h c => ⟨(h c).1.trans ?_, (h c).2.1.trans ?_, (h c).2.2.1.trans ?_, (h c).2.2.2⟩) (Cert.RAdamIdeal.Value.run m' g')
    · exact (Cert.RAdamIdeal.Read.val_main_v23_eq _ _ _ _).trans (agree_adam m c _ _ _ _ (ha c)).1
    · exact (Cert.RAdamIdeal.Read.val_main_v4_eq _ _).trans (agree_adam m c _ _ _ _ (ha c)).2.1
    · exact (Cert.RAdamIdeal.Read.val_main_v10_eq _ _).trans (agree_adam m c _ _ _ _ (ha c)).2.2

/-- Every claim of the statement. -/
theorem claim : Cert.Claim := ⟨Cert.KLoss.Gen.facts, Cert.KLossIdeal.Gen.facts, Cert.RLossIdeal.Gen.facts,
  Cert.KMla.Gen.facts, Cert.KMlaIdeal.Gen.facts, Cert.RMlaIdeal.Gen.facts,
  Cert.KGate.Gen.facts, Cert.KGateIdeal.Gen.facts, Cert.RGateIdeal.Gen.facts,
  Cert.KNorm.Gen.facts, Cert.KNormIdeal.Gen.facts, Cert.RNormIdeal.Gen.facts,
  Cert.KMerge.Gen.facts, Cert.KMergeIdeal.Gen.facts, Cert.RMergeIdeal.Gen.facts,
  Cert.KDh.Gen.facts, Cert.KDhIdeal.Gen.facts, Cert.RDhIdeal.Gen.facts,
  Cert.KKv.Gen.facts, Cert.KKvIdeal.Gen.facts, Cert.RKvIdeal.Gen.facts,
  Cert.KAttn.Gen.facts, Cert.KAttnIdeal.Gen.facts, Cert.RAttnIdeal.Gen.facts,
  Cert.KUp.Gen.facts, Cert.KUpIdeal.Gen.facts, Cert.RUpIdeal.Gen.facts,
  Cert.KMix.Gen.facts, Cert.KMixIdeal.Gen.facts, Cert.RMixIdeal.Gen.facts,
  Cert.KProj.Gen.facts, Cert.KProjIdeal.Gen.facts, Cert.RProjIdeal.Gen.facts,
  Cert.KQkv.Gen.facts, Cert.KQkvIdeal.Gen.facts, Cert.RQkvIdeal.Gen.facts,
  Cert.KDown.Gen.facts, Cert.KDownIdeal.Gen.facts, Cert.RDownIdeal.Gen.facts,
  Cert.KDw.Gen.facts, Cert.KDwIdeal.Gen.facts, Cert.RDwIdeal.Gen.facts,
  Cert.KAdam.Gen.facts, Cert.KAdamIdeal.Gen.facts, Cert.RAdamIdeal.Gen.facts,
  Cert.Mla.pre_facts, factors_facts, qkv_facts,
  fun m ρ _ => Cert.KLoss.Gen.frame m ρ, fun m ρ _ => Cert.KLossIdeal.Gen.frame m ρ, Cert.Proof.frame_loss_ref,
  fun m ρ _ => Cert.KMla.Gen.frame m ρ, fun m ρ _ => Cert.KMlaIdeal.Gen.frame m ρ, fun m ρ _ => Cert.KMlaIdeal.Gen.frame m ρ,
  Cert.Proof.frame_mla_ref, fun m g _ => Cert.Proof.frame_mla_ref m g trivial,
  fun m ρ _ => Cert.KGate.Gen.frame m ρ, fun m ρ _ => Cert.KGateIdeal.Gen.frame m ρ, fun m ρ _ => Cert.KGateIdeal.Gen.frame m ρ,
  Cert.Proof.frame_gate_ref, fun m g _ => Cert.Proof.frame_gate_ref m g trivial,
  fun m ρ _ => Cert.KNorm.Gen.frame m ρ, fun m ρ _ => Cert.KNormIdeal.Gen.frame m ρ, Cert.Proof.frame_norm_ref,
  fun m ρ _ => Cert.KMerge.Gen.frame m ρ, fun m ρ _ => Cert.KMergeIdeal.Gen.frame m ρ, Cert.Proof.frame_merge_ref,
  fun m ρ _ => Cert.KDh.Gen.frame m ρ, fun m ρ _ => Cert.KDhIdeal.Gen.frame m ρ, Cert.Proof.frame_dh_ref,
  fun m ρ _ => Cert.KKv.Gen.frame m ρ, fun m ρ _ => Cert.KKvIdeal.Gen.frame m ρ, Cert.Proof.frame_kv_ref,
  fun m ρ _ => Cert.KAttn.Gen.frame m ρ, fun m ρ _ => Cert.KAttnIdeal.Gen.frame m ρ, fun m ρ _ => Cert.KAttnIdeal.Gen.frame m ρ,
  Cert.Proof.frame_attn_ref, fun m g _ => Cert.Proof.frame_attn_ref m g trivial,
  fun m ρ _ => Cert.KUp.Gen.frame m ρ, fun m ρ _ => Cert.KUpIdeal.Gen.frame m ρ, Cert.Proof.frame_up_ref,
  fun m ρ _ => Cert.KMix.Gen.frame m ρ, fun m ρ _ => Cert.KMixIdeal.Gen.frame m ρ, Cert.Proof.frame_mix_ref,
  fun m ρ _ => Cert.KProj.Gen.frame m ρ, fun m ρ _ => Cert.KProjIdeal.Gen.frame m ρ, Cert.Proof.frame_proj_ref,
  fun m ρ _ => Cert.KQkv.Gen.frame m ρ, fun m ρ _ => Cert.KQkvIdeal.Gen.frame m ρ, Cert.Proof.frame_qkv_ref,
  fun m ρ _ => Cert.KDown.Gen.frame m ρ, fun m ρ _ => Cert.KDownIdeal.Gen.frame m ρ, Cert.Proof.frame_down_ref,
  fun m ρ _ => Cert.KDw.Gen.frame m ρ, fun m ρ _ => Cert.KDwIdeal.Gen.frame m ρ, Cert.Proof.frame_dw_ref,
  fun m ρ _ => Cert.KAdam.Gen.frame m ρ, fun m ρ _ => Cert.KAdamIdeal.Gen.frame m ρ, Cert.Proof.frame_adam_ref,
  trivial, loss, ⟨IdealRules.named_const.statement _ _ _ _ _ rfl, IdealRules.named_const.statement _ _ _ _ _ rfl, IdealRules.named_const.statement _ _ _ _ _ rfl⟩, mla,
  trivial, gate, trivial, norm, trivial, merge, trivial, dh, trivial, kv,
  ⟨IdealRules.named_const.statement _ _ _ _ _ rfl, IdealRules.named_const.statement _ _ _ _ _ rfl, IdealRules.named_const.statement _ _ _ _ _ rfl⟩, attn,
  trivial, up, trivial, mix, trivial, proj,
  IdealRules.named_const.statement _ _ _ _ _ rfl, qkv,
  trivial, down, trivial, dw, trivial, adam⟩

end Cert.Proof

end
